-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite16 [hPre_finite16 : Cert.Pre_finite16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite16 [hPre_finite16 : Cert.Pre_finite16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite17 [hPre_finite17 : Cert.Pre_finite17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite17 [hPre_finite17 : Cert.Pre_finite17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5))) = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Kernel44Ideal_finite44 [hPre_finite44 : Cert.Pre_finite44.Facts] (m : (ℓ : Loc Cert.Kernel44Ideal.nD Cert.Kernel44Ideal.τ Cert.Kernel44Ideal.sig) → Buf (Elt Ideal) ℓ) : Prop :=
  ∀ c : Dev Cert.Kernel44Ideal.nD,
    (Cert.Pre_finite44.fn (F := Ideal) (m ((c.tc : Thread Cert.Kernel44Ideal.nD Cert.Kernel44Ideal.τ).loc Cert.Kernel44Ideal.main_arg0)) (m ((c.tc : Thread Cert.Kernel44Ideal.nD Cert.Kernel44Ideal.τ).loc Cert.Kernel44Ideal.main_arg1))) = (fun _ => 1#1)

def Pre_Reference44Ideal (m : (ℓ : Loc Cert.Reference44Ideal.nD Cert.Reference44Ideal.τ Cert.Reference44Ideal.sig) → Buf (Elt Ideal) ℓ) : Prop :=
  True

def Pre_Reference44Ideal_finite44 [hPre_finite44 : Cert.Pre_finite44.Facts] (m : (ℓ : Loc Cert.Reference44Ideal.nD Cert.Reference44Ideal.τ Cert.Reference44Ideal.sig) → Buf (Elt Ideal) ℓ) : Prop :=
  ∀ c : Dev Cert.Reference44Ideal.nD,
    (Cert.Pre_finite44.fn (F := Ideal) (m ((c.tc : Thread Cert.Reference44Ideal.nD Cert.Reference44Ideal.τ).loc Cert.Reference44Ideal.main_arg0)) (m ((c.tc : Thread Cert.Reference44Ideal.nD Cert.Reference44Ideal.τ).loc Cert.Reference44Ideal.main_arg1))) = (fun _ => 1#1)

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def Pre_Kernel48 (m : (ℓ : Loc Cert.Kernel48.nD Cert.Kernel48.τ Cert.Kernel48.sig) → Buf (Elt Bits) ℓ) : Prop :=
  True

def Pre_Kernel48Ideal (m : (ℓ : Loc Cert.Kernel48Ideal.nD Cert.Kernel48Ideal.τ Cert.Kernel48Ideal.sig) → Buf (Elt Ideal) ℓ) : Prop :=
  True

def Pre_Reference48Ideal (m : (ℓ : Loc Cert.Reference48Ideal.nD Cert.Reference48Ideal.τ Cert.Reference48Ideal.sig) → Buf (Elt Ideal) ℓ) : Prop :=
  True

def Pre_Kernel49 (m : (ℓ : Loc Cert.Kernel49.nD Cert.Kernel49.τ Cert.Kernel49.sig) → Buf (Elt Bits) ℓ) : Prop :=
  True

def Pre_Kernel49Ideal (m : (ℓ : Loc Cert.Kernel49Ideal.nD Cert.Kernel49Ideal.τ Cert.Kernel49Ideal.sig) → Buf (Elt Ideal) ℓ) : Prop :=
  True

def Pre_Reference49Ideal (m : (ℓ : Loc Cert.Reference49Ideal.nD Cert.Reference49Ideal.τ Cert.Reference49Ideal.sig) → Buf (Elt Ideal) ℓ) : Prop :=
  True

def Pre_Kernel50 (m : (ℓ : Loc Cert.Kernel50.nD Cert.Kernel50.τ Cert.Kernel50.sig) → Buf (Elt Bits) ℓ) : Prop :=
  True

def Pre_Kernel50Ideal (m : (ℓ : Loc Cert.Kernel50Ideal.nD Cert.Kernel50Ideal.τ Cert.Kernel50Ideal.sig) → Buf (Elt Ideal) ℓ) : Prop :=
  True

def Pre_Reference50Ideal (m : (ℓ : Loc Cert.Reference50Ideal.nD Cert.Reference50Ideal.τ Cert.Reference50Ideal.sig) → Buf (Elt Ideal) ℓ) : Prop :=
  True

def Pre_Kernel51 (m : (ℓ : Loc Cert.Kernel51.nD Cert.Kernel51.τ Cert.Kernel51.sig) → Buf (Elt Bits) ℓ) : Prop :=
  True

def Pre_Kernel51Ideal (m : (ℓ : Loc Cert.Kernel51Ideal.nD Cert.Kernel51Ideal.τ Cert.Kernel51Ideal.sig) → Buf (Elt Ideal) ℓ) : Prop :=
  True

def Pre_Reference51Ideal (m : (ℓ : Loc Cert.Reference51Ideal.nD Cert.Reference51Ideal.τ Cert.Reference51Ideal.sig) → Buf (Elt Ideal) ℓ) : Prop :=
  True

def Pre_Kernel52 (m : (ℓ : Loc Cert.Kernel52.nD Cert.Kernel52.τ Cert.Kernel52.sig) → Buf (Elt Bits) ℓ) : Prop :=
  True

def Pre_Kernel52Ideal (m : (ℓ : Loc Cert.Kernel52Ideal.nD Cert.Kernel52Ideal.τ Cert.Kernel52Ideal.sig) → Buf (Elt Ideal) ℓ) : Prop :=
  True

def Pre_Reference52Ideal (m : (ℓ : Loc Cert.Reference52Ideal.nD Cert.Reference52Ideal.τ Cert.Reference52Ideal.sig) → Buf (Elt Ideal) ℓ) : Prop :=
  True

def Pre_Kernel53 (m : (ℓ : Loc Cert.Kernel53.nD Cert.Kernel53.τ Cert.Kernel53.sig) → Buf (Elt Bits) ℓ) : Prop :=
  True

def Pre_Kernel53Ideal (m : (ℓ : Loc Cert.Kernel53Ideal.nD Cert.Kernel53Ideal.τ Cert.Kernel53Ideal.sig) → Buf (Elt Ideal) ℓ) : Prop :=
  True

def Pre_Reference53Ideal (m : (ℓ : Loc Cert.Reference53Ideal.nD Cert.Reference53Ideal.τ Cert.Reference53Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Kernel16Ideal_pre_finite16 [hKernel16Ideal : Cert.Kernel16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite16 m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Reference16Ideal_pre_finite16 [hReference16Ideal : Cert.Reference16Ideal.Facts] [hPre_finite16 : Cert.Pre_finite16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Kernel17Ideal_pre_finite17 [hKernel17Ideal : Cert.Kernel17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Reference17Ideal_pre_finite17 [hReference17Ideal : Cert.Reference17Ideal.Facts] [hPre_finite17 : Cert.Pre_finite17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2)
      ∧ r.2.mem ((c.tc : Thread Cert.Kernel42.nD Cert.Kernel42.τ).loc Cert.Kernel42.main_arg3) = m ((c.tc : Thread Cert.Kernel42.nD Cert.Kernel42.τ).loc Cert.Kernel42.main_arg3)
      ∧ r.2.mem ((c.tc : Thread Cert.Kernel42.nD Cert.Kernel42.τ).loc Cert.Kernel42.main_arg4) = m ((c.tc : Thread Cert.Kernel42.nD Cert.Kernel42.τ).loc Cert.Kernel42.main_arg4))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
      ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3)
      ∧ r.2.mem ((c.tc : Thread Cert.Kernel42Ideal.nD Cert.Kernel42Ideal.τ).loc Cert.Kernel42Ideal.main_arg4) = m ((c.tc : Thread Cert.Kernel42Ideal.nD Cert.Kernel42Ideal.τ).loc Cert.Kernel42Ideal.main_arg4))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2)
      ∧ r.2.mem ((c.tc : Thread Cert.Reference42Ideal.nD Cert.Reference42Ideal.τ).loc Cert.Reference42Ideal.main_arg3) = m ((c.tc : Thread Cert.Reference42Ideal.nD Cert.Reference42Ideal.τ).loc Cert.Reference42Ideal.main_arg3)
      ∧ r.2.mem ((c.tc : Thread Cert.Reference42Ideal.nD Cert.Reference42Ideal.τ).loc Cert.Reference42Ideal.main_arg4) = m ((c.tc : Thread Cert.Reference42Ideal.nD Cert.Reference42Ideal.τ).loc Cert.Reference42Ideal.main_arg4))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ r.2.sem = fun _ => 0)

def quiescent_Kernel44Ideal_pre_finite44 [hKernel44Ideal : Cert.Kernel44Ideal.Facts] [hPre_finite44 : Cert.Pre_finite44.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal_finite44 m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1))
      ∧ r.2.sem = fun _ => 0)

def quiescent_Reference44Ideal_pre_finite44 [hReference44Ideal : Cert.Reference44Ideal.Facts] [hPre_finite44 : Cert.Pre_finite44.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal_finite44 m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1)
      ∧ r.2.mem ((c.tc : Thread Cert.Kernel47.nD Cert.Kernel47.τ).loc Cert.Kernel47.main_arg2) = m ((c.tc : Thread Cert.Kernel47.nD Cert.Kernel47.τ).loc Cert.Kernel47.main_arg2))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
      ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1)
      ∧ r.2.mem ((c.tc : Thread Cert.Reference47Ideal.nD Cert.Reference47Ideal.τ).loc Cert.Reference47Ideal.main_arg2) = m ((c.tc : Thread Cert.Reference47Ideal.nD Cert.Reference47Ideal.τ).loc Cert.Reference47Ideal.main_arg2))
      ∧ r.2.sem = fun _ => 0)

def quiescent_Kernel48 [hKernel48 : Cert.Kernel48.Facts] : Prop :=
  ∀ (m : (ℓ : Loc Cert.Kernel48.nD Cert.Kernel48.τ Cert.Kernel48.sig) → Buf (Elt Bits) ℓ) (g : Dev Cert.Kernel48.nD → PrngReg), Pre_Kernel48 m →
    θ_run (Cert.Kernel48.defs (F := Bits)) (onTc (τ := Cert.Kernel48.τ) (Cert.Kernel48.main (F := Bits))) ⟨m, fun _ => 0, g⟩ (fun r => (∀ c : Dev Cert.Kernel48.nD,
      r.2.mem ((c.tc : Thread Cert.Kernel48.nD Cert.Kernel48.τ).loc Cert.Kernel48.main_arg0) = m ((c.tc : Thread Cert.Kernel48.nD Cert.Kernel48.τ).loc Cert.Kernel48.main_arg0)
      ∧ r.2.mem ((c.tc : Thread Cert.Kernel48.nD Cert.Kernel48.τ).loc Cert.Kernel48.main_arg1) = m ((c.tc : Thread Cert.Kernel48.nD Cert.Kernel48.τ).loc Cert.Kernel48.main_arg1)
      ∧ r.2.mem ((c.tc : Thread Cert.Kernel48.nD Cert.Kernel48.τ).loc Cert.Kernel48.main_arg2) = m ((c.tc : Thread Cert.Kernel48.nD Cert.Kernel48.τ).loc Cert.Kernel48.main_arg2))
      ∧ r.2.sem = fun _ => 0)

def quiescent_Kernel48Ideal [hKernel48Ideal : Cert.Kernel48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg), Pre_Kernel48Ideal m →
    θ_run (Cert.Kernel48Ideal.defs (F := Ideal)) (onTc (τ := Cert.Kernel48Ideal.τ) (Cert.Kernel48Ideal.main (F := Ideal))) ⟨m, fun _ => 0, g⟩ (fun r => (∀ c : Dev Cert.Kernel48Ideal.nD,
      r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
      ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
      ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2))
      ∧ r.2.sem = fun _ => 0)

def quiescent_Reference48Ideal [hReference48Ideal : Cert.Reference48Ideal.Facts] : Prop :=
  ∀ (m : (ℓ : Loc Cert.Reference48Ideal.nD Cert.Reference48Ideal.τ Cert.Reference48Ideal.sig) → Buf (Elt Ideal) ℓ) (g : Dev Cert.Reference48Ideal.nD → PrngReg), Pre_Reference48Ideal m →
    θ_run (Cert.Reference48Ideal.defs (F := Ideal)) (onTc (τ := Cert.Reference48Ideal.τ) (Cert.Reference48Ideal.main (F := Ideal))) ⟨m, fun _ => 0, g⟩ (fun r => (∀ c : Dev Cert.Reference48Ideal.nD,
      r.2.mem ((c.tc : Thread Cert.Reference48Ideal.nD Cert.Reference48Ideal.τ).loc Cert.Reference48Ideal.main_arg0) = m ((c.tc : Thread Cert.Reference48Ideal.nD Cert.Reference48Ideal.τ).loc Cert.Reference48Ideal.main_arg0)
      ∧ r.2.mem ((c.tc : Thread Cert.Reference48Ideal.nD Cert.Reference48Ideal.τ).loc Cert.Reference48Ideal.main_arg1) = m ((c.tc : Thread Cert.Reference48Ideal.nD Cert.Reference48Ideal.τ).loc Cert.Reference48Ideal.main_arg1)
      ∧ r.2.mem ((c.tc : Thread Cert.Reference48Ideal.nD Cert.Reference48Ideal.τ).loc Cert.Reference48Ideal.main_arg2) = m ((c.tc : Thread Cert.Reference48Ideal.nD Cert.Reference48Ideal.τ).loc Cert.Reference48Ideal.main_arg2))
      ∧ r.2.sem = fun _ => 0)

def quiescent_Kernel49 [hKernel49 : Cert.Kernel49.Facts] : Prop :=
  ∀ (m : (ℓ : Loc Cert.Kernel49.nD Cert.Kernel49.τ Cert.Kernel49.sig) → Buf (Elt Bits) ℓ) (g : Dev Cert.Kernel49.nD → PrngReg), Pre_Kernel49 m →
    θ_run (Cert.Kernel49.defs (F := Bits)) (onTc (τ := Cert.Kernel49.τ) (Cert.Kernel49.main (F := Bits))) ⟨m, fun _ => 0, g⟩ (fun r => (∀ c : Dev Cert.Kernel49.nD,
      r.2.mem ((c.tc : Thread Cert.Kernel49.nD Cert.Kernel49.τ).loc Cert.Kernel49.main_arg0) = m ((c.tc : Thread Cert.Kernel49.nD Cert.Kernel49.τ).loc Cert.Kernel49.main_arg0)
      ∧ r.2.mem ((c.tc : Thread Cert.Kernel49.nD Cert.Kernel49.τ).loc Cert.Kernel49.main_arg1) = m ((c.tc : Thread Cert.Kernel49.nD Cert.Kernel49.τ).loc Cert.Kernel49.main_arg1)
      ∧ r.2.mem ((c.tc : Thread Cert.Kernel49.nD Cert.Kernel49.τ).loc Cert.Kernel49.main_arg2) = m ((c.tc : Thread Cert.Kernel49.nD Cert.Kernel49.τ).loc Cert.Kernel49.main_arg2))
      ∧ r.2.sem = fun _ => 0)

def quiescent_Kernel49Ideal [hKernel49Ideal : Cert.Kernel49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg), Pre_Kernel49Ideal m →
    θ_run (Cert.Kernel49Ideal.defs (F := Ideal)) (onTc (τ := Cert.Kernel49Ideal.τ) (Cert.Kernel49Ideal.main (F := Ideal))) ⟨m, fun _ => 0, g⟩ (fun r => (∀ c : Dev Cert.Kernel49Ideal.nD,
      r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
      ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1)
      ∧ r.2.mem ((c.tc : Thread Cert.Kernel49Ideal.nD Cert.Kernel49Ideal.τ).loc Cert.Kernel49Ideal.main_arg2) = m ((c.tc : Thread Cert.Kernel49Ideal.nD Cert.Kernel49Ideal.τ).loc Cert.Kernel49Ideal.main_arg2))
      ∧ r.2.sem = fun _ => 0)

def quiescent_Reference49Ideal [hReference49Ideal : Cert.Reference49Ideal.Facts] : Prop :=
  ∀ (m : (ℓ : Loc Cert.Reference49Ideal.nD Cert.Reference49Ideal.τ Cert.Reference49Ideal.sig) → Buf (Elt Ideal) ℓ) (g : Dev Cert.Reference49Ideal.nD → PrngReg), Pre_Reference49Ideal m →
    θ_run (Cert.Reference49Ideal.defs (F := Ideal)) (onTc (τ := Cert.Reference49Ideal.τ) (Cert.Reference49Ideal.main (F := Ideal))) ⟨m, fun _ => 0, g⟩ (fun r => (∀ c : Dev Cert.Reference49Ideal.nD,
      r.2.mem ((c.tc : Thread Cert.Reference49Ideal.nD Cert.Reference49Ideal.τ).loc Cert.Reference49Ideal.main_arg0) = m ((c.tc : Thread Cert.Reference49Ideal.nD Cert.Reference49Ideal.τ).loc Cert.Reference49Ideal.main_arg0)
      ∧ r.2.mem ((c.tc : Thread Cert.Reference49Ideal.nD Cert.Reference49Ideal.τ).loc Cert.Reference49Ideal.main_arg1) = m ((c.tc : Thread Cert.Reference49Ideal.nD Cert.Reference49Ideal.τ).loc Cert.Reference49Ideal.main_arg1)
      ∧ r.2.mem ((c.tc : Thread Cert.Reference49Ideal.nD Cert.Reference49Ideal.τ).loc Cert.Reference49Ideal.main_arg2) = m ((c.tc : Thread Cert.Reference49Ideal.nD Cert.Reference49Ideal.τ).loc Cert.Reference49Ideal.main_arg2))
      ∧ r.2.sem = fun _ => 0)

def quiescent_Kernel50 [hKernel50 : Cert.Kernel50.Facts] : Prop :=
  ∀ (m : (ℓ : Loc Cert.Kernel50.nD Cert.Kernel50.τ Cert.Kernel50.sig) → Buf (Elt Bits) ℓ) (g : Dev Cert.Kernel50.nD → PrngReg), Pre_Kernel50 m →
    θ_run (Cert.Kernel50.defs (F := Bits)) (onTc (τ := Cert.Kernel50.τ) (Cert.Kernel50.main (F := Bits))) ⟨m, fun _ => 0, g⟩ (fun r => (∀ c : Dev Cert.Kernel50.nD,
      r.2.mem ((c.tc : Thread Cert.Kernel50.nD Cert.Kernel50.τ).loc Cert.Kernel50.main_arg0) = m ((c.tc : Thread Cert.Kernel50.nD Cert.Kernel50.τ).loc Cert.Kernel50.main_arg0)
      ∧ r.2.mem ((c.tc : Thread Cert.Kernel50.nD Cert.Kernel50.τ).loc Cert.Kernel50.main_arg1) = m ((c.tc : Thread Cert.Kernel50.nD Cert.Kernel50.τ).loc Cert.Kernel50.main_arg1)
      ∧ r.2.mem ((c.tc : Thread Cert.Kernel50.nD Cert.Kernel50.τ).loc Cert.Kernel50.main_arg2) = m ((c.tc : Thread Cert.Kernel50.nD Cert.Kernel50.τ).loc Cert.Kernel50.main_arg2))
      ∧ r.2.sem = fun _ => 0)

def quiescent_Kernel50Ideal [hKernel50Ideal : Cert.Kernel50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg), Pre_Kernel50Ideal m →
    θ_run (Cert.Kernel50Ideal.defs (F := Ideal)) (onTc (τ := Cert.Kernel50Ideal.τ) (Cert.Kernel50Ideal.main (F := Ideal))) ⟨m, fun _ => 0, g⟩ (fun r => (∀ c : Dev Cert.Kernel50Ideal.nD,
      r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
      ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1)
      ∧ r.2.mem ((c.tc : Thread Cert.Kernel50Ideal.nD Cert.Kernel50Ideal.τ).loc Cert.Kernel50Ideal.main_arg2) = m ((c.tc : Thread Cert.Kernel50Ideal.nD Cert.Kernel50Ideal.τ).loc Cert.Kernel50Ideal.main_arg2))
      ∧ r.2.sem = fun _ => 0)

def quiescent_Reference50Ideal [hReference50Ideal : Cert.Reference50Ideal.Facts] : Prop :=
  ∀ (m : (ℓ : Loc Cert.Reference50Ideal.nD Cert.Reference50Ideal.τ Cert.Reference50Ideal.sig) → Buf (Elt Ideal) ℓ) (g : Dev Cert.Reference50Ideal.nD → PrngReg), Pre_Reference50Ideal m →
    θ_run (Cert.Reference50Ideal.defs (F := Ideal)) (onTc (τ := Cert.Reference50Ideal.τ) (Cert.Reference50Ideal.main (F := Ideal))) ⟨m, fun _ => 0, g⟩ (fun r => (∀ c : Dev Cert.Reference50Ideal.nD,
      r.2.mem ((c.tc : Thread Cert.Reference50Ideal.nD Cert.Reference50Ideal.τ).loc Cert.Reference50Ideal.main_arg0) = m ((c.tc : Thread Cert.Reference50Ideal.nD Cert.Reference50Ideal.τ).loc Cert.Reference50Ideal.main_arg0)
      ∧ r.2.mem ((c.tc : Thread Cert.Reference50Ideal.nD Cert.Reference50Ideal.τ).loc Cert.Reference50Ideal.main_arg1) = m ((c.tc : Thread Cert.Reference50Ideal.nD Cert.Reference50Ideal.τ).loc Cert.Reference50Ideal.main_arg1)
      ∧ r.2.mem ((c.tc : Thread Cert.Reference50Ideal.nD Cert.Reference50Ideal.τ).loc Cert.Reference50Ideal.main_arg2) = m ((c.tc : Thread Cert.Reference50Ideal.nD Cert.Reference50Ideal.τ).loc Cert.Reference50Ideal.main_arg2))
      ∧ r.2.sem = fun _ => 0)

def quiescent_Kernel51 [hKernel51 : Cert.Kernel51.Facts] : Prop :=
  ∀ (m : (ℓ : Loc Cert.Kernel51.nD Cert.Kernel51.τ Cert.Kernel51.sig) → Buf (Elt Bits) ℓ) (g : Dev Cert.Kernel51.nD → PrngReg), Pre_Kernel51 m →
    θ_run (Cert.Kernel51.defs (F := Bits)) (onTc (τ := Cert.Kernel51.τ) (Cert.Kernel51.main (F := Bits))) ⟨m, fun _ => 0, g⟩ (fun r => (∀ c : Dev Cert.Kernel51.nD,
      r.2.mem ((c.tc : Thread Cert.Kernel51.nD Cert.Kernel51.τ).loc Cert.Kernel51.main_arg0) = m ((c.tc : Thread Cert.Kernel51.nD Cert.Kernel51.τ).loc Cert.Kernel51.main_arg0)
      ∧ r.2.mem ((c.tc : Thread Cert.Kernel51.nD Cert.Kernel51.τ).loc Cert.Kernel51.main_arg1) = m ((c.tc : Thread Cert.Kernel51.nD Cert.Kernel51.τ).loc Cert.Kernel51.main_arg1))
      ∧ r.2.sem = fun _ => 0)

def quiescent_Kernel51Ideal [hKernel51Ideal : Cert.Kernel51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg), Pre_Kernel51Ideal m →
    θ_run (Cert.Kernel51Ideal.defs (F := Ideal)) (onTc (τ := Cert.Kernel51Ideal.τ) (Cert.Kernel51Ideal.main (F := Ideal))) ⟨m, fun _ => 0, g⟩ (fun r => (∀ c : Dev Cert.Kernel51Ideal.nD,
      r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
      ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1))
      ∧ r.2.sem = fun _ => 0)

def quiescent_Reference51Ideal [hReference51Ideal : Cert.Reference51Ideal.Facts] : Prop :=
  ∀ (m : (ℓ : Loc Cert.Reference51Ideal.nD Cert.Reference51Ideal.τ Cert.Reference51Ideal.sig) → Buf (Elt Ideal) ℓ) (g : Dev Cert.Reference51Ideal.nD → PrngReg), Pre_Reference51Ideal m →
    θ_run (Cert.Reference51Ideal.defs (F := Ideal)) (onTc (τ := Cert.Reference51Ideal.τ) (Cert.Reference51Ideal.main (F := Ideal))) ⟨m, fun _ => 0, g⟩ (fun r => (∀ c : Dev Cert.Reference51Ideal.nD,
      r.2.mem ((c.tc : Thread Cert.Reference51Ideal.nD Cert.Reference51Ideal.τ).loc Cert.Reference51Ideal.main_arg0) = m ((c.tc : Thread Cert.Reference51Ideal.nD Cert.Reference51Ideal.τ).loc Cert.Reference51Ideal.main_arg0)
      ∧ r.2.mem ((c.tc : Thread Cert.Reference51Ideal.nD Cert.Reference51Ideal.τ).loc Cert.Reference51Ideal.main_arg1) = m ((c.tc : Thread Cert.Reference51Ideal.nD Cert.Reference51Ideal.τ).loc Cert.Reference51Ideal.main_arg1))
      ∧ r.2.sem = fun _ => 0)

def quiescent_Kernel52 [hKernel52 : Cert.Kernel52.Facts] : Prop :=
  ∀ (m : (ℓ : Loc Cert.Kernel52.nD Cert.Kernel52.τ Cert.Kernel52.sig) → Buf (Elt Bits) ℓ) (g : Dev Cert.Kernel52.nD → PrngReg), Pre_Kernel52 m →
    θ_run (Cert.Kernel52.defs (F := Bits)) (onTc (τ := Cert.Kernel52.τ) (Cert.Kernel52.main (F := Bits))) ⟨m, fun _ => 0, g⟩ (fun r => (∀ c : Dev Cert.Kernel52.nD,
      r.2.mem ((c.tc : Thread Cert.Kernel52.nD Cert.Kernel52.τ).loc Cert.Kernel52.main_arg0) = m ((c.tc : Thread Cert.Kernel52.nD Cert.Kernel52.τ).loc Cert.Kernel52.main_arg0)
      ∧ r.2.mem ((c.tc : Thread Cert.Kernel52.nD Cert.Kernel52.τ).loc Cert.Kernel52.main_arg1) = m ((c.tc : Thread Cert.Kernel52.nD Cert.Kernel52.τ).loc Cert.Kernel52.main_arg1))
      ∧ r.2.sem = fun _ => 0)

def quiescent_Kernel52Ideal [hKernel52Ideal : Cert.Kernel52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg), Pre_Kernel52Ideal m →
    θ_run (Cert.Kernel52Ideal.defs (F := Ideal)) (onTc (τ := Cert.Kernel52Ideal.τ) (Cert.Kernel52Ideal.main (F := Ideal))) ⟨m, fun _ => 0, g⟩ (fun r => (∀ c : Dev Cert.Kernel52Ideal.nD,
      r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
      ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1))
      ∧ r.2.sem = fun _ => 0)

def quiescent_Reference52Ideal [hReference52Ideal : Cert.Reference52Ideal.Facts] : Prop :=
  ∀ (m : (ℓ : Loc Cert.Reference52Ideal.nD Cert.Reference52Ideal.τ Cert.Reference52Ideal.sig) → Buf (Elt Ideal) ℓ) (g : Dev Cert.Reference52Ideal.nD → PrngReg), Pre_Reference52Ideal m →
    θ_run (Cert.Reference52Ideal.defs (F := Ideal)) (onTc (τ := Cert.Reference52Ideal.τ) (Cert.Reference52Ideal.main (F := Ideal))) ⟨m, fun _ => 0, g⟩ (fun r => (∀ c : Dev Cert.Reference52Ideal.nD,
      r.2.mem ((c.tc : Thread Cert.Reference52Ideal.nD Cert.Reference52Ideal.τ).loc Cert.Reference52Ideal.main_arg0) = m ((c.tc : Thread Cert.Reference52Ideal.nD Cert.Reference52Ideal.τ).loc Cert.Reference52Ideal.main_arg0)
      ∧ r.2.mem ((c.tc : Thread Cert.Reference52Ideal.nD Cert.Reference52Ideal.τ).loc Cert.Reference52Ideal.main_arg1) = m ((c.tc : Thread Cert.Reference52Ideal.nD Cert.Reference52Ideal.τ).loc Cert.Reference52Ideal.main_arg1))
      ∧ r.2.sem = fun _ => 0)

def quiescent_Kernel53 [hKernel53 : Cert.Kernel53.Facts] : Prop :=
  ∀ (m : (ℓ : Loc Cert.Kernel53.nD Cert.Kernel53.τ Cert.Kernel53.sig) → Buf (Elt Bits) ℓ) (g : Dev Cert.Kernel53.nD → PrngReg), Pre_Kernel53 m →
    θ_run (Cert.Kernel53.defs (F := Bits)) (onTc (τ := Cert.Kernel53.τ) (Cert.Kernel53.main (F := Bits))) ⟨m, fun _ => 0, g⟩ (fun r => (∀ c : Dev Cert.Kernel53.nD,
      r.2.mem ((c.tc : Thread Cert.Kernel53.nD Cert.Kernel53.τ).loc Cert.Kernel53.main_arg0) = m ((c.tc : Thread Cert.Kernel53.nD Cert.Kernel53.τ).loc Cert.Kernel53.main_arg0)
      ∧ r.2.mem ((c.tc : Thread Cert.Kernel53.nD Cert.Kernel53.τ).loc Cert.Kernel53.main_arg1) = m ((c.tc : Thread Cert.Kernel53.nD Cert.Kernel53.τ).loc Cert.Kernel53.main_arg1))
      ∧ r.2.sem = fun _ => 0)

def quiescent_Kernel53Ideal [hKernel53Ideal : Cert.Kernel53Ideal.Facts] : Prop :=
  ∀ (m : (ℓ : Loc Cert.Kernel53Ideal.nD Cert.Kernel53Ideal.τ Cert.Kernel53Ideal.sig) → Buf (Elt Ideal) ℓ) (g : Dev Cert.Kernel53Ideal.nD → PrngReg), Pre_Kernel53Ideal m →
    θ_run (Cert.Kernel53Ideal.defs (F := Ideal)) (onTc (τ := Cert.Kernel53Ideal.τ) (Cert.Kernel53Ideal.main (F := Ideal))) ⟨m, fun _ => 0, g⟩ (fun r => (∀ c : Dev Cert.Kernel53Ideal.nD,
      r.2.mem ((c.tc : Thread Cert.Kernel53Ideal.nD Cert.Kernel53Ideal.τ).loc Cert.Kernel53Ideal.main_arg0) = m ((c.tc : Thread Cert.Kernel53Ideal.nD Cert.Kernel53Ideal.τ).loc Cert.Kernel53Ideal.main_arg0)
      ∧ r.2.mem ((c.tc : Thread Cert.Kernel53Ideal.nD Cert.Kernel53Ideal.τ).loc Cert.Kernel53Ideal.main_arg1) = m ((c.tc : Thread Cert.Kernel53Ideal.nD Cert.Kernel53Ideal.τ).loc Cert.Kernel53Ideal.main_arg1))
      ∧ r.2.sem = fun _ => 0)

def quiescent_Reference53Ideal [hReference53Ideal : Cert.Reference53Ideal.Facts] : Prop :=
  ∀ (m : (ℓ : Loc Cert.Reference53Ideal.nD Cert.Reference53Ideal.τ Cert.Reference53Ideal.sig) → Buf (Elt Ideal) ℓ) (g : Dev Cert.Reference53Ideal.nD → PrngReg), Pre_Reference53Ideal m →
    θ_run (Cert.Reference53Ideal.defs (F := Ideal)) (onTc (τ := Cert.Reference53Ideal.τ) (Cert.Reference53Ideal.main (F := Ideal))) ⟨m, fun _ => 0, g⟩ (fun r => (∀ c : Dev Cert.Reference53Ideal.nD,
      r.2.mem ((c.tc : Thread Cert.Reference53Ideal.nD Cert.Reference53Ideal.τ).loc Cert.Reference53Ideal.main_arg0) = m ((c.tc : Thread Cert.Reference53Ideal.nD Cert.Reference53Ideal.τ).loc Cert.Reference53Ideal.main_arg0)
      ∧ r.2.mem ((c.tc : Thread Cert.Reference53Ideal.nD Cert.Reference53Ideal.τ).loc Cert.Reference53Ideal.main_arg1) = m ((c.tc : Thread Cert.Reference53Ideal.nD Cert.Reference53Ideal.τ).loc Cert.Reference53Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_v95) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_v17) = v1 c
          ∧ r.2.mem ((c.tc : Thread Cert.Reference9Ideal.nD Cert.Reference9Ideal.τ).loc Cert.Reference9Ideal.main_v20) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v10) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v1) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v36) = v0 c
          ∧ r.2.mem ((c.tc : Thread Cert.Reference14Ideal.nD Cert.Reference14Ideal.τ).loc Cert.Reference14Ideal.main_v37) = v1 c
          ∧ r.2.mem ((c.tc : Thread Cert.Reference14Ideal.nD Cert.Reference14Ideal.τ).loc Cert.Reference14Ideal.main_v39) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v34) = v0 c
          ∧ r.2.mem ((c.tc : Thread Cert.Reference15Ideal.nD Cert.Reference15Ideal.τ).loc Cert.Reference15Ideal.main_v17) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal_pre_finite16 [hKernel16Ideal : Cert.Kernel16Ideal.Facts] [hReference16Ideal : Cert.Reference16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite16 m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v34) = v0 c
          ∧ r.2.mem ((c.tc : Thread Cert.Reference16Ideal.nD Cert.Reference16Ideal.τ).loc Cert.Reference16Ideal.main_v17) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal_pre_finite17 [hKernel17Ideal : Cert.Kernel17Ideal.Facts] [hReference17Ideal : Cert.Reference17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v34) = v0 c
          ∧ r.2.mem ((c.tc : Thread Cert.Reference17Ideal.nD Cert.Reference17Ideal.τ).loc Cert.Reference17Ideal.main_v69) = v1 c
          ∧ r.2.mem ((c.tc : Thread Cert.Reference17Ideal.nD Cert.Reference17Ideal.τ).loc Cert.Reference17Ideal.main_v17) = v2 c
          ∧ r.2.mem ((c.tc : Thread Cert.Reference17Ideal.nD Cert.Reference17Ideal.τ).loc Cert.Reference17Ideal.main_v52) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v13) = v0 c
          ∧ r.2.mem ((c.tc : Thread Cert.Reference18Ideal.nD Cert.Reference18Ideal.τ).loc Cert.Reference18Ideal.main_v14) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v8) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v7) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v8) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v7) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v6) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v8) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v7) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v17) = v0 c
          ∧ r.2.mem ((c.tc : Thread Cert.Reference26Ideal.nD Cert.Reference26Ideal.τ).loc Cert.Reference26Ideal.main_v22) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v4) = v0 c
          ∧ r.2.mem ((c.tc : Thread Cert.Reference27Ideal.nD Cert.Reference27Ideal.τ).loc Cert.Reference27Ideal.main_v12) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v5) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v6) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v5) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v12) = v0 c
          ∧ r.2.mem ((c.tc : Thread Cert.Reference31Ideal.nD Cert.Reference31Ideal.τ).loc Cert.Reference31Ideal.main_v25) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v12) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v12) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v10) = v0 c
          ∧ r.2.mem ((c.tc : Thread Cert.Reference34Ideal.nD Cert.Reference34Ideal.τ).loc Cert.Reference34Ideal.main_v14) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v4_0)) (v1 : (c : Dev Cert.Kernel35Ideal.nD) → Buf (Elt Ideal) ((c.tc : Thread Cert.Kernel35Ideal.nD Cert.Kernel35Ideal.τ).loc Cert.Kernel35Ideal.main_v4_1)) (v2 : (c : Dev Cert.Kernel35Ideal.nD) → Buf (Elt Ideal) ((c.tc : Thread Cert.Kernel35Ideal.nD Cert.Kernel35Ideal.τ).loc Cert.Kernel35Ideal.main_v4_2)) (v3 : (c : Dev Cert.Kernel35Ideal.nD) → Buf (Elt Ideal) ((c.tc : Thread Cert.Kernel35Ideal.nD Cert.Kernel35Ideal.τ).loc Cert.Kernel35Ideal.main_v4_3)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v4_0) = v0 c
          ∧ r.2.mem ((c.tc : Thread Cert.Kernel35Ideal.nD Cert.Kernel35Ideal.τ).loc Cert.Kernel35Ideal.main_v4_1) = v1 c
          ∧ r.2.mem ((c.tc : Thread Cert.Kernel35Ideal.nD Cert.Kernel35Ideal.τ).loc Cert.Kernel35Ideal.main_v4_2) = v2 c
          ∧ r.2.mem ((c.tc : Thread Cert.Kernel35Ideal.nD Cert.Kernel35Ideal.τ).loc Cert.Kernel35Ideal.main_v4_3) = v3 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v26) = v0 c
          ∧ r.2.mem ((c.tc : Thread Cert.Reference35Ideal.nD Cert.Reference35Ideal.τ).loc Cert.Reference35Ideal.main_v27) = v1 c
          ∧ r.2.mem ((c.tc : Thread Cert.Reference35Ideal.nD Cert.Reference35Ideal.τ).loc Cert.Reference35Ideal.main_v28) = v2 c
          ∧ r.2.mem ((c.tc : Thread Cert.Reference35Ideal.nD Cert.Reference35Ideal.τ).loc Cert.Reference35Ideal.main_v29) = v3 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v4_0)) (v1 : (c : Dev Cert.Kernel36Ideal.nD) → Buf (Elt Ideal) ((c.tc : Thread Cert.Kernel36Ideal.nD Cert.Kernel36Ideal.τ).loc Cert.Kernel36Ideal.main_v4_1)) (v2 : (c : Dev Cert.Kernel36Ideal.nD) → Buf (Elt Ideal) ((c.tc : Thread Cert.Kernel36Ideal.nD Cert.Kernel36Ideal.τ).loc Cert.Kernel36Ideal.main_v4_2)) (v3 : (c : Dev Cert.Kernel36Ideal.nD) → Buf (Elt Ideal) ((c.tc : Thread Cert.Kernel36Ideal.nD Cert.Kernel36Ideal.τ).loc Cert.Kernel36Ideal.main_v4_3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v4_0) = v0 c
          ∧ r.2.mem ((c.tc : Thread Cert.Kernel36Ideal.nD Cert.Kernel36Ideal.τ).loc Cert.Kernel36Ideal.main_v4_1) = v1 c
          ∧ r.2.mem ((c.tc : Thread Cert.Kernel36Ideal.nD Cert.Kernel36Ideal.τ).loc Cert.Kernel36Ideal.main_v4_2) = v2 c
          ∧ r.2.mem ((c.tc : Thread Cert.Kernel36Ideal.nD Cert.Kernel36Ideal.τ).loc Cert.Kernel36Ideal.main_v4_3) = v3 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v26) = v0 c
          ∧ r.2.mem ((c.tc : Thread Cert.Reference36Ideal.nD Cert.Reference36Ideal.τ).loc Cert.Reference36Ideal.main_v27) = v1 c
          ∧ r.2.mem ((c.tc : Thread Cert.Reference36Ideal.nD Cert.Reference36Ideal.τ).loc Cert.Reference36Ideal.main_v28) = v2 c
          ∧ r.2.mem ((c.tc : Thread Cert.Reference36Ideal.nD Cert.Reference36Ideal.τ).loc Cert.Reference36Ideal.main_v29) = v3 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v4_0)) (v1 : (c : Dev Cert.Kernel37Ideal.nD) → Buf (Elt Ideal) ((c.tc : Thread Cert.Kernel37Ideal.nD Cert.Kernel37Ideal.τ).loc Cert.Kernel37Ideal.main_v4_1)) (v2 : (c : Dev Cert.Kernel37Ideal.nD) → Buf (Elt Ideal) ((c.tc : Thread Cert.Kernel37Ideal.nD Cert.Kernel37Ideal.τ).loc Cert.Kernel37Ideal.main_v4_2)) (v3 : (c : Dev Cert.Kernel37Ideal.nD) → Buf (Elt Ideal) ((c.tc : Thread Cert.Kernel37Ideal.nD Cert.Kernel37Ideal.τ).loc Cert.Kernel37Ideal.main_v4_3)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v4_0) = v0 c
          ∧ r.2.mem ((c.tc : Thread Cert.Kernel37Ideal.nD Cert.Kernel37Ideal.τ).loc Cert.Kernel37Ideal.main_v4_1) = v1 c
          ∧ r.2.mem ((c.tc : Thread Cert.Kernel37Ideal.nD Cert.Kernel37Ideal.τ).loc Cert.Kernel37Ideal.main_v4_2) = v2 c
          ∧ r.2.mem ((c.tc : Thread Cert.Kernel37Ideal.nD Cert.Kernel37Ideal.τ).loc Cert.Kernel37Ideal.main_v4_3) = v3 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v26) = v0 c
          ∧ r.2.mem ((c.tc : Thread Cert.Reference37Ideal.nD Cert.Reference37Ideal.τ).loc Cert.Reference37Ideal.main_v27) = v1 c
          ∧ r.2.mem ((c.tc : Thread Cert.Reference37Ideal.nD Cert.Reference37Ideal.τ).loc Cert.Reference37Ideal.main_v28) = v2 c
          ∧ r.2.mem ((c.tc : Thread Cert.Reference37Ideal.nD Cert.Reference37Ideal.τ).loc Cert.Reference37Ideal.main_v29) = v3 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v4_0)) (v1 : (c : Dev Cert.Kernel38Ideal.nD) → Buf (Elt Ideal) ((c.tc : Thread Cert.Kernel38Ideal.nD Cert.Kernel38Ideal.τ).loc Cert.Kernel38Ideal.main_v4_1)) (v2 : (c : Dev Cert.Kernel38Ideal.nD) → Buf (Elt Ideal) ((c.tc : Thread Cert.Kernel38Ideal.nD Cert.Kernel38Ideal.τ).loc Cert.Kernel38Ideal.main_v4_2)) (v3 : (c : Dev Cert.Kernel38Ideal.nD) → Buf (Elt Ideal) ((c.tc : Thread Cert.Kernel38Ideal.nD Cert.Kernel38Ideal.τ).loc Cert.Kernel38Ideal.main_v4_3)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v4_0) = v0 c
          ∧ r.2.mem ((c.tc : Thread Cert.Kernel38Ideal.nD Cert.Kernel38Ideal.τ).loc Cert.Kernel38Ideal.main_v4_1) = v1 c
          ∧ r.2.mem ((c.tc : Thread Cert.Kernel38Ideal.nD Cert.Kernel38Ideal.τ).loc Cert.Kernel38Ideal.main_v4_2) = v2 c
          ∧ r.2.mem ((c.tc : Thread Cert.Kernel38Ideal.nD Cert.Kernel38Ideal.τ).loc Cert.Kernel38Ideal.main_v4_3) = v3 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v26) = v0 c
          ∧ r.2.mem ((c.tc : Thread Cert.Reference38Ideal.nD Cert.Reference38Ideal.τ).loc Cert.Reference38Ideal.main_v27) = v1 c
          ∧ r.2.mem ((c.tc : Thread Cert.Reference38Ideal.nD Cert.Reference38Ideal.τ).loc Cert.Reference38Ideal.main_v28) = v2 c
          ∧ r.2.mem ((c.tc : Thread Cert.Reference38Ideal.nD Cert.Reference38Ideal.τ).loc Cert.Reference38Ideal.main_v29) = v3 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v4_0)) (v1 : (c : Dev Cert.Kernel39Ideal.nD) → Buf (Elt Ideal) ((c.tc : Thread Cert.Kernel39Ideal.nD Cert.Kernel39Ideal.τ).loc Cert.Kernel39Ideal.main_v4_1)) (v2 : (c : Dev Cert.Kernel39Ideal.nD) → Buf (Elt Ideal) ((c.tc : Thread Cert.Kernel39Ideal.nD Cert.Kernel39Ideal.τ).loc Cert.Kernel39Ideal.main_v4_2)) (v3 : (c : Dev Cert.Kernel39Ideal.nD) → Buf (Elt Ideal) ((c.tc : Thread Cert.Kernel39Ideal.nD Cert.Kernel39Ideal.τ).loc Cert.Kernel39Ideal.main_v4_3)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v4_0) = v0 c
          ∧ r.2.mem ((c.tc : Thread Cert.Kernel39Ideal.nD Cert.Kernel39Ideal.τ).loc Cert.Kernel39Ideal.main_v4_1) = v1 c
          ∧ r.2.mem ((c.tc : Thread Cert.Kernel39Ideal.nD Cert.Kernel39Ideal.τ).loc Cert.Kernel39Ideal.main_v4_2) = v2 c
          ∧ r.2.mem ((c.tc : Thread Cert.Kernel39Ideal.nD Cert.Kernel39Ideal.τ).loc Cert.Kernel39Ideal.main_v4_3) = v3 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v26) = v0 c
          ∧ r.2.mem ((c.tc : Thread Cert.Reference39Ideal.nD Cert.Reference39Ideal.τ).loc Cert.Reference39Ideal.main_v27) = v1 c
          ∧ r.2.mem ((c.tc : Thread Cert.Reference39Ideal.nD Cert.Reference39Ideal.τ).loc Cert.Reference39Ideal.main_v28) = v2 c
          ∧ r.2.mem ((c.tc : Thread Cert.Reference39Ideal.nD Cert.Reference39Ideal.τ).loc Cert.Reference39Ideal.main_v29) = v3 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v4_0)) (v1 : (c : Dev Cert.Kernel40Ideal.nD) → Buf (Elt Ideal) ((c.tc : Thread Cert.Kernel40Ideal.nD Cert.Kernel40Ideal.τ).loc Cert.Kernel40Ideal.main_v4_1)) (v2 : (c : Dev Cert.Kernel40Ideal.nD) → Buf (Elt Ideal) ((c.tc : Thread Cert.Kernel40Ideal.nD Cert.Kernel40Ideal.τ).loc Cert.Kernel40Ideal.main_v4_2)) (v3 : (c : Dev Cert.Kernel40Ideal.nD) → Buf (Elt Ideal) ((c.tc : Thread Cert.Kernel40Ideal.nD Cert.Kernel40Ideal.τ).loc Cert.Kernel40Ideal.main_v4_3)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v4_0) = v0 c
          ∧ r.2.mem ((c.tc : Thread Cert.Kernel40Ideal.nD Cert.Kernel40Ideal.τ).loc Cert.Kernel40Ideal.main_v4_1) = v1 c
          ∧ r.2.mem ((c.tc : Thread Cert.Kernel40Ideal.nD Cert.Kernel40Ideal.τ).loc Cert.Kernel40Ideal.main_v4_2) = v2 c
          ∧ r.2.mem ((c.tc : Thread Cert.Kernel40Ideal.nD Cert.Kernel40Ideal.τ).loc Cert.Kernel40Ideal.main_v4_3) = v3 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v26) = v0 c
          ∧ r.2.mem ((c.tc : Thread Cert.Reference40Ideal.nD Cert.Reference40Ideal.τ).loc Cert.Reference40Ideal.main_v27) = v1 c
          ∧ r.2.mem ((c.tc : Thread Cert.Reference40Ideal.nD Cert.Reference40Ideal.τ).loc Cert.Reference40Ideal.main_v28) = v2 c
          ∧ r.2.mem ((c.tc : Thread Cert.Reference40Ideal.nD Cert.Reference40Ideal.τ).loc Cert.Reference40Ideal.main_v29) = v3 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)) →
    ∃ (v0 : (c : Dev Cert.Kernel41Ideal.nD) → Buf (Elt Ideal) ((c.tc : Thread Cert.Kernel41Ideal.nD Cert.Kernel41Ideal.τ).loc Cert.Kernel41Ideal.main_v0_0)) (v1 : (c : Dev Cert.Kernel41Ideal.nD) → Buf (Elt Ideal) ((c.tc : Thread Cert.Kernel41Ideal.nD Cert.Kernel41Ideal.τ).loc Cert.Kernel41Ideal.main_v0_1)) (v2 : (c : Dev Cert.Kernel41Ideal.nD) → Buf (Elt Ideal) ((c.tc : Thread Cert.Kernel41Ideal.nD Cert.Kernel41Ideal.τ).loc Cert.Kernel41Ideal.main_v0_2)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0_0) = v0 c
          ∧ r.2.mem ((c.tc : Thread Cert.Kernel41Ideal.nD Cert.Kernel41Ideal.τ).loc Cert.Kernel41Ideal.main_v0_1) = v1 c
          ∧ r.2.mem ((c.tc : Thread Cert.Kernel41Ideal.nD Cert.Kernel41Ideal.τ).loc Cert.Kernel41Ideal.main_v0_2) = v2 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v23) = v0 c
          ∧ r.2.mem ((c.tc : Thread Cert.Reference41Ideal.nD Cert.Reference41Ideal.τ).loc Cert.Reference41Ideal.main_v4) = v1 c
          ∧ r.2.mem ((c.tc : Thread Cert.Reference41Ideal.nD Cert.Reference41Ideal.τ).loc Cert.Reference41Ideal.main_v10) = v2 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)
      ∧ m' ((c.tc : Thread Cert.Reference42Ideal.nD Cert.Reference42Ideal.τ).loc Cert.Reference42Ideal.main_arg3) = m ((c.tc : Thread Cert.Kernel42Ideal.nD Cert.Kernel42Ideal.τ).loc Cert.Kernel42Ideal.main_arg3)
      ∧ m' ((c.tc : Thread Cert.Reference42Ideal.nD Cert.Reference42Ideal.τ).loc Cert.Reference42Ideal.main_arg4) = m ((c.tc : Thread Cert.Kernel42Ideal.nD Cert.Kernel42Ideal.τ).loc Cert.Kernel42Ideal.main_arg4)) →
    ∃ (v0 : (c : Dev Cert.Kernel42Ideal.nD) → Buf (Elt Ideal) ((c.tc : Thread Cert.Kernel42Ideal.nD Cert.Kernel42Ideal.τ).loc Cert.Kernel42Ideal.main_v3)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v3) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
          ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3)
          ∧ r.2.mem ((c.tc : Thread Cert.Kernel42Ideal.nD Cert.Kernel42Ideal.τ).loc Cert.Kernel42Ideal.main_arg4) = m ((c.tc : Thread Cert.Kernel42Ideal.nD Cert.Kernel42Ideal.τ).loc Cert.Kernel42Ideal.main_arg4))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v49) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2)
          ∧ r.2.mem ((c.tc : Thread Cert.Reference42Ideal.nD Cert.Reference42Ideal.τ).loc Cert.Reference42Ideal.main_arg3) = m' ((c.tc : Thread Cert.Reference42Ideal.nD Cert.Reference42Ideal.τ).loc Cert.Reference42Ideal.main_arg3)
          ∧ r.2.mem ((c.tc : Thread Cert.Reference42Ideal.nD Cert.Reference42Ideal.τ).loc Cert.Reference42Ideal.main_arg4) = m' ((c.tc : Thread Cert.Reference42Ideal.nD Cert.Reference42Ideal.τ).loc Cert.Reference42Ideal.main_arg4))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)) →
    ∃ (v0 : (c : Dev Cert.Kernel43Ideal.nD) → Buf (Elt Ideal) ((c.tc : Thread Cert.Kernel43Ideal.nD Cert.Kernel43Ideal.τ).loc Cert.Kernel43Ideal.main_v0)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0) = v0 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v26) = v0 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0))

def preserves_Kernel44_Kernel44Ideal : Prop :=
  True

def algebraic_Kernel44Ideal_Reference44Ideal_pre_finite44 [hKernel44Ideal : Cert.Kernel44Ideal.Facts] [hReference44Ideal : Cert.Reference44Ideal.Facts] [hPre_finite44 : Cert.Pre_finite44.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal_finite44 m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)) →
    ∃ (v0 : (c : Dev Cert.Kernel44Ideal.nD) → Buf (Elt Ideal) ((c.tc : Thread Cert.Kernel44Ideal.nD Cert.Kernel44Ideal.τ).loc Cert.Kernel44Ideal.main_v0)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0) = v0 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v75) = v0 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)) →
    ∃ (v0 : (c : Dev Cert.Kernel45Ideal.nD) → Buf (Elt Ideal) ((c.tc : Thread Cert.Kernel45Ideal.nD Cert.Kernel45Ideal.τ).loc Cert.Kernel45Ideal.main_v2)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v2) = v0 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v7) = v0 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)) →
    ∃ (v0 : (c : Dev Cert.Kernel46Ideal.nD) → Buf (Elt Ideal) ((c.tc : Thread Cert.Kernel46Ideal.nD Cert.Kernel46Ideal.τ).loc Cert.Kernel46Ideal.main_v2)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v2) = v0 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v10) = v0 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)
      ∧ m' ((c.tc : Thread Cert.Reference47Ideal.nD Cert.Reference47Ideal.τ).loc Cert.Reference47Ideal.main_arg2) = m ((c.tc : Thread Cert.Kernel47Ideal.nD Cert.Kernel47Ideal.τ).loc Cert.Kernel47Ideal.main_arg2)) →
    ∃ (v0 : (c : Dev Cert.Kernel47Ideal.nD) → Buf (Elt Ideal) ((c.tc : Thread Cert.Kernel47Ideal.nD Cert.Kernel47Ideal.τ).loc Cert.Kernel47Ideal.main_v0)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v0) = v0 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
          ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v10) = v0 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1)
          ∧ r.2.mem ((c.tc : Thread Cert.Reference47Ideal.nD Cert.Reference47Ideal.τ).loc Cert.Reference47Ideal.main_arg2) = m' ((c.tc : Thread Cert.Reference47Ideal.nD Cert.Reference47Ideal.τ).loc Cert.Reference47Ideal.main_arg2))

def preserves_Kernel48_Kernel48Ideal : Prop :=
  True

def algebraic_Kernel48Ideal_Reference48Ideal [hKernel48Ideal : Cert.Kernel48Ideal.Facts] [hReference48Ideal : Cert.Reference48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg)
    (m' : (ℓ : Loc Cert.Reference48Ideal.nD Cert.Reference48Ideal.τ Cert.Reference48Ideal.sig) → Buf (Elt Ideal) ℓ) (g' : Dev Cert.Reference48Ideal.nD → PrngReg), Pre_Kernel48Ideal m →
    (∀ c : Dev Cert.Kernel48Ideal.nD,
      m' ((c.tc : Thread Cert.Reference48Ideal.nD Cert.Reference48Ideal.τ).loc Cert.Reference48Ideal.main_arg0) = m ((c.tc : Thread Cert.Kernel48Ideal.nD Cert.Kernel48Ideal.τ).loc Cert.Kernel48Ideal.main_arg0)
      ∧ m' ((c.tc : Thread Cert.Reference48Ideal.nD Cert.Reference48Ideal.τ).loc Cert.Reference48Ideal.main_arg1) = m ((c.tc : Thread Cert.Kernel48Ideal.nD Cert.Kernel48Ideal.τ).loc Cert.Kernel48Ideal.main_arg1)
      ∧ m' ((c.tc : Thread Cert.Reference48Ideal.nD Cert.Reference48Ideal.τ).loc Cert.Reference48Ideal.main_arg2) = m ((c.tc : Thread Cert.Kernel48Ideal.nD Cert.Kernel48Ideal.τ).loc Cert.Kernel48Ideal.main_arg2)) →
    ∃ (v0 : (c : Dev Cert.Kernel48Ideal.nD) → Buf (Elt Ideal) ((c.tc : Thread Cert.Kernel48Ideal.nD Cert.Kernel48Ideal.τ).loc Cert.Kernel48Ideal.main_v0)),
      θ_run (Cert.Kernel48Ideal.defs (F := Ideal)) (onTc (τ := Cert.Kernel48Ideal.τ) (Cert.Kernel48Ideal.main (F := Ideal))) ⟨m, fun _ => 0, g⟩ (fun r => ∀ c : Dev Cert.Kernel48Ideal.nD,
          r.2.mem ((c.tc : Thread Cert.Kernel48Ideal.nD Cert.Kernel48Ideal.τ).loc Cert.Kernel48Ideal.main_v0) = v0 c
          ∧ r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
          ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
          ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2))
      ∧ θ_run (Cert.Reference48Ideal.defs (F := Ideal)) (onTc (τ := Cert.Reference48Ideal.τ) (Cert.Reference48Ideal.main (F := Ideal))) ⟨m', fun _ => 0, g'⟩ (fun r => ∀ c : Dev Cert.Reference48Ideal.nD,
          r.2.mem ((c.tc : Thread Cert.Reference48Ideal.nD Cert.Reference48Ideal.τ).loc Cert.Reference48Ideal.main_v9) = v0 c
          ∧ r.2.mem ((c.tc : Thread Cert.Reference48Ideal.nD Cert.Reference48Ideal.τ).loc Cert.Reference48Ideal.main_arg0) = m' ((c.tc : Thread Cert.Reference48Ideal.nD Cert.Reference48Ideal.τ).loc Cert.Reference48Ideal.main_arg0)
          ∧ r.2.mem ((c.tc : Thread Cert.Reference48Ideal.nD Cert.Reference48Ideal.τ).loc Cert.Reference48Ideal.main_arg1) = m' ((c.tc : Thread Cert.Reference48Ideal.nD Cert.Reference48Ideal.τ).loc Cert.Reference48Ideal.main_arg1)
          ∧ r.2.mem ((c.tc : Thread Cert.Reference48Ideal.nD Cert.Reference48Ideal.τ).loc Cert.Reference48Ideal.main_arg2) = m' ((c.tc : Thread Cert.Reference48Ideal.nD Cert.Reference48Ideal.τ).loc Cert.Reference48Ideal.main_arg2))

def preserves_Kernel49_Kernel49Ideal : Prop :=
  True

def algebraic_Kernel49Ideal_Reference49Ideal [hKernel49Ideal : Cert.Kernel49Ideal.Facts] [hReference49Ideal : Cert.Reference49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg)
    (m' : (ℓ : Loc Cert.Reference49Ideal.nD Cert.Reference49Ideal.τ Cert.Reference49Ideal.sig) → Buf (Elt Ideal) ℓ) (g' : Dev Cert.Reference49Ideal.nD → PrngReg), Pre_Kernel49Ideal m →
    (∀ c : Dev Cert.Kernel49Ideal.nD,
      m' ((c.tc : Thread Cert.Reference49Ideal.nD Cert.Reference49Ideal.τ).loc Cert.Reference49Ideal.main_arg0) = m ((c.tc : Thread Cert.Kernel49Ideal.nD Cert.Kernel49Ideal.τ).loc Cert.Kernel49Ideal.main_arg0)
      ∧ m' ((c.tc : Thread Cert.Reference49Ideal.nD Cert.Reference49Ideal.τ).loc Cert.Reference49Ideal.main_arg1) = m ((c.tc : Thread Cert.Kernel49Ideal.nD Cert.Kernel49Ideal.τ).loc Cert.Kernel49Ideal.main_arg1)
      ∧ m' ((c.tc : Thread Cert.Reference49Ideal.nD Cert.Reference49Ideal.τ).loc Cert.Reference49Ideal.main_arg2) = m ((c.tc : Thread Cert.Kernel49Ideal.nD Cert.Kernel49Ideal.τ).loc Cert.Kernel49Ideal.main_arg2)) →
    ∃ (v0 : (c : Dev Cert.Kernel49Ideal.nD) → Buf (Elt Ideal) ((c.tc : Thread Cert.Kernel49Ideal.nD Cert.Kernel49Ideal.τ).loc Cert.Kernel49Ideal.main_v0)),
      θ_run (Cert.Kernel49Ideal.defs (F := Ideal)) (onTc (τ := Cert.Kernel49Ideal.τ) (Cert.Kernel49Ideal.main (F := Ideal))) ⟨m, fun _ => 0, g⟩ (fun r => ∀ c : Dev Cert.Kernel49Ideal.nD,
          r.2.mem ((c.tc : Thread Cert.Kernel49Ideal.nD Cert.Kernel49Ideal.τ).loc Cert.Kernel49Ideal.main_v0) = v0 c
          ∧ r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
          ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1)
          ∧ r.2.mem ((c.tc : Thread Cert.Kernel49Ideal.nD Cert.Kernel49Ideal.τ).loc Cert.Kernel49Ideal.main_arg2) = m ((c.tc : Thread Cert.Kernel49Ideal.nD Cert.Kernel49Ideal.τ).loc Cert.Kernel49Ideal.main_arg2))
      ∧ θ_run (Cert.Reference49Ideal.defs (F := Ideal)) (onTc (τ := Cert.Reference49Ideal.τ) (Cert.Reference49Ideal.main (F := Ideal))) ⟨m', fun _ => 0, g'⟩ (fun r => ∀ c : Dev Cert.Reference49Ideal.nD,
          r.2.mem ((c.tc : Thread Cert.Reference49Ideal.nD Cert.Reference49Ideal.τ).loc Cert.Reference49Ideal.main_v11) = v0 c
          ∧ r.2.mem ((c.tc : Thread Cert.Reference49Ideal.nD Cert.Reference49Ideal.τ).loc Cert.Reference49Ideal.main_arg0) = m' ((c.tc : Thread Cert.Reference49Ideal.nD Cert.Reference49Ideal.τ).loc Cert.Reference49Ideal.main_arg0)
          ∧ r.2.mem ((c.tc : Thread Cert.Reference49Ideal.nD Cert.Reference49Ideal.τ).loc Cert.Reference49Ideal.main_arg1) = m' ((c.tc : Thread Cert.Reference49Ideal.nD Cert.Reference49Ideal.τ).loc Cert.Reference49Ideal.main_arg1)
          ∧ r.2.mem ((c.tc : Thread Cert.Reference49Ideal.nD Cert.Reference49Ideal.τ).loc Cert.Reference49Ideal.main_arg2) = m' ((c.tc : Thread Cert.Reference49Ideal.nD Cert.Reference49Ideal.τ).loc Cert.Reference49Ideal.main_arg2))

def preserves_Kernel50_Kernel50Ideal : Prop :=
  True

def algebraic_Kernel50Ideal_Reference50Ideal [hKernel50Ideal : Cert.Kernel50Ideal.Facts] [hReference50Ideal : Cert.Reference50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg)
    (m' : (ℓ : Loc Cert.Reference50Ideal.nD Cert.Reference50Ideal.τ Cert.Reference50Ideal.sig) → Buf (Elt Ideal) ℓ) (g' : Dev Cert.Reference50Ideal.nD → PrngReg), Pre_Kernel50Ideal m →
    (∀ c : Dev Cert.Kernel50Ideal.nD,
      m' ((c.tc : Thread Cert.Reference50Ideal.nD Cert.Reference50Ideal.τ).loc Cert.Reference50Ideal.main_arg0) = m ((c.tc : Thread Cert.Kernel50Ideal.nD Cert.Kernel50Ideal.τ).loc Cert.Kernel50Ideal.main_arg0)
      ∧ m' ((c.tc : Thread Cert.Reference50Ideal.nD Cert.Reference50Ideal.τ).loc Cert.Reference50Ideal.main_arg1) = m ((c.tc : Thread Cert.Kernel50Ideal.nD Cert.Kernel50Ideal.τ).loc Cert.Kernel50Ideal.main_arg1)
      ∧ m' ((c.tc : Thread Cert.Reference50Ideal.nD Cert.Reference50Ideal.τ).loc Cert.Reference50Ideal.main_arg2) = m ((c.tc : Thread Cert.Kernel50Ideal.nD Cert.Kernel50Ideal.τ).loc Cert.Kernel50Ideal.main_arg2)) →
    ∃ (v0 : (c : Dev Cert.Kernel50Ideal.nD) → Buf (Elt Ideal) ((c.tc : Thread Cert.Kernel50Ideal.nD Cert.Kernel50Ideal.τ).loc Cert.Kernel50Ideal.main_v0)),
      θ_run (Cert.Kernel50Ideal.defs (F := Ideal)) (onTc (τ := Cert.Kernel50Ideal.τ) (Cert.Kernel50Ideal.main (F := Ideal))) ⟨m, fun _ => 0, g⟩ (fun r => ∀ c : Dev Cert.Kernel50Ideal.nD,
          r.2.mem ((c.tc : Thread Cert.Kernel50Ideal.nD Cert.Kernel50Ideal.τ).loc Cert.Kernel50Ideal.main_v0) = v0 c
          ∧ r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
          ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1)
          ∧ r.2.mem ((c.tc : Thread Cert.Kernel50Ideal.nD Cert.Kernel50Ideal.τ).loc Cert.Kernel50Ideal.main_arg2) = m ((c.tc : Thread Cert.Kernel50Ideal.nD Cert.Kernel50Ideal.τ).loc Cert.Kernel50Ideal.main_arg2))
      ∧ θ_run (Cert.Reference50Ideal.defs (F := Ideal)) (onTc (τ := Cert.Reference50Ideal.τ) (Cert.Reference50Ideal.main (F := Ideal))) ⟨m', fun _ => 0, g'⟩ (fun r => ∀ c : Dev Cert.Reference50Ideal.nD,
          r.2.mem ((c.tc : Thread Cert.Reference50Ideal.nD Cert.Reference50Ideal.τ).loc Cert.Reference50Ideal.main_v10) = v0 c
          ∧ r.2.mem ((c.tc : Thread Cert.Reference50Ideal.nD Cert.Reference50Ideal.τ).loc Cert.Reference50Ideal.main_arg0) = m' ((c.tc : Thread Cert.Reference50Ideal.nD Cert.Reference50Ideal.τ).loc Cert.Reference50Ideal.main_arg0)
          ∧ r.2.mem ((c.tc : Thread Cert.Reference50Ideal.nD Cert.Reference50Ideal.τ).loc Cert.Reference50Ideal.main_arg1) = m' ((c.tc : Thread Cert.Reference50Ideal.nD Cert.Reference50Ideal.τ).loc Cert.Reference50Ideal.main_arg1)
          ∧ r.2.mem ((c.tc : Thread Cert.Reference50Ideal.nD Cert.Reference50Ideal.τ).loc Cert.Reference50Ideal.main_arg2) = m' ((c.tc : Thread Cert.Reference50Ideal.nD Cert.Reference50Ideal.τ).loc Cert.Reference50Ideal.main_arg2))

def preserves_Kernel51_Kernel51Ideal : Prop :=
  True

def algebraic_Kernel51Ideal_Reference51Ideal [hKernel51Ideal : Cert.Kernel51Ideal.Facts] [hReference51Ideal : Cert.Reference51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg)
    (m' : (ℓ : Loc Cert.Reference51Ideal.nD Cert.Reference51Ideal.τ Cert.Reference51Ideal.sig) → Buf (Elt Ideal) ℓ) (g' : Dev Cert.Reference51Ideal.nD → PrngReg), Pre_Kernel51Ideal m →
    (∀ c : Dev Cert.Kernel51Ideal.nD,
      m' ((c.tc : Thread Cert.Reference51Ideal.nD Cert.Reference51Ideal.τ).loc Cert.Reference51Ideal.main_arg0) = m ((c.tc : Thread Cert.Kernel51Ideal.nD Cert.Kernel51Ideal.τ).loc Cert.Kernel51Ideal.main_arg0)
      ∧ m' ((c.tc : Thread Cert.Reference51Ideal.nD Cert.Reference51Ideal.τ).loc Cert.Reference51Ideal.main_arg1) = m ((c.tc : Thread Cert.Kernel51Ideal.nD Cert.Kernel51Ideal.τ).loc Cert.Kernel51Ideal.main_arg1)) →
    ∃ (v0 : (c : Dev Cert.Kernel51Ideal.nD) → Buf (Elt Ideal) ((c.tc : Thread Cert.Kernel51Ideal.nD Cert.Kernel51Ideal.τ).loc Cert.Kernel51Ideal.main_v0)),
      θ_run (Cert.Kernel51Ideal.defs (F := Ideal)) (onTc (τ := Cert.Kernel51Ideal.τ) (Cert.Kernel51Ideal.main (F := Ideal))) ⟨m, fun _ => 0, g⟩ (fun r => ∀ c : Dev Cert.Kernel51Ideal.nD,
          r.2.mem ((c.tc : Thread Cert.Kernel51Ideal.nD Cert.Kernel51Ideal.τ).loc Cert.Kernel51Ideal.main_v0) = v0 c
          ∧ r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
          ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1))
      ∧ θ_run (Cert.Reference51Ideal.defs (F := Ideal)) (onTc (τ := Cert.Reference51Ideal.τ) (Cert.Reference51Ideal.main (F := Ideal))) ⟨m', fun _ => 0, g'⟩ (fun r => ∀ c : Dev Cert.Reference51Ideal.nD,
          r.2.mem ((c.tc : Thread Cert.Reference51Ideal.nD Cert.Reference51Ideal.τ).loc Cert.Reference51Ideal.main_v2) = v0 c
          ∧ r.2.mem ((c.tc : Thread Cert.Reference51Ideal.nD Cert.Reference51Ideal.τ).loc Cert.Reference51Ideal.main_arg0) = m' ((c.tc : Thread Cert.Reference51Ideal.nD Cert.Reference51Ideal.τ).loc Cert.Reference51Ideal.main_arg0)
          ∧ r.2.mem ((c.tc : Thread Cert.Reference51Ideal.nD Cert.Reference51Ideal.τ).loc Cert.Reference51Ideal.main_arg1) = m' ((c.tc : Thread Cert.Reference51Ideal.nD Cert.Reference51Ideal.τ).loc Cert.Reference51Ideal.main_arg1))

def preserves_Kernel52_Kernel52Ideal : Prop :=
  True

def algebraic_Kernel52Ideal_Reference52Ideal [hKernel52Ideal : Cert.Kernel52Ideal.Facts] [hReference52Ideal : Cert.Reference52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg)
    (m' : (ℓ : Loc Cert.Reference52Ideal.nD Cert.Reference52Ideal.τ Cert.Reference52Ideal.sig) → Buf (Elt Ideal) ℓ) (g' : Dev Cert.Reference52Ideal.nD → PrngReg), Pre_Kernel52Ideal m →
    (∀ c : Dev Cert.Kernel52Ideal.nD,
      m' ((c.tc : Thread Cert.Reference52Ideal.nD Cert.Reference52Ideal.τ).loc Cert.Reference52Ideal.main_arg0) = m ((c.tc : Thread Cert.Kernel52Ideal.nD Cert.Kernel52Ideal.τ).loc Cert.Kernel52Ideal.main_arg0)
      ∧ m' ((c.tc : Thread Cert.Reference52Ideal.nD Cert.Reference52Ideal.τ).loc Cert.Reference52Ideal.main_arg1) = m ((c.tc : Thread Cert.Kernel52Ideal.nD Cert.Kernel52Ideal.τ).loc Cert.Kernel52Ideal.main_arg1)) →
    ∃ (v0 : (c : Dev Cert.Kernel52Ideal.nD) → Buf (Elt Ideal) ((c.tc : Thread Cert.Kernel52Ideal.nD Cert.Kernel52Ideal.τ).loc Cert.Kernel52Ideal.main_v0)),
      θ_run (Cert.Kernel52Ideal.defs (F := Ideal)) (onTc (τ := Cert.Kernel52Ideal.τ) (Cert.Kernel52Ideal.main (F := Ideal))) ⟨m, fun _ => 0, g⟩ (fun r => ∀ c : Dev Cert.Kernel52Ideal.nD,
          r.2.mem ((c.tc : Thread Cert.Kernel52Ideal.nD Cert.Kernel52Ideal.τ).loc Cert.Kernel52Ideal.main_v0) = v0 c
          ∧ r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
          ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1))
      ∧ θ_run (Cert.Reference52Ideal.defs (F := Ideal)) (onTc (τ := Cert.Reference52Ideal.τ) (Cert.Reference52Ideal.main (F := Ideal))) ⟨m', fun _ => 0, g'⟩ (fun r => ∀ c : Dev Cert.Reference52Ideal.nD,
          r.2.mem ((c.tc : Thread Cert.Reference52Ideal.nD Cert.Reference52Ideal.τ).loc Cert.Reference52Ideal.main_v1) = v0 c
          ∧ r.2.mem ((c.tc : Thread Cert.Reference52Ideal.nD Cert.Reference52Ideal.τ).loc Cert.Reference52Ideal.main_arg0) = m' ((c.tc : Thread Cert.Reference52Ideal.nD Cert.Reference52Ideal.τ).loc Cert.Reference52Ideal.main_arg0)
          ∧ r.2.mem ((c.tc : Thread Cert.Reference52Ideal.nD Cert.Reference52Ideal.τ).loc Cert.Reference52Ideal.main_arg1) = m' ((c.tc : Thread Cert.Reference52Ideal.nD Cert.Reference52Ideal.τ).loc Cert.Reference52Ideal.main_arg1))

def preserves_Kernel53_Kernel53Ideal : Prop :=
  True

def algebraic_Kernel53Ideal_Reference53Ideal [hKernel53Ideal : Cert.Kernel53Ideal.Facts] [hReference53Ideal : Cert.Reference53Ideal.Facts] : Prop :=
  ∀ (m : (ℓ : Loc Cert.Kernel53Ideal.nD Cert.Kernel53Ideal.τ Cert.Kernel53Ideal.sig) → Buf (Elt Ideal) ℓ) (g : Dev Cert.Kernel53Ideal.nD → PrngReg)
    (m' : (ℓ : Loc Cert.Reference53Ideal.nD Cert.Reference53Ideal.τ Cert.Reference53Ideal.sig) → Buf (Elt Ideal) ℓ) (g' : Dev Cert.Reference53Ideal.nD → PrngReg), Pre_Kernel53Ideal m →
    (∀ c : Dev Cert.Kernel53Ideal.nD,
      m' ((c.tc : Thread Cert.Reference53Ideal.nD Cert.Reference53Ideal.τ).loc Cert.Reference53Ideal.main_arg0) = m ((c.tc : Thread Cert.Kernel53Ideal.nD Cert.Kernel53Ideal.τ).loc Cert.Kernel53Ideal.main_arg0)
      ∧ m' ((c.tc : Thread Cert.Reference53Ideal.nD Cert.Reference53Ideal.τ).loc Cert.Reference53Ideal.main_arg1) = m ((c.tc : Thread Cert.Kernel53Ideal.nD Cert.Kernel53Ideal.τ).loc Cert.Kernel53Ideal.main_arg1)) →
    ∃ (v0 : (c : Dev Cert.Kernel53Ideal.nD) → Buf (Elt Ideal) ((c.tc : Thread Cert.Kernel53Ideal.nD Cert.Kernel53Ideal.τ).loc Cert.Kernel53Ideal.main_v0)),
      θ_run (Cert.Kernel53Ideal.defs (F := Ideal)) (onTc (τ := Cert.Kernel53Ideal.τ) (Cert.Kernel53Ideal.main (F := Ideal))) ⟨m, fun _ => 0, g⟩ (fun r => ∀ c : Dev Cert.Kernel53Ideal.nD,
          r.2.mem ((c.tc : Thread Cert.Kernel53Ideal.nD Cert.Kernel53Ideal.τ).loc Cert.Kernel53Ideal.main_v0) = v0 c
          ∧ r.2.mem ((c.tc : Thread Cert.Kernel53Ideal.nD Cert.Kernel53Ideal.τ).loc Cert.Kernel53Ideal.main_arg0) = m ((c.tc : Thread Cert.Kernel53Ideal.nD Cert.Kernel53Ideal.τ).loc Cert.Kernel53Ideal.main_arg0)
          ∧ r.2.mem ((c.tc : Thread Cert.Kernel53Ideal.nD Cert.Kernel53Ideal.τ).loc Cert.Kernel53Ideal.main_arg1) = m ((c.tc : Thread Cert.Kernel53Ideal.nD Cert.Kernel53Ideal.τ).loc Cert.Kernel53Ideal.main_arg1))
      ∧ θ_run (Cert.Reference53Ideal.defs (F := Ideal)) (onTc (τ := Cert.Reference53Ideal.τ) (Cert.Reference53Ideal.main (F := Ideal))) ⟨m', fun _ => 0, g'⟩ (fun r => ∀ c : Dev Cert.Reference53Ideal.nD,
          r.2.mem ((c.tc : Thread Cert.Reference53Ideal.nD Cert.Reference53Ideal.τ).loc Cert.Reference53Ideal.main_v2) = v0 c
          ∧ r.2.mem ((c.tc : Thread Cert.Reference53Ideal.nD Cert.Reference53Ideal.τ).loc Cert.Reference53Ideal.main_arg0) = m' ((c.tc : Thread Cert.Reference53Ideal.nD Cert.Reference53Ideal.τ).loc Cert.Reference53Ideal.main_arg0)
          ∧ r.2.mem ((c.tc : Thread Cert.Reference53Ideal.nD Cert.Reference53Ideal.τ).loc Cert.Reference53Ideal.main_arg1) = m' ((c.tc : Thread Cert.Reference53Ideal.nD Cert.Reference53Ideal.τ).loc Cert.Reference53Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel48 : Cert.Kernel48.Facts) (hKernel48Ideal : Cert.Kernel48Ideal.Facts) (hReference48Ideal : Cert.Reference48Ideal.Facts) (hKernel49 : Cert.Kernel49.Facts) (hKernel49Ideal : Cert.Kernel49Ideal.Facts) (hReference49Ideal : Cert.Reference49Ideal.Facts) (hKernel50 : Cert.Kernel50.Facts) (hKernel50Ideal : Cert.Kernel50Ideal.Facts) (hReference50Ideal : Cert.Reference50Ideal.Facts) (hKernel51 : Cert.Kernel51.Facts) (hKernel51Ideal : Cert.Kernel51Ideal.Facts) (hReference51Ideal : Cert.Reference51Ideal.Facts) (hKernel52 : Cert.Kernel52.Facts) (hKernel52Ideal : Cert.Kernel52Ideal.Facts) (hReference52Ideal : Cert.Reference52Ideal.Facts) (hKernel53 : Cert.Kernel53.Facts) (hKernel53Ideal : Cert.Kernel53Ideal.Facts) (hReference53Ideal : Cert.Reference53Ideal.Facts) (hPre_finite : Cert.Pre_finite.Facts) (hPre_finite2 : Cert.Pre_finite2.Facts) (hPre_finite15 : Cert.Pre_finite15.Facts) (hPre_finite16 : Cert.Pre_finite16.Facts) (hPre_finite17 : Cert.Pre_finite17.Facts) (hPre_finite44 : Cert.Pre_finite44.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Kernel16Ideal_pre_finite16 (hKernel16Ideal := hKernel16Ideal) (hPre_finite16 := hPre_finite16)
    ∧ quiescent_Reference16Ideal (hReference16Ideal := hReference16Ideal)
    ∧ quiescent_Reference16Ideal_pre_finite16 (hReference16Ideal := hReference16Ideal) (hPre_finite16 := hPre_finite16)
    ∧ quiescent_Kernel17 (hKernel17 := hKernel17)
    ∧ quiescent_Kernel17Ideal (hKernel17Ideal := hKernel17Ideal)
    ∧ quiescent_Kernel17Ideal_pre_finite17 (hKernel17Ideal := hKernel17Ideal) (hPre_finite17 := hPre_finite17)
    ∧ quiescent_Reference17Ideal (hReference17Ideal := hReference17Ideal)
    ∧ quiescent_Reference17Ideal_pre_finite17 (hReference17Ideal := hReference17Ideal) (hPre_finite17 := hPre_finite17)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Kernel44Ideal_pre_finite44 (hKernel44Ideal := hKernel44Ideal) (hPre_finite44 := hPre_finite44)
    ∧ quiescent_Reference44Ideal (hReference44Ideal := hReference44Ideal)
    ∧ quiescent_Reference44Ideal_pre_finite44 (hReference44Ideal := hReference44Ideal) (hPre_finite44 := hPre_finite44)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ quiescent_Kernel48 (hKernel48 := hKernel48)
    ∧ quiescent_Kernel48Ideal (hKernel48Ideal := hKernel48Ideal)
    ∧ quiescent_Reference48Ideal (hReference48Ideal := hReference48Ideal)
    ∧ quiescent_Kernel49 (hKernel49 := hKernel49)
    ∧ quiescent_Kernel49Ideal (hKernel49Ideal := hKernel49Ideal)
    ∧ quiescent_Reference49Ideal (hReference49Ideal := hReference49Ideal)
    ∧ quiescent_Kernel50 (hKernel50 := hKernel50)
    ∧ quiescent_Kernel50Ideal (hKernel50Ideal := hKernel50Ideal)
    ∧ quiescent_Reference50Ideal (hReference50Ideal := hReference50Ideal)
    ∧ quiescent_Kernel51 (hKernel51 := hKernel51)
    ∧ quiescent_Kernel51Ideal (hKernel51Ideal := hKernel51Ideal)
    ∧ quiescent_Reference51Ideal (hReference51Ideal := hReference51Ideal)
    ∧ quiescent_Kernel52 (hKernel52 := hKernel52)
    ∧ quiescent_Kernel52Ideal (hKernel52Ideal := hKernel52Ideal)
    ∧ quiescent_Reference52Ideal (hReference52Ideal := hReference52Ideal)
    ∧ quiescent_Kernel53 (hKernel53 := hKernel53)
    ∧ quiescent_Kernel53Ideal (hKernel53Ideal := hKernel53Ideal)
    ∧ quiescent_Reference53Ideal (hReference53Ideal := hReference53Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal_pre_finite16 (hKernel16Ideal := hKernel16Ideal) (hReference16Ideal := hReference16Ideal) (hPre_finite16 := hPre_finite16)
    ∧ preserves_Kernel17_Kernel17Ideal
    ∧ algebraic_Kernel17Ideal_Reference17Ideal_pre_finite17 (hKernel17Ideal := hKernel17Ideal) (hReference17Ideal := hReference17Ideal) (hPre_finite17 := hPre_finite17)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal_pre_finite44 (hKernel44Ideal := hKernel44Ideal) (hReference44Ideal := hReference44Ideal) (hPre_finite44 := hPre_finite44)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
    ∧ preserves_Kernel48_Kernel48Ideal
    ∧ algebraic_Kernel48Ideal_Reference48Ideal (hKernel48Ideal := hKernel48Ideal) (hReference48Ideal := hReference48Ideal)
    ∧ preserves_Kernel49_Kernel49Ideal
    ∧ algebraic_Kernel49Ideal_Reference49Ideal (hKernel49Ideal := hKernel49Ideal) (hReference49Ideal := hReference49Ideal)
    ∧ preserves_Kernel50_Kernel50Ideal
    ∧ algebraic_Kernel50Ideal_Reference50Ideal (hKernel50Ideal := hKernel50Ideal) (hReference50Ideal := hReference50Ideal)
    ∧ preserves_Kernel51_Kernel51Ideal
    ∧ algebraic_Kernel51Ideal_Reference51Ideal (hKernel51Ideal := hKernel51Ideal) (hReference51Ideal := hReference51Ideal)
    ∧ preserves_Kernel52_Kernel52Ideal
    ∧ algebraic_Kernel52Ideal_Reference52Ideal (hKernel52Ideal := hKernel52Ideal) (hReference52Ideal := hReference52Ideal)
    ∧ preserves_Kernel53_Kernel53Ideal
    ∧ algebraic_Kernel53Ideal_Reference53Ideal (hKernel53Ideal := hKernel53Ideal) (hReference53Ideal := hReference53Ideal)
-- ==== Pre_finite.lean ====
abbrev S16384x512 : Shape := ⟨2, ![16384, 512]⟩
abbrev S16384x8192 : Shape := ⟨2, ![16384, 8192]⟩
abbrev S8x128x128 : Shape := ⟨3, ![8, 128, 128]⟩
abbrev S8x128 : Shape := ⟨2, ![8, 128]⟩
abbrev S1x512 : Shape := ⟨2, ![1, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x8192 : S_.BroadcastsInDim S16384x8192 (![] : Fin 0 → Fin S16384x8192.rank)
  reducesTo_S16384x8192_S_d0_1 : S16384x8192.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x512 .f32) (main_arg5 : FVec F S1x512 .f32) (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  main_v28

def fn {F : FTy → Type} [FloatOps F] (main_arg0 : FVec F S16384x512 .f32) (main_arg1 : FVec F S16384x8192 .f32) (main_arg2 : FVec F S8x128x128 .f32) (main_arg3 : FVec F S8x128 .f32) (main_arg4 : FVec F S1x512 .f32) (main_arg5 : FVec F S1x512 .f32) (main_arg6 : FVec F S16384x8192 .bf16) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x8192 .f32 := Host.absf main_arg1
  let main_cst_0 : FVec F S_ .f32 := constant S_ .f32 0x7F800000#32
  let main_v5 : FVec F S16384x8192 .f32 := broadcastInDim S16384x8192 ![] bcast_S_S16384x8192 main_cst_0
  let main_v6 : IVec S16384x8192 1 := cmpf .olt main_v4 main_v5
  let main_c_1 : IVec S_ 1 := constantI S_ 1 1#1
  let main_v7 : IVec S_ 1 := (fun x v => Host.reduce IntOp.andi x v reducesTo_S16384x8192_S_d0_1 h_S_) main_v6 main_c_1
  let main_v8 : IVec S_ 1 := andi main_v3 main_v7
  let main_v9 : FVec F S8x128x128 .f32 := Host.absf main_arg2
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_c_3 : IVec S_ 1 := constantI S_ 1 1#1
  let main_v12 : IVec S_ 1 := (fun x v => Host.reduce IntOp.andi x v reducesTo_S8x128x128_S_d0_1_2 h_S_) main_v11 main_c_3
  let main_v13 : IVec S_ 1 := andi main_v8 main_v12
  let main_v14 : FVec F S8x128 .f32 := Host.absf main_arg3
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_arg4 main_arg5 main_v13 main_v16
-- ==== Pre_finite15.lean ====
abbrev S16384x1024 : Shape := ⟨2, ![16384, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S16384x1024 .f32) (main_arg1 : FVec F S1x1024 .f32) (main_arg2 : FVec F S16384x1024 .f32) (main_arg3 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  main_v13
-- ==== Pre_finite16.lean ====
abbrev S16384x1024 : Shape := ⟨2, ![16384, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S16384x1024 .f32) (main_arg1 : FVec F S1x1024 .f32) (main_arg2 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  main_v13
-- ==== Pre_finite17.lean ====
abbrev S16384x1024 : Shape := ⟨2, ![16384, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S16384x1024 .f32) (main_arg5 : FVec F S1x1024 .f32) (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  let main_v19 : FVec F S16384x1024 .f32 := Host.absf main_arg4
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  main_v28

def fn {F : FTy → Type} [FloatOps F] (main_arg0 : FVec F S16384x1024 .f32) (main_arg1 : FVec F S1x1024 .f32) (main_arg2 : FVec F S16384x1024 .f32) (main_arg3 : FVec F S16384x1024 .f32) (main_arg4 : FVec F S16384x1024 .f32) (main_arg5 : FVec F S1x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_arg4 main_arg5 main_v13 main_v16
-- ==== Pre_finite2.lean ====
abbrev S16384x1024 : Shape := ⟨2, ![16384, 1024]⟩
abbrev S4x2x704x1024 : Shape := ⟨4, ![4, 2, 704, 1024]⟩
abbrev S4x16384x704 : Shape := ⟨3, ![4, 16384, 704]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x2x704x1024 : S_.BroadcastsInDim S4x2x704x1024 (![] : Fin 0 → Fin S4x2x704x1024.rank)
  reducesTo_S4x2x704x1024_S_d0_1_2_3 : S4x2x704x1024.ReducesTo [0, 1, 2, 3] S_
  bcast_S_S4x16384x704 : S_.BroadcastsInDim S4x16384x704 (![] : Fin 0 → Fin S4x16384x704.rank)
  reducesTo_S4x16384x704_S_d0_1_2 : S4x16384x704.ReducesTo [0, 1, 2] S_

variable [Facts]

def fn_part1 {F : FTy → Type} [FloatOps F] (main_v15 : IVec S_ 1) (main_v16 : FVec F S4x16384x704 .f32) (main_cst_4 : FVec F S_ .f32) : IVec S_ 1 :=
  let main_v17 : FVec F S4x16384x704 .f32 := broadcastInDim S4x16384x704 ![] bcast_S_S4x16384x704 main_cst_4
  let main_v18 : IVec S4x16384x704 1 := cmpf .olt main_v16 main_v17
  let main_c_5 : IVec S_ 1 := constantI S_ 1 1#1
  let main_v19 : IVec S_ 1 := (fun x v => Host.reduce IntOp.andi x v reducesTo_S4x16384x704_S_d0_1_2 h_S_) main_v18 main_c_5
  let main_v20 : IVec S_ 1 := andi main_v15 main_v19
  main_v20

def fn {F : FTy → Type} [FloatOps F] (main_arg0 : FVec F S16384x1024 .bf16) (main_arg1 : FVec F S4x2x704x1024 .bf16) (main_arg2 : FVec F S4x16384x704 .f32) (main_arg3 : FVec F S4x16384x704 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S4x2x704x1024 .f32 := (extf .f32 · bitsLt_bf16_f32) main_arg1
  let main_v6 : FVec F S4x2x704x1024 .f32 := Host.absf main_v5
  let main_cst_0 : FVec F S_ .f32 := constant S_ .f32 0x7F800000#32
  let main_v7 : FVec F S4x2x704x1024 .f32 := broadcastInDim S4x2x704x1024 ![] bcast_S_S4x2x704x1024 main_cst_0
  let main_v8 : IVec S4x2x704x1024 1 := cmpf .olt main_v6 main_v7
  let main_c_1 : IVec S_ 1 := constantI S_ 1 1#1
  let main_v9 : IVec S_ 1 := (fun x v => Host.reduce IntOp.andi x v reducesTo_S4x2x704x1024_S_d0_1_2_3 h_S_) main_v8 main_c_1
  let main_v10 : IVec S_ 1 := andi main_v4 main_v9
  let main_v11 : FVec F S4x16384x704 .f32 := Host.absf main_arg2
  let main_cst_2 : FVec F S_ .f32 := constant S_ .f32 0x7F800000#32
  let main_v12 : FVec F S4x16384x704 .f32 := broadcastInDim S4x16384x704 ![] bcast_S_S4x16384x704 main_cst_2
  let main_v13 : IVec S4x16384x704 1 := cmpf .olt main_v11 main_v12
  let main_c_3 : IVec S_ 1 := constantI S_ 1 1#1
  let main_v14 : IVec S_ 1 := (fun x v => Host.reduce IntOp.andi x v reducesTo_S4x16384x704_S_d0_1_2 h_S_) main_v13 main_c_3
  let main_v15 : IVec S_ 1 := andi main_v10 main_v14
  let main_v16 : FVec F S4x16384x704 .f32 := Host.absf main_arg3
  let main_cst_4 : FVec F S_ .f32 := constant S_ .f32 0x7F800000#32
  fn_part1 (F := F) main_v15 main_v16 main_cst_4
-- ==== Pre_finite44.lean ====
abbrev S2x1024 : Shape := ⟨2, ![2, 1024]⟩
abbrev S_ : Shape := ⟨0, ![]⟩

class Facts : Prop where
  bcast_S_S2x1024 : S_.BroadcastsInDim S2x1024 (![] : Fin 0 → Fin S2x1024.rank)
  reducesTo_S2x1024_S_d0_1 : S2x1024.ReducesTo [0, 1] S_
  h_S_ : 0 < S_.numel

variable [Facts]

def fn {F : FTy → Type} [FloatOps F] (main_arg0 : FVec F S2x1024 .f32) (main_arg1 : FVec F S2x1024 .f32) : IVec S_ 1 :=
  let main_v0 : FVec F S2x1024 .f32 := Host.absf main_arg0
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_c : IVec S_ 1 := constantI S_ 1 1#1
  let main_v3 : IVec S_ 1 := (fun x v => Host.reduce IntOp.andi x v reducesTo_S2x1024_S_d0_1 h_S_) main_v2 main_c
  let main_v4 : FVec F S2x1024 .f32 := Host.absf main_arg1
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  let main_c_1 : IVec S_ 1 := constantI S_ 1 1#1
  let main_v7 : IVec S_ 1 := (fun x v => Host.reduce IntOp.andi x v reducesTo_S2x1024_S_d0_1 h_S_) main_v6 main_c_1
  let main_v8 : IVec S_ 1 := andi main_v3 main_v7
  main_v8
-- ==== Kernel.lean ====
abbrev S16384x512 : Shape := ⟨2, ![16384, 512]⟩
abbrev S16384x8192 : Shape := ⟨2, ![16384, 8192]⟩
abbrev S8x128x128 : Shape := ⟨3, ![8, 128, 128]⟩
abbrev S8x128 : Shape := ⟨2, ![8, 128]⟩
abbrev S1x512 : Shape := ⟨2, ![1, 512]⟩
abbrev S128x8 : Shape := ⟨2, ![128, 8]⟩
abbrev S128x8x64 : Shape := ⟨3, ![128, 8, 64]⟩
abbrev S128x512 : Shape := ⟨2, ![128, 512]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩

abbrev nBuf : Space → Nat
  | .hbm => 15
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S16384x8192, .f32⟩
  | .hbm, ⟨2, _⟩ => ⟨S8x128x128, .f32⟩
  | .hbm, ⟨3, _⟩ => ⟨S8x128, .f32⟩
  | .hbm, ⟨4, _⟩ => ⟨S1x512, .f32⟩
  | .hbm, ⟨5, _⟩ => ⟨S1x512, .f32⟩
  | .hbm, ⟨6, _⟩ => ⟨S16384x8192, .bf16⟩
  | .hbm, ⟨7, _⟩ => ⟨S128x8, .f32⟩
  | .hbm, ⟨8, _⟩ => ⟨S128x8x64, .f32⟩
  | .hbm, ⟨9, _⟩ => ⟨S128x512, .f32⟩
  | .hbm, ⟨10, _⟩ => ⟨S16384x8192, .bf16⟩
  | .hbm, ⟨11, _⟩ => ⟨S8x128x128, .f32⟩
  | .hbm, ⟨12, _⟩ => ⟨S128x512, .f32⟩
  | .hbm, ⟨13, _⟩ => ⟨S1x512, .f32⟩
  | .hbm, ⟨14, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S8x128x128, .f32⟩
  | .local _ .vmem, ⟨7, _⟩ => ⟨S128x512, .f32⟩
  | .local _ .vmem, ⟨8, _⟩ => ⟨S1x512, .f32⟩
  | .local _ .vmem, ⟨9, _⟩ => ⟨S1x512, .f32⟩
  | .local _ .vmem, ⟨10, _⟩ => ⟨S512x1024, .bf16⟩
  | .local _ .vmem, ⟨11, _⟩ => ⟨S512x1024, .bf16⟩
  | .local _ .vmem, ⟨12, _⟩ => ⟨S8x128x128, .f32⟩
  | .local _ .vmem, ⟨13, _⟩ => ⟨S128x512, .f32⟩
  | .local _ .vmem, ⟨14, _⟩ => ⟨S1x512, .f32⟩
  | .local _ .vmem, ⟨15, _⟩ => ⟨S1x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v793 : BitVec 1 := Scalar.cmpi .eq arg0 c0_i32
  let v796 : BitVec 32 := Scalar.extui v793
  let c0_i32_170 : BitVec 32 := 0#32
  let v797 : BitVec 1 := Scalar.cmpi .ne v796 c0_i32_170
  v797

def k0_cond2 (i : grid0.Coords) : BitVec 1 :=
  let arg0 : BitVec 32 := BitVec.ofNat 32 (i 0).val
  let c0_i32 : BitVec 32 := 0#32
  let v793 : BitVec 1 := Scalar.cmpi .eq arg0 c0_i32
  let v_true : BitVec 1 := 1#1
  let v798 : BitVec 1 := Scalar.xori v793 v_true
  let v799 : BitVec 32 := Scalar.extui v798
  let c0_i32_171 : BitVec 32 := 0#32
  let v800 : BitVec 1 := Scalar.cmpi .ne v799 c0_i32_171
  v800

def k0_cond3 (i : grid0.Coords) : BitVec 1 :=
  let arg0 : BitVec 32 := BitVec.ofNat 32 (i 0).val
  let c0_i32 : BitVec 32 := 0#32
  let v793 : BitVec 1 := Scalar.cmpi .eq arg0 c0_i32
  let v801 : BitVec 32 := Scalar.extui v793
  let c0_i32_172 : BitVec 32 := 0#32
  let v802 : BitVec 1 := Scalar.cmpi .ne v801 c0_i32_172
  v802

def k0_cond4 (i : grid0.Coords) : BitVec 1 :=
  let arg0 : BitVec 32 := BitVec.ofNat 32 (i 0).val
  let c0_i32 : BitVec 32 := 0#32
  let v793 : BitVec 1 := Scalar.cmpi .eq arg0 c0_i32
  let true_173 : BitVec 1 := 1#1
  let v803 : BitVec 1 := Scalar.xori v793 true_173
  let v804 : BitVec 32 := Scalar.extui v803
  let c0_i32_174 : BitVec 32 := 0#32
  let v805 : BitVec 1 := Scalar.cmpi .ne v804 c0_i32_174
  v805

def k0_cond5 (i : grid0.Coords) : BitVec 1 :=
  let arg0 : BitVec 32 := BitVec.ofNat 32 (i 0).val
  let c0_i32 : BitVec 32 := 0#32
  let v793 : BitVec 1 := Scalar.cmpi .eq arg0 c0_i32
  let v806 : BitVec 32 := Scalar.extui v793
  let c0_i32_175 : BitVec 32 := 0#32
  let v807 : BitVec 1 := Scalar.cmpi .ne v806 c0_i32_175
  v807

def k0_cond6 (i : grid0.Coords) : BitVec 1 :=
  let arg0 : BitVec 32 := BitVec.ofNat 32 (i 0).val
  let c0_i32 : BitVec 32 := 0#32
  let v793 : BitVec 1 := Scalar.cmpi .eq arg0 c0_i32
  let true_176 : BitVec 1 := 1#1
  let v808 : BitVec 1 := Scalar.xori v793 true_176
  let v809 : BitVec 32 := Scalar.extui v808
  let c0_i32_177 : BitVec 32 := 0#32
  let v810 : BitVec 1 := Scalar.cmpi .ne v809 c0_i32_177
  v810

def k0_cond7 (i : grid0.Coords) : BitVec 1 :=
  let arg0 : BitVec 32 := BitVec.ofNat 32 (i 0).val
  let c0_i32 : BitVec 32 := 0#32
  let v793 : BitVec 1 := Scalar.cmpi .eq arg0 c0_i32
  let v811 : BitVec 32 := Scalar.extui v793
  let c0_i32_178 : BitVec 32 := 0#32
  let v812 : BitVec 1 := Scalar.cmpi .ne v811 c0_i32_178
  v812

def k0_cond8 (i : grid0.Coords) : BitVec 1 :=
  let arg0 : BitVec 32 := BitVec.ofNat 32 (i 0).val
  let c0_i32 : BitVec 32 := 0#32
  let v793 : BitVec 1 := Scalar.cmpi .eq arg0 c0_i32
  let true_179 : BitVec 1 := 1#1
  let v813 : BitVec 1 := Scalar.xori v793 true_179
  let v814 : BitVec 32 := Scalar.extui v813
  let c0_i32_180 : BitVec 32 := 0#32
  let v815 : BitVec 1 := Scalar.cmpi .ne v814 c0_i32_180
  v815

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S16384x512 : Shape := ⟨2, ![16384, 512]⟩
abbrev S16384x8192 : Shape := ⟨2, ![16384, 8192]⟩
abbrev S8x128x128 : Shape := ⟨3, ![8, 128, 128]⟩
abbrev S8x128 : Shape := ⟨2, ![8, 128]⟩
abbrev S1x512 : Shape := ⟨2, ![1, 512]⟩
abbrev S128x8 : Shape := ⟨2, ![128, 8]⟩
abbrev S128x8x64 : Shape := ⟨3, ![128, 8, 64]⟩
abbrev S128x512 : Shape := ⟨2, ![128, 512]⟩
abbrev S_ : Shape := ⟨0, ![]⟩
abbrev S16384 : Shape := ⟨1, ![16384]⟩
abbrev S16384x1 : Shape := ⟨2, ![16384, 1]⟩
abbrev S128x128x8x64 : Shape := ⟨4, ![128, 128, 8, 64]⟩
abbrev S8x128x64x128 : Shape := ⟨4, ![8, 128, 64, 128]⟩
abbrev S1x128x8x64 : Shape := ⟨4, ![1, 128, 8, 64]⟩
abbrev S512 : Shape := ⟨1, ![512]⟩
abbrev S16384x5120 : Shape := ⟨2, ![16384, 5120]⟩
abbrev S16384x2048 : Shape := ⟨2, ![16384, 2048]⟩

abbrev nBuf : Space → Nat
  | .hbm => 167
  | .vmem => 0
  | .smem => 0
  | _ => 0

abbrev hbmTy0_0 (i : Nat) : BufTy := match i % 128 with
  | 0 => ⟨S16384x512, .f32⟩
  | 1 => ⟨S16384x8192, .f32⟩
  | 2 => ⟨S8x128x128, .f32⟩
  | 3 => ⟨S8x128, .f32⟩
  | 4 => ⟨S1x512, .f32⟩
  | 5 => ⟨S1x512, .f32⟩
  | 6 => ⟨S16384x8192, .bf16⟩
  | 7 => ⟨S128x8, .f32⟩
  | 8 => ⟨S128x8x64, .f32⟩
  | 9 => ⟨S128x512, .f32⟩
  | 10 => ⟨S16384x512, .f32⟩
  | 11 => ⟨S16384x512, .f32⟩
  | 12 => ⟨S_, .f32⟩
  | 13 => ⟨S16384x512, .f32⟩
  | 14 => ⟨S16384x512, .f32⟩
  | 15 => ⟨S16384x512, .f32⟩
  | 16 => ⟨S_, .f32⟩
  | 17 => ⟨S16384x512, .f32⟩
  | 18 => ⟨S16384x512, .f32⟩
  | 19 => ⟨S_, .f32⟩
  | 20 => ⟨S16384x512, .f32⟩
  | 21 => ⟨S16384x512, .f32⟩
  | 22 => ⟨S16384x512, .f32⟩
  | 23 => ⟨S_, .f32⟩
  | 24 => ⟨S16384x512, .f32⟩
  | 25 => ⟨S16384x512, .f32⟩
  | 26 => ⟨S16384x512, .f32⟩
  | 27 => ⟨S_, .f32⟩
  | 28 => ⟨S16384x512, .f32⟩
  | 29 => ⟨S16384x512, .f32⟩
  | 30 => ⟨S_, .f32⟩
  | 31 => ⟨S16384x512, .f32⟩
  | 32 => ⟨S16384x512, .f32⟩
  | 33 => ⟨S_, .f32⟩
  | 34 => ⟨S16384x512, .f32⟩
  | 35 => ⟨S16384x512, .f32⟩
  | 36 => ⟨S16384x512, .f32⟩
  | 37 => ⟨S16384x512, .f32⟩
  | 38 => ⟨S_, .f32⟩
  | 39 => ⟨S16384x512, .f32⟩
  | 40 => ⟨S16384x512, .f32⟩
  | 41 => ⟨S16384x512, .f32⟩
  | 42 => ⟨S16384x512, .f32⟩
  | 43 => ⟨S_, .f32⟩
  | 44 => ⟨S16384, .f32⟩
  | 45 => ⟨S16384x1, .f32⟩
  | 46 => ⟨S_, .f32⟩
  | 47 => ⟨S16384x1, .f32⟩
  | 48 => ⟨S16384x1, .f32⟩
  | 49 => ⟨S16384x512, .f32⟩
  | 50 => ⟨S16384x512, .f32⟩
  | 51 => ⟨S16384x512, .f32⟩
  | 52 => ⟨S_, .f32⟩
  | 53 => ⟨S16384, .f32⟩
  | 54 => ⟨S16384x1, .f32⟩
  | 55 => ⟨S_, .f32⟩
  | 56 => ⟨S16384x1, .f32⟩
  | 57 => ⟨S16384x1, .f32⟩
  | 58 => ⟨S_, .f32⟩
  | 59 => ⟨S16384x1, .f32⟩
  | 60 => ⟨S16384x1, .f32⟩
  | 61 => ⟨S16384x1, .f32⟩
  | 62 => ⟨S16384x1, .f32⟩
  | 63 => ⟨S_, .f32⟩
  | 64 => ⟨S16384x1, .f32⟩
  | 65 => ⟨S16384x1, .f32⟩
  | 66 => ⟨S16384x512, .f32⟩
  | 67 => ⟨S16384x512, .f32⟩
  | 68 => ⟨S16384x512, .f32⟩
  | 69 => ⟨S16384x512, .f32⟩
  | 70 => ⟨S16384x512, .f32⟩
  | 71 => ⟨S16384x512, .f32⟩
  | 72 => ⟨S128x128x8x64, .f32⟩
  | 73 => ⟨S8x128x64x128, .f32⟩
  | 74 => ⟨S128x128x8x64, .f32⟩
  | 75 => ⟨S1x128x8x64, .f32⟩
  | 76 => ⟨S128x128x8x64, .f32⟩
  | 77 => ⟨S128x128x8x64, .f32⟩
  | 78 => ⟨S_, .f32⟩
  | 79 => ⟨S16384x512, .f32⟩
  | 80 => ⟨S16384x512, .f32⟩
  | 81 => ⟨S16384x512, .f32⟩
  | 82 => ⟨S_, .f32⟩
  | 83 => ⟨S16384x512, .f32⟩
  | 84 => ⟨S16384x512, .f32⟩
  | 85 => ⟨S_, .f32⟩
  | 86 => ⟨S16384x512, .f32⟩
  | 87 => ⟨S16384x512, .f32⟩
  | 88 => ⟨S16384x512, .f32⟩
  | 89 => ⟨S_, .f32⟩
  | 90 => ⟨S16384x512, .f32⟩
  | 91 => ⟨S16384x512, .f32⟩
  | 92 => ⟨S16384x512, .f32⟩
  | 93 => ⟨S_, .f32⟩
  | 94 => ⟨S16384x512, .f32⟩
  | 95 => ⟨S16384x512, .f32⟩
  | 96 => ⟨S_, .f32⟩
  | 97 => ⟨S16384x512, .f32⟩
  | 98 => ⟨S16384x512, .f32⟩
  | 99 => ⟨S_, .f32⟩
  | 100 => ⟨S16384x512, .f32⟩
  | 101 => ⟨S16384x512, .f32⟩
  | 102 => ⟨S16384x512, .f32⟩
  | 103 => ⟨S16384x512, .f32⟩
  | 104 => ⟨S_, .f32⟩
  | 105 => ⟨S16384x512, .f32⟩
  | 106 => ⟨S16384x512, .f32⟩
  | 107 => ⟨S16384x512, .f32⟩
  | 108 => ⟨S16384x512, .f32⟩
  | 109 => ⟨S16384x512, .f32⟩
  | 110 => ⟨S16384x512, .f32⟩
  | 111 => ⟨S16384x512, .f32⟩
  | 112 => ⟨S16384x512, .f32⟩
  | 113 => ⟨S128x128x8x64, .f32⟩
  | 114 => ⟨S16384x512, .f32⟩
  | 115 => ⟨S_, .f32⟩
  | 116 => ⟨S128x8x64, .f32⟩
  | 117 => ⟨S1x128x8x64, .f32⟩
  | 118 => ⟨S128x512, .f32⟩
  | 119 => ⟨S8x128x64x128, .f32⟩
  | 120 => ⟨S8x128x128, .f32⟩
  | 121 => ⟨S8x128x64x128, .f32⟩
  | 122 => ⟨S128x128x8x64, .f32⟩
  | 123 => ⟨S16384x512, .f32⟩
  | 124 => ⟨S_, .f32⟩
  | 125 => ⟨S512, .f32⟩
  | 126 => ⟨S1x512, .f32⟩
  | 127 => ⟨S16384x512, .f32⟩
  | _ => ⟨S16384x512, .f32⟩

abbrev hbmTy0_1 (i : Nat) : BufTy := match i % 128 with
  | 0 => ⟨S_, .f32⟩
  | 1 => ⟨S512, .f32⟩
  | 2 => ⟨S1x512, .f32⟩
  | 3 => ⟨S16384x512, .f32⟩
  | 4 => ⟨S16384x512, .f32⟩
  | 5 => ⟨S16384x512, .f32⟩
  | 6 => ⟨S_, .f32⟩
  | 7 => ⟨S16384, .f32⟩
  | 8 => ⟨S16384x1, .f32⟩
  | 9 => ⟨S16384x512, .f32⟩
  | 10 => ⟨S16384x512, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384, .f32⟩
  | 17 => ⟨S16384x512, .f32⟩
  | 18 => ⟨S16384x512, .f32⟩
  | 19 => ⟨S16384x512, .f32⟩
  | 20 => ⟨S16384x512, .f32⟩
  | 21 => ⟨S16384x512, .f32⟩
  | 22 => ⟨S16384x512, .f32⟩
  | 23 => ⟨S_, .f32⟩
  | 24 => ⟨S16384, .f32⟩
  | 25 => ⟨S16384x1, .f32⟩
  | 26 => ⟨S_, .f32⟩
  | 27 => ⟨S16384x1, .f32⟩
  | 28 => ⟨S16384x1, .f32⟩
  | 29 => ⟨S_, .f32⟩
  | 30 => ⟨S16384, .f32⟩
  | 31 => ⟨S16384x512, .f32⟩
  | 32 => ⟨S16384x512, .f32⟩
  | 33 => ⟨S16384x512, .f32⟩
  | 34 => ⟨S16384x5120, .bf16⟩
  | 35 => ⟨S16384x512, .bf16⟩
  | 36 => ⟨S16384x512, .bf16⟩
  | 37 => ⟨S16384x2048, .bf16⟩
  | 38 => ⟨S16384x8192, .bf16⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_13 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_14 : Ref sig .tc := ⟨.hbm, 82, rfl⟩
abbrev main_v60 : Ref sig .tc := ⟨.hbm, 83, rfl⟩
abbrev main_v61 : Ref sig .tc := ⟨.hbm, 84, rfl⟩
abbrev main_cst_15 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_16 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_17 : Ref sig .tc := ⟨.hbm, 93, rfl⟩
abbrev main_v68 : Ref sig .tc := ⟨.hbm, 94, rfl⟩
abbrev main_v69 : Ref sig .tc := ⟨.hbm, 95, rfl⟩
abbrev main_cst_18 : Ref sig .tc := ⟨.hbm, 96, rfl⟩
abbrev main_v70 : Ref sig .tc := ⟨.hbm, 97, rfl⟩
abbrev main_v71 : Ref sig .tc := ⟨.hbm, 98, rfl⟩
abbrev main_cst_19 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_20 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_21 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_22 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_23 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_24 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_25 : Ref sig .tc := ⟨.hbm, 140, rfl⟩
abbrev main_v107 : Ref sig .tc := ⟨.hbm, 141, rfl⟩
abbrev main_v108 : Ref sig .tc := ⟨.hbm, 142, rfl⟩
abbrev main_cst_26 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_27 : Ref sig .tc := ⟨.hbm, 151, rfl⟩
abbrev main_v116 : Ref sig .tc := ⟨.hbm, 152, rfl⟩
abbrev main_v117 : Ref sig .tc := ⟨.hbm, 153, rfl⟩
abbrev main_cst_28 : Ref sig .tc := ⟨.hbm, 154, rfl⟩
abbrev main_v118 : Ref sig .tc := ⟨.hbm, 155, rfl⟩
abbrev main_v119 : Ref sig .tc := ⟨.hbm, 156, rfl⟩
abbrev main_cst_29 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩

abbrev nD : Nat := 1
abbrev τ : Topo := Topo.v7x

variable {F : FTy → Type} [FloatOps F]
-- ==== Kernel2.lean ====
abbrev S16384x1024 : Shape := ⟨2, ![16384, 1024]⟩
abbrev S4x2x704x1024 : Shape := ⟨4, ![4, 2, 704, 1024]⟩
abbrev S4x16384x704 : Shape := ⟨3, ![4, 16384, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S4x2x704x1024, .bf16⟩
  | .hbm, ⟨2, _⟩ => ⟨S4x16384x704, .f32⟩
  | .hbm, ⟨3, _⟩ => ⟨S4x16384x704, .f32⟩
  | .hbm, ⟨4, _⟩ => ⟨S4x16384x704, .bf16⟩
  | .hbm, ⟨5, _⟩ => ⟨S4x16384x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1024x704, .f32⟩
  | .local _ .vmem, ⟨5, _⟩ => ⟨S1x1024x704, .f32⟩
  | .local _ .vmem, ⟨6, _⟩ => ⟨S1x1024x704, .f32⟩
  | .local _ .vmem, ⟨7, _⟩ => ⟨S1x1024x704, .f32⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S16384x1024 : Shape := ⟨2, ![16384, 1024]⟩
abbrev S4x2x704x1024 : Shape := ⟨4, ![4, 2, 704, 1024]⟩
abbrev S4x16384x704 : Shape := ⟨3, ![4, 16384, 704]⟩
abbrev S_ : Shape := ⟨0, ![]⟩
abbrev S16384x4x704 : Shape := ⟨3, ![16384, 4, 704]⟩
abbrev S16384x2816 : Shape := ⟨2, ![16384, 2816]⟩
abbrev S4x1x704x1024 : Shape := ⟨4, ![4, 1, 704, 1024]⟩
abbrev S4x704x1024 : Shape := ⟨3, ![4, 704, 1024]⟩
abbrev S2816x1024 : Shape := ⟨2, ![2816, 1024]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x2x704x1024, .bf16⟩
  | .hbm, ⟨2, _⟩ => ⟨S4x16384x704, .f32⟩
  | .hbm, ⟨3, _⟩ => ⟨S4x16384x704, .f32⟩
  | .hbm, ⟨4, _⟩ => ⟨S4x16384x704, .f32⟩
  | .hbm, ⟨5, _⟩ => ⟨S4x16384x704, .f32⟩
  | .hbm, ⟨6, _⟩ => ⟨S_, .f32⟩
  | .hbm, ⟨7, _⟩ => ⟨S4x16384x704, .f32⟩
  | .hbm, ⟨8, _⟩ => ⟨S4x16384x704, .f32⟩
  | .hbm, ⟨9, _⟩ => ⟨S_, .f32⟩
  | .hbm, ⟨10, _⟩ => ⟨S4x16384x704, .f32⟩
  | .hbm, ⟨11, _⟩ => ⟨S4x16384x704, .f32⟩
  | .hbm, ⟨12, _⟩ => ⟨S_, .f32⟩
  | .hbm, ⟨13, _⟩ => ⟨S4x16384x704, .f32⟩
  | .hbm, ⟨14, _⟩ => ⟨S4x16384x704, .f32⟩
  | .hbm, ⟨15, _⟩ => ⟨S4x16384x704, .f32⟩
  | .hbm, ⟨16, _⟩ => ⟨S4x16384x704, .f32⟩
  | .hbm, ⟨17, _⟩ => ⟨S4x16384x704, .f32⟩
  | .hbm, ⟨18, _⟩ => ⟨S16384x4x704, .f32⟩
  | .hbm, ⟨19, _⟩ => ⟨S16384x2816, .f32⟩
  | .hbm, ⟨20, _⟩ => ⟨S4x1x704x1024, .bf16⟩
  | .hbm, ⟨21, _⟩ => ⟨S4x704x1024, .bf16⟩
  | .hbm, ⟨22, _⟩ => ⟨S2816x1024, .bf16⟩
  | .hbm, ⟨23, _⟩ => ⟨S2816x1024, .f32⟩
  | .hbm, ⟨24, _⟩ => ⟨S16384x1024, .f32⟩
  | .hbm, ⟨25, _⟩ => ⟨S16384x1024, .f32⟩
  | .hbm, ⟨26, _⟩ => ⟨S16384x2816, .f32⟩
  | .hbm, ⟨27, _⟩ => ⟨S16384x4x704, .f32⟩
  | .hbm, ⟨28, _⟩ => ⟨S4x16384x704, .f32⟩
  | .hbm, ⟨29, _⟩ => ⟨S4x16384x704, .f32⟩
  | .hbm, ⟨30, _⟩ => ⟨S4x16384x704, .f32⟩
  | .hbm, ⟨31, _⟩ => ⟨S4x16384x704, .f32⟩
  | .hbm, ⟨32, _⟩ => ⟨S4x16384x704, .f32⟩
  | .hbm, ⟨33, _⟩ => ⟨S4x16384x704, .f32⟩
  | .hbm, ⟨34, _⟩ => ⟨S4x16384x704, .f32⟩
  | .hbm, ⟨35, _⟩ => ⟨S4x16384x704, .bf16⟩
  | .hbm, ⟨36, _⟩ => ⟨S4x16384x704, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩

abbrev nD : Nat := 1
abbrev τ : Topo := Topo.v7x

variable {F : FTy → Type} [FloatOps F]
-- ==== Kernel3.lean ====
abbrev S4x16384x704 : Shape := ⟨3, ![4, 16384, 704]⟩
abbrev S4x2x1024x704 : Shape := ⟨4, ![4, 2, 1024, 704]⟩
abbrev S16384x1024 : Shape := ⟨2, ![16384, 1024]⟩
abbrev S1x1024x704 : Shape := ⟨3, ![1, 1024, 704]⟩
abbrev S1x1x1024x704 : Shape := ⟨4, ![1, 1, 1024, 704]⟩
abbrev S1024x1024 : Shape := ⟨2, ![1024, 1024]⟩
abbrev S1024x704 : Shape := ⟨2, ![1024, 704]⟩

abbrev nBuf : Space → Nat
  | .hbm => 5
  | .vmem => 26
  | .smem => 0
  | _ => 0

abbrev bufTy : (tb : Table) → Fin (tcTables nBuf tb) → BufTy
  | .hbm, ⟨0, _⟩ => ⟨S4x16384x704, .bf16⟩
  | .hbm, ⟨1, _⟩ => ⟨S4x16384x704, .bf16⟩
  | .hbm, ⟨2, _⟩ => ⟨S4x2x1024x704, .bf16⟩
  | .hbm, ⟨3, _⟩ => ⟨S4x2x1024x704, .bf16⟩
  | .hbm, ⟨4, _⟩ => ⟨S16384x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S1x1x1024x704, .bf16⟩
  | .local _ .vmem, ⟨21, _⟩ => ⟨S1x1024x704, .bf16⟩
  | .local _ .vmem, ⟨22, _⟩ => ⟨S1x1024x704, .bf16⟩
  | .local _ .vmem, ⟨23, _⟩ => ⟨S1x1x1024x704, .bf16⟩
  | .local _ .vmem, ⟨24, _⟩ => ⟨S1024x1024, .f32⟩
  | .local _ .vmem, ⟨25, _⟩ => ⟨S1024x1024, .f32⟩
  | _, _ => ⟨S4x16384x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_5 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_13 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_14 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_15 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x1024x704 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1x1024x704 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1024x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1x1024x704 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1024x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1x1024x704 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1024x704 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1x1024x704 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1024x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S4x16384x704 : Shape := ⟨3, ![4, 16384, 704]⟩
abbrev S4x2x1024x704 : Shape := ⟨4, ![4, 2, 1024, 704]⟩
abbrev S_ : Shape := ⟨0, ![]⟩
abbrev S16384x1024 : Shape := ⟨2, ![16384, 1024]⟩
abbrev S4x1x1024x704 : Shape := ⟨4, ![4, 1, 1024, 704]⟩
abbrev S4x1024x704 : Shape := ⟨3, ![4, 1024, 704]⟩
abbrev S1024x4x704 : Shape := ⟨3, ![1024, 4, 704]⟩
abbrev S1024x2816 : Shape := ⟨2, ![1024, 2816]⟩
abbrev S16384x2816 : Shape := ⟨2, ![16384, 2816]⟩
abbrev S16384x4x704 : Shape := ⟨3, ![16384, 4, 704]⟩

abbrev nBuf : Space → Nat
  | .hbm => 27
  | .vmem => 0
  | .smem => 0
  | _ => 0

abbrev bufTy : (tb : Table) → Fin (tcTables nBuf tb) → BufTy
  | .hbm, ⟨0, _⟩ => ⟨S4x16384x704, .bf16⟩
  | .hbm, ⟨1, _⟩ => ⟨S4x16384x704, .bf16⟩
  | .hbm, ⟨2, _⟩ => ⟨S4x2x1024x704, .bf16⟩
  | .hbm, ⟨3, _⟩ => ⟨S4x2x1024x704, .bf16⟩
  | .hbm, ⟨4, _⟩ => ⟨S_, .f32⟩
  | .hbm, ⟨5, _⟩ => ⟨S16384x1024, .f32⟩
  | .hbm, ⟨6, _⟩ => ⟨S4x1x1024x704, .bf16⟩
  | .hbm, ⟨7, _⟩ => ⟨S4x1024x704, .bf16⟩
  | .hbm, ⟨8, _⟩ => ⟨S1024x4x704, .bf16⟩
  | .hbm, ⟨9, _⟩ => ⟨S1024x2816, .bf16⟩
  | .hbm, ⟨10, _⟩ => ⟨S1024x2816, .f32⟩
  | .hbm, ⟨11, _⟩ => ⟨S16384x2816, .f32⟩
  | .hbm, ⟨12, _⟩ => ⟨S4x1x1024x704, .bf16⟩
  | .hbm, ⟨13, _⟩ => ⟨S4x1024x704, .bf16⟩
  | .hbm, ⟨14, _⟩ => ⟨S1024x4x704, .bf16⟩
  | .hbm, ⟨15, _⟩ => ⟨S1024x2816, .bf16⟩
  | .hbm, ⟨16, _⟩ => ⟨S1024x2816, .f32⟩
  | .hbm, ⟨17, _⟩ => ⟨S16384x2816, .f32⟩
  | .hbm, ⟨18, _⟩ => ⟨S16384x4x704, .bf16⟩
  | .hbm, ⟨19, _⟩ => ⟨S16384x2816, .bf16⟩
  | .hbm, ⟨20, _⟩ => ⟨S16384x2816, .f32⟩
  | .hbm, ⟨21, _⟩ => ⟨S16384x4x704, .bf16⟩
  | .hbm, ⟨22, _⟩ => ⟨S16384x2816, .bf16⟩
  | .hbm, ⟨23, _⟩ => ⟨S16384x2816, .f32⟩
  | .hbm, ⟨24, _⟩ => ⟨S16384x1024, .f32⟩
  | .hbm, ⟨25, _⟩ => ⟨S16384x1024, .f32⟩
  | .hbm, ⟨26, _⟩ => ⟨S16384x1024, .f32⟩
  | _, _ => ⟨S4x16384x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== Kernel4.lean ====
abbrev S16384x8192 : Shape := ⟨2, ![16384, 8192]⟩
abbrev S4x2x1024x2048 : Shape := ⟨4, ![4, 2, 1024, 2048]⟩
abbrev S16384x1024 : Shape := ⟨2, ![16384, 1024]⟩
abbrev S2048x1024 : Shape := ⟨2, ![2048, 1024]⟩
abbrev S1x1x1024x1024 : Shape := ⟨4, ![1, 1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x8192, .bf16⟩
  | .hbm, ⟨1, _⟩ => ⟨S4x2x1024x2048, .bf16⟩
  | .hbm, ⟨2, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S2048x1024, .f32⟩
  | .local _ .vmem, ⟨5, _⟩ => ⟨S2048x1024, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg1 : BitVec 32 := BitVec.ofNat 32 (i 1).val
  let c0_i32_6 : BitVec 32 := 0#32
  let v7 : BitVec 1 := Scalar.cmpi .sgt arg1 c0_i32_6
  let v8 : BitVec 32 := Scalar.extui v7
  let c0_i32_7 : BitVec 32 := 0#32
  let v9 : BitVec 1 := Scalar.cmpi .ne v8 c0_i32_7
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![v16.toNat, c1_i32_10.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S16384x8192 : Shape := ⟨2, ![16384, 8192]⟩
abbrev S4x2x1024x2048 : Shape := ⟨4, ![4, 2, 1024, 2048]⟩
abbrev S_ : Shape := ⟨0, ![]⟩
abbrev S16384x1024 : Shape := ⟨2, ![16384, 1024]⟩
abbrev S4x1x1024x2048 : Shape := ⟨4, ![4, 1, 1024, 2048]⟩
abbrev S4x1024x2048 : Shape := ⟨3, ![4, 1024, 2048]⟩
abbrev S1024x4x2048 : Shape := ⟨3, ![1024, 4, 2048]⟩
abbrev S1024x8192 : Shape := ⟨2, ![1024, 8192]⟩

abbrev nBuf : Space → Nat
  | .hbm => 12
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S4x2x1024x2048, .bf16⟩
  | .hbm, ⟨2, _⟩ => ⟨S_, .f32⟩
  | .hbm, ⟨3, _⟩ => ⟨S16384x1024, .f32⟩
  | .hbm, ⟨4, _⟩ => ⟨S4x1x1024x2048, .bf16⟩
  | .hbm, ⟨5, _⟩ => ⟨S4x1024x2048, .bf16⟩
  | .hbm, ⟨6, _⟩ => ⟨S1024x4x2048, .bf16⟩
  | .hbm, ⟨7, _⟩ => ⟨S1024x8192, .bf16⟩
  | .hbm, ⟨8, _⟩ => ⟨S1024x8192, .f32⟩
  | .hbm, ⟨9, _⟩ => ⟨S16384x8192, .f32⟩
  | .hbm, ⟨10, _⟩ => ⟨S16384x8192, .f32⟩
  | .hbm, ⟨11, _⟩ => ⟨S16384x1024, .f32⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S16384x1024 : Shape := ⟨2, ![16384, 1024]⟩
abbrev S16384x8192 : Shape := ⟨2, ![16384, 8192]⟩
abbrev S4x2x1024x2048 : Shape := ⟨4, ![4, 2, 1024, 2048]⟩
abbrev S2048x1024 : Shape := ⟨2, ![2048, 1024]⟩
abbrev S1x1x1024x1024 : Shape := ⟨4, ![1, 1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x8192, .bf16⟩
  | .hbm, ⟨2, _⟩ => ⟨S4x2x1024x2048, .bf16⟩
  | .hbm, ⟨3, _⟩ => ⟨S4x2x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S16384x1024 : Shape := ⟨2, ![16384, 1024]⟩
abbrev S16384x8192 : Shape := ⟨2, ![16384, 8192]⟩
abbrev S4x2x1024x2048 : Shape := ⟨4, ![4, 2, 1024, 2048]⟩
abbrev S_ : Shape := ⟨0, ![]⟩
abbrev S1024x8192 : Shape := ⟨2, ![1024, 8192]⟩
abbrev S8192x1024 : Shape := ⟨2, ![8192, 1024]⟩
abbrev S1024x4x2048 : Shape := ⟨3, ![1024, 4, 2048]⟩
abbrev S4x1024x2048 : Shape := ⟨3, ![4, 1024, 2048]⟩
abbrev S4x1x1024x2048 : Shape := ⟨4, ![4, 1, 1024, 2048]⟩

abbrev nBuf : Space → Nat
  | .hbm => 16
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x8192, .bf16⟩
  | .hbm, ⟨2, _⟩ => ⟨S4x2x1024x2048, .bf16⟩
  | .hbm, ⟨3, _⟩ => ⟨S_, .f32⟩
  | .hbm, ⟨4, _⟩ => ⟨S1024x8192, .f32⟩
  | .hbm, ⟨5, _⟩ => ⟨S16384x1024, .f32⟩
  | .hbm, ⟨6, _⟩ => ⟨S16384x8192, .f32⟩
  | .hbm, ⟨7, _⟩ => ⟨S16384x8192, .f32⟩
  | .hbm, ⟨8, _⟩ => ⟨S8192x1024, .f32⟩
  | .hbm, ⟨9, _⟩ => ⟨S1024x8192, .f32⟩
  | .hbm, ⟨10, _⟩ => ⟨S1024x4x2048, .f32⟩
  | .hbm, ⟨11, _⟩ => ⟨S4x1024x2048, .f32⟩
  | .hbm, ⟨12, _⟩ => ⟨S4x1024x2048, .bf16⟩
  | .hbm, ⟨13, _⟩ => ⟨S4x1x1024x2048, .bf16⟩
  | .hbm, ⟨14, _⟩ => ⟨S4x1x1024x2048, .bf16⟩
  | .hbm, ⟨15, _⟩ => ⟨S4x2x1024x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel6.lean ====
abbrev S4x16384x704 : Shape := ⟨3, ![4, 16384, 704]⟩
abbrev S16384x1024 : Shape := ⟨2, ![16384, 1024]⟩
abbrev S4x2x704x1024 : Shape := ⟨4, ![4, 2, 704, 1024]⟩
abbrev S1x1024x704 : Shape := ⟨3, ![1, 1024, 704]⟩
abbrev S1024x1024 : Shape := ⟨2, ![1024, 1024]⟩
abbrev S1x1x704x1024 : Shape := ⟨4, ![1, 1, 704, 1024]⟩
abbrev S704x1024 : Shape := ⟨2, ![704, 1024]⟩
abbrev S1024x704 : Shape := ⟨2, ![1024, 704]⟩

abbrev nBuf : Space → Nat
  | .hbm => 4
  | .vmem => 7
  | .smem => 0
  | _ => 0

abbrev bufTy : (tb : Table) → Fin (tcTables nBuf tb) → BufTy
  | .hbm, ⟨0, _⟩ => ⟨S4x16384x704, .bf16⟩
  | .hbm, ⟨1, _⟩ => ⟨S16384x1024, .bf16⟩
  | .hbm, ⟨2, _⟩ => ⟨S4x2x704x1024, .bf16⟩
  | .hbm, ⟨3, _⟩ => ⟨S4x2x704x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S704x1024, .f32⟩
  | _, _ => ⟨S4x16384x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond3 (i : grid0.Coords) : BitVec 1 :=
  let arg1 : BitVec 32 := BitVec.ofNat 32 (i 1).val
  let c15_i32 : BitVec 32 := 15#32
  let v10 : BitVec 1 := Scalar.cmpi .eq arg1 c15_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4x16384x704 : Shape := ⟨3, ![4, 16384, 704]⟩
abbrev S16384x1024 : Shape := ⟨2, ![16384, 1024]⟩
abbrev S4x2x704x1024 : Shape := ⟨4, ![4, 2, 704, 1024]⟩
abbrev S16384x4x704 : Shape := ⟨3, ![16384, 4, 704]⟩
abbrev S16384x2816 : Shape := ⟨2, ![16384, 2816]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩
abbrev S4x1x704x1024 : Shape := ⟨4, ![4, 1, 704, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4x16384x704, .bf16⟩
  | .hbm, ⟨1, _⟩ => ⟨S16384x1024, .bf16⟩
  | .hbm, ⟨2, _⟩ => ⟨S4x2x704x1024, .bf16⟩
  | .hbm, ⟨3, _⟩ => ⟨S16384x4x704, .bf16⟩
  | .hbm, ⟨4, _⟩ => ⟨S16384x2816, .bf16⟩
  | .hbm, ⟨5, _⟩ => ⟨S16384x2816, .f32⟩
  | .hbm, ⟨6, _⟩ => ⟨S_, .f32⟩
  | .hbm, ⟨7, _⟩ => ⟨S2816x1024, .f32⟩
  | .hbm, ⟨8, _⟩ => ⟨S16384x1024, .f32⟩
  | .hbm, ⟨9, _⟩ => ⟨S16384x1024, .f32⟩
  | .hbm, ⟨10, _⟩ => ⟨S1024x2816, .f32⟩
  | .hbm, ⟨11, _⟩ => ⟨S2816x1024, .f32⟩
  | .hbm, ⟨12, _⟩ => ⟨S4x704x1024, .f32⟩
  | .hbm, ⟨13, _⟩ => ⟨S4x704x1024, .bf16⟩
  | .hbm, ⟨14, _⟩ => ⟨S4x1x704x1024, .bf16⟩
  | .hbm, ⟨15, _⟩ => ⟨S4x1x704x1024, .bf16⟩
  | .hbm, ⟨16, _⟩ => ⟨S4x2x704x1024, .bf16⟩
  | _, _ => ⟨S4x16384x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel7.lean ====
abbrev S16384x1024 : Shape := ⟨2, ![16384, 1024]⟩
abbrev S4x16384x704 : Shape := ⟨3, ![4, 16384, 704]⟩
abbrev S4x2x1024x704 : Shape := ⟨4, ![4, 2, 1024, 704]⟩
abbrev S1024x1024 : Shape := ⟨2, ![1024, 1024]⟩
abbrev S1x1024x704 : Shape := ⟨3, ![1, 1024, 704]⟩
abbrev S1x1x1024x704 : Shape := ⟨4, ![1, 1, 1024, 704]⟩
abbrev S1024x704 : Shape := ⟨2, ![1024, 704]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S4x16384x704, .bf16⟩
  | .hbm, ⟨2, _⟩ => ⟨S4x2x1024x704, .bf16⟩
  | .hbm, ⟨3, _⟩ => ⟨S4x2x1024x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1024x704, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond3 (i : grid0.Coords) : BitVec 1 :=
  let arg1 : BitVec 32 := BitVec.ofNat 32 (i 1).val
  let c15_i32 : BitVec 32 := 15#32
  let v10 : BitVec 1 := Scalar.cmpi .eq arg1 c15_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S16384x1024 : Shape := ⟨2, ![16384, 1024]⟩
abbrev S4x16384x704 : Shape := ⟨3, ![4, 16384, 704]⟩
abbrev S4x2x1024x704 : Shape := ⟨4, ![4, 2, 1024, 704]⟩
abbrev S16384x4x704 : Shape := ⟨3, ![16384, 4, 704]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩
abbrev S4x1x1024x704 : Shape := ⟨4, ![4, 1, 1024, 704]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x16384x704, .bf16⟩
  | .hbm, ⟨2, _⟩ => ⟨S4x2x1024x704, .bf16⟩
  | .hbm, ⟨3, _⟩ => ⟨S16384x4x704, .bf16⟩
  | .hbm, ⟨4, _⟩ => ⟨S16384x2816, .bf16⟩
  | .hbm, ⟨5, _⟩ => ⟨S16384x2816, .f32⟩
  | .hbm, ⟨6, _⟩ => ⟨S_, .f32⟩
  | .hbm, ⟨7, _⟩ => ⟨S1024x2816, .f32⟩
  | .hbm, ⟨8, _⟩ => ⟨S16384x1024, .f32⟩
  | .hbm, ⟨9, _⟩ => ⟨S16384x2816, .f32⟩
  | .hbm, ⟨10, _⟩ => ⟨S2816x1024, .f32⟩
  | .hbm, ⟨11, _⟩ => ⟨S1024x2816, .f32⟩
  | .hbm, ⟨12, _⟩ => ⟨S1024x4x704, .f32⟩
  | .hbm, ⟨13, _⟩ => ⟨S4x1024x704, .f32⟩
  | .hbm, ⟨14, _⟩ => ⟨S4x1024x704, .bf16⟩
  | .hbm, ⟨15, _⟩ => ⟨S4x1x1024x704, .bf16⟩
  | .hbm, ⟨16, _⟩ => ⟨S4x1x1024x704, .bf16⟩
  | .hbm, ⟨17, _⟩ => ⟨S4x2x1024x704, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel8.lean ====
abbrev S16384x1024 : Shape := ⟨2, ![16384, 1024]⟩
abbrev S4x2x1024x2048 : Shape := ⟨4, ![4, 2, 1024, 2048]⟩
abbrev S16384x8192 : Shape := ⟨2, ![16384, 8192]⟩
abbrev S2048x1024 : Shape := ⟨2, ![2048, 1024]⟩
abbrev S1x1x1024x1024 : Shape := ⟨4, ![1, 1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S4x2x1024x2048, .bf16⟩
  | .hbm, ⟨2, _⟩ => ⟨S16384x8192, .f32⟩
  | .local _ .vmem, ⟨0, _⟩ => ⟨S2048x1024, .bf16⟩
  | .local _ .vmem, ⟨1, _⟩ => ⟨S2048x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S2048x1024, .f32⟩
  | .local _ .vmem, ⟨5, _⟩ => ⟨S2048x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![v16.toNat, c1_i32_10.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S16384x1024 : Shape := ⟨2, ![16384, 1024]⟩
abbrev S4x2x1024x2048 : Shape := ⟨4, ![4, 2, 1024, 2048]⟩
abbrev S4x1x1024x2048 : Shape := ⟨4, ![4, 1, 1024, 2048]⟩
abbrev S4x1024x2048 : Shape := ⟨3, ![4, 1024, 2048]⟩
abbrev S1024x4x2048 : Shape := ⟨3, ![1024, 4, 2048]⟩
abbrev S1024x8192 : Shape := ⟨2, ![1024, 8192]⟩
abbrev S16384x8192 : Shape := ⟨2, ![16384, 8192]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x2x1024x2048, .bf16⟩
  | .hbm, ⟨2, _⟩ => ⟨S16384x1024, .f32⟩
  | .hbm, ⟨3, _⟩ => ⟨S4x1x1024x2048, .bf16⟩
  | .hbm, ⟨4, _⟩ => ⟨S4x1024x2048, .bf16⟩
  | .hbm, ⟨5, _⟩ => ⟨S1024x4x2048, .bf16⟩
  | .hbm, ⟨6, _⟩ => ⟨S1024x8192, .bf16⟩
  | .hbm, ⟨7, _⟩ => ⟨S1024x8192, .f32⟩
  | .hbm, ⟨8, _⟩ => ⟨S16384x8192, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel9.lean ====
abbrev S16384x1024 : Shape := ⟨2, ![16384, 1024]⟩
abbrev S4x2x1024x704 : Shape := ⟨4, ![4, 2, 1024, 704]⟩
abbrev S4x16384x704 : Shape := ⟨3, ![4, 16384, 704]⟩
abbrev S1024x1024 : Shape := ⟨2, ![1024, 1024]⟩
abbrev S1x1x1024x704 : Shape := ⟨4, ![1, 1, 1024, 704]⟩
abbrev S1x1024x704 : Shape := ⟨3, ![1, 1024, 704]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S4x2x1024x704, .bf16⟩
  | .hbm, ⟨2, _⟩ => ⟨S4x2x1024x704, .bf16⟩
  | .hbm, ⟨3, _⟩ => ⟨S4x16384x704, .f32⟩
  | .hbm, ⟨4, _⟩ => ⟨S4x16384x704, .f32⟩
  | .hbm, ⟨5, _⟩ => ⟨S4x16384x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1024x704, .f32⟩
  | .local _ .vmem, ⟨7, _⟩ => ⟨S1x1024x704, .f32⟩
  | .local _ .vmem, ⟨8, _⟩ => ⟨S1x1024x704, .f32⟩
  | .local _ .vmem, ⟨9, _⟩ => ⟨S1x1024x704, .f32⟩
  | .local _ .vmem, ⟨10, _⟩ => ⟨S1x1024x704, .bf16⟩
  | .local _ .vmem, ⟨11, _⟩ => ⟨S1x1024x704, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S16384x1024 : Shape := ⟨2, ![16384, 1024]⟩
abbrev S4x2x1024x704 : Shape := ⟨4, ![4, 2, 1024, 704]⟩
abbrev S4x1x1024x704 : Shape := ⟨4, ![4, 1, 1024, 704]⟩
abbrev S4x1024x704 : Shape := ⟨3, ![4, 1024, 704]⟩
abbrev S1024x4x704 : Shape := ⟨3, ![1024, 4, 704]⟩
abbrev S1024x2816 : Shape := ⟨2, ![1024, 2816]⟩
abbrev S16384x2816 : Shape := ⟨2, ![16384, 2816]⟩
abbrev S16384x4x704 : Shape := ⟨3, ![16384, 4, 704]⟩
abbrev S4x16384x704 : Shape := ⟨3, ![4, 16384, 704]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x2x1024x704, .bf16⟩
  | .hbm, ⟨2, _⟩ => ⟨S4x2x1024x704, .bf16⟩
  | .hbm, ⟨3, _⟩ => ⟨S16384x1024, .f32⟩
  | .hbm, ⟨4, _⟩ => ⟨S4x1x1024x704, .bf16⟩
  | .hbm, ⟨5, _⟩ => ⟨S4x1024x704, .bf16⟩
  | .hbm, ⟨6, _⟩ => ⟨S1024x4x704, .bf16⟩
  | .hbm, ⟨7, _⟩ => ⟨S1024x2816, .bf16⟩
  | .hbm, ⟨8, _⟩ => ⟨S1024x2816, .f32⟩
  | .hbm, ⟨9, _⟩ => ⟨S16384x2816, .f32⟩
  | .hbm, ⟨10, _⟩ => ⟨S16384x4x704, .f32⟩
  | .hbm, ⟨11, _⟩ => ⟨S4x16384x704, .f32⟩
  | .hbm, ⟨12, _⟩ => ⟨S16384x1024, .f32⟩
  | .hbm, ⟨13, _⟩ => ⟨S4x1x1024x704, .bf16⟩
  | .hbm, ⟨14, _⟩ => ⟨S4x1024x704, .bf16⟩
  | .hbm, ⟨15, _⟩ => ⟨S1024x4x704, .bf16⟩
  | .hbm, ⟨16, _⟩ => ⟨S1024x2816, .bf16⟩
  | .hbm, ⟨17, _⟩ => ⟨S1024x2816, .f32⟩
  | .hbm, ⟨18, _⟩ => ⟨S16384x2816, .f32⟩
  | .hbm, ⟨19, _⟩ => ⟨S16384x4x704, .f32⟩
  | .hbm, ⟨20, _⟩ => ⟨S4x16384x704, .f32⟩
  | .hbm, ⟨21, _⟩ => ⟨S4x16384x704, .f32⟩
  | .hbm, ⟨22, _⟩ => ⟨S4x16384x704, .f32⟩
  | .hbm, ⟨23, _⟩ => ⟨S_, .f32⟩
  | .hbm, ⟨24, _⟩ => ⟨S4x16384x704, .f32⟩
  | .hbm, ⟨25, _⟩ => ⟨S4x16384x704, .f32⟩
  | .hbm, ⟨26, _⟩ => ⟨S_, .f32⟩
  | .hbm, ⟨27, _⟩ => ⟨S4x16384x704, .f32⟩
  | .hbm, ⟨28, _⟩ => ⟨S4x16384x704, .f32⟩
  | .hbm, ⟨29, _⟩ => ⟨S4x16384x704, .f32⟩
  | .hbm, ⟨30, _⟩ => ⟨S4x16384x704, .f32⟩
  | .hbm, ⟨31, _⟩ => ⟨S4x16384x704, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Kernel10.lean ====
abbrev S4x16384x704 : Shape := ⟨3, ![4, 16384, 704]⟩
abbrev S4x2x704x1024 : Shape := ⟨4, ![4, 2, 704, 1024]⟩
abbrev S16384x1024 : Shape := ⟨2, ![16384, 1024]⟩
abbrev S1x1024x704 : Shape := ⟨3, ![1, 1024, 704]⟩
abbrev S1x1x704x1024 : Shape := ⟨4, ![1, 1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 3
  | .vmem => 14
  | .smem => 0
  | _ => 0

abbrev bufTy : (tb : Table) → Fin (tcTables nBuf tb) → BufTy
  | .hbm, ⟨0, _⟩ => ⟨S4x16384x704, .bf16⟩
  | .hbm, ⟨1, _⟩ => ⟨S4x2x704x1024, .bf16⟩
  | .hbm, ⟨2, _⟩ => ⟨S16384x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1x704x1024, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1x704x1024, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1x704x1024, .bf16⟩
  | .local _ .vmem, ⟨12, _⟩ => ⟨S1024x1024, .f32⟩
  | .local _ .vmem, ⟨13, _⟩ => ⟨S1024x1024, .f32⟩
  | _, _ => ⟨S4x16384x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_5 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S4x16384x704 : Shape := ⟨3, ![4, 16384, 704]⟩
abbrev S4x2x704x1024 : Shape := ⟨4, ![4, 2, 704, 1024]⟩
abbrev S16384x4x704 : Shape := ⟨3, ![16384, 4, 704]⟩
abbrev S16384x2816 : Shape := ⟨2, ![16384, 2816]⟩
abbrev S4x1x704x1024 : Shape := ⟨4, ![4, 1, 704, 1024]⟩
abbrev S4x704x1024 : Shape := ⟨3, ![4, 704, 1024]⟩
abbrev S2816x1024 : Shape := ⟨2, ![2816, 1024]⟩
abbrev S16384x1024 : Shape := ⟨2, ![16384, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x16384x704, .bf16⟩
  | .hbm, ⟨1, _⟩ => ⟨S4x2x704x1024, .bf16⟩
  | .hbm, ⟨2, _⟩ => ⟨S16384x4x704, .bf16⟩
  | .hbm, ⟨3, _⟩ => ⟨S16384x2816, .bf16⟩
  | .hbm, ⟨4, _⟩ => ⟨S16384x2816, .f32⟩
  | .hbm, ⟨5, _⟩ => ⟨S4x1x704x1024, .bf16⟩
  | .hbm, ⟨6, _⟩ => ⟨S4x704x1024, .bf16⟩
  | .hbm, ⟨7, _⟩ => ⟨S2816x1024, .bf16⟩
  | .hbm, ⟨8, _⟩ => ⟨S2816x1024, .f32⟩
  | .hbm, ⟨9, _⟩ => ⟨S16384x1024, .f32⟩
  | _, _ => ⟨S4x16384x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel11.lean ====
abbrev S16384x1024 : Shape := ⟨2, ![16384, 1024]⟩
abbrev S16384x8192 : Shape := ⟨2, ![16384, 8192]⟩
abbrev S4x2x1024x2048 : Shape := ⟨4, ![4, 2, 1024, 2048]⟩
abbrev S2048x1024 : Shape := ⟨2, ![2048, 1024]⟩
abbrev S1x1x1024x1024 : Shape := ⟨4, ![1, 1, 1024, 1024]⟩
abbrev S1024x1024 : Shape := ⟨2, ![1024, 1024]⟩
abbrev S4x1x1024x2048 : Shape := ⟨4, ![4, 1, 1024, 2048]⟩
abbrev S4x1024x2048 : Shape := ⟨3, ![4, 1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x8192, .bf16⟩
  | .hbm, ⟨2, _⟩ => ⟨S4x2x1024x2048, .bf16⟩
  | .hbm, ⟨3, _⟩ => ⟨S4x1x1024x2048, .bf16⟩
  | .hbm, ⟨4, _⟩ => ⟨S4x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![v16.toNat, c1_i32_10.toNat, c0_i32_11.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference11Ideal.lean ====
abbrev S16384x1024 : Shape := ⟨2, ![16384, 1024]⟩
abbrev S16384x8192 : Shape := ⟨2, ![16384, 8192]⟩
abbrev S_ : Shape := ⟨0, ![]⟩
abbrev S1024x8192 : Shape := ⟨2, ![1024, 8192]⟩
abbrev S8192x1024 : Shape := ⟨2, ![8192, 1024]⟩
abbrev S1024x4x2048 : Shape := ⟨3, ![1024, 4, 2048]⟩
abbrev S4x1024x2048 : Shape := ⟨3, ![4, 1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x8192, .bf16⟩
  | .hbm, ⟨2, _⟩ => ⟨S_, .f32⟩
  | .hbm, ⟨3, _⟩ => ⟨S1024x8192, .f32⟩
  | .hbm, ⟨4, _⟩ => ⟨S16384x1024, .f32⟩
  | .hbm, ⟨5, _⟩ => ⟨S16384x8192, .f32⟩
  | .hbm, ⟨6, _⟩ => ⟨S16384x8192, .f32⟩
  | .hbm, ⟨7, _⟩ => ⟨S8192x1024, .f32⟩
  | .hbm, ⟨8, _⟩ => ⟨S1024x8192, .f32⟩
  | .hbm, ⟨9, _⟩ => ⟨S1024x4x2048, .f32⟩
  | .hbm, ⟨10, _⟩ => ⟨S4x1024x2048, .f32⟩
  | .hbm, ⟨11, _⟩ => ⟨S4x1024x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel12.lean ====
abbrev S4x16384x704 : Shape := ⟨3, ![4, 16384, 704]⟩
abbrev S16384x1024 : Shape := ⟨2, ![16384, 1024]⟩
abbrev S4x2x704x1024 : Shape := ⟨4, ![4, 2, 704, 1024]⟩
abbrev S1x1024x704 : Shape := ⟨3, ![1, 1024, 704]⟩
abbrev S1024x1024 : Shape := ⟨2, ![1024, 1024]⟩
abbrev S1x1x704x1024 : Shape := ⟨4, ![1, 1, 704, 1024]⟩
abbrev S704x1024 : Shape := ⟨2, ![704, 1024]⟩
abbrev S1024x704 : Shape := ⟨2, ![1024, 704]⟩
abbrev S4x1x704x1024 : Shape := ⟨4, ![4, 1, 704, 1024]⟩
abbrev S4x704x1024 : Shape := ⟨3, ![4, 704, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x16384x704, .bf16⟩
  | .hbm, ⟨1, _⟩ => ⟨S16384x1024, .bf16⟩
  | .hbm, ⟨2, _⟩ => ⟨S4x2x704x1024, .bf16⟩
  | .hbm, ⟨3, _⟩ => ⟨S4x1x704x1024, .bf16⟩
  | .hbm, ⟨4, _⟩ => ⟨S4x704x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S704x1024, .f32⟩
  | _, _ => ⟨S4x16384x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond3 (i : grid0.Coords) : BitVec 1 :=
  let arg1 : BitVec 32 := BitVec.ofNat 32 (i 1).val
  let c15_i32 : BitVec 32 := 15#32
  let v10 : BitVec 1 := Scalar.cmpi .eq arg1 c15_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference12Ideal.lean ====
abbrev S4x16384x704 : Shape := ⟨3, ![4, 16384, 704]⟩
abbrev S16384x1024 : Shape := ⟨2, ![16384, 1024]⟩
abbrev S16384x4x704 : Shape := ⟨3, ![16384, 4, 704]⟩
abbrev S16384x2816 : Shape := ⟨2, ![16384, 2816]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x16384x704, .bf16⟩
  | .hbm, ⟨1, _⟩ => ⟨S16384x1024, .bf16⟩
  | .hbm, ⟨2, _⟩ => ⟨S16384x4x704, .bf16⟩
  | .hbm, ⟨3, _⟩ => ⟨S16384x2816, .bf16⟩
  | .hbm, ⟨4, _⟩ => ⟨S16384x2816, .f32⟩
  | .hbm, ⟨5, _⟩ => ⟨S_, .f32⟩
  | .hbm, ⟨6, _⟩ => ⟨S2816x1024, .f32⟩
  | .hbm, ⟨7, _⟩ => ⟨S16384x1024, .f32⟩
  | .hbm, ⟨8, _⟩ => ⟨S16384x1024, .f32⟩
  | .hbm, ⟨9, _⟩ => ⟨S1024x2816, .f32⟩
  | .hbm, ⟨10, _⟩ => ⟨S2816x1024, .f32⟩
  | .hbm, ⟨11, _⟩ => ⟨S4x704x1024, .f32⟩
  | .hbm, ⟨12, _⟩ => ⟨S4x704x1024, .bf16⟩
  | _, _ => ⟨S4x16384x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel13.lean ====
abbrev S16384x1024 : Shape := ⟨2, ![16384, 1024]⟩
abbrev S4x16384x704 : Shape := ⟨3, ![4, 16384, 704]⟩
abbrev S4x2x1024x704 : Shape := ⟨4, ![4, 2, 1024, 704]⟩
abbrev S1024x1024 : Shape := ⟨2, ![1024, 1024]⟩
abbrev S1x1024x704 : Shape := ⟨3, ![1, 1024, 704]⟩
abbrev S1x1x1024x704 : Shape := ⟨4, ![1, 1, 1024, 704]⟩
abbrev S1024x704 : Shape := ⟨2, ![1024, 704]⟩
abbrev S4x1x1024x704 : Shape := ⟨4, ![4, 1, 1024, 704]⟩
abbrev S4x1024x704 : Shape := ⟨3, ![4, 1024, 704]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S4x16384x704, .bf16⟩
  | .hbm, ⟨2, _⟩ => ⟨S4x2x1024x704, .bf16⟩
  | .hbm, ⟨3, _⟩ => ⟨S4x1x1024x704, .bf16⟩
  | .hbm, ⟨4, _⟩ => ⟨S4x1024x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1024x704, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond3 (i : grid0.Coords) : BitVec 1 :=
  let arg1 : BitVec 32 := BitVec.ofNat 32 (i 1).val
  let c15_i32 : BitVec 32 := 15#32
  let v10 : BitVec 1 := Scalar.cmpi .eq arg1 c15_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference13Ideal.lean ====
abbrev S16384x1024 : Shape := ⟨2, ![16384, 1024]⟩
abbrev S4x16384x704 : Shape := ⟨3, ![4, 16384, 704]⟩
abbrev S16384x4x704 : Shape := ⟨3, ![16384, 4, 704]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩

abbrev nBuf : Space → Nat
  | .hbm => 14
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x16384x704, .bf16⟩
  | .hbm, ⟨2, _⟩ => ⟨S16384x4x704, .bf16⟩
  | .hbm, ⟨3, _⟩ => ⟨S16384x2816, .bf16⟩
  | .hbm, ⟨4, _⟩ => ⟨S16384x2816, .f32⟩
  | .hbm, ⟨5, _⟩ => ⟨S_, .f32⟩
  | .hbm, ⟨6, _⟩ => ⟨S1024x2816, .f32⟩
  | .hbm, ⟨7, _⟩ => ⟨S16384x1024, .f32⟩
  | .hbm, ⟨8, _⟩ => ⟨S16384x2816, .f32⟩
  | .hbm, ⟨9, _⟩ => ⟨S2816x1024, .f32⟩
  | .hbm, ⟨10, _⟩ => ⟨S1024x2816, .f32⟩
  | .hbm, ⟨11, _⟩ => ⟨S1024x4x704, .f32⟩
  | .hbm, ⟨12, _⟩ => ⟨S4x1024x704, .f32⟩
  | .hbm, ⟨13, _⟩ => ⟨S4x1024x704, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel14.lean ====
abbrev S16384x1024 : Shape := ⟨2, ![16384, 1024]⟩
abbrev S4x2x256x1024 : Shape := ⟨4, ![4, 2, 256, 1024]⟩
abbrev S16384x8192 : Shape := ⟨2, ![16384, 8192]⟩
abbrev S512x1024 : Shape := ⟨2, ![512, 1024]⟩
abbrev S4x1x256x1024 : Shape := ⟨4, ![4, 1, 256, 1024]⟩
abbrev S512x2048 : Shape := ⟨2, ![512, 2048]⟩
abbrev S4x256x1024 : Shape := ⟨3, ![4, 256, 1024]⟩
abbrev S1024x1024 : Shape := ⟨2, ![1024, 1024]⟩
abbrev S16384x2048 : Shape := ⟨2, ![16384, 2048]⟩

abbrev nBuf : Space → Nat
  | .hbm => 9
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S4x2x256x1024, .bf16⟩
  | .hbm, ⟨2, _⟩ => ⟨S16384x1024, .f32⟩
  | .hbm, ⟨3, _⟩ => ⟨S16384x1024, .f32⟩
  | .hbm, ⟨4, _⟩ => ⟨S16384x8192, .f32⟩
  | .hbm, ⟨5, _⟩ => ⟨S16384x1024, .bf16⟩
  | .hbm, ⟨6, _⟩ => ⟨S16384x1024, .bf16⟩
  | .hbm, ⟨7, _⟩ => ⟨S16384x8192, .bf16⟩
  | .hbm, ⟨8, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S4x1x256x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S16384x1024 : Shape := ⟨2, ![16384, 1024]⟩
abbrev S4x2x256x1024 : Shape := ⟨4, ![4, 2, 256, 1024]⟩
abbrev S16384x8192 : Shape := ⟨2, ![16384, 8192]⟩
abbrev S_ : Shape := ⟨0, ![]⟩
abbrev S4x1x256x1024 : Shape := ⟨4, ![4, 1, 256, 1024]⟩
abbrev S4x256x1024 : Shape := ⟨3, ![4, 256, 1024]⟩
abbrev S1024x1024 : Shape := ⟨2, ![1024, 1024]⟩
abbrev S16384x2048 : Shape := ⟨2, ![16384, 2048]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x2x256x1024, .bf16⟩
  | .hbm, ⟨2, _⟩ => ⟨S16384x1024, .f32⟩
  | .hbm, ⟨3, _⟩ => ⟨S16384x1024, .f32⟩
  | .hbm, ⟨4, _⟩ => ⟨S16384x8192, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S4x1x256x1024, .bf16⟩
  | .hbm, ⟨35, _⟩ => ⟨S4x256x1024, .bf16⟩
  | .hbm, ⟨36, _⟩ => ⟨S1024x1024, .bf16⟩
  | .hbm, ⟨37, _⟩ => ⟨S1024x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .bf16⟩
  | .hbm, ⟨48, _⟩ => ⟨S16384x1024, .bf16⟩
  | .hbm, ⟨49, _⟩ => ⟨S16384x2048, .f32⟩
  | .hbm, ⟨50, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel15.lean ====
abbrev S16384x1024 : Shape := ⟨2, ![16384, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v32 : BitVec 32 := Scalar.extui v30
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32 : BitVec 32 := 0#32
  let v30 : BitVec 1 := Scalar.cmpi .eq arg0 c0_i32
  let v_true : BitVec 1 := 1#1
  let v34 : BitVec 1 := Scalar.xori v30 v_true
  let v35 : BitVec 32 := Scalar.extui v34
  let c0_i32_15 : BitVec 32 := 0#32
  let v36 : BitVec 1 := Scalar.cmpi .ne v35 c0_i32_15
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference15Ideal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel16.lean ====
abbrev S16384x1024 : Shape := ⟨2, ![16384, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .bf16⟩
  | .hbm, ⟨4, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | .local _ .vmem, ⟨7, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v28 : BitVec 1 := Scalar.cmpi .eq arg0 c0_i32
  let v31 : BitVec 32 := Scalar.extui v28
  let c0_i32_12 : BitVec 32 := 0#32
  let v32 : BitVec 1 := Scalar.cmpi .ne v31 c0_i32_12
  v32

def k0_cond2 (i : grid0.Coords) : BitVec 1 :=
  let arg0 : BitVec 32 := BitVec.ofNat 32 (i 0).val
  let c0_i32 : BitVec 32 := 0#32
  let v28 : BitVec 1 := Scalar.cmpi .eq arg0 c0_i32
  let v_true : BitVec 1 := 1#1
  let v33 : BitVec 1 := Scalar.xori v28 v_true
  let v34 : BitVec 32 := Scalar.extui v33
  let c0_i32_13 : BitVec 32 := 0#32
  let v35 : BitVec 1 := Scalar.cmpi .ne v34 c0_i32_13
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference16Ideal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel17.lean ====
abbrev S16384x1024 : Shape := ⟨2, ![16384, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S16384x1024, .bf16⟩
  | .hbm, ⟨8, _⟩ => ⟨S1x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v57 : BitVec 1 := Scalar.cmpi .eq arg0 c0_i32
  let v61 : BitVec 32 := Scalar.extui v57
  let c0_i32_26 : BitVec 32 := 0#32
  let v62 : BitVec 1 := Scalar.cmpi .ne v61 c0_i32_26
  v62

def k0_cond2 (i : grid0.Coords) : BitVec 1 :=
  let arg0 : BitVec 32 := BitVec.ofNat 32 (i 0).val
  let c0_i32 : BitVec 32 := 0#32
  let v57 : BitVec 1 := Scalar.cmpi .eq arg0 c0_i32
  let v_true : BitVec 1 := 1#1
  let v63 : BitVec 1 := Scalar.xori v57 v_true
  let v64 : BitVec 32 := Scalar.extui v63
  let c0_i32_27 : BitVec 32 := 0#32
  let v65 : BitVec 1 := Scalar.cmpi .ne v64 c0_i32_27
  v65

def k0_cond3 (i : grid0.Coords) : BitVec 1 :=
  let arg0 : BitVec 32 := BitVec.ofNat 32 (i 0).val
  let c0_i32 : BitVec 32 := 0#32
  let v57 : BitVec 1 := Scalar.cmpi .eq arg0 c0_i32
  let v66 : BitVec 32 := Scalar.extui v57
  let c0_i32_28 : BitVec 32 := 0#32
  let v67 : BitVec 1 := Scalar.cmpi .ne v66 c0_i32_28
  v67

def k0_cond4 (i : grid0.Coords) : BitVec 1 :=
  let arg0 : BitVec 32 := BitVec.ofNat 32 (i 0).val
  let c0_i32 : BitVec 32 := 0#32
  let v57 : BitVec 1 := Scalar.cmpi .eq arg0 c0_i32
  let true_29 : BitVec 1 := 1#1
  let v68 : BitVec 1 := Scalar.xori v57 true_29
  let v69 : BitVec 32 := Scalar.extui v68
  let c0_i32_30 : BitVec 32 := 0#32
  let v70 : BitVec 1 := Scalar.cmpi .ne v69 c0_i32_30
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference17Ideal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S_, .f32⟩
  | .hbm, ⟨76, _⟩ => ⟨S16384, .f32⟩
  | .hbm, ⟨77, _⟩ => ⟨S16384x1, .f32⟩
  | .hbm, ⟨78, _⟩ => ⟨S16384x1024, .f32⟩
  | .hbm, ⟨79, _⟩ => ⟨S16384x1024, .f32⟩
  | .hbm, ⟨80, _⟩ => ⟨S16384x1, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S_, .f32⟩
  | .hbm, ⟨85, _⟩ => ⟨S16384, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== Kernel18.lean ====
abbrev S16384x1024 : Shape := ⟨2, ![16384, 1024]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .bf16⟩
  | .hbm, ⟨4, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference18Ideal.lean ====
abbrev S16384x1024 : Shape := ⟨2, ![16384, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .bf16⟩
  | .hbm, ⟨20, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel19.lean ====
abbrev S16384x1024 : Shape := ⟨2, ![16384, 1024]⟩
abbrev S4x2x256x1024 : Shape := ⟨4, ![4, 2, 256, 1024]⟩
abbrev S1024x1024 : Shape := ⟨2, ![1024, 1024]⟩
abbrev S4x1x256x1024 : Shape := ⟨4, ![4, 1, 256, 1024]⟩
abbrev S4x256x1024 : Shape := ⟨3, ![4, 256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S4x2x256x1024, .bf16⟩
  | .hbm, ⟨2, _⟩ => ⟨S16384x1024, .f32⟩
  | .hbm, ⟨3, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x1x256x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference19Ideal.lean ====
abbrev S16384x1024 : Shape := ⟨2, ![16384, 1024]⟩
abbrev S4x2x256x1024 : Shape := ⟨4, ![4, 2, 256, 1024]⟩
abbrev S_ : Shape := ⟨0, ![]⟩
abbrev S4x1x256x1024 : Shape := ⟨4, ![4, 1, 256, 1024]⟩
abbrev S4x256x1024 : Shape := ⟨3, ![4, 256, 1024]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x2x256x1024, .bf16⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S4x1x256x1024, .bf16⟩
  | .hbm, ⟨6, _⟩ => ⟨S4x256x1024, .bf16⟩
  | .hbm, ⟨7, _⟩ => ⟨S1024x1024, .bf16⟩
  | .hbm, ⟨8, _⟩ => ⟨S1024x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel20.lean ====
abbrev S16384x1024 : Shape := ⟨2, ![16384, 1024]⟩
abbrev S4x2x256x1024 : Shape := ⟨4, ![4, 2, 256, 1024]⟩
abbrev S1024x1024 : Shape := ⟨2, ![1024, 1024]⟩
abbrev S4x1x256x1024 : Shape := ⟨4, ![4, 1, 256, 1024]⟩
abbrev S4x256x1024 : Shape := ⟨3, ![4, 256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S4x2x256x1024, .bf16⟩
  | .hbm, ⟨2, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x1x256x1024, .bf16⟩
  | .local _ .vmem, ⟨3, _⟩ => ⟨S1024x1024, .f32⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S16384x1024 : Shape := ⟨2, ![16384, 1024]⟩
abbrev S4x2x256x1024 : Shape := ⟨4, ![4, 2, 256, 1024]⟩
abbrev S_ : Shape := ⟨0, ![]⟩
abbrev S4x1x256x1024 : Shape := ⟨4, ![4, 1, 256, 1024]⟩
abbrev S4x256x1024 : Shape := ⟨3, ![4, 256, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x2x256x1024, .bf16⟩
  | .hbm, ⟨2, _⟩ => ⟨S_, .f32⟩
  | .hbm, ⟨3, _⟩ => ⟨S16384x1024, .f32⟩
  | .hbm, ⟨4, _⟩ => ⟨S4x1x256x1024, .bf16⟩
  | .hbm, ⟨5, _⟩ => ⟨S4x256x1024, .bf16⟩
  | .hbm, ⟨6, _⟩ => ⟨S1024x1024, .bf16⟩
  | .hbm, ⟨7, _⟩ => ⟨S1024x1024, .f32⟩
  | .hbm, ⟨8, _⟩ => ⟨S16384x1024, .f32⟩
  | .hbm, ⟨9, _⟩ => ⟨S16384x1024, .f32⟩
  | .hbm, ⟨10, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel21.lean ====
abbrev S16384x1024 : Shape := ⟨2, ![16384, 1024]⟩
abbrev S4x2x512x256 : Shape := ⟨4, ![4, 2, 512, 256]⟩
abbrev S16384x512 : Shape := ⟨2, ![16384, 512]⟩
abbrev S1024x256 : Shape := ⟨2, ![1024, 256]⟩
abbrev S1x1x512x256 : Shape := ⟨4, ![1, 1, 512, 256]⟩
abbrev S1024x512 : Shape := ⟨2, ![1024, 512]⟩
abbrev S512x256 : Shape := ⟨2, ![512, 256]⟩

abbrev nBuf : Space → Nat
  | .hbm => 3
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S4x2x512x256, .bf16⟩
  | .hbm, ⟨2, _⟩ => ⟨S16384x512, .f32⟩
  | .local _ .vmem, ⟨0, _⟩ => ⟨S1024x256, .bf16⟩
  | .local _ .vmem, ⟨1, _⟩ => ⟨S1024x256, .bf16⟩
  | .local _ .vmem, ⟨2, _⟩ => ⟨S1x1x512x256, .bf16⟩
  | .local _ .vmem, ⟨3, _⟩ => ⟨S1024x256, .bf16⟩
  | .local _ .vmem, ⟨4, _⟩ => ⟨S1024x256, .bf16⟩
  | .local _ .vmem, ⟨5, _⟩ => ⟨S1x1x512x256, .bf16⟩
  | .local _ .vmem, ⟨6, _⟩ => ⟨S1024x256, .bf16⟩
  | .local _ .vmem, ⟨7, _⟩ => ⟨S1024x256, .bf16⟩
  | .local _ .vmem, ⟨8, _⟩ => ⟨S1x1x512x256, .bf16⟩
  | .local _ .vmem, ⟨9, _⟩ => ⟨S1024x256, .bf16⟩
  | .local _ .vmem, ⟨10, _⟩ => ⟨S1024x256, .bf16⟩
  | .local _ .vmem, ⟨11, _⟩ => ⟨S1x1x512x256, .bf16⟩
  | .local _ .vmem, ⟨12, _⟩ => ⟨S1024x512, .f32⟩
  | .local _ .vmem, ⟨13, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference21Ideal.lean ====
abbrev S16384x1024 : Shape := ⟨2, ![16384, 1024]⟩
abbrev S4x2x512x256 : Shape := ⟨4, ![4, 2, 512, 256]⟩
abbrev S_ : Shape := ⟨0, ![]⟩
abbrev S16384x512 : Shape := ⟨2, ![16384, 512]⟩
abbrev S4x1x512x256 : Shape := ⟨4, ![4, 1, 512, 256]⟩
abbrev S4x512x256 : Shape := ⟨3, ![4, 512, 256]⟩
abbrev S512x4x256 : Shape := ⟨3, ![512, 4, 256]⟩
abbrev S512x1024 : Shape := ⟨2, ![512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x2x512x256, .bf16⟩
  | .hbm, ⟨2, _⟩ => ⟨S_, .f32⟩
  | .hbm, ⟨3, _⟩ => ⟨S16384x512, .f32⟩
  | .hbm, ⟨4, _⟩ => ⟨S4x1x512x256, .bf16⟩
  | .hbm, ⟨5, _⟩ => ⟨S4x512x256, .bf16⟩
  | .hbm, ⟨6, _⟩ => ⟨S512x4x256, .bf16⟩
  | .hbm, ⟨7, _⟩ => ⟨S512x1024, .bf16⟩
  | .hbm, ⟨8, _⟩ => ⟨S512x1024, .f32⟩
  | .hbm, ⟨9, _⟩ => ⟨S16384x1024, .f32⟩
  | .hbm, ⟨10, _⟩ => ⟨S16384x1024, .f32⟩
  | .hbm, ⟨11, _⟩ => ⟨S16384x512, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel22.lean ====
abbrev S16384x1024 : Shape := ⟨2, ![16384, 1024]⟩
abbrev S4x2x256x1024 : Shape := ⟨4, ![4, 2, 256, 1024]⟩
abbrev S1024x256 : Shape := ⟨2, ![1024, 256]⟩
abbrev S1024x1024 : Shape := ⟨2, ![1024, 1024]⟩
abbrev S1x1x256x1024 : Shape := ⟨4, ![1, 1, 256, 1024]⟩
abbrev S256x1024 : Shape := ⟨2, ![256, 1024]⟩
abbrev S4x1x256x1024 : Shape := ⟨4, ![4, 1, 256, 1024]⟩
abbrev S4x256x1024 : Shape := ⟨3, ![4, 256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x2x256x1024, .bf16⟩
  | .hbm, ⟨3, _⟩ => ⟨S4x1x256x1024, .bf16⟩
  | .hbm, ⟨4, _⟩ => ⟨S4x256x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S256x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond3 (i : grid0.Coords) : BitVec 1 :=
  let arg1 : BitVec 32 := BitVec.ofNat 32 (i 1).val
  let c15_i32 : BitVec 32 := 15#32
  let v9 : BitVec 1 := Scalar.cmpi .eq arg1 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference22Ideal.lean ====
abbrev S16384x1024 : Shape := ⟨2, ![16384, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S4x256x1024, .f32⟩
  | .hbm, ⟨10, _⟩ => ⟨S4x256x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel23.lean ====
abbrev S16384x1024 : Shape := ⟨2, ![16384, 1024]⟩
abbrev S4x2x256x1024 : Shape := ⟨4, ![4, 2, 256, 1024]⟩
abbrev S1024x256 : Shape := ⟨2, ![1024, 256]⟩
abbrev S1024x1024 : Shape := ⟨2, ![1024, 1024]⟩
abbrev S1x1x256x1024 : Shape := ⟨4, ![1, 1, 256, 1024]⟩
abbrev S256x1024 : Shape := ⟨2, ![256, 1024]⟩
abbrev S4x1x256x1024 : Shape := ⟨4, ![4, 1, 256, 1024]⟩
abbrev S4x256x1024 : Shape := ⟨3, ![4, 256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S4x2x256x1024, .bf16⟩
  | .hbm, ⟨3, _⟩ => ⟨S4x1x256x1024, .bf16⟩
  | .hbm, ⟨4, _⟩ => ⟨S4x256x1024, .bf16⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond3 (i : grid0.Coords) : BitVec 1 :=
  let arg1 : BitVec 32 := BitVec.ofNat 32 (i 1).val
  let c15_i32 : BitVec 32 := 15#32
  let v10 : BitVec 1 := Scalar.cmpi .eq arg1 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference23Ideal.lean ====
abbrev S16384x1024 : Shape := ⟨2, ![16384, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S4x256x1024, .f32⟩
  | .hbm, ⟨9, _⟩ => ⟨S4x256x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel24.lean ====
abbrev S16384x512 : Shape := ⟨2, ![16384, 512]⟩
abbrev S16384x1024 : Shape := ⟨2, ![16384, 1024]⟩
abbrev S4x2x512x256 : Shape := ⟨4, ![4, 2, 512, 256]⟩
abbrev S1024x512 : Shape := ⟨2, ![1024, 512]⟩
abbrev S1024x256 : Shape := ⟨2, ![1024, 256]⟩
abbrev S1x1x512x256 : Shape := ⟨4, ![1, 1, 512, 256]⟩
abbrev S512x256 : Shape := ⟨2, ![512, 256]⟩
abbrev S4x1x512x256 : Shape := ⟨4, ![4, 1, 512, 256]⟩
abbrev S4x512x256 : Shape := ⟨3, ![4, 512, 256]⟩

abbrev nBuf : Space → Nat
  | .hbm => 5
  | .vmem => 7
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S4x2x512x256, .bf16⟩
  | .hbm, ⟨3, _⟩ => ⟨S4x1x512x256, .bf16⟩
  | .hbm, ⟨4, _⟩ => ⟨S4x512x256, .bf16⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S1x1x512x256, .bf16⟩
  | .local _ .vmem, ⟨5, _⟩ => ⟨S1x1x512x256, .bf16⟩
  | .local _ .vmem, ⟨6, _⟩ => ⟨S512x256, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond3 (i : grid0.Coords) : BitVec 1 :=
  let arg1 : BitVec 32 := BitVec.ofNat 32 (i 1).val
  let c15_i32 : BitVec 32 := 15#32
  let v9 : BitVec 1 := Scalar.cmpi .eq arg1 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference24Ideal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 12
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S_, .f32⟩
  | .hbm, ⟨3, _⟩ => ⟨S512x1024, .f32⟩
  | .hbm, ⟨4, _⟩ => ⟨S16384x512, .f32⟩
  | .hbm, ⟨5, _⟩ => ⟨S16384x1024, .f32⟩
  | .hbm, ⟨6, _⟩ => ⟨S16384x1024, .f32⟩
  | .hbm, ⟨7, _⟩ => ⟨S1024x512, .f32⟩
  | .hbm, ⟨8, _⟩ => ⟨S512x1024, .f32⟩
  | .hbm, ⟨9, _⟩ => ⟨S512x4x256, .f32⟩
  | .hbm, ⟨10, _⟩ => ⟨S4x512x256, .f32⟩
  | .hbm, ⟨11, _⟩ => ⟨S4x512x256, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel25.lean ====
abbrev S16384x256 : Shape := ⟨2, ![16384, 256]⟩
abbrev S16384x1024 : Shape := ⟨2, ![16384, 1024]⟩
abbrev S4x2x256x256 : Shape := ⟨4, ![4, 2, 256, 256]⟩
abbrev S1024x256 : Shape := ⟨2, ![1024, 256]⟩
abbrev S1x1x256x256 : Shape := ⟨4, ![1, 1, 256, 256]⟩
abbrev S256x256 : Shape := ⟨2, ![256, 256]⟩
abbrev S4x1x256x256 : Shape := ⟨4, ![4, 1, 256, 256]⟩
abbrev S4x256x256 : Shape := ⟨3, ![4, 256, 256]⟩

abbrev nBuf : Space → Nat
  | .hbm => 5
  | .vmem => 7
  | .smem => 0
  | _ => 0

abbrev bufTy : (tb : Table) → Fin (tcTables nBuf tb) → BufTy
  | .hbm, ⟨0, _⟩ => ⟨S16384x256, .f32⟩
  | .hbm, ⟨1, _⟩ => ⟨S16384x1024, .bf16⟩
  | .hbm, ⟨2, _⟩ => ⟨S4x2x256x256, .bf16⟩
  | .hbm, ⟨3, _⟩ => ⟨S4x1x256x256, .bf16⟩
  | .hbm, ⟨4, _⟩ => ⟨S4x256x256, .bf16⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1x1x256x256, .bf16⟩
  | .local _ .vmem, ⟨5, _⟩ => ⟨S1x1x256x256, .bf16⟩
  | .local _ .vmem, ⟨6, _⟩ => ⟨S256x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond3 (i : grid0.Coords) : BitVec 1 :=
  let arg1 : BitVec 32 := BitVec.ofNat 32 (i 1).val
  let c15_i32 : BitVec 32 := 15#32
  let v10 : BitVec 1 := Scalar.cmpi .eq arg1 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference25Ideal.lean ====
abbrev S16384x256 : Shape := ⟨2, ![16384, 256]⟩
abbrev S16384x1024 : Shape := ⟨2, ![16384, 1024]⟩
abbrev S_ : Shape := ⟨0, ![]⟩
abbrev S256x1024 : Shape := ⟨2, ![256, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 11
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x1024, .bf16⟩
  | .hbm, ⟨2, _⟩ => ⟨S_, .f32⟩
  | .hbm, ⟨3, _⟩ => ⟨S256x1024, .f32⟩
  | .hbm, ⟨4, _⟩ => ⟨S16384x1024, .f32⟩
  | .hbm, ⟨5, _⟩ => ⟨S16384x1024, .f32⟩
  | .hbm, ⟨6, _⟩ => ⟨S1024x256, .f32⟩
  | .hbm, ⟨7, _⟩ => ⟨S256x1024, .f32⟩
  | .hbm, ⟨8, _⟩ => ⟨S256x4x256, .f32⟩
  | .hbm, ⟨9, _⟩ => ⟨S4x256x256, .f32⟩
  | .hbm, ⟨10, _⟩ => ⟨S4x256x256, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel26.lean ====
abbrev S16384x1024 : Shape := ⟨2, ![16384, 1024]⟩
abbrev S16384x8192 : Shape := ⟨2, ![16384, 8192]⟩
abbrev S4x2x256x1024 : Shape := ⟨4, ![4, 2, 256, 1024]⟩
abbrev S512x1024 : Shape := ⟨2, ![512, 1024]⟩
abbrev S4x1x256x1024 : Shape := ⟨4, ![4, 1, 256, 1024]⟩
abbrev S4x256x1024 : Shape := ⟨3, ![4, 256, 1024]⟩
abbrev S1024x1024 : Shape := ⟨2, ![1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x8192, .f32⟩
  | .hbm, ⟨3, _⟩ => ⟨S4x2x256x1024, .bf16⟩
  | .hbm, ⟨4, _⟩ => ⟨S16384x1024, .bf16⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S4x1x256x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S16384x1024 : Shape := ⟨2, ![16384, 1024]⟩
abbrev S16384x8192 : Shape := ⟨2, ![16384, 8192]⟩
abbrev S4x2x256x1024 : Shape := ⟨4, ![4, 2, 256, 1024]⟩
abbrev S_ : Shape := ⟨0, ![]⟩
abbrev S4x1x256x1024 : Shape := ⟨4, ![4, 1, 256, 1024]⟩
abbrev S4x256x1024 : Shape := ⟨3, ![4, 256, 1024]⟩
abbrev S1024x1024 : Shape := ⟨2, ![1024, 1024]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x8192, .f32⟩
  | .hbm, ⟨3, _⟩ => ⟨S4x2x256x1024, .bf16⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .bf16⟩
  | .hbm, ⟨26, _⟩ => ⟨S4x1x256x1024, .bf16⟩
  | .hbm, ⟨27, _⟩ => ⟨S4x256x1024, .bf16⟩
  | .hbm, ⟨28, _⟩ => ⟨S1024x1024, .bf16⟩
  | .hbm, ⟨29, _⟩ => ⟨S1024x1024, .f32⟩
  | .hbm, ⟨30, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel27.lean ====
abbrev S16384x1024 : Shape := ⟨2, ![16384, 1024]⟩
abbrev S4x2x256x1024 : Shape := ⟨4, ![4, 2, 256, 1024]⟩
abbrev S512x1024 : Shape := ⟨2, ![512, 1024]⟩
abbrev S4x1x256x1024 : Shape := ⟨4, ![4, 1, 256, 1024]⟩
abbrev S4x256x1024 : Shape := ⟨3, ![4, 256, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S4x2x256x1024, .bf16⟩
  | .hbm, ⟨2, _⟩ => ⟨S16384x1024, .f32⟩
  | .hbm, ⟨3, _⟩ => ⟨S16384x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S4x1x256x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference27Ideal.lean ====
abbrev S16384x1024 : Shape := ⟨2, ![16384, 1024]⟩
abbrev S4x2x256x1024 : Shape := ⟨4, ![4, 2, 256, 1024]⟩
abbrev S4x1x256x1024 : Shape := ⟨4, ![4, 1, 256, 1024]⟩
abbrev S4x256x1024 : Shape := ⟨3, ![4, 256, 1024]⟩
abbrev S1024x1024 : Shape := ⟨2, ![1024, 1024]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x2x256x1024, .bf16⟩
  | .hbm, ⟨2, _⟩ => ⟨S16384x1024, .f32⟩
  | .hbm, ⟨3, _⟩ => ⟨S4x1x256x1024, .bf16⟩
  | .hbm, ⟨4, _⟩ => ⟨S4x256x1024, .bf16⟩
  | .hbm, ⟨5, _⟩ => ⟨S1024x1024, .bf16⟩
  | .hbm, ⟨6, _⟩ => ⟨S1024x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel28.lean ====
abbrev S16384x1024 : Shape := ⟨2, ![16384, 1024]⟩
abbrev S4x2x256x1024 : Shape := ⟨4, ![4, 2, 256, 1024]⟩
abbrev S1024x1024 : Shape := ⟨2, ![1024, 1024]⟩
abbrev S4x1x256x1024 : Shape := ⟨4, ![4, 1, 256, 1024]⟩
abbrev S4x256x1024 : Shape := ⟨3, ![4, 256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S4x2x256x1024, .bf16⟩
  | .hbm, ⟨2, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x1x256x1024, .bf16⟩
  | .local _ .vmem, ⟨3, _⟩ => ⟨S1024x1024, .f32⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference28Ideal.lean ====
abbrev S16384x1024 : Shape := ⟨2, ![16384, 1024]⟩
abbrev S4x2x256x1024 : Shape := ⟨4, ![4, 2, 256, 1024]⟩
abbrev S4x1x256x1024 : Shape := ⟨4, ![4, 1, 256, 1024]⟩
abbrev S4x256x1024 : Shape := ⟨3, ![4, 256, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x2x256x1024, .bf16⟩
  | .hbm, ⟨2, _⟩ => ⟨S16384x1024, .f32⟩
  | .hbm, ⟨3, _⟩ => ⟨S4x1x256x1024, .bf16⟩
  | .hbm, ⟨4, _⟩ => ⟨S4x256x1024, .bf16⟩
  | .hbm, ⟨5, _⟩ => ⟨S1024x1024, .bf16⟩
  | .hbm, ⟨6, _⟩ => ⟨S1024x1024, .f32⟩
  | .hbm, ⟨7, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel29.lean ====
abbrev S16384x512 : Shape := ⟨2, ![16384, 512]⟩
abbrev S4x2x512x256 : Shape := ⟨4, ![4, 2, 512, 256]⟩
abbrev S16384x1024 : Shape := ⟨2, ![16384, 1024]⟩
abbrev S1024x512 : Shape := ⟨2, ![1024, 512]⟩
abbrev S1x1x512x256 : Shape := ⟨4, ![1, 1, 512, 256]⟩
abbrev S1024x256 : Shape := ⟨2, ![1024, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S16384x512, .bf16⟩
  | .hbm, ⟨1, _⟩ => ⟨S4x2x512x256, .bf16⟩
  | .hbm, ⟨2, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S1x1x512x256, .bf16⟩
  | .local _ .vmem, ⟨3, _⟩ => ⟨S1x1x512x256, .bf16⟩
  | .local _ .vmem, ⟨4, _⟩ => ⟨S1024x256, .f32⟩
  | .local _ .vmem, ⟨5, _⟩ => ⟨S1024x256, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference29Ideal.lean ====
abbrev S16384x512 : Shape := ⟨2, ![16384, 512]⟩
abbrev S4x2x512x256 : Shape := ⟨4, ![4, 2, 512, 256]⟩
abbrev S4x1x512x256 : Shape := ⟨4, ![4, 1, 512, 256]⟩
abbrev S4x512x256 : Shape := ⟨3, ![4, 512, 256]⟩
abbrev S512x4x256 : Shape := ⟨3, ![512, 4, 256]⟩
abbrev S512x1024 : Shape := ⟨2, ![512, 1024]⟩
abbrev S16384x1024 : Shape := ⟨2, ![16384, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S4x2x512x256, .bf16⟩
  | .hbm, ⟨2, _⟩ => ⟨S16384x512, .f32⟩
  | .hbm, ⟨3, _⟩ => ⟨S4x1x512x256, .bf16⟩
  | .hbm, ⟨4, _⟩ => ⟨S4x512x256, .bf16⟩
  | .hbm, ⟨5, _⟩ => ⟨S512x4x256, .bf16⟩
  | .hbm, ⟨6, _⟩ => ⟨S512x1024, .bf16⟩
  | .hbm, ⟨7, _⟩ => ⟨S512x1024, .f32⟩
  | .hbm, ⟨8, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel30.lean ====
abbrev S16384x256 : Shape := ⟨2, ![16384, 256]⟩
abbrev S4x2x256x256 : Shape := ⟨4, ![4, 2, 256, 256]⟩
abbrev S16384x1024 : Shape := ⟨2, ![16384, 1024]⟩
abbrev S1024x256 : Shape := ⟨2, ![1024, 256]⟩
abbrev S1x1x256x256 : Shape := ⟨4, ![1, 1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S4x2x256x256, .bf16⟩
  | .hbm, ⟨2, _⟩ => ⟨S16384x1024, .f32⟩
  | .local _ .vmem, ⟨0, _⟩ => ⟨S1024x256, .f32⟩
  | .local _ .vmem, ⟨1, _⟩ => ⟨S1024x256, .f32⟩
  | .local _ .vmem, ⟨2, _⟩ => ⟨S1x1x256x256, .bf16⟩
  | .local _ .vmem, ⟨3, _⟩ => ⟨S1x1x256x256, .bf16⟩
  | .local _ .vmem, ⟨4, _⟩ => ⟨S1024x256, .f32⟩
  | .local _ .vmem, ⟨5, _⟩ => ⟨S1024x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference30Ideal.lean ====
abbrev S16384x256 : Shape := ⟨2, ![16384, 256]⟩
abbrev S4x2x256x256 : Shape := ⟨4, ![4, 2, 256, 256]⟩
abbrev S4x1x256x256 : Shape := ⟨4, ![4, 1, 256, 256]⟩
abbrev S4x256x256 : Shape := ⟨3, ![4, 256, 256]⟩
abbrev S256x4x256 : Shape := ⟨3, ![256, 4, 256]⟩
abbrev S256x1024 : Shape := ⟨2, ![256, 1024]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S4x2x256x256, .bf16⟩
  | .hbm, ⟨2, _⟩ => ⟨S4x1x256x256, .bf16⟩
  | .hbm, ⟨3, _⟩ => ⟨S4x256x256, .bf16⟩
  | .hbm, ⟨4, _⟩ => ⟨S256x4x256, .bf16⟩
  | .hbm, ⟨5, _⟩ => ⟨S256x1024, .bf16⟩
  | .hbm, ⟨6, _⟩ => ⟨S256x1024, .f32⟩
  | .hbm, ⟨7, _⟩ => ⟨S16384x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel31.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S16384x1024, .f32⟩
  | .hbm, ⟨5, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference31Ideal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel32.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference32Ideal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel33.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference33Ideal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel34.lean ====
abbrev S16384x1024 : Shape := ⟨2, ![16384, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v10 : BitVec 32 := Scalar.extui v8
  let c0_i32_6 : BitVec 32 := 0#32
  let v11 : BitVec 1 := Scalar.cmpi .ne v10 c0_i32_6
  v11

def k0_cond2 (i : grid0.Coords) : BitVec 1 :=
  let arg0 : BitVec 32 := BitVec.ofNat 32 (i 0).val
  let c0_i32 : BitVec 32 := 0#32
  let v8 : BitVec 1 := Scalar.cmpi .eq arg0 c0_i32
  let v_true : BitVec 1 := 1#1
  let v12 : BitVec 1 := Scalar.xori v8 v_true
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference34Ideal.lean ====
abbrev S16384x1024 : Shape := ⟨2, ![16384, 1024]⟩
abbrev S_ : Shape := ⟨0, ![]⟩
abbrev S1024 : Shape := ⟨1, ![1024]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S1024, .f32⟩
  | .hbm, ⟨24, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_cst_3 : Ref sig .tc := ⟨.hbm, 13, rfl⟩
abbrev main_cst_4 : Ref sig .tc := ⟨.hbm, 14, rfl⟩
abbrev main_v7 : Ref sig .tc := ⟨.hbm, 15, rfl⟩
abbrev main_cst_5 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_6 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Kernel35.lean ====
abbrev S8x2x1024x2048 : Shape := ⟨4, ![8, 2, 1024, 2048]⟩
abbrev S2x1024x2048 : Shape := ⟨3, ![2, 1024, 2048]⟩
abbrev S8x2048x2048 : Shape := ⟨3, ![8, 2048, 2048]⟩
abbrev S2048x2048 : Shape := ⟨2, ![2048, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x2x1024x2048, .bf16⟩
  | .hbm, ⟨1, _⟩ => ⟨S2x1024x2048, .f32⟩
  | .hbm, ⟨2, _⟩ => ⟨S2x1024x2048, .f32⟩
  | .hbm, ⟨3, _⟩ => ⟨S2x1024x2048, .f32⟩
  | .hbm, ⟨4, _⟩ => ⟨S8x2048x2048, .bf16⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x2x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference35Ideal.lean ====
abbrev S8x2x1024x2048 : Shape := ⟨4, ![8, 2, 1024, 2048]⟩
abbrev S2x1024x2048 : Shape := ⟨3, ![2, 1024, 2048]⟩
abbrev S_ : Shape := ⟨0, ![]⟩
abbrev S2048x2048 : Shape := ⟨2, ![2048, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8x2x1024x2048, .bf16⟩
  | .hbm, ⟨1, _⟩ => ⟨S2x1024x2048, .f32⟩
  | .hbm, ⟨2, _⟩ => ⟨S2x1024x2048, .f32⟩
  | .hbm, ⟨3, _⟩ => ⟨S2x1024x2048, .f32⟩
  | .hbm, ⟨4, _⟩ => ⟨S8x2x1024x2048, .f32⟩
  | .hbm, ⟨5, _⟩ => ⟨S_, .f32⟩
  | .hbm, ⟨6, _⟩ => ⟨S2x1024x2048, .f32⟩
  | .hbm, ⟨7, _⟩ => ⟨S_, .f32⟩
  | .hbm, ⟨8, _⟩ => ⟨S2x1024x2048, .f32⟩
  | .hbm, ⟨9, _⟩ => ⟨S2x1024x2048, .f32⟩
  | .hbm, ⟨10, _⟩ => ⟨S_, .f32⟩
  | .hbm, ⟨11, _⟩ => ⟨S2x1024x2048, .f32⟩
  | .hbm, ⟨12, _⟩ => ⟨S2x1024x2048, .f32⟩
  | .hbm, ⟨13, _⟩ => ⟨S2x1024x2048, .f32⟩
  | .hbm, ⟨14, _⟩ => ⟨S_, .f32⟩
  | .hbm, ⟨15, _⟩ => ⟨S2x1024x2048, .f32⟩
  | .hbm, ⟨16, _⟩ => ⟨S2x1024x2048, .f32⟩
  | .hbm, ⟨17, _⟩ => ⟨S2x1024x2048, .f32⟩
  | .hbm, ⟨18, _⟩ => ⟨S_, .f32⟩
  | .hbm, ⟨19, _⟩ => ⟨S2x1024x2048, .f32⟩
  | .hbm, ⟨20, _⟩ => ⟨S2x1024x2048, .f32⟩
  | .hbm, ⟨21, _⟩ => ⟨S2x1024x2048, .f32⟩
  | .hbm, ⟨22, _⟩ => ⟨S_, .f32⟩
  | .hbm, ⟨23, _⟩ => ⟨S2x1024x2048, .f32⟩
  | .hbm, ⟨24, _⟩ => ⟨S2x1024x2048, .f32⟩
  | .hbm, ⟨25, _⟩ => ⟨S_, .f32⟩
  | .hbm, ⟨26, _⟩ => ⟨S2x1024x2048, .f32⟩
  | .hbm, ⟨27, _⟩ => ⟨S2x1024x2048, .f32⟩
  | .hbm, ⟨28, _⟩ => ⟨S2x1024x2048, .f32⟩
  | .hbm, ⟨29, _⟩ => ⟨S_, .f32⟩
  | .hbm, ⟨30, _⟩ => ⟨S2x1024x2048, .f32⟩
  | .hbm, ⟨31, _⟩ => ⟨S2x1024x2048, .f32⟩
  | .hbm, ⟨32, _⟩ => ⟨S2x1024x2048, .f32⟩
  | .hbm, ⟨33, _⟩ => ⟨S_, .f32⟩
  | .hbm, ⟨34, _⟩ => ⟨S2x1024x2048, .f32⟩
  | .hbm, ⟨35, _⟩ => ⟨S2x1024x2048, .f32⟩
  | .hbm, ⟨36, _⟩ => ⟨S2x1024x2048, .f32⟩
  | .hbm, ⟨37, _⟩ => ⟨S_, .f32⟩
  | .hbm, ⟨38, _⟩ => ⟨S2x1024x2048, .f32⟩
  | .hbm, ⟨39, _⟩ => ⟨S2x1024x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | _, _ => ⟨S8x2x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel36.lean ====
abbrev S8x2x256x1024 : Shape := ⟨4, ![8, 2, 256, 1024]⟩
abbrev S2x256x1024 : Shape := ⟨3, ![2, 256, 1024]⟩
abbrev S8x512x1024 : Shape := ⟨3, ![8, 512, 1024]⟩
abbrev S512x1024 : Shape := ⟨2, ![512, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x2x256x1024, .bf16⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S8x512x1024, .bf16⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x2x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference36Ideal.lean ====
abbrev S8x2x256x1024 : Shape := ⟨4, ![8, 2, 256, 1024]⟩
abbrev S2x256x1024 : Shape := ⟨3, ![2, 256, 1024]⟩
abbrev S_ : Shape := ⟨0, ![]⟩
abbrev S512x1024 : Shape := ⟨2, ![512, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x2x256x1024, .bf16⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S8x2x256x1024, .f32⟩
  | .hbm, ⟨5, _⟩ => ⟨S_, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S_, .f32⟩
  | .hbm, ⟨11, _⟩ => ⟨S2x256x1024, .f32⟩
  | .hbm, ⟨12, _⟩ => ⟨S2x256x1024, .f32⟩
  | .hbm, ⟨13, _⟩ => ⟨S2x256x1024, .f32⟩
  | .hbm, ⟨14, _⟩ => ⟨S_, .f32⟩
  | .hbm, ⟨15, _⟩ => ⟨S2x256x1024, .f32⟩
  | .hbm, ⟨16, _⟩ => ⟨S2x256x1024, .f32⟩
  | .hbm, ⟨17, _⟩ => ⟨S2x256x1024, .f32⟩
  | .hbm, ⟨18, _⟩ => ⟨S_, .f32⟩
  | .hbm, ⟨19, _⟩ => ⟨S2x256x1024, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S_, .f32⟩
  | .hbm, ⟨26, _⟩ => ⟨S2x256x1024, .f32⟩
  | .hbm, ⟨27, _⟩ => ⟨S2x256x1024, .f32⟩
  | .hbm, ⟨28, _⟩ => ⟨S2x256x1024, .f32⟩
  | .hbm, ⟨29, _⟩ => ⟨S_, .f32⟩
  | .hbm, ⟨30, _⟩ => ⟨S2x256x1024, .f32⟩
  | .hbm, ⟨31, _⟩ => ⟨S2x256x1024, .f32⟩
  | .hbm, ⟨32, _⟩ => ⟨S2x256x1024, .f32⟩
  | .hbm, ⟨33, _⟩ => ⟨S_, .f32⟩
  | .hbm, ⟨34, _⟩ => ⟨S2x256x1024, .f32⟩
  | .hbm, ⟨35, _⟩ => ⟨S2x256x1024, .f32⟩
  | .hbm, ⟨36, _⟩ => ⟨S2x256x1024, .f32⟩
  | .hbm, ⟨37, _⟩ => ⟨S_, .f32⟩
  | .hbm, ⟨38, _⟩ => ⟨S2x256x1024, .f32⟩
  | .hbm, ⟨39, _⟩ => ⟨S2x256x1024, .f32⟩
  | .hbm, ⟨40, _⟩ => ⟨S512x1024, .f32⟩
  | .hbm, ⟨41, _⟩ => ⟨S512x1024, .f32⟩
  | .hbm, ⟨42, _⟩ => ⟨S512x1024, .f32⟩
  | .hbm, ⟨43, _⟩ => ⟨S512x1024, .f32⟩
  | _, _ => ⟨S8x2x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel37.lean ====
abbrev S8x2x512x256 : Shape := ⟨4, ![8, 2, 512, 256]⟩
abbrev S2x512x256 : Shape := ⟨3, ![2, 512, 256]⟩
abbrev S8x1024x256 : Shape := ⟨3, ![8, 1024, 256]⟩
abbrev S1024x256 : Shape := ⟨2, ![1024, 256]⟩
abbrev S8x512x256 : Shape := ⟨3, ![8, 512, 256]⟩
abbrev S512x256 : Shape := ⟨2, ![512, 256]⟩
abbrev S1x512x256 : Shape := ⟨3, ![1, 512, 256]⟩

abbrev nBuf : Space → Nat
  | .hbm => 12
  | .vmem => 16
  | .smem => 0
  | _ => 0

abbrev bufTy : (tb : Table) → Fin (tcTables nBuf tb) → BufTy
  | .hbm, ⟨0, _⟩ => ⟨S8x2x512x256, .bf16⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S8x1024x256, .bf16⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x256, .f32⟩
  | .local _ .vmem, ⟨0, _⟩ => ⟨S8x512x256, .bf16⟩
  | .local _ .vmem, ⟨1, _⟩ => ⟨S8x512x256, .bf16⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S8x2x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference37Ideal.lean ====
abbrev S8x2x512x256 : Shape := ⟨4, ![8, 2, 512, 256]⟩
abbrev S2x512x256 : Shape := ⟨3, ![2, 512, 256]⟩
abbrev S_ : Shape := ⟨0, ![]⟩
abbrev S1024x256 : Shape := ⟨2, ![1024, 256]⟩

abbrev nBuf : Space → Nat
  | .hbm => 44
  | .vmem => 0
  | .smem => 0
  | _ => 0

abbrev bufTy : (tb : Table) → Fin (tcTables nBuf tb) → BufTy
  | .hbm, ⟨0, _⟩ => ⟨S8x2x512x256, .bf16⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S8x2x512x256, .f32⟩
  | .hbm, ⟨5, _⟩ => ⟨S_, .f32⟩
  | .hbm, ⟨6, _⟩ => ⟨S2x512x256, .f32⟩
  | .hbm, ⟨7, _⟩ => ⟨S_, .f32⟩
  | .hbm, ⟨8, _⟩ => ⟨S2x512x256, .f32⟩
  | .hbm, ⟨9, _⟩ => ⟨S2x512x256, .f32⟩
  | .hbm, ⟨10, _⟩ => ⟨S_, .f32⟩
  | .hbm, ⟨11, _⟩ => ⟨S2x512x256, .f32⟩
  | .hbm, ⟨12, _⟩ => ⟨S2x512x256, .f32⟩
  | .hbm, ⟨13, _⟩ => ⟨S2x512x256, .f32⟩
  | .hbm, ⟨14, _⟩ => ⟨S_, .f32⟩
  | .hbm, ⟨15, _⟩ => ⟨S2x512x256, .f32⟩
  | .hbm, ⟨16, _⟩ => ⟨S2x512x256, .f32⟩
  | .hbm, ⟨17, _⟩ => ⟨S2x512x256, .f32⟩
  | .hbm, ⟨18, _⟩ => ⟨S_, .f32⟩
  | .hbm, ⟨19, _⟩ => ⟨S2x512x256, .f32⟩
  | .hbm, ⟨20, _⟩ => ⟨S2x512x256, .f32⟩
  | .hbm, ⟨21, _⟩ => ⟨S2x512x256, .f32⟩
  | .hbm, ⟨22, _⟩ => ⟨S_, .f32⟩
  | .hbm, ⟨23, _⟩ => ⟨S2x512x256, .f32⟩
  | .hbm, ⟨24, _⟩ => ⟨S2x512x256, .f32⟩
  | .hbm, ⟨25, _⟩ => ⟨S_, .f32⟩
  | .hbm, ⟨26, _⟩ => ⟨S2x512x256, .f32⟩
  | .hbm, ⟨27, _⟩ => ⟨S2x512x256, .f32⟩
  | .hbm, ⟨28, _⟩ => ⟨S2x512x256, .f32⟩
  | .hbm, ⟨29, _⟩ => ⟨S_, .f32⟩
  | .hbm, ⟨30, _⟩ => ⟨S2x512x256, .f32⟩
  | .hbm, ⟨31, _⟩ => ⟨S2x512x256, .f32⟩
  | .hbm, ⟨32, _⟩ => ⟨S2x512x256, .f32⟩
  | .hbm, ⟨33, _⟩ => ⟨S_, .f32⟩
  | .hbm, ⟨34, _⟩ => ⟨S2x512x256, .f32⟩
  | .hbm, ⟨35, _⟩ => ⟨S2x512x256, .f32⟩
  | .hbm, ⟨36, _⟩ => ⟨S2x512x256, .f32⟩
  | .hbm, ⟨37, _⟩ => ⟨S_, .f32⟩
  | .hbm, ⟨38, _⟩ => ⟨S2x512x256, .f32⟩
  | .hbm, ⟨39, _⟩ => ⟨S2x512x256, .f32⟩
  | .hbm, ⟨40, _⟩ => ⟨S1024x256, .f32⟩
  | .hbm, ⟨41, _⟩ => ⟨S1024x256, .f32⟩
  | .hbm, ⟨42, _⟩ => ⟨S1024x256, .f32⟩
  | .hbm, ⟨43, _⟩ => ⟨S1024x256, .f32⟩
  | _, _ => ⟨S8x2x512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel38.lean ====
abbrev S8x2x1024x704 : Shape := ⟨4, ![8, 2, 1024, 704]⟩
abbrev S2x1024x704 : Shape := ⟨3, ![2, 1024, 704]⟩
abbrev S8x2048x704 : Shape := ⟨3, ![8, 2048, 704]⟩
abbrev S2048x704 : Shape := ⟨2, ![2048, 704]⟩
abbrev S8x128x704 : Shape := ⟨3, ![8, 128, 704]⟩
abbrev S128x704 : Shape := ⟨2, ![128, 704]⟩
abbrev S1x128x704 : Shape := ⟨3, ![1, 128, 704]⟩

abbrev nBuf : Space → Nat
  | .hbm => 12
  | .vmem => 16
  | .smem => 0
  | _ => 0

abbrev bufTy : (tb : Table) → Fin (tcTables nBuf tb) → BufTy
  | .hbm, ⟨0, _⟩ => ⟨S8x2x1024x704, .bf16⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S8x2048x704, .bf16⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .hbm, ⟨9, _⟩ => ⟨S2048x704, .f32⟩
  | .hbm, ⟨10, _⟩ => ⟨S2048x704, .f32⟩
  | .hbm, ⟨11, _⟩ => ⟨S2048x704, .f32⟩
  | .local _ .vmem, ⟨0, _⟩ => ⟨S8x128x704, .bf16⟩
  | .local _ .vmem, ⟨1, _⟩ => ⟨S8x128x704, .bf16⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | _, _ => ⟨S8x2x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference38Ideal.lean ====
abbrev S8x2x1024x704 : Shape := ⟨4, ![8, 2, 1024, 704]⟩
abbrev S2x1024x704 : Shape := ⟨3, ![2, 1024, 704]⟩
abbrev S_ : Shape := ⟨0, ![]⟩
abbrev S2048x704 : Shape := ⟨2, ![2048, 704]⟩

abbrev nBuf : Space → Nat
  | .hbm => 44
  | .vmem => 0
  | .smem => 0
  | _ => 0

abbrev bufTy : (tb : Table) → Fin (tcTables nBuf tb) → BufTy
  | .hbm, ⟨0, _⟩ => ⟨S8x2x1024x704, .bf16⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S8x2x1024x704, .f32⟩
  | .hbm, ⟨5, _⟩ => ⟨S_, .f32⟩
  | .hbm, ⟨6, _⟩ => ⟨S2x1024x704, .f32⟩
  | .hbm, ⟨7, _⟩ => ⟨S_, .f32⟩
  | .hbm, ⟨8, _⟩ => ⟨S2x1024x704, .f32⟩
  | .hbm, ⟨9, _⟩ => ⟨S2x1024x704, .f32⟩
  | .hbm, ⟨10, _⟩ => ⟨S_, .f32⟩
  | .hbm, ⟨11, _⟩ => ⟨S2x1024x704, .f32⟩
  | .hbm, ⟨12, _⟩ => ⟨S2x1024x704, .f32⟩
  | .hbm, ⟨13, _⟩ => ⟨S2x1024x704, .f32⟩
  | .hbm, ⟨14, _⟩ => ⟨S_, .f32⟩
  | .hbm, ⟨15, _⟩ => ⟨S2x1024x704, .f32⟩
  | .hbm, ⟨16, _⟩ => ⟨S2x1024x704, .f32⟩
  | .hbm, ⟨17, _⟩ => ⟨S2x1024x704, .f32⟩
  | .hbm, ⟨18, _⟩ => ⟨S_, .f32⟩
  | .hbm, ⟨19, _⟩ => ⟨S2x1024x704, .f32⟩
  | .hbm, ⟨20, _⟩ => ⟨S2x1024x704, .f32⟩
  | .hbm, ⟨21, _⟩ => ⟨S2x1024x704, .f32⟩
  | .hbm, ⟨22, _⟩ => ⟨S_, .f32⟩
  | .hbm, ⟨23, _⟩ => ⟨S2x1024x704, .f32⟩
  | .hbm, ⟨24, _⟩ => ⟨S2x1024x704, .f32⟩
  | .hbm, ⟨25, _⟩ => ⟨S_, .f32⟩
  | .hbm, ⟨26, _⟩ => ⟨S2x1024x704, .f32⟩
  | .hbm, ⟨27, _⟩ => ⟨S2x1024x704, .f32⟩
  | .hbm, ⟨28, _⟩ => ⟨S2x1024x704, .f32⟩
  | .hbm, ⟨29, _⟩ => ⟨S_, .f32⟩
  | .hbm, ⟨30, _⟩ => ⟨S2x1024x704, .f32⟩
  | .hbm, ⟨31, _⟩ => ⟨S2x1024x704, .f32⟩
  | .hbm, ⟨32, _⟩ => ⟨S2x1024x704, .f32⟩
  | .hbm, ⟨33, _⟩ => ⟨S_, .f32⟩
  | .hbm, ⟨34, _⟩ => ⟨S2x1024x704, .f32⟩
  | .hbm, ⟨35, _⟩ => ⟨S2x1024x704, .f32⟩
  | .hbm, ⟨36, _⟩ => ⟨S2x1024x704, .f32⟩
  | .hbm, ⟨37, _⟩ => ⟨S_, .f32⟩
  | .hbm, ⟨38, _⟩ => ⟨S2x1024x704, .f32⟩
  | .hbm, ⟨39, _⟩ => ⟨S2x1024x704, .f32⟩
  | .hbm, ⟨40, _⟩ => ⟨S2048x704, .f32⟩
  | .hbm, ⟨41, _⟩ => ⟨S2048x704, .f32⟩
  | .hbm, ⟨42, _⟩ => ⟨S2048x704, .f32⟩
  | .hbm, ⟨43, _⟩ => ⟨S2048x704, .f32⟩
  | _, _ => ⟨S8x2x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel39.lean ====
abbrev S8x2x704x1024 : Shape := ⟨4, ![8, 2, 704, 1024]⟩
abbrev S2x704x1024 : Shape := ⟨3, ![2, 704, 1024]⟩
abbrev S8x1408x1024 : Shape := ⟨3, ![8, 1408, 1024]⟩
abbrev S1408x1024 : Shape := ⟨2, ![1408, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x2x704x1024, .bf16⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S8x1408x1024, .bf16⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S1408x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x2x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference39Ideal.lean ====
abbrev S8x2x704x1024 : Shape := ⟨4, ![8, 2, 704, 1024]⟩
abbrev S2x704x1024 : Shape := ⟨3, ![2, 704, 1024]⟩
abbrev S_ : Shape := ⟨0, ![]⟩
abbrev S1408x1024 : Shape := ⟨2, ![1408, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x2x704x1024, .bf16⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S8x2x704x1024, .f32⟩
  | .hbm, ⟨5, _⟩ => ⟨S_, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S_, .f32⟩
  | .hbm, ⟨11, _⟩ => ⟨S2x704x1024, .f32⟩
  | .hbm, ⟨12, _⟩ => ⟨S2x704x1024, .f32⟩
  | .hbm, ⟨13, _⟩ => ⟨S2x704x1024, .f32⟩
  | .hbm, ⟨14, _⟩ => ⟨S_, .f32⟩
  | .hbm, ⟨15, _⟩ => ⟨S2x704x1024, .f32⟩
  | .hbm, ⟨16, _⟩ => ⟨S2x704x1024, .f32⟩
  | .hbm, ⟨17, _⟩ => ⟨S2x704x1024, .f32⟩
  | .hbm, ⟨18, _⟩ => ⟨S_, .f32⟩
  | .hbm, ⟨19, _⟩ => ⟨S2x704x1024, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S_, .f32⟩
  | .hbm, ⟨26, _⟩ => ⟨S2x704x1024, .f32⟩
  | .hbm, ⟨27, _⟩ => ⟨S2x704x1024, .f32⟩
  | .hbm, ⟨28, _⟩ => ⟨S2x704x1024, .f32⟩
  | .hbm, ⟨29, _⟩ => ⟨S_, .f32⟩
  | .hbm, ⟨30, _⟩ => ⟨S2x704x1024, .f32⟩
  | .hbm, ⟨31, _⟩ => ⟨S2x704x1024, .f32⟩
  | .hbm, ⟨32, _⟩ => ⟨S2x704x1024, .f32⟩
  | .hbm, ⟨33, _⟩ => ⟨S_, .f32⟩
  | .hbm, ⟨34, _⟩ => ⟨S2x704x1024, .f32⟩
  | .hbm, ⟨35, _⟩ => ⟨S2x704x1024, .f32⟩
  | .hbm, ⟨36, _⟩ => ⟨S2x704x1024, .f32⟩
  | .hbm, ⟨37, _⟩ => ⟨S_, .f32⟩
  | .hbm, ⟨38, _⟩ => ⟨S2x704x1024, .f32⟩
  | .hbm, ⟨39, _⟩ => ⟨S2x704x1024, .f32⟩
  | .hbm, ⟨40, _⟩ => ⟨S1408x1024, .f32⟩
  | .hbm, ⟨41, _⟩ => ⟨S1408x1024, .f32⟩
  | .hbm, ⟨42, _⟩ => ⟨S1408x1024, .f32⟩
  | .hbm, ⟨43, _⟩ => ⟨S1408x1024, .f32⟩
  | _, _ => ⟨S8x2x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel40.lean ====
abbrev S8x2x256x256 : Shape := ⟨4, ![8, 2, 256, 256]⟩
abbrev S2x256x256 : Shape := ⟨3, ![2, 256, 256]⟩
abbrev S8x512x256 : Shape := ⟨3, ![8, 512, 256]⟩
abbrev S512x256 : Shape := ⟨2, ![512, 256]⟩
abbrev S1x512x256 : Shape := ⟨3, ![1, 512, 256]⟩

abbrev nBuf : Space → Nat
  | .hbm => 12
  | .vmem => 8
  | .smem => 0
  | _ => 0

abbrev bufTy : (tb : Table) → Fin (tcTables nBuf tb) → BufTy
  | .hbm, ⟨0, _⟩ => ⟨S8x2x256x256, .bf16⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S8x512x256, .bf16⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S512x256, .f32⟩
  | .local _ .vmem, ⟨0, _⟩ => ⟨S8x512x256, .bf16⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S8x2x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference40Ideal.lean ====
abbrev S8x2x256x256 : Shape := ⟨4, ![8, 2, 256, 256]⟩
abbrev S2x256x256 : Shape := ⟨3, ![2, 256, 256]⟩
abbrev S_ : Shape := ⟨0, ![]⟩
abbrev S512x256 : Shape := ⟨2, ![512, 256]⟩

abbrev nBuf : Space → Nat
  | .hbm => 44
  | .vmem => 0
  | .smem => 0
  | _ => 0

abbrev bufTy : (tb : Table) → Fin (tcTables nBuf tb) → BufTy
  | .hbm, ⟨0, _⟩ => ⟨S8x2x256x256, .bf16⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S8x2x256x256, .f32⟩
  | .hbm, ⟨5, _⟩ => ⟨S_, .f32⟩
  | .hbm, ⟨6, _⟩ => ⟨S2x256x256, .f32⟩
  | .hbm, ⟨7, _⟩ => ⟨S_, .f32⟩
  | .hbm, ⟨8, _⟩ => ⟨S2x256x256, .f32⟩
  | .hbm, ⟨9, _⟩ => ⟨S2x256x256, .f32⟩
  | .hbm, ⟨10, _⟩ => ⟨S_, .f32⟩
  | .hbm, ⟨11, _⟩ => ⟨S2x256x256, .f32⟩
  | .hbm, ⟨12, _⟩ => ⟨S2x256x256, .f32⟩
  | .hbm, ⟨13, _⟩ => ⟨S2x256x256, .f32⟩
  | .hbm, ⟨14, _⟩ => ⟨S_, .f32⟩
  | .hbm, ⟨15, _⟩ => ⟨S2x256x256, .f32⟩
  | .hbm, ⟨16, _⟩ => ⟨S2x256x256, .f32⟩
  | .hbm, ⟨17, _⟩ => ⟨S2x256x256, .f32⟩
  | .hbm, ⟨18, _⟩ => ⟨S_, .f32⟩
  | .hbm, ⟨19, _⟩ => ⟨S2x256x256, .f32⟩
  | .hbm, ⟨20, _⟩ => ⟨S2x256x256, .f32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S_, .f32⟩
  | .hbm, ⟨26, _⟩ => ⟨S2x256x256, .f32⟩
  | .hbm, ⟨27, _⟩ => ⟨S2x256x256, .f32⟩
  | .hbm, ⟨28, _⟩ => ⟨S2x256x256, .f32⟩
  | .hbm, ⟨29, _⟩ => ⟨S_, .f32⟩
  | .hbm, ⟨30, _⟩ => ⟨S2x256x256, .f32⟩
  | .hbm, ⟨31, _⟩ => ⟨S2x256x256, .f32⟩
  | .hbm, ⟨32, _⟩ => ⟨S2x256x256, .f32⟩
  | .hbm, ⟨33, _⟩ => ⟨S_, .f32⟩
  | .hbm, ⟨34, _⟩ => ⟨S2x256x256, .f32⟩
  | .hbm, ⟨35, _⟩ => ⟨S2x256x256, .f32⟩
  | .hbm, ⟨36, _⟩ => ⟨S2x256x256, .f32⟩
  | .hbm, ⟨37, _⟩ => ⟨S_, .f32⟩
  | .hbm, ⟨38, _⟩ => ⟨S2x256x256, .f32⟩
  | .hbm, ⟨39, _⟩ => ⟨S2x256x256, .f32⟩
  | .hbm, ⟨40, _⟩ => ⟨S512x256, .f32⟩
  | .hbm, ⟨41, _⟩ => ⟨S512x256, .f32⟩
  | .hbm, ⟨42, _⟩ => ⟨S512x256, .f32⟩
  | .hbm, ⟨43, _⟩ => ⟨S512x256, .f32⟩
  | _, _ => ⟨S8x2x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel41.lean ====
abbrev S2192x128 : Shape := ⟨2, ![2192, 128]⟩
abbrev S1096x128 : Shape := ⟨2, ![1096, 128]⟩

abbrev nBuf : Space → Nat
  | .hbm => 7
  | .vmem => 14
  | .smem => 0
  | _ => 0

abbrev bufTy : (tb : Table) → Fin (tcTables nBuf tb) → BufTy
  | .hbm, ⟨0, _⟩ => ⟨S2192x128, .f32⟩
  | .hbm, ⟨1, _⟩ => ⟨S2192x128, .f32⟩
  | .hbm, ⟨2, _⟩ => ⟨S2192x128, .f32⟩
  | .hbm, ⟨3, _⟩ => ⟨S2192x128, .f32⟩
  | .hbm, ⟨4, _⟩ => ⟨S2192x128, .f32⟩
  | .hbm, ⟨5, _⟩ => ⟨S2192x128, .f32⟩
  | .hbm, ⟨6, _⟩ => ⟨S2192x128, .f32⟩
  | .local _ .vmem, ⟨0, _⟩ => ⟨S1096x128, .f32⟩
  | .local _ .vmem, ⟨1, _⟩ => ⟨S1096x128, .f32⟩
  | .local _ .vmem, ⟨2, _⟩ => ⟨S1096x128, .f32⟩
  | .local _ .vmem, ⟨3, _⟩ => ⟨S1096x128, .f32⟩
  | .local _ .vmem, ⟨4, _⟩ => ⟨S1096x128, .f32⟩
  | .local _ .vmem, ⟨5, _⟩ => ⟨S1096x128, .f32⟩
  | .local _ .vmem, ⟨6, _⟩ => ⟨S1096x128, .f32⟩
  | .local _ .vmem, ⟨7, _⟩ => ⟨S1096x128, .f32⟩
  | .local _ .vmem, ⟨8, _⟩ => ⟨S1096x128, .f32⟩
  | .local _ .vmem, ⟨9, _⟩ => ⟨S1096x128, .f32⟩
  | .local _ .vmem, ⟨10, _⟩ => ⟨S1096x128, .f32⟩
  | .local _ .vmem, ⟨11, _⟩ => ⟨S1096x128, .f32⟩
  | .local _ .vmem, ⟨12, _⟩ => ⟨S1096x128, .f32⟩
  | .local _ .vmem, ⟨13, _⟩ => ⟨S1096x128, .f32⟩
  | _, _ => ⟨S2192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference41Ideal.lean ====
abbrev S2192x128 : Shape := ⟨2, ![2192, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2192x128, .f32⟩
  | .hbm, ⟨1, _⟩ => ⟨S2192x128, .f32⟩
  | .hbm, ⟨2, _⟩ => ⟨S2192x128, .f32⟩
  | .hbm, ⟨3, _⟩ => ⟨S2192x128, .f32⟩
  | .hbm, ⟨4, _⟩ => ⟨S_, .f32⟩
  | .hbm, ⟨5, _⟩ => ⟨S2192x128, .f32⟩
  | .hbm, ⟨6, _⟩ => ⟨S2192x128, .f32⟩
  | .hbm, ⟨7, _⟩ => ⟨S_, .f32⟩
  | .hbm, ⟨8, _⟩ => ⟨S2192x128, .f32⟩
  | .hbm, ⟨9, _⟩ => ⟨S2192x128, .f32⟩
  | .hbm, ⟨10, _⟩ => ⟨S2192x128, .f32⟩
  | .hbm, ⟨11, _⟩ => ⟨S_, .f32⟩
  | .hbm, ⟨12, _⟩ => ⟨S2192x128, .f32⟩
  | .hbm, ⟨13, _⟩ => ⟨S2192x128, .f32⟩
  | .hbm, ⟨14, _⟩ => ⟨S2192x128, .f32⟩
  | .hbm, ⟨15, _⟩ => ⟨S_, .f32⟩
  | .hbm, ⟨16, _⟩ => ⟨S2192x128, .f32⟩
  | .hbm, ⟨17, _⟩ => ⟨S2192x128, .f32⟩
  | .hbm, ⟨18, _⟩ => ⟨S2192x128, .f32⟩
  | .hbm, ⟨19, _⟩ => ⟨S_, .f32⟩
  | .hbm, ⟨20, _⟩ => ⟨S2192x128, .f32⟩
  | .hbm, ⟨21, _⟩ => ⟨S2192x128, .f32⟩
  | .hbm, ⟨22, _⟩ => ⟨S_, .f32⟩
  | .hbm, ⟨23, _⟩ => ⟨S2192x128, .f32⟩
  | .hbm, ⟨24, _⟩ => ⟨S2192x128, .f32⟩
  | .hbm, ⟨25, _⟩ => ⟨S2192x128, .f32⟩
  | .hbm, ⟨26, _⟩ => ⟨S_, .f32⟩
  | .hbm, ⟨27, _⟩ => ⟨S2192x128, .f32⟩
  | .hbm, ⟨28, _⟩ => ⟨S2192x128, .f32⟩
  | .hbm, ⟨29, _⟩ => ⟨S2192x128, .f32⟩
  | .hbm, ⟨30, _⟩ => ⟨S_, .f32⟩
  | .hbm, ⟨31, _⟩ => ⟨S2192x128, .f32⟩
  | .hbm, ⟨32, _⟩ => ⟨S2192x128, .f32⟩
  | .hbm, ⟨33, _⟩ => ⟨S2192x128, .f32⟩
  | .hbm, ⟨34, _⟩ => ⟨S_, .f32⟩
  | .hbm, ⟨35, _⟩ => ⟨S2192x128, .f32⟩
  | .hbm, ⟨36, _⟩ => ⟨S2192x128, .f32⟩
  | _, _ => ⟨S2192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel42.lean ====
abbrev S16384x8192 : Shape := ⟨2, ![16384, 8192]⟩
abbrev S8x128x128 : Shape := ⟨3, ![8, 128, 128]⟩
abbrev S8x128 : Shape := ⟨2, ![8, 128]⟩
abbrev S1x512 : Shape := ⟨2, ![1, 512]⟩
abbrev S128x8 : Shape := ⟨2, ![128, 8]⟩
abbrev S128x8x64 : Shape := ⟨3, ![128, 8, 64]⟩
abbrev S128x512 : Shape := ⟨2, ![128, 512]⟩
abbrev S16384x512 : Shape := ⟨2, ![16384, 512]⟩
abbrev S512x512 : Shape := ⟨2, ![512, 512]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩

abbrev nBuf : Space → Nat
  | .hbm => 9
  | .vmem => 10
  | .smem => 0
  | _ => 0

abbrev bufTy : (tb : Table) → Fin (tcTables nBuf tb) → BufTy
  | .hbm, ⟨0, _⟩ => ⟨S16384x8192, .f32⟩
  | .hbm, ⟨1, _⟩ => ⟨S8x128x128, .f32⟩
  | .hbm, ⟨2, _⟩ => ⟨S8x128, .f32⟩
  | .hbm, ⟨3, _⟩ => ⟨S1x512, .f32⟩
  | .hbm, ⟨4, _⟩ => ⟨S1x512, .f32⟩
  | .hbm, ⟨5, _⟩ => ⟨S128x8, .f32⟩
  | .hbm, ⟨6, _⟩ => ⟨S128x8x64, .f32⟩
  | .hbm, ⟨7, _⟩ => ⟨S128x512, .f32⟩
  | .hbm, ⟨8, _⟩ => ⟨S16384x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S8x128x128, .f32⟩
  | .local _ .vmem, ⟨5, _⟩ => ⟨S128x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference42Ideal.lean ====
abbrev S16384x8192 : Shape := ⟨2, ![16384, 8192]⟩
abbrev S8x128x128 : Shape := ⟨3, ![8, 128, 128]⟩
abbrev S8x128 : Shape := ⟨2, ![8, 128]⟩
abbrev S1x512 : Shape := ⟨2, ![1, 512]⟩
abbrev S16384x512 : Shape := ⟨2, ![16384, 512]⟩
abbrev S128x8 : Shape := ⟨2, ![128, 8]⟩
abbrev S128x8x64 : Shape := ⟨3, ![128, 8, 64]⟩
abbrev S128x512 : Shape := ⟨2, ![128, 512]⟩
abbrev S_ : Shape := ⟨0, ![]⟩
abbrev S16384 : Shape := ⟨1, ![16384]⟩
abbrev S16384x1 : Shape := ⟨2, ![16384, 1]⟩
abbrev S128x128x8x64 : Shape := ⟨4, ![128, 128, 8, 64]⟩
abbrev S8x128x64x128 : Shape := ⟨4, ![8, 128, 64, 128]⟩
abbrev S1x128x8x64 : Shape := ⟨4, ![1, 128, 8, 64]⟩

abbrev nBuf : Space → Nat
  | .hbm => 66
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S8x128x128, .f32⟩
  | .hbm, ⟨2, _⟩ => ⟨S8x128, .f32⟩
  | .hbm, ⟨3, _⟩ => ⟨S1x512, .f32⟩
  | .hbm, ⟨4, _⟩ => ⟨S1x512, .f32⟩
  | .hbm, ⟨5, _⟩ => ⟨S16384x512, .f32⟩
  | .hbm, ⟨6, _⟩ => ⟨S16384x512, .f32⟩
  | .hbm, ⟨7, _⟩ => ⟨S128x8, .f32⟩
  | .hbm, ⟨8, _⟩ => ⟨S128x8x64, .f32⟩
  | .hbm, ⟨9, _⟩ => ⟨S128x512, .f32⟩
  | .hbm, ⟨10, _⟩ => ⟨S_, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S_, .f32⟩
  | .hbm, ⟨15, _⟩ => ⟨S16384x512, .f32⟩
  | .hbm, ⟨16, _⟩ => ⟨S16384x512, .f32⟩
  | .hbm, ⟨17, _⟩ => ⟨S_, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S128x128x8x64, .f32⟩
  | .hbm, ⟨47, _⟩ => ⟨S8x128x64x128, .f32⟩
  | .hbm, ⟨48, _⟩ => ⟨S128x128x8x64, .f32⟩
  | .hbm, ⟨49, _⟩ => ⟨S1x128x8x64, .f32⟩
  | .hbm, ⟨50, _⟩ => ⟨S128x128x8x64, .f32⟩
  | .hbm, ⟨51, _⟩ => ⟨S128x128x8x64, .f32⟩
  | .hbm, ⟨52, _⟩ => ⟨S_, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S_, .f32⟩
  | .hbm, ⟨57, _⟩ => ⟨S16384x512, .f32⟩
  | .hbm, ⟨58, _⟩ => ⟨S16384x512, .f32⟩
  | .hbm, ⟨59, _⟩ => ⟨S_, .f32⟩
  | .hbm, ⟨60, _⟩ => ⟨S16384x512, .f32⟩
  | .hbm, ⟨61, _⟩ => ⟨S16384x512, .f32⟩
  | .hbm, ⟨62, _⟩ => ⟨S16384x512, .f32⟩
  | .hbm, ⟨63, _⟩ => ⟨S16384x512, .f32⟩
  | .hbm, ⟨64, _⟩ => ⟨S16384x512, .f32⟩
  | .hbm, ⟨65, _⟩ => ⟨S16384x512, .bf16⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Kernel43.lean ====
abbrev S2x1024 : Shape := ⟨2, ![2, 1024]⟩
abbrev S1x1024 : Shape := ⟨2, ![1, 1024]⟩

abbrev nBuf : Space → Nat
  | .hbm => 2
  | .vmem => 2
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .local _ .vmem, ⟨0, _⟩ => ⟨S2x1024, .f32⟩
  | .local _ .vmem, ⟨1, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference43Ideal.lean ====
abbrev S2x1024 : Shape := ⟨2, ![2, 1024]⟩
abbrev S_ : Shape := ⟨0, ![]⟩
abbrev S1024 : Shape := ⟨1, ![1024]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S2x1024, .f32⟩
  | .hbm, ⟨14, _⟩ => ⟨S2x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S1x1024, .f32⟩
  | .hbm, ⟨30, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== Kernel44.lean ====
abbrev S2x1024 : Shape := ⟨2, ![2, 1024]⟩
abbrev S1x1024 : Shape := ⟨2, ![1, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference44Ideal.lean ====
abbrev S2x1024 : Shape := ⟨2, ![2, 1024]⟩
abbrev S_ : Shape := ⟨0, ![]⟩
abbrev S1024 : Shape := ⟨1, ![1024]⟩
abbrev S1x1024 : Shape := ⟨2, ![1, 1024]⟩

abbrev nBuf : Space → Nat
  | .hbm => 95
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S_, .f32⟩
  | .hbm, ⟨3, _⟩ => ⟨S1024, .f32⟩
  | .hbm, ⟨4, _⟩ => ⟨S1x1024, .f32⟩
  | .hbm, ⟨5, _⟩ => ⟨S2x1024, .f32⟩
  | .hbm, ⟨6, _⟩ => ⟨S2x1024, .i1⟩
  | .hbm, ⟨7, _⟩ => ⟨S2x1024, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .i1⟩
  | .hbm, ⟨16, _⟩ => ⟨S_, .f32⟩
  | .hbm, ⟨17, _⟩ => ⟨S1024, .f32⟩
  | .hbm, ⟨18, _⟩ => ⟨S1024, .i1⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S2x1024, .f32⟩
  | .hbm, ⟨29, _⟩ => ⟨S2x1024, .f32⟩
  | .hbm, ⟨30, _⟩ => ⟨S2x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2x1024, .f32⟩
  | .hbm, ⟨35, _⟩ => ⟨S2x1024, .f32⟩
  | .hbm, ⟨36, _⟩ => ⟨S1x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1024, .f32⟩
  | .hbm, ⟨42, _⟩ => ⟨S1x1024, .f32⟩
  | .hbm, ⟨43, _⟩ => ⟨S1024, .f32⟩
  | .hbm, ⟨44, _⟩ => ⟨S1024, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S1024, .f32⟩
  | .hbm, ⟨49, _⟩ => ⟨S1024, .f32⟩
  | .hbm, ⟨50, _⟩ => ⟨S1x1024, .f32⟩
  | .hbm, ⟨51, _⟩ => ⟨S1024, .f32⟩
  | .hbm, ⟨52, _⟩ => ⟨S1024, .f32⟩
  | .hbm, ⟨53, _⟩ => ⟨S1x1024, .f32⟩
  | .hbm, ⟨54, _⟩ => ⟨S1x1024, .f32⟩
  | .hbm, ⟨55, _⟩ => ⟨S2x1024, .f32⟩
  | .hbm, ⟨56, _⟩ => ⟨S1x1024, .f32⟩
  | .hbm, ⟨57, _⟩ => ⟨S1024, .f32⟩
  | .hbm, ⟨58, _⟩ => ⟨S1x1024, .f32⟩
  | .hbm, ⟨59, _⟩ => ⟨S1024, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S2x1024, .f32⟩
  | .hbm, ⟨64, _⟩ => ⟨S1x1024, .f32⟩
  | .hbm, ⟨65, _⟩ => ⟨S_, .f32⟩
  | .hbm, ⟨66, _⟩ => ⟨S2x1024, .f32⟩
  | .hbm, ⟨67, _⟩ => ⟨S2x1024, .f32⟩
  | .hbm, ⟨68, _⟩ => ⟨S1x1024, .f32⟩
  | .hbm, ⟨69, _⟩ => ⟨S_, .f32⟩
  | .hbm, ⟨70, _⟩ => ⟨S2x1024, .f32⟩
  | .hbm, ⟨71, _⟩ => ⟨S2x1024, .f32⟩
  | .hbm, ⟨72, _⟩ => ⟨S1024, .f32⟩
  | .hbm, ⟨73, _⟩ => ⟨S1x1024, .f32⟩
  | .hbm, ⟨74, _⟩ => ⟨S_, .f32⟩
  | .hbm, ⟨75, _⟩ => ⟨S2x1024, .f32⟩
  | .hbm, ⟨76, _⟩ => ⟨S2x1024, .f32⟩
  | .hbm, ⟨77, _⟩ => ⟨S1x1024, .f32⟩
  | .hbm, ⟨78, _⟩ => ⟨S_, .f32⟩
  | .hbm, ⟨79, _⟩ => ⟨S2x1024, .f32⟩
  | .hbm, ⟨80, _⟩ => ⟨S2x1024, .f32⟩
  | .hbm, ⟨81, _⟩ => ⟨S2x1024, .f32⟩
  | .hbm, ⟨82, _⟩ => ⟨S2x1024, .f32⟩
  | .hbm, ⟨83, _⟩ => ⟨S2x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S1x1024, .f32⟩
  | .hbm, ⟨88, _⟩ => ⟨S2x1024, .f32⟩
  | .hbm, ⟨89, _⟩ => ⟨S2x1024, .f32⟩
  | .hbm, ⟨90, _⟩ => ⟨S_, .f32⟩
  | .hbm, ⟨91, _⟩ => ⟨S1024, .f32⟩
  | .hbm, ⟨92, _⟩ => ⟨S2x1024, .f32⟩
  | .hbm, ⟨93, _⟩ => ⟨S2x1024, .f32⟩
  | .hbm, ⟨94, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_9 : Ref sig .tc := ⟨.hbm, 62, rfl⟩
abbrev main_v50 : Ref sig .tc := ⟨.hbm, 63, rfl⟩
abbrev main_v51 : Ref sig .tc := ⟨.hbm, 64, rfl⟩
abbrev main_cst_10 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_11 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_12 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_13 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_14 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_15 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩

abbrev nD : Nat := 1
abbrev τ : Topo := Topo.v7x

variable {F : FTy → Type} [FloatOps F]
-- ==== Kernel45.lean ====
abbrev S16384x1024 : Shape := ⟨2, ![16384, 1024]⟩
abbrev S4x2x256x1024 : Shape := ⟨4, ![4, 2, 256, 1024]⟩
abbrev S1024x256 : Shape := ⟨2, ![1024, 256]⟩
abbrev S1024x1024 : Shape := ⟨2, ![1024, 1024]⟩
abbrev S1x1x256x1024 : Shape := ⟨4, ![1, 1, 256, 1024]⟩
abbrev S256x1024 : Shape := ⟨2, ![256, 1024]⟩
abbrev S4x1x256x1024 : Shape := ⟨4, ![4, 1, 256, 1024]⟩
abbrev S4x256x1024 : Shape := ⟨3, ![4, 256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x2x256x1024, .bf16⟩
  | .hbm, ⟨3, _⟩ => ⟨S4x1x256x1024, .bf16⟩
  | .hbm, ⟨4, _⟩ => ⟨S4x256x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S256x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond3 (i : grid0.Coords) : BitVec 1 :=
  let arg1 : BitVec 32 := BitVec.ofNat 32 (i 1).val
  let c15_i32 : BitVec 32 := 15#32
  let v9 : BitVec 1 := Scalar.cmpi .eq arg1 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference45Ideal.lean ====
abbrev S16384x1024 : Shape := ⟨2, ![16384, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S4x256x1024, .f32⟩
  | .hbm, ⟨10, _⟩ => ⟨S4x256x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel46.lean ====
abbrev S16384x1024 : Shape := ⟨2, ![16384, 1024]⟩
abbrev S4x16384x704 : Shape := ⟨3, ![4, 16384, 704]⟩
abbrev S4x2x1024x704 : Shape := ⟨4, ![4, 2, 1024, 704]⟩
abbrev S1024x1024 : Shape := ⟨2, ![1024, 1024]⟩
abbrev S1x1024x704 : Shape := ⟨3, ![1, 1024, 704]⟩
abbrev S1x1x1024x704 : Shape := ⟨4, ![1, 1, 1024, 704]⟩
abbrev S1024x704 : Shape := ⟨2, ![1024, 704]⟩
abbrev S4x1x1024x704 : Shape := ⟨4, ![4, 1, 1024, 704]⟩
abbrev S4x1024x704 : Shape := ⟨3, ![4, 1024, 704]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S4x16384x704, .bf16⟩
  | .hbm, ⟨2, _⟩ => ⟨S4x2x1024x704, .bf16⟩
  | .hbm, ⟨3, _⟩ => ⟨S4x1x1024x704, .bf16⟩
  | .hbm, ⟨4, _⟩ => ⟨S4x1024x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1024x704, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond3 (i : grid0.Coords) : BitVec 1 :=
  let arg1 : BitVec 32 := BitVec.ofNat 32 (i 1).val
  let c15_i32 : BitVec 32 := 15#32
  let v10 : BitVec 1 := Scalar.cmpi .eq arg1 c15_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference46Ideal.lean ====
abbrev S16384x1024 : Shape := ⟨2, ![16384, 1024]⟩
abbrev S4x16384x704 : Shape := ⟨3, ![4, 16384, 704]⟩
abbrev S16384x4x704 : Shape := ⟨3, ![16384, 4, 704]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩

abbrev nBuf : Space → Nat
  | .hbm => 14
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x16384x704, .bf16⟩
  | .hbm, ⟨2, _⟩ => ⟨S16384x4x704, .bf16⟩
  | .hbm, ⟨3, _⟩ => ⟨S16384x2816, .bf16⟩
  | .hbm, ⟨4, _⟩ => ⟨S16384x2816, .f32⟩
  | .hbm, ⟨5, _⟩ => ⟨S_, .f32⟩
  | .hbm, ⟨6, _⟩ => ⟨S1024x2816, .f32⟩
  | .hbm, ⟨7, _⟩ => ⟨S16384x1024, .f32⟩
  | .hbm, ⟨8, _⟩ => ⟨S16384x2816, .f32⟩
  | .hbm, ⟨9, _⟩ => ⟨S2816x1024, .f32⟩
  | .hbm, ⟨10, _⟩ => ⟨S1024x2816, .f32⟩
  | .hbm, ⟨11, _⟩ => ⟨S1024x4x704, .f32⟩
  | .hbm, ⟨12, _⟩ => ⟨S4x1024x704, .f32⟩
  | .hbm, ⟨13, _⟩ => ⟨S4x1024x704, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel47.lean ====
abbrev S16384x1024 : Shape := ⟨2, ![16384, 1024]⟩
abbrev S4x2x256x1024 : Shape := ⟨4, ![4, 2, 256, 1024]⟩
abbrev S1024x256 : Shape := ⟨2, ![1024, 256]⟩
abbrev S1024x1024 : Shape := ⟨2, ![1024, 1024]⟩
abbrev S1x1x256x1024 : Shape := ⟨4, ![1, 1, 256, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x2x256x1024, .bf16⟩
  | .hbm, ⟨3, _⟩ => ⟨S4x2x256x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S256x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond3 (i : grid0.Coords) : BitVec 1 :=
  let arg1 : BitVec 32 := BitVec.ofNat 32 (i 1).val
  let c15_i32 : BitVec 32 := 15#32
  let v9 : BitVec 1 := Scalar.cmpi .eq arg1 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference47Ideal.lean ====
abbrev S16384x1024 : Shape := ⟨2, ![16384, 1024]⟩
abbrev S4x2x256x1024 : Shape := ⟨4, ![4, 2, 256, 1024]⟩
abbrev S_ : Shape := ⟨0, ![]⟩
abbrev S1024x1024 : Shape := ⟨2, ![1024, 1024]⟩
abbrev S4x256x1024 : Shape := ⟨3, ![4, 256, 1024]⟩
abbrev S4x1x256x1024 : Shape := ⟨4, ![4, 1, 256, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x2x256x1024, .bf16⟩
  | .hbm, ⟨3, _⟩ => ⟨S_, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S1024x1024, .f32⟩
  | .hbm, ⟨9, _⟩ => ⟨S1024x1024, .f32⟩
  | .hbm, ⟨10, _⟩ => ⟨S4x256x1024, .f32⟩
  | .hbm, ⟨11, _⟩ => ⟨S4x256x1024, .bf16⟩
  | .hbm, ⟨12, _⟩ => ⟨S4x1x256x1024, .bf16⟩
  | .hbm, ⟨13, _⟩ => ⟨S4x1x256x1024, .bf16⟩
  | .hbm, ⟨14, _⟩ => ⟨S4x2x256x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel48.lean ====
abbrev S16384x1024 : Shape := ⟨2, ![16384, 1024]⟩
abbrev S4x2x256x1024 : Shape := ⟨4, ![4, 2, 256, 1024]⟩
abbrev S1024x256 : Shape := ⟨2, ![1024, 256]⟩
abbrev S1024x1024 : Shape := ⟨2, ![1024, 1024]⟩
abbrev S1x1x256x1024 : Shape := ⟨4, ![1, 1, 256, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S4x2x256x1024, .bf16⟩
  | .hbm, ⟨3, _⟩ => ⟨S4x2x256x1024, .bf16⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond3 (i : grid0.Coords) : BitVec 1 :=
  let arg1 : BitVec 32 := BitVec.ofNat 32 (i 1).val
  let c15_i32 : BitVec 32 := 15#32
  let v10 : BitVec 1 := Scalar.cmpi .eq arg1 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference48Ideal.lean ====
abbrev S16384x1024 : Shape := ⟨2, ![16384, 1024]⟩
abbrev S4x2x256x1024 : Shape := ⟨4, ![4, 2, 256, 1024]⟩
abbrev S_ : Shape := ⟨0, ![]⟩
abbrev S1024x1024 : Shape := ⟨2, ![1024, 1024]⟩
abbrev S4x256x1024 : Shape := ⟨3, ![4, 256, 1024]⟩
abbrev S4x1x256x1024 : Shape := ⟨4, ![4, 1, 256, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S4x2x256x1024, .bf16⟩
  | .hbm, ⟨3, _⟩ => ⟨S_, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S4x256x1024, .f32⟩
  | .hbm, ⟨10, _⟩ => ⟨S4x256x1024, .bf16⟩
  | .hbm, ⟨11, _⟩ => ⟨S4x1x256x1024, .bf16⟩
  | .hbm, ⟨12, _⟩ => ⟨S4x1x256x1024, .bf16⟩
  | .hbm, ⟨13, _⟩ => ⟨S4x2x256x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel49.lean ====
abbrev S16384x512 : Shape := ⟨2, ![16384, 512]⟩
abbrev S16384x1024 : Shape := ⟨2, ![16384, 1024]⟩
abbrev S4x2x512x256 : Shape := ⟨4, ![4, 2, 512, 256]⟩
abbrev S1024x512 : Shape := ⟨2, ![1024, 512]⟩
abbrev S1024x256 : Shape := ⟨2, ![1024, 256]⟩
abbrev S1x1x512x256 : Shape := ⟨4, ![1, 1, 512, 256]⟩
abbrev S512x256 : Shape := ⟨2, ![512, 256]⟩

abbrev nBuf : Space → Nat
  | .hbm => 4
  | .vmem => 7
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S4x2x512x256, .bf16⟩
  | .hbm, ⟨3, _⟩ => ⟨S4x2x512x256, .bf16⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S1x1x512x256, .bf16⟩
  | .local _ .vmem, ⟨5, _⟩ => ⟨S1x1x512x256, .bf16⟩
  | .local _ .vmem, ⟨6, _⟩ => ⟨S512x256, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond3 (i : grid0.Coords) : BitVec 1 :=
  let arg1 : BitVec 32 := BitVec.ofNat 32 (i 1).val
  let c15_i32 : BitVec 32 := 15#32
  let v9 : BitVec 1 := Scalar.cmpi .eq arg1 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference49Ideal.lean ====
abbrev S16384x512 : Shape := ⟨2, ![16384, 512]⟩
abbrev S16384x1024 : Shape := ⟨2, ![16384, 1024]⟩
abbrev S4x2x512x256 : Shape := ⟨4, ![4, 2, 512, 256]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩
abbrev S4x1x512x256 : Shape := ⟨4, ![4, 1, 512, 256]⟩

abbrev nBuf : Space → Nat
  | .hbm => 16
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S4x2x512x256, .bf16⟩
  | .hbm, ⟨3, _⟩ => ⟨S_, .f32⟩
  | .hbm, ⟨4, _⟩ => ⟨S512x1024, .f32⟩
  | .hbm, ⟨5, _⟩ => ⟨S16384x512, .f32⟩
  | .hbm, ⟨6, _⟩ => ⟨S16384x1024, .f32⟩
  | .hbm, ⟨7, _⟩ => ⟨S16384x1024, .f32⟩
  | .hbm, ⟨8, _⟩ => ⟨S1024x512, .f32⟩
  | .hbm, ⟨9, _⟩ => ⟨S512x1024, .f32⟩
  | .hbm, ⟨10, _⟩ => ⟨S512x4x256, .f32⟩
  | .hbm, ⟨11, _⟩ => ⟨S4x512x256, .f32⟩
  | .hbm, ⟨12, _⟩ => ⟨S4x512x256, .bf16⟩
  | .hbm, ⟨13, _⟩ => ⟨S4x1x512x256, .bf16⟩
  | .hbm, ⟨14, _⟩ => ⟨S4x1x512x256, .bf16⟩
  | .hbm, ⟨15, _⟩ => ⟨S4x2x512x256, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel50.lean ====
abbrev S16384x256 : Shape := ⟨2, ![16384, 256]⟩
abbrev S16384x1024 : Shape := ⟨2, ![16384, 1024]⟩
abbrev S4x2x256x256 : Shape := ⟨4, ![4, 2, 256, 256]⟩
abbrev S1024x256 : Shape := ⟨2, ![1024, 256]⟩
abbrev S1x1x256x256 : Shape := ⟨4, ![1, 1, 256, 256]⟩
abbrev S256x256 : Shape := ⟨2, ![256, 256]⟩

abbrev nBuf : Space → Nat
  | .hbm => 4
  | .vmem => 7
  | .smem => 0
  | _ => 0

abbrev bufTy : (tb : Table) → Fin (tcTables nBuf tb) → BufTy
  | .hbm, ⟨0, _⟩ => ⟨S16384x256, .f32⟩
  | .hbm, ⟨1, _⟩ => ⟨S16384x1024, .bf16⟩
  | .hbm, ⟨2, _⟩ => ⟨S4x2x256x256, .bf16⟩
  | .hbm, ⟨3, _⟩ => ⟨S4x2x256x256, .bf16⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1x1x256x256, .bf16⟩
  | .local _ .vmem, ⟨5, _⟩ => ⟨S1x1x256x256, .bf16⟩
  | .local _ .vmem, ⟨6, _⟩ => ⟨S256x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond3 (i : grid0.Coords) : BitVec 1 :=
  let arg1 : BitVec 32 := BitVec.ofNat 32 (i 1).val
  let c15_i32 : BitVec 32 := 15#32
  let v10 : BitVec 1 := Scalar.cmpi .eq arg1 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference50Ideal.lean ====
abbrev S16384x256 : Shape := ⟨2, ![16384, 256]⟩
abbrev S16384x1024 : Shape := ⟨2, ![16384, 1024]⟩
abbrev S4x2x256x256 : Shape := ⟨4, ![4, 2, 256, 256]⟩
abbrev S_ : Shape := ⟨0, ![]⟩
abbrev S256x1024 : Shape := ⟨2, ![256, 1024]⟩
abbrev S1024x256 : Shape := ⟨2, ![1024, 256]⟩
abbrev S256x4x256 : Shape := ⟨3, ![256, 4, 256]⟩
abbrev S4x256x256 : Shape := ⟨3, ![4, 256, 256]⟩
abbrev S4x1x256x256 : Shape := ⟨4, ![4, 1, 256, 256]⟩

abbrev nBuf : Space → Nat
  | .hbm => 15
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x1024, .bf16⟩
  | .hbm, ⟨2, _⟩ => ⟨S4x2x256x256, .bf16⟩
  | .hbm, ⟨3, _⟩ => ⟨S_, .f32⟩
  | .hbm, ⟨4, _⟩ => ⟨S256x1024, .f32⟩
  | .hbm, ⟨5, _⟩ => ⟨S16384x1024, .f32⟩
  | .hbm, ⟨6, _⟩ => ⟨S16384x1024, .f32⟩
  | .hbm, ⟨7, _⟩ => ⟨S1024x256, .f32⟩
  | .hbm, ⟨8, _⟩ => ⟨S256x1024, .f32⟩
  | .hbm, ⟨9, _⟩ => ⟨S256x4x256, .f32⟩
  | .hbm, ⟨10, _⟩ => ⟨S4x256x256, .f32⟩
  | .hbm, ⟨11, _⟩ => ⟨S4x256x256, .bf16⟩
  | .hbm, ⟨12, _⟩ => ⟨S4x1x256x256, .bf16⟩
  | .hbm, ⟨13, _⟩ => ⟨S4x1x256x256, .bf16⟩
  | .hbm, ⟨14, _⟩ => ⟨S4x2x256x256, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel51.lean ====
abbrev S16384x1024 : Shape := ⟨2, ![16384, 1024]⟩
abbrev S16384x8192 : Shape := ⟨2, ![16384, 8192]⟩
abbrev S1024x1024 : Shape := ⟨2, ![1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S16384x1024, .bf16⟩
  | .hbm, ⟨1, _⟩ => ⟨S16384x8192, .bf16⟩
  | .hbm, ⟨2, _⟩ => ⟨S16384x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference51Ideal.lean ====
abbrev S16384x1024 : Shape := ⟨2, ![16384, 1024]⟩
abbrev S16384x8192 : Shape := ⟨2, ![16384, 8192]⟩
abbrev S16384x4096 : Shape := ⟨2, ![16384, 4096]⟩
abbrev S16384x3072 : Shape := ⟨2, ![16384, 3072]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x8192, .bf16⟩
  | .hbm, ⟨2, _⟩ => ⟨S16384x4096, .bf16⟩
  | .hbm, ⟨3, _⟩ => ⟨S16384x3072, .bf16⟩
  | .hbm, ⟨4, _⟩ => ⟨S16384x8192, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel52.lean ====
abbrev S16384x1024 : Shape := ⟨2, ![16384, 1024]⟩
abbrev S16384x8192 : Shape := ⟨2, ![16384, 8192]⟩
abbrev S1024x1024 : Shape := ⟨2, ![1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S16384x1024, .bf16⟩
  | .hbm, ⟨1, _⟩ => ⟨S16384x8192, .bf16⟩
  | .hbm, ⟨2, _⟩ => ⟨S16384x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference52Ideal.lean ====
abbrev S16384x1024 : Shape := ⟨2, ![16384, 1024]⟩
abbrev S16384x8192 : Shape := ⟨2, ![16384, 8192]⟩
abbrev S16384x7168 : Shape := ⟨2, ![16384, 7168]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x8192, .bf16⟩
  | .hbm, ⟨2, _⟩ => ⟨S16384x7168, .bf16⟩
  | .hbm, ⟨3, _⟩ => ⟨S16384x8192, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel53.lean ====
abbrev S16384x1024 : Shape := ⟨2, ![16384, 1024]⟩
abbrev S16384x8192 : Shape := ⟨2, ![16384, 8192]⟩
abbrev S1024x1024 : Shape := ⟨2, ![1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S16384x1024, .bf16⟩
  | .hbm, ⟨1, _⟩ => ⟨S16384x8192, .bf16⟩
  | .hbm, ⟨2, _⟩ => ⟨S16384x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference53Ideal.lean ====
abbrev S16384x1024 : Shape := ⟨2, ![16384, 1024]⟩
abbrev S16384x8192 : Shape := ⟨2, ![16384, 8192]⟩
abbrev S16384x3072 : Shape := ⟨2, ![16384, 3072]⟩
abbrev S16384x4096 : Shape := ⟨2, ![16384, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x8192, .bf16⟩
  | .hbm, ⟨2, _⟩ => ⟨S16384x3072, .bf16⟩
  | .hbm, ⟨3, _⟩ => ⟨S16384x4096, .bf16⟩
  | .hbm, ⟨4, _⟩ => ⟨S16384x8192, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.SguSpec.lean ====
/- The mathematics of the gating unit's gradient on the extended reals: the activation, the row normalisation
   and its gradient in the two shapes the programs compute it in, and the one identity between them. -/
module

public import Idealize.ShloMosaic.Lib.Pointwise
public import Idealize.ShloMosaic.PureOps.Ideal.Laws

@[expose] public section

set_option maxRecDepth 16384

noncomputable section

namespace Cert.Sgu

open Idealize.ShloMosaic

/-! ## Finite extended reals -/

/-- An extended real that is a real number. -/
def Fin' (x : EReal) : Prop := ∃ r : ℝ, x = (r : EReal)

theorem Fin'.add {x y : EReal} : Fin' x → Fin' y → Fin' (x + y)
  | ⟨a, ha⟩, ⟨b, hb⟩ => ⟨a + b, by rw [ha, hb, EReal.coe_add]⟩

theorem Fin'.mul {x y : EReal} : Fin' x → Fin' y → Fin' (x * y)
  | ⟨a, ha⟩, ⟨b, hb⟩ => ⟨a * b, by rw [ha, hb, EReal.coe_mul]⟩

theorem Fin'.sub {x y : EReal} : Fin' x → Fin' y → Fin' (x - y)
  | ⟨a, ha⟩, ⟨b, hb⟩ => ⟨a - b, by rw [ha, hb, EReal.coe_sub]⟩

theorem Fin'.erf {x : EReal} : Fin' x → Fin' (Ideal.erf x)
  | ⟨a, ha⟩ => ⟨_, by rw [ha, Ideal.erf_coe]⟩

theorem coe_sum {ι : Type} (s : Finset ι) (f : ι → ℝ) : ∑ k ∈ s, (f k : EReal) = ((∑ k ∈ s, f k : ℝ) : EReal) := by
  classical
  induction s using Finset.induction_on with
  | empty => simp
  | insert a s h ih => rw [Finset.sum_insert h, Finset.sum_insert h, ih, EReal.coe_add]

theorem Fin'.sum {ι : Type} {s : Finset ι} {f : ι → EReal} (h : ∀ k, Fin' (f k)) : Fin' (∑ k ∈ s, f k) := by
  choose g hg using h
  exact ⟨∑ k ∈ s, g k, by rw [← coe_sum]; exact Finset.sum_congr rfl fun k _ => hg k⟩

/-! ## The constants -/

/-- One half, minus one half, `1/√2` and `1/√(2π)` rounded to 32 bits, the row width and the norm's small constant. -/
abbrev half : EReal := Ideal.ofBits .f32 0x3F000000#32
abbrev nhalf : EReal := Ideal.ofBits .f32 0xBF000000#32
abbrev rt : EReal := Ideal.ofBits .f32 0x3F3504F3#32
abbrev rtpi : EReal := Ideal.ofBits .f32 0x3ECC422A#32
abbrev width : EReal := Ideal.ofBits .f32 0x44000000#32
abbrev eps : EReal := Ideal.ofBits .f32 0x358637BD#32

theorem half_eq : half = ((1 / 2 : ℝ) : EReal) := by
  simp [Ideal.ofBits, Ideal.ieee, -EReal.coe_mul]; norm_num
theorem nhalf_eq : nhalf = ((-(1 / 2) : ℝ) : EReal) := by
  simp [Ideal.ofBits, Ideal.ieee, -EReal.coe_mul, -EReal.coe_neg]; norm_num
theorem width_eq : width = ((512 : ℝ) : EReal) := by
  simp [Ideal.ofBits, Ideal.ieee, -EReal.coe_mul]; norm_num
theorem rt_fin : Fin' rt := by
  simp only [rt, Ideal.ofBits, Ideal.ieee]; norm_num; exact .mul ⟨_, rfl⟩ ⟨_, rfl⟩
theorem eps_eq : ∃ r : ℝ, 0 < r ∧ eps = (r : EReal) := by
  simp [Ideal.ofBits, Ideal.ieee, -EReal.coe_mul]

/-! ## The activation -/

/-- `x Φ(x)`, the Gaussian error linear unit. -/
def act (x : EReal) : EReal := x * (half * (1 + Ideal.erf (x * rt)))

/-- Its derivative, `Φ(x) + x φ(x)`. -/
def dact (x : EReal) : EReal := half * (1 + Ideal.erf (x * rt)) + x * (Ideal.exp (nhalf * x * x) * rtpi)

theorem act_fin {x : EReal} (h : Fin' x) : Fin' (act x) :=
  h.mul (.mul ⟨_, half_eq⟩ (.add ⟨1, rfl⟩ (.erf (h.mul rt_fin))))

/-! ## The row normalisation -/

/-- The mean of a row. -/
def mean (v : Fin 512 → EReal) : EReal := Ideal.div (∑ k, v k) width

/-- The centred row. -/
def xc (v : Fin 512 → EReal) (k : Fin 512) : EReal := v k - mean v

/-- The variance of the row, plus the small constant. -/
def vareps (v : Fin 512 → EReal) : EReal := mean (fun k => xc v k * xc v k) + eps

/-- The reciprocal deviation. -/
def rs (v : Fin 512 → EReal) : EReal := Ideal.rsqrt (vareps v)

/-- The normalised row. -/
def xh (v : Fin 512 → EReal) (k : Fin 512) : EReal := xc v k * rs v

/-- The normalised row times the gain, plus the offset. -/
def vn (v g b : Fin 512 → EReal) (k : Fin 512) : EReal := xh v k * g k + b k

/-- The gradient of the normalised row `xh v` for the cotangent row `d`, in closed form. -/
def lnK (v d : Fin 512 → EReal) (k : Fin 512) : EReal :=
  rs v * (d k - mean d - xh v k * mean (fun l => d l * xh v l))

/-- Half of what the variance's path gives, per unit of the centred row. -/
def lnS (v d : Fin 512 → EReal) : EReal :=
  Ideal.div ((∑ l, xc v l * d l) * (nhalf * Ideal.div (rs v) (vareps v))) width

/-- The cotangent of the centred row, path by path. -/
def lnT (v d : Fin 512 → EReal) (k : Fin 512) : EReal := d k * rs v + xc v k * lnS v d + lnS v d * xc v k

/-- The gradient of the row as differentiation by rule gives it: the centred row's cotangent, and the mean's path. -/
def lnR (v d : Fin 512 → EReal) (k : Fin 512) : EReal := lnT v d k + Ideal.div (∑ l, -lnT v d l) width

theorem mean_coe (f : Fin 512 → ℝ) : mean (fun k => (f k : EReal)) = (((∑ k, f k) / 512 : ℝ) : EReal) := by
  rw [mean, coe_sum, width_eq, Ideal.div_coe (by norm_num), ← EReal.coe_mul, mul_one_div]

/-- THE IDENTITY: on finite rows the two shapes of the gradient are one. -/
theorem lnR_eq (v d : Fin 512 → EReal) (hv : ∀ k, Fin' (v k)) (hd : ∀ k, Fin' (d k)) (k : Fin 512) :
    lnR v d k = lnK v d k := by
  choose V hV using hv
  choose D hD using hd
  obtain rfl : v = fun k => (V k : EReal) := funext hV
  obtain rfl : d = fun k => (D k : EReal) := funext hD
  obtain ⟨e, he, hE⟩ := eps_eq
  obtain ⟨M, hM⟩ : ∃ M : ℝ, M = (∑ k, V k) / 512 := ⟨_, rfl⟩
  have hxc : ∀ k, xc (fun k => (V k : EReal)) k = ((V k - M : ℝ) : EReal) := fun k => by
    rw [xc, mean_coe, ← EReal.coe_sub, hM]
  obtain ⟨A, hA⟩ : ∃ A : ℝ, A = (∑ k, (V k - M) * (V k - M)) / 512 + e := ⟨_, rfl⟩
  have hApos : 0 < A := by
    rw [hA]
    exact add_pos_of_nonneg_of_pos (div_nonneg (Finset.sum_nonneg fun k _ => mul_self_nonneg _) (by norm_num)) he
  have hvar : vareps (fun k => (V k : EReal)) = (A : EReal) := by
    simp only [vareps, hxc, ← EReal.coe_mul]
    rw [mean_coe, hE, ← EReal.coe_add, hA]
  obtain ⟨R, hR⟩ : ∃ R : ℝ, R = (Real.sqrt A)⁻¹ := ⟨_, rfl⟩
  have hrs : rs (fun k => (V k : EReal)) = (R : EReal) := by
    rw [rs, hvar, Ideal.rsqrt_coe, if_neg (not_lt.2 hApos.le), if_neg hApos.ne', hR]
  have hRR : R * R = A⁻¹ := by rw [hR, ← mul_inv, Real.mul_self_sqrt hApos.le]
  have hsum0 : ∑ k, (V k - M) = 0 := by
    rw [Finset.sum_sub_distrib, Finset.sum_const, hM]; simp; ring
  obtain ⟨Q, hQ⟩ : ∃ Q : ℝ, Q = ∑ l, (V l - M) * D l := ⟨_, rfl⟩
  have hS : lnS (fun k => (V k : EReal)) (fun k => (D k : EReal)) = ((Q * (-(1 / 2) * (R * (1 / A))) * (1 / 512) : ℝ) : EReal) := by
    simp only [lnS, hxc, hrs, hvar, ← EReal.coe_mul, coe_sum]
    rw [← hQ, nhalf_eq, width_eq, Ideal.div_coe hApos.ne', Ideal.div_coe (by norm_num)]
    simp only [← EReal.coe_mul]
  obtain ⟨S, hSd⟩ : ∃ S : ℝ, S = Q * (-(1 / 2) * (R * (1 / A))) * (1 / 512) := ⟨_, rfl⟩
  rw [← hSd] at hS
  have hT : ∀ l, lnT (fun k => (V k : EReal)) (fun k => (D k : EReal)) l
      = ((D l * R + (V l - M) * S + S * (V l - M) : ℝ) : EReal) := fun l => by
    simp only [lnT, hxc, hrs, hS, ← EReal.coe_mul, ← EReal.coe_add]
  have hTs : ∑ l, (D l * R + (V l - M) * S + S * (V l - M)) = (∑ l, D l) * R := by
    simp only [Finset.sum_add_distrib, ← Finset.sum_mul, ← Finset.mul_sum, hsum0]; ring
  have hK : ∑ l, D l * ((V l - M) * R) = Q * R := by
    rw [hQ, Finset.sum_mul]; exact Finset.sum_congr rfl fun l _ => by ring
  simp only [lnR, lnK, xh, hT, hxc, hrs, ← EReal.coe_neg, ← EReal.coe_mul, coe_sum, mean_coe]
  rw [width_eq, Ideal.div_coe (by norm_num)]
  simp only [← EReal.coe_mul, ← EReal.coe_sub, ← EReal.coe_add, EReal.coe_eq_coe_iff, Finset.sum_neg_distrib, hTs, hK]
  have hAi : 1 / A = R * R := by rw [hRR, one_div]
  rw [hSd, hAi]
  ring

/-! ## The spatial mixing: eight groups of 64 columns -/

/-- The group of a column, and a group's column. -/
def grp (q : Fin 512) : Fin 8 := ⟨q.val / 64, by omega⟩
def col (g : Fin 8) (e : Fin 64) : Fin 512 := ⟨64 * g.val + e.val, by omega⟩

/-! ## One chunk of 128 rows

The mixing matrices act inside a chunk, so the gradient is chunk by chunk: `d` is the output's cotangent, `zu` and `zv`
the two halves of the input, each 128 rows of 512; `w` the eight mixing matrices, `b` the bias by column, `g` and `o`
the normalisation's gain and offset. -/

abbrev Chunk := Fin 128 → Fin 512 → EReal

/-- The activated rows that are normalised. -/
def av (zv : Chunk) (i : Fin 128) : Fin 512 → EReal := fun k => act (zv i k)

/-- The normalised rows, scaled and shifted. -/
def cVN (zv : Chunk) (g o : Fin 512 → EReal) : Chunk := fun i q => vn (av zv i) g o q

/-- The cotangent of the gate's activation: the cotangent times the mixed rows. -/
def cDU (d zv : Chunk) (w : Fin 8 → Fin 128 → Fin 128 → EReal) (b : Chunk) (g o : Fin 512 → EReal) : Chunk :=
  fun i q => d i q * ((∑ s, w (grp q) i s * cVN zv g o s q) + b i q)

/-- The cotangent of the mixed rows. -/
def cDS (d zu : Chunk) : Chunk := fun i q => d i q * act (zu i q)

/-- The cotangent of the normalised rows: the mixing matrices transposed. -/
def cDV (d zu : Chunk) (w : Fin 8 → Fin 128 → Fin 128 → EReal) : Chunk :=
  fun i q => ∑ s, w (grp q) s i * cDS d zu s q

/-- The gradient of the gate's half of the input. -/
def cZU (d zu zv : Chunk) (w : Fin 8 → Fin 128 → Fin 128 → EReal) (b : Chunk) (g o : Fin 512 → EReal) : Chunk :=
  fun i q => cDU d zv w b g o i q * dact (zu i q)

/-- The gradient of the normalised half of the input. -/
def cZV (d zu zv : Chunk) (w : Fin 8 → Fin 128 → Fin 128 → EReal) (g : Fin 512 → EReal) : Chunk :=
  fun i q => lnK (av zv i) (fun k => cDV d zu w i k * g k) q * dact (zv i q)

/-- What the chunk adds to the gradients of the mixing matrices, of the gain and of the offset. -/
def cDW (d zu zv : Chunk) (g o : Fin 512 → EReal) (h : Fin 8) (i s : Fin 128) : EReal :=
  ∑ e : Fin 64, cDS d zu i (col h e) * cVN zv g o s (col h e)
def cDG (d zu zv : Chunk) (w : Fin 8 → Fin 128 → Fin 128 → EReal) (q : Fin 512) : EReal :=
  ∑ i, cDV d zu w i q * xh (av zv i) q
def cDO (d zu : Chunk) (w : Fin 8 → Fin 128 → Fin 128 → EReal) (q : Fin 512) : EReal := ∑ i, cDV d zu w i q

/-! ## All 128 chunks -/

/-- Row `i` of chunk `C`. -/
abbrev at_ (C i : Fin 128) : Fin 16384 := ⟨128 * C.val + i.val, by omega⟩
def chunkOf (n : Fin 16384) : Fin 128 := ⟨n.val / 128, by omega⟩
def rowOf (n : Fin 16384) : Fin 128 := ⟨n.val % 128, by omega⟩

/-- Chunk `C` of the cotangent, and of the two halves: columns 5120 and 5632 onwards of the shared projection. -/
def dC (d : Fin 16384 → Fin 512 → EReal) (C : Fin 128) : Chunk := fun i q => d (at_ C i) q
def uC (z : Fin 16384 → Fin 8192 → EReal) (C : Fin 128) : Chunk := fun i q => z (at_ C i) ⟨5120 + q.val, by omega⟩
def vC (z : Fin 16384 → Fin 8192 → EReal) (C : Fin 128) : Chunk := fun i q => z (at_ C i) ⟨5632 + q.val, by omega⟩

section
variable (d : Fin 16384 → Fin 512 → EReal) (z : Fin 16384 → Fin 8192 → EReal) (w : Fin 8 → Fin 128 → Fin 128 → EReal)
  (b : Chunk) (g o : Fin 512 → EReal) (y : Fin 16384 → Fin 8192 → EReal)

/-- The shared gradient: the two halves' columns, and `y` elsewhere. -/
def allZ (n : Fin 16384) (k : Fin 8192) : EReal :=
  if h : 5120 ≤ k.val ∧ k.val < 5632 then
    cZU (dC d (chunkOf n)) (uC z (chunkOf n)) (vC z (chunkOf n)) w b g o (rowOf n) ⟨k.val - 5120, by omega⟩
  else if h : 5632 ≤ k.val ∧ k.val < 6144 then
    cZV (dC d (chunkOf n)) (uC z (chunkOf n)) (vC z (chunkOf n)) w g (rowOf n) ⟨k.val - 5632, by omega⟩
  else y n k

/-- The gradients of the mixing matrices, of the bias by column, of the gain and of the offset. -/
def allW (h : Fin 8) (i s : Fin 128) : EReal := ∑ C, cDW (dC d C) (uC z C) (vC z C) g o h i s
def allB (i : Fin 128) (q : Fin 512) : EReal := ∑ C, cDS (dC d C) (uC z C) i q
def allG (q : Fin 512) : EReal := ∑ C, cDG (dC d C) (uC z C) (vC z C) w q
def allO (q : Fin 512) : EReal := ∑ C, cDO (dC d C) (uC z C) w q
end

end Cert.Sgu

end
-- ==== Proof.SguTile.lean ====
/- One 512-row tile of the gating unit's gradient as the kernel computes it: sixteen 128 by 128 blocks, each
   read at an index. The kernel's payloads are these blocks at their literal places. -/
module

public import proofs.«01_k».proof.Proof.Gen.KernelIdeal.Skeleton
public import proofs.«01_k».proof.Proof.SguSpec

@[expose] public section

set_option maxRecDepth 16384

noncomputable section

namespace Cert.KernelIdeal.Sgu

open Cert.KernelIdeal Cert.KernelIdeal.Gen Idealize.ShloMosaic Idealize.ShloMosaic.TcCoe Idealize.SL.Sem
open Cert.Sgu

abbrev Tile := FVec Ideal S512x512 .f32
abbrev Blk := FVec Ideal S128x128 .f32
abbrev Wts := FVec Ideal S8x128x128 .f32
abbrev Bias := FVec Ideal S128x512 .f32

theorem sl_tile : ∀ c j : Fin 4, S512x512.Slices ![128 * c.val, 128 * j.val] S128x128 := by decide
theorem sl_bias : ∀ j : Fin 4, S128x512.Slices ![0, 128 * j.val] S128x128 := by decide
theorem sl_wts : ∀ g : Fin 8, S8x128x128.Slices ![g.val, 0, 0] S1x128x128 := by decide

/-- Block `(c, j)` of a tile: rows `128 c ..`, columns `128 j ..`. -/
def blk (c j : Fin 4) (v : Tile) : Blk := extractStridedSlice S128x128 ![128 * c.val, 128 * j.val] v (sl_tile c j)

/-- Group `g`'s mixing matrix. -/
def wt (g : Fin 8) (w : Wts) : FVec Ideal S128x128 .bf16 :=
  truncf .bf16 (shapeCast S128x128 (extractStridedSlice S1x128x128 ![g.val, 0, 0] w (sl_wts g)) shapeCasts_S1x128x128_S128x128)
    bitsLt_bf16_f32

/-- The two groups of column block `j`: lanes below 64, lanes from 64 on. -/
def lo (j : Fin 4) : Fin 8 := ⟨2 * j.val, by omega⟩
def hi (j : Fin 4) : Fin 8 := ⟨2 * j.val + 1, by omega⟩

def r (v : Blk) : FVec Ideal S128x128 .bf16 := truncf .bf16 v bitsLt_bf16_f32

def zero : Blk := constant S128x128 .f32 0x00000000#32

def zeros : Blk := broadcast S128x128 (Scalar.ofBits .f32 0x00000000#32)

def duB (c j : Fin 4) (D VN : Tile) (w : Wts) (bt : Bias) : Blk :=
  mulf (blk c j D) (addf (select (k0_pay10)
      (matmul dot_S128x128_S128x128_S128x128_1_0_0_1_n_n none (wt (lo j) w) (r (blk c j VN)) zero)
      (matmul dot_S128x128_S128x128_S128x128_1_0_0_1_n_n none (wt (hi j) w) (r (blk c j VN)) zero))
    (extractStridedSlice S128x128 ![0, 128 * j.val] bt (sl_bias j)))

def dsB (c j : Fin 4) (D U : Tile) : Blk := mulf (blk c j D) (blk c j U)

def dvB (c j : Fin 4) (D U : Tile) (w : Wts) : Blk :=
  select (k0_pay10)
    (matmul dot_S128x128_S128x128_S128x128_0_0_1_1_n_n none (wt (lo j) w) (r (dsB c j D U)) zero)
    (matmul dot_S128x128_S128x128_S128x128_0_0_1_1_n_n none (wt (hi j) w) (r (dsB c j D U)) zero)

def dwLo (c j : Fin 4) (D U VN : Tile) : Blk :=
  matmul dot_S128x128_S128x128_S128x128_1_1_0_0_n_n none (r (select (k0_pay10) (dsB c j D U) zeros)) (r (blk c j VN)) zero

def dwHi (c j : Fin 4) (D U VN : Tile) : Blk :=
  matmul dot_S128x128_S128x128_S128x128_1_1_0_0_n_n none (r (select (k0_pay10) zeros (dsB c j D U))) (r (blk c j VN)) zero

/-! ## The blocks, read at an index -/

/-- The lane mask of a column block. -/
theorem mask (l : Fin 128) (a b : EReal) :
    Scalar.select (IntOp.cmpi CmpIPredicate.slt (BitVec.ofNat 32 l.val) 64#32) a b
      = if l.val < 64 then a else b := by
  have h : ∀ l : Fin 128, IntOp.cmpi CmpIPredicate.slt (BitVec.ofNat 32 l.val) 64#32
      = if l.val < 64 then 1#1 else 0#1 := by decide
  rw [h]; split <;> rfl

/-- Row `i` of chunk `c`, and lane `l` of column block `j`. -/
abbrev row (c : Fin 4) (i : Fin 128) : Fin 512 := ⟨128 * c.val + i.val, by omega⟩

theorem grp_row (j : Fin 4) (l : Fin 128) : grp (row j l) = if l.val < 64 then lo j else hi j := by
  apply Fin.ext; split <;> simp only [grp, lo, hi, row] <;> omega

theorem blk_apply (c j : Fin 4) (v : Tile) (i l : Fin 128) : blk c j v (ix2 i l) = v (ix2 (row c i) (row j l)) := by
  pointwise [blk]

theorem wt_apply (g : Fin 8) (w : Wts) (i s : Fin 128) : wt g w (ix2 i s) = w (ix3 g i s) := by
  pointwise [wt]

theorem duB_apply (c j : Fin 4) (D VN : Tile) (w : Wts) (bt : Bias) (i l : Fin 128) :
    duB c j D VN w bt (ix2 i l) = D (ix2 (row c i) (row j l))
      * (∑ s, w (ix3 (grp (row j l)) i s) * VN (ix2 (row c s) (row j l)) + bt (ix2 i (row j l))) := by
  pointwise [duB, blk_apply, wt_apply, r, zero, k0_pay10]
  rw [mask, grp_row]; split <;> rfl

theorem dsB_apply (c j : Fin 4) (D U : Tile) (i l : Fin 128) :
    dsB c j D U (ix2 i l) = D (ix2 (row c i) (row j l)) * U (ix2 (row c i) (row j l)) := by
  pointwise [dsB, blk_apply]

theorem dvB_apply (c j : Fin 4) (D U : Tile) (w : Wts) (i l : Fin 128) :
    dvB c j D U w (ix2 i l)
      = ∑ s, w (ix3 (grp (row j l)) s i) * (D (ix2 (row c s) (row j l)) * U (ix2 (row c s) (row j l))) := by
  pointwise [dvB, dsB_apply, wt_apply, r, zero, k0_pay10]
  rw [mask, grp_row]; split <;> rfl

theorem row_lo (j : Fin 4) (e : Fin 64) : row j ⟨e.val, by omega⟩ = col (lo j) e :=
  Fin.ext (by simp only [row, col, lo]; omega)

theorem row_hi (j : Fin 4) (e : Fin 64) : row j ⟨64 + e.val, by omega⟩ = col (hi j) e :=
  Fin.ext (by simp only [row, col, hi]; omega)

theorem dwLo_apply (c j : Fin 4) (D U VN : Tile) (i s : Fin 128) :
    dwLo c j D U VN (ix2 i s) = ∑ e : Fin 64, D (ix2 (row c i) (col (lo j) e)) * U (ix2 (row c i) (col (lo j) e))
      * VN (ix2 (row c s) (col (lo j) e)) := by
  pointwise [dwLo, dsB_apply, blk_apply, r, zero, zeros, k0_pay10]
  simp only [mask]
  rw [Fin.sum_univ_two_halves 64 64 rfl]
  refine (congrArg₂ (· + ·) (Finset.sum_congr rfl fun e _ => if_pos e.isLt)
    (Finset.sum_eq_zero fun e _ => if_neg (by simp))).trans ?_
  rw [add_zero]
  exact Finset.sum_congr rfl fun e _ => by rw [row_lo]

theorem dwHi_apply (c j : Fin 4) (D U VN : Tile) (i s : Fin 128) :
    dwHi c j D U VN (ix2 i s) = ∑ e : Fin 64, D (ix2 (row c i) (col (hi j) e)) * U (ix2 (row c i) (col (hi j) e))
      * VN (ix2 (row c s) (col (hi j) e)) := by
  pointwise [dwHi, dsB_apply, blk_apply, r, zero, zeros, k0_pay10]
  simp only [mask]
  rw [Fin.sum_univ_two_halves 64 64 rfl]
  refine (congrArg₂ (· + ·) (Finset.sum_eq_zero fun e _ => if_pos e.isLt)
    (Finset.sum_congr rfl fun e _ => if_neg (by simp))).trans ?_
  rw [zero_add]
  exact Finset.sum_congr rfl fun e _ => by rw [row_hi]

/-! ## Sixteen blocks in a square -/

/-- Four pieces of 128, chosen by position. -/
theorem ladder {α : Type} (f : Fin 4 → Fin 128 → α) (j : Fin 4) (l : Fin 128) :
    (if h : 128 * j.val + l.val < 128 then f 0 ⟨128 * j.val + l.val, h⟩
      else if h : 128 * j.val + l.val - 128 < 128 then f 1 ⟨128 * j.val + l.val - 128, h⟩
      else if h : 128 * j.val + l.val - 128 - 128 < 128 then f 2 ⟨128 * j.val + l.val - 128 - 128, h⟩
      else f 3 ⟨128 * j.val + l.val - 128 - 128 - 128, by omega⟩) = f j l := by
  match j with
  | 0 => rw [dif_pos (by simp)]; exact congrArg (f 0) (Fin.ext (by simp))
  | 1 => rw [dif_neg (by simp), dif_pos (by simp)]; exact congrArg (f 1) (Fin.ext (by simp))
  | 2 => rw [dif_neg (by simp; omega), dif_neg (by simp; omega), dif_pos (by simp; omega)]; exact congrArg (f 2) (Fin.ext (by simp; omega))
  | 3 => rw [dif_neg (by simp; omega), dif_neg (by simp; omega), dif_neg (by simp; omega)]; exact congrArg (f 3) (Fin.ext (by simp; omega))

def row4 (f : Fin 4 → Blk) : Bias :=
  concatenate S128x512 1 [⟨S128x128, f 0⟩, ⟨S128x128, f 1⟩, ⟨S128x128, f 2⟩, ⟨S128x128, f 3⟩]
    concatenates_S128x128_S128x128_S128x128_S128x128_S128x512_d1

def grid4 (f : Fin 4 → Fin 4 → Blk) : Tile :=
  concatenate S512x512 0 [⟨S128x512, row4 (f 0)⟩, ⟨S128x512, row4 (f 1)⟩, ⟨S128x512, row4 (f 2)⟩, ⟨S128x512, row4 (f 3)⟩]
    concatenates_S128x512_S128x512_S128x512_S128x512_S512x512_d0

theorem row4_apply (f : Fin 4 → Blk) (j : Fin 4) (i l : Fin 128) : row4 f (ix2 i (row j l)) = f j (ix2 i l) := by
  pointwise [row4]
  exact ladder (fun j l => f j (ix2 i l)) j l

theorem grid4_apply (f : Fin 4 → Fin 4 → Blk) (c j : Fin 4) (i l : Fin 128) :
    grid4 f (ix2 (row c i) (row j l)) = f c j (ix2 i l) := by
  pointwise [grid4]
  exact (ladder (fun c i => row4 (f c) (ix2 i (row j l))) c i).trans (row4_apply (f c) j i l)

/-- Any row or column is one of a block. -/
theorem row_div (q : Fin 512) : row ⟨q.val / 128, by omega⟩ ⟨q.val % 128, by omega⟩ = q :=
  Fin.ext (by simp only [row]; omega)

/-! ## The tile's vectors -/

/-- The gate's activation, the reciprocal deviations, the normalised rows, and those scaled and shifted. -/
def U (zu : Tile) : Tile := k0_pay3 zu
def RS (zv : Tile) : FVec Ideal S512x1 .f32 := k0_pay7 (k0_pay5 zv) k0_pay6
def XH (zv : Tile) : Tile := k0_pay8 (k0_pay4 zv) (k0_pay5 zv) k0_pay6
def VN (zv : Tile) (g b : FVec Ideal S1x512 .f32) : Tile := k0_pay9 g b (k0_pay4 zv) (k0_pay5 zv) k0_pay6

/-- The cotangent of the gate, of the mixed rows, and of the normalised rows before the gain. -/
def DU (D VN : Tile) (w : Wts) (bt : Bias) : Tile := grid4 fun c j => duB c j D VN w bt
def DS (D U : Tile) (c : Fin 4) : Bias := row4 fun j => dsB c j D U
def DVN (D U : Tile) (w : Wts) : Tile := grid4 fun c j => dvB c j D U w

/-- What the tile adds to the mixing matrices' gradient, and to the bias's. -/
def DW (D U VN : Tile) : Wts :=
  have lo4 : Fin 4 → Blk := fun j => addf (addf (addf (dwLo 0 j D U VN) (dwLo 1 j D U VN)) (dwLo 2 j D U VN)) (dwLo 3 j D U VN)
  have hi4 : Fin 4 → Blk := fun j => addf (addf (addf (dwHi 0 j D U VN) (dwHi 1 j D U VN)) (dwHi 2 j D U VN)) (dwHi 3 j D U VN)
  k0_pay138 (lo4 0) (hi4 0) (lo4 1) (hi4 1) (lo4 2) (hi4 2) (lo4 3) (hi4 3)
def DB (D U : Tile) : Bias := addf (addf (addf (DS D U 0) (DS D U 1)) (DS D U 2)) (DS D U 3)

/-- The stored columns: the gradients of the two halves of the unit's input. -/
def DX (dv : Tile) (g : FVec Ideal S1x512 .f32) : Tile := mulf dv (broadcastTo S512x512 g broadcasts_S1x512_S512x512)
def sumRow (x : Tile) : FVec Ideal S512x1 .f32 :=
  shapeCast S512x1 (multiReduction .add [1] S512 x 0x00000000#32 reduces_S512x512_S512 (.inl rfl) rfl) shapeCasts_S512_S512x1
def DZ (zu zv du dv : Tile) (g : FVec Ideal S1x512 .f32) : FVec Ideal S512x1024 .bf16 :=
  k0_pay142 (k0_pay137 zu zv (RS zv) (XH zv) du
    (subf (DX dv g) (broadcastTo S512x512 (divf (sumRow (DX dv g)) k0_pay6) broadcasts_S512x1_S512x512))
    (sumRow (mulf (DX dv g) (XH zv))) k0_pay6)

/-! ## The tile's vectors, read at an index -/

theorem U_apply (zu : Tile) (n q : Fin 512) : U zu (ix2 n q) = act (zu (ix2 n q)) := by
  pointwise [U, k0_pay3]
  rw [mul_comm half, mul_assoc]
  rfl

/-- The activated rows. -/
def act2 (zv : Tile) (n : Fin 512) : Fin 512 → EReal := fun k => act (zv (ix2 n k))

theorem xc_apply (zv : Tile) (n q : Fin 512) : k0_pay4 (F := Ideal) zv (ix2 n q) = xc (act2 zv n) q := by
  have h (k : Fin 512) : act2 zv n k = half * zv (ix2 n k) * (1 + Ideal.erf (zv (ix2 n k) * rt)) := by
    rw [act2, act, ← mul_assoc, mul_comm half]
  pointwise [k0_pay4, xc, mean]
  simp only [h]
  rfl

theorem RS_apply (zv : Tile) (n : Fin 512) : RS zv (ix2 n 0) = rs (act2 zv n) := by
  pointwise [RS, k0_pay7, k0_pay5, k0_pay6]
  simp only [xc_apply]
  rfl

theorem XH_apply (zv : Tile) (n q : Fin 512) : XH zv (ix2 n q) = xh (act2 zv n) q := by
  have h := RS_apply zv n
  rw [RS] at h
  pointwise [XH, k0_pay8, xc_apply, h]
  rfl

theorem VN_apply (zv : Tile) (g b : FVec Ideal S1x512 .f32) (n q : Fin 512) :
    VN zv g b (ix2 n q) = vn (act2 zv n) (fun k => g (ix2 0 k)) (fun k => b (ix2 0 k)) q := by
  have h := XH_apply zv n q
  rw [XH] at h
  pointwise [VN, k0_pay9, h]
  rfl

/-! ## The tile, chunk by chunk -/

/-- Chunk `c` of the tile. -/
abbrev ch (c : Fin 4) (v : Tile) : Chunk := fun i q => v (ix2 (row c i) q)
abbrev mat (w : Wts) : Fin 8 → Fin 128 → Fin 128 → EReal := fun h i s => w (ix3 h i s)
abbrev bias (b : Bias) : Chunk := fun i q => b (ix2 i q)
abbrev vec (g : FVec Ideal S1x512 .f32) : Fin 512 → EReal := fun q => g (ix2 0 q)

theorem exists_row (q : Fin 512) : ∃ j l, q = row j l := ⟨_, _, (row_div q).symm⟩

section
variable (D zu zv : Tile) (w : Wts) (bt : Bias) (g o : FVec Ideal S1x512 .f32) (c : Fin 4) (i : Fin 128) (q : Fin 512)

theorem VN_ch : VN zv g o (ix2 (row c i) q) = cVN (ch c zv) (vec g) (vec o) i q := VN_apply ..

theorem DU_ch : DU D (VN zv g o) w bt (ix2 (row c i) q)
    = cDU (ch c D) (ch c zv) (mat w) (bias bt) (vec g) (vec o) i q := by
  obtain ⟨j, l, rfl⟩ := exists_row q
  rw [DU, grid4_apply, duB_apply]
  simp only [VN_ch]; rfl

theorem DS_ch : DS D (U zu) c (ix2 i q) = cDS (ch c D) (ch c zu) i q := by
  obtain ⟨j, l, rfl⟩ := exists_row q
  rw [DS, row4_apply, dsB_apply, U_apply]; rfl

theorem DVN_ch : DVN D (U zu) w (ix2 (row c i) q) = cDV (ch c D) (ch c zu) (mat w) i q := by
  obtain ⟨j, l, rfl⟩ := exists_row q
  rw [DVN, grid4_apply, dvB_apply]
  simp only [U_apply]; rfl

theorem DB_ch : DB D (U zu) (ix2 i q) = ∑ c, cDS (ch c D) (ch c zu) i q := by
  rw [Fin.sum_univ_four]
  pointwise [DB, DS_ch]

theorem DW_ch (h : Fin 8) (s : Fin 128) : DW D (U zu) (VN zv g o) (ix3 h i s)
    = ∑ c, cDW (ch c D) (ch c zu) (ch c zv) (vec g) (vec o) h i s := by
  rw [Fin.sum_univ_four]
  fin_cases h <;> (pointwise [DW, k0_pay138, dwLo_apply, dwHi_apply]; simp only [U_apply, VN_ch]; rfl)

theorem colsum (x : Tile) : k0_pay140 (F := Ideal) x (ix2 0 q) = ∑ c, ∑ i, ch c x i q := by
  pointwise [k0_pay140]
  rw [Fin.sum_univ_tiles 4 128 rfl]
  exact Finset.sum_congr rfl fun c _ => Finset.sum_congr rfl fun i _ => congrArg (fun n => x (ix2 n q)) (Fin.ext (by simp only [row]; omega))

theorem DG_ch : k0_pay140 (F := Ideal) (k0_pay139 (XH zv) (DVN D (U zu) w)) (ix2 0 q)
    = ∑ c, cDG (ch c D) (ch c zu) (ch c zv) (mat w) q := by
  rw [colsum]
  refine Finset.sum_congr rfl fun c _ => Finset.sum_congr rfl fun i _ => ?_
  pointwise [k0_pay139, DVN_ch, XH_apply]
  rfl

theorem DO_ch : k0_pay141 (F := Ideal) (DVN D (U zu) w) (ix2 0 q) = ∑ c, cDO (ch c D) (ch c zu) (mat w) q := by
  rw [show k0_pay141 (F := Ideal) (DVN D (U zu) w) = k0_pay140 (F := Ideal) (DVN D (U zu) w) from rfl, colsum]
  refine Finset.sum_congr rfl fun c _ => Finset.sum_congr rfl fun i _ => ?_
  exact DVN_ch ..

theorem sumRow_apply (x : Tile) (n : Fin 512) : sumRow x (ix2 n 0) = ∑ k, x (ix2 n k) := by
  pointwise [sumRow]

theorem DX_apply (v : Tile) (n q : Fin 512) : DX v g (ix2 n q) = v (ix2 n q) * g (ix2 0 q) := by
  pointwise [DX]

theorem DZ_lo : DZ zu zv (DU D (VN zv g o) w bt) (DVN D (U zu) w) g (ix2 (row c i) ⟨q.val, by omega⟩)
    = cZU (ch c D) (ch c zu) (ch c zv) (mat w) (bias bt) (vec g) (vec o) i q := by
  pointwise [DZ, k0_pay142, k0_pay137, DU_ch]
  rw [cZU, dact, ← mul_assoc (zu _)]; rfl

theorem DZ_hi (du : Tile) : DZ zu zv du (DVN D (U zu) w) g (ix2 (row c i) ⟨512 + q.val, by omega⟩)
    = cZV (ch c D) (ch c zu) (ch c zv) (mat w) (vec g) i q := by
  pointwise [DZ, k0_pay142, k0_pay137, sumRow_apply, DX_apply, DVN_ch, XH_apply, RS_apply]
  rw [cZV, dact, ← mul_assoc (zv _)]; rfl

end

end Cert.KernelIdeal.Sgu

end
-- ==== Proof.SguOuts.lean ====
/- What each tile of the gating unit's gradient writes: the kernel's payloads, put together, are the tile's vectors. -/
module

public import proofs.«01_k».proof.Proof.SguTile
public import proofs.«01_k».proof.Proof.Gen.KernelIdeal.Value
import Idealize.ShloMosaic.Lib.Pointwise
public import Idealize.ShloMosaic.Lib.Pipeline.ValueKit

@[expose] public section

set_option maxRecDepth 16384

noncomputable section

namespace Cert.KernelIdeal.Sgu

open Cert.KernelIdeal Cert.KernelIdeal.Gen Idealize.ShloMosaic Idealize.ShloMosaic.TcCoe Idealize.SL.Sem
open Idealize.ShloMosaic.Pipeline (Dat)
open Cert.Sgu

variable (m : (l : Loc nD τ sig) → Buf (Elt Ideal) l)

/-! ## What a tile writes -/

section
variable (c : Dev nD) (t : Fin cfg0.N)

abbrev tD : Tile := iblk m c 0 t
abbrev tU : Tile := iblk m c 1 t
abbrev tV : Tile := iblk m c 2 t
abbrev tW : Wts := iblk m c 3 t
abbrev tB : Bias := k0_pay2 (iblk m c 4 t)
abbrev tG : FVec Ideal S1x512 .f32 := iblk m c 5 t
abbrev tO : FVec Ideal S1x512 .f32 := iblk m c 6 t

/-- The cotangent of the tile's normalised rows. -/
abbrev tDV : Tile := DVN (tD m c t) (U (tU m c t)) (tW m c t)

theorem outs_dz : (outsAt0 m c t.val t.isLt).1
    = DZ (tU m c t) (tV m c t) (DU (tD m c t) (VN (tV m c t) (tG m c t) (tO m c t)) (tW m c t) (tB m c t))
        (tDV m c t) (tG m c t) := by
  by_cases h : t.val % 32 = 0
  · have h' : ¬ 1 ≤ t.val := by have := lt_of_lt_of_eq t.isLt N_0; omega
    rw [outsAt0_A m c t h h' h h' h h' h h']; frame_out; rfl
  · have h' : 1 ≤ t.val := by omega
    rw [outsAt0_B m c t h h' h h' h h' h h']; frame_out; rfl

theorem outs_dw_A (h : t.val % 32 = 0) : (outsAt0 m c t.val t.isLt).2.1 = DW (tD m c t) (U (tU m c t)) (VN (tV m c t) (tG m c t) (tO m c t)) := by
  have h' : ¬ 1 ≤ t.val := by have := lt_of_lt_of_eq t.isLt N_0; omega
  rw [outsAt0_A m c t h h' h h' h h' h h']; frame_out; rfl

theorem outs_dw_B (h : ¬t.val % 32 = 0) : (outsAt0 m c t.val t.isLt).2.1
    = addf ((outsAt0 m c (t.val - 1) (Nat.lt_of_le_of_lt (Nat.sub_le _ _) t.isLt)).2.1) (DW (tD m c t) (U (tU m c t)) (VN (tV m c t) (tG m c t) (tO m c t))) := by
  have h' : 1 ≤ t.val := by omega
  rw [outsAt0_B m c t h h' h h' h h' h h']; frame_out
  funext j
  pointwise [k0_pay143]
  rfl

theorem outs_db_A (h : t.val % 32 = 0) : (outsAt0 m c t.val t.isLt).2.2.1 = DB (tD m c t) (U (tU m c t)) := by
  have h' : ¬ 1 ≤ t.val := by have := lt_of_lt_of_eq t.isLt N_0; omega
  rw [outsAt0_A m c t h h' h h' h h' h h']; frame_out; rfl

theorem outs_db_B (h : ¬t.val % 32 = 0) : (outsAt0 m c t.val t.isLt).2.2.1
    = addf ((outsAt0 m c (t.val - 1) (Nat.lt_of_le_of_lt (Nat.sub_le _ _) t.isLt)).2.2.1) (DB (tD m c t) (U (tU m c t))) := by
  have h' : 1 ≤ t.val := by omega
  rw [outsAt0_B m c t h h' h h' h h' h h']; frame_out
  funext j
  pointwise [k0_pay144]
  rfl

theorem outs_dg_A (h : t.val % 32 = 0) : (outsAt0 m c t.val t.isLt).2.2.2.1 = k0_pay140 (k0_pay139 (XH (tV m c t)) (tDV m c t)) := by
  have h' : ¬ 1 ≤ t.val := by have := lt_of_lt_of_eq t.isLt N_0; omega
  rw [outsAt0_A m c t h h' h h' h h' h h']; frame_out; rfl

theorem outs_dg_B (h : ¬t.val % 32 = 0) : (outsAt0 m c t.val t.isLt).2.2.2.1
    = addf ((outsAt0 m c (t.val - 1) (Nat.lt_of_le_of_lt (Nat.sub_le _ _) t.isLt)).2.2.2.1) (k0_pay140 (k0_pay139 (XH (tV m c t)) (tDV m c t))) := by
  have h' : 1 ≤ t.val := by omega
  rw [outsAt0_B m c t h h' h h' h h' h h']; frame_out
  funext j
  pointwise [k0_pay145]
  rfl

theorem outs_do_A (h : t.val % 32 = 0) : (outsAt0 m c t.val t.isLt).2.2.2.2 = k0_pay141 (tDV m c t) := by
  have h' : ¬ 1 ≤ t.val := by have := lt_of_lt_of_eq t.isLt N_0; omega
  rw [outsAt0_A m c t h h' h h' h h' h h']; frame_out; rfl

theorem outs_do_B (h : ¬t.val % 32 = 0) : (outsAt0 m c t.val t.isLt).2.2.2.2
    = addf ((outsAt0 m c (t.val - 1) (Nat.lt_of_le_of_lt (Nat.sub_le _ _) t.isLt)).2.2.2.2) (k0_pay141 (tDV m c t)) := by
  have h' : 1 ≤ t.val := by omega
  rw [outsAt0_B m c t h h' h h' h h' h h']; frame_out
  funext j
  pointwise [k0_pay1]
  rfl
end

end Cert.KernelIdeal.Sgu

end
-- ==== Proof.SguFinal.lean ====
/- The gating unit's gradient after the kernel's last tile, array by array: the tiles' columns of the shared array, and
   the four sums over the tiles. -/
module

public import proofs.«01_k».proof.Proof.SguOuts
public import proofs.«01_k».proof.Proof.Gen.KernelIdeal.Value
import Idealize.ShloMosaic.Lib.Pointwise
public import Idealize.ShloMosaic.Lib.Pipeline.ValueKit

@[expose] public section

set_option maxRecDepth 16384

noncomputable section

namespace Cert.KernelIdeal.Sgu

open Cert.KernelIdeal Cert.KernelIdeal.Gen Idealize.ShloMosaic Idealize.ShloMosaic.TcCoe Idealize.SL.Sem
open Idealize.ShloMosaic.Pipeline (Dat)
open Cert.Sgu

variable (m : (l : Loc nD τ sig) → Buf (Elt Ideal) l)

section
variable (c : Dev nD) (t : Fin cfg0.N)

/-! ## The tile's chunks are chunks of the arguments -/

theorem idx : ∀ t : Fin cfg0.N, win0_0.index t = ![t.val, 0] ∧ win0_1.index t = ![t.val, 10] ∧ win0_2.index t = ![t.val, 11]
    ∧ win0_7.index t = ![t.val, 5] := (by decide +kernel : ∀ t : Fin grid0.N, _)
theorem idxW : ∀ t : Fin cfg0.N, win0_3.index t = ![0, 0, 0] ∧ win0_4.index t = ![0, 0] ∧ win0_5.index t = ![0, 0]
    ∧ win0_6.index t = ![0, 0] ∧ win0_8.index t = ![0, 0, 0] ∧ win0_9.index t = ![0, 0] ∧ win0_10.index t = ![0, 0]
    ∧ win0_11.index t = ![0, 0] := (by decide +kernel : ∀ t : Fin grid0.N, _)

/-- The arguments by row and column. -/
abbrev aD (n : Fin 16384) (q : Fin 512) : EReal := (m ((c : Thread nD τ).loc main_arg0) : FVec Ideal S16384x512 .f32) (ix2 n q)
abbrev aZ (n : Fin 16384) (k : Fin 8192) : EReal := (m ((c : Thread nD τ).loc main_arg1) : FVec Ideal S16384x8192 .f32) (ix2 n k)
abbrev aW (h : Fin 8) (i s : Fin 128) : EReal := (m ((c : Thread nD τ).loc main_arg2) : FVec Ideal S8x128x128 .f32) (ix3 h i s)
abbrev aB (i : Fin 128) (q : Fin 512) : EReal := (m ((c : Thread nD τ).loc main_arg3) : FVec Ideal S8x128 .f32) (ix2 (grp q) i)
abbrev aG (q : Fin 512) : EReal := (m ((c : Thread nD τ).loc main_arg4) : FVec Ideal S1x512 .f32) (ix2 0 q)
abbrev aO (q : Fin 512) : EReal := (m ((c : Thread nD τ).loc main_arg5) : FVec Ideal S1x512 .f32) (ix2 0 q)
abbrev aY (n : Fin 16384) (k : Fin 8192) : EReal := (m ((c : Thread nD τ).loc main_arg6) : FVec Ideal S16384x8192 .bf16) (ix2 n k)

/-- Chunk `k` of tile `t`. -/
abbrev tch (t : Fin cfg0.N) (k : Fin 4) : Fin 128 :=
  ⟨4 * t.val + k.val, by have := lt_of_lt_of_eq t.isLt N_0; omega⟩

theorem tD_ch (k : Fin 4) : ch k (tD m c t) = dC (aD m c) (tch t k) := by
  funext i q
  show iblk m c 0 t (ix2 (row k i) q) = m ((c : Thread nD τ).loc main_arg0) (ix2 (at_ (tch t k) i) q)
  blk_point [iblk, V, idx t]
theorem tU_ch (k : Fin 4) : ch k (tU m c t) = uC (aZ m c) (tch t k) := by
  funext i q
  show iblk m c 1 t (ix2 (row k i) q) = m ((c : Thread nD τ).loc main_arg1) (ix2 (at_ (tch t k) i) ⟨5120 + q.val, by omega⟩)
  blk_point [iblk, V, idx t]
theorem tV_ch (k : Fin 4) : ch k (tV m c t) = vC (aZ m c) (tch t k) := by
  funext i q
  show iblk m c 2 t (ix2 (row k i) q) = m ((c : Thread nD τ).loc main_arg1) (ix2 (at_ (tch t k) i) ⟨5632 + q.val, by omega⟩)
  blk_point [iblk, V, idx t]
theorem tW_mat : mat (tW m c t) = aW m c := by
  funext h i s
  show iblk m c 3 t (ix3 h i s) = m ((c : Thread nD τ).loc main_arg2) (ix3 h i s)
  blk_point [iblk, V, idxW t]
theorem tG_vec : vec (tG m c t) = aG m c := by
  funext q
  show iblk m c 5 t (ix2 0 q) = m ((c : Thread nD τ).loc main_arg4) (ix2 0 q)
  blk_point [iblk, V, idxW t]
theorem tO_vec : vec (tO m c t) = aO m c := by
  funext q
  show iblk m c 6 t (ix2 0 q) = m ((c : Thread nD τ).loc main_arg5) (ix2 0 q)
  blk_point [iblk, V, idxW t]
theorem tB_bias : bias (tB m c t) = aB m c := by
  funext i q
  show k0_pay2 (F := Ideal) (iblk m c 4 t) (ix2 i q) = m ((c : Thread nD τ).loc main_arg3) (ix2 (grp q) i)
  pointwise [k0_pay2]
  blk_simp [iblk]
  entry_read
  pointwise
  refine congrArg (m ((c : Thread nD τ).loc main_arg3) : FVec Ideal S8x128 .f32) (congrArg₂ ix2 (Fin.ext ?_) (Fin.ext ?_))
  all_goals (blk_simp [idxW t, grp])

/-! ## The shared gradient -/

/-- The shared gradient of the arguments. -/
def G7 : S16384x8192.Idx → EReal := fun j =>
  allZ (aD m c) (aZ m c) (aW m c) (aB m c) (aG m c) (aO m c) (aY m c) (j 0) (j 1)

theorem G7_else (j : S16384x8192.Idx) (h : ¬(j 1 : ℕ) / 1024 = 5) :
    G7 m c j = (m ((c : Thread nD τ).loc main_arg6) : FVec Ideal S16384x8192 .bf16) j := by
  unfold G7 allZ
  rw [dif_neg (by omega), dif_neg (by omega)]
  show (m ((c : Thread nD τ).loc main_arg6) : FVec Ideal S16384x8192 .bf16) (ix2 (j 0) (j 1)) = _
  rw [← eq_ix2]

theorem point7 (y : S512x1024.Idx) (j : S16384x8192.Idx) (h0 : (j 0 : ℕ) = 512 * t.val + (y 0 : ℕ))
    (h1 : (j 1 : ℕ) = 5120 + (y 1 : ℕ)) :
    DZ (tU m c t) (tV m c t) (DU (tD m c t) (VN (tV m c t) (tG m c t) (tO m c t)) (tW m c t) (tB m c t))
        (tDV m c t) (tG m c t) y = G7 m c j := by
  have y0 : (y 0 : ℕ) < 512 := (y 0).isLt
  have y1 : (y 1 : ℕ) < 1024 := (y 1).isLt
  obtain ⟨k, i, hk⟩ : ∃ (k : Fin 4) (i : Fin 128), (y 0 : ℕ) = 128 * k.val + i.val :=
    ⟨⟨(y 0 : ℕ) / 128, by omega⟩, ⟨(y 0 : ℕ) % 128, by omega⟩, by simp only; omega⟩
  have hC : chunkOf (j 0) = tch t k := Fin.ext (by simp only [chunkOf, tch]; omega)
  have hi : rowOf (j 0) = i := Fin.ext (by simp only [rowOf]; omega)
  by_cases hq : (y 1 : ℕ) < 512
  · rw [show y = ix2 (row k i) ⟨(⟨(y 1 : ℕ), hq⟩ : Fin 512).val, by omega⟩ from
      (eq_ix2 y).trans (congrArg₂ ix2 (Fin.ext hk) rfl), DZ_lo, tD_ch, tU_ch, tV_ch, tW_mat, tB_bias, tG_vec, tO_vec]
    unfold G7 allZ
    rw [dif_pos (by omega), hC, hi]
    exact congrArg _ (Fin.ext (by simp only; omega))
  · obtain ⟨q, hq'⟩ : ∃ q : Fin 512, (y 1 : ℕ) = 512 + q.val := ⟨⟨(y 1 : ℕ) - 512, by omega⟩, by simp only; omega⟩
    rw [show y = ix2 (row k i) ⟨512 + q.val, by omega⟩ from
      (eq_ix2 y).trans (congrArg₂ ix2 (Fin.ext hk) (Fin.ext hq')), DZ_hi, tD_ch, tU_ch, tV_ch, tW_mat, tG_vec]
    unfold G7 allZ
    rw [dif_neg (by omega), dif_pos (by omega), hC, hi]
    exact congrArg _ (Fin.ext (by simp only; omega))

end

/-! ## The arrays after the run -/

section
variable (c : Dev nD)

theorem final7 : (dats m 0 c).arrAt 7 (cfgs 0).N = G7 m c := by
  have h : (dats m 0 c).arrAt 7 (cfgs 0).N = fun j : S16384x8192.Idx => if (j 1 : ℕ) / 1024 = 5 then
      G7 m c j else V m c main_v3_0 j := by
    refine (dats m 0 c).arrAt_eq_of_coversWhere 7 _ (fun β => β (1 : Fin _) = 5) (by decide +kernel) (fun t hf y => ?_)
      (fun j => Iff.rfl)
    blk_simp
    rw [after0_7, outs_dz]
    refine point7 m c t y _ ?_ ?_ <;> (blk_simp [idx t]; try omega)
  rw [h]
  entry_read
  funext j
  split
  · rfl
  · rename_i hj; exact (G7_else m c j hj).symm

/-! ## The sums over the tiles -/

/-- A sum over the tiles' chunks is a sum over the chunks. -/
theorem sum_tch (t : Fin cfg0.N) (ht : t.val % 32 = 32 - 1) (f : Fin 128 → EReal) :
    ∑ s : Fin 32, ∑ k, f (tch ⟨32 * (t.val / 32) + s.val, Pipeline.run_point_lt_of_flush t ht s⟩ k) = ∑ C, f C := by
  rw [Fin.sum_univ_tiles 32 4 rfl]
  refine Finset.sum_congr rfl fun s _ => Finset.sum_congr rfl fun k _ => congrArg f (Fin.ext ?_)
  have := lt_of_lt_of_eq t.isLt N_0
  simp only [tch]; omega

def G8 : S8x128x128.Idx → EReal := fun j => allW (aD m c) (aZ m c) (aG m c) (aO m c) (j 0) (j 1) (j 2)

theorem final8 : (dats m 0 c).arrAt 8 (cfgs 0).N = G8 m c := by
  refine (dats m 0 c).arrAt_eq_of_covers 8 _ (by decide +kernel) fun t hf y => ?_
  blk_simp
  have ht := (flush0_8 t).mp hf
  rw [after0_8, Pipeline.eq_sum_fin_of_reset_step_apply_of_flush (fun n h => (outsAt0 m c n h).2.1) 32 (fun _ => 0)
    (fun t => DW (tD m c t) (U (tU m c t)) (VN (tV m c t) (tG m c t) (tO m c t)))
    (fun t h j => by rw [outs_dw_A m c t h, zero_add]) (fun t h j => by rw [outs_dw_B m c t h]; rfl) t ht _, zero_add]
  obtain ⟨j, hj⟩ : ∃ j : S8x128x128.Idx, j = (win0_8.blk t).view.emb y := ⟨_, rfl⟩
  have hy : y = j := by subst hj; symm; blk_ext [idxW t]
  rw [← hj, hy]
  clear hy hj
  obtain ⟨h, i, s, rfl⟩ : ∃ h i s, j = ix3 h i s := ⟨_, _, _, eq_ix3 j⟩
  refine ((Finset.sum_congr rfl fun s' _ => ?_).trans (sum_tch t ht fun C => cDW (dC (aD m c) C) (uC (aZ m c) C) (vC (aZ m c) C) (aG m c) (aO m c) h i s) : (_ : EReal) = _)
  rw [DW_ch]; simp only [tD_ch, tU_ch, tV_ch, tG_vec, tO_vec]

def G9 : S128x512.Idx → EReal := fun j => allB (aD m c) (aZ m c) (j 0) (j 1)

theorem final9 : (dats m 0 c).arrAt 9 (cfgs 0).N = G9 m c := by
  refine (dats m 0 c).arrAt_eq_of_covers 9 _ (by decide +kernel) fun t hf y => ?_
  blk_simp
  have ht := (flush0_9 t).mp hf
  rw [after0_9, Pipeline.eq_sum_fin_of_reset_step_apply_of_flush (fun n h => (outsAt0 m c n h).2.2.1) 32 (fun _ => 0)
    (fun t => DB (tD m c t) (U (tU m c t)))
    (fun t h j => by rw [outs_db_A m c t h, zero_add]) (fun t h j => by rw [outs_db_B m c t h]; rfl) t ht _, zero_add]
  obtain ⟨j, hj⟩ : ∃ j : S128x512.Idx, j = (win0_9.blk t).view.emb y := ⟨_, rfl⟩
  have hy : y = j := by subst hj; symm; blk_ext [idxW t]
  rw [← hj, hy]
  clear hy hj
  obtain ⟨i, q, rfl⟩ : ∃ i q, j = ix2 i q := ⟨_, _, eq_ix2 j⟩
  refine ((Finset.sum_congr rfl fun s' _ => ?_).trans (sum_tch t ht fun C => cDS (dC (aD m c) C) (uC (aZ m c) C) i q) : (_ : EReal) = _)
  rw [DB_ch]; simp only [tD_ch, tU_ch]

def G10 : S1x512.Idx → EReal := fun j => allG (aD m c) (aZ m c) (aW m c) (j 1)

theorem final10 : (dats m 0 c).arrAt 10 (cfgs 0).N = G10 m c := by
  refine (dats m 0 c).arrAt_eq_of_covers 10 _ (by decide +kernel) fun t hf y => ?_
  blk_simp
  have ht := (flush0_10 t).mp hf
  rw [after0_10, Pipeline.eq_sum_fin_of_reset_step_apply_of_flush (fun n h => (outsAt0 m c n h).2.2.2.1) 32 (fun _ => 0)
    (fun t => k0_pay140 (k0_pay139 (XH (tV m c t)) (tDV m c t)))
    (fun t h j => by rw [outs_dg_A m c t h, zero_add]) (fun t h j => by rw [outs_dg_B m c t h]; rfl) t ht _, zero_add]
  obtain ⟨j, hj⟩ : ∃ j : S1x512.Idx, j = (win0_10.blk t).view.emb y := ⟨_, rfl⟩
  have hy : y = j := by subst hj; symm; blk_ext [idxW t]
  rw [← hj, hy]
  clear hy hj
  obtain ⟨a, q, rfl⟩ : ∃ (a : Fin 1) (q : Fin 512), j = ix2 a q := ⟨_, _, eq_ix2 j⟩
  obtain rfl : a = 0 := Fin.fin_one_eq_zero a
  refine ((Finset.sum_congr rfl fun s' _ => ?_).trans (sum_tch t ht fun C => cDG (dC (aD m c) C) (uC (aZ m c) C) (vC (aZ m c) C) (aW m c) q) : (_ : EReal) = _)
  rw [DG_ch]; simp only [tD_ch, tU_ch, tV_ch, tW_mat]

def G11 : S1x512.Idx → EReal := fun j => allO (aD m c) (aZ m c) (aW m c) (j 1)

theorem final11 : (dats m 0 c).arrAt 11 (cfgs 0).N = G11 m c := by
  refine (dats m 0 c).arrAt_eq_of_covers 11 _ (by decide +kernel) fun t hf y => ?_
  blk_simp
  have ht := (flush0_11 t).mp hf
  rw [after0_11, Pipeline.eq_sum_fin_of_reset_step_apply_of_flush (fun n h => (outsAt0 m c n h).2.2.2.2) 32 (fun _ => 0)
    (fun t => k0_pay141 (tDV m c t))
    (fun t h j => by rw [outs_do_A m c t h, zero_add]) (fun t h j => by rw [outs_do_B m c t h]; rfl) t ht _, zero_add]
  obtain ⟨j, hj⟩ : ∃ j : S1x512.Idx, j = (win0_11.blk t).view.emb y := ⟨_, rfl⟩
  have hy : y = j := by subst hj; symm; blk_ext [idxW t]
  rw [← hj, hy]
  clear hy hj
  obtain ⟨a, q, rfl⟩ : ∃ (a : Fin 1) (q : Fin 512), j = ix2 a q := ⟨_, _, eq_ix2 j⟩
  obtain rfl : a = 0 := Fin.fin_one_eq_zero a
  refine ((Finset.sum_congr rfl fun s' _ => ?_).trans (sum_tch t ht fun C => cDO (dC (aD m c) C) (uC (aZ m c) C) (aW m c) q) : (_ : EReal) = _)
  rw [DO_ch]; simp only [tD_ch, tU_ch, tW_mat]

end

end Cert.KernelIdeal.Sgu

end
-- ==== Proof.SguRef.lean ====
/- The gating unit's gradient as the reference computes it: its lines as definitions, each read at an index. -/
module

public import proofs.«01_k».proof.Proof.Gen.ReferenceIdeal.Run
public import proofs.«01_k».proof.Proof.SguSpec
import Idealize.ShloMosaic.Lib.Pointwise

@[expose] public section

set_option maxRecDepth 16384

noncomputable section

namespace Cert.ReferenceIdeal.Sgu

open Cert.ReferenceIdeal Cert.ReferenceIdeal.Gen Idealize.ShloMosaic Idealize.ShloMosaic.TcCoe Idealize.SL.Sem
open Cert.Sgu

abbrev Arr := FVec Ideal S16384x512 .f32
abbrev Col := FVec Ideal S16384x1 .f32
abbrev Row := FVec Ideal S1x512 .f32
abbrev Arr4 := FVec Ideal S128x128x8x64 .f32
abbrev Wts := FVec Ideal S8x128x128 .f32

/-! ## The lines -/

def zuR (z : FVec Ideal S16384x8192 .f32) : Arr :=
  extractStridedSlice S16384x512 ![0, 5120] z slices_S16384x8192_S16384x512_0_5120
def zvR (z : FVec Ideal S16384x8192 .f32) : Arr :=
  extractStridedSlice S16384x512 ![0, 5632] z slices_S16384x8192_S16384x512_0_5632
def cst (b : BitVec 32) : Arr := broadcastInDim S16384x512 ![] bcast_S_S16384x512 (constant S_ .f32 b)
def cst1 (b : BitVec 32) : Col := broadcastInDim S16384x1 ![] bcast_S_S16384x1 (constant S_ .f32 b)
def wide (x : Col) : Arr := broadcastInDim S16384x512 ![0, 1] bcast_S16384x1_S16384x512_0_1 x
def tall (x : Row) : Arr := broadcastInDim S16384x512 ![0, 1] bcast_S1x512_S16384x512_0_1 x
def rowsum (x : Arr) : FVec Ideal S16384 .f32 := Host.reduceAdd x (constant S_ .f32 0x00000000#32) reducesTo_S16384x512_S16384_d1 h_S_
def colsum (x : Arr) : Row :=
  shapeCast S1x512 (Host.reduceAdd x (constant S_ .f32 0x00000000#32) reducesTo_S16384x512_S512_d0 h_S_) shapeCasts_S512_S1x512

def cdfR (x : Arr) : Arr := mulf (cst 0x3F000000#32) (addf (cst 0x3F800000#32) (Host.erf (mulf x (cst 0x3F3504F3#32))))
def actR (x : Arr) : Arr := mulf x (cdfR x)
def dactR (x : Arr) : Arr :=
  addf (cdfR x) (mulf x (mulf (Host.exp (mulf (mulf (cst 0xBF000000#32) x) x)) (cst 0x3ECC422A#32)))

def meanR (v : Arr) : Col := Host.divf (broadcastInDim S16384x1 ![0] bcast_S16384_S16384x1_0 (rowsum v)) (cst1 0x44000000#32)
def xcR (v : Arr) : Arr := subf v (wide (meanR v))
def veR (v : Arr) : Col := addf (meanR (mulf (xcR v) (xcR v))) (cst1 0x358637BD#32)
def rsR (v : Arr) : Col := Host.rsqrt (veR v)
def xhR (v : Arr) : Arr := mulf (xcR v) (wide (rsR v))
def vnR (v : Arr) (g o : Row) : Arr := addf (mulf (xhR v) (tall g)) (tall o)

def v4 (x : Arr) : Arr4 := shapeCast S128x128x8x64 x shapeCasts_S16384x512_S128x128x8x64
def v2 (x : Arr4) : Arr := shapeCast S16384x512 x shapeCasts_S128x128x8x64_S16384x512
def back (x : FVec Ideal S8x128x64x128 .f32) : Arr4 := transpose S128x128x8x64 [1, 3, 0, 2] x transposes_S8x128x64x128_S128x128x8x64_1_3_0_2
def turn (x : Arr4) : FVec Ideal S8x128x64x128 .f32 := transpose S8x128x64x128 [2, 0, 3, 1] x transposes_S128x128x8x64_S8x128x64x128_2_0_3_1
def biasR (b : FVec Ideal S8x128 .f32) : FVec Ideal S128x512 .f32 :=
  shapeCast S128x512 (broadcastInDim S128x8x64 ![0, 1] bcast_S128x8_S128x8x64_0_1
    (transpose S128x8 [1, 0] b transposes_S8x128_S128x8_1_0)) shapeCasts_S128x8x64_S128x512

def mixR (vn : Arr) (w : Wts) (b : FVec Ideal S8x128 .f32) : Arr :=
  v2 (addf (back (Host.dotGeneral dot_S128x128x8x64_S8x128x128_S8x128x64x128_1_2_03_1_2_0 none (v4 vn) w))
    (broadcastInDim S128x128x8x64 ![0, 1, 2, 3] bcast_S1x128x8x64_S128x128x8x64_0_1_2_3
      (shapeCast S1x128x8x64 (biasR b) shapeCasts_S128x512_S1x128x8x64)))
def dsR (d zu : Arr) : Arr := mulf (actR zu) d
def dbR (ds : Arr) : FVec Ideal S128x512 .f32 :=
  shapeCast S128x512 (shapeCast S1x128x8x64 (Host.reduceAdd (v4 ds) (constant S_ .f32 0x00000000#32)
    reducesTo_S128x128x8x64_S128x8x64_d0 h_S_) shapeCasts_S128x8x64_S1x128x8x64) shapeCasts_S1x128x8x64_S128x512
def dwR (ds vn : Arr) : Wts := Host.dotGeneral dot_S8x128x64x128_S128x128x8x64_S8x128x128_12_03_3_1_0_2 none (turn (v4 ds)) (v4 vn)
def dvR (ds : Arr) (w : Wts) : Arr :=
  v2 (back (Host.dotGeneral dot_S8x128x64x128_S8x128x128_S8x128x64x128_3_1_12_2_0_0 none (turn (v4 ds)) w))

def sR (v dx : Arr) : Col :=
  Host.divf (mulf (shapeCast S16384x1 (rowsum (mulf (xcR v) dx)) shapeCasts_S16384_S16384x1)
    (mulf (cst1 0xBF000000#32) (Host.divf (rsR v) (veR v)))) (cst1 0x44000000#32)
def spread (x : Col) : Arr := broadcastInDim S16384x512 ![0] bcast_S16384_S16384x512_0
  (Host.reduceAdd x (constant S_ .f32 0x00000000#32) reducesTo_S16384x1_S16384_d1 h_S_)
def tR (v dx : Arr) : Arr :=
  addf (addf (mulf dx (wide (rsR v))) (mulf (xcR v) (spread (sR v dx)))) (mulf (spread (sR v dx)) (xcR v))
def lnR' (v dx : Arr) : Arr :=
  addf (tR v dx) (spread (Host.divf (shapeCast S16384x1 (rowsum (Host.negf (tR v dx))) shapeCasts_S16384_S16384x1) (cst1 0x44000000#32)))

def dzuR (d zu vn : Arr) (w : Wts) (b : FVec Ideal S8x128 .f32) : Arr := mulf (mulf d (mixR vn w b)) (dactR zu)
def dzvR (v dx zv : Arr) : Arr := mulf (lnR' v dx) (dactR zv)
def dzR (dzu dzv : Arr) (y : FVec Ideal S16384x8192 .bf16) : FVec Ideal S16384x8192 .bf16 :=
  concatenate S16384x8192 1 [⟨S16384x5120, extractStridedSlice S16384x5120 ![0, 0] y slices_S16384x8192_S16384x5120_0_0⟩,
    ⟨S16384x512, truncf .bf16 dzu bitsLt_bf16_f32⟩, ⟨S16384x512, truncf .bf16 dzv bitsLt_bf16_f32⟩,
    ⟨S16384x2048, extractStridedSlice S16384x2048 ![0, 6144] y slices_S16384x8192_S16384x2048_0_6144⟩]
    concatenates_S16384x5120_S16384x512_S16384x512_S16384x2048_S16384x8192_d1

/-! ## The lines, read at an index -/

theorem cst_apply (b : BitVec 32) (n : Fin 16384) (q : Fin 512) : cst b (ix2 n q) = Ideal.ofBits .f32 b := by
  pointwise [cst]
theorem cst1_apply (b : BitVec 32) (n : Fin 16384) : cst1 b (ix2 n 0) = Ideal.ofBits .f32 b := by
  pointwise [cst1]
theorem wide_apply (x : Col) (n : Fin 16384) (q : Fin 512) : wide x (ix2 n q) = x (ix2 n 0) := by
  pointwise [wide]
theorem tall_apply (x : Row) (n : Fin 16384) (q : Fin 512) : tall x (ix2 n q) = x (ix2 0 q) := by
  pointwise [tall]
theorem rowsum_apply (x : Arr) (n : Fin 16384) : rowsum x (ix1 n) = ∑ k, x (ix2 n k) := by
  pointwise [rowsum]
theorem colsum_apply (x : Arr) (q : Fin 512) : colsum x (ix2 0 q) = ∑ n, x (ix2 n q) := by
  pointwise [colsum]

theorem actR_apply (x : Arr) (n : Fin 16384) (q : Fin 512) : actR x (ix2 n q) = act (x (ix2 n q)) := by
  pointwise [actR, cdfR, cst_apply]
  rfl
theorem dactR_apply (x : Arr) (n : Fin 16384) (q : Fin 512) : dactR x (ix2 n q) = dact (x (ix2 n q)) := by
  pointwise [dactR, cdfR, cst_apply]
  rfl

abbrev rw_ (v : Arr) (n : Fin 16384) : Fin 512 → EReal := fun k => v (ix2 n k)

theorem meanR_apply (v : Arr) (n : Fin 16384) : meanR v (ix2 n 0) = mean (rw_ v n) := by
  pointwise [meanR, rowsum_apply, cst1_apply]
  rfl
theorem xcR_apply (v : Arr) (n : Fin 16384) (q : Fin 512) : xcR v (ix2 n q) = xc (rw_ v n) q := by
  pointwise [xcR, wide_apply, meanR_apply]
  rfl
theorem veR_apply (v : Arr) (n : Fin 16384) : veR v (ix2 n 0) = vareps (rw_ v n) := by
  have h : rw_ (mulf (xcR v) (xcR v)) n = fun k => xc (rw_ v n) k * xc (rw_ v n) k :=
    funext fun k => by pointwise [xcR_apply]
  pointwise [veR, meanR_apply, cst1_apply]
  rw [h]; rfl
theorem rsR_apply (v : Arr) (n : Fin 16384) : rsR v (ix2 n 0) = rs (rw_ v n) := by
  pointwise [rsR, veR_apply]
  rfl
theorem xhR_apply (v : Arr) (n : Fin 16384) (q : Fin 512) : xhR v (ix2 n q) = xh (rw_ v n) q := by
  pointwise [xhR, wide_apply, xcR_apply, rsR_apply]
  rfl
theorem vnR_apply (v : Arr) (g o : Row) (n : Fin 16384) (q : Fin 512) :
    vnR v g o (ix2 n q) = vn (rw_ v n) (fun k => g (ix2 0 k)) (fun k => o (ix2 0 k)) q := by
  pointwise [vnR, tall_apply, xhR_apply]
  rfl

theorem spread_apply (x : Col) (n : Fin 16384) (q : Fin 512) : spread x (ix2 n q) = x (ix2 n 0) := by
  pointwise [spread]
  exact Fin.sum_univ_one _
theorem sR_apply (v dx : Arr) (n : Fin 16384) : sR v dx (ix2 n 0) = lnS (rw_ v n) (rw_ dx n) := by
  pointwise [sR, rowsum_apply, cst1_apply, xcR_apply, rsR_apply, veR_apply]
  rfl
theorem tR_apply (v dx : Arr) (n : Fin 16384) (q : Fin 512) : tR v dx (ix2 n q) = lnT (rw_ v n) (rw_ dx n) q := by
  pointwise [tR, wide_apply, spread_apply, sR_apply, xcR_apply, rsR_apply]
  rfl
theorem lnR'_apply (v dx : Arr) (n : Fin 16384) (q : Fin 512) : lnR' v dx (ix2 n q) = lnR (rw_ v n) (rw_ dx n) q := by
  pointwise [lnR', spread_apply, tR_apply, rowsum_apply, cst1_apply]
  rfl

/-! ## The chunks and groups -/

def lane (q : Fin 512) : Fin 64 := ⟨q.val % 64, by omega⟩
theorem col_grp (q : Fin 512) : col (grp q) (lane q) = q := Fin.ext (by simp only [col, grp, lane]; omega)
theorem grp_col (h : Fin 8) (e : Fin 64) : grp (col h e) = h := Fin.ext (by simp only [col, grp]; omega)

theorem v4_apply (x : Arr) (C i : Fin 128) (h : Fin 8) (e : Fin 64) : v4 x (ix4 C i h e) = x (ix2 (at_ C i) (col h e)) := by
  pointwise [v4]
  exact congrArg x (congrArg₂ ix2 (Fin.ext (by simp only; omega)) (Fin.ext (by simp only [col]; omega)))
theorem v2_apply (x : Arr4) (C i : Fin 128) (q : Fin 512) : v2 x (ix2 (at_ C i) q) = x (ix4 C i (grp q) (lane q)) := by
  pointwise [v2]
  rw [show (⟨(128 * C.val + i.val) / 128, by omega⟩ : Fin 128) = C from Fin.ext (by simp only; omega),
    show (⟨(128 * C.val + i.val) % 128, by omega⟩ : Fin 128) = i from Fin.ext (by simp only; omega)]
  rfl

theorem mixR_apply (vn : Arr) (w : Wts) (b : FVec Ideal S8x128 .f32) (C i : Fin 128) (q : Fin 512) :
    mixR vn w b (ix2 (at_ C i) q) = (∑ s, w (ix3 (grp q) i s) * vn (ix2 (at_ C s) q)) + b (ix2 (grp q) i) := by
  rw [mixR, v2_apply]
  pointwise [back, v4_apply, biasR]
  simp only [col_grp, mul_comm]

theorem dvR_apply (ds : Arr) (w : Wts) (C i : Fin 128) (q : Fin 512) :
    dvR ds w (ix2 (at_ C i) q) = ∑ s, w (ix3 (grp q) s i) * ds (ix2 (at_ C s) q) := by
  rw [dvR, v2_apply]
  pointwise [back, turn, v4_apply]
  simp only [col_grp, mul_comm]

theorem dwR_apply (ds vn : Arr) (h : Fin 8) (i s : Fin 128) :
    dwR ds vn (ix3 h i s) = ∑ C, ∑ e, ds (ix2 (at_ C i) (col h e)) * vn (ix2 (at_ C s) (col h e)) := by
  pointwise [dwR, turn, v4_apply]

theorem dbR_apply (ds : Arr) (i : Fin 128) (q : Fin 512) : dbR ds (ix2 i q) = ∑ C, ds (ix2 (at_ C i) q) := by
  pointwise [dbR, v4_apply]
  exact Finset.sum_congr rfl fun C _ => congrArg (fun k => ds (ix2 (at_ C i) k)) (col_grp q)

/-! ## The results -/

section
variable (d : Arr) (z : FVec Ideal S16384x8192 .f32) (w : Wts) (b : FVec Ideal S8x128 .f32) (g o : Row)
  (y : FVec Ideal S16384x8192 .bf16)

/-- The arguments by row and column. -/
abbrev fD (n : Fin 16384) (q : Fin 512) : EReal := d (ix2 n q)
abbrev fZ (n : Fin 16384) (k : Fin 8192) : EReal := z (ix2 n k)
abbrev fW (h : Fin 8) (i s : Fin 128) : EReal := w (ix3 h i s)
abbrev fB (i : Fin 128) (q : Fin 512) : EReal := b (ix2 (grp q) i)
abbrev fV (x : Row) (q : Fin 512) : EReal := x (ix2 0 q)
abbrev fY (n : Fin 16384) (k : Fin 8192) : EReal := y (ix2 n k)

/-- The lines, at the arguments. -/
abbrev tAv : Arr := actR (zvR z)
abbrev tVn : Arr := vnR (tAv z) g o
abbrev tDs : Arr := dsR d (zuR z)
abbrev tDv : Arr := dvR (tDs d z) w
abbrev tDx : Arr := mulf (tDv d z w) (tall g)

theorem zuR_apply (C i : Fin 128) (q : Fin 512) : zuR z (ix2 (at_ C i) q) = uC (fZ z) C i q := by
  pointwise [zuR, uC]
theorem zvR_apply (C i : Fin 128) (q : Fin 512) : zvR z (ix2 (at_ C i) q) = vC (fZ z) C i q := by
  pointwise [zvR, vC]

theorem tAv_row (C i : Fin 128) : rw_ (tAv z) (at_ C i) = av (vC (fZ z) C) i :=
  funext fun k => (actR_apply ..).trans (by rw [zvR_apply]; rfl)

theorem tVn_apply (C i : Fin 128) (q : Fin 512) : tVn z g o (ix2 (at_ C i) q) = cVN (vC (fZ z) C) (fV g) (fV o) i q := by
  rw [tVn, vnR_apply, tAv_row]; rfl

theorem tDs_apply (C i : Fin 128) (q : Fin 512) : tDs d z (ix2 (at_ C i) q) = cDS (dC (fD d) C) (uC (fZ z) C) i q := by
  pointwise [dsR, actR_apply, zuR_apply]
  exact mul_comm _ _

theorem tDv_apply (C i : Fin 128) (q : Fin 512) :
    tDv d z w (ix2 (at_ C i) q) = cDV (dC (fD d) C) (uC (fZ z) C) (fW w) i q := by
  rw [tDv, dvR_apply]; simp only [tDs_apply]; rfl

theorem dw_eq (h : Fin 8) (i s : Fin 128) :
    dwR (tDs d z) (tVn z g o) (ix3 h i s) = allW (fD d) (fZ z) (fV g) (fV o) h i s := by
  rw [dwR_apply]; simp only [tDs_apply, tVn_apply]; rfl

theorem db_eq (i : Fin 128) (q : Fin 512) : dbR (tDs d z) (ix2 i q) = allB (fD d) (fZ z) i q := by
  rw [dbR_apply]; simp only [tDs_apply]; rfl

theorem sum_rows (f : Fin 16384 → EReal) : ∑ n, f n = ∑ C, ∑ i, f (at_ C i) := by
  rw [Fin.sum_univ_tiles 128 128 rfl]
  exact Finset.sum_congr rfl fun C _ => Finset.sum_congr rfl fun i _ => congrArg f (Fin.ext (by simp only; omega))

theorem do_eq (q : Fin 512) : colsum (tDv d z w) (ix2 0 q) = allO (fD d) (fZ z) (fW w) q := by
  rw [colsum_apply, sum_rows]; simp only [tDv_apply]; rfl

theorem dg_eq (q : Fin 512) : colsum (mulf (xhR (tAv z)) (tDv d z w)) (ix2 0 q) = allG (fD d) (fZ z) (fW w) q := by
  rw [colsum_apply, sum_rows]
  refine Finset.sum_congr rfl fun C _ => Finset.sum_congr rfl fun i _ => ?_
  pointwise [xhR_apply, tDv_apply]
  rw [tAv_row, mul_comm]

theorem dzu_eq (C i : Fin 128) (q : Fin 512) : dzuR d (zuR z) (tVn z g o) w b (ix2 (at_ C i) q)
    = cZU (dC (fD d) C) (uC (fZ z) C) (vC (fZ z) C) (fW w) (fB b) (fV g) (fV o) i q := by
  pointwise [dzuR, mixR_apply, dactR_apply, zuR_apply]
  simp only [tVn_apply]; rfl

/-- Every entry of the arguments is a real number. -/
structure AllFin : Prop where
  d : ∀ j, Fin' (d j)
  z : ∀ j, Fin' (z j)
  w : ∀ j, Fin' (w j)
  g : ∀ j, Fin' (g j)

variable {d z w g}

theorem dx_row (C i : Fin 128) : rw_ (tDx d z w g) (at_ C i)
    = fun k => cDV (dC (fD d) C) (uC (fZ z) C) (fW w) i k * fV g k :=
  funext fun k => by pointwise [tDv_apply, tall_apply]

theorem dzv_eq (H : AllFin d z w g) (C i : Fin 128) (q : Fin 512) :
    dzvR (tAv z) (tDx d z w g) (zvR z) (ix2 (at_ C i) q)
      = cZV (dC (fD d) C) (uC (fZ z) C) (vC (fZ z) C) (fW w) (fV g) i q := by
  have hv : ∀ k, Fin' (av (vC (fZ z) C) i k) := fun k => act_fin (H.z _)
  have hd : ∀ k, Fin' (cDV (dC (fD d) C) (uC (fZ z) C) (fW w) i k * fV g k) := fun k =>
    (Fin'.sum fun s => (H.w _).mul ((H.d _).mul (act_fin (H.z _)))).mul (H.g _)
  pointwise [dzvR, lnR'_apply, dactR_apply, zvR_apply]
  rw [tAv_row, dx_row, lnR_eq _ _ hv hd]; rfl

theorem at_eq (n : Fin 16384) : at_ (chunkOf n) (rowOf n) = n := Fin.ext (by simp only [chunkOf, rowOf]; omega)

theorem dz_eq (H : AllFin d z w g) (n : Fin 16384) (k : Fin 8192) :
    dzR (dzuR d (zuR z) (tVn z g o) w b) (dzvR (tAv z) (tDx d z w g) (zvR z)) y (ix2 n k)
      = allZ (fD d) (fZ z) (fW w) (fB b) (fV g) (fV o) (fY y) n k := by
  obtain ⟨C, i, rfl⟩ : ∃ C i, n = at_ C i := ⟨_, _, (at_eq n).symm⟩
  pointwise [dzR, dzu_eq, dzv_eq H]
  unfold allZ
  rw [show chunkOf (at_ C i) = C from Fin.ext (by simp only [chunkOf]; omega),
    show rowOf (at_ C i) = i from Fin.ext (by simp only [rowOf]; omega)]
  by_cases h1 : k.val < 5120
  · rw [dif_pos h1, dif_neg (by omega), dif_neg (by omega)]
  by_cases h2 : k.val < 5632
  · rw [dif_neg h1, dif_pos (by omega), dif_pos (by omega)]
  by_cases h3 : k.val < 6144
  · rw [dif_neg h1, dif_neg (by omega), dif_pos (by omega), dif_neg (by omega), dif_pos (by omega)]
    exact congrArg _ (Fin.ext (by simp only; omega))
  · rw [dif_neg h1, dif_neg (by omega), dif_neg (by omega), dif_neg (by omega), dif_neg (by omega)]
    exact congrArg (fun k => y (ix2 (at_ C i) k)) (Fin.ext (by simp only; omega))

end

end Cert.ReferenceIdeal.Sgu

end
-- ==== Proof.SguRun.lean ====
/- The reference's run with its five results by row and column. -/
module

public import proofs.«01_k».proof.Proof.SguRef
import Idealize.ShloMosaic.Lib.Pointwise

@[expose] public section

set_option maxRecDepth 16384

noncomputable section

namespace Cert.ReferenceIdeal.Sgu

open Cert.ReferenceIdeal Cert.ReferenceIdeal.Gen Idealize.ShloMosaic Idealize.ShloMosaic.TcCoe Idealize.SL.Sem
open Cert.Sgu

variable (m : (l : Loc nD τ sig) → Buf (Elt Ideal) l) (c : Dev nD)

abbrev pD : Arr := m ((c.tc : Thread nD τ).loc main_arg0)
abbrev pZ : FVec Ideal S16384x8192 .f32 := m ((c.tc : Thread nD τ).loc main_arg1)
abbrev pW : Wts := m ((c.tc : Thread nD τ).loc main_arg2)
abbrev pB : FVec Ideal S8x128 .f32 := m ((c.tc : Thread nD τ).loc main_arg3)
abbrev pG : Row := m ((c.tc : Thread nD τ).loc main_arg4)
abbrev pO : Row := m ((c.tc : Thread nD τ).loc main_arg5)
abbrev pY : FVec Ideal S16384x8192 .bf16 := m ((c.tc : Thread nD τ).loc main_arg6)

theorem res_dz : Value.res_main_v128 m c = dzR (dzuR (pD m c) (zuR (pZ m c)) (tVn (pZ m c) (pG m c) (pO m c)) (pW m c) (pB m c))
    (dzvR (tAv (pZ m c)) (tDx (pD m c) (pZ m c) (pW m c) (pG m c)) (zvR (pZ m c))) (pY m c) := rfl
theorem res_dw : Value.res_main_v90 m c = dwR (tDs (pD m c) (pZ m c)) (tVn (pZ m c) (pG m c) (pO m c)) := rfl
theorem res_dg : Value.res_main_v98 m c = colsum (mulf (xhR (tAv (pZ m c))) (tDv (pD m c) (pZ m c) (pW m c))) := rfl

/-- The reference's run: every result in the reference's own lines. -/
theorem run_lines (ρ : Dev nD → PrngReg) :
    θ_run (defs (F := Ideal)) (onTc (τ := τ) (main (F := Ideal))) ⟨m, fun _ => 0, ρ⟩ fun r => ∀ c : Dev nD,
      r.2.mem ((c.tc : Thread nD τ).loc main_v128) = dzR (dzuR (pD m c) (zuR (pZ m c)) (tVn (pZ m c) (pG m c) (pO m c)) (pW m c) (pB m c))
          (dzvR (tAv (pZ m c)) (tDx (pD m c) (pZ m c) (pW m c) (pG m c)) (zvR (pZ m c))) (pY m c)
      ∧ r.2.mem ((c.tc : Thread nD τ).loc main_v90) = dwR (tDs (pD m c) (pZ m c)) (tVn (pZ m c) (pG m c) (pO m c))
      ∧ r.2.mem ((c.tc : Thread nD τ).loc main_v88) = dbR (tDs (pD m c) (pZ m c))
      ∧ r.2.mem ((c.tc : Thread nD τ).loc main_v98) = colsum (mulf (xhR (tAv (pZ m c))) (tDv (pD m c) (pZ m c) (pW m c)))
      ∧ r.2.mem ((c.tc : Thread nD τ).loc main_v95) = colsum (tDv (pD m c) (pZ m c) (pW m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun _ h c => ⟨(h c).1.trans (res_dz m c), (h c).2.1.trans (res_dw m c), (h c).2.2.1, (h c).2.2.2.1.trans (res_dg m c),
    (h c).2.2.2.2⟩) (Value.run m ρ)

end Cert.ReferenceIdeal.Sgu

end
-- ==== Proof.Finite.lean ====
/- A printed test that every element of an array is finite, read back: each element is a real number. -/
module

public import proofs.«01_k».proof.Proof.SguSpec
public import Idealize.ShloMosaic.PureOps.Ideal
import Idealize.ShloMosaic.Lib.ReduceAll
import Idealize.ShloMosaic.Lib.Pointwise

@[expose] public section

noncomputable section

namespace Cert.Finite

open Idealize.ShloMosaic Cert.Sgu

/-- An extended real whose absolute value compares below the word of `+∞` is a real. -/
theorem real_of_abs_lt (x : EReal) (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- The printed conjunction over an array, at the one index of its result. -/
theorem all_real {s u t : Shape} {axes : List (Fin s.rank)} [Subsingleton t.Idx] (x : FVec Ideal s .f32)
    (inf : FVec Ideal s .f32) (hinf : ∀ i, inf i = Ideal.ofBits .f32 0x7F800000#32)
    (init : u.Idx → BitVec 1) (h : s.ReducesTo axes t) (hu : 0 < u.numel) (j : t.Idx)
    (e : Host.reduce IntOp.andi (cmpf .olt (Host.absf x) inf) init h hu j = 1#1) (i : s.Idx) : Fin' (x i) := by
  have := Host.reduce_andi_all _ init h hu j e i
  refine real_of_abs_lt (x i) ?_
  rw [← hinf i]
  exact this

end Cert.Finite

end
-- ==== Proof.SguPre.lean ====
/- The gating unit's precondition, read back. -/
module

public import proofs.«01_k».proof.Defs
public import proofs.«01_k».proof.Proof.SguRef
public import proofs.«01_k».proof.Proof.Gen.Pre_finite
import proofs.«01_k».proof.Proof.Finite
import Idealize.ShloMosaic.Lib.Affine
import Idealize.ShloMosaic.Lib.Pointwise

@[expose] public section

noncomputable section

namespace Cert.ReferenceIdeal.Sgu

open Idealize.ShloMosaic Cert.Sgu

instance : Subsingleton Cert.Pre_finite.S_.Idx := ⟨fun a b => funext fun k => k.elim0⟩

theorem allFin_of_pre (d : Arr) (z : FVec Ideal S16384x8192 .f32) (w : Wts) (b : FVec Ideal S8x128 .f32) (g o : Row)
    (y : FVec Ideal S16384x8192 .bf16) (h : Cert.Pre_finite.fn (F := Ideal) d z w b g o y = fun _ => 1#1) : AllFin d z w g := by
  have h0 := congrFun h (fun k => k.elim0)
  obtain ⟨h1, _⟩ := IntOp.andi_eq_one.1 h0
  obtain ⟨h2, hg⟩ := IntOp.andi_eq_one.1 h1
  obtain ⟨h3, _⟩ := IntOp.andi_eq_one.1 h2
  obtain ⟨h4, hw⟩ := IntOp.andi_eq_one.1 h3
  obtain ⟨hd, hz⟩ := IntOp.andi_eq_one.1 h4
  exact ⟨Cert.Finite.all_real d _ (fun _ => rfl) _ _ _ _ hd, Cert.Finite.all_real z _ (fun _ => rfl) _ _ _ _ hz,
    Cert.Finite.all_real w _ (fun _ => rfl) _ _ _ _ hw, Cert.Finite.all_real g _ (fun _ => rfl) _ _ _ _ hg⟩

end Cert.ReferenceIdeal.Sgu

end
-- ==== Proof.SguClaim.lean ====
/- The gating unit's backward pass: the claims about its kernel and its reference. -/
module

public import proofs.«01_k».proof.Defs
public import proofs.«01_k».proof.Proof.Gen.Kernel.Frame
public import proofs.«01_k».proof.Proof.SguFinal
public import proofs.«01_k».proof.Proof.SguRun
public import proofs.«01_k».proof.Proof.SguPre

@[expose] public section

set_option maxRecDepth 16384

noncomputable section

namespace Cert.SguClaim

open Idealize.ShloMosaic Idealize.ShloMosaic.TcCoe Idealize.SL.Sem

theorem kernel : Cert.quiescent_Kernel := fun m g _ => Cert.Kernel.Gen.frame m g
theorem kernelIdeal : Cert.quiescent_KernelIdeal := fun m g _ => Cert.KernelIdeal.Gen.frame m g
theorem kernelIdeal_pre : Cert.quiescent_KernelIdeal_pre_finite := fun m g _ => Cert.KernelIdeal.Gen.frame m g

theorem referenceIdeal : Cert.quiescent_ReferenceIdeal := fun m g _ =>
  (θ_run Cert.ReferenceIdeal.defs _ _).mono (fun r h => ⟨fun c => (h c).2.2.2.2.2, sem_eq_zero_of_no_sems (by decide) r.2⟩)
    (Cert.ReferenceIdeal.Value.run (F := Ideal) m g)
theorem referenceIdeal_pre : Cert.quiescent_ReferenceIdeal_pre_finite := fun m g _ => referenceIdeal m g trivial

section
open Cert.KernelIdeal Cert.KernelIdeal.Gen

/-- The kernel's run: every result by row and column. -/
theorem kernel_run (m : (l : Loc nD τ sig) → Buf (Elt Ideal) l) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3_0) = Sgu.G7 m c
      ∧ r.2.mem ((c.tc : Thread nD τ).loc main_v3_1) = Sgu.G8 m c
      ∧ r.2.mem ((c.tc : Thread nD τ).loc main_v3_2) = Sgu.G9 m c
      ∧ r.2.mem ((c.tc : Thread nD τ).loc main_v3_3) = Sgu.G10 m c
      ∧ r.2.mem ((c.tc : Thread nD τ).loc main_v3_4) = Sgu.G11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun _ h c => ⟨(h c).1.trans (Sgu.final7 m c), (h c).2.1.trans (Sgu.final8 m c), (h c).2.2.1.trans (Sgu.final9 m c),
    (h c).2.2.2.1.trans (Sgu.final10 m c), (h c).2.2.2.2.1.trans (Sgu.final11 m c), (h c).2.2.2.2.2⟩) (Value.run_blocks m ρ)
end

section
open Cert.ReferenceIdeal.Sgu Cert.Sgu

variable (d : Arr) (z : FVec Ideal Cert.ReferenceIdeal.S16384x8192 .f32) (w : Wts) (b : FVec Ideal Cert.ReferenceIdeal.S8x128 .f32) (g o : Row)
  (y : FVec Ideal Cert.ReferenceIdeal.S16384x8192 .bf16)

theorem dz_fun (H : AllFin d z w g) : dzR (dzuR d (zuR z) (tVn z g o) w b) (dzvR (tAv z) (tDx d z w g) (zvR z)) y
    = fun j => allZ (fD d) (fZ z) (fW w) (fB b) (fV g) (fV o) (fY y) (j 0) (j 1) := by
  funext j
  obtain ⟨n, k, rfl⟩ : ∃ (n : Fin 16384) (k : Fin 8192), j = ix2 n k := ⟨_, _, eq_ix2 j⟩
  exact dz_eq _ _ _ H n k
theorem dw_fun : dwR (tDs d z) (tVn z g o) = fun j => allW (fD d) (fZ z) (fV g) (fV o) (j 0) (j 1) (j 2) := by
  funext j
  obtain ⟨h, i, s, rfl⟩ : ∃ (h : Fin 8) (i s : Fin 128), j = ix3 h i s := ⟨_, _, _, eq_ix3 j⟩
  exact dw_eq d z g o h i s
theorem db_fun : dbR (tDs d z) = fun j => allB (fD d) (fZ z) (j 0) (j 1) := by
  funext j
  obtain ⟨n, k, rfl⟩ : ∃ (n : Fin 128) (k : Fin 512), j = ix2 n k := ⟨_, _, eq_ix2 j⟩
  exact db_eq d z n k
theorem dg_fun : colsum (mulf (xhR (tAv z)) (tDv d z w)) = fun j => allG (fD d) (fZ z) (fW w) (j 1) := by
  funext j
  obtain ⟨n, k, rfl⟩ : ∃ (n : Fin 1) (k : Fin 512), j = ix2 n k := ⟨_, _, eq_ix2 j⟩
  obtain rfl := Subsingleton.elim n 0
  exact dg_eq d z w k
theorem do_fun : colsum (tDv d z w) = fun j => allO (fD d) (fZ z) (fW w) (j 1) := by
  funext j
  obtain ⟨n, k, rfl⟩ : ∃ (n : Fin 1) (k : Fin 512), j = ix2 n k := ⟨_, _, eq_ix2 j⟩
  obtain rfl := Subsingleton.elim n 0
  exact do_eq d z w k
end

theorem algebraic : Cert.algebraic_KernelIdeal_ReferenceIdeal_pre_finite := fun m g m' g' hpre hag =>
  ⟨fun c => Cert.KernelIdeal.Sgu.G7 m c, fun c => Cert.KernelIdeal.Sgu.G8 m c, fun c => Cert.KernelIdeal.Sgu.G9 m c,
    fun c => Cert.KernelIdeal.Sgu.G10 m c, fun c => Cert.KernelIdeal.Sgu.G11 m c, kernel_run m g,
    (θ_run _ _ _).mono (fun _ h c => by
      obtain ⟨h0, h1, h2, h3, h4, ha⟩ := h c
      obtain ⟨a0, a1, a2, a3, a4, a5, a6⟩ := hag c
      refine ⟨h0.trans ?_, h1.trans ?_, h2.trans ?_, h3.trans ?_, h4.trans ?_, ha⟩
      · rw [Cert.ReferenceIdeal.Sgu.pD, Cert.ReferenceIdeal.Sgu.pZ, Cert.ReferenceIdeal.Sgu.pW, Cert.ReferenceIdeal.Sgu.pB,
          Cert.ReferenceIdeal.Sgu.pG, Cert.ReferenceIdeal.Sgu.pO, Cert.ReferenceIdeal.Sgu.pY, a0, a1, a2, a3, a4, a5, a6]
        exact dz_fun _ _ _ _ _ _ _ (Cert.ReferenceIdeal.Sgu.allFin_of_pre _ _ _ _ _ _ _ (hpre c))
      · rw [Cert.ReferenceIdeal.Sgu.pD, Cert.ReferenceIdeal.Sgu.pZ, Cert.ReferenceIdeal.Sgu.pG, Cert.ReferenceIdeal.Sgu.pO, a0, a1, a4, a5]
        exact dw_fun _ _ _ _
      · rw [Cert.ReferenceIdeal.Sgu.pD, Cert.ReferenceIdeal.Sgu.pZ, a0, a1]
        exact db_fun _ _
      · rw [Cert.ReferenceIdeal.Sgu.pD, Cert.ReferenceIdeal.Sgu.pZ, Cert.ReferenceIdeal.Sgu.pW, a0, a1, a2]
        exact dg_fun _ _ _
      · rw [Cert.ReferenceIdeal.Sgu.pD, Cert.ReferenceIdeal.Sgu.pZ, Cert.ReferenceIdeal.Sgu.pW, a0, a1, a2]
        exact do_fun _ _ _)
      (Cert.ReferenceIdeal.Sgu.run_lines m' g')⟩

end Cert.SguClaim

end
-- ==== Proof.SwigluBwd.lean ====
/- The backward pass of the second layer's down projection and of its activation, in four shards of hidden features. -/
module

public import proofs.«01_k».proof.Defs
public import proofs.«01_k».proof.Proof.Gen.Kernel2.Frame
public import proofs.«01_k».proof.Proof.Gen.Kernel2Ideal.Value
public import proofs.«01_k».proof.Proof.Gen.Reference2Ideal.Run
import Idealize.ShloMosaic.Lib.Pointwise
public import Idealize.ShloMosaic.Lib.Pipeline.ValueKit
public import proofs.«01_k».proof.Proof.Gen.Pre_finite2
public import proofs.«01_k».proof.Proof.SguSpec
import proofs.«01_k».proof.Proof.Finite
import Idealize.ShloMosaic.Lib.Affine

@[expose] public section

set_option maxRecDepth 16384

noncomputable section

namespace Cert.SwigluBwd

open Idealize.ShloMosaic Cert.Sgu

/-- The activation's incoming gradient in shard `a` at row `n` and hidden feature `q`. -/
def dact (d : (⟨2, ![16384, 1024]⟩ : Shape).Idx → EReal) (w : (⟨4, ![4, 2, 704, 1024]⟩ : Shape).Idx → EReal)
    (j : (⟨3, ![4, 16384, 704]⟩ : Shape).Idx) : EReal :=
  ∑ k : Fin 1024, d (ix2 (j 1) k) * w (ix4 (j 0) 1 (j 2) k)

theorem dact_apply (d : (⟨2, ![16384, 1024]⟩ : Shape).Idx → EReal) (w : (⟨4, ![4, 2, 704, 1024]⟩ : Shape).Idx → EReal)
    (a : Fin 4) (n : Fin 16384) (q : Fin 704) : dact d w (ix3 a n q) = ∑ k : Fin 1024, d (ix2 n k) * w (ix4 a 1 q k) := rfl

/-- The gate's gradient from the activation's: times the up projection and the derivative of `x ↦ x · logistic x`. -/
def dgate (p g u : EReal) : EReal := p * u * (Ideal.logistic g * (1 + g * (1 - Ideal.logistic g)))

/-- The up projection's gradient from the activation's. -/
def dup (p g : EReal) : EReal := p * (g * Ideal.logistic g)

theorem logistic_fin {x : EReal} : Fin' x → Fin' (Ideal.logistic x)
  | ⟨a, ha⟩ => ⟨_, by rw [ha, Ideal.logistic_coe]⟩

/-- The gate's gradient by the product rule, on real numbers. -/
theorem dgate_rule {p g u : EReal} (hp : Fin' p) (hg : Fin' g) (hu : Fin' u) :
    p * u * Ideal.logistic g + g * (p * u) * (Ideal.logistic g * (1 - Ideal.logistic g)) = dgate p g u := by
  unfold dgate
  obtain ⟨s, hs⟩ := logistic_fin hg
  obtain ⟨p, rfl⟩ := hp
  obtain ⟨g, rfl⟩ := hg
  obtain ⟨u, rfl⟩ := hu
  rw [hs, ← EReal.coe_one]
  simp only [← EReal.coe_mul, ← EReal.coe_sub, ← EReal.coe_add]
  exact congrArg _ (by ring)

end Cert.SwigluBwd

namespace Cert.Reference2Ideal.SwigluBwd

open Cert.Reference2Ideal Cert.Reference2Ideal.Gen Idealize.ShloMosaic Cert.Sgu

/-- The activation's gradient as the reference writes it. -/
abbrev line (d : FVec Ideal S16384x1024 .bf16) (w : FVec Ideal S4x2x704x1024 .bf16) : FVec Ideal S4x16384x704 .f32 :=
  transpose S4x16384x704 [1, 0, 2] (shapeCast S16384x4x704 (Host.dotGeneral dot_S16384x1024_S2816x1024_S16384x2816_1_1_0_0_n_n none (extf .f32 d bitsLt_bf16_f32)
    (extf .f32 (shapeCast S2816x1024 (shapeCast S4x704x1024 (extractStridedSlice S4x1x704x1024 ![0, 1, 0, 0] w
      slices_S4x2x704x1024_S4x1x704x1024_0_1_0_0) shapeCasts_S4x1x704x1024_S4x704x1024)
      shapeCasts_S4x704x1024_S2816x1024) bitsLt_bf16_f32))
    shapeCasts_S16384x2816_S16384x4x704) transposes_S16384x4x704_S4x16384x704_1_0_2

theorem line_eq (d : FVec Ideal S16384x1024 .bf16) (w : FVec Ideal S4x2x704x1024 .bf16) : line d w = Cert.SwigluBwd.dact d w := by
  funext j
  obtain ⟨a, n, q, rfl⟩ : ∃ (a : Fin _) (n : Fin _) (q : Fin _), j = ix3 a n q := ⟨_, _, _, eq_ix3 j⟩
  rw [Cert.SwigluBwd.dact_apply]
  unfold line
  pointwise

abbrev one : FVec Ideal S4x16384x704 .f32 := broadcastInDim S4x16384x704 ![] bcast_S_S4x16384x704 (constant S_ .f32 0x3F800000#32)
abbrev sig (g : FVec Ideal S4x16384x704 .f32) : FVec Ideal S4x16384x704 .f32 := Host.divf one (addf one (Host.exp (Host.negf g)))

/-- The gate's and the up projection's gradients as the reference writes them, from the activation's. -/
abbrev dgR (p g u : FVec Ideal S4x16384x704 .f32) : FVec Ideal S4x16384x704 .bf16 :=
  truncf .bf16 (addf (mulf (mulf p u) (sig g)) (mulf (mulf g (mulf p u)) (mulf (sig g) (subf one (sig g))))) bitsLt_bf16_f32
abbrev duR (p g : FVec Ideal S4x16384x704 .f32) : FVec Ideal S4x16384x704 .bf16 :=
  truncf .bf16 (mulf (mulf g (sig g)) p) bitsLt_bf16_f32

theorem dg_eq (p g u : FVec Ideal S4x16384x704 .f32) (hp : ∀ j, Fin' (p j)) (hg : ∀ j, Fin' (g j)) (hu : ∀ j, Fin' (u j)) :
    dgR p g u = fun j => Cert.SwigluBwd.dgate (p j) (g j) (u j) := by
  funext j
  rw [← Cert.SwigluBwd.dgate_rule (hp j) (hg j) (hu j)]
  unfold dgR sig one Ideal.logistic
  pointwise

theorem du_eq (p g : FVec Ideal S4x16384x704 .f32) : duR p g = fun j => Cert.SwigluBwd.dup (p j) (g j) := by
  funext j
  refine Eq.trans ?_ (mul_comm _ _)
  unfold duR sig one Ideal.logistic
  pointwise

instance : Subsingleton Cert.Pre_finite2.S_.Idx := ⟨fun a b => funext fun k => k.elim0⟩

/-- The precondition read back: every element of the four arrays is a real number. -/
theorem reals_of_pre (d : FVec Ideal S16384x1024 .bf16) (w : FVec Ideal S4x2x704x1024 .bf16) (g u : FVec Ideal S4x16384x704 .f32)
    (h : Cert.Pre_finite2.fn (F := Ideal) d w g u = fun _ => 1#1) :
    (∀ j, Fin' (d j)) ∧ (∀ j, Fin' (w j)) ∧ (∀ j, Fin' (g j)) ∧ ∀ j, Fin' (u j) := by
  have h0 := congrFun h (fun k => k.elim0)
  obtain ⟨h1, hu⟩ := IntOp.andi_eq_one.1 h0
  obtain ⟨h2, hg⟩ := IntOp.andi_eq_one.1 h1
  obtain ⟨hd, hw⟩ := IntOp.andi_eq_one.1 h2
  exact ⟨Cert.Finite.all_real _ _ (fun _ => rfl) _ _ _ _ hd, Cert.Finite.all_real _ _ (fun _ => rfl) _ _ _ _ hw,
    Cert.Finite.all_real g _ (fun _ => rfl) _ _ _ _ hg, Cert.Finite.all_real u _ (fun _ => rfl) _ _ _ _ hu⟩

/-- Both gradients from the arguments. -/
theorem gate_value (d : FVec Ideal S16384x1024 .bf16) (w : FVec Ideal S4x2x704x1024 .bf16) (g u : FVec Ideal S4x16384x704 .f32)
    (h : Cert.Pre_finite2.fn (F := Ideal) d w g u = fun _ => 1#1) :
    dgR (line d w) g u = fun j => Cert.SwigluBwd.dgate (Cert.SwigluBwd.dact d w j) (g j) (u j) := by
  obtain ⟨hd, hw, hg, hu⟩ := reals_of_pre d w g u h
  rw [line_eq]
  exact dg_eq _ g u (fun j => .sum fun k => (hd _).mul (hw _)) hg hu

theorem up_value (d : FVec Ideal S16384x1024 .bf16) (w : FVec Ideal S4x2x704x1024 .bf16) (g : FVec Ideal S4x16384x704 .f32) :
    duR (line d w) g = fun j => Cert.SwigluBwd.dup (Cert.SwigluBwd.dact d w j) (g j) := by
  rw [line_eq]
  exact du_eq _ g

end Cert.Reference2Ideal.SwigluBwd

namespace Cert.Kernel2Ideal.SwigluBwd

open Cert.Kernel2Ideal Cert.Kernel2Ideal.Gen
open Idealize.ShloMosaic Idealize.ShloMosaic.TcCoe Idealize.SL.Sem
open Idealize.ShloMosaic.Pipeline (Dat)

variable (m : (l : Loc nD τ sig) → Buf (Elt Ideal) l) (c : Dev nD)

abbrev inc : FVec Ideal S16384x1024 .bf16 := m ((c : Thread nD τ).loc main_arg0)
abbrev wt : FVec Ideal S4x2x704x1024 .bf16 := m ((c : Thread nD τ).loc main_arg1)
abbrev gate : FVec Ideal S4x16384x704 .f32 := m ((c : Thread nD τ).loc main_arg2)
abbrev up : FVec Ideal S4x16384x704 .f32 := m ((c : Thread nD τ).loc main_arg3)

def dg : S4x16384x704.Idx → EReal := fun j => Cert.SwigluBwd.dgate (Cert.SwigluBwd.dact (inc m c) (wt m c) j) (gate m c j) (up m c j)
def du : S4x16384x704.Idx → EReal := fun j => Cert.SwigluBwd.dup (Cert.SwigluBwd.dact (inc m c) (wt m c) j) (gate m c j)

theorem idx : ∀ t : Fin cfg0.N, win0_0.index t = ![t.val % 16, 0] ∧ win0_1.index t = ![t.val / 16, 1, 0, 0]
    ∧ win0_2.index t = ![t.val / 16, t.val % 16, 0] ∧ win0_3.index t = ![t.val / 16, t.val % 16, 0]
    ∧ win0_4.index t = ![t.val / 16, t.val % 16, 0] ∧ win0_5.index t = ![t.val / 16, t.val % 16, 0] :=
  (by decide +kernel : ∀ t : Fin grid0.N, _)

/-- Where a block's element lies in the whole array. -/
abbrev pt (t : Fin cfg0.N) (i : Fin 1024) (q : Fin 704) : S4x16384x704.Idx :=
  ix3 ⟨t.val / 16, by have := lt_of_lt_of_eq t.isLt N_0; omega⟩ ⟨1024 * (t.val % 16) + i.val, by omega⟩ q

theorem dact_apply (t : Fin cfg0.N) (i : Fin 1024) (q : Fin 704) : k0_pay1 (iblk m c 0 t) (iblk m c 1 t) (ix2 i q)
    = Cert.SwigluBwd.dact (inc m c) (wt m c) (pt t i q) := by
  unfold pt
  rw [Cert.SwigluBwd.dact_apply]
  pointwise [k0_pay1]
  refine Finset.sum_congr rfl fun f _ => congrArg₂ (· * ·) ?_ ?_
  all_goals blk_point [iblk, V, idx t]

theorem gate_apply (t : Fin cfg0.N) (i : Fin 1024) (q : Fin 704) : iblk m c 2 t (ix3 0 i q) = gate m c (pt t i q) := by
  unfold pt; blk_point [iblk, V, idx t]
theorem up_apply (t : Fin cfg0.N) (i : Fin 1024) (q : Fin 704) : iblk m c 3 t (ix3 0 i q) = up m c (pt t i q) := by
  unfold pt; blk_point [iblk, V, idx t]

theorem out4 (t : Fin cfg0.N) (i : Fin 1024) (q : Fin 704) : (dats m 0 c).after 4 t (ix3 0 i q) = dg m c (pt t i q) := by
  rw [after0_4, dg, ← dact_apply, ← gate_apply, ← up_apply]
  frame_out
  unfold Cert.SwigluBwd.dgate
  pointwise [k0_pay4, k0_pay3, k0_pay2]
theorem out5 (t : Fin cfg0.N) (i : Fin 1024) (q : Fin 704) : (dats m 0 c).after 5 t (ix3 0 i q) = du m c (pt t i q) := by
  rw [after0_5, du, ← dact_apply, ← gate_apply]
  frame_out
  unfold Cert.SwigluBwd.dup
  pointwise [k0_pay5, k0_pay3, k0_pay2]

theorem final4 : (dats m 0 c).arrAt 4 (cfgs 0).N = dg m c := by
  refine (dats m 0 c).arrAt_eq_of_covers 4 _ (by decide +kernel) fun t hf y => ?_
  blk_simp
  obtain ⟨z, i, q, rfl⟩ : ∃ (z : Fin 1) (i : Fin 1024) (q : Fin 704), y = ix3 z i q := ⟨_, _, _, eq_ix3 y⟩
  obtain rfl := Subsingleton.elim z 0
  rw [show (win0_4.blk t).view.emb (ix3 0 i q) = pt t i q from by unfold pt; blk_ext [idx t]]
  exact out4 m c t i q
theorem final5 : (dats m 0 c).arrAt 5 (cfgs 0).N = du m c := by
  refine (dats m 0 c).arrAt_eq_of_covers 5 _ (by decide +kernel) fun t hf y => ?_
  blk_simp
  obtain ⟨z, i, q, rfl⟩ : ∃ (z : Fin 1) (i : Fin 1024) (q : Fin 704), y = ix3 z i q := ⟨_, _, _, eq_ix3 y⟩
  obtain rfl := Subsingleton.elim z 0
  rw [show (win0_5.blk t).view.emb (ix3 0 i q) = pt t i q from by unfold pt; blk_ext [idx t]]
  exact out5 m c t i q

end Cert.Kernel2Ideal.SwigluBwd

/-! ## The claims -/

namespace Cert.SwigluBwd

open Idealize.ShloMosaic Idealize.ShloMosaic.TcCoe Idealize.SL.Sem

theorem kernel : Cert.quiescent_Kernel2 := fun m g _ => Cert.Kernel2.Gen.frame m g
theorem kernelIdeal : Cert.quiescent_Kernel2Ideal := fun m g _ => Cert.Kernel2Ideal.Gen.frame m g
theorem kernelIdeal_pre : Cert.quiescent_Kernel2Ideal_pre_finite2 := fun m g _ => Cert.Kernel2Ideal.Gen.frame m g
theorem referenceIdeal : Cert.quiescent_Reference2Ideal := fun m g _ =>
  (θ_run Cert.Reference2Ideal.defs _ _).mono (fun r h => ⟨fun c => (h c).2.2, sem_eq_zero_of_no_sems (by decide) r.2⟩)
    (Cert.Reference2Ideal.Value.run (F := Ideal) m g)
theorem referenceIdeal_pre : Cert.quiescent_Reference2Ideal_pre_finite2 := fun m g _ => referenceIdeal m g trivial

theorem algebraic : Cert.algebraic_Kernel2Ideal_Reference2Ideal_pre_finite2 := fun m g m' g' hpre hag =>
  ⟨fun c => Cert.Kernel2Ideal.SwigluBwd.dg m c, fun c => Cert.Kernel2Ideal.SwigluBwd.du m c,
    (θ_run _ _ _).mono (fun _ h c => ⟨(h c).1.trans (Cert.Kernel2Ideal.SwigluBwd.final4 m c), (h c).2.1.trans (Cert.Kernel2Ideal.SwigluBwd.final5 m c), (h c).2.2⟩)
      (Cert.Kernel2Ideal.Value.run_blocks m g),
    (θ_run _ _ _).mono (fun _ h c => by
      obtain ⟨h0, h1, ha⟩ := h c
      obtain ⟨a0, a1, a2, a3⟩ := hag c
      rw [a0, a1, a2, a3] at h0
      rw [a0, a1, a2] at h1
      exact ⟨h0.trans (Cert.Reference2Ideal.SwigluBwd.gate_value _ _ _ _ (hpre c)), h1.trans (Cert.Reference2Ideal.SwigluBwd.up_value _ _ _), ha⟩)
      (Cert.Reference2Ideal.Value.run (F := Ideal) m' g')⟩

end Cert.SwigluBwd

end
-- ==== Proof.GateUpT.lean ====
/- The gradient of the gate and up projections with respect to their shared input, block of rows by block of rows. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
import Idealize.ShloMosaic.Lib.Pointwise
public import Idealize.ShloMosaic.Lib.Pipeline.ValueKit

@[expose] public section

set_option maxRecDepth 16384

noncomputable section

namespace Cert.GateUpT

open Idealize.ShloMosaic

/-- One incoming gradient's row `n` against the second layer's weights of feature `q`, whose 2816 columns lie in four
    shards of 704. -/
def rowSum (d : (⟨3, ![4, 16384, 704]⟩ : Shape).Idx → EReal) (w : (⟨4, ![4, 2, 1024, 704]⟩ : Shape).Idx → EReal)
    (n : Fin 16384) (q : Fin 1024) : EReal :=
  ∑ f : Fin 2816, d (ix3 ⟨f.val / 704, by omega⟩ n ⟨f.val % 704, by omega⟩)
    * w (ix4 ⟨f.val / 704, by omega⟩ 1 q ⟨f.val % 704, by omega⟩)

/-- The gradient: the gate's and the up projection's shares. -/
def grad (dg du : (⟨3, ![4, 16384, 704]⟩ : Shape).Idx → EReal) (wg wu : (⟨4, ![4, 2, 1024, 704]⟩ : Shape).Idx → EReal)
    (j : (⟨2, ![16384, 1024]⟩ : Shape).Idx) : EReal :=
  rowSum dg wg (j 0) (j 1) + rowSum du wu (j 0) (j 1)

theorem grad_apply (dg du : (⟨3, ![4, 16384, 704]⟩ : Shape).Idx → EReal) (wg wu : (⟨4, ![4, 2, 1024, 704]⟩ : Shape).Idx → EReal)
    (n : Fin 16384) (q : Fin 1024) : grad dg du wg wu (ix2 n q) = rowSum dg wg n q + rowSum du wu n q := rfl

/-- The row's sum shard by shard. -/
theorem rowSum_shards (d : (⟨3, ![4, 16384, 704]⟩ : Shape).Idx → EReal) (w : (⟨4, ![4, 2, 1024, 704]⟩ : Shape).Idx → EReal)
    (n : Fin 16384) (q : Fin 1024) :
    rowSum d w n q = ∑ a : Fin 4, ∑ f : Fin 704, d (ix3 a n f) * w (ix4 a 1 q f) := by
  unfold rowSum
  rw [Fin.sum_univ_tiles 4 704 rfl]
  refine Finset.sum_congr rfl fun a _ => Finset.sum_congr rfl fun f _ => congrArg₂ (· * ·) (congrArg d ?_) (congrArg w ?_)
  all_goals (congr 1 <;> refine Fin.ext ?_ <;> simp only <;> omega)

end Cert.GateUpT

namespace Cert.Reference3Ideal.GateUpT

open Cert.Reference3Ideal Cert.Reference3Ideal.Gen Idealize.ShloMosaic

/-- The four shards side by side. -/
abbrev flat (d : FVec Ideal S4x16384x704 .bf16) : FVec Ideal S16384x2816 .f32 :=
  extf .f32 (shapeCast S16384x2816 (transpose S16384x4x704 [1, 0, 2] d transposes_S4x16384x704_S16384x4x704_1_0_2)
    shapeCasts_S16384x4x704_S16384x2816) bitsLt_bf16_f32

/-- The second layer's weights, the four shards side by side. -/
abbrev flatW (w : FVec Ideal S4x2x1024x704 .bf16) : FVec Ideal S1024x2816 .f32 :=
  extf .f32 (shapeCast S1024x2816 (transpose S1024x4x704 [1, 0, 2] (shapeCast S4x1024x704 (extractStridedSlice S4x1x1024x704 ![0, 1, 0, 0] w
    slices_S4x2x1024x704_S4x1x1024x704_0_1_0_0) shapeCasts_S4x1x1024x704_S4x1024x704)
    transposes_S4x1024x704_S1024x4x704_1_0_2) shapeCasts_S1024x4x704_S1024x2816) bitsLt_bf16_f32

theorem half (d : FVec Ideal S4x16384x704 .bf16) (w : FVec Ideal S4x2x1024x704 .bf16) (n : Fin 16384) (q : Fin 1024) :
    Host.dotGeneral dot_S16384x2816_S1024x2816_S16384x1024_1_1_0_0_n_n none (flat d) (flatW w) (ix2 n q) = Cert.GateUpT.rowSum d w n q := by
  unfold Cert.GateUpT.rowSum flat flatW
  pointwise

theorem value (dg du : FVec Ideal S4x16384x704 .bf16) (wg wu : FVec Ideal S4x2x1024x704 .bf16) :
    addf (Host.dotGeneral dot_S16384x2816_S1024x2816_S16384x1024_1_1_0_0_n_n none (flat du) (flatW wu))
      (Host.dotGeneral dot_S16384x2816_S1024x2816_S16384x1024_1_1_0_0_n_n none (flat dg) (flatW wg)) = Cert.GateUpT.grad dg du wg wu := by
  funext j
  obtain ⟨n, q, rfl⟩ : ∃ (n : Fin _) (q : Fin _), j = ix2 n q := ⟨_, _, eq_ix2 j⟩
  rw [Cert.GateUpT.grad_apply, ← half, ← half]
  exact add_comm _ _

end Cert.Reference3Ideal.GateUpT

namespace Cert.Kernel3Ideal.GateUpT

open Cert.Kernel3Ideal Cert.Kernel3Ideal.Gen Idealize.ShloMosaic Idealize.ShloMosaic.TcCoe Idealize.SL.Sem
open Idealize.ShloMosaic.Pipeline (Dat)

variable (m : (l : Loc nD τ sig) → Buf (Elt Ideal) l) (c : Dev nD)

abbrev dg : FVec Ideal S4x16384x704 .bf16 := m ((c : Thread nD τ).loc main_arg0)
abbrev du : FVec Ideal S4x16384x704 .bf16 := m ((c : Thread nD τ).loc main_arg1)
abbrev wg : FVec Ideal S4x2x1024x704 .bf16 := m ((c : Thread nD τ).loc main_arg2)
abbrev wu : FVec Ideal S4x2x1024x704 .bf16 := m ((c : Thread nD τ).loc main_arg3)

theorem idx : ∀ t : Fin cfg0.N,
    (win0_0.index t = ![0, t.val, 0] ∧ win0_2.index t = ![1, t.val, 0] ∧ win0_4.index t = ![2, t.val, 0] ∧ win0_6.index t = ![3, t.val, 0]
      ∧ win0_8.index t = ![0, t.val, 0] ∧ win0_10.index t = ![1, t.val, 0] ∧ win0_12.index t = ![2, t.val, 0] ∧ win0_14.index t = ![3, t.val, 0])
    ∧ (win0_1.index t = ![0, 1, 0, 0] ∧ win0_3.index t = ![1, 1, 0, 0] ∧ win0_5.index t = ![2, 1, 0, 0] ∧ win0_7.index t = ![3, 1, 0, 0]
      ∧ win0_9.index t = ![0, 1, 0, 0] ∧ win0_11.index t = ![1, 1, 0, 0] ∧ win0_13.index t = ![2, 1, 0, 0] ∧ win0_15.index t = ![3, 1, 0, 0])
    ∧ win0_16.index t = ![t.val, 0] :=
  (by decide +kernel : ∀ t : Fin grid0.N, _)

theorem out_apply (t : Fin cfg0.N) (i : Fin 1024) (q : Fin 1024) : (dats m 0 c).after 16 t (ix2 i q)
    = Cert.GateUpT.grad (dg m c) (du m c) (wg m c) (wu m c) (ix2 ⟨1024 * t.val + i.val, by have := lt_of_lt_of_eq t.isLt N_0; omega⟩ q) := by
  rw [after0_16, Cert.GateUpT.grad_apply, Cert.GateUpT.rowSum_shards, Cert.GateUpT.rowSum_shards, Fin.sum_univ_four, Fin.sum_univ_four]
  frame_out
  pointwise [k0_pay1, k0_pay2]
  simp only [add_assoc]
  iterate 7
    refine congrArg₂ (· + ·) (Finset.sum_congr rfl fun f _ => congrArg₂ (· * ·) ?_ ?_) ?_
    rotate_left 2
  refine Finset.sum_congr rfl fun f _ => congrArg₂ (· * ·) ?_ ?_
  all_goals blk_point [iblk, V, idx t]

theorem final : (dats m 0 c).arrAt 16 (cfgs 0).N = Cert.GateUpT.grad (dg m c) (du m c) (wg m c) (wu m c) := by
  refine (dats m 0 c).arrAt_eq_of_covers 16 _ (by decide +kernel) fun t hf y => ?_
  blk_simp
  obtain ⟨i, q, rfl⟩ : ∃ (i : Fin 1024) (q : Fin 1024), y = ix2 i q := ⟨_, _, eq_ix2 y⟩
  rw [show (win0_16.blk t).view.emb (ix2 i q) = ix2 ⟨1024 * t.val + i.val, by have := lt_of_lt_of_eq t.isLt N_0; omega⟩ q from by blk_ext [idx t]]
  exact out_apply m c t i q

end Cert.Kernel3Ideal.GateUpT

/-! ## The claims -/

namespace Cert.GateUpT

open Idealize.ShloMosaic Idealize.ShloMosaic.TcCoe Idealize.SL.Sem

theorem kernel : Cert.quiescent_Kernel3 := fun m g _ => Cert.Kernel3.Gen.frame m g
theorem kernelIdeal : Cert.quiescent_Kernel3Ideal := fun m g _ => Cert.Kernel3Ideal.Gen.frame m g
theorem referenceIdeal : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem algebraic : Cert.algebraic_Kernel3Ideal_Reference3Ideal := fun m g m' g' hpre hag =>
  ⟨fun c => grad (Cert.Kernel3Ideal.GateUpT.dg m c) (Cert.Kernel3Ideal.GateUpT.du m c) (Cert.Kernel3Ideal.GateUpT.wg m c) (Cert.Kernel3Ideal.GateUpT.wu m c),
    (θ_run _ _ _).mono (fun _ h c => ⟨(h c).1.trans (Cert.Kernel3Ideal.GateUpT.final m c), (h c).2⟩)
      (Cert.Kernel3Ideal.Value.run_blocks m g),
    (θ_run _ _ _).mono (fun _ h c => ⟨(h c).1.trans (by
        rw [(hag c).1, (hag c).2.1, (hag c).2.2.1, (hag c).2.2.2]; exact Cert.Reference3Ideal.GateUpT.value _ _ _ _), (h c).2⟩)
      (Cert.Reference3Ideal.Value.run (F := Ideal) m' g')⟩

end Cert.GateUpT

end
-- ==== Proof.ProjInT.lean ====
/- The gradient of the input projection with respect to its input: after the kernel's last block of columns, row by row,
   the product of the incoming gradient's row with the projection's columns. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
import Idealize.ShloMosaic.Lib.Pointwise
public import Idealize.ShloMosaic.Lib.Pipeline.ValueKit

@[expose] public section

set_option maxRecDepth 16384

noncomputable section

namespace Cert.ProjInT

open Idealize.ShloMosaic

/-- The gradient at row `n` and feature `q`: the incoming gradient's row `n` against the second layer's weights of `q`,
    whose 8192 columns lie in four shards of 2048. -/
def grad (dz : (⟨2, ![16384, 8192]⟩ : Shape).Idx → EReal) (w : (⟨4, ![4, 2, 1024, 2048]⟩ : Shape).Idx → EReal)
    (j : (⟨2, ![16384, 1024]⟩ : Shape).Idx) : EReal :=
  ∑ k : Fin 8192, dz (ix2 (j 0) k) * w (ix4 ⟨k.val / 2048, by omega⟩ 1 (j 1) ⟨k.val % 2048, by omega⟩)

theorem grad_apply (dz : (⟨2, ![16384, 8192]⟩ : Shape).Idx → EReal) (w : (⟨4, ![4, 2, 1024, 2048]⟩ : Shape).Idx → EReal)
    (n : Fin 16384) (q : Fin 1024) : grad dz w (ix2 n q)
      = ∑ k : Fin 8192, dz (ix2 n k) * w (ix4 ⟨k.val / 2048, by omega⟩ 1 q ⟨k.val % 2048, by omega⟩) := rfl

end Cert.ProjInT

namespace Cert.Reference4Ideal.ProjInT

open Cert.Reference4Ideal Cert.Reference4Ideal.Gen Idealize.ShloMosaic

theorem value (dz : FVec Ideal S16384x8192 .bf16) (w : FVec Ideal S4x2x1024x2048 .bf16) :
    Host.dotGeneral dot_S16384x8192_S1024x8192_S16384x1024_1_1_0_0_n_n none (extf .f32 dz bitsLt_bf16_f32)
      (extf .f32 (shapeCast S1024x8192 (transpose S1024x4x2048 [1, 0, 2] (shapeCast S4x1024x2048 (extractStridedSlice S4x1x1024x2048 ![0, 1, 0, 0] w
        slices_S4x2x1024x2048_S4x1x1024x2048_0_1_0_0) shapeCasts_S4x1x1024x2048_S4x1024x2048)
        transposes_S4x1024x2048_S1024x4x2048_1_0_2) shapeCasts_S1024x4x2048_S1024x8192) bitsLt_bf16_f32) = Cert.ProjInT.grad dz w := by
  funext j
  obtain ⟨n, q, rfl⟩ : ∃ (n : Fin _) (q : Fin _), j = ix2 n q := ⟨_, _, eq_ix2 j⟩
  unfold Cert.ProjInT.grad
  pointwise

end Cert.Reference4Ideal.ProjInT

namespace Cert.Kernel4Ideal.ProjInT

open Cert.Kernel4Ideal Cert.Kernel4Ideal.Gen Idealize.ShloMosaic Idealize.ShloMosaic.TcCoe Idealize.SL.Sem
open Idealize.ShloMosaic.Pipeline (Dat)

variable (m : (l : Loc nD τ sig) → Buf (Elt Ideal) l) (c : Dev nD)

abbrev dz : FVec Ideal S16384x8192 .bf16 := m ((c : Thread nD τ).loc main_arg0)
abbrev wt : FVec Ideal S4x2x1024x2048 .bf16 := m ((c : Thread nD τ).loc main_arg1)

theorem idx : ∀ t : Fin cfg0.N, win0_0.index t = ![t.val / 8, t.val % 8]
    ∧ win0_1.index t = ![t.val % 8 / 2, 1, 0, t.val % 2] ∧ win0_2.index t = ![t.val / 8, 0] :=
  (by decide +kernel : ∀ t : Fin grid0.N, _)

/-- One block of columns' product. -/
abbrev part (t : Fin cfg0.N) : FVec Ideal S2048x1024 .f32 := k0_pay1 (iblk m c 0 t) (iblk m c 1 t)

theorem part_apply (t : Fin cfg0.N) (i : Fin 2048) (q : Fin 1024) : part m c t (ix2 i q)
    = ∑ k : Fin 1024, dz m c (ix2 ⟨2048 * (t.val / 8) + i.val, by have := lt_of_lt_of_eq t.isLt N_0; omega⟩ ⟨1024 * (t.val % 8) + k.val, by omega⟩)
        * wt m c (ix4 ⟨t.val % 8 / 2, by omega⟩ 1 q ⟨1024 * (t.val % 2) + k.val, by omega⟩) := by
  unfold part
  pointwise [k0_pay1]
  refine Finset.sum_congr rfl fun k _ => congrArg₂ (· * ·) ?_ ?_
  · blk_point [iblk, V, idx t]
  · blk_point [iblk, V, idx t]

theorem outs_A (t : Fin cfg0.N) (h : t.val % 8 = 0) : outsAt0 m c t.val t.isLt = part m c t := by
  rw [outsAt0_A m c t h (by omega)]; frame_out

theorem outs_B (t : Fin cfg0.N) (h : ¬t.val % 8 = 0) : outsAt0 m c t.val t.isLt
    = addf (outsAt0 m c (t.val - 1) (Nat.lt_of_le_of_lt (Nat.sub_le _ _) t.isLt)) (part m c t) := by
  rw [outsAt0_B m c t h (by omega)]; frame_out
  funext j
  pointwise [k0_pay2]

/-- The eight blocks of columns make up the gradient. -/
theorem sum_parts (t : Fin cfg0.N) (ht : t.val % 8 = 8 - 1) (i : Fin 2048) (q : Fin 1024) :
    ∑ s : Fin 8, part m c ⟨8 * (t.val / 8) + s.val, Pipeline.run_point_lt_of_flush t ht s⟩ (ix2 i q)
      = Cert.ProjInT.grad (dz m c) (wt m c) (ix2 ⟨2048 * (t.val / 8) + i.val, by have := lt_of_lt_of_eq t.isLt N_0; omega⟩ q) := by
  rw [Cert.ProjInT.grad_apply, Fin.sum_univ_tiles 8 1024 rfl]
  refine Finset.sum_congr rfl fun s _ => ?_
  rw [part_apply]
  refine Finset.sum_congr rfl fun k _ => congrArg₂ (· * ·) (congrArg (dz m c) (congrArg₂ ix2 (Fin.ext ?_) (Fin.ext ?_)))
    (congrArg (wt m c) ?_)
  · simp only; omega
  · simp only; omega
  · congr 1 <;> refine Fin.ext ?_ <;> simp only <;> omega

theorem final : (dats m 0 c).arrAt 2 (cfgs 0).N = Cert.ProjInT.grad (dz m c) (wt m c) := by
  refine (dats m 0 c).arrAt_eq_of_covers 2 _ (by decide +kernel) fun t hf y => ?_
  blk_simp
  have ht := (flush0_2 t).mp hf
  rw [after0_2, Pipeline.eq_sum_fin_of_reset_step_apply_of_flush (fun n h => outsAt0 m c n h) 8 (fun _ => 0)
    (fun t => part m c t)
    (fun t h j => by rw [outs_A m c t h, zero_add]) (fun t h j => by rw [outs_B m c t h]; rfl) t ht _, zero_add]
  obtain ⟨i, q, rfl⟩ : ∃ (i : Fin 2048) (q : Fin 1024), y = ix2 i q := ⟨_, _, eq_ix2 y⟩
  rw [show (win0_2.blk t).view.emb (ix2 i q) = ix2 ⟨2048 * (t.val / 8) + i.val, by have := lt_of_lt_of_eq t.isLt N_0; omega⟩ q from by blk_ext [idx t]]
  exact sum_parts m c t ht i q

end Cert.Kernel4Ideal.ProjInT

/-! ## The claims -/

namespace Cert.ProjInT

open Idealize.ShloMosaic Idealize.ShloMosaic.TcCoe Idealize.SL.Sem

theorem kernel : Cert.quiescent_Kernel4 := fun m g _ => Cert.Kernel4.Gen.frame m g
theorem kernelIdeal : Cert.quiescent_Kernel4Ideal := fun m g _ => Cert.Kernel4Ideal.Gen.frame m g
theorem referenceIdeal : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem algebraic : Cert.algebraic_Kernel4Ideal_Reference4Ideal := fun m g m' g' hpre hag =>
  ⟨fun c => grad (Cert.Kernel4Ideal.ProjInT.dz m c) (Cert.Kernel4Ideal.ProjInT.wt m c),
    (θ_run _ _ _).mono (fun _ h c => ⟨(h c).1.trans (Cert.Kernel4Ideal.ProjInT.final m c), (h c).2⟩)
      (Cert.Kernel4Ideal.Value.run_blocks m g),
    (θ_run _ _ _).mono (fun _ h c => ⟨(h c).1.trans (by
        rw [(hag c).1, (hag c).2]; exact Cert.Reference4Ideal.ProjInT.value _ _), (h c).2⟩)
      (Cert.Reference4Ideal.Value.run (F := Ideal) m' g')⟩

end Cert.ProjInT

end
-- ==== Proof.GradIn.lean ====
/- The gradient of the input projection after the kernel's last block of rows: the sum over all rows, entry by entry. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
import Idealize.ShloMosaic.Lib.Pointwise
import Idealize.ShloMosaic.Lib.Pipeline.ReadBack
public import Idealize.ShloMosaic.Lib.Pipeline.ValueKit

@[expose] public section

set_option maxRecDepth 16384

noncomputable section

namespace Cert.GradIn

open Idealize.ShloMosaic

/-- The rows' products of one input feature with one column of the incoming gradient. -/
def rowSum (x : (⟨2, ![16384, 1024]⟩ : Shape).Idx → EReal) (d : (⟨2, ![16384, 8192]⟩ : Shape).Idx → EReal) (a : Fin 4) (r : Fin 1024) (k : Fin 2048) : EReal :=
  ∑ s : Fin 16384, x (ix2 s r) * d (ix2 s ⟨2048 * a.val + k.val, by omega⟩)

/-- The stacked gradient of the two layers: the first layer's computed, the second's as it was. -/
def grad (x : (⟨2, ![16384, 1024]⟩ : Shape).Idx → EReal) (d : (⟨2, ![16384, 8192]⟩ : Shape).Idx → EReal) (g : (⟨4, ![4, 2, 1024, 2048]⟩ : Shape).Idx → EReal) (j : (⟨4, ![4, 2, 1024, 2048]⟩ : Shape).Idx) : EReal :=
  if (j 1 : ℕ) = 0 then rowSum x d (j 0) (j 2) (j 3) else g j

theorem grad_apply (x : (⟨2, ![16384, 1024]⟩ : Shape).Idx → EReal) (d : (⟨2, ![16384, 8192]⟩ : Shape).Idx → EReal) (g : (⟨4, ![4, 2, 1024, 2048]⟩ : Shape).Idx → EReal) (a : Fin 4) (r : Fin 1024) (k : Fin 2048) :
    grad x d g (ix4 a 0 r k) = rowSum x d a r k := rfl

end Cert.GradIn

namespace Cert.Reference5Ideal.GradIn

open Cert.Reference5Ideal Cert.Reference5Ideal.Gen Idealize.ShloMosaic

theorem value (x : FVec Ideal S16384x1024 .bf16) (d : FVec Ideal S16384x8192 .bf16) (g : FVec Ideal S4x2x1024x2048 .bf16) :
    concatenate S4x2x1024x2048 1 [⟨S4x1x1024x2048, (broadcastInDim S4x1x1024x2048 ![0, 2, 3]
      bcast_S4x1024x2048_S4x1x1024x2048_0_2_3 (truncf .bf16 (transpose S4x1024x2048 [1, 0, 2] (shapeCast S1024x4x2048 (transpose
      S1024x8192 [1, 0] (Host.dotGeneral dot_S16384x8192_S16384x1024_S8192x1024_0_0_1_1_n_n none (extf .f32 d bitsLt_bf16_f32)
      (extf .f32 x bitsLt_bf16_f32)) transposes_S8192x1024_S1024x8192_1_0) shapeCasts_S1024x8192_S1024x4x2048)
      transposes_S1024x4x2048_S4x1024x2048_1_0_2) bitsLt_bf16_f32))⟩, ⟨S4x1x1024x2048, (extractStridedSlice S4x1x1024x2048 ![0, 1,
      0, 0] g slices_S4x2x1024x2048_S4x1x1024x2048_0_1_0_0)⟩] concatenates_S4x1x1024x2048_S4x1x1024x2048_S4x2x1024x2048_d1 = Cert.GradIn.grad x d g := by
  funext j
  obtain ⟨a, l, r, k, rfl⟩ : ∃ (a : Fin _) (l : Fin _) (r : Fin _) (k : Fin _), j = ix4 a l r k := ⟨_, _, _, _, eq_ix4 j⟩
  unfold Cert.GradIn.grad Cert.GradIn.rowSum
  pointwise
  by_cases hl : (l : ℕ) = 0
  · rw [dif_pos (by omega), if_pos hl]
    refine Finset.sum_congr rfl fun s _ => (mul_comm _ _).trans ?_
    refine congrArg₂ (· * ·) (congrArg x ?_) (congrArg d ?_)
    all_goals (congr 1 <;> refine Fin.ext ?_ <;> simp only <;> omega)
  · rw [dif_neg (by omega), if_neg hl]
    exact congrArg (fun l => g (ix4 a l r k)) (Fin.ext (by simp only; omega))

end Cert.Reference5Ideal.GradIn

namespace Cert.Kernel5Ideal.GradIn

open Cert.Kernel5Ideal Cert.Kernel5Ideal.Gen Idealize.ShloMosaic Idealize.ShloMosaic.TcCoe Idealize.SL.Sem
open Idealize.ShloMosaic.Pipeline (Dat)

variable (m : (l : Loc nD τ sig) → Buf (Elt Ideal) l) (c : Dev nD)

abbrev ax : FVec Ideal S16384x1024 .bf16 := m ((c : Thread nD τ).loc main_arg0)
abbrev ad : FVec Ideal S16384x8192 .bf16 := m ((c : Thread nD τ).loc main_arg1)
abbrev ag : FVec Ideal S4x2x1024x2048 .bf16 := m ((c : Thread nD τ).loc main_arg2)

theorem idx : ∀ t : Fin cfg0.N, win0_0.index t = ![t.val % 8, 0]
    ∧ win0_1.index t = ![t.val % 8, t.val / 8] ∧ win0_2.index t = ![t.val / 8 / 2, 0, 0, t.val / 8 % 2] :=
  (by decide +kernel : ∀ t : Fin grid0.N, _)

/-- One block of rows' product. -/
abbrev part (t : Fin cfg0.N) : FVec Ideal S1024x1024 .f32 := k0_pay1 (iblk m c 0 t) (iblk m c 1 t)

theorem part_apply (t : Fin cfg0.N) (r : Fin 1024) (k : Fin 1024) : part m c t (ix2 r k)
    = ∑ s : Fin 2048, ax m c (ix2 ⟨2048 * (t.val % 8) + s.val, by omega⟩ r)
        * ad m c (ix2 ⟨2048 * (t.val % 8) + s.val, by omega⟩ ⟨1024 * (t.val / 8) + k.val, by have := lt_of_lt_of_eq t.isLt N_0; omega⟩) := by
  unfold part
  pointwise [k0_pay1]
  refine Finset.sum_congr rfl fun k _ => congrArg₂ (· * ·) ?_ ?_
  · blk_point [iblk, V, idx t]
  · blk_point [iblk, V, idx t]

theorem acc_A (t : Fin cfg0.N) (h : t.val % 8 = 0) (j : S1024x1024.Idx) : (outsAt0 m c t.val t.isLt).2 j = part m c t j := by
  rw [outsAt0_A m c t h (by omega) (by omega)]; frame_out
  pointwise [k0_pay2]

theorem acc_B (t : Fin cfg0.N) (h : ¬t.val % 8 = 0) (j : S1024x1024.Idx) : (outsAt0 m c t.val t.isLt).2 j
    = (outsAt0 m c (t.val - 1) (Nat.lt_of_le_of_lt (Nat.sub_le _ _) t.isLt)).2 j + part m c t j := by
  by_cases h7 : t.val % 8 = 7
  · rw [outsAt0_C m c t h (by omega) h7]; frame_out
    simp only [read_unread_whole]
    pointwise [k0_pay3]
  · rw [outsAt0_B m c t h (by omega) h7]; frame_out
    simp only [read_unread_whole]
    pointwise [k0_pay3]

theorem out_C (t : Fin cfg0.N) (h : t.val % 8 = 7) (r : Fin 1024) (k : Fin 1024) :
    (outsAt0 m c t.val t.isLt).1 (ix4 0 0 r k) = (outsAt0 m c t.val t.isLt).2 (ix2 r k) := by
  rw [outsAt0_C m c t (by omega) (by omega) h]; frame_out
  pointwise [k0_pay4]

/-- The blocks of rows make up the gradient. -/
theorem sum_parts (t : Fin cfg0.N) (ht : t.val % 8 = 8 - 1) (r : Fin 1024) (k : Fin 1024) :
    ∑ s : Fin 8, part m c ⟨8 * (t.val / 8) + s.val, Pipeline.run_point_lt_of_flush t ht s⟩ (ix2 r k)
      = Cert.GradIn.rowSum (ax m c) (ad m c) ⟨t.val / 8 / 2, by have := lt_of_lt_of_eq t.isLt N_0; omega⟩ r
        ⟨1024 * (t.val / 8 % 2) + k.val, by omega⟩ := by
  unfold Cert.GradIn.rowSum
  rw [Fin.sum_univ_tiles 8 2048 rfl]
  refine Finset.sum_congr rfl fun s _ => ?_
  rw [part_apply]
  refine Finset.sum_congr rfl fun k _ => congrArg₂ (· * ·) (congrArg (ax m c) ?_) (congrArg (ad m c) ?_)
  all_goals (congr 1 <;> refine Fin.ext ?_ <;> simp only <;> omega)

/-- What the last block of rows writes back. -/
theorem out_apply (t : Fin cfg0.N) (ht : t.val % 8 = 8 - 1) (r : Fin 1024) (k : Fin 1024) :
    (outsAt0 m c t.val t.isLt).1 (ix4 0 0 r k) = Cert.GradIn.rowSum (ax m c) (ad m c) ⟨t.val / 8 / 2, by have := lt_of_lt_of_eq t.isLt N_0; omega⟩ r
        ⟨1024 * (t.val / 8 % 2) + k.val, by omega⟩ := by
  rw [out_C m c t ht, Pipeline.eq_sum_fin_of_reset_step_apply_of_flush (fun n h => (outsAt0 m c n h).2) 8 (fun _ => 0)
    (fun t => part m c t) (fun t h j => by rw [acc_A m c t h, zero_add]) (fun t h j => acc_B m c t h j) t ht _, zero_add]
  exact sum_parts m c t ht r k

theorem final : (dats m 0 c).arrAt 2 (cfgs 0).N = Cert.GradIn.grad (ax m c) (ad m c) (ag m c) := by
  have h : (dats m 0 c).arrAt 2 (cfgs 0).N = fun j : S4x2x1024x2048.Idx => if (j 1 : ℕ) / 1 = 0 then
      Cert.GradIn.grad (ax m c) (ad m c) (ag m c) j else V m c main_v0 j := by
    refine (dats m 0 c).arrAt_eq_of_coversWhere 2 _ (fun β => β (1 : Fin _) = 0) (by decide +kernel) (fun t hf y => ?_)
      (fun j => Iff.rfl)
    blk_simp
    have ht := (flush0_2 t).mp hf
    obtain ⟨r, k, rfl⟩ : ∃ (r : Fin 1024) (k : Fin 1024), y = ix4 0 0 r k :=
      ⟨y 2, y 3, (eq_ix4 y).trans (congrArg₂ (fun a b => ix4 a b (y 2) (y 3)) (Subsingleton.elim _ _) (Subsingleton.elim _ _))⟩
    rw [after0_2, show (win0_2.blk t).view.emb (ix4 0 0 r k) = ix4 ⟨t.val / 8 / 2, by have := lt_of_lt_of_eq t.isLt N_0; omega⟩ 0 r
        ⟨1024 * (t.val / 8 % 2) + k.val, by omega⟩ from by blk_ext [idx t]]
    exact out_apply m c t ht r k
  rw [h]
  entry_read
  funext j
  split
  · rfl
  · rename_i hj
    exact (if_neg (by simpa using hj)).symm

end Cert.Kernel5Ideal.GradIn

/-! ## The claims -/

namespace Cert.GradIn

open Idealize.ShloMosaic Idealize.ShloMosaic.TcCoe Idealize.SL.Sem

theorem kernel : Cert.quiescent_Kernel5 := fun m g _ => Cert.Kernel5.Gen.frame m g
theorem kernelIdeal : Cert.quiescent_Kernel5Ideal := fun m g _ => Cert.Kernel5Ideal.Gen.frame m g
theorem referenceIdeal : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

theorem algebraic : Cert.algebraic_Kernel5Ideal_Reference5Ideal := fun m g m' g' hpre hag =>
  ⟨fun c => grad (Cert.Kernel5Ideal.GradIn.ax m c) (Cert.Kernel5Ideal.GradIn.ad m c) (Cert.Kernel5Ideal.GradIn.ag m c),
    (θ_run _ _ _).mono (fun _ h c => ⟨(h c).1.trans (Cert.Kernel5Ideal.GradIn.final m c), (h c).2⟩)
      (Cert.Kernel5Ideal.Value.run_blocks m g),
    (θ_run _ _ _).mono (fun _ h c => ⟨(h c).1.trans (by
        rw [(hag c).1, (hag c).2.1, (hag c).2.2]; exact Cert.Reference5Ideal.GradIn.value _ _ _), (h c).2⟩)
      (Cert.Reference5Ideal.Value.run (F := Ideal) m' g')⟩

end Cert.GradIn

end
-- ==== Proof.GradDown.lean ====
/- The gradient of the down projection after the kernel's last block of rows: the sum over all rows, entry by entry. -/
module

public import proofs.«01_k».proof.Defs
public import proofs.«01_k».proof.Proof.Gen.Kernel6.Frame
public import proofs.«01_k».proof.Proof.Gen.Kernel6Ideal.Value
public import proofs.«01_k».proof.Proof.Gen.Reference6Ideal.Run
import Idealize.ShloMosaic.Lib.Pointwise
import Idealize.ShloMosaic.Lib.Pipeline.ReadBack
public import Idealize.ShloMosaic.Lib.Pipeline.ValueKit

@[expose] public section

set_option maxRecDepth 16384

noncomputable section

namespace Cert.GradDown

open Idealize.ShloMosaic

/-- The rows' products of one input feature with one column of the incoming gradient. -/
def rowSum (x : (⟨3, ![4, 16384, 704]⟩ : Shape).Idx → EReal) (d : (⟨2, ![16384, 1024]⟩ : Shape).Idx → EReal) (a : Fin 4) (r : Fin 704) (k : Fin 1024) : EReal :=
  ∑ s : Fin 16384, x (ix3 a s r) * d (ix2 s k)

/-- The stacked gradient of the two layers: the first layer's computed, the second's as it was. -/
def grad (x : (⟨3, ![4, 16384, 704]⟩ : Shape).Idx → EReal) (d : (⟨2, ![16384, 1024]⟩ : Shape).Idx → EReal) (g : (⟨4, ![4, 2, 704, 1024]⟩ : Shape).Idx → EReal) (j : (⟨4, ![4, 2, 704, 1024]⟩ : Shape).Idx) : EReal :=
  if (j 1 : ℕ) = 0 then rowSum x d (j 0) (j 2) (j 3) else g j

theorem grad_apply (x : (⟨3, ![4, 16384, 704]⟩ : Shape).Idx → EReal) (d : (⟨2, ![16384, 1024]⟩ : Shape).Idx → EReal) (g : (⟨4, ![4, 2, 704, 1024]⟩ : Shape).Idx → EReal) (a : Fin 4) (r : Fin 704) (k : Fin 1024) :
    grad x d g (ix4 a 0 r k) = rowSum x d a r k := rfl

end Cert.GradDown

namespace Cert.Reference6Ideal.GradDown

open Cert.Reference6Ideal Cert.Reference6Ideal.Gen Idealize.ShloMosaic

theorem value (x : FVec Ideal S4x16384x704 .bf16) (d : FVec Ideal S16384x1024 .bf16) (g : FVec Ideal S4x2x704x1024 .bf16) :
    concatenate S4x2x704x1024 1 [⟨S4x1x704x1024, (broadcastInDim S4x1x704x1024 ![0, 2, 3] bcast_S4x704x1024_S4x1x704x1024_0_2_3
      (truncf .bf16 (shapeCast S4x704x1024 (transpose S2816x1024 [1, 0] (Host.dotGeneral
      dot_S16384x1024_S16384x2816_S1024x2816_0_0_1_1_n_n none (extf .f32 d bitsLt_bf16_f32) (extf .f32 (shapeCast S16384x2816
      (transpose S16384x4x704 [1, 0, 2] x transposes_S4x16384x704_S16384x4x704_1_0_2) shapeCasts_S16384x4x704_S16384x2816)
      bitsLt_bf16_f32)) transposes_S1024x2816_S2816x1024_1_0) shapeCasts_S2816x1024_S4x704x1024) bitsLt_bf16_f32))⟩,
      ⟨S4x1x704x1024, (extractStridedSlice S4x1x704x1024 ![0, 1, 0, 0] g slices_S4x2x704x1024_S4x1x704x1024_0_1_0_0)⟩]
      concatenates_S4x1x704x1024_S4x1x704x1024_S4x2x704x1024_d1 = Cert.GradDown.grad x d g := by
  funext j
  obtain ⟨a, l, r, k, rfl⟩ : ∃ (a : Fin _) (l : Fin _) (r : Fin _) (k : Fin _), j = ix4 a l r k := ⟨_, _, _, _, eq_ix4 j⟩
  unfold Cert.GradDown.grad Cert.GradDown.rowSum
  pointwise
  by_cases hl : (l : ℕ) = 0
  · rw [dif_pos (by omega), if_pos hl]
    refine Finset.sum_congr rfl fun s _ => (mul_comm _ _).trans ?_
    refine congrArg₂ (· * ·) (congrArg x ?_) (congrArg d ?_)
    all_goals (congr 1 <;> refine Fin.ext ?_ <;> simp only <;> omega)
  · rw [dif_neg (by omega), if_neg hl]
    exact congrArg (fun l => g (ix4 a l r k)) (Fin.ext (by simp only; omega))

end Cert.Reference6Ideal.GradDown

namespace Cert.Kernel6Ideal.GradDown

open Cert.Kernel6Ideal Cert.Kernel6Ideal.Gen Idealize.ShloMosaic Idealize.ShloMosaic.TcCoe Idealize.SL.Sem
open Idealize.ShloMosaic.Pipeline (Dat)

variable (m : (l : Loc nD τ sig) → Buf (Elt Ideal) l) (c : Dev nD)

abbrev ax : FVec Ideal S4x16384x704 .bf16 := m ((c : Thread nD τ).loc main_arg0)
abbrev ad : FVec Ideal S16384x1024 .bf16 := m ((c : Thread nD τ).loc main_arg1)
abbrev ag : FVec Ideal S4x2x704x1024 .bf16 := m ((c : Thread nD τ).loc main_arg2)

theorem idx : ∀ t : Fin cfg0.N, win0_0.index t = ![t.val / 16, t.val % 16, 0]
    ∧ win0_1.index t = ![t.val % 16, 0] ∧ win0_2.index t = ![t.val / 16, 0, 0, 0] :=
  (by decide +kernel : ∀ t : Fin grid0.N, _)

/-- One block of rows' product. -/
abbrev part (t : Fin cfg0.N) : FVec Ideal S704x1024 .f32 := k0_pay1 (iblk m c 0 t) (iblk m c 1 t)

theorem part_apply (t : Fin cfg0.N) (r : Fin 704) (k : Fin 1024) : part m c t (ix2 r k)
    = ∑ s : Fin 1024, ax m c (ix3 ⟨t.val / 16, by have := lt_of_lt_of_eq t.isLt N_0; omega⟩ ⟨1024 * (t.val % 16) + s.val, by omega⟩ r)
        * ad m c (ix2 ⟨1024 * (t.val % 16) + s.val, by omega⟩ k) := by
  unfold part
  pointwise [k0_pay1]
  refine Finset.sum_congr rfl fun k _ => congrArg₂ (· * ·) ?_ ?_
  · blk_point [iblk, V, idx t]
  · blk_point [iblk, V, idx t]

theorem acc_A (t : Fin cfg0.N) (h : t.val % 16 = 0) (j : S704x1024.Idx) : (outsAt0 m c t.val t.isLt).2 j = part m c t j := by
  rw [outsAt0_A m c t h (by omega) (by omega)]; frame_out
  pointwise [k0_pay2]

theorem acc_B (t : Fin cfg0.N) (h : ¬t.val % 16 = 0) (j : S704x1024.Idx) : (outsAt0 m c t.val t.isLt).2 j
    = (outsAt0 m c (t.val - 1) (Nat.lt_of_le_of_lt (Nat.sub_le _ _) t.isLt)).2 j + part m c t j := by
  by_cases h7 : t.val % 16 = 15
  · rw [outsAt0_C m c t h (by omega) h7]; frame_out
    simp only [read_unread_whole]
    pointwise [k0_pay3]
  · rw [outsAt0_B m c t h (by omega) h7]; frame_out
    simp only [read_unread_whole]
    pointwise [k0_pay3]

theorem out_C (t : Fin cfg0.N) (h : t.val % 16 = 15) (r : Fin 704) (k : Fin 1024) :
    (outsAt0 m c t.val t.isLt).1 (ix4 0 0 r k) = (outsAt0 m c t.val t.isLt).2 (ix2 r k) := by
  rw [outsAt0_C m c t (by omega) (by omega) h]; frame_out
  pointwise [k0_pay4]

/-- The blocks of rows make up the gradient. -/
theorem sum_parts (t : Fin cfg0.N) (ht : t.val % 16 = 16 - 1) (r : Fin 704) (k : Fin 1024) :
    ∑ s : Fin 16, part m c ⟨16 * (t.val / 16) + s.val, Pipeline.run_point_lt_of_flush t ht s⟩ (ix2 r k)
      = Cert.GradDown.rowSum (ax m c) (ad m c) ⟨t.val / 16, by have := lt_of_lt_of_eq t.isLt N_0; omega⟩ r k := by
  unfold Cert.GradDown.rowSum
  rw [Fin.sum_univ_tiles 16 1024 rfl]
  refine Finset.sum_congr rfl fun s _ => ?_
  rw [part_apply]
  refine Finset.sum_congr rfl fun k _ => congrArg₂ (· * ·) (congrArg (ax m c) ?_) (congrArg (ad m c) ?_)
  all_goals (congr 1 <;> refine Fin.ext ?_ <;> simp only <;> omega)

/-- What the last block of rows writes back. -/
theorem out_apply (t : Fin cfg0.N) (ht : t.val % 16 = 16 - 1) (r : Fin 704) (k : Fin 1024) :
    (outsAt0 m c t.val t.isLt).1 (ix4 0 0 r k) = Cert.GradDown.rowSum (ax m c) (ad m c) ⟨t.val / 16, by have := lt_of_lt_of_eq t.isLt N_0; omega⟩ r k := by
  rw [out_C m c t ht, Pipeline.eq_sum_fin_of_reset_step_apply_of_flush (fun n h => (outsAt0 m c n h).2) 16 (fun _ => 0)
    (fun t => part m c t) (fun t h j => by rw [acc_A m c t h, zero_add]) (fun t h j => acc_B m c t h j) t ht _, zero_add]
  exact sum_parts m c t ht r k

theorem final : (dats m 0 c).arrAt 2 (cfgs 0).N = Cert.GradDown.grad (ax m c) (ad m c) (ag m c) := by
  have h : (dats m 0 c).arrAt 2 (cfgs 0).N = fun j : S4x2x704x1024.Idx => if (j 1 : ℕ) / 1 = 0 then
      Cert.GradDown.grad (ax m c) (ad m c) (ag m c) j else V m c main_v0 j := by
    refine (dats m 0 c).arrAt_eq_of_coversWhere 2 _ (fun β => β (1 : Fin _) = 0) (by decide +kernel) (fun t hf y => ?_)
      (fun j => Iff.rfl)
    blk_simp
    have ht := (flush0_2 t).mp hf
    obtain ⟨r, k, rfl⟩ : ∃ (r : Fin 704) (k : Fin 1024), y = ix4 0 0 r k :=
      ⟨y 2, y 3, (eq_ix4 y).trans (congrArg₂ (fun a b => ix4 a b (y 2) (y 3)) (Subsingleton.elim _ _) (Subsingleton.elim _ _))⟩
    rw [after0_2, show (win0_2.blk t).view.emb (ix4 0 0 r k) = ix4 ⟨t.val / 16, by have := lt_of_lt_of_eq t.isLt N_0; omega⟩ 0 r k from by blk_ext [idx t]]
    exact out_apply m c t ht r k
  rw [h]
  entry_read
  funext j
  split
  · rfl
  · rename_i hj
    exact (if_neg (by simpa using hj)).symm

end Cert.Kernel6Ideal.GradDown

/-! ## The claims -/

namespace Cert.GradDown

open Idealize.ShloMosaic Idealize.ShloMosaic.TcCoe Idealize.SL.Sem

theorem kernel : Cert.quiescent_Kernel6 := fun m g _ => Cert.Kernel6.Gen.frame m g
theorem kernelIdeal : Cert.quiescent_Kernel6Ideal := fun m g _ => Cert.Kernel6Ideal.Gen.frame m g
theorem referenceIdeal : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

theorem algebraic : Cert.algebraic_Kernel6Ideal_Reference6Ideal := fun m g m' g' hpre hag =>
  ⟨fun c => grad (Cert.Kernel6Ideal.GradDown.ax m c) (Cert.Kernel6Ideal.GradDown.ad m c) (Cert.Kernel6Ideal.GradDown.ag m c),
    (θ_run _ _ _).mono (fun _ h c => ⟨(h c).1.trans (Cert.Kernel6Ideal.GradDown.final m c), (h c).2⟩)
      (Cert.Kernel6Ideal.Value.run_blocks m g),
    (θ_run _ _ _).mono (fun _ h c => ⟨(h c).1.trans (by
        rw [(hag c).1, (hag c).2.1, (hag c).2.2]; exact Cert.Reference6Ideal.GradDown.value _ _ _), (h c).2⟩)
      (Cert.Reference6Ideal.Value.run (F := Ideal) m' g')⟩

end Cert.GradDown

end
-- ==== Proof.GradGate.lean ====
/- The gradient of the gate projection after the kernel's last block of rows: the sum over all rows, entry by entry. -/
module

public import proofs.«01_k».proof.Defs
public import proofs.«01_k».proof.Proof.Gen.Kernel7.Frame
public import proofs.«01_k».proof.Proof.Gen.Kernel7Ideal.Value
public import proofs.«01_k».proof.Proof.Gen.Reference7Ideal.Run
import Idealize.ShloMosaic.Lib.Pointwise
import Idealize.ShloMosaic.Lib.Pipeline.ReadBack
public import Idealize.ShloMosaic.Lib.Pipeline.ValueKit

@[expose] public section

set_option maxRecDepth 16384

noncomputable section

namespace Cert.GradGate

open Idealize.ShloMosaic

/-- The rows' products of one input feature with one column of the incoming gradient. -/
def rowSum (x : (⟨2, ![16384, 1024]⟩ : Shape).Idx → EReal) (d : (⟨3, ![4, 16384, 704]⟩ : Shape).Idx → EReal) (a : Fin 4) (r : Fin 1024) (k : Fin 704) : EReal :=
  ∑ s : Fin 16384, x (ix2 s r) * d (ix3 a s k)

/-- The stacked gradient of the two layers: the first layer's computed, the second's as it was. -/
def grad (x : (⟨2, ![16384, 1024]⟩ : Shape).Idx → EReal) (d : (⟨3, ![4, 16384, 704]⟩ : Shape).Idx → EReal) (g : (⟨4, ![4, 2, 1024, 704]⟩ : Shape).Idx → EReal) (j : (⟨4, ![4, 2, 1024, 704]⟩ : Shape).Idx) : EReal :=
  if (j 1 : ℕ) = 0 then rowSum x d (j 0) (j 2) (j 3) else g j

theorem grad_apply (x : (⟨2, ![16384, 1024]⟩ : Shape).Idx → EReal) (d : (⟨3, ![4, 16384, 704]⟩ : Shape).Idx → EReal) (g : (⟨4, ![4, 2, 1024, 704]⟩ : Shape).Idx → EReal) (a : Fin 4) (r : Fin 1024) (k : Fin 704) :
    grad x d g (ix4 a 0 r k) = rowSum x d a r k := rfl

end Cert.GradGate

namespace Cert.Reference7Ideal.GradGate

open Cert.Reference7Ideal Cert.Reference7Ideal.Gen Idealize.ShloMosaic

theorem value (x : FVec Ideal S16384x1024 .bf16) (d : FVec Ideal S4x16384x704 .bf16) (g : FVec Ideal S4x2x1024x704 .bf16) :
    concatenate S4x2x1024x704 1 [⟨S4x1x1024x704, (broadcastInDim S4x1x1024x704 ![0, 2, 3] bcast_S4x1024x704_S4x1x1024x704_0_2_3
      (truncf .bf16 (transpose S4x1024x704 [1, 0, 2] (shapeCast S1024x4x704 (transpose S1024x2816 [1, 0] (Host.dotGeneral
      dot_S16384x2816_S16384x1024_S2816x1024_0_0_1_1_n_n none (extf .f32 (shapeCast S16384x2816 (transpose S16384x4x704 [1, 0, 2] d
      transposes_S4x16384x704_S16384x4x704_1_0_2) shapeCasts_S16384x4x704_S16384x2816) bitsLt_bf16_f32) (extf .f32 x
      bitsLt_bf16_f32)) transposes_S2816x1024_S1024x2816_1_0) shapeCasts_S1024x2816_S1024x4x704)
      transposes_S1024x4x704_S4x1024x704_1_0_2) bitsLt_bf16_f32))⟩, ⟨S4x1x1024x704, (extractStridedSlice S4x1x1024x704 ![0, 1, 0,
      0] g slices_S4x2x1024x704_S4x1x1024x704_0_1_0_0)⟩] concatenates_S4x1x1024x704_S4x1x1024x704_S4x2x1024x704_d1 = Cert.GradGate.grad x d g := by
  funext j
  obtain ⟨a, l, r, k, rfl⟩ : ∃ (a : Fin _) (l : Fin _) (r : Fin _) (k : Fin _), j = ix4 a l r k := ⟨_, _, _, _, eq_ix4 j⟩
  unfold Cert.GradGate.grad Cert.GradGate.rowSum
  pointwise
  by_cases hl : (l : ℕ) = 0
  · rw [dif_pos (by omega), if_pos hl]
    refine Finset.sum_congr rfl fun s _ => (mul_comm _ _).trans ?_
    refine congrArg₂ (· * ·) (congrArg x ?_) (congrArg d ?_)
    all_goals (congr 1 <;> refine Fin.ext ?_ <;> simp only <;> omega)
  · rw [dif_neg (by omega), if_neg hl]
    exact congrArg (fun l => g (ix4 a l r k)) (Fin.ext (by simp only; omega))

end Cert.Reference7Ideal.GradGate

namespace Cert.Kernel7Ideal.GradGate

open Cert.Kernel7Ideal Cert.Kernel7Ideal.Gen Idealize.ShloMosaic Idealize.ShloMosaic.TcCoe Idealize.SL.Sem
open Idealize.ShloMosaic.Pipeline (Dat)

variable (m : (l : Loc nD τ sig) → Buf (Elt Ideal) l) (c : Dev nD)

abbrev ax : FVec Ideal S16384x1024 .bf16 := m ((c : Thread nD τ).loc main_arg0)
abbrev ad : FVec Ideal S4x16384x704 .bf16 := m ((c : Thread nD τ).loc main_arg1)
abbrev ag : FVec Ideal S4x2x1024x704 .bf16 := m ((c : Thread nD τ).loc main_arg2)

theorem idx : ∀ t : Fin cfg0.N, win0_0.index t = ![t.val % 16, 0]
    ∧ win0_1.index t = ![t.val / 16, t.val % 16, 0] ∧ win0_2.index t = ![t.val / 16, 0, 0, 0] :=
  (by decide +kernel : ∀ t : Fin grid0.N, _)

/-- One block of rows' product. -/
abbrev part (t : Fin cfg0.N) : FVec Ideal S1024x704 .f32 := k0_pay1 (iblk m c 0 t) (iblk m c 1 t)

theorem part_apply (t : Fin cfg0.N) (r : Fin 1024) (k : Fin 704) : part m c t (ix2 r k)
    = ∑ s : Fin 1024, ax m c (ix2 ⟨1024 * (t.val % 16) + s.val, by omega⟩ r)
        * ad m c (ix3 ⟨t.val / 16, by have := lt_of_lt_of_eq t.isLt N_0; omega⟩ ⟨1024 * (t.val % 16) + s.val, by omega⟩ k) := by
  unfold part
  pointwise [k0_pay1]
  refine Finset.sum_congr rfl fun k _ => congrArg₂ (· * ·) ?_ ?_
  · blk_point [iblk, V, idx t]
  · blk_point [iblk, V, idx t]

theorem acc_A (t : Fin cfg0.N) (h : t.val % 16 = 0) (j : S1024x704.Idx) : (outsAt0 m c t.val t.isLt).2 j = part m c t j := by
  rw [outsAt0_A m c t h (by omega) (by omega)]; frame_out
  pointwise [k0_pay2]

theorem acc_B (t : Fin cfg0.N) (h : ¬t.val % 16 = 0) (j : S1024x704.Idx) : (outsAt0 m c t.val t.isLt).2 j
    = (outsAt0 m c (t.val - 1) (Nat.lt_of_le_of_lt (Nat.sub_le _ _) t.isLt)).2 j + part m c t j := by
  by_cases h7 : t.val % 16 = 15
  · rw [outsAt0_C m c t h (by omega) h7]; frame_out
    simp only [read_unread_whole]
    pointwise [k0_pay3]
  · rw [outsAt0_B m c t h (by omega) h7]; frame_out
    simp only [read_unread_whole]
    pointwise [k0_pay3]

theorem out_C (t : Fin cfg0.N) (h : t.val % 16 = 15) (r : Fin 1024) (k : Fin 704) :
    (outsAt0 m c t.val t.isLt).1 (ix4 0 0 r k) = (outsAt0 m c t.val t.isLt).2 (ix2 r k) := by
  rw [outsAt0_C m c t (by omega) (by omega) h]; frame_out
  pointwise [k0_pay4]

/-- The blocks of rows make up the gradient. -/
theorem sum_parts (t : Fin cfg0.N) (ht : t.val % 16 = 16 - 1) (r : Fin 1024) (k : Fin 704) :
    ∑ s : Fin 16, part m c ⟨16 * (t.val / 16) + s.val, Pipeline.run_point_lt_of_flush t ht s⟩ (ix2 r k)
      = Cert.GradGate.rowSum (ax m c) (ad m c) ⟨t.val / 16, by have := lt_of_lt_of_eq t.isLt N_0; omega⟩ r k := by
  unfold Cert.GradGate.rowSum
  rw [Fin.sum_univ_tiles 16 1024 rfl]
  refine Finset.sum_congr rfl fun s _ => ?_
  rw [part_apply]
  refine Finset.sum_congr rfl fun k _ => congrArg₂ (· * ·) (congrArg (ax m c) ?_) (congrArg (ad m c) ?_)
  all_goals (congr 1 <;> refine Fin.ext ?_ <;> simp only <;> omega)

/-- What the last block of rows writes back. -/
theorem out_apply (t : Fin cfg0.N) (ht : t.val % 16 = 16 - 1) (r : Fin 1024) (k : Fin 704) :
    (outsAt0 m c t.val t.isLt).1 (ix4 0 0 r k) = Cert.GradGate.rowSum (ax m c) (ad m c) ⟨t.val / 16, by have := lt_of_lt_of_eq t.isLt N_0; omega⟩ r k := by
  rw [out_C m c t ht, Pipeline.eq_sum_fin_of_reset_step_apply_of_flush (fun n h => (outsAt0 m c n h).2) 16 (fun _ => 0)
    (fun t => part m c t) (fun t h j => by rw [acc_A m c t h, zero_add]) (fun t h j => acc_B m c t h j) t ht _, zero_add]
  exact sum_parts m c t ht r k

theorem final : (dats m 0 c).arrAt 2 (cfgs 0).N = Cert.GradGate.grad (ax m c) (ad m c) (ag m c) := by
  have h : (dats m 0 c).arrAt 2 (cfgs 0).N = fun j : S4x2x1024x704.Idx => if (j 1 : ℕ) / 1 = 0 then
      Cert.GradGate.grad (ax m c) (ad m c) (ag m c) j else V m c main_v0 j := by
    refine (dats m 0 c).arrAt_eq_of_coversWhere 2 _ (fun β => β (1 : Fin _) = 0) (by decide +kernel) (fun t hf y => ?_)
      (fun j => Iff.rfl)
    blk_simp
    have ht := (flush0_2 t).mp hf
    obtain ⟨r, k, rfl⟩ : ∃ (r : Fin 1024) (k : Fin 704), y = ix4 0 0 r k :=
      ⟨y 2, y 3, (eq_ix4 y).trans (congrArg₂ (fun a b => ix4 a b (y 2) (y 3)) (Subsingleton.elim _ _) (Subsingleton.elim _ _))⟩
    rw [after0_2, show (win0_2.blk t).view.emb (ix4 0 0 r k) = ix4 ⟨t.val / 16, by have := lt_of_lt_of_eq t.isLt N_0; omega⟩ 0 r k from by blk_ext [idx t]]
    exact out_apply m c t ht r k
  rw [h]
  entry_read
  funext j
  split
  · rfl
  · rename_i hj
    exact (if_neg (by simpa using hj)).symm

end Cert.Kernel7Ideal.GradGate

/-! ## The claims -/

namespace Cert.GradGate

open Idealize.ShloMosaic Idealize.ShloMosaic.TcCoe Idealize.SL.Sem

theorem kernel : Cert.quiescent_Kernel7 := fun m g _ => Cert.Kernel7.Gen.frame m g
theorem kernelIdeal : Cert.quiescent_Kernel7Ideal := fun m g _ => Cert.Kernel7Ideal.Gen.frame m g
theorem referenceIdeal : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

theorem algebraic : Cert.algebraic_Kernel7Ideal_Reference7Ideal := fun m g m' g' hpre hag =>
  ⟨fun c => grad (Cert.Kernel7Ideal.GradGate.ax m c) (Cert.Kernel7Ideal.GradGate.ad m c) (Cert.Kernel7Ideal.GradGate.ag m c),
    (θ_run _ _ _).mono (fun _ h c => ⟨(h c).1.trans (Cert.Kernel7Ideal.GradGate.final m c), (h c).2⟩)
      (Cert.Kernel7Ideal.Value.run_blocks m g),
    (θ_run _ _ _).mono (fun _ h c => ⟨(h c).1.trans (by
        rw [(hag c).1, (hag c).2.1, (hag c).2.2]; exact Cert.Reference7Ideal.GradGate.value _ _ _), (h c).2⟩)
      (Cert.Reference7Ideal.Value.run (F := Ideal) m' g')⟩

end Cert.GradGate

end
-- ==== Proof.ProjIn.lean ====
/- The second layer's input projection: every row of the hidden state against the weights' 8192 columns, which lie in four
   shards. -/
module

public import proofs.«01_k».proof.Defs
public import proofs.«01_k».proof.Proof.Gen.Kernel8.Frame
public import proofs.«01_k».proof.Proof.Gen.Kernel8Ideal.Value
public import proofs.«01_k».proof.Proof.Gen.Reference8Ideal.Run
import Idealize.ShloMosaic.Lib.Pointwise
public import Idealize.ShloMosaic.Lib.Pipeline.ValueKit

@[expose] public section

set_option maxRecDepth 16384

noncomputable section

namespace Cert.ProjIn

open Idealize.ShloMosaic

/-- The projection at row `n` and column `q`. -/
def proj (h : (⟨2, ![16384, 1024]⟩ : Shape).Idx → EReal) (w : (⟨4, ![4, 2, 1024, 2048]⟩ : Shape).Idx → EReal)
    (j : (⟨2, ![16384, 8192]⟩ : Shape).Idx) : EReal :=
  ∑ k : Fin 1024, h (ix2 (j 0) k) * w (ix4 ⟨(j 1).val / 2048, by have := (j 1).isLt; simp at this; omega⟩ 1 k ⟨(j 1).val % 2048, by omega⟩)

theorem proj_apply (h : (⟨2, ![16384, 1024]⟩ : Shape).Idx → EReal) (w : (⟨4, ![4, 2, 1024, 2048]⟩ : Shape).Idx → EReal)
    (n : Fin 16384) (q : Fin 8192) : proj h w (ix2 n q)
      = ∑ k : Fin 1024, h (ix2 n k) * w (ix4 ⟨q.val / 2048, by omega⟩ 1 k ⟨q.val % 2048, by omega⟩) := rfl

end Cert.ProjIn

namespace Cert.Reference8Ideal.ProjIn

open Cert.Reference8Ideal Cert.Reference8Ideal.Gen Idealize.ShloMosaic

theorem value (h : FVec Ideal S16384x1024 .bf16) (w : FVec Ideal S4x2x1024x2048 .bf16) :
    Host.dotGeneral dot_S16384x1024_S1024x8192_S16384x8192_1_0_0_1_n_n none (extf .f32 h bitsLt_bf16_f32)
      (extf .f32 (shapeCast S1024x8192 (transpose S1024x4x2048 [1, 0, 2] (shapeCast S4x1024x2048 (extractStridedSlice S4x1x1024x2048 ![0, 1, 0, 0] w
        slices_S4x2x1024x2048_S4x1x1024x2048_0_1_0_0) shapeCasts_S4x1x1024x2048_S4x1024x2048)
        transposes_S4x1024x2048_S1024x4x2048_1_0_2) shapeCasts_S1024x4x2048_S1024x8192) bitsLt_bf16_f32) = Cert.ProjIn.proj h w := by
  funext j
  obtain ⟨n, q, rfl⟩ : ∃ (n : Fin _) (q : Fin _), j = ix2 n q := ⟨_, _, eq_ix2 j⟩
  rw [Cert.ProjIn.proj_apply]
  pointwise

end Cert.Reference8Ideal.ProjIn

namespace Cert.Kernel8Ideal.ProjIn

open Cert.Kernel8Ideal Cert.Kernel8Ideal.Gen
open Idealize.ShloMosaic Idealize.ShloMosaic.TcCoe Idealize.SL.Sem
open Idealize.ShloMosaic.Pipeline (Dat)

variable (m : (l : Loc nD τ sig) → Buf (Elt Ideal) l) (c : Dev nD)

abbrev hid : FVec Ideal S16384x1024 .bf16 := m ((c : Thread nD τ).loc main_arg0)
abbrev wt : FVec Ideal S4x2x1024x2048 .bf16 := m ((c : Thread nD τ).loc main_arg1)

theorem idx : ∀ t : Fin cfg0.N, win0_0.index t = ![t.val % 8, 0]
    ∧ win0_1.index t = ![t.val / 8 / 2, 1, 0, t.val / 8 % 2] ∧ win0_2.index t = ![t.val % 8, t.val / 8] :=
  (by decide +kernel : ∀ t : Fin grid0.N, _)

/-- Where a block's element lies in the whole array. -/
abbrev pt (t : Fin cfg0.N) (i : Fin 2048) (q : Fin 1024) : S16384x8192.Idx :=
  ix2 ⟨2048 * (t.val % 8) + i.val, by omega⟩ ⟨1024 * (t.val / 8) + q.val, by have := lt_of_lt_of_eq t.isLt N_0; omega⟩

theorem tile_apply (t : Fin cfg0.N) (i : Fin 2048) (q : Fin 1024) : k0_pay1 (iblk m c 0 t) (iblk m c 1 t) (ix2 i q)
    = Cert.ProjIn.proj (hid m c) (wt m c) (pt t i q) := by
  have := lt_of_lt_of_eq t.isLt N_0
  unfold pt
  rw [Cert.ProjIn.proj_apply]
  pointwise [k0_pay1]
  refine Finset.sum_congr rfl fun f _ => congrArg₂ (· * ·) ?_ ?_
  · blk_point [iblk, V, idx t]
  · refine Eq.trans (b := wt m c (ix4 ⟨t.val / 8 / 2, by omega⟩ 1 f ⟨1024 * (t.val / 8 % 2) + q.val, by omega⟩)) (by blk_point [iblk, V, idx t]) ?_
    refine congrArg (wt m c) ?_
    congr 1 <;> refine Fin.ext ?_ <;> simp only <;> omega

theorem out_apply (t : Fin cfg0.N) (i : Fin 2048) (q : Fin 1024) : (dats m 0 c).after 2 t (ix2 i q)
    = Cert.ProjIn.proj (hid m c) (wt m c) (pt t i q) := by
  rw [after0_2, ← tile_apply]
  frame_out

theorem final : (dats m 0 c).arrAt 2 (cfgs 0).N = Cert.ProjIn.proj (hid m c) (wt m c) := by
  refine (dats m 0 c).arrAt_eq_of_covers 2 _ (by decide +kernel) fun t hf y => ?_
  blk_simp
  obtain ⟨i, q, rfl⟩ : ∃ (i : Fin 2048) (q : Fin 1024), y = ix2 i q := ⟨_, _, eq_ix2 y⟩
  rw [show (win0_2.blk t).view.emb (ix2 i q) = pt t i q from by unfold pt; blk_ext [idx t]]
  exact out_apply m c t i q

end Cert.Kernel8Ideal.ProjIn

/-! ## The claims -/

namespace Cert.ProjIn

open Idealize.ShloMosaic Idealize.ShloMosaic.TcCoe Idealize.SL.Sem

theorem kernel : Cert.quiescent_Kernel8 := fun m g _ => Cert.Kernel8.Gen.frame m g
theorem kernelIdeal : Cert.quiescent_Kernel8Ideal := fun m g _ => Cert.Kernel8Ideal.Gen.frame m g
theorem referenceIdeal : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

theorem algebraic : Cert.algebraic_Kernel8Ideal_Reference8Ideal := fun m g m' g' hpre hag =>
  ⟨fun c => proj (Cert.Kernel8Ideal.ProjIn.hid m c) (Cert.Kernel8Ideal.ProjIn.wt m c),
    (θ_run _ _ _).mono (fun _ h c => ⟨(h c).1.trans (Cert.Kernel8Ideal.ProjIn.final m c), (h c).2⟩)
      (Cert.Kernel8Ideal.Value.run_blocks m g),
    (θ_run _ _ _).mono (fun _ h c => ⟨(h c).1.trans (by
        rw [(hag c).1, (hag c).2]; exact Cert.Reference8Ideal.ProjIn.value _ _), (h c).2⟩)
      (Cert.Reference8Ideal.Value.run (F := Ideal) m' g')⟩

end Cert.ProjIn

end
-- ==== Proof.GateUp.lean ====
/- The second layer's gate and up projections and their activation, in four shards of hidden features. -/
module

public import proofs.«01_k».proof.Defs
public import proofs.«01_k».proof.Proof.Gen.Kernel9.Frame
public import proofs.«01_k».proof.Proof.Gen.Kernel9Ideal.Value
public import proofs.«01_k».proof.Proof.Gen.Reference9Ideal.Run
import Idealize.ShloMosaic.Lib.Pointwise
public import Idealize.ShloMosaic.Lib.Pipeline.ValueKit

@[expose] public section

set_option maxRecDepth 16384

noncomputable section

namespace Cert.GateUp

open Idealize.ShloMosaic

/-- One projection in shard `a` at row `n` and hidden feature `q`. -/
def proj (h : (⟨2, ![16384, 1024]⟩ : Shape).Idx → EReal) (w : (⟨4, ![4, 2, 1024, 704]⟩ : Shape).Idx → EReal)
    (j : (⟨3, ![4, 16384, 704]⟩ : Shape).Idx) : EReal :=
  ∑ k : Fin 1024, h (ix2 (j 1) k) * w (ix4 (j 0) 1 k (j 2))

theorem proj_apply (h : (⟨2, ![16384, 1024]⟩ : Shape).Idx → EReal) (w : (⟨4, ![4, 2, 1024, 704]⟩ : Shape).Idx → EReal)
    (a : Fin 4) (n : Fin 16384) (q : Fin 704) : proj h w (ix3 a n q) = ∑ k : Fin 1024, h (ix2 n k) * w (ix4 a 1 k q) := rfl

/-- The activation: the gate times its logistic, times the up projection. -/
def swiglu (g u : (⟨3, ![4, 16384, 704]⟩ : Shape).Idx → EReal) (j : (⟨3, ![4, 16384, 704]⟩ : Shape).Idx) : EReal :=
  g j * Ideal.logistic (g j) * u j

end Cert.GateUp

namespace Cert.Reference9Ideal.GateUp

open Cert.Reference9Ideal Cert.Reference9Ideal.Gen Idealize.ShloMosaic

/-- One projection as the reference writes it. -/
abbrev line (h : FVec Ideal S16384x1024 .bf16) (w : FVec Ideal S4x2x1024x704 .bf16) : FVec Ideal S4x16384x704 .f32 :=
  transpose S4x16384x704 [1, 0, 2] (shapeCast S16384x4x704 (Host.dotGeneral dot_S16384x1024_S1024x2816_S16384x2816_1_0_0_1_n_n none (extf .f32 h bitsLt_bf16_f32)
    (extf .f32 (shapeCast S1024x2816 (transpose S1024x4x704 [1, 0, 2] (shapeCast S4x1024x704 (extractStridedSlice S4x1x1024x704 ![0, 1, 0, 0] w
      slices_S4x2x1024x704_S4x1x1024x704_0_1_0_0) shapeCasts_S4x1x1024x704_S4x1024x704)
      transposes_S4x1024x704_S1024x4x704_1_0_2) shapeCasts_S1024x4x704_S1024x2816) bitsLt_bf16_f32))
    shapeCasts_S16384x2816_S16384x4x704) transposes_S16384x4x704_S4x16384x704_1_0_2

theorem line_eq (h : FVec Ideal S16384x1024 .bf16) (w : FVec Ideal S4x2x1024x704 .bf16) : line h w = Cert.GateUp.proj h w := by
  funext j
  obtain ⟨a, n, q, rfl⟩ : ∃ (a : Fin _) (n : Fin _) (q : Fin _), j = ix3 a n q := ⟨_, _, _, eq_ix3 j⟩
  rw [Cert.GateUp.proj_apply]
  unfold line
  pointwise

/-- The activation as the reference writes it. -/
abbrev one : FVec Ideal S4x16384x704 .f32 := broadcastInDim S4x16384x704 ![] bcast_S_S4x16384x704 (constant S_ .f32 0x3F800000#32)
abbrev actR (g u : FVec Ideal S4x16384x704 .f32) : FVec Ideal S4x16384x704 .bf16 :=
  truncf .bf16 (mulf (mulf g (Host.divf one (addf one (Host.exp (Host.negf g))))) u) bitsLt_bf16_f32

theorem act_eq (g u : FVec Ideal S4x16384x704 .f32) : actR g u = Cert.GateUp.swiglu g u := by
  funext j
  unfold Cert.GateUp.swiglu actR one Ideal.logistic
  pointwise

end Cert.Reference9Ideal.GateUp

namespace Cert.Kernel9Ideal.GateUp

open Cert.Kernel9Ideal Cert.Kernel9Ideal.Gen
open Idealize.ShloMosaic Idealize.ShloMosaic.TcCoe Idealize.SL.Sem
open Idealize.ShloMosaic.Pipeline (Dat)

variable (m : (l : Loc nD τ sig) → Buf (Elt Ideal) l) (c : Dev nD)

abbrev hid : FVec Ideal S16384x1024 .bf16 := m ((c : Thread nD τ).loc main_arg0)
abbrev wg : FVec Ideal S4x2x1024x704 .bf16 := m ((c : Thread nD τ).loc main_arg1)
abbrev wu : FVec Ideal S4x2x1024x704 .bf16 := m ((c : Thread nD τ).loc main_arg2)
abbrev gate : S4x16384x704.Idx → EReal := Cert.GateUp.proj (hid m c) (wg m c)
abbrev up : S4x16384x704.Idx → EReal := Cert.GateUp.proj (hid m c) (wu m c)

theorem idx : ∀ t : Fin cfg0.N, win0_0.index t = ![t.val % 16, 0]
    ∧ win0_1.index t = ![t.val / 16, 1, 0, 0] ∧ win0_2.index t = ![t.val / 16, 1, 0, 0]
    ∧ win0_3.index t = ![t.val / 16, t.val % 16, 0] ∧ win0_4.index t = ![t.val / 16, t.val % 16, 0] ∧ win0_5.index t = ![t.val / 16, t.val % 16, 0] :=
  (by decide +kernel : ∀ t : Fin grid0.N, _)

/-- Where a block's element lies in the whole array. -/
abbrev pt (t : Fin cfg0.N) (i : Fin 1024) (q : Fin 704) : S4x16384x704.Idx :=
  ix3 ⟨t.val / 16, by have := lt_of_lt_of_eq t.isLt N_0; omega⟩ ⟨1024 * (t.val % 16) + i.val, by omega⟩ q

theorem gate_apply (t : Fin cfg0.N) (i : Fin 1024) (q : Fin 704) : k0_pay1 (iblk m c 0 t) (iblk m c 1 t) (ix2 i q) = gate m c (pt t i q) := by
  unfold gate pt
  rw [Cert.GateUp.proj_apply]
  pointwise [k0_pay1]
  refine Finset.sum_congr rfl fun f _ => congrArg₂ (· * ·) ?_ ?_
  all_goals blk_point [iblk, V, idx t]

theorem up_apply (t : Fin cfg0.N) (i : Fin 1024) (q : Fin 704) : k0_pay2 (iblk m c 0 t) (iblk m c 2 t) (ix2 i q) = up m c (pt t i q) := by
  unfold up pt
  rw [Cert.GateUp.proj_apply]
  pointwise [k0_pay2]
  refine Finset.sum_congr rfl fun f _ => congrArg₂ (· * ·) ?_ ?_
  all_goals blk_point [iblk, V, idx t]

theorem out3 (t : Fin cfg0.N) (i : Fin 1024) (q : Fin 704) : (dats m 0 c).after 3 t (ix3 0 i q) = gate m c (pt t i q) := by
  rw [after0_3, ← gate_apply]
  frame_out
  pointwise [k0_pay3]
theorem out4 (t : Fin cfg0.N) (i : Fin 1024) (q : Fin 704) : (dats m 0 c).after 4 t (ix3 0 i q) = up m c (pt t i q) := by
  rw [after0_4, ← up_apply]
  frame_out
  pointwise [k0_pay4]
theorem out5 (t : Fin cfg0.N) (i : Fin 1024) (q : Fin 704) : (dats m 0 c).after 5 t (ix3 0 i q)
    = Cert.GateUp.swiglu (gate m c) (up m c) (pt t i q) := by
  rw [after0_5, Cert.GateUp.swiglu, ← gate_apply, ← up_apply]
  frame_out
  pointwise [k0_pay5]

theorem final3 : (dats m 0 c).arrAt 3 (cfgs 0).N = gate m c := by
  refine (dats m 0 c).arrAt_eq_of_covers 3 _ (by decide +kernel) fun t hf y => ?_
  blk_simp
  obtain ⟨z, i, q, rfl⟩ : ∃ (z : Fin 1) (i : Fin 1024) (q : Fin 704), y = ix3 z i q := ⟨_, _, _, eq_ix3 y⟩
  obtain rfl := Subsingleton.elim z 0
  rw [show (win0_3.blk t).view.emb (ix3 0 i q) = pt t i q from by unfold pt; blk_ext [idx t]]
  exact out3 m c t i q
theorem final4 : (dats m 0 c).arrAt 4 (cfgs 0).N = up m c := by
  refine (dats m 0 c).arrAt_eq_of_covers 4 _ (by decide +kernel) fun t hf y => ?_
  blk_simp
  obtain ⟨z, i, q, rfl⟩ : ∃ (z : Fin 1) (i : Fin 1024) (q : Fin 704), y = ix3 z i q := ⟨_, _, _, eq_ix3 y⟩
  obtain rfl := Subsingleton.elim z 0
  rw [show (win0_4.blk t).view.emb (ix3 0 i q) = pt t i q from by unfold pt; blk_ext [idx t]]
  exact out4 m c t i q
theorem final5 : (dats m 0 c).arrAt 5 (cfgs 0).N = Cert.GateUp.swiglu (gate m c) (up m c) := by
  refine (dats m 0 c).arrAt_eq_of_covers 5 _ (by decide +kernel) fun t hf y => ?_
  blk_simp
  obtain ⟨z, i, q, rfl⟩ : ∃ (z : Fin 1) (i : Fin 1024) (q : Fin 704), y = ix3 z i q := ⟨_, _, _, eq_ix3 y⟩
  obtain rfl := Subsingleton.elim z 0
  rw [show (win0_5.blk t).view.emb (ix3 0 i q) = pt t i q from by unfold pt; blk_ext [idx t]]
  exact out5 m c t i q

end Cert.Kernel9Ideal.GateUp

/-! ## The claims -/

namespace Cert.GateUp

open Idealize.ShloMosaic Idealize.ShloMosaic.TcCoe Idealize.SL.Sem

theorem kernel : Cert.quiescent_Kernel9 := fun m g _ => Cert.Kernel9.Gen.frame m g
theorem kernelIdeal : Cert.quiescent_Kernel9Ideal := fun m g _ => Cert.Kernel9Ideal.Gen.frame m g
theorem referenceIdeal : Cert.quiescent_Reference9Ideal := fun m g _ =>
  (θ_run Cert.Reference9Ideal.defs _ _).mono (fun r h => ⟨fun c => (h c).2.2.2, sem_eq_zero_of_no_sems (by decide) r.2⟩)
    (Cert.Reference9Ideal.Value.run (F := Ideal) m g)

theorem algebraic : Cert.algebraic_Kernel9Ideal_Reference9Ideal := fun m g m' g' hpre hag =>
  ⟨fun c => Cert.Kernel9Ideal.GateUp.gate m c, fun c => Cert.Kernel9Ideal.GateUp.up m c,
    fun c => swiglu (Cert.Kernel9Ideal.GateUp.gate m c) (Cert.Kernel9Ideal.GateUp.up m c),
    (θ_run _ _ _).mono (fun _ h c => ⟨(h c).1.trans (Cert.Kernel9Ideal.GateUp.final3 m c), (h c).2.1.trans (Cert.Kernel9Ideal.GateUp.final4 m c),
      (h c).2.2.1.trans (Cert.Kernel9Ideal.GateUp.final5 m c), (h c).2.2.2⟩)
      (Cert.Kernel9Ideal.Value.run_blocks m g),
    (θ_run _ _ _).mono (fun _ h c => by
      obtain ⟨h0, h1, h2, ha⟩ := h c
      obtain ⟨a0, a1, a2⟩ := hag c
      rw [a0, a1] at h0
      rw [a0, a2] at h1
      rw [a0, a1, a2] at h2
      refine ⟨h0.trans (Cert.Reference9Ideal.GateUp.line_eq _ _), h1.trans (Cert.Reference9Ideal.GateUp.line_eq _ _), h2.trans ?_, ha⟩
      refine (Cert.Reference9Ideal.GateUp.act_eq (Cert.Reference9Ideal.GateUp.line _ _) (Cert.Reference9Ideal.GateUp.line _ _)).trans ?_
      rw [Cert.Reference9Ideal.GateUp.line_eq, Cert.Reference9Ideal.GateUp.line_eq])
      (Cert.Reference9Ideal.Value.run (F := Ideal) m' g')⟩

end Cert.GateUp

end
-- ==== Proof.Down.lean ====
/- The second layer's down projection: the activations' four shards against the weights' four shards of rows. -/
module

public import proofs.«01_k».proof.Defs
public import proofs.«01_k».proof.Proof.Gen.Kernel10.Frame
public import proofs.«01_k».proof.Proof.Gen.Kernel10Ideal.Value
public import proofs.«01_k».proof.Proof.Gen.Reference10Ideal.Run
import Idealize.ShloMosaic.Lib.Pointwise
public import Idealize.ShloMosaic.Lib.Pipeline.ValueKit

@[expose] public section

set_option maxRecDepth 16384

noncomputable section

namespace Cert.Down

open Idealize.ShloMosaic

/-- The projection at row `n` and feature `q`: the sum over the 2816 hidden features. -/
def proj (a : (⟨3, ![4, 16384, 704]⟩ : Shape).Idx → EReal) (w : (⟨4, ![4, 2, 704, 1024]⟩ : Shape).Idx → EReal)
    (j : (⟨2, ![16384, 1024]⟩ : Shape).Idx) : EReal :=
  ∑ f : Fin 2816, a (ix3 ⟨f.val / 704, by omega⟩ (j 0) ⟨f.val % 704, by omega⟩)
    * w (ix4 ⟨f.val / 704, by omega⟩ 1 ⟨f.val % 704, by omega⟩ (j 1))

theorem proj_apply (a : (⟨3, ![4, 16384, 704]⟩ : Shape).Idx → EReal) (w : (⟨4, ![4, 2, 704, 1024]⟩ : Shape).Idx → EReal)
    (n : Fin 16384) (q : Fin 1024) : proj a w (ix2 n q)
      = ∑ f : Fin 2816, a (ix3 ⟨f.val / 704, by omega⟩ n ⟨f.val % 704, by omega⟩)
          * w (ix4 ⟨f.val / 704, by omega⟩ 1 ⟨f.val % 704, by omega⟩ q) := rfl

/-- The sum shard by shard. -/
theorem proj_shards (a : (⟨3, ![4, 16384, 704]⟩ : Shape).Idx → EReal) (w : (⟨4, ![4, 2, 704, 1024]⟩ : Shape).Idx → EReal)
    (n : Fin 16384) (q : Fin 1024) : proj a w (ix2 n q) = ∑ s : Fin 4, ∑ f : Fin 704, a (ix3 s n f) * w (ix4 s 1 f q) := by
  rw [proj_apply, Fin.sum_univ_tiles 4 704 rfl]
  refine Finset.sum_congr rfl fun s _ => Finset.sum_congr rfl fun f _ => congrArg₂ (· * ·) (congrArg a ?_) (congrArg w ?_)
  all_goals (congr 1 <;> refine Fin.ext ?_ <;> simp only <;> omega)

end Cert.Down

namespace Cert.Reference10Ideal.Down

open Cert.Reference10Ideal Cert.Reference10Ideal.Gen Idealize.ShloMosaic

theorem value (a : FVec Ideal S4x16384x704 .bf16) (w : FVec Ideal S4x2x704x1024 .bf16) :
    Host.dotGeneral dot_S16384x2816_S2816x1024_S16384x1024_1_0_0_1_n_n none
      (extf .f32 (shapeCast S16384x2816 (transpose S16384x4x704 [1, 0, 2] a transposes_S4x16384x704_S16384x4x704_1_0_2)
        shapeCasts_S16384x4x704_S16384x2816) bitsLt_bf16_f32)
      (extf .f32 (shapeCast S2816x1024 (shapeCast S4x704x1024 (extractStridedSlice S4x1x704x1024 ![0, 1, 0, 0] w
        slices_S4x2x704x1024_S4x1x704x1024_0_1_0_0) shapeCasts_S4x1x704x1024_S4x704x1024)
        shapeCasts_S4x704x1024_S2816x1024) bitsLt_bf16_f32) = Cert.Down.proj a w := by
  funext j
  obtain ⟨n, q, rfl⟩ : ∃ (n : Fin _) (q : Fin _), j = ix2 n q := ⟨_, _, eq_ix2 j⟩
  rw [Cert.Down.proj_apply]
  pointwise

end Cert.Reference10Ideal.Down

namespace Cert.Kernel10Ideal.Down

open Cert.Kernel10Ideal Cert.Kernel10Ideal.Gen
open Idealize.ShloMosaic Idealize.ShloMosaic.TcCoe Idealize.SL.Sem
open Idealize.ShloMosaic.Pipeline (Dat)

variable (m : (l : Loc nD τ sig) → Buf (Elt Ideal) l) (c : Dev nD)

abbrev act : FVec Ideal S4x16384x704 .bf16 := m ((c : Thread nD τ).loc main_arg0)
abbrev wt : FVec Ideal S4x2x704x1024 .bf16 := m ((c : Thread nD τ).loc main_arg1)

theorem idx : ∀ t : Fin cfg0.N,
    (win0_0.index t = ![0, t.val, 0] ∧ win0_2.index t = ![1, t.val, 0] ∧ win0_4.index t = ![2, t.val, 0] ∧ win0_6.index t = ![3, t.val, 0])
    ∧ (win0_1.index t = ![0, 1, 0, 0] ∧ win0_3.index t = ![1, 1, 0, 0] ∧ win0_5.index t = ![2, 1, 0, 0] ∧ win0_7.index t = ![3, 1, 0, 0])
    ∧ win0_8.index t = ![t.val, 0] :=
  (by decide +kernel : ∀ t : Fin grid0.N, _)

theorem out_apply (t : Fin cfg0.N) (i : Fin 1024) (q : Fin 1024) : (dats m 0 c).after 8 t (ix2 i q)
    = Cert.Down.proj (act m c) (wt m c) (ix2 ⟨1024 * t.val + i.val, by have := lt_of_lt_of_eq t.isLt N_0; omega⟩ q) := by
  rw [after0_8, Cert.Down.proj_shards, Fin.sum_univ_four]
  frame_out
  pointwise [k0_pay1]
  iterate 3
    refine congrArg₂ (· + ·) ?_ (Finset.sum_congr rfl fun f _ => congrArg₂ (· * ·) ?_ ?_)
  refine Finset.sum_congr rfl fun f _ => congrArg₂ (· * ·) ?_ ?_
  all_goals blk_point [iblk, V, idx t]

theorem final : (dats m 0 c).arrAt 8 (cfgs 0).N = Cert.Down.proj (act m c) (wt m c) := by
  refine (dats m 0 c).arrAt_eq_of_covers 8 _ (by decide +kernel) fun t hf y => ?_
  blk_simp
  obtain ⟨i, q, rfl⟩ : ∃ (i : Fin 1024) (q : Fin 1024), y = ix2 i q := ⟨_, _, eq_ix2 y⟩
  rw [show (win0_8.blk t).view.emb (ix2 i q) = ix2 ⟨1024 * t.val + i.val, by have := lt_of_lt_of_eq t.isLt N_0; omega⟩ q from by blk_ext [idx t]]
  exact out_apply m c t i q

end Cert.Kernel10Ideal.Down

/-! ## The claims -/

namespace Cert.Down

open Idealize.ShloMosaic Idealize.ShloMosaic.TcCoe Idealize.SL.Sem

theorem kernel : Cert.quiescent_Kernel10 := fun m g _ => Cert.Kernel10.Gen.frame m g
theorem kernelIdeal : Cert.quiescent_Kernel10Ideal := fun m g _ => Cert.Kernel10Ideal.Gen.frame m g
theorem referenceIdeal : Cert.quiescent_Reference10Ideal := fun m g _ =>
  (θ_run Cert.Reference10Ideal.defs _ _).mono (fun r h => ⟨fun c => (h c).2, sem_eq_zero_of_no_sems (by decide) r.2⟩)
    (Cert.Reference10Ideal.Value.run (F := Ideal) m g)

theorem algebraic : Cert.algebraic_Kernel10Ideal_Reference10Ideal := fun m g m' g' hpre hag =>
  ⟨fun c => proj (Cert.Kernel10Ideal.Down.act m c) (Cert.Kernel10Ideal.Down.wt m c),
    (θ_run _ _ _).mono (fun _ h c => ⟨(h c).1.trans (Cert.Kernel10Ideal.Down.final m c), (h c).2⟩)
      (Cert.Kernel10Ideal.Value.run_blocks m g),
    (θ_run _ _ _).mono (fun _ h c => ⟨(h c).1.trans (by
        rw [(hag c).1, (hag c).2]; exact Cert.Reference10Ideal.Down.value _ _), (h c).2⟩)
      (Cert.Reference10Ideal.Value.run (F := Ideal) m' g')⟩

end Cert.Down

end
-- ==== Proof.GradIn1.lean ====
/- The second layer's gradient of the input projection after the kernel's last block of rows: the sum over all rows, entry by entry. -/
module

public import proofs.«01_k».proof.Defs
public import proofs.«01_k».proof.Proof.Gen.Kernel11.Frame
public import proofs.«01_k».proof.Proof.Gen.Kernel11Ideal.Frame
public import proofs.«01_k».proof.Proof.Gen.Reference11Ideal.Run
import Idealize.ShloMosaic.Lib.Pointwise
import Idealize.ShloMosaic.Lib.Pipeline.ReadBack
public import Idealize.ShloMosaic.Lib.Pipeline.ValueKit

@[expose] public section

set_option maxRecDepth 16384

noncomputable section

namespace Cert.GradIn1

open Idealize.ShloMosaic

/-- The rows' products of one input feature with one column of the incoming gradient. -/
def rowSum (x : (⟨2, ![16384, 1024]⟩ : Shape).Idx → EReal) (d : (⟨2, ![16384, 8192]⟩ : Shape).Idx → EReal) (a : Fin 4) (r : Fin 1024) (k : Fin 2048) : EReal :=
  ∑ s : Fin 16384, x (ix2 s r) * d (ix2 s ⟨2048 * a.val + k.val, by omega⟩)

/-- The second layer's gradient. -/
def grad (x : (⟨2, ![16384, 1024]⟩ : Shape).Idx → EReal) (d : (⟨2, ![16384, 8192]⟩ : Shape).Idx → EReal) (j : (⟨3, ![4, 1024, 2048]⟩ : Shape).Idx) : EReal :=
  rowSum x d (j 0) (j 1) (j 2)

end Cert.GradIn1

namespace Cert.Reference11Ideal.GradIn1

open Cert.Reference11Ideal Cert.Reference11Ideal.Gen Idealize.ShloMosaic

theorem value (x : FVec Ideal S16384x1024 .bf16) (d : FVec Ideal S16384x8192 .bf16) :
    truncf .bf16 (transpose S4x1024x2048 [1, 0, 2] (shapeCast S1024x4x2048 (transpose S1024x8192 [1, 0]
      (Host.dotGeneral dot_S16384x8192_S16384x1024_S8192x1024_0_0_1_1_n_n none (extf .f32 d bitsLt_bf16_f32)
      (extf .f32 x bitsLt_bf16_f32)) transposes_S8192x1024_S1024x8192_1_0) shapeCasts_S1024x8192_S1024x4x2048)
      transposes_S1024x4x2048_S4x1024x2048_1_0_2) bitsLt_bf16_f32 = Cert.GradIn1.grad x d := by
  funext j
  obtain ⟨a, r, k, rfl⟩ : ∃ (a : Fin _) (r : Fin _) (k : Fin _), j = ix3 a r k := ⟨_, _, _, eq_ix3 j⟩
  unfold Cert.GradIn1.grad Cert.GradIn1.rowSum
  pointwise
  refine Finset.sum_congr rfl fun s _ => (mul_comm _ _).trans ?_
  refine congrArg₂ (· * ·) (congrArg x ?_) (congrArg d ?_)
  all_goals (congr 1 <;> refine Fin.ext ?_ <;> simp only <;> omega)

end Cert.Reference11Ideal.GradIn1

namespace Cert.Kernel11Ideal.GradIn1

open Cert.Kernel11Ideal Cert.Kernel11Ideal.Gen Idealize.ShloMosaic Idealize.ShloMosaic.TcCoe Idealize.SL.Sem
open Idealize.ShloMosaic.Pipeline (Dat)

variable (m : (l : Loc nD τ sig) → Buf (Elt Ideal) l) (c : Dev nD)

abbrev ax : FVec Ideal S16384x1024 .bf16 := m ((c : Thread nD τ).loc main_arg0)
abbrev ad : FVec Ideal S16384x8192 .bf16 := m ((c : Thread nD τ).loc main_arg1)

theorem idx : ∀ t : Fin cfg0.N, win0_0.index t = ![t.val % 8, 0]
    ∧ win0_1.index t = ![t.val % 8, t.val / 8] ∧ win0_2.index t = ![t.val / 8 / 2, 1, 0, t.val / 8 % 2] :=
  (by decide +kernel : ∀ t : Fin grid0.N, _)

/-- One block of rows' product. -/
abbrev part (t : Fin cfg0.N) : FVec Ideal S1024x1024 .f32 := k0_pay1 (iblk m c 0 t) (iblk m c 1 t)

theorem part_apply (t : Fin cfg0.N) (r : Fin 1024) (k : Fin 1024) : part m c t (ix2 r k)
    = ∑ s : Fin 2048, ax m c (ix2 ⟨2048 * (t.val % 8) + s.val, by omega⟩ r)
        * ad m c (ix2 ⟨2048 * (t.val % 8) + s.val, by omega⟩ ⟨1024 * (t.val / 8) + k.val, by have := lt_of_lt_of_eq t.isLt N_0; omega⟩) := by
  unfold part
  pointwise [k0_pay1]
  refine Finset.sum_congr rfl fun k _ => congrArg₂ (· * ·) ?_ ?_
  · blk_point [iblk, V, idx t]
  · blk_point [iblk, V, idx t]

theorem acc_A (t : Fin cfg0.N) (h : t.val % 8 = 0) (j : S1024x1024.Idx) : (outsAt0 m c t.val t.isLt).2 j = part m c t j := by
  rw [outsAt0_A m c t h (by omega) (by omega)]; frame_out
  pointwise [k0_pay2]

theorem acc_B (t : Fin cfg0.N) (h : ¬t.val % 8 = 0) (j : S1024x1024.Idx) : (outsAt0 m c t.val t.isLt).2 j
    = (outsAt0 m c (t.val - 1) (Nat.lt_of_le_of_lt (Nat.sub_le _ _) t.isLt)).2 j + part m c t j := by
  by_cases h7 : t.val % 8 = 7
  · rw [outsAt0_C m c t h (by omega) h7]; frame_out
    simp only [read_unread_whole]
    pointwise [k0_pay3]
  · rw [outsAt0_B m c t h (by omega) h7]; frame_out
    simp only [read_unread_whole]
    pointwise [k0_pay3]

theorem out_C (t : Fin cfg0.N) (h : t.val % 8 = 7) (r : Fin 1024) (k : Fin 1024) :
    (outsAt0 m c t.val t.isLt).1 (ix4 0 0 r k) = (outsAt0 m c t.val t.isLt).2 (ix2 r k) := by
  rw [outsAt0_C m c t (by omega) (by omega) h]; frame_out
  pointwise [k0_pay4]

/-- The blocks of rows make up the gradient. -/
theorem sum_parts (t : Fin cfg0.N) (ht : t.val % 8 = 8 - 1) (r : Fin 1024) (k : Fin 1024) :
    ∑ s : Fin 8, part m c ⟨8 * (t.val / 8) + s.val, Pipeline.run_point_lt_of_flush t ht s⟩ (ix2 r k)
      = Cert.GradIn1.rowSum (ax m c) (ad m c) ⟨t.val / 8 / 2, by have := lt_of_lt_of_eq t.isLt N_0; omega⟩ r
        ⟨1024 * (t.val / 8 % 2) + k.val, by omega⟩ := by
  unfold Cert.GradIn1.rowSum
  rw [Fin.sum_univ_tiles 8 2048 rfl]
  refine Finset.sum_congr rfl fun s _ => ?_
  rw [part_apply]
  refine Finset.sum_congr rfl fun k _ => congrArg₂ (· * ·) (congrArg (ax m c) ?_) (congrArg (ad m c) ?_)
  all_goals (congr 1 <;> refine Fin.ext ?_ <;> simp only <;> omega)

/-- What the last block of rows writes back. -/
theorem out_apply (t : Fin cfg0.N) (ht : t.val % 8 = 8 - 1) (r : Fin 1024) (k : Fin 1024) :
    (outsAt0 m c t.val t.isLt).1 (ix4 0 0 r k) = Cert.GradIn1.rowSum (ax m c) (ad m c) ⟨t.val / 8 / 2, by have := lt_of_lt_of_eq t.isLt N_0; omega⟩ r
        ⟨1024 * (t.val / 8 % 2) + k.val, by omega⟩ := by
  rw [out_C m c t ht, Pipeline.eq_sum_fin_of_reset_step_apply_of_flush (fun n h => (outsAt0 m c n h).2) 8 (fun _ => 0)
    (fun t => part m c t) (fun t h j => by rw [acc_A m c t h, zero_add]) (fun t h j => acc_B m c t h j) t ht _, zero_add]
  exact sum_parts m c t ht r k

/-- The stacked gradient the call leaves: the second layer's part computed. -/
theorem stacked (a : Fin 4) (r : Fin 1024) (k : Fin 2048) : (dats m 0 c).arrAt 2 (cfgs 0).N (ix4 a 1 r k)
    = Cert.GradIn1.rowSum (ax m c) (ad m c) a r k := by
  have h : (dats m 0 c).arrAt 2 (cfgs 0).N = fun j : S4x2x1024x2048.Idx => if (j 1 : ℕ) / 1 = 1 then
      Cert.GradIn1.rowSum (ax m c) (ad m c) (j 0) (j 2) (j 3) else V m c main_v0 j := by
    refine (dats m 0 c).arrAt_eq_of_coversWhere 2 _ (fun β => β (1 : Fin _) = 1) (by decide +kernel) (fun t hf y => ?_)
      (fun j => Iff.rfl)
    blk_simp
    have ht := (flush0_2 t).mp hf
    obtain ⟨r, k, rfl⟩ : ∃ (r : Fin 1024) (k : Fin 1024), y = ix4 0 0 r k :=
      ⟨y 2, y 3, (eq_ix4 y).trans (congrArg₂ (fun a b => ix4 a b (y 2) (y 3)) (Subsingleton.elim _ _) (Subsingleton.elim _ _))⟩
    rw [after0_2, show (win0_2.blk t).view.emb (ix4 0 0 r k) = ix4 ⟨t.val / 8 / 2, by have := lt_of_lt_of_eq t.isLt N_0; omega⟩ 1 r
        ⟨1024 * (t.val / 8 % 2) + k.val, by omega⟩ from by blk_ext [idx t]]
    exact out_apply m c t ht r k
  exact (congrFun h _).trans (if_pos (Nat.div_one _))

/-- The second layer's part, taken out of the stacked gradient. -/
theorem sliced (v : FVec Ideal S4x2x1024x2048 .bf16) (x : FVec Ideal S16384x1024 .bf16) (d : FVec Ideal S16384x8192 .bf16)
    (h : ∀ (a : Fin 4) (r : Fin 1024) (k : Fin 2048), v (ix4 a 1 r k) = Cert.GradIn1.rowSum x d a r k) :
    shapeCast S4x1024x2048 (extractStridedSlice S4x1x1024x2048 ![0, 1, 0, 0] v slices_S4x2x1024x2048_S4x1x1024x2048_0_1_0_0)
      shapeCasts_S4x1x1024x2048_S4x1024x2048 = Cert.GradIn1.grad x d := by
  funext j
  obtain ⟨a, r, k, rfl⟩ : ∃ (a : Fin _) (r : Fin _) (k : Fin _), j = ix3 a r k := ⟨_, _, _, eq_ix3 j⟩
  refine Eq.trans ?_ (h a r k)
  pointwise

/-- What the lines after the call leave in the result. -/
theorem tail : Pipeline.afterTail₀ cfgs (dats m) 0 (V0 m) [hostOps1] c main_v2 = Cert.GradIn1.grad (ax m c) (ad m c) := by
  refine Eq.trans ?_ (sliced _ (ax m c) (ad m c) (stacked m c))
  unfold Pipeline.afterTail₀
  simp only [hostOps1, List.flatten_cons, List.flatten_nil, List.append_nil, StableHlo.after_cons, StableHlo.after_nil]
  rw [StableHlo.reshape_result', StableHlo.unary_result']
  rw [Pipeline.withArrays_arr _ winFacts0.arr_inj c _ _ (2 : Fin 3)]
  rfl

/-- The call and the lines after it. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v2) = Cert.GradIn1.grad (ax m c) (ad m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨(h.1 c).2 main_v2 (Pipeline.mem_restRefs_of main_v2 (by decide) (by decide)) |>.trans (tail m c), h.2.1 c⟩)
    (θ_run_and (run_main m ρ) (frame m ρ))

end Cert.Kernel11Ideal.GradIn1

/-! ## The claims -/

namespace Cert.GradIn1

open Idealize.ShloMosaic Idealize.ShloMosaic.TcCoe Idealize.SL.Sem

theorem kernel : Cert.quiescent_Kernel11 := fun m g _ => Cert.Kernel11.Gen.frame m g
theorem kernelIdeal : Cert.quiescent_Kernel11Ideal := fun m g _ => Cert.Kernel11Ideal.Gen.frame m g
theorem referenceIdeal : Cert.quiescent_Reference11Ideal := fun m g _ =>
  (θ_run Cert.Reference11Ideal.defs _ _).mono (fun r h => ⟨fun c => (h c).2, sem_eq_zero_of_no_sems (by decide) r.2⟩)
    (Cert.Reference11Ideal.Value.run (F := Ideal) m g)

theorem algebraic : Cert.algebraic_Kernel11Ideal_Reference11Ideal := fun m g m' g' hpre hag =>
  ⟨fun c => grad (Cert.Kernel11Ideal.GradIn1.ax m c) (Cert.Kernel11Ideal.GradIn1.ad m c),
    Cert.Kernel11Ideal.GradIn1.run m g,
    (θ_run _ _ _).mono (fun _ h c => ⟨(h c).1.trans (by
        rw [(hag c).1, (hag c).2]; exact Cert.Reference11Ideal.GradIn1.value _ _), (h c).2⟩)
      (Cert.Reference11Ideal.Value.run (F := Ideal) m' g')⟩

end Cert.GradIn1

end
-- ==== Proof.GradDown1.lean ====
/- The second layer's gradient of the down projection after the kernel's last block of rows: the sum over all rows, entry by entry. -/
module

public import proofs.«01_k».proof.Defs
public import proofs.«01_k».proof.Proof.Gen.Kernel12.Frame
public import proofs.«01_k».proof.Proof.Gen.Kernel12Ideal.Frame
public import proofs.«01_k».proof.Proof.Gen.Reference12Ideal.Run
import Idealize.ShloMosaic.Lib.Pointwise
import Idealize.ShloMosaic.Lib.Pipeline.ReadBack
public import Idealize.ShloMosaic.Lib.Pipeline.ValueKit

@[expose] public section

set_option maxRecDepth 16384

noncomputable section

namespace Cert.GradDown1

open Idealize.ShloMosaic

/-- The rows' products of one input feature with one column of the incoming gradient. -/
def rowSum (x : (⟨3, ![4, 16384, 704]⟩ : Shape).Idx → EReal) (d : (⟨2, ![16384, 1024]⟩ : Shape).Idx → EReal) (a : Fin 4) (r : Fin 704) (k : Fin 1024) : EReal :=
  ∑ s : Fin 16384, x (ix3 a s r) * d (ix2 s k)

/-- The second layer's gradient. -/
def grad (x : (⟨3, ![4, 16384, 704]⟩ : Shape).Idx → EReal) (d : (⟨2, ![16384, 1024]⟩ : Shape).Idx → EReal) (j : (⟨3, ![4, 704, 1024]⟩ : Shape).Idx) : EReal :=
  rowSum x d (j 0) (j 1) (j 2)

end Cert.GradDown1

namespace Cert.Reference12Ideal.GradDown1

open Cert.Reference12Ideal Cert.Reference12Ideal.Gen Idealize.ShloMosaic

theorem value (x : FVec Ideal S4x16384x704 .bf16) (d : FVec Ideal S16384x1024 .bf16) :
    truncf .bf16 (shapeCast S4x704x1024 (transpose S2816x1024 [1, 0] (Host.dotGeneral
      dot_S16384x1024_S16384x2816_S1024x2816_0_0_1_1_n_n none (extf .f32 d bitsLt_bf16_f32) (extf .f32 (shapeCast S16384x2816
      (transpose S16384x4x704 [1, 0, 2] x transposes_S4x16384x704_S16384x4x704_1_0_2) shapeCasts_S16384x4x704_S16384x2816)
      bitsLt_bf16_f32)) transposes_S1024x2816_S2816x1024_1_0) shapeCasts_S2816x1024_S4x704x1024) bitsLt_bf16_f32 = Cert.GradDown1.grad x d := by
  funext j
  obtain ⟨a, r, k, rfl⟩ : ∃ (a : Fin _) (r : Fin _) (k : Fin _), j = ix3 a r k := ⟨_, _, _, eq_ix3 j⟩
  unfold Cert.GradDown1.grad Cert.GradDown1.rowSum
  pointwise
  refine Finset.sum_congr rfl fun s _ => (mul_comm _ _).trans ?_
  refine congrArg₂ (· * ·) (congrArg x ?_) (congrArg d ?_)
  all_goals (congr 1 <;> refine Fin.ext ?_ <;> simp only <;> omega)

end Cert.Reference12Ideal.GradDown1

namespace Cert.Kernel12Ideal.GradDown1

open Cert.Kernel12Ideal Cert.Kernel12Ideal.Gen Idealize.ShloMosaic Idealize.ShloMosaic.TcCoe Idealize.SL.Sem
open Idealize.ShloMosaic.Pipeline (Dat)

variable (m : (l : Loc nD τ sig) → Buf (Elt Ideal) l) (c : Dev nD)

abbrev ax : FVec Ideal S4x16384x704 .bf16 := m ((c : Thread nD τ).loc main_arg0)
abbrev ad : FVec Ideal S16384x1024 .bf16 := m ((c : Thread nD τ).loc main_arg1)

theorem idx : ∀ t : Fin cfg0.N, win0_0.index t = ![t.val / 16, t.val % 16, 0]
    ∧ win0_1.index t = ![t.val % 16, 0] ∧ win0_2.index t = ![t.val / 16, 1, 0, 0] :=
  (by decide +kernel : ∀ t : Fin grid0.N, _)

/-- One block of rows' product. -/
abbrev part (t : Fin cfg0.N) : FVec Ideal S704x1024 .f32 := k0_pay1 (iblk m c 0 t) (iblk m c 1 t)

theorem part_apply (t : Fin cfg0.N) (r : Fin 704) (k : Fin 1024) : part m c t (ix2 r k)
    = ∑ s : Fin 1024, ax m c (ix3 ⟨t.val / 16, by have := lt_of_lt_of_eq t.isLt N_0; omega⟩ ⟨1024 * (t.val % 16) + s.val, by omega⟩ r)
        * ad m c (ix2 ⟨1024 * (t.val % 16) + s.val, by omega⟩ k) := by
  unfold part
  pointwise [k0_pay1]
  refine Finset.sum_congr rfl fun k _ => congrArg₂ (· * ·) ?_ ?_
  · blk_point [iblk, V, idx t]
  · blk_point [iblk, V, idx t]

theorem acc_A (t : Fin cfg0.N) (h : t.val % 16 = 0) (j : S704x1024.Idx) : (outsAt0 m c t.val t.isLt).2 j = part m c t j := by
  rw [outsAt0_A m c t h (by omega) (by omega)]; frame_out
  pointwise [k0_pay2]

theorem acc_B (t : Fin cfg0.N) (h : ¬t.val % 16 = 0) (j : S704x1024.Idx) : (outsAt0 m c t.val t.isLt).2 j
    = (outsAt0 m c (t.val - 1) (Nat.lt_of_le_of_lt (Nat.sub_le _ _) t.isLt)).2 j + part m c t j := by
  by_cases h7 : t.val % 16 = 15
  · rw [outsAt0_C m c t h (by omega) h7]; frame_out
    simp only [read_unread_whole]
    pointwise [k0_pay3]
  · rw [outsAt0_B m c t h (by omega) h7]; frame_out
    simp only [read_unread_whole]
    pointwise [k0_pay3]

theorem out_C (t : Fin cfg0.N) (h : t.val % 16 = 15) (r : Fin 704) (k : Fin 1024) :
    (outsAt0 m c t.val t.isLt).1 (ix4 0 0 r k) = (outsAt0 m c t.val t.isLt).2 (ix2 r k) := by
  rw [outsAt0_C m c t (by omega) (by omega) h]; frame_out
  pointwise [k0_pay4]

/-- The blocks of rows make up the gradient. -/
theorem sum_parts (t : Fin cfg0.N) (ht : t.val % 16 = 16 - 1) (r : Fin 704) (k : Fin 1024) :
    ∑ s : Fin 16, part m c ⟨16 * (t.val / 16) + s.val, Pipeline.run_point_lt_of_flush t ht s⟩ (ix2 r k)
      = Cert.GradDown1.rowSum (ax m c) (ad m c) ⟨t.val / 16, by have := lt_of_lt_of_eq t.isLt N_0; omega⟩ r k := by
  unfold Cert.GradDown1.rowSum
  rw [Fin.sum_univ_tiles 16 1024 rfl]
  refine Finset.sum_congr rfl fun s _ => ?_
  rw [part_apply]
  refine Finset.sum_congr rfl fun k _ => congrArg₂ (· * ·) (congrArg (ax m c) ?_) (congrArg (ad m c) ?_)
  all_goals (congr 1 <;> refine Fin.ext ?_ <;> simp only <;> omega)

/-- What the last block of rows writes back. -/
theorem out_apply (t : Fin cfg0.N) (ht : t.val % 16 = 16 - 1) (r : Fin 704) (k : Fin 1024) :
    (outsAt0 m c t.val t.isLt).1 (ix4 0 0 r k) = Cert.GradDown1.rowSum (ax m c) (ad m c) ⟨t.val / 16, by have := lt_of_lt_of_eq t.isLt N_0; omega⟩ r k := by
  rw [out_C m c t ht, Pipeline.eq_sum_fin_of_reset_step_apply_of_flush (fun n h => (outsAt0 m c n h).2) 16 (fun _ => 0)
    (fun t => part m c t) (fun t h j => by rw [acc_A m c t h, zero_add]) (fun t h j => acc_B m c t h j) t ht _, zero_add]
  exact sum_parts m c t ht r k

/-- The stacked gradient the call leaves: the second layer's part computed. -/
theorem stacked (a : Fin 4) (r : Fin 704) (k : Fin 1024) : (dats m 0 c).arrAt 2 (cfgs 0).N (ix4 a 1 r k)
    = Cert.GradDown1.rowSum (ax m c) (ad m c) a r k := by
  have h : (dats m 0 c).arrAt 2 (cfgs 0).N = fun j : S4x2x704x1024.Idx => if (j 1 : ℕ) / 1 = 1 then
      Cert.GradDown1.rowSum (ax m c) (ad m c) (j 0) (j 2) (j 3) else V m c main_v0 j := by
    refine (dats m 0 c).arrAt_eq_of_coversWhere 2 _ (fun β => β (1 : Fin _) = 1) (by decide +kernel) (fun t hf y => ?_)
      (fun j => Iff.rfl)
    blk_simp
    have ht := (flush0_2 t).mp hf
    obtain ⟨r, k, rfl⟩ : ∃ (r : Fin 704) (k : Fin 1024), y = ix4 0 0 r k :=
      ⟨y 2, y 3, (eq_ix4 y).trans (congrArg₂ (fun a b => ix4 a b (y 2) (y 3)) (Subsingleton.elim _ _) (Subsingleton.elim _ _))⟩
    rw [after0_2, show (win0_2.blk t).view.emb (ix4 0 0 r k) = ix4 ⟨t.val / 16, by have := lt_of_lt_of_eq t.isLt N_0; omega⟩ 1 r k from by blk_ext [idx t]]
    exact out_apply m c t ht r k
  exact (congrFun h _).trans (if_pos (Nat.div_one _))

/-- The second layer's part, taken out of the stacked gradient. -/
theorem sliced (v : FVec Ideal S4x2x704x1024 .bf16) (x : FVec Ideal S4x16384x704 .bf16) (d : FVec Ideal S16384x1024 .bf16)
    (h : ∀ (a : Fin 4) (r : Fin 704) (k : Fin 1024), v (ix4 a 1 r k) = Cert.GradDown1.rowSum x d a r k) :
    shapeCast S4x704x1024 (extractStridedSlice S4x1x704x1024 ![0, 1, 0, 0] v slices_S4x2x704x1024_S4x1x704x1024_0_1_0_0)
      shapeCasts_S4x1x704x1024_S4x704x1024 = Cert.GradDown1.grad x d := by
  funext j
  obtain ⟨a, r, k, rfl⟩ : ∃ (a : Fin _) (r : Fin _) (k : Fin _), j = ix3 a r k := ⟨_, _, _, eq_ix3 j⟩
  refine Eq.trans ?_ (h a r k)
  pointwise

/-- What the lines after the call leave in the result. -/
theorem tail : Pipeline.afterTail₀ cfgs (dats m) 0 (V0 m) [hostOps1] c main_v2 = Cert.GradDown1.grad (ax m c) (ad m c) := by
  refine Eq.trans ?_ (sliced _ (ax m c) (ad m c) (stacked m c))
  unfold Pipeline.afterTail₀
  simp only [hostOps1, List.flatten_cons, List.flatten_nil, List.append_nil, StableHlo.after_cons, StableHlo.after_nil]
  rw [StableHlo.reshape_result', StableHlo.unary_result']
  rw [Pipeline.withArrays_arr _ winFacts0.arr_inj c _ _ (2 : Fin 3)]
  rfl

/-- The call and the lines after it. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v2) = Cert.GradDown1.grad (ax m c) (ad m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨(h.1 c).2 main_v2 (Pipeline.mem_restRefs_of main_v2 (by decide) (by decide)) |>.trans (tail m c), h.2.1 c⟩)
    (θ_run_and (run_main m ρ) (frame m ρ))

end Cert.Kernel12Ideal.GradDown1

/-! ## The claims -/

namespace Cert.GradDown1

open Idealize.ShloMosaic Idealize.ShloMosaic.TcCoe Idealize.SL.Sem

theorem kernel : Cert.quiescent_Kernel12 := fun m g _ => Cert.Kernel12.Gen.frame m g
theorem kernelIdeal : Cert.quiescent_Kernel12Ideal := fun m g _ => Cert.Kernel12Ideal.Gen.frame m g
theorem referenceIdeal : Cert.quiescent_Reference12Ideal := fun m g _ =>
  (θ_run Cert.Reference12Ideal.defs _ _).mono (fun r h => ⟨fun c => (h c).2, sem_eq_zero_of_no_sems (by decide) r.2⟩)
    (Cert.Reference12Ideal.Value.run (F := Ideal) m g)

theorem algebraic : Cert.algebraic_Kernel12Ideal_Reference12Ideal := fun m g m' g' hpre hag =>
  ⟨fun c => grad (Cert.Kernel12Ideal.GradDown1.ax m c) (Cert.Kernel12Ideal.GradDown1.ad m c),
    Cert.Kernel12Ideal.GradDown1.run m g,
    (θ_run _ _ _).mono (fun _ h c => ⟨(h c).1.trans (by
        rw [(hag c).1, (hag c).2]; exact Cert.Reference12Ideal.GradDown1.value _ _), (h c).2⟩)
      (Cert.Reference12Ideal.Value.run (F := Ideal) m' g')⟩

end Cert.GradDown1

end
-- ==== Proof.GradGate1.lean ====
/- The second layer's gradient of the gate projection after the kernel's last block of rows: the sum over all rows, entry by entry. -/
module

public import proofs.«01_k».proof.Defs
public import proofs.«01_k».proof.Proof.Gen.Kernel13.Frame
public import proofs.«01_k».proof.Proof.Gen.Kernel13Ideal.Frame
public import proofs.«01_k».proof.Proof.Gen.Reference13Ideal.Run
import Idealize.ShloMosaic.Lib.Pointwise
import Idealize.ShloMosaic.Lib.Pipeline.ReadBack
public import Idealize.ShloMosaic.Lib.Pipeline.ValueKit

@[expose] public section

set_option maxRecDepth 16384

noncomputable section

namespace Cert.GradGate1

open Idealize.ShloMosaic

/-- The rows' products of one input feature with one column of the incoming gradient. -/
def rowSum (x : (⟨2, ![16384, 1024]⟩ : Shape).Idx → EReal) (d : (⟨3, ![4, 16384, 704]⟩ : Shape).Idx → EReal) (a : Fin 4) (r : Fin 1024) (k : Fin 704) : EReal :=
  ∑ s : Fin 16384, x (ix2 s r) * d (ix3 a s k)

/-- The second layer's gradient. -/
def grad (x : (⟨2, ![16384, 1024]⟩ : Shape).Idx → EReal) (d : (⟨3, ![4, 16384, 704]⟩ : Shape).Idx → EReal) (j : (⟨3, ![4, 1024, 704]⟩ : Shape).Idx) : EReal :=
  rowSum x d (j 0) (j 1) (j 2)

end Cert.GradGate1

namespace Cert.Reference13Ideal.GradGate1

open Cert.Reference13Ideal Cert.Reference13Ideal.Gen Idealize.ShloMosaic

theorem value (x : FVec Ideal S16384x1024 .bf16) (d : FVec Ideal S4x16384x704 .bf16) :
    truncf .bf16 (transpose S4x1024x704 [1, 0, 2] (shapeCast S1024x4x704 (transpose S1024x2816 [1, 0] (Host.dotGeneral
      dot_S16384x2816_S16384x1024_S2816x1024_0_0_1_1_n_n none (extf .f32 (shapeCast S16384x2816 (transpose S16384x4x704 [1, 0, 2] d
      transposes_S4x16384x704_S16384x4x704_1_0_2) shapeCasts_S16384x4x704_S16384x2816) bitsLt_bf16_f32) (extf .f32 x
      bitsLt_bf16_f32)) transposes_S2816x1024_S1024x2816_1_0) shapeCasts_S1024x2816_S1024x4x704)
      transposes_S1024x4x704_S4x1024x704_1_0_2) bitsLt_bf16_f32 = Cert.GradGate1.grad x d := by
  funext j
  obtain ⟨a, r, k, rfl⟩ : ∃ (a : Fin _) (r : Fin _) (k : Fin _), j = ix3 a r k := ⟨_, _, _, eq_ix3 j⟩
  unfold Cert.GradGate1.grad Cert.GradGate1.rowSum
  pointwise
  refine Finset.sum_congr rfl fun s _ => (mul_comm _ _).trans ?_
  refine congrArg₂ (· * ·) (congrArg x ?_) (congrArg d ?_)
  all_goals (congr 1 <;> refine Fin.ext ?_ <;> simp only <;> omega)

end Cert.Reference13Ideal.GradGate1

namespace Cert.Kernel13Ideal.GradGate1

open Cert.Kernel13Ideal Cert.Kernel13Ideal.Gen Idealize.ShloMosaic Idealize.ShloMosaic.TcCoe Idealize.SL.Sem
open Idealize.ShloMosaic.Pipeline (Dat)

variable (m : (l : Loc nD τ sig) → Buf (Elt Ideal) l) (c : Dev nD)

abbrev ax : FVec Ideal S16384x1024 .bf16 := m ((c : Thread nD τ).loc main_arg0)
abbrev ad : FVec Ideal S4x16384x704 .bf16 := m ((c : Thread nD τ).loc main_arg1)

theorem idx : ∀ t : Fin cfg0.N, win0_0.index t = ![t.val % 16, 0]
    ∧ win0_1.index t = ![t.val / 16, t.val % 16, 0] ∧ win0_2.index t = ![t.val / 16, 1, 0, 0] :=
  (by decide +kernel : ∀ t : Fin grid0.N, _)

/-- One block of rows' product. -/
abbrev part (t : Fin cfg0.N) : FVec Ideal S1024x704 .f32 := k0_pay1 (iblk m c 0 t) (iblk m c 1 t)

theorem part_apply (t : Fin cfg0.N) (r : Fin 1024) (k : Fin 704) : part m c t (ix2 r k)
    = ∑ s : Fin 1024, ax m c (ix2 ⟨1024 * (t.val % 16) + s.val, by omega⟩ r)
        * ad m c (ix3 ⟨t.val / 16, by have := lt_of_lt_of_eq t.isLt N_0; omega⟩ ⟨1024 * (t.val % 16) + s.val, by omega⟩ k) := by
  unfold part
  pointwise [k0_pay1]
  refine Finset.sum_congr rfl fun k _ => congrArg₂ (· * ·) ?_ ?_
  · blk_point [iblk, V, idx t]
  · blk_point [iblk, V, idx t]

theorem acc_A (t : Fin cfg0.N) (h : t.val % 16 = 0) (j : S1024x704.Idx) : (outsAt0 m c t.val t.isLt).2 j = part m c t j := by
  rw [outsAt0_A m c t h (by omega) (by omega)]; frame_out
  pointwise [k0_pay2]

theorem acc_B (t : Fin cfg0.N) (h : ¬t.val % 16 = 0) (j : S1024x704.Idx) : (outsAt0 m c t.val t.isLt).2 j
    = (outsAt0 m c (t.val - 1) (Nat.lt_of_le_of_lt (Nat.sub_le _ _) t.isLt)).2 j + part m c t j := by
  by_cases h7 : t.val % 16 = 15
  · rw [outsAt0_C m c t h (by omega) h7]; frame_out
    simp only [read_unread_whole]
    pointwise [k0_pay3]
  · rw [outsAt0_B m c t h (by omega) h7]; frame_out
    simp only [read_unread_whole]
    pointwise [k0_pay3]

theorem out_C (t : Fin cfg0.N) (h : t.val % 16 = 15) (r : Fin 1024) (k : Fin 704) :
    (outsAt0 m c t.val t.isLt).1 (ix4 0 0 r k) = (outsAt0 m c t.val t.isLt).2 (ix2 r k) := by
  rw [outsAt0_C m c t (by omega) (by omega) h]; frame_out
  pointwise [k0_pay4]

/-- The blocks of rows make up the gradient. -/
theorem sum_parts (t : Fin cfg0.N) (ht : t.val % 16 = 16 - 1) (r : Fin 1024) (k : Fin 704) :
    ∑ s : Fin 16, part m c ⟨16 * (t.val / 16) + s.val, Pipeline.run_point_lt_of_flush t ht s⟩ (ix2 r k)
      = Cert.GradGate1.rowSum (ax m c) (ad m c) ⟨t.val / 16, by have := lt_of_lt_of_eq t.isLt N_0; omega⟩ r k := by
  unfold Cert.GradGate1.rowSum
  rw [Fin.sum_univ_tiles 16 1024 rfl]
  refine Finset.sum_congr rfl fun s _ => ?_
  rw [part_apply]
  refine Finset.sum_congr rfl fun k _ => congrArg₂ (· * ·) (congrArg (ax m c) ?_) (congrArg (ad m c) ?_)
  all_goals (congr 1 <;> refine Fin.ext ?_ <;> simp only <;> omega)

/-- What the last block of rows writes back. -/
theorem out_apply (t : Fin cfg0.N) (ht : t.val % 16 = 16 - 1) (r : Fin 1024) (k : Fin 704) :
    (outsAt0 m c t.val t.isLt).1 (ix4 0 0 r k) = Cert.GradGate1.rowSum (ax m c) (ad m c) ⟨t.val / 16, by have := lt_of_lt_of_eq t.isLt N_0; omega⟩ r k := by
  rw [out_C m c t ht, Pipeline.eq_sum_fin_of_reset_step_apply_of_flush (fun n h => (outsAt0 m c n h).2) 16 (fun _ => 0)
    (fun t => part m c t) (fun t h j => by rw [acc_A m c t h, zero_add]) (fun t h j => acc_B m c t h j) t ht _, zero_add]
  exact sum_parts m c t ht r k

/-- The stacked gradient the call leaves: the second layer's part computed. -/
theorem stacked (a : Fin 4) (r : Fin 1024) (k : Fin 704) : (dats m 0 c).arrAt 2 (cfgs 0).N (ix4 a 1 r k)
    = Cert.GradGate1.rowSum (ax m c) (ad m c) a r k := by
  have h : (dats m 0 c).arrAt 2 (cfgs 0).N = fun j : S4x2x1024x704.Idx => if (j 1 : ℕ) / 1 = 1 then
      Cert.GradGate1.rowSum (ax m c) (ad m c) (j 0) (j 2) (j 3) else V m c main_v0 j := by
    refine (dats m 0 c).arrAt_eq_of_coversWhere 2 _ (fun β => β (1 : Fin _) = 1) (by decide +kernel) (fun t hf y => ?_)
      (fun j => Iff.rfl)
    blk_simp
    have ht := (flush0_2 t).mp hf
    obtain ⟨r, k, rfl⟩ : ∃ (r : Fin 1024) (k : Fin 704), y = ix4 0 0 r k :=
      ⟨y 2, y 3, (eq_ix4 y).trans (congrArg₂ (fun a b => ix4 a b (y 2) (y 3)) (Subsingleton.elim _ _) (Subsingleton.elim _ _))⟩
    rw [after0_2, show (win0_2.blk t).view.emb (ix4 0 0 r k) = ix4 ⟨t.val / 16, by have := lt_of_lt_of_eq t.isLt N_0; omega⟩ 1 r k from by blk_ext [idx t]]
    exact out_apply m c t ht r k
  exact (congrFun h _).trans (if_pos (Nat.div_one _))

/-- The second layer's part, taken out of the stacked gradient. -/
theorem sliced (v : FVec Ideal S4x2x1024x704 .bf16) (x : FVec Ideal S16384x1024 .bf16) (d : FVec Ideal S4x16384x704 .bf16)
    (h : ∀ (a : Fin 4) (r : Fin 1024) (k : Fin 704), v (ix4 a 1 r k) = Cert.GradGate1.rowSum x d a r k) :
    shapeCast S4x1024x704 (extractStridedSlice S4x1x1024x704 ![0, 1, 0, 0] v slices_S4x2x1024x704_S4x1x1024x704_0_1_0_0)
      shapeCasts_S4x1x1024x704_S4x1024x704 = Cert.GradGate1.grad x d := by
  funext j
  obtain ⟨a, r, k, rfl⟩ : ∃ (a : Fin _) (r : Fin _) (k : Fin _), j = ix3 a r k := ⟨_, _, _, eq_ix3 j⟩
  refine Eq.trans ?_ (h a r k)
  pointwise

/-- What the lines after the call leave in the result. -/
theorem tail : Pipeline.afterTail₀ cfgs (dats m) 0 (V0 m) [hostOps1] c main_v2 = Cert.GradGate1.grad (ax m c) (ad m c) := by
  refine Eq.trans ?_ (sliced _ (ax m c) (ad m c) (stacked m c))
  unfold Pipeline.afterTail₀
  simp only [hostOps1, List.flatten_cons, List.flatten_nil, List.append_nil, StableHlo.after_cons, StableHlo.after_nil]
  rw [StableHlo.reshape_result', StableHlo.unary_result']
  rw [Pipeline.withArrays_arr _ winFacts0.arr_inj c _ _ (2 : Fin 3)]
  rfl

/-- The call and the lines after it. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v2) = Cert.GradGate1.grad (ax m c) (ad m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨(h.1 c).2 main_v2 (Pipeline.mem_restRefs_of main_v2 (by decide) (by decide)) |>.trans (tail m c), h.2.1 c⟩)
    (θ_run_and (run_main m ρ) (frame m ρ))

end Cert.Kernel13Ideal.GradGate1

/-! ## The claims -/

namespace Cert.GradGate1

open Idealize.ShloMosaic Idealize.ShloMosaic.TcCoe Idealize.SL.Sem

theorem kernel : Cert.quiescent_Kernel13 := fun m g _ => Cert.Kernel13.Gen.frame m g
theorem kernelIdeal : Cert.quiescent_Kernel13Ideal := fun m g _ => Cert.Kernel13Ideal.Gen.frame m g
theorem referenceIdeal : Cert.quiescent_Reference13Ideal := fun m g _ =>
  (θ_run Cert.Reference13Ideal.defs _ _).mono (fun r h => ⟨fun c => (h c).2, sem_eq_zero_of_no_sems (by decide) r.2⟩)
    (Cert.Reference13Ideal.Value.run (F := Ideal) m g)

theorem algebraic : Cert.algebraic_Kernel13Ideal_Reference13Ideal := fun m g m' g' hpre hag =>
  ⟨fun c => grad (Cert.Kernel13Ideal.GradGate1.ax m c) (Cert.Kernel13Ideal.GradGate1.ad m c),
    Cert.Kernel13Ideal.GradGate1.run m g,
    (θ_run _ _ _).mono (fun _ h c => ⟨(h c).1.trans (by
        rw [(hag c).1, (hag c).2]; exact Cert.Reference13Ideal.GradGate1.value _ _), (h c).2⟩)
      (Cert.Reference13Ideal.Value.run (F := Ideal) m' g')⟩

end Cert.GradGate1

end
-- ==== Proof.Products.lean ====
/- The small products of a layer, over its weights' four shards: what each of them computes, entry by entry. `l` is the layer. -/
module

public import Idealize.ShloMosaic.Lib.Pointwise
public import Idealize.ShloMosaic.Lib.Pipeline.ValueKit

@[expose] public section

noncomputable section

namespace Cert.Products

open Idealize.ShloMosaic

/-- Rows against a weight whose rows are sharded. -/
def rows (l : Fin 2) (a : (⟨2, ![16384, 1024]⟩ : Shape).Idx → EReal) (w : (⟨4, ![4, 2, 256, 1024]⟩ : Shape).Idx → EReal)
    (j : (⟨2, ![16384, 1024]⟩ : Shape).Idx) : EReal :=
  ∑ k : Fin 1024, a (ix2 (j 0) k) * w (ix4 ⟨k.val / 256, by omega⟩ l ⟨k.val % 256, by omega⟩ (j 1))

theorem rows_apply (l : Fin 2) (a : (⟨2, ![16384, 1024]⟩ : Shape).Idx → EReal) (w : (⟨4, ![4, 2, 256, 1024]⟩ : Shape).Idx → EReal)
    (n : Fin 16384) (q : Fin 1024) : rows l a w (ix2 n q)
      = ∑ k : Fin 1024, a (ix2 n k) * w (ix4 ⟨k.val / 256, by omega⟩ l ⟨k.val % 256, by omega⟩ q) := rfl

/-- The same weight transposed. -/
def rowsT (l : Fin 2) (g : (⟨2, ![16384, 1024]⟩ : Shape).Idx → EReal) (w : (⟨4, ![4, 2, 256, 1024]⟩ : Shape).Idx → EReal)
    (j : (⟨2, ![16384, 1024]⟩ : Shape).Idx) : EReal :=
  ∑ k : Fin 1024, g (ix2 (j 0) k) * w (ix4 ⟨(j 1).val / 256, by have := (j 1).isLt; simp at this; omega⟩ l ⟨(j 1).val % 256, by omega⟩ k)

theorem rowsT_apply (l : Fin 2) (g : (⟨2, ![16384, 1024]⟩ : Shape).Idx → EReal) (w : (⟨4, ![4, 2, 256, 1024]⟩ : Shape).Idx → EReal)
    (n : Fin 16384) (q : Fin 1024) : rowsT l g w (ix2 n q)
      = ∑ k : Fin 1024, g (ix2 n k) * w (ix4 ⟨q.val / 256, by omega⟩ l ⟨q.val % 256, by omega⟩ k) := rfl

/-- Rows of `K` features against a weight whose columns are sharded. -/
def cols {K : ℕ} (l : Fin 2) (a : (⟨2, ![16384, K]⟩ : Shape).Idx → EReal) (w : (⟨4, ![4, 2, K, 256]⟩ : Shape).Idx → EReal)
    (j : (⟨2, ![16384, 1024]⟩ : Shape).Idx) : EReal :=
  ∑ k : Fin K, a (ix2 (j 0) k) * w (ix4 ⟨(j 1).val / 256, by have := (j 1).isLt; simp at this; omega⟩ l k ⟨(j 1).val % 256, by omega⟩)

theorem cols_apply {K : ℕ} (l : Fin 2) (a : (⟨2, ![16384, K]⟩ : Shape).Idx → EReal) (w : (⟨4, ![4, 2, K, 256]⟩ : Shape).Idx → EReal)
    (n : Fin 16384) (q : Fin 1024) : cols l a w (ix2 n q)
      = ∑ k : Fin K, a (ix2 n k) * w (ix4 ⟨q.val / 256, by omega⟩ l k ⟨q.val % 256, by omega⟩) := rfl

/-- The same weight transposed, for the gating unit's 512 features. -/
def colsT (l : Fin 2) (g : (⟨2, ![16384, 1024]⟩ : Shape).Idx → EReal) (w : (⟨4, ![4, 2, 512, 256]⟩ : Shape).Idx → EReal)
    (j : (⟨2, ![16384, 512]⟩ : Shape).Idx) : EReal :=
  ∑ f : Fin 1024, g (ix2 (j 0) f) * w (ix4 ⟨f.val / 256, by omega⟩ l (j 1) ⟨f.val % 256, by omega⟩)

theorem colsT_apply (l : Fin 2) (g : (⟨2, ![16384, 1024]⟩ : Shape).Idx → EReal) (w : (⟨4, ![4, 2, 512, 256]⟩ : Shape).Idx → EReal)
    (n : Fin 16384) (q : Fin 512) : colsT l g w (ix2 n q)
      = ∑ f : Fin 1024, g (ix2 n f) * w (ix4 ⟨f.val / 256, by omega⟩ l q ⟨f.val % 256, by omega⟩) := rfl

/-- The sum shard by shard. -/
theorem colsT_shards (l : Fin 2) (g : (⟨2, ![16384, 1024]⟩ : Shape).Idx → EReal) (w : (⟨4, ![4, 2, 512, 256]⟩ : Shape).Idx → EReal)
    (n : Fin 16384) (q : Fin 512) : colsT l g w (ix2 n q)
      = ∑ s : Fin 4, ∑ f : Fin 256, g (ix2 n ⟨256 * s.val + f.val, by omega⟩) * w (ix4 s l q f) := by
  rw [colsT_apply, Fin.sum_univ_tiles 4 256 rfl]
  refine Finset.sum_congr rfl fun s _ => Finset.sum_congr rfl fun f _ => congrArg₂ (· * ·) (congrArg g ?_) (congrArg w ?_)
  all_goals (congr 1 <;> refine Fin.ext ?_ <;> simp only <;> omega)

end Cert.Products

end
-- ==== Proof.MergeBwd1.lean ====
/- The gradient of the second layer's output projection and of the gated merge of its two branches. -/
module

public import proofs.«01_k».proof.Defs
public import proofs.«01_k».proof.Proof.Gen.Kernel14.Frame
public import proofs.«01_k».proof.Proof.Gen.Kernel14Ideal.Frame
public import proofs.«01_k».proof.Proof.Gen.Reference14Ideal.Run
import Idealize.ShloMosaic.Lib.Pointwise
public import Idealize.ShloMosaic.Lib.Pipeline.ValueKit
public import proofs.«01_k».proof.Proof.Products
@[expose] public section

set_option maxRecDepth 16384

noncomputable section

namespace Cert.MergeBwd1

open Idealize.ShloMosaic

abbrev Arr := (⟨2, ![16384, 1024]⟩ : Shape).Idx → EReal
abbrev Wide := (⟨2, ![16384, 8192]⟩ : Shape).Idx → EReal

/-- Column `q` of the gate of branch `b`: the last two column blocks of `z`. -/
def gate (z : Wide) (b : Fin 2) (n : Fin 16384) (q : Fin 1024) : EReal :=
  Ideal.logistic (z (ix2 n ⟨6144 + 1024 * b.val + q.val, by omega⟩))

/-- The gradient of branch `b`: the merge's gradient under the branch's gate. -/
def branch (d : Arr) (z : Wide) (b : Fin 2) (j : (⟨2, ![16384, 1024]⟩ : Shape).Idx) : EReal := d j * gate z b (j 0) (j 1)

/-- The gradient of a gate before its logistic, with the branch `p` under it. -/
def dgate (d p : Arr) (z : Wide) (b : Fin 2) (n : Fin 16384) (q : Fin 1024) : EReal :=
  d (ix2 n q) * p (ix2 n q) * gate z b n q * (1 - gate z b n q)

/-- The gradient of the two gates, side by side. -/
def dgates (d pa pb : Arr) (z : Wide) (j : (⟨2, ![16384, 2048]⟩ : Shape).Idx) : EReal :=
  if h : (j 1).val < 1024 then dgate d pa z 0 (j 0) ⟨(j 1).val, h⟩
  else dgate d pb z 1 (j 0) ⟨(j 1).val - 1024, by have := (j 1).isLt; simp at this; omega⟩

/-- The product rule's form of a gate's gradient. -/
theorem dgate_rule (d p s : EReal) : d * p * (s * (1 - s)) = d * p * s * (1 - s) := (mul_assoc _ _ _).symm

end Cert.MergeBwd1

namespace Cert.Reference14Ideal.MergeBwd1

open Cert.Reference14Ideal Cert.Reference14Ideal.Gen Idealize.ShloMosaic Cert.MergeBwd1

abbrev A2 := FVec Ideal S16384x1024 .f32
abbrev AZ := FVec Ideal S16384x8192 .f32

abbrev one : FVec Ideal S16384x1024 .f32 := broadcastInDim S16384x1024 ![] bcast_S_S16384x1024 (constant S_ .f32 0x3F800000#32)
abbrev sig (g : FVec Ideal S16384x1024 .f32) : FVec Ideal S16384x1024 .f32 := Host.divf one (addf one (Host.exp (Host.negf g)))

abbrev lineD (d : FVec Ideal S16384x1024 .bf16) (w : FVec Ideal S4x2x256x1024 .bf16) : A2 :=
  Host.dotGeneral dot_S16384x1024_S1024x1024_S16384x1024_1_1_0_0_n_n none (extf .f32 d bitsLt_bf16_f32) (extf .f32 (shapeCast S1024x1024
    (shapeCast S4x256x1024 (extractStridedSlice S4x1x256x1024 ![0, 1, 0, 0] w slices_S4x2x256x1024_S4x1x256x1024_0_1_0_0)
    shapeCasts_S4x1x256x1024_S4x256x1024) shapeCasts_S4x256x1024_S1024x1024) bitsLt_bf16_f32)
abbrev gateA (z : AZ) : A2 := extractStridedSlice S16384x1024 ![0, 6144] z slices_S16384x8192_S16384x1024_0_6144
abbrev gateB (z : AZ) : A2 := extractStridedSlice S16384x1024 ![0, 7168] z slices_S16384x8192_S16384x1024_0_7168
abbrev branchA (d : A2) (z : AZ) : FVec Ideal S16384x1024 .bf16 := truncf .bf16 (mulf (sig (gateA z)) d) bitsLt_bf16_f32
abbrev branchB (d : A2) (z : AZ) : FVec Ideal S16384x1024 .bf16 := truncf .bf16 (mulf (sig (gateB z)) d) bitsLt_bf16_f32
abbrev dgateR (d p g : A2) : A2 := mulf (mulf d p) (mulf (sig g) (subf one (sig g)))
abbrev dgatesR (d pa pb : A2) (z : AZ) : FVec Ideal S16384x2048 .bf16 :=
  truncf .bf16 (concatenate S16384x2048 1 [⟨S16384x1024, dgateR d pa (gateA z)⟩, ⟨S16384x1024, dgateR d pb (gateB z)⟩]
    concatenates_S16384x1024_S16384x1024_S16384x2048_d1) bitsLt_bf16_f32

theorem lineD_eq (d : FVec Ideal S16384x1024 .bf16) (w : FVec Ideal S4x2x256x1024 .bf16) : lineD d w = Cert.Products.rowsT 1 d w := by
  funext j
  obtain ⟨n, q, rfl⟩ : ∃ (n : Fin _) (q : Fin _), j = ix2 n q := ⟨_, _, eq_ix2 j⟩
  rw [Cert.Products.rowsT_apply]
  unfold lineD
  pointwise

theorem sig_apply (g : A2) (n : Fin 16384) (q : Fin 1024) : sig g (ix2 n q) = Ideal.logistic (g (ix2 n q)) := by
  unfold sig one Ideal.logistic
  pointwise
theorem gateA_apply (z : AZ) (n : Fin 16384) (q : Fin 1024) : sig (gateA z) (ix2 n q) = gate z 0 n q := by
  rw [sig_apply]
  unfold gateA gate
  pointwise

theorem gateB_apply (z : AZ) (n : Fin 16384) (q : Fin 1024) : sig (gateB z) (ix2 n q) = gate z 1 n q := by
  rw [sig_apply]
  unfold gateB gate
  pointwise

theorem branchA_eq (d : A2) (z : AZ) : branchA d z = branch d z 0 := by
  funext j
  obtain ⟨n, q, rfl⟩ : ∃ (n : Fin _) (q : Fin _), j = ix2 n q := ⟨_, _, eq_ix2 j⟩
  refine Eq.trans (b := sig (gateA z) (ix2 n q) * d (ix2 n q)) rfl ?_
  rw [gateA_apply, mul_comm]; rfl
theorem branchB_eq (d : A2) (z : AZ) : branchB d z = branch d z 1 := by
  funext j
  obtain ⟨n, q, rfl⟩ : ∃ (n : Fin _) (q : Fin _), j = ix2 n q := ⟨_, _, eq_ix2 j⟩
  refine Eq.trans (b := sig (gateB z) (ix2 n q) * d (ix2 n q)) rfl ?_
  rw [gateB_apply, mul_comm]; rfl

theorem one_apply (n : Fin 16384) (q : Fin 1024) : one (ix2 n q) = 1 := by unfold one; pointwise
theorem dgateR_apply (d p g : A2) (n : Fin 16384) (q : Fin 1024) :
    dgateR d p g (ix2 n q) = d (ix2 n q) * p (ix2 n q) * sig g (ix2 n q) * (1 - sig g (ix2 n q)) := by
  refine Eq.trans (b := d (ix2 n q) * p (ix2 n q) * (sig g (ix2 n q) * (one (ix2 n q) - sig g (ix2 n q)))) rfl ?_
  rw [one_apply, dgate_rule]

theorem dgatesR_eq (d pa pb : A2) (z : AZ) : dgatesR d pa pb z = dgates d pa pb z := by
  funext j
  obtain ⟨n, q, rfl⟩ : ∃ (n : Fin 16384) (q : Fin 2048), j = ix2 n q := ⟨_, _, eq_ix2 j⟩
  show _ = if h : q.val < 1024 then dgate d pa z 0 n ⟨q.val, h⟩ else dgate d pb z 1 n ⟨q.val - 1024, by omega⟩
  unfold dgatesR dgate
  pointwise [dgateR_apply, gateA_apply, gateB_apply]

end Cert.Reference14Ideal.MergeBwd1

namespace Cert.Kernel14Ideal.MergeBwd1

open Cert.Kernel14Ideal Cert.Kernel14Ideal.Gen Cert.MergeBwd1
open Idealize.ShloMosaic Idealize.ShloMosaic.TcCoe Idealize.SL.Sem
open Idealize.ShloMosaic.Pipeline (Dat)

variable (m : (l : Loc nD τ sig) → Buf (Elt Ideal) l) (c : Dev nD)

abbrev ad : FVec Ideal S16384x1024 .bf16 := m ((c : Thread nD τ).loc main_arg0)
abbrev aw : FVec Ideal S4x2x256x1024 .bf16 := m ((c : Thread nD τ).loc main_arg1)
abbrev pa : FVec Ideal S16384x1024 .f32 := m ((c : Thread nD τ).loc main_arg2)
abbrev pb : FVec Ideal S16384x1024 .f32 := m ((c : Thread nD τ).loc main_arg3)
abbrev az : FVec Ideal S16384x8192 .f32 := m ((c : Thread nD τ).loc main_arg4)

/-- The gradient of the merged branches. -/
abbrev dm : S16384x1024.Idx → EReal := Cert.Products.rowsT 1 (ad m c) (aw m c)

theorem idx : ∀ t : Fin cfg0.N, win0_0.index t = ![t.val, 0] ∧ win0_1.index t = ![0, 1, 0, 0] ∧ win0_2.index t = ![t.val, 0]
    ∧ win0_3.index t = ![t.val, 0] ∧ win0_4.index t = ![t.val, 6] ∧ win0_5.index t = ![t.val, 7]
    ∧ win0_6.index t = ![t.val, 0] ∧ win0_7.index t = ![t.val, 0] ∧ win0_8.index t = ![t.val, 3] :=
  (by decide +kernel : ∀ t : Fin grid0.N, _)

/-- The row of the whole array that a tile's row is, and where its element lies. -/
abbrev rw_ (t : Fin cfg0.N) (i : Fin 512) : Fin 16384 := ⟨512 * t.val + i.val, by have := lt_of_lt_of_eq t.isLt N_0; omega⟩
abbrev pt (t : Fin cfg0.N) (i : Fin 512) (q : Fin 1024) : S16384x1024.Idx := ix2 (rw_ t i) q

abbrev dB (t : Fin cfg0.N) : FVec Ideal S512x1024 .bf16 := iblk m c 0 t
abbrev wB (t : Fin cfg0.N) : FVec Ideal S4x1x256x1024 .bf16 := iblk m c 1 t
abbrev paB (t : Fin cfg0.N) : FVec Ideal S512x1024 .f32 := iblk m c 2 t
abbrev pbB (t : Fin cfg0.N) : FVec Ideal S512x1024 .f32 := iblk m c 3 t
abbrev zaB (t : Fin cfg0.N) : FVec Ideal S512x1024 .f32 := iblk m c 4 t
abbrev zbB (t : Fin cfg0.N) : FVec Ideal S512x1024 .f32 := iblk m c 5 t

theorem dm_apply (t : Fin cfg0.N) (i : Fin 512) (q : Fin 1024) : k0_pay1 (F := Ideal) (dB m c t) (wB m c t) (ix2 i q) = dm m c (pt t i q) := by
  unfold dm pt
  rw [Cert.Products.rowsT_apply]
  pointwise [k0_pay1]
  refine Finset.sum_congr rfl fun f _ => congrArg₂ (· * ·) ?_ ?_
  all_goals blk_point [iblk, V, idx t]
theorem pa_blk (t : Fin cfg0.N) (i : Fin 512) (q : Fin 1024) : paB m c t (ix2 i q) = pa m c (pt t i q) := by
  unfold pt; blk_point [iblk, V, idx t]
theorem pb_blk (t : Fin cfg0.N) (i : Fin 512) (q : Fin 1024) : pbB m c t (ix2 i q) = pb m c (pt t i q) := by
  unfold pt; blk_point [iblk, V, idx t]
theorem ga_blk (t : Fin cfg0.N) (i : Fin 512) (q : Fin 1024) : k0_pay2 (F := Ideal) (zaB m c t) (ix2 i q) = gate (az m c) 0 (rw_ t i) q := by
  unfold gate
  pointwise [k0_pay2]
  refine congrArg Ideal.logistic ?_
  blk_point [iblk, V, idx t]
theorem gb_blk (t : Fin cfg0.N) (i : Fin 512) (q : Fin 1024) : k0_pay3 (F := Ideal) (zbB m c t) (ix2 i q) = gate (az m c) 1 (rw_ t i) q := by
  unfold gate
  pointwise [k0_pay3]
  refine congrArg Ideal.logistic ?_
  blk_point [iblk, V, idx t]

theorem a_apply (t : Fin cfg0.N) (i : Fin 512) (q : Fin 1024) :
    k0_pay4 (F := Ideal) (dB m c t) (wB m c t) (zaB m c t) (ix2 i q) = branch (dm m c) (az m c) 0 (pt t i q) := by
  exact congrArg₂ (fun a b : EReal => a * b) (dm_apply m c t i q) (ga_blk m c t i q)
theorem b_apply (t : Fin cfg0.N) (i : Fin 512) (q : Fin 1024) :
    k0_pay5 (F := Ideal) (dB m c t) (wB m c t) (zbB m c t) (ix2 i q) = branch (dm m c) (az m c) 1 (pt t i q) := by
  exact congrArg₂ (fun a b : EReal => a * b) (dm_apply m c t i q) (gb_blk m c t i q)
theorem g_apply (t : Fin cfg0.N) (i : Fin 512) (q : Fin 2048) :
    k0_pay6 (F := Ideal) (dB m c t) (wB m c t) (zaB m c t) (zbB m c t) (paB m c t) (pbB m c t) (ix2 i q)
      = dgates (dm m c) (pa m c) (pb m c) (az m c) (ix2 (rw_ t i) q) := by
  show _ = if h : q.val < 1024 then dgate (dm m c) (pa m c) (az m c) 0 (rw_ t i) ⟨q.val, h⟩
    else dgate (dm m c) (pb m c) (az m c) 1 (rw_ t i) ⟨q.val - 1024, by omega⟩
  unfold dgate
  pointwise [k0_pay6, dm_apply, ga_blk, gb_blk, pa_blk, pb_blk]

theorem out6 (t : Fin cfg0.N) (i : Fin 512) (q : Fin 1024) : (dats m 0 c).after 6 t (ix2 i q) = branch (dm m c) (az m c) 0 (pt t i q) := by
  rw [after0_6, ← a_apply]
  frame_out
theorem out7 (t : Fin cfg0.N) (i : Fin 512) (q : Fin 1024) : (dats m 0 c).after 7 t (ix2 i q) = branch (dm m c) (az m c) 1 (pt t i q) := by
  rw [after0_7, ← b_apply]
  frame_out
theorem out8 (t : Fin cfg0.N) (i : Fin 512) (q : Fin 2048) : (dats m 0 c).after 8 t (ix2 i q)
    = dgates (dm m c) (pa m c) (pb m c) (az m c) (ix2 (rw_ t i) q) := by
  rw [after0_8, ← g_apply]
  frame_out

theorem final6 : (dats m 0 c).arrAt 6 (cfgs 0).N = branch (dm m c) (az m c) 0 := by
  refine (dats m 0 c).arrAt_eq_of_covers 6 _ (by decide +kernel) fun t hf y => ?_
  blk_simp
  obtain ⟨i, q, rfl⟩ : ∃ (i : Fin 512) (q : Fin 1024), y = ix2 i q := ⟨_, _, eq_ix2 y⟩
  rw [show (win0_6.blk t).view.emb (ix2 i q) = pt t i q from by unfold pt; blk_ext [idx t]]
  exact out6 m c t i q

theorem final7 : (dats m 0 c).arrAt 7 (cfgs 0).N = branch (dm m c) (az m c) 1 := by
  refine (dats m 0 c).arrAt_eq_of_covers 7 _ (by decide +kernel) fun t hf y => ?_
  blk_simp
  obtain ⟨i, q, rfl⟩ : ∃ (i : Fin 512) (q : Fin 1024), y = ix2 i q := ⟨_, _, eq_ix2 y⟩
  rw [show (win0_7.blk t).view.emb (ix2 i q) = pt t i q from by unfold pt; blk_ext [idx t]]
  exact out7 m c t i q

/-- The gradient of the gates at the wide array's last quarter of columns. -/
def wideFn (j : S16384x8192.Idx) : EReal := dgates (dm m c) (pa m c) (pb m c) (az m c)
  (ix2 (j 0) ⟨((j 1 : ℕ) - 6144) % 2048, Nat.mod_lt _ (by decide)⟩)

theorem wideFn_ix (n : Fin 16384) (k : Fin 2048) :
    wideFn m c (ix2 n ⟨6144 + k.val, by omega⟩) = dgates (dm m c) (pa m c) (pb m c) (az m c) (ix2 n k) := by
  have e : (6144 + k.val - 6144) % 2048 = k.val := by omega
  exact congrArg (fun q => dgates (dm m c) (pa m c) (pb m c) (az m c) (ix2 n q)) (Fin.ext (a := ⟨_, Nat.mod_lt _ (by decide)⟩) e)

/-- The wide array the call leaves: its last quarter of columns computed. -/
theorem wide (n : Fin 16384) (k : Fin 2048) : (dats m 0 c).arrAt 8 (cfgs 0).N (ix2 n ⟨6144 + k.val, by omega⟩)
    = dgates (dm m c) (pa m c) (pb m c) (az m c) (ix2 n k) := by
  have h : (dats m 0 c).arrAt 8 (cfgs 0).N = fun j : S16384x8192.Idx => if (j 1 : ℕ) / 2048 = 3 then wideFn m c j
      else V m c main_v0_2 j := by
    refine (dats m 0 c).arrAt_eq_of_coversWhere 8 _ (fun β => β (1 : Fin _) = 3) (by decide +kernel) (fun t hf y => ?_)
      (fun j => Iff.rfl)
    blk_simp
    obtain ⟨i, q, rfl⟩ : ∃ (i : Fin 512) (q : Fin 2048), y = ix2 i q := ⟨_, _, eq_ix2 y⟩
    rw [show (win0_8.blk t).view.emb (ix2 i q) = ix2 (rw_ t i) ⟨6144 + q.val, by omega⟩ from by blk_ext [idx t]]
    exact (out8 m c t i q).trans (wideFn_ix m c _ _).symm
  refine (congrFun h _).trans ((if_pos ?_).trans (wideFn_ix m c n k))
  show (6144 + k.val) / 2048 = 3
  omega

/-- The last quarter of columns, taken out of the wide array. -/
theorem sliced (v : FVec Ideal S16384x8192 .bf16) (u : S16384x2048.Idx → EReal)
    (h : ∀ (n : Fin 16384) (k : Fin 2048), v (ix2 n ⟨6144 + k.val, by omega⟩) = u (ix2 n k)) :
    extractStridedSlice S16384x2048 ![0, 6144] v slices_S16384x8192_S16384x2048_0_6144 = u := by
  funext j
  obtain ⟨n, k, rfl⟩ : ∃ (n : Fin _) (k : Fin _), j = ix2 n k := ⟨_, _, eq_ix2 j⟩
  refine Eq.trans ?_ (h n k)
  pointwise

/-- What the line after the call leaves in the third result. -/
theorem tail : Pipeline.afterTail₀ cfgs (dats m) 0 (V0 m) [hostOps1] c main_v1 = dgates (dm m c) (pa m c) (pb m c) (az m c) := by
  refine Eq.trans ?_ (sliced _ _ (wide m c))
  unfold Pipeline.afterTail₀
  simp only [hostOps1, List.flatten_cons, List.flatten_nil, List.append_nil, StableHlo.after_cons, StableHlo.after_nil]
  rw [StableHlo.unary_result']
  refine congrArg (fun v => extractStridedSlice S16384x2048 ![0, 6144] v slices_S16384x8192_S16384x2048_0_6144)
    (Pipeline.withArrays_arr_shared (cfgs 0).spec c (V0 m c) (fun w => (dats m 0 c).arrAt w (cfgs 0).N) (fun w w' hne e => ?_) (8 : Fin 9))
  have hw : ∀ w w' : Fin 9, w ≠ w' → Pipeline.arrRef (cfgs 0).spec w = Pipeline.arrRef (cfgs 0).spec w' → w = 4 ∨ w = 5 := by decide
  rcases hw w w' hne e with rfl | rfl
  · exact ((dats m 0 c).arrAt_in 4 rfl _).trans (A_eq m c 4)
  · exact ((dats m 0 c).arrAt_in 5 rfl _).trans (A_eq m c 5)

/-- The call and the line after it. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v0_0) = branch (dm m c) (az m c) 0
    ∧ r.2.mem ((c.tc : Thread nD τ).loc main_v0_1) = branch (dm m c) (az m c) 1
    ∧ r.2.mem ((c.tc : Thread nD τ).loc main_v1) = dgates (dm m c) (pa m c) (pb m c) (az m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => ⟨((h.1 c).1 6).trans (final6 m c), ((h.1 c).1 7).trans (final7 m c),
      (h.1 c).2 main_v1 (Pipeline.mem_restRefs_of main_v1 (by decide) (by decide)) |>.trans (tail m c), h.2.1 c⟩)
    (θ_run_and (run_main m ρ) (frame m ρ))

end Cert.Kernel14Ideal.MergeBwd1

/-! ## The claims -/

namespace Cert.MergeBwd1

open Idealize.ShloMosaic Idealize.ShloMosaic.TcCoe Idealize.SL.Sem

theorem kernel : Cert.quiescent_Kernel14 := fun m g _ => Cert.Kernel14.Gen.frame m g
theorem kernelIdeal : Cert.quiescent_Kernel14Ideal := fun m g _ => Cert.Kernel14Ideal.Gen.frame m g
theorem referenceIdeal : Cert.quiescent_Reference14Ideal := fun m g _ =>
  (θ_run Cert.Reference14Ideal.defs _ _).mono (fun r h => ⟨fun c => (h c).2.2.2, sem_eq_zero_of_no_sems (by decide) r.2⟩)
    (Cert.Reference14Ideal.Value.run (F := Ideal) m g)

theorem algebraic : Cert.algebraic_Kernel14Ideal_Reference14Ideal := fun m g m' g' hpre hag =>
  ⟨fun c => branch (Cert.Kernel14Ideal.MergeBwd1.dm m c) (Cert.Kernel14Ideal.MergeBwd1.az m c) 0, fun c => branch (Cert.Kernel14Ideal.MergeBwd1.dm m c) (Cert.Kernel14Ideal.MergeBwd1.az m c) 1,
    fun c => dgates (Cert.Kernel14Ideal.MergeBwd1.dm m c) (Cert.Kernel14Ideal.MergeBwd1.pa m c) (Cert.Kernel14Ideal.MergeBwd1.pb m c) (Cert.Kernel14Ideal.MergeBwd1.az m c),
    Cert.Kernel14Ideal.MergeBwd1.run m g,
    (θ_run _ _ _).mono (fun _ h c => by
      obtain ⟨h0, h1, h2, ha⟩ := h c
      obtain ⟨a0, a1, a2, a3, a4⟩ := hag c
      rw [a0, a1, a4] at h0 h1
      rw [a0, a1, a2, a3, a4] at h2
      refine ⟨h0.trans ((Cert.Reference14Ideal.MergeBwd1.branchA_eq (Cert.Reference14Ideal.MergeBwd1.lineD _ _) _).trans ?_),
        h1.trans ((Cert.Reference14Ideal.MergeBwd1.branchB_eq (Cert.Reference14Ideal.MergeBwd1.lineD _ _) _).trans ?_),
        h2.trans ((Cert.Reference14Ideal.MergeBwd1.dgatesR_eq (Cert.Reference14Ideal.MergeBwd1.lineD _ _) _ _ _).trans ?_), ha⟩
      all_goals rw [Cert.Reference14Ideal.MergeBwd1.lineD_eq])
      (Cert.Reference14Ideal.Value.run (F := Ideal) m' g')⟩

end Cert.MergeBwd1

end
-- ==== Proof.RmsSpec.lean ====
/- The root-mean-square normalisation of a row of 1024 and its gradient, in the two shapes the programs compute it in,
   and the one identity between them. -/
module

public import Idealize.ShloMosaic.Lib.Pointwise
public import proofs.«01_k».proof.Proof.SguSpec

@[expose] public section

set_option maxRecDepth 16384

noncomputable section

namespace Cert.Rms

open Idealize.ShloMosaic Cert.Sgu

/-- The row width. -/
abbrev wid : EReal := Ideal.ofBits .f32 0x44800000#32

theorem wid_eq : wid = ((1024 : ℝ) : EReal) := by
  simp [Ideal.ofBits, Ideal.ieee, -EReal.coe_mul]; norm_num

/-- The mean square of a row, plus the small constant. -/
def ms (v : Fin 1024 → EReal) : EReal := Ideal.div (∑ k, v k * v k) wid + eps

/-- The reciprocal root. -/
def rr (v : Fin 1024 → EReal) : EReal := Ideal.rsqrt (ms v)

/-- The normalised row. -/
def uh (v : Fin 1024 → EReal) (k : Fin 1024) : EReal := v k * rr v

/-- The normalised row times the gain. -/
def fwd (v g : Fin 1024 → EReal) (k : Fin 1024) : EReal := uh v k * g k

/-- The gradient of the normalised row for the cotangent row `d`, in closed form. -/
def inK (v d : Fin 1024 → EReal) (k : Fin 1024) : EReal :=
  rr v * (d k - uh v k * Ideal.div (∑ l, d l * uh v l) wid)

/-- Half of what the mean square's path gives, per unit of the row. -/
def inS (v d : Fin 1024 → EReal) : EReal := Ideal.div ((∑ l, v l * d l) * (nhalf * Ideal.div (rr v) (ms v))) wid

/-- The gradient as differentiation by rule gives it, path by path. -/
def inR (v d : Fin 1024 → EReal) (k : Fin 1024) : EReal := d k * rr v + v k * inS v d + inS v d * v k

section
variable (v d : Fin 1024 → EReal) (hv : ∀ k, Fin' (v k)) (hd : ∀ k, Fin' (d k))
include hv

/-- On a finite row the mean square is a positive real. -/
theorem ms_real : ∃ A : ℝ, 0 < A ∧ ms v = (A : EReal) := by
  choose V hV using hv
  obtain rfl : v = fun k => (V k : EReal) := funext hV
  obtain ⟨e, he, hE⟩ := eps_eq
  refine ⟨(∑ k, V k * V k) * (1 / 1024) + e,
    add_pos_of_nonneg_of_pos (mul_nonneg (Finset.sum_nonneg fun k _ => mul_self_nonneg _) (by norm_num)) he, ?_⟩
  simp only [ms, ← EReal.coe_mul, coe_sum]
  rw [wid_eq, Ideal.div_coe (by norm_num), hE, ← EReal.coe_mul, ← EReal.coe_add]

theorem rr_real : ∃ A R : ℝ, A ≠ 0 ∧ R * R = 1 / A ∧ ms v = (A : EReal) ∧ rr v = (R : EReal) := by
  obtain ⟨A, hA, h⟩ := ms_real v hv
  refine ⟨A, (Real.sqrt A)⁻¹, hA.ne', by rw [← mul_inv, Real.mul_self_sqrt hA.le, one_div], h, ?_⟩
  rw [rr, h, Ideal.rsqrt_coe, if_neg (not_lt.2 hA.le), if_neg hA.ne']

include hd

/-- THE IDENTITY: on finite rows the two shapes of the gradient are one. -/
theorem inR_eq (k : Fin 1024) : inR v d k = inK v d k := by
  obtain ⟨A, R, hA, hRR, hms, hrr⟩ := rr_real v hv
  choose V hV using hv
  choose D hD using hd
  obtain rfl : v = fun k => (V k : EReal) := funext hV
  obtain rfl : d = fun k => (D k : EReal) := funext hD
  obtain ⟨Q, hQ⟩ : ∃ Q : ℝ, Q = ∑ l, V l * D l := ⟨_, rfl⟩
  have hK : ∑ l, D l * (V l * R) = Q * R := by
    rw [hQ, Finset.sum_mul]; exact Finset.sum_congr rfl fun l _ => by ring
  simp only [inR, inS, inK, uh, hrr, hms, ← EReal.coe_mul, coe_sum]
  rw [← hQ, hK, nhalf_eq, wid_eq, Ideal.div_coe hA, Ideal.div_coe (by norm_num), Ideal.div_coe (by norm_num)]
  simp only [← EReal.coe_mul, ← EReal.coe_sub, ← EReal.coe_add, EReal.coe_eq_coe_iff]
  rw [← hRR]
  ring

/-- The gradient of a finite row is finite. -/
theorem inK_fin (k : Fin 1024) : Fin' (inK v d k) := by
  obtain ⟨A, R, -, -, -, hrr⟩ := rr_real v hv
  have hu : ∀ l, Fin' (uh v l) := fun l => (hv l).mul ⟨R, hrr⟩
  obtain ⟨s, hs⟩ : Fin' (∑ l, d l * uh v l) := .sum fun l => (hd l).mul (hu l)
  refine Fin'.mul ⟨R, hrr⟩ ((hd k).sub ((hu k).mul ?_))
  rw [hs, wid_eq, Ideal.div_coe (by norm_num)]
  exact ⟨_, (EReal.coe_mul _ _).symm⟩

end

/-! ## Whole arrays -/

abbrev Arr := (⟨2, ![16384, 1024]⟩ : Shape).Idx → EReal
abbrev Row := (⟨2, ![1, 1024]⟩ : Shape).Idx → EReal

abbrev row (x : Arr) (n : Fin 16384) : Fin 1024 → EReal := fun k => x (ix2 n k)

/-- The normalised array times the gain. -/
def whole (x : Arr) (g : Row) (j : (⟨2, ![16384, 1024]⟩ : Shape).Idx) : EReal := fwd (row x (j 0)) (fun k => g (ix2 0 k)) (j 1)

/-- The gradient of the array and of the gain, for the cotangent `d`. -/
def din (x : Arr) (g : Row) (d : Arr) (j : (⟨2, ![16384, 1024]⟩ : Shape).Idx) : EReal :=
  inK (row x (j 0)) (fun k => d (ix2 (j 0) k) * g (ix2 0 k)) (j 1)
def dgain (x d : Arr) (j : (⟨2, ![1, 1024]⟩ : Shape).Idx) : EReal :=
  ∑ n : Fin 16384, d (ix2 n (j 1)) * uh (row x n) (j 1)

/-- The array's gradient with the residual's cotangent added. -/
def dres (x : Arr) (g : Row) (d y : Arr) (j : (⟨2, ![16384, 1024]⟩ : Shape).Idx) : EReal := din x g d j + y j

theorem dgain_apply (x d : Arr) (q : Fin 1024) : dgain x d (ix2 0 q) = ∑ n : Fin 16384, d (ix2 n q) * uh (row x n) q := rfl

end Cert.Rms

end
-- ==== Proof.RmsTile.lean ====
/- The row normalisation and its gradient on a tile of rows, as the kernels compute them. -/
module

public import proofs.«01_k».proof.Proof.Gen.Kernel15Ideal.Skeleton
public import proofs.«01_k».proof.Proof.Gen.Kernel33Ideal.Skeleton
public import proofs.«01_k».proof.Proof.RmsSpec
import Idealize.ShloMosaic.Lib.Pointwise

@[expose] public section

set_option maxRecDepth 16384

noncomputable section

namespace Cert.RmsTile

open Idealize.ShloMosaic Idealize.ShloMosaic.TcCoe Cert.Rms

section
open Cert.Kernel15Ideal Cert.Kernel15Ideal.Gen

abbrev T2 := FVec Ideal S256x1024 .f32
abbrev TG := FVec Ideal S1x1024 .f32

/-- A row of a tile. -/
abbrev trow (v : T2) (i : Fin 256) : Fin 1024 → EReal := fun k => v (ix2 i k)

/-- The gradient of the tile's rows and of the gain. -/
abbrev duT (v : T2) (g : TG) (d : T2) : T2 :=
  mulf (broadcastTo S256x1024 (k0_pay2 v) broadcasts_S256x1_S256x1024) (subf (mulf d (broadcastTo S256x1024 g broadcasts_S1x1024_S256x1024))
    (mulf (k0_pay3 v) (broadcastTo S256x1024 (divf (shapeCast S256x1 (multiReduction .add [1] S256
      (mulf (mulf d (broadcastTo S256x1024 g broadcasts_S1x1024_S256x1024)) (k0_pay3 v)) 0x00000000#32 reduces_S256x1024_S256 (.inl rfl) rfl)
      shapeCasts_S256_S256x1) (broadcast S256x1 (Scalar.ofBits .f32 0x44800000#32))) broadcasts_S256x1_S256x1024)))
abbrev dgT (v d : T2) : TG := k0_pay4 v d

theorem rT_apply (v : T2) (i : Fin 256) : k0_pay2 (F := Ideal) v (ix2 i 0) = rr (trow v i) := by
  unfold rr ms; pointwise [k0_pay2]
theorem uT_apply (v : T2) (i : Fin 256) (q : Fin 1024) : k0_pay3 (F := Ideal) v (ix2 i q) = uh (trow v i) q := by
  unfold uh; pointwise [k0_pay3, rT_apply]
theorem dgT_apply (v d : T2) (q : Fin 1024) : dgT v d (ix2 0 q) = ∑ i : Fin 256, d (ix2 i q) * uh (trow v i) q := by
  unfold dgT; pointwise [k0_pay4, uT_apply]
theorem duT_apply (v : T2) (g : TG) (d : T2) (i : Fin 256) (q : Fin 1024) :
    duT v g d (ix2 i q) = inK (trow v i) (fun k => d (ix2 i k) * g (ix2 0 k)) q := by
  unfold duT inK; pointwise [rT_apply, uT_apply]
end

section
open Cert.Kernel33Ideal Cert.Kernel33Ideal.Gen

abbrev U2 := FVec Ideal S512x1024 .f32

/-- A row of a tile of 512 rows. -/
abbrev urow (v : U2) (i : Fin 512) : Fin 1024 → EReal := fun k => v (ix2 i k)

/-- The normalised tile times the gain. -/
abbrev fwdT (v : U2) (g : TG) : U2 :=
  mulf (mulf v (broadcastTo S512x1024 (rsqrt (addf (divf (shapeCast S512x1 (multiReduction .add [1] S512 (mulf v v) 0x00000000#32
    reduces_S512x1024_S512 (.inl rfl) rfl) shapeCasts_S512_S512x1) (broadcast S512x1 (Scalar.ofBits .f32 0x44800000#32)))
    (broadcast S512x1 (Scalar.ofBits .f32 0x358637BD#32)))) broadcasts_S512x1_S512x1024))
    (broadcastTo S512x1024 g broadcasts_S1x1024_S512x1024)

theorem fwdT_apply (v : U2) (g : TG) (i : Fin 512) (q : Fin 1024) : fwdT v g (ix2 i q) = fwd (urow v i) (fun k => g (ix2 0 k)) q := by
  unfold fwdT fwd uh rr ms; pointwise
end

end Cert.RmsTile

end
-- ==== Proof.RmsRef.lean ====
/- The row normalisation and its gradient as the references compute them: their lines as definitions, read at an index. -/
module

public import proofs.«01_k».proof.Proof.Gen.Reference15Ideal.Run
public import proofs.«01_k».proof.Proof.RmsSpec
import Idealize.ShloMosaic.Lib.Pointwise

@[expose] public section

set_option maxRecDepth 16384

noncomputable section

namespace Cert.RmsRef

open Cert.Reference15Ideal Cert.Reference15Ideal.Gen Idealize.ShloMosaic Idealize.ShloMosaic.TcCoe Idealize.SL.Sem
open Cert.Sgu Cert.Rms

abbrev A2 := FVec Ideal S16384x1024 .f32
abbrev A1 := FVec Ideal S16384x1 .f32
abbrev AG := FVec Ideal S1x1024 .f32

abbrev rowsum (x : A2) : FVec Ideal S16384 .f32 := Host.reduceAdd x (constant S_ .f32 0x00000000#32) reducesTo_S16384x1024_S16384_d1 h_S_
abbrev cst1 (b : BitVec 32) : A1 := broadcastInDim S16384x1 ![] bcast_S_S16384x1 (constant S_ .f32 b)
abbrev wide (x : A1) : A2 := broadcastInDim S16384x1024 ![0, 1] bcast_S16384x1_S16384x1024_0_1 x
abbrev tall (g : AG) : A2 := broadcastInDim S16384x1024 ![0, 1] bcast_S1x1024_S16384x1024_0_1 g
abbrev msR (v : A2) : A1 :=
  addf (Host.divf (broadcastInDim S16384x1 ![0] bcast_S16384_S16384x1_0 (rowsum (mulf v v))) (cst1 0x44800000#32)) (cst1 0x358637BD#32)
abbrev rrR (v : A2) : A1 := Host.rsqrt (msR v)
abbrev uhR (v : A2) : A2 := mulf v (wide (rrR v))
abbrev normR (v : A2) (g : AG) : A2 := mulf (uhR v) (tall g)
abbrev sR (v d : A2) : A1 :=
  Host.divf (mulf (shapeCast S16384x1 (rowsum (mulf v d)) shapeCasts_S16384_S16384x1)
    (mulf (cst1 0xBF000000#32) (Host.divf (rrR v) (msR v)))) (cst1 0x44800000#32)
abbrev spread (x : A1) : A2 := broadcastInDim S16384x1024 ![0] bcast_S16384_S16384x1024_0
  (Host.reduceAdd x (constant S_ .f32 0x00000000#32) reducesTo_S16384x1_S16384_d1 h_S_)
abbrev dinR (v : A2) (g : AG) (d : A2) : A2 :=
  addf (addf (mulf (mulf d (tall g)) (wide (rrR v))) (mulf v (spread (sR v (mulf d (tall g))))))
    (mulf (spread (sR v (mulf d (tall g)))) v)
abbrev dresR (v : A2) (g : AG) (d y : A2) : A2 :=
  addf (addf (addf y (mulf (mulf d (tall g)) (wide (rrR v)))) (mulf v (spread (sR v (mulf d (tall g))))))
    (mulf (spread (sR v (mulf d (tall g)))) v)
abbrev dgainR (v d : A2) : AG :=
  shapeCast S1x1024 (Host.reduceAdd (mulf (uhR v) d) (constant S_ .f32 0x00000000#32) reducesTo_S16384x1024_S1024_d0 h_S_) shapeCasts_S1024_S1x1024

theorem rowsum_apply (x : A2) (n : Fin 16384) : rowsum x (ix1 n) = ∑ k, x (ix2 n k) := by
  unfold rowsum; pointwise
theorem msR_apply (v : A2) (n : Fin 16384) : msR v (ix2 n 0) = ms (row v n) := by
  unfold msR cst1 ms; pointwise [rowsum_apply]
theorem rrR_apply (v : A2) (n : Fin 16384) : rrR v (ix2 n 0) = rr (row v n) := by
  unfold rrR rr; pointwise [msR_apply]
theorem wide_apply (x : A1) (n : Fin 16384) (q : Fin 1024) : wide x (ix2 n q) = x (ix2 n 0) := by
  unfold wide; pointwise
theorem tall_apply (g : AG) (n : Fin 16384) (q : Fin 1024) : tall g (ix2 n q) = g (ix2 0 q) := by
  unfold tall; pointwise
theorem spread_apply (x : A1) (n : Fin 16384) (q : Fin 1024) : spread x (ix2 n q) = x (ix2 n 0) := by
  unfold spread; pointwise
  exact Fin.sum_univ_one _
theorem uhR_apply (v : A2) (n : Fin 16384) (q : Fin 1024) : uhR v (ix2 n q) = uh (row v n) q := by
  unfold uhR uh; pointwise [wide_apply, rrR_apply]
theorem sR_apply (v d : A2) (n : Fin 16384) : sR v d (ix2 n 0) = inS (row v n) (row d n) := by
  unfold sR cst1 inS; pointwise [rowsum_apply, rrR_apply, msR_apply]

theorem normR_apply (v : A2) (g : AG) (n : Fin 16384) (q : Fin 1024) : normR v g (ix2 n q) = whole v g (ix2 n q) := by
  unfold normR whole fwd; pointwise [uhR_apply, tall_apply]

theorem normR_eq (v : A2) (g : AG) : normR v g = whole v g := by
  funext j
  obtain ⟨n, q, rfl⟩ : ∃ (n : Fin _) (q : Fin _), j = ix2 n q := ⟨_, _, eq_ix2 j⟩
  exact normR_apply ..

theorem dgainR_eq (v d : A2) : dgainR v d = dgain v d := by
  funext j
  obtain ⟨a, q, rfl⟩ : ∃ (a : Fin _) (q : Fin _), j = ix2 a q := ⟨_, _, eq_ix2 j⟩
  obtain rfl : a = 0 := Fin.fin_one_eq_zero a
  rw [dgain_apply]
  refine Eq.trans (b := ∑ n : Fin 16384, uhR v (ix2 n q) * d (ix2 n q)) ?_ ?_
  · unfold dgainR; pointwise
  · exact Finset.sum_congr rfl fun n _ => by rw [uhR_apply, mul_comm]

/-- The cotangent of the normalised row. -/
abbrev cot (g : AG) (d : A2) (n : Fin 16384) : Fin 1024 → EReal := fun k => d (ix2 n k) * g (ix2 0 k)

theorem cot_row (g : AG) (d : A2) (n : Fin 16384) : row (mulf d (tall g)) n = cot g d n := by
  funext k; unfold row cot; pointwise [tall_apply]

theorem dinR_apply (v : A2) (g : AG) (d : A2) (n : Fin 16384) (q : Fin 1024) : dinR v g d (ix2 n q) = inR (row v n) (cot g d n) q := by
  unfold dinR inR; rw [← cot_row]; pointwise [wide_apply, rrR_apply, spread_apply, sR_apply]

theorem dresR_apply (v : A2) (g : AG) (d y : A2) (n : Fin 16384) (q : Fin 1024) :
    dresR v g d y (ix2 n q) = inR (row v n) (cot g d n) q + y (ix2 n q) := by
  refine Eq.trans (b := y (ix2 n q) + row (mulf d (tall g)) n q * rr (row v n) + v (ix2 n q) * inS (row v n) (row (mulf d (tall g)) n)
    + inS (row v n) (row (mulf d (tall g)) n) * v (ix2 n q)) ?_ ?_
  · unfold dresR; pointwise [wide_apply, rrR_apply, spread_apply, sR_apply]
  · rw [cot_row, inR, add_comm _ (y (ix2 n q)), add_assoc, add_assoc, add_assoc]

section
variable (v : A2) (g : AG) (d : A2) (hv : ∀ j, Fin' (v j)) (hg : ∀ j, Fin' (g j)) (hd : ∀ j, Fin' (d j))
include hv hg hd

theorem dinR_eq : dinR v g d = din v g d := by
  funext j
  obtain ⟨n, q, rfl⟩ : ∃ (n : Fin _) (q : Fin _), j = ix2 n q := ⟨_, _, eq_ix2 j⟩
  rw [dinR_apply, inR_eq _ _ (fun k => hv _) (fun k => (hd _).mul (hg _))]; rfl

theorem dresR_eq (y : A2) : dresR v g d y = dres v g d y := by
  funext j
  obtain ⟨n, q, rfl⟩ : ∃ (n : Fin _) (q : Fin _), j = ix2 n q := ⟨_, _, eq_ix2 j⟩
  rw [dresR_apply, inR_eq _ _ (fun k => hv _) (fun k => (hd _).mul (hg _))]; rfl

theorem dres_fin (y : A2) (hy : ∀ j, Fin' (y j)) (j : S16384x1024.Idx) : Fin' (dres v g d y j) :=
  (inK_fin _ _ (fun k => hv _) (fun k => (hd _).mul (hg _)) _).add (hy j)

end

end Cert.RmsRef

end
-- ==== Proof.NormPreBwd.lean ====
/- The gradient of the normalisation at the head of the second layer, with the residual's cotangent added. -/
module

public import proofs.«01_k».proof.Defs
public import proofs.«01_k».proof.Proof.Gen.Kernel15.Frame
public import proofs.«01_k».proof.Proof.Gen.Kernel15Ideal.Value
public import proofs.«01_k».proof.Proof.Gen.Reference15Ideal.Run
import Idealize.ShloMosaic.Lib.Pointwise
public import Idealize.ShloMosaic.Lib.Pipeline.ValueKit
public import proofs.«01_k».proof.Proof.RmsTile
public import proofs.«01_k».proof.Proof.RmsRef
public import proofs.«01_k».proof.Proof.Gen.Pre_finite15
import proofs.«01_k».proof.Proof.Finite
import Idealize.ShloMosaic.Lib.Affine
import Idealize.ShloMosaic.Lib.Pipeline.ReadBack
@[expose] public section

set_option maxRecDepth 16384

noncomputable section

namespace Cert.Kernel15Ideal.NormPreBwd

open Cert.Kernel15Ideal Cert.Kernel15Ideal.Gen
open Idealize.ShloMosaic Idealize.ShloMosaic.TcCoe Idealize.SL.Sem
open Idealize.ShloMosaic.Pipeline (Dat)

variable (m : (l : Loc nD τ sig) → Buf (Elt Ideal) l) (c : Dev nD)

open Cert.Rms Cert.RmsTile

abbrev ax : FVec Ideal S16384x1024 .f32 := m ((c : Thread nD τ).loc main_arg0)
abbrev gn : FVec Ideal S1x1024 .f32 := m ((c : Thread nD τ).loc main_arg1)
abbrev ad : FVec Ideal S16384x1024 .f32 := m ((c : Thread nD τ).loc main_arg2)
abbrev ay : FVec Ideal S16384x1024 .f32 := m ((c : Thread nD τ).loc main_arg3)

theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0] :=
  (by decide +kernel : ∀ t : Fin grid0.N, _)

/-- The row of the whole array that a tile's row is, and where its element lies. -/
abbrev rw_ (t : Fin cfg0.N) (i : Fin 256) : Fin 16384 := ⟨256 * t.val + i.val, by have := lt_of_lt_of_eq t.isLt N_0; omega⟩
abbrev pt (t : Fin cfg0.N) (i : Fin 256) (q : Fin 1024) : S16384x1024.Idx := ix2 (rw_ t i) q

abbrev axB (t : Fin cfg0.N) : FVec Ideal S256x1024 .f32 := iblk m c 0 t
abbrev gnB (t : Fin cfg0.N) : FVec Ideal S1x1024 .f32 := iblk m c 1 t
abbrev adB (t : Fin cfg0.N) : FVec Ideal S256x1024 .f32 := iblk m c 2 t
abbrev ayB (t : Fin cfg0.N) : FVec Ideal S256x1024 .f32 := iblk m c 3 t
theorem ax_blk (t : Fin cfg0.N) (i : Fin 256) (k : Fin 1024) : axB m c t (ix2 i k) = ax m c (ix2 (rw_ t i) k) := by
  blk_point [iblk, V, idx t]
theorem gn_blk (t : Fin cfg0.N) (k : Fin 1024) : gnB m c t (ix2 0 k) = gn m c (ix2 0 k) := by
  blk_point [iblk, V, idx t]
theorem ad_blk (t : Fin cfg0.N) (i : Fin 256) (k : Fin 1024) : adB m c t (ix2 i k) = ad m c (ix2 (rw_ t i) k) := by
  blk_point [iblk, V, idx t]
theorem ay_blk (t : Fin cfg0.N) (i : Fin 256) (k : Fin 1024) : ayB m c t (ix2 i k) = ay m c (ix2 (rw_ t i) k) := by
  blk_point [iblk, V, idx t]

theorem ax_row (t : Fin cfg0.N) (i : Fin 256) : trow (axB m c t) i = row (ax m c) (rw_ t i) := funext fun k => ax_blk m c t i k
theorem ad_row (t : Fin cfg0.N) (i : Fin 256) (q : Fin 1024) : adB m c t (ix2 i q) = ad m c (ix2 (rw_ t i) q) :=
  ad_blk m c t i q

theorem cot_row (t : Fin cfg0.N) (i : Fin 256) : (fun k => adB m c t (ix2 i k) * gnB m c t (ix2 0 k)) = RmsRef.cot (gn m c) (ad m c) (rw_ t i) :=
  funext fun k => congrArg₂ (· * ·) (ad_blk m c t i k) (gn_blk m c t k)

theorem du_apply (t : Fin cfg0.N) (i : Fin 256) (q : Fin 1024) :
    duT (axB m c t) (gnB m c t) (adB m c t) (ix2 i q) = din (ax m c) (gn m c) (ad m c) (pt t i q) := by
  rw [duT_apply, ax_row]
  exact congrArg (fun d => inK (row (ax m c) (rw_ t i)) d q) (cot_row m c t i)

/-- A tile of the gradient. -/
abbrev tile (t : Fin cfg0.N) : FVec Ideal S256x1024 .f32 := k0_pay5 (axB m c t) (gnB m c t) (adB m c t) (ayB m c t)

theorem tile_apply (t : Fin cfg0.N) (i : Fin 256) (q : Fin 1024) : tile m c t (ix2 i q) = dres (ax m c) (gn m c) (ad m c) (ay m c) (pt t i q) := by
  exact congrArg₂ (fun a b : EReal => a + b) (du_apply m c t i q) (ay_blk m c t i q)

theorem out_tile (t : Fin cfg0.N) (i : Fin 256) (q : Fin 1024) : (outsAt0 m c t.val t.isLt).1 (ix2 i q) = dres (ax m c) (gn m c) (ad m c) (ay m c) (pt t i q) := by
  have := lt_of_lt_of_eq t.isLt N_0
  rw [← tile_apply]
  by_cases h : t.val % 64 = 0
  · rw [outsAt0_A m c t h (by omega)]; frame_out
  · rw [outsAt0_B m c t h (by omega)]; frame_out

theorem final4 : (dats m 0 c).arrAt 4 (cfgs 0).N = dres (ax m c) (gn m c) (ad m c) (ay m c) := by
  refine (dats m 0 c).arrAt_eq_of_covers 4 _ (by decide +kernel) fun t hf y => ?_
  blk_simp
  obtain ⟨i, q, rfl⟩ : ∃ (i : Fin 256) (q : Fin 1024), y = ix2 i q := ⟨_, _, eq_ix2 y⟩
  rw [show (win0_4.blk t).view.emb (ix2 i q) = pt t i q from by unfold pt; blk_ext [idx t], after0_4]
  exact out_tile m c t i q

/-- What one tile adds to the gain's gradient. -/
abbrev part5 (t : Fin cfg0.N) : FVec Ideal S1x1024 .f32 := dgT (axB m c t) (adB m c t)

theorem acc_A5 (t : Fin cfg0.N) (h : t.val % 64 = 0) (j : S1x1024.Idx) : (outsAt0 m c t.val t.isLt).2 j = part5 m c t j := by
  have := lt_of_lt_of_eq t.isLt N_0
  rw [outsAt0_A m c t h (by omega)]; frame_out
theorem acc_B5 (t : Fin cfg0.N) (h : ¬t.val % 64 = 0) (j : S1x1024.Idx) : (outsAt0 m c t.val t.isLt).2 j
    = (outsAt0 m c (t.val - 1) (Nat.lt_of_le_of_lt (Nat.sub_le _ _) t.isLt)).2 j + part5 m c t j := by
  rw [outsAt0_B m c t h (by omega)]; frame_out
  pointwise [k0_pay1]

theorem sum_parts5 (t : Fin cfg0.N) (ht : t.val % 64 = 64 - 1) (q : Fin 1024) :
    ∑ s : Fin 64, part5 m c ⟨64 * (t.val / 64) + s.val, Pipeline.run_point_lt_of_flush t ht s⟩ (ix2 0 q) = dgain (ax m c) (ad m c) (ix2 0 q) := by
  have := lt_of_lt_of_eq t.isLt N_0
  rw [dgain_apply, Fin.sum_univ_tiles 64 256 rfl]
  refine Finset.sum_congr rfl fun s _ => ?_
  unfold part5
  rw [dgT_apply]
  have e : ∀ i : Fin 256, rw_ (⟨64 * (t.val / 64) + s.val, Pipeline.run_point_lt_of_flush t ht s⟩ : Fin cfg0.N) i
      = ⟨s.val * 256 + i.val, by omega⟩ := fun i => Fin.ext (by simp only; omega)
  exact Finset.sum_congr rfl fun i _ => by rw [ad_row, ax_row, e]

theorem final5 : (dats m 0 c).arrAt 5 (cfgs 0).N = dgain (ax m c) (ad m c) := by
  refine (dats m 0 c).arrAt_eq_of_covers 5 _ (by decide +kernel) fun t hf y => ?_
  blk_simp
  have ht := (flush0_5 t).mp hf
  obtain ⟨a, q, rfl⟩ : ∃ (a : Fin 1) (q : Fin 1024), y = ix2 a q := ⟨_, _, eq_ix2 y⟩
  obtain rfl : a = 0 := Fin.fin_one_eq_zero a
  rw [show (win0_5.blk t).view.emb (ix2 0 q) = ix2 0 q from by blk_ext [idx t], after0_5,
    Pipeline.eq_sum_fin_of_reset_step_apply_of_flush (fun n h => (outsAt0 m c n h).2) 64 (fun _ => 0)
    (fun t => part5 m c t) (fun t h j => by rw [acc_A5 m c t h, zero_add]) (fun t h j => acc_B5 m c t h j) t ht _, zero_add]
  exact sum_parts5 m c t ht q

end Cert.Kernel15Ideal.NormPreBwd

namespace Cert.NormPreBwd

open Idealize.ShloMosaic Cert.Sgu

instance : Subsingleton Cert.Pre_finite15.S_.Idx := ⟨fun a b => funext fun k => k.elim0⟩

/-- The precondition read back. -/
theorem reals_of_pre (x : FVec Ideal Cert.Kernel15Ideal.S16384x1024 .f32) (g : FVec Ideal Cert.Kernel15Ideal.S1x1024 .f32)
    (d y : FVec Ideal Cert.Kernel15Ideal.S16384x1024 .f32)
    (h : Cert.Pre_finite15.fn (F := Ideal) x g d y = fun _ => 1#1) : (∀ j, Fin' (x j)) ∧ (∀ j, Fin' (g j)) ∧ ∀ j, Fin' (d j) := by
  have h0 := congrFun h (fun k => k.elim0)
  obtain ⟨h1, hd⟩ := IntOp.andi_eq_one.1 h0
  obtain ⟨hx, hg⟩ := IntOp.andi_eq_one.1 h1
  exact ⟨Cert.Finite.all_real x _ (fun _ => rfl) _ _ _ _ hx, Cert.Finite.all_real g _ (fun _ => rfl) _ _ _ _ hg,
    Cert.Finite.all_real d _ (fun _ => rfl) _ _ _ _ hd⟩

end Cert.NormPreBwd

/-! ## The claims -/

namespace Cert.NormPreBwd

open Idealize.ShloMosaic Idealize.ShloMosaic.TcCoe Idealize.SL.Sem

theorem kernel : Cert.quiescent_Kernel15 := fun m g _ => Cert.Kernel15.Gen.frame m g
theorem kernelIdeal : Cert.quiescent_Kernel15Ideal := fun m g _ => Cert.Kernel15Ideal.Gen.frame m g
theorem kernelIdeal_pre : Cert.quiescent_Kernel15Ideal_pre_finite15 := fun m g _ => Cert.Kernel15Ideal.Gen.frame m g
theorem referenceIdeal : Cert.quiescent_Reference15Ideal := fun m g _ =>
  (θ_run Cert.Reference15Ideal.defs _ _).mono (fun r h => ⟨fun c => (h c).2.2, sem_eq_zero_of_no_sems (by decide) r.2⟩)
    (Cert.Reference15Ideal.Value.run (F := Ideal) m g)
theorem referenceIdeal_pre : Cert.quiescent_Reference15Ideal_pre_finite15 := fun m g _ => referenceIdeal m g trivial

theorem algebraic : Cert.algebraic_Kernel15Ideal_Reference15Ideal_pre_finite15 := fun m g m' g' hpre hag =>
  ⟨fun c => Rms.dres (Cert.Kernel15Ideal.NormPreBwd.ax m c) (Cert.Kernel15Ideal.NormPreBwd.gn m c) (Cert.Kernel15Ideal.NormPreBwd.ad m c) (Cert.Kernel15Ideal.NormPreBwd.ay m c),
    fun c => Rms.dgain (Cert.Kernel15Ideal.NormPreBwd.ax m c) (Cert.Kernel15Ideal.NormPreBwd.ad m c),
    (θ_run _ _ _).mono (fun _ h c => ⟨(h c).1.trans (Cert.Kernel15Ideal.NormPreBwd.final4 m c), (h c).2.1.trans (Cert.Kernel15Ideal.NormPreBwd.final5 m c), (h c).2.2⟩)
      (Cert.Kernel15Ideal.Value.run_blocks m g),
    (θ_run _ _ _).mono (fun _ h c => by
      obtain ⟨h0, h1, ha⟩ := h c
      obtain ⟨a0, a1, a2, a3⟩ := hag c
      rw [a0, a1, a2, a3] at h0
      rw [a0, a2] at h1
      obtain ⟨hx, hg, hd⟩ := reals_of_pre _ _ _ _ (hpre c)
      exact ⟨h0.trans (RmsRef.dresR_eq _ _ _ hx hg hd _), h1.trans (RmsRef.dgainR_eq _ _), ha⟩)
      (Cert.Reference15Ideal.Value.run (F := Ideal) m' g')⟩

end Cert.NormPreBwd

end
-- ==== Proof.NormPostBwd.lean ====
/- The gradient of the normalisation after the second layer's feed-forward. -/
module

public import proofs.«01_k».proof.Defs
public import proofs.«01_k».proof.Proof.Gen.Kernel16.Frame
public import proofs.«01_k».proof.Proof.Gen.Kernel16Ideal.Value
public import proofs.«01_k».proof.Proof.Gen.Reference16Ideal.Run
import Idealize.ShloMosaic.Lib.Pointwise
public import Idealize.ShloMosaic.Lib.Pipeline.ValueKit
public import proofs.«01_k».proof.Proof.RmsTile
public import proofs.«01_k».proof.Proof.RmsRef
public import proofs.«01_k».proof.Proof.Gen.Pre_finite16
import proofs.«01_k».proof.Proof.Finite
import Idealize.ShloMosaic.Lib.Affine
import Idealize.ShloMosaic.Lib.Pipeline.ReadBack
@[expose] public section

set_option maxRecDepth 16384

noncomputable section

namespace Cert.Kernel16Ideal.NormPostBwd

open Cert.Kernel16Ideal Cert.Kernel16Ideal.Gen
open Idealize.ShloMosaic Idealize.ShloMosaic.TcCoe Idealize.SL.Sem
open Idealize.ShloMosaic.Pipeline (Dat)

variable (m : (l : Loc nD τ sig) → Buf (Elt Ideal) l) (c : Dev nD)

open Cert.Rms Cert.RmsTile

abbrev ax : FVec Ideal S16384x1024 .f32 := m ((c : Thread nD τ).loc main_arg0)
abbrev gn : FVec Ideal S1x1024 .f32 := m ((c : Thread nD τ).loc main_arg1)
abbrev ad : FVec Ideal S16384x1024 .f32 := m ((c : Thread nD τ).loc main_arg2)

theorem idx : ∀ t : Fin cfg0.N, win0_0.index t = ![t.val, 0]
    ∧ win0_1.index t = ![0, 0]
    ∧ win0_2.index t = ![t.val, 0]
    ∧ win0_3.index t = ![t.val, 0]
    ∧ win0_4.index t = ![0, 0] :=
  (by decide +kernel : ∀ t : Fin grid0.N, _)

/-- The row of the whole array that a tile's row is, and where its element lies. -/
abbrev rw_ (t : Fin cfg0.N) (i : Fin 256) : Fin 16384 := ⟨256 * t.val + i.val, by have := lt_of_lt_of_eq t.isLt N_0; omega⟩
abbrev pt (t : Fin cfg0.N) (i : Fin 256) (q : Fin 1024) : S16384x1024.Idx := ix2 (rw_ t i) q

abbrev axB (t : Fin cfg0.N) : FVec Ideal S256x1024 .f32 := iblk m c 0 t
abbrev gnB (t : Fin cfg0.N) : FVec Ideal S1x1024 .f32 := iblk m c 1 t
abbrev adB (t : Fin cfg0.N) : FVec Ideal S256x1024 .f32 := iblk m c 2 t
theorem ax_blk (t : Fin cfg0.N) (i : Fin 256) (k : Fin 1024) : axB m c t (ix2 i k) = ax m c (ix2 (rw_ t i) k) := by
  blk_point [iblk, V, idx t]
theorem gn_blk (t : Fin cfg0.N) (k : Fin 1024) : gnB m c t (ix2 0 k) = gn m c (ix2 0 k) := by
  blk_point [iblk, V, idx t]
theorem ad_blk (t : Fin cfg0.N) (i : Fin 256) (k : Fin 1024) : adB m c t (ix2 i k) = ad m c (ix2 (rw_ t i) k) := by
  blk_point [iblk, V, idx t]

theorem ax_row (t : Fin cfg0.N) (i : Fin 256) : trow (axB m c t) i = row (ax m c) (rw_ t i) := funext fun k => ax_blk m c t i k
theorem ad_row (t : Fin cfg0.N) (i : Fin 256) (q : Fin 1024) : adB m c t (ix2 i q) = ad m c (ix2 (rw_ t i) q) :=
  ad_blk m c t i q

theorem cot_row (t : Fin cfg0.N) (i : Fin 256) : (fun k => adB m c t (ix2 i k) * gnB m c t (ix2 0 k)) = RmsRef.cot (gn m c) (ad m c) (rw_ t i) :=
  funext fun k => congrArg₂ (· * ·) (ad_blk m c t i k) (gn_blk m c t k)

theorem du_apply (t : Fin cfg0.N) (i : Fin 256) (q : Fin 1024) :
    duT (axB m c t) (gnB m c t) (adB m c t) (ix2 i q) = din (ax m c) (gn m c) (ad m c) (pt t i q) := by
  rw [duT_apply, ax_row]
  exact congrArg (fun d => inK (row (ax m c) (rw_ t i)) d q) (cot_row m c t i)

/-- A tile of the gradient. -/
abbrev tile (t : Fin cfg0.N) : FVec Ideal S256x1024 .bf16 := k0_pay4 (axB m c t) (gnB m c t) (adB m c t)

theorem tile_apply (t : Fin cfg0.N) (i : Fin 256) (q : Fin 1024) : tile m c t (ix2 i q) = din (ax m c) (gn m c) (ad m c) (pt t i q) := by
  exact du_apply m c t i q

theorem out_tile (t : Fin cfg0.N) (i : Fin 256) (q : Fin 1024) : (outsAt0 m c t.val t.isLt).1 (ix2 i q) = din (ax m c) (gn m c) (ad m c) (pt t i q) := by
  have := lt_of_lt_of_eq t.isLt N_0
  rw [← tile_apply]
  by_cases h : t.val % 64 = 0
  · rw [outsAt0_A m c t h (by omega)]; frame_out
  · rw [outsAt0_B m c t h (by omega)]; frame_out

theorem final3 : (dats m 0 c).arrAt 3 (cfgs 0).N = din (ax m c) (gn m c) (ad m c) := by
  refine (dats m 0 c).arrAt_eq_of_covers 3 _ (by decide +kernel) fun t hf y => ?_
  blk_simp
  obtain ⟨i, q, rfl⟩ : ∃ (i : Fin 256) (q : Fin 1024), y = ix2 i q := ⟨_, _, eq_ix2 y⟩
  rw [show (win0_3.blk t).view.emb (ix2 i q) = pt t i q from by unfold pt; blk_ext [idx t], after0_3]
  exact out_tile m c t i q

/-- What one tile adds to the gain's gradient. -/
abbrev part4 (t : Fin cfg0.N) : FVec Ideal S1x1024 .f32 := dgT (axB m c t) (adB m c t)

theorem acc_A4 (t : Fin cfg0.N) (h : t.val % 64 = 0) (j : S1x1024.Idx) : (outsAt0 m c t.val t.isLt).2 j = part4 m c t j := by
  have := lt_of_lt_of_eq t.isLt N_0
  rw [outsAt0_A m c t h (by omega)]; frame_out
  exact rfl
theorem acc_B4 (t : Fin cfg0.N) (h : ¬t.val % 64 = 0) (j : S1x1024.Idx) : (outsAt0 m c t.val t.isLt).2 j
    = (outsAt0 m c (t.val - 1) (Nat.lt_of_le_of_lt (Nat.sub_le _ _) t.isLt)).2 j + part4 m c t j := by
  rw [outsAt0_B m c t h (by omega)]; frame_out
  pointwise [k0_pay5]
  rfl

theorem sum_parts4 (t : Fin cfg0.N) (ht : t.val % 64 = 64 - 1) (q : Fin 1024) :
    ∑ s : Fin 64, part4 m c ⟨64 * (t.val / 64) + s.val, Pipeline.run_point_lt_of_flush t ht s⟩ (ix2 0 q) = dgain (ax m c) (ad m c) (ix2 0 q) := by
  have := lt_of_lt_of_eq t.isLt N_0
  rw [dgain_apply, Fin.sum_univ_tiles 64 256 rfl]
  refine Finset.sum_congr rfl fun s _ => ?_
  unfold part4
  rw [dgT_apply]
  have e : ∀ i : Fin 256, rw_ (⟨64 * (t.val / 64) + s.val, Pipeline.run_point_lt_of_flush t ht s⟩ : Fin cfg0.N) i
      = ⟨s.val * 256 + i.val, by omega⟩ := fun i => Fin.ext (by simp only; omega)
  exact Finset.sum_congr rfl fun i _ => by rw [ad_row, ax_row, e]

theorem final4 : (dats m 0 c).arrAt 4 (cfgs 0).N = dgain (ax m c) (ad m c) := by
  refine (dats m 0 c).arrAt_eq_of_covers 4 _ (by decide +kernel) fun t hf y => ?_
  blk_simp
  have ht := (flush0_4 t).mp hf
  obtain ⟨a, q, rfl⟩ : ∃ (a : Fin 1) (q : Fin 1024), y = ix2 a q := ⟨_, _, eq_ix2 y⟩
  obtain rfl : a = 0 := Fin.fin_one_eq_zero a
  rw [show (win0_4.blk t).view.emb (ix2 0 q) = ix2 0 q from by blk_ext [idx t], after0_4,
    Pipeline.eq_sum_fin_of_reset_step_apply_of_flush (fun n h => (outsAt0 m c n h).2) 64 (fun _ => 0)
    (fun t => part4 m c t) (fun t h j => by rw [acc_A4 m c t h, zero_add]) (fun t h j => acc_B4 m c t h j) t ht _, zero_add]
  exact sum_parts4 m c t ht q

end Cert.Kernel16Ideal.NormPostBwd

namespace Cert.NormPostBwd

open Idealize.ShloMosaic Cert.Sgu

instance : Subsingleton Cert.Pre_finite16.S_.Idx := ⟨fun a b => funext fun k => k.elim0⟩

/-- The precondition read back. -/
theorem reals_of_pre (x : FVec Ideal Cert.Kernel16Ideal.S16384x1024 .f32) (g : FVec Ideal Cert.Kernel16Ideal.S1x1024 .f32)
    (d : FVec Ideal Cert.Kernel16Ideal.S16384x1024 .f32)
    (h : Cert.Pre_finite16.fn (F := Ideal) x g d = fun _ => 1#1) : (∀ j, Fin' (x j)) ∧ (∀ j, Fin' (g j)) ∧ ∀ j, Fin' (d j) := by
  have h0 := congrFun h (fun k => k.elim0)
  obtain ⟨h1, hd⟩ := IntOp.andi_eq_one.1 h0
  obtain ⟨hx, hg⟩ := IntOp.andi_eq_one.1 h1
  exact ⟨Cert.Finite.all_real x _ (fun _ => rfl) _ _ _ _ hx, Cert.Finite.all_real g _ (fun _ => rfl) _ _ _ _ hg,
    Cert.Finite.all_real d _ (fun _ => rfl) _ _ _ _ hd⟩

end Cert.NormPostBwd

/-! ## The claims -/

namespace Cert.NormPostBwd

open Idealize.ShloMosaic Idealize.ShloMosaic.TcCoe Idealize.SL.Sem

theorem kernel : Cert.quiescent_Kernel16 := fun m g _ => Cert.Kernel16.Gen.frame m g
theorem kernelIdeal : Cert.quiescent_Kernel16Ideal := fun m g _ => Cert.Kernel16Ideal.Gen.frame m g
theorem kernelIdeal_pre : Cert.quiescent_Kernel16Ideal_pre_finite16 := fun m g _ => Cert.Kernel16Ideal.Gen.frame m g
theorem referenceIdeal : Cert.quiescent_Reference16Ideal := fun m g _ =>
  (θ_run Cert.Reference16Ideal.defs _ _).mono (fun r h => ⟨fun c => (h c).2.2, sem_eq_zero_of_no_sems (by decide) r.2⟩)
    (Cert.Reference16Ideal.Value.run (F := Ideal) m g)
theorem referenceIdeal_pre : Cert.quiescent_Reference16Ideal_pre_finite16 := fun m g _ => referenceIdeal m g trivial

theorem algebraic : Cert.algebraic_Kernel16Ideal_Reference16Ideal_pre_finite16 := fun m g m' g' hpre hag =>
  ⟨fun c => Rms.din (Cert.Kernel16Ideal.NormPostBwd.ax m c) (Cert.Kernel16Ideal.NormPostBwd.gn m c) (Cert.Kernel16Ideal.NormPostBwd.ad m c),
    fun c => Rms.dgain (Cert.Kernel16Ideal.NormPostBwd.ax m c) (Cert.Kernel16Ideal.NormPostBwd.ad m c),
    (θ_run _ _ _).mono (fun _ h c => ⟨(h c).1.trans (Cert.Kernel16Ideal.NormPostBwd.final3 m c), (h c).2.1.trans (Cert.Kernel16Ideal.NormPostBwd.final4 m c), (h c).2.2⟩)
      (Cert.Kernel16Ideal.Value.run_blocks m g),
    (θ_run _ _ _).mono (fun _ h c => by
      obtain ⟨h0, h1, ha⟩ := h c
      obtain ⟨a0, a1, a2⟩ := hag c
      rw [a0, a1, a2] at h0
      rw [a0, a2] at h1
      obtain ⟨hx, hg, hd⟩ := reals_of_pre _ _ _ (hpre c)
      exact ⟨h0.trans (RmsRef.dinR_eq _ _ _ hx hg hd), h1.trans (RmsRef.dgainR_eq _ _), ha⟩)
      (Cert.Reference16Ideal.Value.run (F := Ideal) m' g')⟩

end Cert.NormPostBwd

end
-- ==== Proof.NormPairBwd.lean ====
/- The gradient of the two normalisations between the second layer's mixing and its feed-forward. -/
module

public import proofs.«01_k».proof.Defs
public import proofs.«01_k».proof.Proof.Gen.Kernel17.Frame
public import proofs.«01_k».proof.Proof.Gen.Kernel17Ideal.Value
public import proofs.«01_k».proof.Proof.Gen.Reference17Ideal.Run
import Idealize.ShloMosaic.Lib.Pointwise
public import Idealize.ShloMosaic.Lib.Pipeline.ValueKit
public import proofs.«01_k».proof.Proof.RmsTile
public import proofs.«01_k».proof.Proof.RmsRef
public import proofs.«01_k».proof.Proof.Gen.Pre_finite17
import proofs.«01_k».proof.Proof.Finite
import Idealize.ShloMosaic.Lib.Affine
import Idealize.ShloMosaic.Lib.Pipeline.ReadBack
@[expose] public section

set_option maxRecDepth 16384

noncomputable section

namespace Cert.Kernel17Ideal.NormPairBwd

open Cert.Kernel17Ideal Cert.Kernel17Ideal.Gen
open Idealize.ShloMosaic Idealize.ShloMosaic.TcCoe Idealize.SL.Sem
open Idealize.ShloMosaic.Pipeline (Dat)

variable (m : (l : Loc nD τ sig) → Buf (Elt Ideal) l) (c : Dev nD)

open Cert.Rms Cert.RmsTile

abbrev ax : FVec Ideal S16384x1024 .f32 := m ((c : Thread nD τ).loc main_arg0)
abbrev gn : FVec Ideal S1x1024 .f32 := m ((c : Thread nD τ).loc main_arg1)
abbrev ad : FVec Ideal S16384x1024 .f32 := m ((c : Thread nD τ).loc main_arg2)
abbrev ay : FVec Ideal S16384x1024 .f32 := m ((c : Thread nD τ).loc main_arg3)
abbrev am : FVec Ideal S16384x1024 .f32 := m ((c : Thread nD τ).loc main_arg4)
abbrev gm : FVec Ideal S1x1024 .f32 := m ((c : Thread nD τ).loc main_arg5)

theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0]
    ∧ win0_6.index t = ![t.val, 0]
    ∧ win0_7.index t = ![t.val, 0]
    ∧ win0_8.index t = ![0, 0]
    ∧ win0_9.index t = ![0, 0] :=
  (by decide +kernel : ∀ t : Fin grid0.N, _)

/-- The row of the whole array that a tile's row is, and where its element lies. -/
abbrev rw_ (t : Fin cfg0.N) (i : Fin 256) : Fin 16384 := ⟨256 * t.val + i.val, by have := lt_of_lt_of_eq t.isLt N_0; omega⟩
abbrev pt (t : Fin cfg0.N) (i : Fin 256) (q : Fin 1024) : S16384x1024.Idx := ix2 (rw_ t i) q

abbrev axB (t : Fin cfg0.N) : FVec Ideal S256x1024 .f32 := iblk m c 0 t
abbrev gnB (t : Fin cfg0.N) : FVec Ideal S1x1024 .f32 := iblk m c 1 t
abbrev adB (t : Fin cfg0.N) : FVec Ideal S256x1024 .f32 := iblk m c 2 t
abbrev ayB (t : Fin cfg0.N) : FVec Ideal S256x1024 .f32 := iblk m c 3 t
abbrev amB (t : Fin cfg0.N) : FVec Ideal S256x1024 .f32 := iblk m c 4 t
abbrev gmB (t : Fin cfg0.N) : FVec Ideal S1x1024 .f32 := iblk m c 5 t
theorem ax_blk (t : Fin cfg0.N) (i : Fin 256) (k : Fin 1024) : axB m c t (ix2 i k) = ax m c (ix2 (rw_ t i) k) := by
  blk_point [iblk, V, idx t]
theorem gn_blk (t : Fin cfg0.N) (k : Fin 1024) : gnB m c t (ix2 0 k) = gn m c (ix2 0 k) := by
  blk_point [iblk, V, idx t]
theorem ad_blk (t : Fin cfg0.N) (i : Fin 256) (k : Fin 1024) : adB m c t (ix2 i k) = ad m c (ix2 (rw_ t i) k) := by
  blk_point [iblk, V, idx t]
theorem ay_blk (t : Fin cfg0.N) (i : Fin 256) (k : Fin 1024) : ayB m c t (ix2 i k) = ay m c (ix2 (rw_ t i) k) := by
  blk_point [iblk, V, idx t]
theorem am_blk (t : Fin cfg0.N) (i : Fin 256) (k : Fin 1024) : amB m c t (ix2 i k) = am m c (ix2 (rw_ t i) k) := by
  blk_point [iblk, V, idx t]
theorem gm_blk (t : Fin cfg0.N) (k : Fin 1024) : gmB m c t (ix2 0 k) = gm m c (ix2 0 k) := by
  blk_point [iblk, V, idx t]

/-- The gradient between the two normalisations: the residual stream's. -/
abbrev mid : S16384x1024.Idx → EReal := dres (ax m c) (gn m c) (ad m c) (ay m c)

theorem ax_row (t : Fin cfg0.N) (i : Fin 256) : trow (axB m c t) i = row (ax m c) (rw_ t i) := funext fun k => ax_blk m c t i k
theorem am_row (t : Fin cfg0.N) (i : Fin 256) : trow (amB m c t) i = row (am m c) (rw_ t i) := funext fun k => am_blk m c t i k
theorem ad_row (t : Fin cfg0.N) (i : Fin 256) (q : Fin 1024) : adB m c t (ix2 i q) = ad m c (ix2 (rw_ t i) q) :=
  ad_blk m c t i q
theorem cot_row (t : Fin cfg0.N) (i : Fin 256) : (fun k => adB m c t (ix2 i k) * gnB m c t (ix2 0 k)) = RmsRef.cot (gn m c) (ad m c) (rw_ t i) :=
  funext fun k => congrArg₂ (· * ·) (ad_blk m c t i k) (gn_blk m c t k)

theorem du_apply (t : Fin cfg0.N) (i : Fin 256) (q : Fin 1024) :
    duT (axB m c t) (gnB m c t) (adB m c t) (ix2 i q) = din (ax m c) (gn m c) (ad m c) (pt t i q) := by
  rw [duT_apply, ax_row]
  exact congrArg (fun d => inK (row (ax m c) (rw_ t i)) d q) (cot_row m c t i)

/-- A tile of the residual stream's gradient. -/
abbrev midT (t : Fin cfg0.N) : FVec Ideal S256x1024 .f32 := k0_pay10 (axB m c t) (gnB m c t) (adB m c t) (ayB m c t)

theorem mid_row (t : Fin cfg0.N) (i : Fin 256) (q : Fin 1024) : midT m c t (ix2 i q) = mid m c (ix2 (rw_ t i) q) := by
  exact congrArg₂ (fun a b : EReal => a + b) (du_apply m c t i q) (ay_blk m c t i q)
theorem cotm_row (t : Fin cfg0.N) (i : Fin 256) : (fun k => midT m c t (ix2 i k) * gmB m c t (ix2 0 k)) = RmsRef.cot (gm m c) (mid m c) (rw_ t i) :=
  funext fun k => congrArg₂ (· * ·) (mid_row m c t i k) (gm_blk m c t k)

/-- A tile of the mixed branch's gradient. -/
abbrev mixT (t : Fin cfg0.N) : FVec Ideal S256x1024 .bf16 := k0_pay4 (amB m c t) (gmB m c t) (midT m c t) (k0_pay11 (amB m c t)) k0_pay12

theorem mix_apply (t : Fin cfg0.N) (i : Fin 256) (q : Fin 1024) : mixT m c t (ix2 i q) = din (am m c) (gm m c) (mid m c) (pt t i q) := by
  refine Eq.trans (b := duT (amB m c t) (gmB m c t) (midT m c t) (ix2 i q)) rfl ?_
  rw [duT_apply, am_row]
  exact congrArg (fun d => inK (row (am m c) (rw_ t i)) d q) (cotm_row m c t i)

theorem out6 (t : Fin cfg0.N) (i : Fin 256) (q : Fin 1024) : (outsAt0 m c t.val t.isLt).1 (ix2 i q) = mid m c (pt t i q) := by
  have := lt_of_lt_of_eq t.isLt N_0
  rw [← mid_row]
  by_cases h : t.val % 64 = 0
  · rw [outsAt0_A m c t h (by omega) h (by omega)]; frame_out
  · rw [outsAt0_B m c t h (by omega) h (by omega)]; frame_out

theorem final6 : (dats m 0 c).arrAt 6 (cfgs 0).N = mid m c := by
  refine (dats m 0 c).arrAt_eq_of_covers 6 _ (by decide +kernel) fun t hf y => ?_
  blk_simp
  obtain ⟨i, q, rfl⟩ : ∃ (i : Fin 256) (q : Fin 1024), y = ix2 i q := ⟨_, _, eq_ix2 y⟩
  rw [show (win0_6.blk t).view.emb (ix2 i q) = pt t i q from by unfold pt; blk_ext [idx t], after0_6]
  exact out6 m c t i q

theorem out7 (t : Fin cfg0.N) (i : Fin 256) (q : Fin 1024) : (outsAt0 m c t.val t.isLt).2.1 (ix2 i q) = din (am m c) (gm m c) (mid m c) (pt t i q) := by
  have := lt_of_lt_of_eq t.isLt N_0
  rw [← mix_apply]
  by_cases h : t.val % 64 = 0
  · rw [outsAt0_A m c t h (by omega) h (by omega)]; frame_out
  · rw [outsAt0_B m c t h (by omega) h (by omega)]; frame_out

theorem final7 : (dats m 0 c).arrAt 7 (cfgs 0).N = din (am m c) (gm m c) (mid m c) := by
  refine (dats m 0 c).arrAt_eq_of_covers 7 _ (by decide +kernel) fun t hf y => ?_
  blk_simp
  obtain ⟨i, q, rfl⟩ : ∃ (i : Fin 256) (q : Fin 1024), y = ix2 i q := ⟨_, _, eq_ix2 y⟩
  rw [show (win0_7.blk t).view.emb (ix2 i q) = pt t i q from by unfold pt; blk_ext [idx t], after0_7]
  exact out7 m c t i q

/-- What one tile adds to the gain's gradient. -/
abbrev part8 (t : Fin cfg0.N) : FVec Ideal S1x1024 .f32 := dgT (axB m c t) (adB m c t)

theorem acc_A8 (t : Fin cfg0.N) (h : t.val % 64 = 0) (j : S1x1024.Idx) : (outsAt0 m c t.val t.isLt).2.2.1 j = part8 m c t j := by
  have := lt_of_lt_of_eq t.isLt N_0
  rw [outsAt0_A m c t h (by omega) h (by omega)]; frame_out
  pointwise
  rfl
theorem acc_B8 (t : Fin cfg0.N) (h : ¬t.val % 64 = 0) (j : S1x1024.Idx) : (outsAt0 m c t.val t.isLt).2.2.1 j
    = (outsAt0 m c (t.val - 1) (Nat.lt_of_le_of_lt (Nat.sub_le _ _) t.isLt)).2.2.1 j + part8 m c t j := by
  rw [outsAt0_B m c t h (by omega) h (by omega)]; frame_out
  pointwise [k0_pay5]
  rfl

theorem sum_parts8 (t : Fin cfg0.N) (ht : t.val % 64 = 64 - 1) (q : Fin 1024) :
    ∑ s : Fin 64, part8 m c ⟨64 * (t.val / 64) + s.val, Pipeline.run_point_lt_of_flush t ht s⟩ (ix2 0 q) = dgain (ax m c) (ad m c) (ix2 0 q) := by
  have := lt_of_lt_of_eq t.isLt N_0
  rw [dgain_apply, Fin.sum_univ_tiles 64 256 rfl]
  refine Finset.sum_congr rfl fun s _ => ?_
  unfold part8
  rw [dgT_apply]
  have e : ∀ i : Fin 256, rw_ (⟨64 * (t.val / 64) + s.val, Pipeline.run_point_lt_of_flush t ht s⟩ : Fin cfg0.N) i
      = ⟨s.val * 256 + i.val, by omega⟩ := fun i => Fin.ext (by simp only; omega)
  exact Finset.sum_congr rfl fun i _ => by rw [ad_row, ax_row, e]

theorem final8 : (dats m 0 c).arrAt 8 (cfgs 0).N = dgain (ax m c) (ad m c) := by
  refine (dats m 0 c).arrAt_eq_of_covers 8 _ (by decide +kernel) fun t hf y => ?_
  blk_simp
  have ht := (flush0_8 t).mp hf
  obtain ⟨a, q, rfl⟩ : ∃ (a : Fin 1) (q : Fin 1024), y = ix2 a q := ⟨_, _, eq_ix2 y⟩
  obtain rfl : a = 0 := Fin.fin_one_eq_zero a
  rw [show (win0_8.blk t).view.emb (ix2 0 q) = ix2 0 q from by blk_ext [idx t], after0_8,
    Pipeline.eq_sum_fin_of_reset_step_apply_of_flush (fun n h => (outsAt0 m c n h).2.2.1) 64 (fun _ => 0)
    (fun t => part8 m c t) (fun t h j => by rw [acc_A8 m c t h, zero_add]) (fun t h j => acc_B8 m c t h j) t ht _, zero_add]
  exact sum_parts8 m c t ht q

/-- What one tile adds to the gain's gradient. -/
abbrev part9 (t : Fin cfg0.N) : FVec Ideal S1x1024 .f32 := dgT (amB m c t) (midT m c t)

theorem acc_A9 (t : Fin cfg0.N) (h : t.val % 64 = 0) (j : S1x1024.Idx) : (outsAt0 m c t.val t.isLt).2.2.2 j = part9 m c t j := by
  have := lt_of_lt_of_eq t.isLt N_0
  rw [outsAt0_A m c t h (by omega) h (by omega)]; frame_out
  pointwise
  rfl
theorem acc_B9 (t : Fin cfg0.N) (h : ¬t.val % 64 = 0) (j : S1x1024.Idx) : (outsAt0 m c t.val t.isLt).2.2.2 j
    = (outsAt0 m c (t.val - 1) (Nat.lt_of_le_of_lt (Nat.sub_le _ _) t.isLt)).2.2.2 j + part9 m c t j := by
  rw [outsAt0_B m c t h (by omega) h (by omega)]; frame_out
  pointwise [k0_pay6]
  rfl

theorem sum_parts9 (t : Fin cfg0.N) (ht : t.val % 64 = 64 - 1) (q : Fin 1024) :
    ∑ s : Fin 64, part9 m c ⟨64 * (t.val / 64) + s.val, Pipeline.run_point_lt_of_flush t ht s⟩ (ix2 0 q) = dgain (am m c) (mid m c) (ix2 0 q) := by
  have := lt_of_lt_of_eq t.isLt N_0
  rw [dgain_apply, Fin.sum_univ_tiles 64 256 rfl]
  refine Finset.sum_congr rfl fun s _ => ?_
  unfold part9
  rw [dgT_apply]
  have e : ∀ i : Fin 256, rw_ (⟨64 * (t.val / 64) + s.val, Pipeline.run_point_lt_of_flush t ht s⟩ : Fin cfg0.N) i
      = ⟨s.val * 256 + i.val, by omega⟩ := fun i => Fin.ext (by simp only; omega)
  exact Finset.sum_congr rfl fun i _ => by rw [mid_row, am_row, e]

theorem final9 : (dats m 0 c).arrAt 9 (cfgs 0).N = dgain (am m c) (mid m c) := by
  refine (dats m 0 c).arrAt_eq_of_covers 9 _ (by decide +kernel) fun t hf y => ?_
  blk_simp
  have ht := (flush0_9 t).mp hf
  obtain ⟨a, q, rfl⟩ : ∃ (a : Fin 1) (q : Fin 1024), y = ix2 a q := ⟨_, _, eq_ix2 y⟩
  obtain rfl : a = 0 := Fin.fin_one_eq_zero a
  rw [show (win0_9.blk t).view.emb (ix2 0 q) = ix2 0 q from by blk_ext [idx t], after0_9,
    Pipeline.eq_sum_fin_of_reset_step_apply_of_flush (fun n h => (outsAt0 m c n h).2.2.2) 64 (fun _ => 0)
    (fun t => part9 m c t) (fun t h j => by rw [acc_A9 m c t h, zero_add]) (fun t h j => acc_B9 m c t h j) t ht _, zero_add]
  exact sum_parts9 m c t ht q

end Cert.Kernel17Ideal.NormPairBwd

namespace Cert.NormPairBwd

open Idealize.ShloMosaic Cert.Sgu

instance : Subsingleton Cert.Pre_finite17.S_.Idx := ⟨fun a b => funext fun k => k.elim0⟩

abbrev Arr := FVec Ideal Cert.Kernel17Ideal.S16384x1024 .f32
abbrev Gain := FVec Ideal Cert.Kernel17Ideal.S1x1024 .f32

/-- The precondition read back. -/
theorem reals_of_pre (x : Arr) (g : Gain) (d y u : Arr) (p : Gain) (h : Cert.Pre_finite17.fn (F := Ideal) x g d y u p = fun _ => 1#1) :
    (∀ j, Fin' (x j)) ∧ (∀ j, Fin' (g j)) ∧ (∀ j, Fin' (d j)) ∧ (∀ j, Fin' (y j)) ∧ (∀ j, Fin' (u j)) ∧ ∀ j, Fin' (p j) := by
  have h0 := congrFun h (fun k => k.elim0)
  obtain ⟨h1, hp⟩ := IntOp.andi_eq_one.1 h0
  obtain ⟨h2, hu⟩ := IntOp.andi_eq_one.1 h1
  obtain ⟨h3, hy⟩ := IntOp.andi_eq_one.1 h2
  obtain ⟨h4, hd⟩ := IntOp.andi_eq_one.1 h3
  obtain ⟨hx, hg⟩ := IntOp.andi_eq_one.1 h4
  exact ⟨Cert.Finite.all_real x _ (fun _ => rfl) _ _ _ _ hx, Cert.Finite.all_real g _ (fun _ => rfl) _ _ _ _ hg,
    Cert.Finite.all_real d _ (fun _ => rfl) _ _ _ _ hd, Cert.Finite.all_real y _ (fun _ => rfl) _ _ _ _ hy,
    Cert.Finite.all_real u _ (fun _ => rfl) _ _ _ _ hu, Cert.Finite.all_real p _ (fun _ => rfl) _ _ _ _ hp⟩

end Cert.NormPairBwd

/-! ## The claims -/

namespace Cert.NormPairBwd

open Idealize.ShloMosaic Idealize.ShloMosaic.TcCoe Idealize.SL.Sem

theorem kernel : Cert.quiescent_Kernel17 := fun m g _ => Cert.Kernel17.Gen.frame m g
theorem kernelIdeal : Cert.quiescent_Kernel17Ideal := fun m g _ => Cert.Kernel17Ideal.Gen.frame m g
theorem kernelIdeal_pre : Cert.quiescent_Kernel17Ideal_pre_finite17 := fun m g _ => Cert.Kernel17Ideal.Gen.frame m g
theorem referenceIdeal : Cert.quiescent_Reference17Ideal := fun m g _ =>
  (θ_run Cert.Reference17Ideal.defs _ _).mono (fun r h => ⟨fun c => (h c).2.2.2.2, sem_eq_zero_of_no_sems (by decide) r.2⟩)
    (Cert.Reference17Ideal.Value.run (F := Ideal) m g)
theorem referenceIdeal_pre : Cert.quiescent_Reference17Ideal_pre_finite17 := fun m g _ => referenceIdeal m g trivial

section
variable (x : Arr) (g : Gain) (d y u : Arr) (p : Gain)
  (h : Cert.Pre_finite17.fn (F := Ideal) x g d y u p = fun _ => 1#1)
include h

theorem mid_value : RmsRef.dresR x g d y = Rms.dres x g d y := by
  obtain ⟨hx, hg, hd, hy, hu, hp⟩ := reals_of_pre x g d y u p h
  exact RmsRef.dresR_eq x g d hx hg hd y

theorem mix_value : RmsRef.dinR u p (RmsRef.dresR x g d y) = Rms.din u p (Rms.dres x g d y) := by
  obtain ⟨hx, hg, hd, hy, hu, hp⟩ := reals_of_pre x g d y u p h
  rw [RmsRef.dresR_eq x g d hx hg hd y]
  exact RmsRef.dinR_eq u p _ hu hp (RmsRef.dres_fin x g d hx hg hd y hy)

theorem gain_value : RmsRef.dgainR u (RmsRef.dresR x g d y) = Rms.dgain u (Rms.dres x g d y) := by
  rw [mid_value x g d y u p h, RmsRef.dgainR_eq]

end

theorem algebraic : Cert.algebraic_Kernel17Ideal_Reference17Ideal_pre_finite17 := fun m g m' g' hpre hag =>
  ⟨fun c => Cert.Kernel17Ideal.NormPairBwd.mid m c, fun c => Rms.din (Cert.Kernel17Ideal.NormPairBwd.am m c) (Cert.Kernel17Ideal.NormPairBwd.gm m c) (Cert.Kernel17Ideal.NormPairBwd.mid m c),
    fun c => Rms.dgain (Cert.Kernel17Ideal.NormPairBwd.ax m c) (Cert.Kernel17Ideal.NormPairBwd.ad m c), fun c => Rms.dgain (Cert.Kernel17Ideal.NormPairBwd.am m c) (Cert.Kernel17Ideal.NormPairBwd.mid m c),
    (θ_run _ _ _).mono (fun _ h c => ⟨(h c).1.trans (Cert.Kernel17Ideal.NormPairBwd.final6 m c), (h c).2.1.trans (Cert.Kernel17Ideal.NormPairBwd.final7 m c),
        (h c).2.2.1.trans (Cert.Kernel17Ideal.NormPairBwd.final8 m c), (h c).2.2.2.1.trans (Cert.Kernel17Ideal.NormPairBwd.final9 m c), (h c).2.2.2.2⟩)
      (Cert.Kernel17Ideal.Value.run_blocks m g),
    (θ_run _ _ _).mono (fun _ h c => by
      obtain ⟨h0, h1, h2, h3, ha⟩ := h c
      obtain ⟨a0, a1, a2, a3, a4, a5⟩ := hag c
      unfold Cert.Reference17Ideal.Value.res_main_v69 at h1
      unfold Cert.Reference17Ideal.Value.res_main_v52 at h3
      rw [a0, a1, a2, a3] at h0
      rw [a0, a1, a2, a3, a4, a5] at h1
      rw [a0, a2] at h2
      rw [a0, a1, a2, a3, a4] at h3
      exact ⟨h0.trans (mid_value _ _ _ _ _ _ (hpre c)), h1.trans (mix_value _ _ _ _ _ _ (hpre c)), h2.trans (RmsRef.dgainR_eq _ _),
        h3.trans (gain_value _ _ _ _ _ _ (hpre c)), ha⟩)
      (Cert.Reference17Ideal.Value.run (F := Ideal) m' g')⟩

end Cert.NormPairBwd

end
-- ==== Proof.PleBwd.lean ====
/- The gradient of a layer's gated embeddings: of the embeddings, and of the gate before its logistic. -/
module

public import proofs.«01_k».proof.Defs
public import proofs.«01_k».proof.Proof.Gen.Kernel18.Frame
public import proofs.«01_k».proof.Proof.Gen.Kernel18Ideal.Value
public import proofs.«01_k».proof.Proof.Gen.Reference18Ideal.Run
import Idealize.ShloMosaic.Lib.Pointwise
public import Idealize.ShloMosaic.Lib.Pipeline.ValueKit

@[expose] public section

set_option maxRecDepth 16384

noncomputable section

namespace Cert.PleBwd

open Idealize.ShloMosaic

/-- The embeddings' gradient: the incoming gradient under the gate. -/
def demb (d g : EReal) : EReal := d * Ideal.logistic g

/-- The gate's gradient: the incoming gradient times the embeddings times the logistic's derivative. -/
def dgate (d p g : EReal) : EReal := d * p * Ideal.logistic g * (1 - Ideal.logistic g)

end Cert.PleBwd

namespace Cert.Reference18Ideal.PleBwd

open Cert.Reference18Ideal Cert.Reference18Ideal.Gen Idealize.ShloMosaic

abbrev one : FVec Ideal S16384x1024 .f32 := broadcastInDim S16384x1024 ![] bcast_S_S16384x1024 (constant S_ .f32 0x3F800000#32)
abbrev sig (g : FVec Ideal S16384x1024 .f32) : FVec Ideal S16384x1024 .f32 := Host.divf one (addf one (Host.exp (Host.negf g)))

abbrev dembR (d g : FVec Ideal S16384x1024 .f32) : FVec Ideal S16384x1024 .bf16 := truncf .bf16 (mulf d (sig g)) bitsLt_bf16_f32
abbrev dgateR (d p g : FVec Ideal S16384x1024 .f32) : FVec Ideal S16384x1024 .bf16 :=
  truncf .bf16 (mulf (mulf p d) (mulf (sig g) (subf one (sig g)))) bitsLt_bf16_f32

theorem demb_eq (d g : FVec Ideal S16384x1024 .f32) : dembR d g = fun j => Cert.PleBwd.demb (d j) (g j) := by
  funext j
  unfold dembR Cert.PleBwd.demb sig one Ideal.logistic
  pointwise

theorem dgate_eq (d p g : FVec Ideal S16384x1024 .f32) : dgateR d p g = fun j => Cert.PleBwd.dgate (d j) (p j) (g j) := by
  funext j
  refine Eq.trans (b := p j * d j * (Ideal.logistic (g j) * (1 - Ideal.logistic (g j)))) ?_ ?_
  · unfold dgateR sig one Ideal.logistic
    pointwise
  · rw [Cert.PleBwd.dgate, mul_comm (p j), mul_assoc (d j * p j)]

end Cert.Reference18Ideal.PleBwd

namespace Cert.Kernel18Ideal.PleBwd

open Cert.Kernel18Ideal Cert.Kernel18Ideal.Gen
open Idealize.ShloMosaic Idealize.ShloMosaic.TcCoe Idealize.SL.Sem
open Idealize.ShloMosaic.Pipeline (Dat)

variable (m : (l : Loc nD τ sig) → Buf (Elt Ideal) l) (c : Dev nD)

abbrev inc : FVec Ideal S16384x1024 .f32 := m ((c : Thread nD τ).loc main_arg0)
abbrev emb : FVec Ideal S16384x1024 .f32 := m ((c : Thread nD τ).loc main_arg1)
abbrev gate : FVec Ideal S16384x1024 .f32 := m ((c : Thread nD τ).loc main_arg2)

def de : S16384x1024.Idx → EReal := fun j => Cert.PleBwd.demb (inc m c j) (gate m c j)
def dg : S16384x1024.Idx → EReal := fun j => Cert.PleBwd.dgate (inc m c j) (emb m c j) (gate m c j)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] :=
  (by decide +kernel : ∀ t : Fin grid0.N, _)

/-- Where a block's element lies in the whole array. -/
abbrev pt (t : Fin cfg0.N) (i : Fin 512) (q : Fin 1024) : S16384x1024.Idx :=
  ix2 ⟨512 * t.val + i.val, by have := lt_of_lt_of_eq t.isLt N_0; omega⟩ q

theorem inc_apply (t : Fin cfg0.N) (i : Fin 512) (q : Fin 1024) : iblk m c 0 t (ix2 i q) = inc m c (pt t i q) := by
  unfold pt; blk_point [iblk, V, idx t]
theorem emb_apply (t : Fin cfg0.N) (i : Fin 512) (q : Fin 1024) : iblk m c 1 t (ix2 i q) = emb m c (pt t i q) := by
  unfold pt; blk_point [iblk, V, idx t]
theorem gate_apply (t : Fin cfg0.N) (i : Fin 512) (q : Fin 1024) : iblk m c 2 t (ix2 i q) = gate m c (pt t i q) := by
  unfold pt; blk_point [iblk, V, idx t]

theorem out3 (t : Fin cfg0.N) (i : Fin 512) (q : Fin 1024) : (dats m 0 c).after 3 t (ix2 i q) = de m c (pt t i q) := by
  rw [after0_3, de, ← inc_apply, ← gate_apply]
  frame_out
  unfold Cert.PleBwd.demb
  pointwise [k0_pay2, k0_pay1]
theorem out4 (t : Fin cfg0.N) (i : Fin 512) (q : Fin 1024) : (dats m 0 c).after 4 t (ix2 i q) = dg m c (pt t i q) := by
  rw [after0_4, dg, ← inc_apply, ← emb_apply, ← gate_apply]
  frame_out
  unfold Cert.PleBwd.dgate
  pointwise [k0_pay3, k0_pay1]

theorem final3 : (dats m 0 c).arrAt 3 (cfgs 0).N = de m c := by
  refine (dats m 0 c).arrAt_eq_of_covers 3 _ (by decide +kernel) fun t hf y => ?_
  blk_simp
  obtain ⟨i, q, rfl⟩ : ∃ (i : Fin 512) (q : Fin 1024), y = ix2 i q := ⟨_, _, eq_ix2 y⟩
  rw [show (win0_3.blk t).view.emb (ix2 i q) = pt t i q from by unfold pt; blk_ext [idx t]]
  exact out3 m c t i q

theorem final4 : (dats m 0 c).arrAt 4 (cfgs 0).N = dg m c := by
  refine (dats m 0 c).arrAt_eq_of_covers 4 _ (by decide +kernel) fun t hf y => ?_
  blk_simp
  obtain ⟨i, q, rfl⟩ : ∃ (i : Fin 512) (q : Fin 1024), y = ix2 i q := ⟨_, _, eq_ix2 y⟩
  rw [show (win0_4.blk t).view.emb (ix2 i q) = pt t i q from by unfold pt; blk_ext [idx t]]
  exact out4 m c t i q

end Cert.Kernel18Ideal.PleBwd

/-! ## The claims -/

namespace Cert.PleBwd

open Idealize.ShloMosaic Idealize.ShloMosaic.TcCoe Idealize.SL.Sem

theorem kernel : Cert.quiescent_Kernel18 := fun m g _ => Cert.Kernel18.Gen.frame m g
theorem kernelIdeal : Cert.quiescent_Kernel18Ideal := fun m g _ => Cert.Kernel18Ideal.Gen.frame m g
theorem referenceIdeal : Cert.quiescent_Reference18Ideal := fun m g _ =>
  (θ_run Cert.Reference18Ideal.defs _ _).mono (fun r h => ⟨fun c => (h c).2.2, sem_eq_zero_of_no_sems (by decide) r.2⟩)
    (Cert.Reference18Ideal.Value.run (F := Ideal) m g)

theorem algebraic : Cert.algebraic_Kernel18Ideal_Reference18Ideal := fun m g m' g' hpre hag =>
  ⟨fun c => Cert.Kernel18Ideal.PleBwd.de m c, fun c => Cert.Kernel18Ideal.PleBwd.dg m c,
    (θ_run _ _ _).mono (fun _ h c => ⟨(h c).1.trans (Cert.Kernel18Ideal.PleBwd.final3 m c), (h c).2.1.trans (Cert.Kernel18Ideal.PleBwd.final4 m c), (h c).2.2⟩)
      (Cert.Kernel18Ideal.Value.run_blocks m g),
    (θ_run _ _ _).mono (fun _ h c => by
      obtain ⟨h0, h1, ha⟩ := h c
      obtain ⟨a0, a1, a2⟩ := hag c
      rw [a0, a2] at h0
      rw [a0, a1, a2] at h1
      exact ⟨h0.trans (Cert.Reference18Ideal.PleBwd.demb_eq _ _), h1.trans (Cert.Reference18Ideal.PleBwd.dgate_eq _ _ _), ha⟩)
      (Cert.Reference18Ideal.Value.run (F := Ideal) m' g')⟩

end Cert.PleBwd

end
-- ==== Proof.PleGateT1.lean ====
/- The second layer's gradient of the embedding gate's input, added to the gradient that comes around the gate. -/
module

public import proofs.«01_k».proof.Defs
public import proofs.«01_k».proof.Proof.Gen.Kernel19.Frame
public import proofs.«01_k».proof.Proof.Gen.Kernel19Ideal.Value
public import proofs.«01_k».proof.Proof.Gen.Reference19Ideal.Run
import Idealize.ShloMosaic.Lib.Pointwise
public import Idealize.ShloMosaic.Lib.Pipeline.ValueKit
public import proofs.«01_k».proof.Proof.Products
@[expose] public section

set_option maxRecDepth 16384

noncomputable section

namespace Cert.Reference19Ideal.PleGateT1

open Cert.Reference19Ideal Cert.Reference19Ideal.Gen Idealize.ShloMosaic

theorem value (a : FVec Ideal S16384x1024 .bf16) (w : FVec Ideal S4x2x256x1024 .bf16) (r : FVec Ideal S16384x1024 .f32) :
    addf r (Host.dotGeneral dot_S16384x1024_S1024x1024_S16384x1024_1_1_0_0_n_n none (extf .f32 a bitsLt_bf16_f32) (extf .f32
      (shapeCast S1024x1024 (shapeCast S4x256x1024 (extractStridedSlice S4x1x256x1024 ![0, 1, 0, 0] w
      slices_S4x2x256x1024_S4x1x256x1024_0_1_0_0) shapeCasts_S4x1x256x1024_S4x256x1024) shapeCasts_S4x256x1024_S1024x1024)
      bitsLt_bf16_f32)) = fun j => r j + Cert.Products.rowsT 1 a w j := by
  funext j
  obtain ⟨n, q, rfl⟩ : ∃ (n : Fin _) (q : Fin _), j = ix2 n q := ⟨_, _, eq_ix2 j⟩
  rw [Cert.Products.rowsT_apply]
  pointwise

end Cert.Reference19Ideal.PleGateT1

namespace Cert.Kernel19Ideal.PleGateT1

open Cert.Kernel19Ideal Cert.Kernel19Ideal.Gen
open Idealize.ShloMosaic Idealize.ShloMosaic.TcCoe Idealize.SL.Sem
open Idealize.ShloMosaic.Pipeline (Dat)

variable (m : (l : Loc nD τ sig) → Buf (Elt Ideal) l) (c : Dev nD)

abbrev ar : FVec Ideal S16384x1024 .bf16 := m ((c : Thread nD τ).loc main_arg0)
abbrev wt : FVec Ideal S4x2x256x1024 .bf16 := m ((c : Thread nD τ).loc main_arg1)
abbrev rs : FVec Ideal S16384x1024 .f32 := m ((c : Thread nD τ).loc main_arg2)

theorem idx : ∀ t : Fin cfg0.N, win0_0.index t = ![t.val, 0] ∧ win0_1.index t = ![0, 1, 0, 0] ∧ win0_2.index t = ![t.val, 0] ∧ win0_3.index t = ![t.val, 0] :=
  (by decide +kernel : ∀ t : Fin grid0.N, _)

/-- Where a block's element lies in the whole array. -/
abbrev pt (t : Fin cfg0.N) (i : Fin 1024) (q : Fin 1024) : S16384x1024.Idx :=
  ix2 ⟨1024 * t.val + i.val, by have := lt_of_lt_of_eq t.isLt N_0; omega⟩ q

theorem tile_apply (t : Fin cfg0.N) (i : Fin 1024) (q : Fin 1024) :
    k0_pay1 (iblk m c 0 t) (iblk m c 1 t) (iblk m c 2 t) (ix2 i q) = rs m c (pt t i q) + Cert.Products.rowsT 1 (ar m c) (wt m c) (pt t i q) := by
  have := lt_of_lt_of_eq t.isLt N_0
  unfold pt
  rw [Cert.Products.rowsT_apply]
  pointwise [k0_pay1]
  refine (add_comm _ _).trans (congrArg₂ (· + ·) (by blk_point [iblk, V, idx t]) ?_)
  refine Finset.sum_congr rfl fun f _ => congrArg₂ (· * ·) ?_ ?_
  · blk_point [iblk, V, idx t]
  · refine Eq.trans (b := wt m c (ix4 ⟨q.val / 256, by omega⟩ 1 ⟨q.val % 256, by omega⟩ f)) (by blk_point [iblk, V, idx t]) (congrArg _ ?_)
    congr 1 <;> refine Fin.ext ?_ <;> simp only <;> omega

theorem out_apply (t : Fin cfg0.N) (i : Fin 1024) (q : Fin 1024) : (dats m 0 c).after 3 t (ix2 i q)
    = rs m c (pt t i q) + Cert.Products.rowsT 1 (ar m c) (wt m c) (pt t i q) := by
  rw [after0_3, ← tile_apply]
  frame_out

theorem final : (dats m 0 c).arrAt 3 (cfgs 0).N = fun j => rs m c j + Cert.Products.rowsT 1 (ar m c) (wt m c) j := by
  refine (dats m 0 c).arrAt_eq_of_covers 3 _ (by decide +kernel) fun t hf y => ?_
  blk_simp
  obtain ⟨i, q, rfl⟩ : ∃ (i : Fin 1024) (q : Fin 1024), y = ix2 i q := ⟨_, _, eq_ix2 y⟩
  rw [show (win0_3.blk t).view.emb (ix2 i q) = pt t i q from by unfold pt; blk_ext [idx t]]
  exact out_apply m c t i q

end Cert.Kernel19Ideal.PleGateT1

/-! ## The claims -/

namespace Cert.PleGateT1

open Idealize.ShloMosaic Idealize.ShloMosaic.TcCoe Idealize.SL.Sem

theorem kernel : Cert.quiescent_Kernel19 := fun m g _ => Cert.Kernel19.Gen.frame m g
theorem kernelIdeal : Cert.quiescent_Kernel19Ideal := fun m g _ => Cert.Kernel19Ideal.Gen.frame m g
theorem referenceIdeal : Cert.quiescent_Reference19Ideal := fun m g _ =>
  (θ_run Cert.Reference19Ideal.defs _ _).mono (fun r h => ⟨fun c => (h c).2, sem_eq_zero_of_no_sems (by decide) r.2⟩)
    (Cert.Reference19Ideal.Value.run (F := Ideal) m g)

theorem algebraic : Cert.algebraic_Kernel19Ideal_Reference19Ideal := fun m g m' g' hpre hag =>
  ⟨fun c => fun j => Cert.Kernel19Ideal.PleGateT1.rs m c j + Cert.Products.rowsT 1 (Cert.Kernel19Ideal.PleGateT1.ar m c) (Cert.Kernel19Ideal.PleGateT1.wt m c) j,
    (θ_run _ _ _).mono (fun _ h c => ⟨(h c).1.trans (Cert.Kernel19Ideal.PleGateT1.final m c), (h c).2⟩)
      (Cert.Kernel19Ideal.Value.run_blocks m g),
    (θ_run _ _ _).mono (fun _ h c => ⟨(h c).1.trans (by
        rw [(hag c).1, (hag c).2.1, (hag c).2.2]; exact Cert.Reference19Ideal.PleGateT1.value _ _ _), (h c).2⟩)
      (Cert.Reference19Ideal.Value.run (F := Ideal) m' g')⟩

end Cert.PleGateT1

end
-- ==== Proof.ProjAT1.lean ====
/- The second layer's gradient of the recurrence's output projection with respect to its input. -/
module

public import proofs.«01_k».proof.Defs
public import proofs.«01_k».proof.Proof.Gen.Kernel20.Frame
public import proofs.«01_k».proof.Proof.Gen.Kernel20Ideal.Value
public import proofs.«01_k».proof.Proof.Gen.Reference20Ideal.Run
import Idealize.ShloMosaic.Lib.Pointwise
public import Idealize.ShloMosaic.Lib.Pipeline.ValueKit
public import proofs.«01_k».proof.Proof.Products
@[expose] public section

set_option maxRecDepth 16384

noncomputable section

namespace Cert.Reference20Ideal.ProjAT1

open Cert.Reference20Ideal Cert.Reference20Ideal.Gen Idealize.ShloMosaic

theorem value (a : FVec Ideal S16384x1024 .bf16) (w : FVec Ideal S4x2x256x1024 .bf16) :
    Host.dotGeneral dot_S16384x1024_S1024x1024_S16384x1024_1_1_0_0_n_n none (extf .f32 a bitsLt_bf16_f32) (extf .f32 (shapeCast
      S1024x1024 (shapeCast S4x256x1024 (extractStridedSlice S4x1x256x1024 ![0, 1, 0, 0] w
      slices_S4x2x256x1024_S4x1x256x1024_0_1_0_0) shapeCasts_S4x1x256x1024_S4x256x1024) shapeCasts_S4x256x1024_S1024x1024)
      bitsLt_bf16_f32) = Cert.Products.rowsT 1 a w := by
  funext j
  obtain ⟨n, q, rfl⟩ : ∃ (n : Fin _) (q : Fin _), j = ix2 n q := ⟨_, _, eq_ix2 j⟩
  rw [Cert.Products.rowsT_apply]
  pointwise

end Cert.Reference20Ideal.ProjAT1

namespace Cert.Kernel20Ideal.ProjAT1

open Cert.Kernel20Ideal Cert.Kernel20Ideal.Gen
open Idealize.ShloMosaic Idealize.ShloMosaic.TcCoe Idealize.SL.Sem
open Idealize.ShloMosaic.Pipeline (Dat)

variable (m : (l : Loc nD τ sig) → Buf (Elt Ideal) l) (c : Dev nD)

abbrev ar : FVec Ideal S16384x1024 .bf16 := m ((c : Thread nD τ).loc main_arg0)
abbrev wt : FVec Ideal S4x2x256x1024 .bf16 := m ((c : Thread nD τ).loc main_arg1)

theorem idx : ∀ t : Fin cfg0.N, win0_0.index t = ![t.val, 0] ∧ win0_1.index t = ![0, 1, 0, 0] ∧ win0_2.index t = ![t.val, 0] :=
  (by decide +kernel : ∀ t : Fin grid0.N, _)

/-- Where a block's element lies in the whole array. -/
abbrev pt (t : Fin cfg0.N) (i : Fin 1024) (q : Fin 1024) : S16384x1024.Idx :=
  ix2 ⟨1024 * t.val + i.val, by have := lt_of_lt_of_eq t.isLt N_0; omega⟩ q

theorem tile_apply (t : Fin cfg0.N) (i : Fin 1024) (q : Fin 1024) :
    k0_pay1 (iblk m c 0 t) (iblk m c 1 t) (ix2 i q) = Cert.Products.rowsT 1 (ar m c) (wt m c) (pt t i q) := by
  have := lt_of_lt_of_eq t.isLt N_0
  unfold pt
  rw [Cert.Products.rowsT_apply]
  pointwise [k0_pay1]
  refine Finset.sum_congr rfl fun f _ => congrArg₂ (· * ·) ?_ ?_
  · blk_point [iblk, V, idx t]
  · refine Eq.trans (b := wt m c (ix4 ⟨q.val / 256, by omega⟩ 1 ⟨q.val % 256, by omega⟩ f)) (by blk_point [iblk, V, idx t]) (congrArg _ ?_)
    congr 1 <;> refine Fin.ext ?_ <;> simp only <;> omega

theorem out_apply (t : Fin cfg0.N) (i : Fin 1024) (q : Fin 1024) : (dats m 0 c).after 2 t (ix2 i q)
    = Cert.Products.rowsT 1 (ar m c) (wt m c) (pt t i q) := by
  rw [after0_2, ← tile_apply]
  frame_out

theorem final : (dats m 0 c).arrAt 2 (cfgs 0).N = Cert.Products.rowsT 1 (ar m c) (wt m c) := by
  refine (dats m 0 c).arrAt_eq_of_covers 2 _ (by decide +kernel) fun t hf y => ?_
  blk_simp
  obtain ⟨i, q, rfl⟩ : ∃ (i : Fin 1024) (q : Fin 1024), y = ix2 i q := ⟨_, _, eq_ix2 y⟩
  rw [show (win0_2.blk t).view.emb (ix2 i q) = pt t i q from by unfold pt; blk_ext [idx t]]
  exact out_apply m c t i q

end Cert.Kernel20Ideal.ProjAT1

/-! ## The claims -/

namespace Cert.ProjAT1

open Idealize.ShloMosaic Idealize.ShloMosaic.TcCoe Idealize.SL.Sem

theorem kernel : Cert.quiescent_Kernel20 := fun m g _ => Cert.Kernel20.Gen.frame m g
theorem kernelIdeal : Cert.quiescent_Kernel20Ideal := fun m g _ => Cert.Kernel20Ideal.Gen.frame m g
theorem referenceIdeal : Cert.quiescent_Reference20Ideal := fun m g _ =>
  (θ_run Cert.Reference20Ideal.defs _ _).mono (fun r h => ⟨fun c => (h c).2, sem_eq_zero_of_no_sems (by decide) r.2⟩)
    (Cert.Reference20Ideal.Value.run (F := Ideal) m g)

theorem algebraic : Cert.algebraic_Kernel20Ideal_Reference20Ideal := fun m g m' g' hpre hag =>
  ⟨fun c => Cert.Products.rowsT 1 (Cert.Kernel20Ideal.ProjAT1.ar m c) (Cert.Kernel20Ideal.ProjAT1.wt m c),
    (θ_run _ _ _).mono (fun _ h c => ⟨(h c).1.trans (Cert.Kernel20Ideal.ProjAT1.final m c), (h c).2⟩)
      (Cert.Kernel20Ideal.Value.run_blocks m g),
    (θ_run _ _ _).mono (fun _ h c => ⟨(h c).1.trans (by
        rw [(hag c).1, (hag c).2]; exact Cert.Reference20Ideal.ProjAT1.value _ _), (h c).2⟩)
      (Cert.Reference20Ideal.Value.run (F := Ideal) m' g')⟩

end Cert.ProjAT1

end
-- ==== Proof.ProjBT1.lean ====
/- The second layer's gradient of the gating unit's output projection with respect to its input. -/
module

public import proofs.«01_k».proof.Defs
public import proofs.«01_k».proof.Proof.Gen.Kernel21.Frame
public import proofs.«01_k».proof.Proof.Gen.Kernel21Ideal.Value
public import proofs.«01_k».proof.Proof.Gen.Reference21Ideal.Run
import Idealize.ShloMosaic.Lib.Pointwise
public import Idealize.ShloMosaic.Lib.Pipeline.ValueKit
public import proofs.«01_k».proof.Proof.Products
@[expose] public section

set_option maxRecDepth 16384

noncomputable section

namespace Cert.Reference21Ideal.ProjBT1

open Cert.Reference21Ideal Cert.Reference21Ideal.Gen Idealize.ShloMosaic

theorem value (a : FVec Ideal S16384x1024 .bf16) (w : FVec Ideal S4x2x512x256 .bf16) :
    Host.dotGeneral dot_S16384x1024_S512x1024_S16384x512_1_1_0_0_n_n none (extf .f32 a bitsLt_bf16_f32) (extf .f32 (shapeCast
      S512x1024 (transpose S512x4x256 [1, 0, 2] (shapeCast S4x512x256 (extractStridedSlice S4x1x512x256 ![0, 1, 0, 0] w
      slices_S4x2x512x256_S4x1x512x256_0_1_0_0) shapeCasts_S4x1x512x256_S4x512x256) transposes_S4x512x256_S512x4x256_1_0_2)
      shapeCasts_S512x4x256_S512x1024) bitsLt_bf16_f32) = Cert.Products.colsT 1 a w := by
  funext j
  obtain ⟨n, q, rfl⟩ : ∃ (n : Fin _) (q : Fin _), j = ix2 n q := ⟨_, _, eq_ix2 j⟩
  rw [Cert.Products.colsT_apply]
  pointwise

end Cert.Reference21Ideal.ProjBT1

namespace Cert.Kernel21Ideal.ProjBT1

open Cert.Kernel21Ideal Cert.Kernel21Ideal.Gen
open Idealize.ShloMosaic Idealize.ShloMosaic.TcCoe Idealize.SL.Sem
open Idealize.ShloMosaic.Pipeline (Dat)

variable (m : (l : Loc nD τ sig) → Buf (Elt Ideal) l) (c : Dev nD)

abbrev ar : FVec Ideal S16384x1024 .bf16 := m ((c : Thread nD τ).loc main_arg0)
abbrev wt : FVec Ideal S4x2x512x256 .bf16 := m ((c : Thread nD τ).loc main_arg1)

theorem idx : ∀ t : Fin cfg0.N,
    (win0_0.index t = ![t.val, 0] ∧ win0_1.index t = ![0, 1, 0, 0])
    ∧ (win0_2.index t = ![t.val, 1] ∧ win0_3.index t = ![1, 1, 0, 0])
    ∧ (win0_4.index t = ![t.val, 2] ∧ win0_5.index t = ![2, 1, 0, 0])
    ∧ (win0_6.index t = ![t.val, 3] ∧ win0_7.index t = ![3, 1, 0, 0])
    ∧ win0_8.index t = ![t.val, 0] :=
  (by decide +kernel : ∀ t : Fin grid0.N, _)

/-- Where a block's element lies in the whole array. -/
abbrev pt (t : Fin cfg0.N) (i : Fin 1024) (q : Fin 512) : S16384x512.Idx :=
  ix2 ⟨1024 * t.val + i.val, by have := lt_of_lt_of_eq t.isLt N_0; omega⟩ q

theorem out_apply (t : Fin cfg0.N) (i : Fin 1024) (q : Fin 512) : (dats m 0 c).after 8 t (ix2 i q)
    = Cert.Products.colsT 1 (ar m c) (wt m c) (pt t i q) := by
  unfold pt
  rw [after0_8, Cert.Products.colsT_shards, Fin.sum_univ_four]
  frame_out
  pointwise [k0_pay1]
  iterate 3
    refine congrArg₂ (· + ·) ?_ (Finset.sum_congr rfl fun f _ => congrArg₂ (· * ·) ?_ ?_)
  refine Finset.sum_congr rfl fun f _ => congrArg₂ (· * ·) ?_ ?_
  all_goals blk_point [iblk, V, idx t]

theorem final : (dats m 0 c).arrAt 8 (cfgs 0).N = Cert.Products.colsT 1 (ar m c) (wt m c) := by
  refine (dats m 0 c).arrAt_eq_of_covers 8 _ (by decide +kernel) fun t hf y => ?_
  blk_simp
  obtain ⟨i, q, rfl⟩ : ∃ (i : Fin 1024) (q : Fin 512), y = ix2 i q := ⟨_, _, eq_ix2 y⟩
  rw [show (win0_8.blk t).view.emb (ix2 i q) = pt t i q from by unfold pt; blk_ext [idx t]]
  exact out_apply m c t i q

end Cert.Kernel21Ideal.ProjBT1

/-! ## The claims -/

namespace Cert.ProjBT1

open Idealize.ShloMosaic Idealize.ShloMosaic.TcCoe Idealize.SL.Sem

theorem kernel : Cert.quiescent_Kernel21 := fun m g _ => Cert.Kernel21.Gen.frame m g
theorem kernelIdeal : Cert.quiescent_Kernel21Ideal := fun m g _ => Cert.Kernel21Ideal.Gen.frame m g
theorem referenceIdeal : Cert.quiescent_Reference21Ideal := fun m g _ =>
  (θ_run Cert.Reference21Ideal.defs _ _).mono (fun r h => ⟨fun c => (h c).2, sem_eq_zero_of_no_sems (by decide) r.2⟩)
    (Cert.Reference21Ideal.Value.run (F := Ideal) m g)

theorem algebraic : Cert.algebraic_Kernel21Ideal_Reference21Ideal := fun m g m' g' hpre hag =>
  ⟨fun c => Cert.Products.colsT 1 (Cert.Kernel21Ideal.ProjBT1.ar m c) (Cert.Kernel21Ideal.ProjBT1.wt m c),
    (θ_run _ _ _).mono (fun _ h c => ⟨(h c).1.trans (Cert.Kernel21Ideal.ProjBT1.final m c), (h c).2⟩)
      (Cert.Kernel21Ideal.Value.run_blocks m g),
    (θ_run _ _ _).mono (fun _ h c => ⟨(h c).1.trans (by
        rw [(hag c).1, (hag c).2]; exact Cert.Reference21Ideal.ProjBT1.value _ _), (h c).2⟩)
      (Cert.Reference21Ideal.Value.run (F := Ideal) m' g')⟩

end Cert.ProjBT1

end
-- ==== Proof.GradOut1.lean ====
/- The second layer's gradient of the output projection after the kernel's last block of rows: the sum over all rows, entry by entry. -/
module

public import proofs.«01_k».proof.Defs
public import proofs.«01_k».proof.Proof.Gen.Kernel22.Frame
public import proofs.«01_k».proof.Proof.Gen.Kernel22Ideal.Frame
public import proofs.«01_k».proof.Proof.Gen.Reference22Ideal.Run
import Idealize.ShloMosaic.Lib.Pointwise
import Idealize.ShloMosaic.Lib.Pipeline.ReadBack
public import Idealize.ShloMosaic.Lib.Pipeline.ValueKit

@[expose] public section

set_option maxRecDepth 16384

noncomputable section

namespace Cert.GradOut1

open Idealize.ShloMosaic

/-- The rows' products of one input feature with one column of the incoming gradient. -/
def rowSum (x : (⟨2, ![16384, 1024]⟩ : Shape).Idx → EReal) (d : (⟨2, ![16384, 1024]⟩ : Shape).Idx → EReal) (a : Fin 4) (r : Fin 256) (k : Fin 1024) : EReal :=
  ∑ s : Fin 16384, x (ix2 s ⟨256 * a.val + r.val, by omega⟩) * d (ix2 s k)

/-- The second layer's gradient. -/
def grad (x : (⟨2, ![16384, 1024]⟩ : Shape).Idx → EReal) (d : (⟨2, ![16384, 1024]⟩ : Shape).Idx → EReal) (j : (⟨3, ![4, 256, 1024]⟩ : Shape).Idx) : EReal :=
  rowSum x d (j 0) (j 1) (j 2)

end Cert.GradOut1

namespace Cert.Reference22Ideal.GradOut1

open Cert.Reference22Ideal Cert.Reference22Ideal.Gen Idealize.ShloMosaic

theorem value (x : FVec Ideal S16384x1024 .bf16) (d : FVec Ideal S16384x1024 .bf16) :
    truncf .bf16 (shapeCast S4x256x1024 (transpose S1024x1024 [1, 0] (Host.dotGeneral
      dot_S16384x1024_S16384x1024_S1024x1024_0_0_1_1_n_n none (extf .f32 d bitsLt_bf16_f32) (extf .f32 x bitsLt_bf16_f32))
      transposes_S1024x1024_S1024x1024_1_0) shapeCasts_S1024x1024_S4x256x1024) bitsLt_bf16_f32 = Cert.GradOut1.grad x d := by
  funext j
  obtain ⟨a, r, k, rfl⟩ : ∃ (a : Fin _) (r : Fin _) (k : Fin _), j = ix3 a r k := ⟨_, _, _, eq_ix3 j⟩
  unfold Cert.GradOut1.grad Cert.GradOut1.rowSum
  pointwise
  refine Finset.sum_congr rfl fun s _ => (mul_comm _ _).trans ?_
  refine congrArg₂ (· * ·) (congrArg x ?_) (congrArg d ?_)
  all_goals (congr 1 <;> refine Fin.ext ?_ <;> simp only <;> omega)

end Cert.Reference22Ideal.GradOut1

namespace Cert.Kernel22Ideal.GradOut1

open Cert.Kernel22Ideal Cert.Kernel22Ideal.Gen Idealize.ShloMosaic Idealize.ShloMosaic.TcCoe Idealize.SL.Sem
open Idealize.ShloMosaic.Pipeline (Dat)

variable (m : (l : Loc nD τ sig) → Buf (Elt Ideal) l) (c : Dev nD)

abbrev ax : FVec Ideal S16384x1024 .bf16 := m ((c : Thread nD τ).loc main_arg0)
abbrev ad : FVec Ideal S16384x1024 .bf16 := m ((c : Thread nD τ).loc main_arg1)

theorem idx : ∀ t : Fin cfg0.N, win0_0.index t = ![t.val % 16, t.val / 16]
    ∧ win0_1.index t = ![t.val % 16, 0] ∧ win0_2.index t = ![t.val / 16, 1, 0, 0] :=
  (by decide +kernel : ∀ t : Fin grid0.N, _)

/-- One block of rows' product. -/
abbrev part (t : Fin cfg0.N) : FVec Ideal S256x1024 .f32 := k0_pay1 (iblk m c 0 t) (iblk m c 1 t)

theorem part_apply (t : Fin cfg0.N) (r : Fin 256) (k : Fin 1024) : part m c t (ix2 r k)
    = ∑ s : Fin 1024, ax m c (ix2 ⟨1024 * (t.val % 16) + s.val, by omega⟩ ⟨256 * (t.val / 16) + r.val, by have := lt_of_lt_of_eq t.isLt N_0; omega⟩)
        * ad m c (ix2 ⟨1024 * (t.val % 16) + s.val, by omega⟩ k) := by
  unfold part
  pointwise [k0_pay1]
  refine Finset.sum_congr rfl fun k _ => congrArg₂ (· * ·) ?_ ?_
  · blk_point [iblk, V, idx t]
  · blk_point [iblk, V, idx t]

theorem acc_A (t : Fin cfg0.N) (h : t.val % 16 = 0) (j : S256x1024.Idx) : (outsAt0 m c t.val t.isLt).2 j = part m c t j := by
  rw [outsAt0_A m c t h (by omega) (by omega)]; frame_out
  pointwise [k0_pay2]

theorem acc_B (t : Fin cfg0.N) (h : ¬t.val % 16 = 0) (j : S256x1024.Idx) : (outsAt0 m c t.val t.isLt).2 j
    = (outsAt0 m c (t.val - 1) (Nat.lt_of_le_of_lt (Nat.sub_le _ _) t.isLt)).2 j + part m c t j := by
  by_cases h7 : t.val % 16 = 15
  · rw [outsAt0_C m c t h (by omega) h7]; frame_out
    simp only [read_unread_whole]
    pointwise [k0_pay3]
  · rw [outsAt0_B m c t h (by omega) h7]; frame_out
    simp only [read_unread_whole]
    pointwise [k0_pay3]

theorem out_C (t : Fin cfg0.N) (h : t.val % 16 = 15) (r : Fin 256) (k : Fin 1024) :
    (outsAt0 m c t.val t.isLt).1 (ix4 0 0 r k) = (outsAt0 m c t.val t.isLt).2 (ix2 r k) := by
  rw [outsAt0_C m c t (by omega) (by omega) h]; frame_out
  pointwise [k0_pay4]

/-- The blocks of rows make up the gradient. -/
theorem sum_parts (t : Fin cfg0.N) (ht : t.val % 16 = 16 - 1) (r : Fin 256) (k : Fin 1024) :
    ∑ s : Fin 16, part m c ⟨16 * (t.val / 16) + s.val, Pipeline.run_point_lt_of_flush t ht s⟩ (ix2 r k)
      = Cert.GradOut1.rowSum (ax m c) (ad m c) ⟨t.val / 16, by have := lt_of_lt_of_eq t.isLt N_0; omega⟩ r k := by
  unfold Cert.GradOut1.rowSum
  rw [Fin.sum_univ_tiles 16 1024 rfl]
  refine Finset.sum_congr rfl fun s _ => ?_
  rw [part_apply]
  refine Finset.sum_congr rfl fun k _ => congrArg₂ (· * ·) (congrArg (ax m c) ?_) (congrArg (ad m c) ?_)
  all_goals (congr 1 <;> refine Fin.ext ?_ <;> simp only <;> omega)

/-- What the last block of rows writes back. -/
theorem out_apply (t : Fin cfg0.N) (ht : t.val % 16 = 16 - 1) (r : Fin 256) (k : Fin 1024) :
    (outsAt0 m c t.val t.isLt).1 (ix4 0 0 r k) = Cert.GradOut1.rowSum (ax m c) (ad m c) ⟨t.val / 16, by have := lt_of_lt_of_eq t.isLt N_0; omega⟩ r k := by
  rw [out_C m c t ht, Pipeline.eq_sum_fin_of_reset_step_apply_of_flush (fun n h => (outsAt0 m c n h).2) 16 (fun _ => 0)
    (fun t => part m c t) (fun t h j => by rw [acc_A m c t h, zero_add]) (fun t h j => acc_B m c t h j) t ht _, zero_add]
  exact sum_parts m c t ht r k

/-- The stacked gradient the call leaves: the second layer's part computed. -/
theorem stacked (a : Fin 4) (r : Fin 256) (k : Fin 1024) : (dats m 0 c).arrAt 2 (cfgs 0).N (ix4 a 1 r k)
    = Cert.GradOut1.rowSum (ax m c) (ad m c) a r k := by
  have h : (dats m 0 c).arrAt 2 (cfgs 0).N = fun j : S4x2x256x1024.Idx => if (j 1 : ℕ) / 1 = 1 then
      Cert.GradOut1.rowSum (ax m c) (ad m c) (j 0) (j 2) (j 3) else V m c main_v0 j := by
    refine (dats m 0 c).arrAt_eq_of_coversWhere 2 _ (fun β => β (1 : Fin _) = 1) (by decide +kernel) (fun t hf y => ?_)
      (fun j => Iff.rfl)
    blk_simp
    have ht := (flush0_2 t).mp hf
    obtain ⟨r, k, rfl⟩ : ∃ (r : Fin 256) (k : Fin 1024), y = ix4 0 0 r k :=
      ⟨y 2, y 3, (eq_ix4 y).trans (congrArg₂ (fun a b => ix4 a b (y 2) (y 3)) (Subsingleton.elim _ _) (Subsingleton.elim _ _))⟩
    rw [after0_2, show (win0_2.blk t).view.emb (ix4 0 0 r k) = ix4 ⟨t.val / 16, by have := lt_of_lt_of_eq t.isLt N_0; omega⟩ 1 r k from by blk_ext [idx t]]
    exact out_apply m c t ht r k
  exact (congrFun h _).trans (if_pos (Nat.div_one _))

/-- The second layer's part, taken out of the stacked gradient. -/
theorem sliced (v : FVec Ideal S4x2x256x1024 .bf16) (x : FVec Ideal S16384x1024 .bf16) (d : FVec Ideal S16384x1024 .bf16)
    (h : ∀ (a : Fin 4) (r : Fin 256) (k : Fin 1024), v (ix4 a 1 r k) = Cert.GradOut1.rowSum x d a r k) :
    shapeCast S4x256x1024 (extractStridedSlice S4x1x256x1024 ![0, 1, 0, 0] v slices_S4x2x256x1024_S4x1x256x1024_0_1_0_0)
      shapeCasts_S4x1x256x1024_S4x256x1024 = Cert.GradOut1.grad x d := by
  funext j
  obtain ⟨a, r, k, rfl⟩ : ∃ (a : Fin _) (r : Fin _) (k : Fin _), j = ix3 a r k := ⟨_, _, _, eq_ix3 j⟩
  refine Eq.trans ?_ (h a r k)
  pointwise

/-- What the lines after the call leave in the result. -/
theorem tail : Pipeline.afterTail₀ cfgs (dats m) 0 (V0 m) [hostOps1] c main_v2 = Cert.GradOut1.grad (ax m c) (ad m c) := by
  refine Eq.trans ?_ (sliced _ (ax m c) (ad m c) (stacked m c))
  unfold Pipeline.afterTail₀
  simp only [hostOps1, List.flatten_cons, List.flatten_nil, List.append_nil, StableHlo.after_cons, StableHlo.after_nil]
  rw [StableHlo.reshape_result', StableHlo.unary_result']
  rw [Pipeline.withArrays_arr _ winFacts0.arr_inj c _ _ (2 : Fin 3)]
  rfl

/-- The call and the lines after it. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v2) = Cert.GradOut1.grad (ax m c) (ad m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨(h.1 c).2 main_v2 (Pipeline.mem_restRefs_of main_v2 (by decide) (by decide)) |>.trans (tail m c), h.2.1 c⟩)
    (θ_run_and (run_main m ρ) (frame m ρ))

end Cert.Kernel22Ideal.GradOut1

/-! ## The claims -/

namespace Cert.GradOut1

open Idealize.ShloMosaic Idealize.ShloMosaic.TcCoe Idealize.SL.Sem

theorem kernel : Cert.quiescent_Kernel22 := fun m g _ => Cert.Kernel22.Gen.frame m g
theorem kernelIdeal : Cert.quiescent_Kernel22Ideal := fun m g _ => Cert.Kernel22Ideal.Gen.frame m g
theorem referenceIdeal : Cert.quiescent_Reference22Ideal := fun m g _ =>
  (θ_run Cert.Reference22Ideal.defs _ _).mono (fun r h => ⟨fun c => (h c).2, sem_eq_zero_of_no_sems (by decide) r.2⟩)
    (Cert.Reference22Ideal.Value.run (F := Ideal) m g)

theorem algebraic : Cert.algebraic_Kernel22Ideal_Reference22Ideal := fun m g m' g' hpre hag =>
  ⟨fun c => grad (Cert.Kernel22Ideal.GradOut1.ax m c) (Cert.Kernel22Ideal.GradOut1.ad m c),
    Cert.Kernel22Ideal.GradOut1.run m g,
    (θ_run _ _ _).mono (fun _ h c => ⟨(h c).1.trans (by
        rw [(hag c).1, (hag c).2]; exact Cert.Reference22Ideal.GradOut1.value _ _), (h c).2⟩)
      (Cert.Reference22Ideal.Value.run (F := Ideal) m' g')⟩

end Cert.GradOut1

end
-- ==== Proof.GradPleGate1.lean ====
/- The second layer's gradient of the embedding's gate after the kernel's last block of rows: the sum over all rows, entry by entry. -/
module

public import proofs.«01_k».proof.Defs
public import proofs.«01_k».proof.Proof.Gen.Kernel23.Frame
public import proofs.«01_k».proof.Proof.Gen.Kernel23Ideal.Frame
public import proofs.«01_k».proof.Proof.Gen.Reference23Ideal.Run
import Idealize.ShloMosaic.Lib.Pointwise
import Idealize.ShloMosaic.Lib.Pipeline.ReadBack
public import Idealize.ShloMosaic.Lib.Pipeline.ValueKit

@[expose] public section

set_option maxRecDepth 16384

noncomputable section

namespace Cert.GradPleGate1

open Idealize.ShloMosaic

/-- The rows' products of one input feature with one column of the incoming gradient. -/
def rowSum (x : (⟨2, ![16384, 1024]⟩ : Shape).Idx → EReal) (d : (⟨2, ![16384, 1024]⟩ : Shape).Idx → EReal) (a : Fin 4) (r : Fin 256) (k : Fin 1024) : EReal :=
  ∑ s : Fin 16384, x (ix2 s ⟨256 * a.val + r.val, by omega⟩) * d (ix2 s k)

/-- The second layer's gradient. -/
def grad (x : (⟨2, ![16384, 1024]⟩ : Shape).Idx → EReal) (d : (⟨2, ![16384, 1024]⟩ : Shape).Idx → EReal) (j : (⟨3, ![4, 256, 1024]⟩ : Shape).Idx) : EReal :=
  rowSum x d (j 0) (j 1) (j 2)

end Cert.GradPleGate1

namespace Cert.Reference23Ideal.GradPleGate1

open Cert.Reference23Ideal Cert.Reference23Ideal.Gen Idealize.ShloMosaic

theorem value (x : FVec Ideal S16384x1024 .f32) (d : FVec Ideal S16384x1024 .bf16) :
    truncf .bf16 (shapeCast S4x256x1024 (transpose S1024x1024 [1, 0] (Host.dotGeneral
      dot_S16384x1024_S16384x1024_S1024x1024_0_0_1_1_n_n none (extf .f32 d bitsLt_bf16_f32) x)
      transposes_S1024x1024_S1024x1024_1_0) shapeCasts_S1024x1024_S4x256x1024) bitsLt_bf16_f32 = Cert.GradPleGate1.grad x d := by
  funext j
  obtain ⟨a, r, k, rfl⟩ : ∃ (a : Fin _) (r : Fin _) (k : Fin _), j = ix3 a r k := ⟨_, _, _, eq_ix3 j⟩
  unfold Cert.GradPleGate1.grad Cert.GradPleGate1.rowSum
  pointwise
  refine Finset.sum_congr rfl fun s _ => (mul_comm _ _).trans ?_
  refine congrArg₂ (· * ·) (congrArg x ?_) (congrArg d ?_)
  all_goals (congr 1 <;> refine Fin.ext ?_ <;> simp only <;> omega)

end Cert.Reference23Ideal.GradPleGate1

namespace Cert.Kernel23Ideal.GradPleGate1

open Cert.Kernel23Ideal Cert.Kernel23Ideal.Gen Idealize.ShloMosaic Idealize.ShloMosaic.TcCoe Idealize.SL.Sem
open Idealize.ShloMosaic.Pipeline (Dat)

variable (m : (l : Loc nD τ sig) → Buf (Elt Ideal) l) (c : Dev nD)

abbrev ax : FVec Ideal S16384x1024 .f32 := m ((c : Thread nD τ).loc main_arg0)
abbrev ad : FVec Ideal S16384x1024 .bf16 := m ((c : Thread nD τ).loc main_arg1)

theorem idx : ∀ t : Fin cfg0.N, win0_0.index t = ![t.val % 16, t.val / 16]
    ∧ win0_1.index t = ![t.val % 16, 0] ∧ win0_2.index t = ![t.val / 16, 1, 0, 0] :=
  (by decide +kernel : ∀ t : Fin grid0.N, _)

/-- One block of rows' product. -/
abbrev part (t : Fin cfg0.N) : FVec Ideal S256x1024 .f32 := k0_pay1 (iblk m c 0 t) (iblk m c 1 t)

theorem part_apply (t : Fin cfg0.N) (r : Fin 256) (k : Fin 1024) : part m c t (ix2 r k)
    = ∑ s : Fin 1024, ax m c (ix2 ⟨1024 * (t.val % 16) + s.val, by omega⟩ ⟨256 * (t.val / 16) + r.val, by have := lt_of_lt_of_eq t.isLt N_0; omega⟩)
        * ad m c (ix2 ⟨1024 * (t.val % 16) + s.val, by omega⟩ k) := by
  unfold part
  pointwise [k0_pay1]
  refine Finset.sum_congr rfl fun k _ => congrArg₂ (· * ·) ?_ ?_
  · blk_point [iblk, V, idx t]
  · blk_point [iblk, V, idx t]

theorem acc_A (t : Fin cfg0.N) (h : t.val % 16 = 0) (j : S256x1024.Idx) : (outsAt0 m c t.val t.isLt).2 j = part m c t j := by
  rw [outsAt0_A m c t h (by omega) (by omega)]; frame_out
  pointwise [k0_pay2]

theorem acc_B (t : Fin cfg0.N) (h : ¬t.val % 16 = 0) (j : S256x1024.Idx) : (outsAt0 m c t.val t.isLt).2 j
    = (outsAt0 m c (t.val - 1) (Nat.lt_of_le_of_lt (Nat.sub_le _ _) t.isLt)).2 j + part m c t j := by
  by_cases h7 : t.val % 16 = 15
  · rw [outsAt0_C m c t h (by omega) h7]; frame_out
    simp only [read_unread_whole]
    pointwise [k0_pay3]
  · rw [outsAt0_B m c t h (by omega) h7]; frame_out
    simp only [read_unread_whole]
    pointwise [k0_pay3]

theorem out_C (t : Fin cfg0.N) (h : t.val % 16 = 15) (r : Fin 256) (k : Fin 1024) :
    (outsAt0 m c t.val t.isLt).1 (ix4 0 0 r k) = (outsAt0 m c t.val t.isLt).2 (ix2 r k) := by
  rw [outsAt0_C m c t (by omega) (by omega) h]; frame_out
  pointwise [k0_pay4]

/-- The blocks of rows make up the gradient. -/
theorem sum_parts (t : Fin cfg0.N) (ht : t.val % 16 = 16 - 1) (r : Fin 256) (k : Fin 1024) :
    ∑ s : Fin 16, part m c ⟨16 * (t.val / 16) + s.val, Pipeline.run_point_lt_of_flush t ht s⟩ (ix2 r k)
      = Cert.GradPleGate1.rowSum (ax m c) (ad m c) ⟨t.val / 16, by have := lt_of_lt_of_eq t.isLt N_0; omega⟩ r k := by
  unfold Cert.GradPleGate1.rowSum
  rw [Fin.sum_univ_tiles 16 1024 rfl]
  refine Finset.sum_congr rfl fun s _ => ?_
  rw [part_apply]
  refine Finset.sum_congr rfl fun k _ => congrArg₂ (· * ·) (congrArg (ax m c) ?_) (congrArg (ad m c) ?_)
  all_goals (congr 1 <;> refine Fin.ext ?_ <;> simp only <;> omega)

/-- What the last block of rows writes back. -/
theorem out_apply (t : Fin cfg0.N) (ht : t.val % 16 = 16 - 1) (r : Fin 256) (k : Fin 1024) :
    (outsAt0 m c t.val t.isLt).1 (ix4 0 0 r k) = Cert.GradPleGate1.rowSum (ax m c) (ad m c) ⟨t.val / 16, by have := lt_of_lt_of_eq t.isLt N_0; omega⟩ r k := by
  rw [out_C m c t ht, Pipeline.eq_sum_fin_of_reset_step_apply_of_flush (fun n h => (outsAt0 m c n h).2) 16 (fun _ => 0)
    (fun t => part m c t) (fun t h j => by rw [acc_A m c t h, zero_add]) (fun t h j => acc_B m c t h j) t ht _, zero_add]
  exact sum_parts m c t ht r k

/-- The stacked gradient the call leaves: the second layer's part computed. -/
theorem stacked (a : Fin 4) (r : Fin 256) (k : Fin 1024) : (dats m 0 c).arrAt 2 (cfgs 0).N (ix4 a 1 r k)
    = Cert.GradPleGate1.rowSum (ax m c) (ad m c) a r k := by
  have h : (dats m 0 c).arrAt 2 (cfgs 0).N = fun j : S4x2x256x1024.Idx => if (j 1 : ℕ) / 1 = 1 then
      Cert.GradPleGate1.rowSum (ax m c) (ad m c) (j 0) (j 2) (j 3) else V m c main_v0 j := by
    refine (dats m 0 c).arrAt_eq_of_coversWhere 2 _ (fun β => β (1 : Fin _) = 1) (by decide +kernel) (fun t hf y => ?_)
      (fun j => Iff.rfl)
    blk_simp
    have ht := (flush0_2 t).mp hf
    obtain ⟨r, k, rfl⟩ : ∃ (r : Fin 256) (k : Fin 1024), y = ix4 0 0 r k :=
      ⟨y 2, y 3, (eq_ix4 y).trans (congrArg₂ (fun a b => ix4 a b (y 2) (y 3)) (Subsingleton.elim _ _) (Subsingleton.elim _ _))⟩
    rw [after0_2, show (win0_2.blk t).view.emb (ix4 0 0 r k) = ix4 ⟨t.val / 16, by have := lt_of_lt_of_eq t.isLt N_0; omega⟩ 1 r k from by blk_ext [idx t]]
    exact out_apply m c t ht r k
  exact (congrFun h _).trans (if_pos (Nat.div_one _))

/-- The second layer's part, taken out of the stacked gradient. -/
theorem sliced (v : FVec Ideal S4x2x256x1024 .bf16) (x : FVec Ideal S16384x1024 .f32) (d : FVec Ideal S16384x1024 .bf16)
    (h : ∀ (a : Fin 4) (r : Fin 256) (k : Fin 1024), v (ix4 a 1 r k) = Cert.GradPleGate1.rowSum x d a r k) :
    shapeCast S4x256x1024 (extractStridedSlice S4x1x256x1024 ![0, 1, 0, 0] v slices_S4x2x256x1024_S4x1x256x1024_0_1_0_0)
      shapeCasts_S4x1x256x1024_S4x256x1024 = Cert.GradPleGate1.grad x d := by
  funext j
  obtain ⟨a, r, k, rfl⟩ : ∃ (a : Fin _) (r : Fin _) (k : Fin _), j = ix3 a r k := ⟨_, _, _, eq_ix3 j⟩
  refine Eq.trans ?_ (h a r k)
  pointwise

/-- What the lines after the call leave in the result. -/
theorem tail : Pipeline.afterTail₀ cfgs (dats m) 0 (V0 m) [hostOps1] c main_v2 = Cert.GradPleGate1.grad (ax m c) (ad m c) := by
  refine Eq.trans ?_ (sliced _ (ax m c) (ad m c) (stacked m c))
  unfold Pipeline.afterTail₀
  simp only [hostOps1, List.flatten_cons, List.flatten_nil, List.append_nil, StableHlo.after_cons, StableHlo.after_nil]
  rw [StableHlo.reshape_result', StableHlo.unary_result']
  rw [Pipeline.withArrays_arr _ winFacts0.arr_inj c _ _ (2 : Fin 3)]
  rfl

/-- The call and the lines after it. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v2) = Cert.GradPleGate1.grad (ax m c) (ad m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨(h.1 c).2 main_v2 (Pipeline.mem_restRefs_of main_v2 (by decide) (by decide)) |>.trans (tail m c), h.2.1 c⟩)
    (θ_run_and (run_main m ρ) (frame m ρ))

end Cert.Kernel23Ideal.GradPleGate1

/-! ## The claims -/

namespace Cert.GradPleGate1

open Idealize.ShloMosaic Idealize.ShloMosaic.TcCoe Idealize.SL.Sem

theorem kernel : Cert.quiescent_Kernel23 := fun m g _ => Cert.Kernel23.Gen.frame m g
theorem kernelIdeal : Cert.quiescent_Kernel23Ideal := fun m g _ => Cert.Kernel23Ideal.Gen.frame m g
theorem referenceIdeal : Cert.quiescent_Reference23Ideal := fun m g _ =>
  (θ_run Cert.Reference23Ideal.defs _ _).mono (fun r h => ⟨fun c => (h c).2, sem_eq_zero_of_no_sems (by decide) r.2⟩)
    (Cert.Reference23Ideal.Value.run (F := Ideal) m g)

theorem algebraic : Cert.algebraic_Kernel23Ideal_Reference23Ideal := fun m g m' g' hpre hag =>
  ⟨fun c => grad (Cert.Kernel23Ideal.GradPleGate1.ax m c) (Cert.Kernel23Ideal.GradPleGate1.ad m c),
    Cert.Kernel23Ideal.GradPleGate1.run m g,
    (θ_run _ _ _).mono (fun _ h c => ⟨(h c).1.trans (by
        rw [(hag c).1, (hag c).2]; exact Cert.Reference23Ideal.GradPleGate1.value _ _), (h c).2⟩)
      (Cert.Reference23Ideal.Value.run (F := Ideal) m' g')⟩

end Cert.GradPleGate1

end
-- ==== Proof.GradB1.lean ====
/- The second layer's gradient of the projection of the gating unit after the kernel's last block of rows: the sum over all rows, entry by entry. -/
module

public import proofs.«01_k».proof.Defs
public import proofs.«01_k».proof.Proof.Gen.Kernel24.Frame
public import proofs.«01_k».proof.Proof.Gen.Kernel24Ideal.Frame
public import proofs.«01_k».proof.Proof.Gen.Reference24Ideal.Run
import Idealize.ShloMosaic.Lib.Pointwise
import Idealize.ShloMosaic.Lib.Pipeline.ReadBack
public import Idealize.ShloMosaic.Lib.Pipeline.ValueKit

@[expose] public section

set_option maxRecDepth 16384

noncomputable section

namespace Cert.GradB1

open Idealize.ShloMosaic

/-- The rows' products of one input feature with one column of the incoming gradient. -/
def rowSum (x : (⟨2, ![16384, 512]⟩ : Shape).Idx → EReal) (d : (⟨2, ![16384, 1024]⟩ : Shape).Idx → EReal) (a : Fin 4) (r : Fin 512) (k : Fin 256) : EReal :=
  ∑ s : Fin 16384, x (ix2 s r) * d (ix2 s ⟨256 * a.val + k.val, by omega⟩)

/-- The second layer's gradient. -/
def grad (x : (⟨2, ![16384, 512]⟩ : Shape).Idx → EReal) (d : (⟨2, ![16384, 1024]⟩ : Shape).Idx → EReal) (j : (⟨3, ![4, 512, 256]⟩ : Shape).Idx) : EReal :=
  rowSum x d (j 0) (j 1) (j 2)

end Cert.GradB1

namespace Cert.Reference24Ideal.GradB1

open Cert.Reference24Ideal Cert.Reference24Ideal.Gen Idealize.ShloMosaic

theorem value (x : FVec Ideal S16384x512 .bf16) (d : FVec Ideal S16384x1024 .bf16) :
    truncf .bf16 (transpose S4x512x256 [1, 0, 2] (shapeCast S512x4x256 (transpose S512x1024 [1, 0] (Host.dotGeneral
      dot_S16384x1024_S16384x512_S1024x512_0_0_1_1_n_n none (extf .f32 d bitsLt_bf16_f32) (extf .f32 x bitsLt_bf16_f32))
      transposes_S1024x512_S512x1024_1_0) shapeCasts_S512x1024_S512x4x256) transposes_S512x4x256_S4x512x256_1_0_2) bitsLt_bf16_f32 = Cert.GradB1.grad x d := by
  funext j
  obtain ⟨a, r, k, rfl⟩ : ∃ (a : Fin _) (r : Fin _) (k : Fin _), j = ix3 a r k := ⟨_, _, _, eq_ix3 j⟩
  unfold Cert.GradB1.grad Cert.GradB1.rowSum
  pointwise
  refine Finset.sum_congr rfl fun s _ => (mul_comm _ _).trans ?_
  refine congrArg₂ (· * ·) (congrArg x ?_) (congrArg d ?_)
  all_goals (congr 1 <;> refine Fin.ext ?_ <;> simp only <;> omega)

end Cert.Reference24Ideal.GradB1

namespace Cert.Kernel24Ideal.GradB1

open Cert.Kernel24Ideal Cert.Kernel24Ideal.Gen Idealize.ShloMosaic Idealize.ShloMosaic.TcCoe Idealize.SL.Sem
open Idealize.ShloMosaic.Pipeline (Dat)

variable (m : (l : Loc nD τ sig) → Buf (Elt Ideal) l) (c : Dev nD)

abbrev ax : FVec Ideal S16384x512 .bf16 := m ((c : Thread nD τ).loc main_arg0)
abbrev ad : FVec Ideal S16384x1024 .bf16 := m ((c : Thread nD τ).loc main_arg1)

theorem idx : ∀ t : Fin cfg0.N, win0_0.index t = ![t.val % 16, 0]
    ∧ win0_1.index t = ![t.val % 16, t.val / 16] ∧ win0_2.index t = ![t.val / 16, 1, 0, 0] :=
  (by decide +kernel : ∀ t : Fin grid0.N, _)

/-- One block of rows' product. -/
abbrev part (t : Fin cfg0.N) : FVec Ideal S512x256 .f32 := k0_pay1 (iblk m c 0 t) (iblk m c 1 t)

theorem part_apply (t : Fin cfg0.N) (r : Fin 512) (k : Fin 256) : part m c t (ix2 r k)
    = ∑ s : Fin 1024, ax m c (ix2 ⟨1024 * (t.val % 16) + s.val, by omega⟩ r)
        * ad m c (ix2 ⟨1024 * (t.val % 16) + s.val, by omega⟩ ⟨256 * (t.val / 16) + k.val, by have := lt_of_lt_of_eq t.isLt N_0; omega⟩) := by
  unfold part
  pointwise [k0_pay1]
  refine Finset.sum_congr rfl fun k _ => congrArg₂ (· * ·) ?_ ?_
  · blk_point [iblk, V, idx t]
  · blk_point [iblk, V, idx t]

theorem acc_A (t : Fin cfg0.N) (h : t.val % 16 = 0) (j : S512x256.Idx) : (outsAt0 m c t.val t.isLt).2 j = part m c t j := by
  rw [outsAt0_A m c t h (by omega) (by omega)]; frame_out
  pointwise [k0_pay2]

theorem acc_B (t : Fin cfg0.N) (h : ¬t.val % 16 = 0) (j : S512x256.Idx) : (outsAt0 m c t.val t.isLt).2 j
    = (outsAt0 m c (t.val - 1) (Nat.lt_of_le_of_lt (Nat.sub_le _ _) t.isLt)).2 j + part m c t j := by
  by_cases h7 : t.val % 16 = 15
  · rw [outsAt0_C m c t h (by omega) h7]; frame_out
    simp only [read_unread_whole]
    pointwise [k0_pay3]
  · rw [outsAt0_B m c t h (by omega) h7]; frame_out
    simp only [read_unread_whole]
    pointwise [k0_pay3]

theorem out_C (t : Fin cfg0.N) (h : t.val % 16 = 15) (r : Fin 512) (k : Fin 256) :
    (outsAt0 m c t.val t.isLt).1 (ix4 0 0 r k) = (outsAt0 m c t.val t.isLt).2 (ix2 r k) := by
  rw [outsAt0_C m c t (by omega) (by omega) h]; frame_out
  pointwise [k0_pay4]

/-- The blocks of rows make up the gradient. -/
theorem sum_parts (t : Fin cfg0.N) (ht : t.val % 16 = 16 - 1) (r : Fin 512) (k : Fin 256) :
    ∑ s : Fin 16, part m c ⟨16 * (t.val / 16) + s.val, Pipeline.run_point_lt_of_flush t ht s⟩ (ix2 r k)
      = Cert.GradB1.rowSum (ax m c) (ad m c) ⟨t.val / 16, by have := lt_of_lt_of_eq t.isLt N_0; omega⟩ r k := by
  unfold Cert.GradB1.rowSum
  rw [Fin.sum_univ_tiles 16 1024 rfl]
  refine Finset.sum_congr rfl fun s _ => ?_
  rw [part_apply]
  refine Finset.sum_congr rfl fun k _ => congrArg₂ (· * ·) (congrArg (ax m c) ?_) (congrArg (ad m c) ?_)
  all_goals (congr 1 <;> refine Fin.ext ?_ <;> simp only <;> omega)

/-- What the last block of rows writes back. -/
theorem out_apply (t : Fin cfg0.N) (ht : t.val % 16 = 16 - 1) (r : Fin 512) (k : Fin 256) :
    (outsAt0 m c t.val t.isLt).1 (ix4 0 0 r k) = Cert.GradB1.rowSum (ax m c) (ad m c) ⟨t.val / 16, by have := lt_of_lt_of_eq t.isLt N_0; omega⟩ r k := by
  rw [out_C m c t ht, Pipeline.eq_sum_fin_of_reset_step_apply_of_flush (fun n h => (outsAt0 m c n h).2) 16 (fun _ => 0)
    (fun t => part m c t) (fun t h j => by rw [acc_A m c t h, zero_add]) (fun t h j => acc_B m c t h j) t ht _, zero_add]
  exact sum_parts m c t ht r k

/-- The stacked gradient the call leaves: the second layer's part computed. -/
theorem stacked (a : Fin 4) (r : Fin 512) (k : Fin 256) : (dats m 0 c).arrAt 2 (cfgs 0).N (ix4 a 1 r k)
    = Cert.GradB1.rowSum (ax m c) (ad m c) a r k := by
  have h : (dats m 0 c).arrAt 2 (cfgs 0).N = fun j : S4x2x512x256.Idx => if (j 1 : ℕ) / 1 = 1 then
      Cert.GradB1.rowSum (ax m c) (ad m c) (j 0) (j 2) (j 3) else V m c main_v0 j := by
    refine (dats m 0 c).arrAt_eq_of_coversWhere 2 _ (fun β => β (1 : Fin _) = 1) (by decide +kernel) (fun t hf y => ?_)
      (fun j => Iff.rfl)
    blk_simp
    have ht := (flush0_2 t).mp hf
    obtain ⟨r, k, rfl⟩ : ∃ (r : Fin 512) (k : Fin 256), y = ix4 0 0 r k :=
      ⟨y 2, y 3, (eq_ix4 y).trans (congrArg₂ (fun a b => ix4 a b (y 2) (y 3)) (Subsingleton.elim _ _) (Subsingleton.elim _ _))⟩
    rw [after0_2, show (win0_2.blk t).view.emb (ix4 0 0 r k) = ix4 ⟨t.val / 16, by have := lt_of_lt_of_eq t.isLt N_0; omega⟩ 1 r k from by blk_ext [idx t]]
    exact out_apply m c t ht r k
  exact (congrFun h _).trans (if_pos (Nat.div_one _))

/-- The second layer's part, taken out of the stacked gradient. -/
theorem sliced (v : FVec Ideal S4x2x512x256 .bf16) (x : FVec Ideal S16384x512 .bf16) (d : FVec Ideal S16384x1024 .bf16)
    (h : ∀ (a : Fin 4) (r : Fin 512) (k : Fin 256), v (ix4 a 1 r k) = Cert.GradB1.rowSum x d a r k) :
    shapeCast S4x512x256 (extractStridedSlice S4x1x512x256 ![0, 1, 0, 0] v slices_S4x2x512x256_S4x1x512x256_0_1_0_0)
      shapeCasts_S4x1x512x256_S4x512x256 = Cert.GradB1.grad x d := by
  funext j
  obtain ⟨a, r, k, rfl⟩ : ∃ (a : Fin _) (r : Fin _) (k : Fin _), j = ix3 a r k := ⟨_, _, _, eq_ix3 j⟩
  refine Eq.trans ?_ (h a r k)
  pointwise

/-- What the lines after the call leave in the result. -/
theorem tail : Pipeline.afterTail₀ cfgs (dats m) 0 (V0 m) [hostOps1] c main_v2 = Cert.GradB1.grad (ax m c) (ad m c) := by
  refine Eq.trans ?_ (sliced _ (ax m c) (ad m c) (stacked m c))
  unfold Pipeline.afterTail₀
  simp only [hostOps1, List.flatten_cons, List.flatten_nil, List.append_nil, StableHlo.after_cons, StableHlo.after_nil]
  rw [StableHlo.reshape_result', StableHlo.unary_result']
  rw [Pipeline.withArrays_arr _ winFacts0.arr_inj c _ _ (2 : Fin 3)]
  rfl

/-- The call and the lines after it. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v2) = Cert.GradB1.grad (ax m c) (ad m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨(h.1 c).2 main_v2 (Pipeline.mem_restRefs_of main_v2 (by decide) (by decide)) |>.trans (tail m c), h.2.1 c⟩)
    (θ_run_and (run_main m ρ) (frame m ρ))

end Cert.Kernel24Ideal.GradB1

/-! ## The claims -/

namespace Cert.GradB1

open Idealize.ShloMosaic Idealize.ShloMosaic.TcCoe Idealize.SL.Sem

theorem kernel : Cert.quiescent_Kernel24 := fun m g _ => Cert.Kernel24.Gen.frame m g
theorem kernelIdeal : Cert.quiescent_Kernel24Ideal := fun m g _ => Cert.Kernel24Ideal.Gen.frame m g
theorem referenceIdeal : Cert.quiescent_Reference24Ideal := fun m g _ =>
  (θ_run Cert.Reference24Ideal.defs _ _).mono (fun r h => ⟨fun c => (h c).2, sem_eq_zero_of_no_sems (by decide) r.2⟩)
    (Cert.Reference24Ideal.Value.run (F := Ideal) m g)

theorem algebraic : Cert.algebraic_Kernel24Ideal_Reference24Ideal := fun m g m' g' hpre hag =>
  ⟨fun c => grad (Cert.Kernel24Ideal.GradB1.ax m c) (Cert.Kernel24Ideal.GradB1.ad m c),
    Cert.Kernel24Ideal.GradB1.run m g,
    (θ_run _ _ _).mono (fun _ h c => ⟨(h c).1.trans (by
        rw [(hag c).1, (hag c).2]; exact Cert.Reference24Ideal.GradB1.value _ _), (h c).2⟩)
      (Cert.Reference24Ideal.Value.run (F := Ideal) m' g')⟩

end Cert.GradB1

end
-- ==== Proof.GradPle1.lean ====
/- The second layer's gradient of the embedding's projection after the kernel's last block of rows: the sum over all rows, entry by entry. -/
module

public import proofs.«01_k».proof.Defs
public import proofs.«01_k».proof.Proof.Gen.Kernel25.Frame
public import proofs.«01_k».proof.Proof.Gen.Kernel25Ideal.Frame
public import proofs.«01_k».proof.Proof.Gen.Reference25Ideal.Run
import Idealize.ShloMosaic.Lib.Pointwise
import Idealize.ShloMosaic.Lib.Pipeline.ReadBack
public import Idealize.ShloMosaic.Lib.Pipeline.ValueKit

@[expose] public section

set_option maxRecDepth 16384

noncomputable section

namespace Cert.GradPle1

open Idealize.ShloMosaic

/-- The rows' products of one input feature with one column of the incoming gradient. -/
def rowSum (x : (⟨2, ![16384, 256]⟩ : Shape).Idx → EReal) (d : (⟨2, ![16384, 1024]⟩ : Shape).Idx → EReal) (a : Fin 4) (r : Fin 256) (k : Fin 256) : EReal :=
  ∑ s : Fin 16384, x (ix2 s r) * d (ix2 s ⟨256 * a.val + k.val, by omega⟩)

/-- The second layer's gradient. -/
def grad (x : (⟨2, ![16384, 256]⟩ : Shape).Idx → EReal) (d : (⟨2, ![16384, 1024]⟩ : Shape).Idx → EReal) (j : (⟨3, ![4, 256, 256]⟩ : Shape).Idx) : EReal :=
  rowSum x d (j 0) (j 1) (j 2)

end Cert.GradPle1

namespace Cert.Reference25Ideal.GradPle1

open Cert.Reference25Ideal Cert.Reference25Ideal.Gen Idealize.ShloMosaic

theorem value (x : FVec Ideal S16384x256 .f32) (d : FVec Ideal S16384x1024 .bf16) :
    truncf .bf16 (transpose S4x256x256 [1, 0, 2] (shapeCast S256x4x256 (transpose S256x1024 [1, 0] (Host.dotGeneral
      dot_S16384x1024_S16384x256_S1024x256_0_0_1_1_n_n none (extf .f32 d bitsLt_bf16_f32) x) transposes_S1024x256_S256x1024_1_0)
      shapeCasts_S256x1024_S256x4x256) transposes_S256x4x256_S4x256x256_1_0_2) bitsLt_bf16_f32 = Cert.GradPle1.grad x d := by
  funext j
  obtain ⟨a, r, k, rfl⟩ : ∃ (a : Fin _) (r : Fin _) (k : Fin _), j = ix3 a r k := ⟨_, _, _, eq_ix3 j⟩
  unfold Cert.GradPle1.grad Cert.GradPle1.rowSum
  pointwise
  refine Finset.sum_congr rfl fun s _ => (mul_comm _ _).trans ?_
  refine congrArg₂ (· * ·) (congrArg x ?_) (congrArg d ?_)
  all_goals (congr 1 <;> refine Fin.ext ?_ <;> simp only <;> omega)

end Cert.Reference25Ideal.GradPle1

namespace Cert.Kernel25Ideal.GradPle1

open Cert.Kernel25Ideal Cert.Kernel25Ideal.Gen Idealize.ShloMosaic Idealize.ShloMosaic.TcCoe Idealize.SL.Sem
open Idealize.ShloMosaic.Pipeline (Dat)

variable (m : (l : Loc nD τ sig) → Buf (Elt Ideal) l) (c : Dev nD)

abbrev ax : FVec Ideal S16384x256 .f32 := m ((c : Thread nD τ).loc main_arg0)
abbrev ad : FVec Ideal S16384x1024 .bf16 := m ((c : Thread nD τ).loc main_arg1)

theorem idx : ∀ t : Fin cfg0.N, win0_0.index t = ![t.val % 16, 0]
    ∧ win0_1.index t = ![t.val % 16, t.val / 16] ∧ win0_2.index t = ![t.val / 16, 1, 0, 0] :=
  (by decide +kernel : ∀ t : Fin grid0.N, _)

/-- One block of rows' product. -/
abbrev part (t : Fin cfg0.N) : FVec Ideal S256x256 .f32 := k0_pay1 (iblk m c 0 t) (iblk m c 1 t)

theorem part_apply (t : Fin cfg0.N) (r : Fin 256) (k : Fin 256) : part m c t (ix2 r k)
    = ∑ s : Fin 1024, ax m c (ix2 ⟨1024 * (t.val % 16) + s.val, by omega⟩ r)
        * ad m c (ix2 ⟨1024 * (t.val % 16) + s.val, by omega⟩ ⟨256 * (t.val / 16) + k.val, by have := lt_of_lt_of_eq t.isLt N_0; omega⟩) := by
  unfold part
  pointwise [k0_pay1]
  refine Finset.sum_congr rfl fun k _ => congrArg₂ (· * ·) ?_ ?_
  · blk_point [iblk, V, idx t]
  · blk_point [iblk, V, idx t]

theorem acc_A (t : Fin cfg0.N) (h : t.val % 16 = 0) (j : S256x256.Idx) : (outsAt0 m c t.val t.isLt).2 j = part m c t j := by
  rw [outsAt0_A m c t h (by omega) (by omega)]; frame_out
  pointwise [k0_pay2]

theorem acc_B (t : Fin cfg0.N) (h : ¬t.val % 16 = 0) (j : S256x256.Idx) : (outsAt0 m c t.val t.isLt).2 j
    = (outsAt0 m c (t.val - 1) (Nat.lt_of_le_of_lt (Nat.sub_le _ _) t.isLt)).2 j + part m c t j := by
  by_cases h7 : t.val % 16 = 15
  · rw [outsAt0_C m c t h (by omega) h7]; frame_out
    simp only [read_unread_whole]
    pointwise [k0_pay3]
  · rw [outsAt0_B m c t h (by omega) h7]; frame_out
    simp only [read_unread_whole]
    pointwise [k0_pay3]

theorem out_C (t : Fin cfg0.N) (h : t.val % 16 = 15) (r : Fin 256) (k : Fin 256) :
    (outsAt0 m c t.val t.isLt).1 (ix4 0 0 r k) = (outsAt0 m c t.val t.isLt).2 (ix2 r k) := by
  rw [outsAt0_C m c t (by omega) (by omega) h]; frame_out
  pointwise [k0_pay4]

/-- The blocks of rows make up the gradient. -/
theorem sum_parts (t : Fin cfg0.N) (ht : t.val % 16 = 16 - 1) (r : Fin 256) (k : Fin 256) :
    ∑ s : Fin 16, part m c ⟨16 * (t.val / 16) + s.val, Pipeline.run_point_lt_of_flush t ht s⟩ (ix2 r k)
      = Cert.GradPle1.rowSum (ax m c) (ad m c) ⟨t.val / 16, by have := lt_of_lt_of_eq t.isLt N_0; omega⟩ r k := by
  unfold Cert.GradPle1.rowSum
  rw [Fin.sum_univ_tiles 16 1024 rfl]
  refine Finset.sum_congr rfl fun s _ => ?_
  rw [part_apply]
  refine Finset.sum_congr rfl fun k _ => congrArg₂ (· * ·) (congrArg (ax m c) ?_) (congrArg (ad m c) ?_)
  all_goals (congr 1 <;> refine Fin.ext ?_ <;> simp only <;> omega)

/-- What the last block of rows writes back. -/
theorem out_apply (t : Fin cfg0.N) (ht : t.val % 16 = 16 - 1) (r : Fin 256) (k : Fin 256) :
    (outsAt0 m c t.val t.isLt).1 (ix4 0 0 r k) = Cert.GradPle1.rowSum (ax m c) (ad m c) ⟨t.val / 16, by have := lt_of_lt_of_eq t.isLt N_0; omega⟩ r k := by
  rw [out_C m c t ht, Pipeline.eq_sum_fin_of_reset_step_apply_of_flush (fun n h => (outsAt0 m c n h).2) 16 (fun _ => 0)
    (fun t => part m c t) (fun t h j => by rw [acc_A m c t h, zero_add]) (fun t h j => acc_B m c t h j) t ht _, zero_add]
  exact sum_parts m c t ht r k

/-- The stacked gradient the call leaves: the second layer's part computed. -/
theorem stacked (a : Fin 4) (r : Fin 256) (k : Fin 256) : (dats m 0 c).arrAt 2 (cfgs 0).N (ix4 a 1 r k)
    = Cert.GradPle1.rowSum (ax m c) (ad m c) a r k := by
  have h : (dats m 0 c).arrAt 2 (cfgs 0).N = fun j : S4x2x256x256.Idx => if (j 1 : ℕ) / 1 = 1 then
      Cert.GradPle1.rowSum (ax m c) (ad m c) (j 0) (j 2) (j 3) else V m c main_v0 j := by
    refine (dats m 0 c).arrAt_eq_of_coversWhere 2 _ (fun β => β (1 : Fin _) = 1) (by decide +kernel) (fun t hf y => ?_)
      (fun j => Iff.rfl)
    blk_simp
    have ht := (flush0_2 t).mp hf
    obtain ⟨r, k, rfl⟩ : ∃ (r : Fin 256) (k : Fin 256), y = ix4 0 0 r k :=
      ⟨y 2, y 3, (eq_ix4 y).trans (congrArg₂ (fun a b => ix4 a b (y 2) (y 3)) (Subsingleton.elim _ _) (Subsingleton.elim _ _))⟩
    rw [after0_2, show (win0_2.blk t).view.emb (ix4 0 0 r k) = ix4 ⟨t.val / 16, by have := lt_of_lt_of_eq t.isLt N_0; omega⟩ 1 r k from by blk_ext [idx t]]
    exact out_apply m c t ht r k
  exact (congrFun h _).trans (if_pos (Nat.div_one _))

/-- The second layer's part, taken out of the stacked gradient. -/
theorem sliced (v : FVec Ideal S4x2x256x256 .bf16) (x : FVec Ideal S16384x256 .f32) (d : FVec Ideal S16384x1024 .bf16)
    (h : ∀ (a : Fin 4) (r : Fin 256) (k : Fin 256), v (ix4 a 1 r k) = Cert.GradPle1.rowSum x d a r k) :
    shapeCast S4x256x256 (extractStridedSlice S4x1x256x256 ![0, 1, 0, 0] v slices_S4x2x256x256_S4x1x256x256_0_1_0_0)
      shapeCasts_S4x1x256x256_S4x256x256 = Cert.GradPle1.grad x d := by
  funext j
  obtain ⟨a, r, k, rfl⟩ : ∃ (a : Fin _) (r : Fin _) (k : Fin _), j = ix3 a r k := ⟨_, _, _, eq_ix3 j⟩
  refine Eq.trans ?_ (h a r k)
  pointwise

/-- What the lines after the call leave in the result. -/
theorem tail : Pipeline.afterTail₀ cfgs (dats m) 0 (V0 m) [hostOps1] c main_v2 = Cert.GradPle1.grad (ax m c) (ad m c) := by
  refine Eq.trans ?_ (sliced _ (ax m c) (ad m c) (stacked m c))
  unfold Pipeline.afterTail₀
  simp only [hostOps1, List.flatten_cons, List.flatten_nil, List.append_nil, StableHlo.after_cons, StableHlo.after_nil]
  rw [StableHlo.reshape_result', StableHlo.unary_result']
  rw [Pipeline.withArrays_arr _ winFacts0.arr_inj c _ _ (2 : Fin 3)]
  rfl

/-- The call and the lines after it. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v2) = Cert.GradPle1.grad (ax m c) (ad m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨(h.1 c).2 main_v2 (Pipeline.mem_restRefs_of main_v2 (by decide) (by decide)) |>.trans (tail m c), h.2.1 c⟩)
    (θ_run_and (run_main m ρ) (frame m ρ))

end Cert.Kernel25Ideal.GradPle1

/-! ## The claims -/

namespace Cert.GradPle1

open Idealize.ShloMosaic Idealize.ShloMosaic.TcCoe Idealize.SL.Sem

theorem kernel : Cert.quiescent_Kernel25 := fun m g _ => Cert.Kernel25.Gen.frame m g
theorem kernelIdeal : Cert.quiescent_Kernel25Ideal := fun m g _ => Cert.Kernel25Ideal.Gen.frame m g
theorem referenceIdeal : Cert.quiescent_Reference25Ideal := fun m g _ =>
  (θ_run Cert.Reference25Ideal.defs _ _).mono (fun r h => ⟨fun c => (h c).2, sem_eq_zero_of_no_sems (by decide) r.2⟩)
    (Cert.Reference25Ideal.Value.run (F := Ideal) m g)

theorem algebraic : Cert.algebraic_Kernel25Ideal_Reference25Ideal := fun m g m' g' hpre hag =>
  ⟨fun c => grad (Cert.Kernel25Ideal.GradPle1.ax m c) (Cert.Kernel25Ideal.GradPle1.ad m c),
    Cert.Kernel25Ideal.GradPle1.run m g,
    (θ_run _ _ _).mono (fun _ h c => ⟨(h c).1.trans (by
        rw [(hag c).1, (hag c).2]; exact Cert.Reference25Ideal.GradPle1.value _ _), (h c).2⟩)
      (Cert.Reference25Ideal.Value.run (F := Ideal) m' g')⟩

end Cert.GradPle1

end
-- ==== Proof.Merge1.lean ====
/- The second layer's merge of its two branches under their gates, and the output projection. -/
module

public import proofs.«01_k».proof.Defs
public import proofs.«01_k».proof.Proof.Gen.Kernel26.Frame
public import proofs.«01_k».proof.Proof.Gen.Kernel26Ideal.Value
public import proofs.«01_k».proof.Proof.Gen.Reference26Ideal.Run
import Idealize.ShloMosaic.Lib.Pointwise
public import Idealize.ShloMosaic.Lib.Pipeline.ValueKit
public import proofs.«01_k».proof.Proof.Products
@[expose] public section

set_option maxRecDepth 16384

noncomputable section

namespace Cert.Merge1

open Idealize.ShloMosaic

/-- The two branches, each under the logistic of its own gate, which are the last two of `z`'s column blocks. -/
def merged (a b : (⟨2, ![16384, 1024]⟩ : Shape).Idx → EReal) (z : (⟨2, ![16384, 8192]⟩ : Shape).Idx → EReal)
    (j : (⟨2, ![16384, 1024]⟩ : Shape).Idx) : EReal :=
  Ideal.logistic (z (ix2 (j 0) ⟨6144 + (j 1).val, by have := (j 1).isLt; simp at this; omega⟩)) * a j
    + Ideal.logistic (z (ix2 (j 0) ⟨7168 + (j 1).val, by have := (j 1).isLt; simp at this; omega⟩)) * b j

theorem merged_apply (a b : (⟨2, ![16384, 1024]⟩ : Shape).Idx → EReal) (z : (⟨2, ![16384, 8192]⟩ : Shape).Idx → EReal)
    (n : Fin 16384) (q : Fin 1024) : merged a b z (ix2 n q) = Ideal.logistic (z (ix2 n ⟨6144 + q.val, by omega⟩)) * a (ix2 n q)
      + Ideal.logistic (z (ix2 n ⟨7168 + q.val, by omega⟩)) * b (ix2 n q) := rfl

end Cert.Merge1

namespace Cert.Reference26Ideal.Merge1

open Cert.Reference26Ideal Cert.Reference26Ideal.Gen Idealize.ShloMosaic

abbrev one : FVec Ideal S16384x1024 .f32 := broadcastInDim S16384x1024 ![] bcast_S_S16384x1024 (constant S_ .f32 0x3F800000#32)
abbrev sig (g : FVec Ideal S16384x1024 .f32) : FVec Ideal S16384x1024 .f32 := Host.divf one (addf one (Host.exp (Host.negf g)))

/-- The merged branches as the reference writes them. -/
abbrev line (a b : FVec Ideal S16384x1024 .f32) (z : FVec Ideal S16384x8192 .f32) : FVec Ideal S16384x1024 .f32 :=
  addf (mulf (sig (extractStridedSlice S16384x1024 ![0, 6144] z slices_S16384x8192_S16384x1024_0_6144)) a)
    (mulf (sig (extractStridedSlice S16384x1024 ![0, 7168] z slices_S16384x8192_S16384x1024_0_7168)) b)

theorem line_eq (a b : FVec Ideal S16384x1024 .f32) (z : FVec Ideal S16384x8192 .f32) : line a b z = Cert.Merge1.merged a b z := by
  funext j
  obtain ⟨n, q, rfl⟩ : ∃ (n : Fin _) (q : Fin _), j = ix2 n q := ⟨_, _, eq_ix2 j⟩
  rw [Cert.Merge1.merged_apply]
  unfold line sig one Ideal.logistic
  pointwise

theorem proj_eq (x : FVec Ideal S16384x1024 .f32) (w : FVec Ideal S4x2x256x1024 .bf16) :
    Host.dotGeneral dot_S16384x1024_S1024x1024_S16384x1024_1_0_0_1_n_n none x (extf .f32 (shapeCast S1024x1024 (shapeCast S4x256x1024
      (extractStridedSlice S4x1x256x1024 ![0, 1, 0, 0] w slices_S4x2x256x1024_S4x1x256x1024_0_1_0_0)
      shapeCasts_S4x1x256x1024_S4x256x1024) shapeCasts_S4x256x1024_S1024x1024) bitsLt_bf16_f32) = Cert.Products.rows 1 x w := by
  funext j
  obtain ⟨n, q, rfl⟩ : ∃ (n : Fin _) (q : Fin _), j = ix2 n q := ⟨_, _, eq_ix2 j⟩
  rw [Cert.Products.rows_apply]
  pointwise

end Cert.Reference26Ideal.Merge1

namespace Cert.Kernel26Ideal.Merge1

open Cert.Kernel26Ideal Cert.Kernel26Ideal.Gen
open Idealize.ShloMosaic Idealize.ShloMosaic.TcCoe Idealize.SL.Sem
open Idealize.ShloMosaic.Pipeline (Dat)

variable (m : (l : Loc nD τ sig) → Buf (Elt Ideal) l) (c : Dev nD)

abbrev ba : FVec Ideal S16384x1024 .f32 := m ((c : Thread nD τ).loc main_arg0)
abbrev bb : FVec Ideal S16384x1024 .f32 := m ((c : Thread nD τ).loc main_arg1)
abbrev zs : FVec Ideal S16384x8192 .f32 := m ((c : Thread nD τ).loc main_arg2)
abbrev wt : FVec Ideal S4x2x256x1024 .bf16 := m ((c : Thread nD τ).loc main_arg3)
abbrev mg : S16384x1024.Idx → EReal := Cert.Merge1.merged (ba m c) (bb m c) (zs m c)

theorem idx : ∀ t : Fin cfg0.N, win0_0.index t = ![t.val, 0] ∧ win0_1.index t = ![t.val, 0] ∧ win0_2.index t = ![t.val, 6]
    ∧ win0_3.index t = ![t.val, 7] ∧ win0_4.index t = ![0, 1, 0, 0] ∧ win0_5.index t = ![t.val, 0] ∧ win0_6.index t = ![t.val, 0] :=
  (by decide +kernel : ∀ t : Fin grid0.N, _)

/-- Where a block's element lies in the whole array. -/
abbrev pt (t : Fin cfg0.N) (i : Fin 512) (q : Fin 1024) : S16384x1024.Idx :=
  ix2 ⟨512 * t.val + i.val, by have := lt_of_lt_of_eq t.isLt N_0; omega⟩ q

theorem mg_apply (t : Fin cfg0.N) (i : Fin 512) (q : Fin 1024) :
    k0_pay1 (iblk m c 2 t) (iblk m c 0 t) (iblk m c 3 t) (iblk m c 1 t) (ix2 i q) = mg m c (pt t i q) := by
  unfold mg pt
  rw [Cert.Merge1.merged_apply]
  pointwise [k0_pay1]
  refine congrArg₂ (· + ·) (congrArg₂ (· * ·) (congrArg Ideal.logistic ?_) ?_) (congrArg₂ (· * ·) (congrArg Ideal.logistic ?_) ?_)
  all_goals blk_point [iblk, V, idx t]

theorem mix_apply (t : Fin cfg0.N) (i : Fin 512) (q : Fin 1024) :
    k0_pay3 (iblk m c 2 t) (iblk m c 0 t) (iblk m c 3 t) (iblk m c 1 t) (iblk m c 4 t) (ix2 i q) = Cert.Products.rows 1 (mg m c) (wt m c) (pt t i q) := by
  unfold pt
  rw [Cert.Products.rows_apply]
  pointwise [k0_pay3]
  refine Finset.sum_congr rfl fun f _ => congrArg₂ (· * ·) (mg_apply m c t i f) ?_
  blk_point [iblk, V, idx t]

theorem out5 (t : Fin cfg0.N) (i : Fin 512) (q : Fin 1024) : (dats m 0 c).after 5 t (ix2 i q) = mg m c (pt t i q) := by
  rw [after0_5, ← mg_apply]
  frame_out
  pointwise [k0_pay2]
theorem out6 (t : Fin cfg0.N) (i : Fin 512) (q : Fin 1024) : (dats m 0 c).after 6 t (ix2 i q)
    = Cert.Products.rows 1 (mg m c) (wt m c) (pt t i q) := by
  rw [after0_6, ← mix_apply]
  frame_out

theorem final5 : (dats m 0 c).arrAt 5 (cfgs 0).N = mg m c := by
  refine (dats m 0 c).arrAt_eq_of_covers 5 _ (by decide +kernel) fun t hf y => ?_
  blk_simp
  obtain ⟨i, q, rfl⟩ : ∃ (i : Fin 512) (q : Fin 1024), y = ix2 i q := ⟨_, _, eq_ix2 y⟩
  rw [show (win0_5.blk t).view.emb (ix2 i q) = pt t i q from by unfold pt; blk_ext [idx t]]
  exact out5 m c t i q

theorem final6 : (dats m 0 c).arrAt 6 (cfgs 0).N = Cert.Products.rows 1 (mg m c) (wt m c) := by
  refine (dats m 0 c).arrAt_eq_of_covers 6 _ (by decide +kernel) fun t hf y => ?_
  blk_simp
  obtain ⟨i, q, rfl⟩ : ∃ (i : Fin 512) (q : Fin 1024), y = ix2 i q := ⟨_, _, eq_ix2 y⟩
  rw [show (win0_6.blk t).view.emb (ix2 i q) = pt t i q from by unfold pt; blk_ext [idx t]]
  exact out6 m c t i q

end Cert.Kernel26Ideal.Merge1

/-! ## The claims -/

namespace Cert.Merge1

open Idealize.ShloMosaic Idealize.ShloMosaic.TcCoe Idealize.SL.Sem

theorem kernel : Cert.quiescent_Kernel26 := fun m g _ => Cert.Kernel26.Gen.frame m g
theorem kernelIdeal : Cert.quiescent_Kernel26Ideal := fun m g _ => Cert.Kernel26Ideal.Gen.frame m g
theorem referenceIdeal : Cert.quiescent_Reference26Ideal := fun m g _ =>
  (θ_run Cert.Reference26Ideal.defs _ _).mono (fun r h => ⟨fun c => (h c).2.2, sem_eq_zero_of_no_sems (by decide) r.2⟩)
    (Cert.Reference26Ideal.Value.run (F := Ideal) m g)

theorem algebraic : Cert.algebraic_Kernel26Ideal_Reference26Ideal := fun m g m' g' hpre hag =>
  ⟨fun c => Cert.Kernel26Ideal.Merge1.mg m c, fun c => Cert.Products.rows 1 (Cert.Kernel26Ideal.Merge1.mg m c) (Cert.Kernel26Ideal.Merge1.wt m c),
    (θ_run _ _ _).mono (fun _ h c => ⟨(h c).1.trans (Cert.Kernel26Ideal.Merge1.final5 m c), (h c).2.1.trans (Cert.Kernel26Ideal.Merge1.final6 m c), (h c).2.2⟩)
      (Cert.Kernel26Ideal.Value.run_blocks m g),
    (θ_run _ _ _).mono (fun _ h c => by
      obtain ⟨h0, h1, ha⟩ := h c
      obtain ⟨a0, a1, a2, a3⟩ := hag c
      rw [a0, a1, a2] at h0
      rw [a0, a1, a2, a3] at h1
      refine ⟨h0.trans (Cert.Reference26Ideal.Merge1.line_eq _ _ _), h1.trans ?_, ha⟩
      refine (Cert.Reference26Ideal.Merge1.proj_eq (Cert.Reference26Ideal.Merge1.line _ _ _) _).trans ?_
      rw [Cert.Reference26Ideal.Merge1.line_eq])
      (Cert.Reference26Ideal.Value.run (F := Ideal) m' g')⟩

end Cert.Merge1

end
-- ==== Proof.PleGate1.lean ====
/- The second layer's embedding gate: the projection of the gate and the embeddings added under it. -/
module

public import proofs.«01_k».proof.Defs
public import proofs.«01_k».proof.Proof.Gen.Kernel27.Frame
public import proofs.«01_k».proof.Proof.Gen.Kernel27Ideal.Value
public import proofs.«01_k».proof.Proof.Gen.Reference27Ideal.Run
import Idealize.ShloMosaic.Lib.Pointwise
public import Idealize.ShloMosaic.Lib.Pipeline.ValueKit
public import proofs.«01_k».proof.Proof.Products
@[expose] public section

set_option maxRecDepth 16384

noncomputable section

namespace Cert.PleGate1

open Idealize.ShloMosaic

/-- The embeddings added under the gate. -/
def mixed (x g p : (⟨2, ![16384, 1024]⟩ : Shape).Idx → EReal) (j : (⟨2, ![16384, 1024]⟩ : Shape).Idx) : EReal :=
  x j + p j * Ideal.logistic (g j)

end Cert.PleGate1

namespace Cert.Reference27Ideal.PleGate1

open Cert.Reference27Ideal Cert.Reference27Ideal.Gen Idealize.ShloMosaic

/-- The gate's projection as the reference writes it. -/
abbrev line (x : FVec Ideal S16384x1024 .f32) (w : FVec Ideal S4x2x256x1024 .bf16) : FVec Ideal S16384x1024 .f32 :=
  Host.dotGeneral dot_S16384x1024_S1024x1024_S16384x1024_1_0_0_1_n_n none x (extf .f32 (shapeCast S1024x1024 (shapeCast
      S4x256x1024 (extractStridedSlice S4x1x256x1024 ![0, 1, 0, 0] w slices_S4x2x256x1024_S4x1x256x1024_0_1_0_0)
      shapeCasts_S4x1x256x1024_S4x256x1024) shapeCasts_S4x256x1024_S1024x1024) bitsLt_bf16_f32)

theorem line_eq (x : FVec Ideal S16384x1024 .f32) (w : FVec Ideal S4x2x256x1024 .bf16) : line x w = Cert.Products.rows 1 x w := by
  funext j
  obtain ⟨n, q, rfl⟩ : ∃ (n : Fin _) (q : Fin _), j = ix2 n q := ⟨_, _, eq_ix2 j⟩
  rw [Cert.Products.rows_apply]
  unfold line
  pointwise

abbrev one : FVec Ideal S16384x1024 .f32 := broadcastInDim S16384x1024 ![] bcast_S_S16384x1024 (constant S_ .f32 0x3F800000#32)
abbrev sig (g : FVec Ideal S16384x1024 .f32) : FVec Ideal S16384x1024 .f32 := Host.divf one (addf one (Host.exp (Host.negf g)))

theorem mixed_eq (x g p : FVec Ideal S16384x1024 .f32) : addf x (mulf p (sig g)) = Cert.PleGate1.mixed x g p := by
  funext j
  unfold Cert.PleGate1.mixed sig one Ideal.logistic
  pointwise

end Cert.Reference27Ideal.PleGate1

namespace Cert.Kernel27Ideal.PleGate1

open Cert.Kernel27Ideal Cert.Kernel27Ideal.Gen
open Idealize.ShloMosaic Idealize.ShloMosaic.TcCoe Idealize.SL.Sem
open Idealize.ShloMosaic.Pipeline (Dat)

variable (m : (l : Loc nD τ sig) → Buf (Elt Ideal) l) (c : Dev nD)

abbrev hid : FVec Ideal S16384x1024 .f32 := m ((c : Thread nD τ).loc main_arg0)
abbrev wt : FVec Ideal S4x2x256x1024 .bf16 := m ((c : Thread nD τ).loc main_arg1)
abbrev emb : FVec Ideal S16384x1024 .f32 := m ((c : Thread nD τ).loc main_arg2)
abbrev gate : S16384x1024.Idx → EReal := Cert.Products.rows 1 (hid m c) (wt m c)

theorem idx : ∀ t : Fin cfg0.N, win0_0.index t = ![t.val, 0] ∧ win0_1.index t = ![0, 1, 0, 0] ∧ win0_2.index t = ![t.val, 0]
    ∧ win0_3.index t = ![t.val, 0] ∧ win0_4.index t = ![t.val, 0] :=
  (by decide +kernel : ∀ t : Fin grid0.N, _)

/-- Where a block's element lies in the whole array. -/
abbrev pt (t : Fin cfg0.N) (i : Fin 512) (q : Fin 1024) : S16384x1024.Idx :=
  ix2 ⟨512 * t.val + i.val, by have := lt_of_lt_of_eq t.isLt N_0; omega⟩ q

theorem gate_apply (t : Fin cfg0.N) (i : Fin 512) (q : Fin 1024) : k0_pay1 (iblk m c 0 t) (iblk m c 1 t) (ix2 i q) = gate m c (pt t i q) := by
  unfold gate pt
  rw [Cert.Products.rows_apply]
  pointwise [k0_pay1]
  refine Finset.sum_congr rfl fun f _ => congrArg₂ (· * ·) ?_ ?_
  all_goals blk_point [iblk, V, idx t]
theorem hid_apply (t : Fin cfg0.N) (i : Fin 512) (q : Fin 1024) : iblk m c 0 t (ix2 i q) = hid m c (pt t i q) := by
  unfold pt; blk_point [iblk, V, idx t]
theorem emb_apply (t : Fin cfg0.N) (i : Fin 512) (q : Fin 1024) : iblk m c 2 t (ix2 i q) = emb m c (pt t i q) := by
  unfold pt; blk_point [iblk, V, idx t]

theorem out3 (t : Fin cfg0.N) (i : Fin 512) (q : Fin 1024) : (dats m 0 c).after 3 t (ix2 i q) = gate m c (pt t i q) := by
  rw [after0_3, ← gate_apply]
  frame_out
theorem out4 (t : Fin cfg0.N) (i : Fin 512) (q : Fin 1024) : (dats m 0 c).after 4 t (ix2 i q)
    = Cert.PleGate1.mixed (hid m c) (gate m c) (emb m c) (pt t i q) := by
  rw [after0_4, Cert.PleGate1.mixed, ← gate_apply, ← hid_apply, ← emb_apply]
  frame_out
  pointwise [k0_pay2]

theorem final3 : (dats m 0 c).arrAt 3 (cfgs 0).N = gate m c := by
  refine (dats m 0 c).arrAt_eq_of_covers 3 _ (by decide +kernel) fun t hf y => ?_
  blk_simp
  obtain ⟨i, q, rfl⟩ : ∃ (i : Fin 512) (q : Fin 1024), y = ix2 i q := ⟨_, _, eq_ix2 y⟩
  rw [show (win0_3.blk t).view.emb (ix2 i q) = pt t i q from by unfold pt; blk_ext [idx t]]
  exact out3 m c t i q

theorem final4 : (dats m 0 c).arrAt 4 (cfgs 0).N = Cert.PleGate1.mixed (hid m c) (gate m c) (emb m c) := by
  refine (dats m 0 c).arrAt_eq_of_covers 4 _ (by decide +kernel) fun t hf y => ?_
  blk_simp
  obtain ⟨i, q, rfl⟩ : ∃ (i : Fin 512) (q : Fin 1024), y = ix2 i q := ⟨_, _, eq_ix2 y⟩
  rw [show (win0_4.blk t).view.emb (ix2 i q) = pt t i q from by unfold pt; blk_ext [idx t]]
  exact out4 m c t i q

end Cert.Kernel27Ideal.PleGate1

/-! ## The claims -/

namespace Cert.PleGate1

open Idealize.ShloMosaic Idealize.ShloMosaic.TcCoe Idealize.SL.Sem

theorem kernel : Cert.quiescent_Kernel27 := fun m g _ => Cert.Kernel27.Gen.frame m g
theorem kernelIdeal : Cert.quiescent_Kernel27Ideal := fun m g _ => Cert.Kernel27Ideal.Gen.frame m g
theorem referenceIdeal : Cert.quiescent_Reference27Ideal := fun m g _ =>
  (θ_run Cert.Reference27Ideal.defs _ _).mono (fun r h => ⟨fun c => (h c).2.2, sem_eq_zero_of_no_sems (by decide) r.2⟩)
    (Cert.Reference27Ideal.Value.run (F := Ideal) m g)

theorem algebraic : Cert.algebraic_Kernel27Ideal_Reference27Ideal := fun m g m' g' hpre hag =>
  ⟨fun c => Cert.Kernel27Ideal.PleGate1.gate m c, fun c => mixed (Cert.Kernel27Ideal.PleGate1.hid m c) (Cert.Kernel27Ideal.PleGate1.gate m c) (Cert.Kernel27Ideal.PleGate1.emb m c),
    (θ_run _ _ _).mono (fun _ h c => ⟨(h c).1.trans (Cert.Kernel27Ideal.PleGate1.final3 m c), (h c).2.1.trans (Cert.Kernel27Ideal.PleGate1.final4 m c), (h c).2.2⟩)
      (Cert.Kernel27Ideal.Value.run_blocks m g),
    (θ_run _ _ _).mono (fun _ h c => by
      obtain ⟨h0, h1, ha⟩ := h c
      obtain ⟨a0, a1, a2⟩ := hag c
      rw [a0, a1] at h0
      rw [a0, a1, a2] at h1
      refine ⟨h0.trans (Cert.Reference27Ideal.PleGate1.line_eq _ _), h1.trans ?_, ha⟩
      refine (Cert.Reference27Ideal.PleGate1.mixed_eq _ (Cert.Reference27Ideal.PleGate1.line _ _) _).trans ?_
      rw [Cert.Reference27Ideal.PleGate1.line_eq])
      (Cert.Reference27Ideal.Value.run (F := Ideal) m' g')⟩

end Cert.PleGate1

end
-- ==== Proof.ProjA1.lean ====
/- The second layer's output projection of the recurrence. -/
module

public import proofs.«01_k».proof.Defs
public import proofs.«01_k».proof.Proof.Gen.Kernel28.Frame
public import proofs.«01_k».proof.Proof.Gen.Kernel28Ideal.Value
public import proofs.«01_k».proof.Proof.Gen.Reference28Ideal.Run
import Idealize.ShloMosaic.Lib.Pointwise
public import Idealize.ShloMosaic.Lib.Pipeline.ValueKit
public import proofs.«01_k».proof.Proof.Products
@[expose] public section

set_option maxRecDepth 16384

noncomputable section

namespace Cert.Reference28Ideal.ProjA1

open Cert.Reference28Ideal Cert.Reference28Ideal.Gen Idealize.ShloMosaic

theorem value (a : FVec Ideal S16384x1024 .bf16) (w : FVec Ideal S4x2x256x1024 .bf16) :
    Host.dotGeneral dot_S16384x1024_S1024x1024_S16384x1024_1_0_0_1_n_n none (extf .f32 a bitsLt_bf16_f32) (extf .f32 (shapeCast
      S1024x1024 (shapeCast S4x256x1024 (extractStridedSlice S4x1x256x1024 ![0, 1, 0, 0] w
      slices_S4x2x256x1024_S4x1x256x1024_0_1_0_0) shapeCasts_S4x1x256x1024_S4x256x1024) shapeCasts_S4x256x1024_S1024x1024)
      bitsLt_bf16_f32) = Cert.Products.rows 1 a w := by
  funext j
  obtain ⟨n, q, rfl⟩ : ∃ (n : Fin _) (q : Fin _), j = ix2 n q := ⟨_, _, eq_ix2 j⟩
  rw [Cert.Products.rows_apply]
  pointwise

end Cert.Reference28Ideal.ProjA1

namespace Cert.Kernel28Ideal.ProjA1

open Cert.Kernel28Ideal Cert.Kernel28Ideal.Gen
open Idealize.ShloMosaic Idealize.ShloMosaic.TcCoe Idealize.SL.Sem
open Idealize.ShloMosaic.Pipeline (Dat)

variable (m : (l : Loc nD τ sig) → Buf (Elt Ideal) l) (c : Dev nD)

abbrev ar : FVec Ideal S16384x1024 .bf16 := m ((c : Thread nD τ).loc main_arg0)
abbrev wt : FVec Ideal S4x2x256x1024 .bf16 := m ((c : Thread nD τ).loc main_arg1)

theorem idx : ∀ t : Fin cfg0.N, win0_0.index t = ![t.val, 0] ∧ win0_1.index t = ![0, 1, 0, 0] ∧ win0_2.index t = ![t.val, 0] :=
  (by decide +kernel : ∀ t : Fin grid0.N, _)

/-- Where a block's element lies in the whole array. -/
abbrev pt (t : Fin cfg0.N) (i : Fin 1024) (q : Fin 1024) : S16384x1024.Idx :=
  ix2 ⟨1024 * t.val + i.val, by have := lt_of_lt_of_eq t.isLt N_0; omega⟩ q

theorem tile_apply (t : Fin cfg0.N) (i : Fin 1024) (q : Fin 1024) :
    k0_pay1 (iblk m c 0 t) (iblk m c 1 t) (ix2 i q) = Cert.Products.rows 1 (ar m c) (wt m c) (pt t i q) := by
  have := lt_of_lt_of_eq t.isLt N_0
  unfold pt
  rw [Cert.Products.rows_apply]
  pointwise [k0_pay1]
  refine Finset.sum_congr rfl fun f _ => congrArg₂ (· * ·) ?_ ?_
  · blk_point [iblk, V, idx t]
  · refine Eq.trans (b := wt m c (ix4 ⟨f.val / 256, by omega⟩ 1 ⟨f.val % 256, by omega⟩ q)) (by blk_point [iblk, V, idx t]) (congrArg _ ?_)
    congr 1 <;> refine Fin.ext ?_ <;> simp only <;> omega

theorem out_apply (t : Fin cfg0.N) (i : Fin 1024) (q : Fin 1024) : (dats m 0 c).after 2 t (ix2 i q)
    = Cert.Products.rows 1 (ar m c) (wt m c) (pt t i q) := by
  rw [after0_2, ← tile_apply]
  frame_out

theorem final : (dats m 0 c).arrAt 2 (cfgs 0).N = Cert.Products.rows 1 (ar m c) (wt m c) := by
  refine (dats m 0 c).arrAt_eq_of_covers 2 _ (by decide +kernel) fun t hf y => ?_
  blk_simp
  obtain ⟨i, q, rfl⟩ : ∃ (i : Fin 1024) (q : Fin 1024), y = ix2 i q := ⟨_, _, eq_ix2 y⟩
  rw [show (win0_2.blk t).view.emb (ix2 i q) = pt t i q from by unfold pt; blk_ext [idx t]]
  exact out_apply m c t i q

end Cert.Kernel28Ideal.ProjA1

/-! ## The claims -/

namespace Cert.ProjA1

open Idealize.ShloMosaic Idealize.ShloMosaic.TcCoe Idealize.SL.Sem

theorem kernel : Cert.quiescent_Kernel28 := fun m g _ => Cert.Kernel28.Gen.frame m g
theorem kernelIdeal : Cert.quiescent_Kernel28Ideal := fun m g _ => Cert.Kernel28Ideal.Gen.frame m g
theorem referenceIdeal : Cert.quiescent_Reference28Ideal := fun m g _ =>
  (θ_run Cert.Reference28Ideal.defs _ _).mono (fun r h => ⟨fun c => (h c).2, sem_eq_zero_of_no_sems (by decide) r.2⟩)
    (Cert.Reference28Ideal.Value.run (F := Ideal) m g)

theorem algebraic : Cert.algebraic_Kernel28Ideal_Reference28Ideal := fun m g m' g' hpre hag =>
  ⟨fun c => Cert.Products.rows 1 (Cert.Kernel28Ideal.ProjA1.ar m c) (Cert.Kernel28Ideal.ProjA1.wt m c),
    (θ_run _ _ _).mono (fun _ h c => ⟨(h c).1.trans (Cert.Kernel28Ideal.ProjA1.final m c), (h c).2⟩)
      (Cert.Kernel28Ideal.Value.run_blocks m g),
    (θ_run _ _ _).mono (fun _ h c => ⟨(h c).1.trans (by
        rw [(hag c).1, (hag c).2]; exact Cert.Reference28Ideal.ProjA1.value _ _), (h c).2⟩)
      (Cert.Reference28Ideal.Value.run (F := Ideal) m' g')⟩

end Cert.ProjA1

end
-- ==== Proof.ProjB1.lean ====
/- The second layer's output projection of the gating unit. -/
module

public import proofs.«01_k».proof.Defs
public import proofs.«01_k».proof.Proof.Gen.Kernel29.Frame
public import proofs.«01_k».proof.Proof.Gen.Kernel29Ideal.Value
public import proofs.«01_k».proof.Proof.Gen.Reference29Ideal.Run
import Idealize.ShloMosaic.Lib.Pointwise
public import Idealize.ShloMosaic.Lib.Pipeline.ValueKit
public import proofs.«01_k».proof.Proof.Products
@[expose] public section

set_option maxRecDepth 16384

noncomputable section

namespace Cert.Reference29Ideal.ProjB1

open Cert.Reference29Ideal Cert.Reference29Ideal.Gen Idealize.ShloMosaic

theorem value (a : FVec Ideal S16384x512 .bf16) (w : FVec Ideal S4x2x512x256 .bf16) :
    Host.dotGeneral dot_S16384x512_S512x1024_S16384x1024_1_0_0_1_n_n none (extf .f32 a bitsLt_bf16_f32) (extf .f32 (shapeCast
      S512x1024 (transpose S512x4x256 [1, 0, 2] (shapeCast S4x512x256 (extractStridedSlice S4x1x512x256 ![0, 1, 0, 0] w
      slices_S4x2x512x256_S4x1x512x256_0_1_0_0) shapeCasts_S4x1x512x256_S4x512x256) transposes_S4x512x256_S512x4x256_1_0_2)
      shapeCasts_S512x4x256_S512x1024) bitsLt_bf16_f32) = Cert.Products.cols 1 a w := by
  funext j
  obtain ⟨n, q, rfl⟩ : ∃ (n : Fin _) (q : Fin _), j = ix2 n q := ⟨_, _, eq_ix2 j⟩
  rw [Cert.Products.cols_apply]
  pointwise

end Cert.Reference29Ideal.ProjB1

namespace Cert.Kernel29Ideal.ProjB1

open Cert.Kernel29Ideal Cert.Kernel29Ideal.Gen
open Idealize.ShloMosaic Idealize.ShloMosaic.TcCoe Idealize.SL.Sem
open Idealize.ShloMosaic.Pipeline (Dat)

variable (m : (l : Loc nD τ sig) → Buf (Elt Ideal) l) (c : Dev nD)

abbrev ar : FVec Ideal S16384x512 .bf16 := m ((c : Thread nD τ).loc main_arg0)
abbrev wt : FVec Ideal S4x2x512x256 .bf16 := m ((c : Thread nD τ).loc main_arg1)

theorem idx : ∀ t : Fin cfg0.N, win0_0.index t = ![t.val % 16, 0] ∧ win0_1.index t = ![t.val / 16, 1, 0, 0]
    ∧ win0_2.index t = ![t.val % 16, t.val / 16] :=
  (by decide +kernel : ∀ t : Fin grid0.N, _)

/-- Where a block's element lies in the whole array. -/
abbrev pt (t : Fin cfg0.N) (i : Fin 1024) (q : Fin 256) : S16384x1024.Idx :=
  ix2 ⟨1024 * (t.val % 16) + i.val, by omega⟩ ⟨256 * (t.val / 16) + q.val, by have := lt_of_lt_of_eq t.isLt N_0; omega⟩

theorem tile_apply (t : Fin cfg0.N) (i : Fin 1024) (q : Fin 256) :
    k0_pay1 (iblk m c 0 t) (iblk m c 1 t) (ix2 i q) = Cert.Products.cols 1 (ar m c) (wt m c) (pt t i q) := by
  have := lt_of_lt_of_eq t.isLt N_0
  unfold pt
  rw [Cert.Products.cols_apply]
  pointwise [k0_pay1]
  refine Finset.sum_congr rfl fun f _ => congrArg₂ (· * ·) ?_ ?_
  · blk_point [iblk, V, idx t]
  · refine Eq.trans (b := wt m c (ix4 ⟨t.val / 16, by omega⟩ 1 f q)) (by blk_point [iblk, V, idx t]) (congrArg _ ?_)
    congr 1 <;> refine Fin.ext ?_ <;> simp only <;> omega

theorem out_apply (t : Fin cfg0.N) (i : Fin 1024) (q : Fin 256) : (dats m 0 c).after 2 t (ix2 i q)
    = Cert.Products.cols 1 (ar m c) (wt m c) (pt t i q) := by
  rw [after0_2, ← tile_apply]
  frame_out

theorem final : (dats m 0 c).arrAt 2 (cfgs 0).N = Cert.Products.cols 1 (ar m c) (wt m c) := by
  refine (dats m 0 c).arrAt_eq_of_covers 2 _ (by decide +kernel) fun t hf y => ?_
  blk_simp
  obtain ⟨i, q, rfl⟩ : ∃ (i : Fin 1024) (q : Fin 256), y = ix2 i q := ⟨_, _, eq_ix2 y⟩
  rw [show (win0_2.blk t).view.emb (ix2 i q) = pt t i q from by unfold pt; blk_ext [idx t]]
  exact out_apply m c t i q

end Cert.Kernel29Ideal.ProjB1

/-! ## The claims -/

namespace Cert.ProjB1

open Idealize.ShloMosaic Idealize.ShloMosaic.TcCoe Idealize.SL.Sem

theorem kernel : Cert.quiescent_Kernel29 := fun m g _ => Cert.Kernel29.Gen.frame m g
theorem kernelIdeal : Cert.quiescent_Kernel29Ideal := fun m g _ => Cert.Kernel29Ideal.Gen.frame m g
theorem referenceIdeal : Cert.quiescent_Reference29Ideal := fun m g _ =>
  (θ_run Cert.Reference29Ideal.defs _ _).mono (fun r h => ⟨fun c => (h c).2, sem_eq_zero_of_no_sems (by decide) r.2⟩)
    (Cert.Reference29Ideal.Value.run (F := Ideal) m g)

theorem algebraic : Cert.algebraic_Kernel29Ideal_Reference29Ideal := fun m g m' g' hpre hag =>
  ⟨fun c => Cert.Products.cols 1 (Cert.Kernel29Ideal.ProjB1.ar m c) (Cert.Kernel29Ideal.ProjB1.wt m c),
    (θ_run _ _ _).mono (fun _ h c => ⟨(h c).1.trans (Cert.Kernel29Ideal.ProjB1.final m c), (h c).2⟩)
      (Cert.Kernel29Ideal.Value.run_blocks m g),
    (θ_run _ _ _).mono (fun _ h c => ⟨(h c).1.trans (by
        rw [(hag c).1, (hag c).2]; exact Cert.Reference29Ideal.ProjB1.value _ _), (h c).2⟩)
      (Cert.Reference29Ideal.Value.run (F := Ideal) m' g')⟩

end Cert.ProjB1

end
-- ==== Proof.ProjPle1.lean ====
/- The second layer's projection of the embeddings. -/
module

public import proofs.«01_k».proof.Defs
public import proofs.«01_k».proof.Proof.Gen.Kernel30.Frame
public import proofs.«01_k».proof.Proof.Gen.Kernel30Ideal.Value
public import proofs.«01_k».proof.Proof.Gen.Reference30Ideal.Run
import Idealize.ShloMosaic.Lib.Pointwise
public import Idealize.ShloMosaic.Lib.Pipeline.ValueKit
public import proofs.«01_k».proof.Proof.Products
@[expose] public section

set_option maxRecDepth 16384

noncomputable section

namespace Cert.Reference30Ideal.ProjPle1

open Cert.Reference30Ideal Cert.Reference30Ideal.Gen Idealize.ShloMosaic

theorem value (a : FVec Ideal S16384x256 .f32) (w : FVec Ideal S4x2x256x256 .bf16) :
    Host.dotGeneral dot_S16384x256_S256x1024_S16384x1024_1_0_0_1_n_n none a (extf .f32 (shapeCast S256x1024 (transpose S256x4x256
      [1, 0, 2] (shapeCast S4x256x256 (extractStridedSlice S4x1x256x256 ![0, 1, 0, 0] w slices_S4x2x256x256_S4x1x256x256_0_1_0_0)
      shapeCasts_S4x1x256x256_S4x256x256) transposes_S4x256x256_S256x4x256_1_0_2) shapeCasts_S256x4x256_S256x1024) bitsLt_bf16_f32) = Cert.Products.cols 1 a w := by
  funext j
  obtain ⟨n, q, rfl⟩ : ∃ (n : Fin _) (q : Fin _), j = ix2 n q := ⟨_, _, eq_ix2 j⟩
  rw [Cert.Products.cols_apply]
  pointwise

end Cert.Reference30Ideal.ProjPle1

namespace Cert.Kernel30Ideal.ProjPle1

open Cert.Kernel30Ideal Cert.Kernel30Ideal.Gen
open Idealize.ShloMosaic Idealize.ShloMosaic.TcCoe Idealize.SL.Sem
open Idealize.ShloMosaic.Pipeline (Dat)

variable (m : (l : Loc nD τ sig) → Buf (Elt Ideal) l) (c : Dev nD)

abbrev ar : FVec Ideal S16384x256 .f32 := m ((c : Thread nD τ).loc main_arg0)
abbrev wt : FVec Ideal S4x2x256x256 .bf16 := m ((c : Thread nD τ).loc main_arg1)

theorem idx : ∀ t : Fin cfg0.N, win0_0.index t = ![t.val % 16, 0] ∧ win0_1.index t = ![t.val / 16, 1, 0, 0]
    ∧ win0_2.index t = ![t.val % 16, t.val / 16] :=
  (by decide +kernel : ∀ t : Fin grid0.N, _)

/-- Where a block's element lies in the whole array. -/
abbrev pt (t : Fin cfg0.N) (i : Fin 1024) (q : Fin 256) : S16384x1024.Idx :=
  ix2 ⟨1024 * (t.val % 16) + i.val, by omega⟩ ⟨256 * (t.val / 16) + q.val, by have := lt_of_lt_of_eq t.isLt N_0; omega⟩

theorem tile_apply (t : Fin cfg0.N) (i : Fin 1024) (q : Fin 256) :
    k0_pay1 (iblk m c 0 t) (iblk m c 1 t) (ix2 i q) = Cert.Products.cols 1 (ar m c) (wt m c) (pt t i q) := by
  have := lt_of_lt_of_eq t.isLt N_0
  unfold pt
  rw [Cert.Products.cols_apply]
  pointwise [k0_pay1]
  refine Finset.sum_congr rfl fun f _ => congrArg₂ (· * ·) ?_ ?_
  · blk_point [iblk, V, idx t]
  · refine Eq.trans (b := wt m c (ix4 ⟨t.val / 16, by omega⟩ 1 f q)) (by blk_point [iblk, V, idx t]) (congrArg _ ?_)
    congr 1 <;> refine Fin.ext ?_ <;> simp only <;> omega

theorem out_apply (t : Fin cfg0.N) (i : Fin 1024) (q : Fin 256) : (dats m 0 c).after 2 t (ix2 i q)
    = Cert.Products.cols 1 (ar m c) (wt m c) (pt t i q) := by
  rw [after0_2, ← tile_apply]
  frame_out

theorem final : (dats m 0 c).arrAt 2 (cfgs 0).N = Cert.Products.cols 1 (ar m c) (wt m c) := by
  refine (dats m 0 c).arrAt_eq_of_covers 2 _ (by decide +kernel) fun t hf y => ?_
  blk_simp
  obtain ⟨i, q, rfl⟩ : ∃ (i : Fin 1024) (q : Fin 256), y = ix2 i q := ⟨_, _, eq_ix2 y⟩
  rw [show (win0_2.blk t).view.emb (ix2 i q) = pt t i q from by unfold pt; blk_ext [idx t]]
  exact out_apply m c t i q

end Cert.Kernel30Ideal.ProjPle1

/-! ## The claims -/

namespace Cert.ProjPle1

open Idealize.ShloMosaic Idealize.ShloMosaic.TcCoe Idealize.SL.Sem

theorem kernel : Cert.quiescent_Kernel30 := fun m g _ => Cert.Kernel30.Gen.frame m g
theorem kernelIdeal : Cert.quiescent_Kernel30Ideal := fun m g _ => Cert.Kernel30Ideal.Gen.frame m g
theorem referenceIdeal : Cert.quiescent_Reference30Ideal := fun m g _ =>
  (θ_run Cert.Reference30Ideal.defs _ _).mono (fun r h => ⟨fun c => (h c).2, sem_eq_zero_of_no_sems (by decide) r.2⟩)
    (Cert.Reference30Ideal.Value.run (F := Ideal) m g)

theorem algebraic : Cert.algebraic_Kernel30Ideal_Reference30Ideal := fun m g m' g' hpre hag =>
  ⟨fun c => Cert.Products.cols 1 (Cert.Kernel30Ideal.ProjPle1.ar m c) (Cert.Kernel30Ideal.ProjPle1.wt m c),
    (θ_run _ _ _).mono (fun _ h c => ⟨(h c).1.trans (Cert.Kernel30Ideal.ProjPle1.final m c), (h c).2⟩)
      (Cert.Kernel30Ideal.Value.run_blocks m g),
    (θ_run _ _ _).mono (fun _ h c => ⟨(h c).1.trans (by
        rw [(hag c).1, (hag c).2]; exact Cert.Reference30Ideal.ProjPle1.value _ _), (h c).2⟩)
      (Cert.Reference30Ideal.Value.run (F := Ideal) m' g')⟩

end Cert.ProjPle1

end
-- ==== Proof.NormMid.lean ====
/- The normalisation after the second layer's mixing, added to the residual, and the normalisation before its feed-forward. -/
module

public import proofs.«01_k».proof.Defs
public import proofs.«01_k».proof.Proof.Gen.Kernel31.Frame
public import proofs.«01_k».proof.Proof.Gen.Kernel31Ideal.Value
public import proofs.«01_k».proof.Proof.Gen.Reference31Ideal.Run
import Idealize.ShloMosaic.Lib.Pointwise
public import Idealize.ShloMosaic.Lib.Pipeline.ValueKit
public import proofs.«01_k».proof.Proof.RmsTile
public import proofs.«01_k».proof.Proof.RmsRef

@[expose] public section

set_option maxRecDepth 16384

noncomputable section

namespace Cert.Kernel31Ideal.NormMid

open Cert.Kernel31Ideal Cert.Kernel31Ideal.Gen
open Idealize.ShloMosaic Idealize.ShloMosaic.TcCoe Idealize.SL.Sem
open Idealize.ShloMosaic.Pipeline (Dat)

variable (m : (l : Loc nD τ sig) → Buf (Elt Ideal) l) (c : Dev nD)

open Cert.Rms Cert.RmsTile

abbrev ay : FVec Ideal S16384x1024 .f32 := m ((c : Thread nD τ).loc main_arg0)
abbrev ax : FVec Ideal S16384x1024 .f32 := m ((c : Thread nD τ).loc main_arg1)
abbrev gn : FVec Ideal S1x1024 .f32 := m ((c : Thread nD τ).loc main_arg2)
abbrev gp : FVec Ideal S1x1024 .f32 := m ((c : Thread nD τ).loc main_arg3)

theorem idx : ∀ t : Fin cfg0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![t.val, 0] :=
  (by decide +kernel : ∀ t : Fin grid0.N, _)

/-- The row of the whole array that a tile's row is, and where its element lies. -/
abbrev rw_ (t : Fin cfg0.N) (i : Fin 512) : Fin 16384 := ⟨512 * t.val + i.val, by have := lt_of_lt_of_eq t.isLt N_0; omega⟩
abbrev pt (t : Fin cfg0.N) (i : Fin 512) (q : Fin 1024) : S16384x1024.Idx := ix2 (rw_ t i) q

abbrev ayB (t : Fin cfg0.N) : FVec Ideal S512x1024 .f32 := iblk m c 0 t
abbrev axB (t : Fin cfg0.N) : FVec Ideal S512x1024 .f32 := iblk m c 1 t
abbrev gnB (t : Fin cfg0.N) : FVec Ideal S1x1024 .f32 := iblk m c 2 t
abbrev gpB (t : Fin cfg0.N) : FVec Ideal S1x1024 .f32 := iblk m c 3 t
theorem ay_blk (t : Fin cfg0.N) (i : Fin 512) (k : Fin 1024) : ayB m c t (ix2 i k) = ay m c (ix2 (rw_ t i) k) := by
  blk_point [iblk, V, idx t]
theorem ax_blk (t : Fin cfg0.N) (i : Fin 512) (k : Fin 1024) : axB m c t (ix2 i k) = ax m c (ix2 (rw_ t i) k) := by
  blk_point [iblk, V, idx t]
theorem gn_blk (t : Fin cfg0.N) (k : Fin 1024) : gnB m c t (ix2 0 k) = gn m c (ix2 0 k) := by
  blk_point [iblk, V, idx t]
theorem gp_blk (t : Fin cfg0.N) (k : Fin 1024) : gpB m c t (ix2 0 k) = gp m c (ix2 0 k) := by
  blk_point [iblk, V, idx t]

theorem ax_row (t : Fin cfg0.N) (i : Fin 512) : urow (axB m c t) i = row (ax m c) (rw_ t i) := funext fun k => ax_blk m c t i k
theorem gn_row (t : Fin cfg0.N) : (fun k => gnB m c t (ix2 0 k)) = fun k => gn m c (ix2 0 k) := funext fun k => gn_blk m c t k

/-- The residual with the normalised array added. -/
def after : S16384x1024.Idx → EReal := fun j => ay m c j + whole (ax m c) (gn m c) j

theorem after_apply (t : Fin cfg0.N) (i : Fin 512) (q : Fin 1024) : k0_pay1 (F := Ideal) (ayB m c t) (axB m c t) (gnB m c t) (ix2 i q) = after m c (pt t i q) := by
  refine Eq.trans (b := ayB m c t (ix2 i q) + fwdT (axB m c t) (gnB m c t) (ix2 i q)) rfl ?_
  rw [fwdT_apply, ax_row, gn_row, ay_blk]; rfl

theorem out4 (t : Fin cfg0.N) (i : Fin 512) (q : Fin 1024) : (dats m 0 c).after 4 t (ix2 i q) = after m c (pt t i q) := by
  rw [after0_4, ← after_apply]
  frame_out

theorem after_row (t : Fin cfg0.N) (i : Fin 512) : urow (k0_pay1 (ayB m c t) (axB m c t) (gnB m c t)) i = row (after m c) (rw_ t i) := funext fun k => after_apply m c t i k
theorem gp_row (t : Fin cfg0.N) : (fun k => gpB m c t (ix2 0 k)) = fun k => gp m c (ix2 0 k) := funext fun k => gp_blk m c t k

theorem out5 (t : Fin cfg0.N) (i : Fin 512) (q : Fin 1024) : (dats m 0 c).after 5 t (ix2 i q) = whole (after m c) (gp m c) (pt t i q) := by
  have h : k0_pay2 (F := Ideal) (ayB m c t) (axB m c t) (gnB m c t) (gpB m c t) (ix2 i q) = whole (after m c) (gp m c) (pt t i q) := by
    refine Eq.trans (b := fwdT (k0_pay1 (ayB m c t) (axB m c t) (gnB m c t)) (gpB m c t) (ix2 i q)) rfl ?_
    rw [fwdT_apply, after_row, gp_row]; rfl
  rw [after0_5, ← h]
  frame_out

theorem final4 : (dats m 0 c).arrAt 4 (cfgs 0).N = after m c := by
  refine (dats m 0 c).arrAt_eq_of_covers 4 _ (by decide +kernel) fun t hf y => ?_
  blk_simp
  obtain ⟨i, q, rfl⟩ : ∃ (i : Fin 512) (q : Fin 1024), y = ix2 i q := ⟨_, _, eq_ix2 y⟩
  rw [show (win0_4.blk t).view.emb (ix2 i q) = pt t i q from by unfold pt; blk_ext [idx t]]
  exact out4 m c t i q

theorem final5 : (dats m 0 c).arrAt 5 (cfgs 0).N = whole (after m c) (gp m c) := by
  refine (dats m 0 c).arrAt_eq_of_covers 5 _ (by decide +kernel) fun t hf y => ?_
  blk_simp
  obtain ⟨i, q, rfl⟩ : ∃ (i : Fin 512) (q : Fin 1024), y = ix2 i q := ⟨_, _, eq_ix2 y⟩
  rw [show (win0_5.blk t).view.emb (ix2 i q) = pt t i q from by unfold pt; blk_ext [idx t]]
  exact out5 m c t i q

end Cert.Kernel31Ideal.NormMid

/-! ## The claims -/

namespace Cert.NormMid

open Idealize.ShloMosaic Idealize.ShloMosaic.TcCoe Idealize.SL.Sem

theorem kernel : Cert.quiescent_Kernel31 := fun m g _ => Cert.Kernel31.Gen.frame m g
theorem kernelIdeal : Cert.quiescent_Kernel31Ideal := fun m g _ => Cert.Kernel31Ideal.Gen.frame m g
theorem referenceIdeal : Cert.quiescent_Reference31Ideal := fun m g _ =>
  (θ_run Cert.Reference31Ideal.defs _ _).mono (fun r h => ⟨fun c => (h c).2.2, sem_eq_zero_of_no_sems (by decide) r.2⟩)
    (Cert.Reference31Ideal.Value.run (F := Ideal) m g)

/-- The reference's sum of the residual and the normalised array. -/
theorem sum_eq (y x : RmsRef.A2) (g : RmsRef.AG) : addf y (RmsRef.normR x g) = fun j => y j + Rms.whole x g j := by
  rw [RmsRef.normR_eq]; rfl

theorem algebraic : Cert.algebraic_Kernel31Ideal_Reference31Ideal := fun m g m' g' hpre hag =>
  ⟨fun c => Cert.Kernel31Ideal.NormMid.after m c, fun c => Rms.whole (Cert.Kernel31Ideal.NormMid.after m c) (Cert.Kernel31Ideal.NormMid.gp m c),
    (θ_run _ _ _).mono (fun _ h c => ⟨(h c).1.trans (Cert.Kernel31Ideal.NormMid.final4 m c), (h c).2.1.trans (Cert.Kernel31Ideal.NormMid.final5 m c), (h c).2.2⟩)
      (Cert.Kernel31Ideal.Value.run_blocks m g),
    (θ_run _ _ _).mono (fun _ h c => by
      obtain ⟨h0, h1, ha⟩ := h c
      obtain ⟨a0, a1, a2, a3⟩ := hag c
      rw [a0, a1, a2] at h0
      rw [a0, a1, a2, a3] at h1
      refine ⟨h0.trans (sum_eq _ _ _), h1.trans ?_, ha⟩
      refine (RmsRef.normR_eq (addf _ (RmsRef.normR _ _)) _).trans ?_
      rw [sum_eq]; rfl)
      (Cert.Reference31Ideal.Value.run (F := Ideal) m' g')⟩

end Cert.NormMid

end
-- ==== Proof.NormPre.lean ====
/- The normalisation at the head of the second layer. -/
module

public import proofs.«01_k».proof.Defs
public import proofs.«01_k».proof.Proof.Gen.Kernel32.Frame
public import proofs.«01_k».proof.Proof.Gen.Kernel32Ideal.Value
public import proofs.«01_k».proof.Proof.Gen.Reference32Ideal.Run
import Idealize.ShloMosaic.Lib.Pointwise
public import Idealize.ShloMosaic.Lib.Pipeline.ValueKit
public import proofs.«01_k».proof.Proof.RmsTile
public import proofs.«01_k».proof.Proof.RmsRef

@[expose] public section

set_option maxRecDepth 16384

noncomputable section

namespace Cert.Kernel32Ideal.NormPre

open Cert.Kernel32Ideal Cert.Kernel32Ideal.Gen
open Idealize.ShloMosaic Idealize.ShloMosaic.TcCoe Idealize.SL.Sem
open Idealize.ShloMosaic.Pipeline (Dat)

variable (m : (l : Loc nD τ sig) → Buf (Elt Ideal) l) (c : Dev nD)

open Cert.Rms Cert.RmsTile

abbrev ax : FVec Ideal S16384x1024 .f32 := m ((c : Thread nD τ).loc main_arg0)
abbrev gn : FVec Ideal S1x1024 .f32 := m ((c : Thread nD τ).loc main_arg1)

theorem idx : ∀ t : Fin cfg0.N, win0_0.index t = ![t.val, 0]
    ∧ win0_1.index t = ![0, 0]
    ∧ win0_2.index t = ![t.val, 0] :=
  (by decide +kernel : ∀ t : Fin grid0.N, _)

/-- The row of the whole array that a tile's row is, and where its element lies. -/
abbrev rw_ (t : Fin cfg0.N) (i : Fin 512) : Fin 16384 := ⟨512 * t.val + i.val, by have := lt_of_lt_of_eq t.isLt N_0; omega⟩
abbrev pt (t : Fin cfg0.N) (i : Fin 512) (q : Fin 1024) : S16384x1024.Idx := ix2 (rw_ t i) q

abbrev axB (t : Fin cfg0.N) : FVec Ideal S512x1024 .f32 := iblk m c 0 t
abbrev gnB (t : Fin cfg0.N) : FVec Ideal S1x1024 .f32 := iblk m c 1 t
theorem ax_blk (t : Fin cfg0.N) (i : Fin 512) (k : Fin 1024) : axB m c t (ix2 i k) = ax m c (ix2 (rw_ t i) k) := by
  blk_point [iblk, V, idx t]
theorem gn_blk (t : Fin cfg0.N) (k : Fin 1024) : gnB m c t (ix2 0 k) = gn m c (ix2 0 k) := by
  blk_point [iblk, V, idx t]

theorem ax_row (t : Fin cfg0.N) (i : Fin 512) : urow (axB m c t) i = row (ax m c) (rw_ t i) := funext fun k => ax_blk m c t i k
theorem gn_row (t : Fin cfg0.N) : (fun k => gnB m c t (ix2 0 k)) = fun k => gn m c (ix2 0 k) := funext fun k => gn_blk m c t k

theorem out2 (t : Fin cfg0.N) (i : Fin 512) (q : Fin 1024) : (dats m 0 c).after 2 t (ix2 i q) = whole (ax m c) (gn m c) (pt t i q) := by
  have h : k0_pay1 (F := Ideal) (axB m c t) (gnB m c t) (ix2 i q) = whole (ax m c) (gn m c) (pt t i q) := by
    refine Eq.trans (b := fwdT (axB m c t) (gnB m c t) (ix2 i q)) rfl ?_
    rw [fwdT_apply, ax_row, gn_row]; rfl
  rw [after0_2, ← h]
  frame_out

theorem final2 : (dats m 0 c).arrAt 2 (cfgs 0).N = whole (ax m c) (gn m c) := by
  refine (dats m 0 c).arrAt_eq_of_covers 2 _ (by decide +kernel) fun t hf y => ?_
  blk_simp
  obtain ⟨i, q, rfl⟩ : ∃ (i : Fin 512) (q : Fin 1024), y = ix2 i q := ⟨_, _, eq_ix2 y⟩
  rw [show (win0_2.blk t).view.emb (ix2 i q) = pt t i q from by unfold pt; blk_ext [idx t]]
  exact out2 m c t i q

end Cert.Kernel32Ideal.NormPre

/-! ## The claims -/

namespace Cert.NormPre

open Idealize.ShloMosaic Idealize.ShloMosaic.TcCoe Idealize.SL.Sem

theorem kernel : Cert.quiescent_Kernel32 := fun m g _ => Cert.Kernel32.Gen.frame m g
theorem kernelIdeal : Cert.quiescent_Kernel32Ideal := fun m g _ => Cert.Kernel32Ideal.Gen.frame m g
theorem referenceIdeal : Cert.quiescent_Reference32Ideal := fun m g _ =>
  (θ_run Cert.Reference32Ideal.defs _ _).mono (fun r h => ⟨fun c => (h c).2, sem_eq_zero_of_no_sems (by decide) r.2⟩)
    (Cert.Reference32Ideal.Value.run (F := Ideal) m g)

theorem algebraic : Cert.algebraic_Kernel32Ideal_Reference32Ideal := fun m g m' g' hpre hag =>
  ⟨fun c => Rms.whole (Cert.Kernel32Ideal.NormPre.ax m c) (Cert.Kernel32Ideal.NormPre.gn m c),
    (θ_run _ _ _).mono (fun _ h c => ⟨(h c).1.trans (Cert.Kernel32Ideal.NormPre.final2 m c), (h c).2⟩)
      (Cert.Kernel32Ideal.Value.run_blocks m g),
    (θ_run _ _ _).mono (fun _ h c => by
      obtain ⟨h0, ha⟩ := h c
      obtain ⟨a0, a1⟩ := hag c
      rw [a0, a1] at h0
      exact ⟨h0.trans (RmsRef.normR_eq _ _), ha⟩)
      (Cert.Reference32Ideal.Value.run (F := Ideal) m' g')⟩

end Cert.NormPre

end
-- ==== Proof.NormPost.lean ====
/- The normalisation after the second layer's feed-forward, added to the residual. -/
module

public import proofs.«01_k».proof.Defs
public import proofs.«01_k».proof.Proof.Gen.Kernel33.Frame
public import proofs.«01_k».proof.Proof.Gen.Kernel33Ideal.Value
public import proofs.«01_k».proof.Proof.Gen.Reference33Ideal.Run
import Idealize.ShloMosaic.Lib.Pointwise
public import Idealize.ShloMosaic.Lib.Pipeline.ValueKit
public import proofs.«01_k».proof.Proof.RmsTile
public import proofs.«01_k».proof.Proof.RmsRef

@[expose] public section

set_option maxRecDepth 16384

noncomputable section

namespace Cert.Kernel33Ideal.NormPost

open Cert.Kernel33Ideal Cert.Kernel33Ideal.Gen
open Idealize.ShloMosaic Idealize.ShloMosaic.TcCoe Idealize.SL.Sem
open Idealize.ShloMosaic.Pipeline (Dat)

variable (m : (l : Loc nD τ sig) → Buf (Elt Ideal) l) (c : Dev nD)

open Cert.Rms Cert.RmsTile

abbrev ay : FVec Ideal S16384x1024 .f32 := m ((c : Thread nD τ).loc main_arg0)
abbrev ax : FVec Ideal S16384x1024 .f32 := m ((c : Thread nD τ).loc main_arg1)
abbrev gn : FVec Ideal S1x1024 .f32 := m ((c : Thread nD τ).loc main_arg2)

theorem idx : ∀ t : Fin cfg0.N, win0_0.index t = ![t.val, 0]
    ∧ win0_1.index t = ![t.val, 0]
    ∧ win0_2.index t = ![0, 0]
    ∧ win0_3.index t = ![t.val, 0] :=
  (by decide +kernel : ∀ t : Fin grid0.N, _)

/-- The row of the whole array that a tile's row is, and where its element lies. -/
abbrev rw_ (t : Fin cfg0.N) (i : Fin 512) : Fin 16384 := ⟨512 * t.val + i.val, by have := lt_of_lt_of_eq t.isLt N_0; omega⟩
abbrev pt (t : Fin cfg0.N) (i : Fin 512) (q : Fin 1024) : S16384x1024.Idx := ix2 (rw_ t i) q

abbrev ayB (t : Fin cfg0.N) : FVec Ideal S512x1024 .f32 := iblk m c 0 t
abbrev axB (t : Fin cfg0.N) : FVec Ideal S512x1024 .f32 := iblk m c 1 t
abbrev gnB (t : Fin cfg0.N) : FVec Ideal S1x1024 .f32 := iblk m c 2 t
theorem ay_blk (t : Fin cfg0.N) (i : Fin 512) (k : Fin 1024) : ayB m c t (ix2 i k) = ay m c (ix2 (rw_ t i) k) := by
  blk_point [iblk, V, idx t]
theorem ax_blk (t : Fin cfg0.N) (i : Fin 512) (k : Fin 1024) : axB m c t (ix2 i k) = ax m c (ix2 (rw_ t i) k) := by
  blk_point [iblk, V, idx t]
theorem gn_blk (t : Fin cfg0.N) (k : Fin 1024) : gnB m c t (ix2 0 k) = gn m c (ix2 0 k) := by
  blk_point [iblk, V, idx t]

theorem ax_row (t : Fin cfg0.N) (i : Fin 512) : urow (axB m c t) i = row (ax m c) (rw_ t i) := funext fun k => ax_blk m c t i k
theorem gn_row (t : Fin cfg0.N) : (fun k => gnB m c t (ix2 0 k)) = fun k => gn m c (ix2 0 k) := funext fun k => gn_blk m c t k

/-- The residual with the normalised array added. -/
def after : S16384x1024.Idx → EReal := fun j => ay m c j + whole (ax m c) (gn m c) j

theorem after_apply (t : Fin cfg0.N) (i : Fin 512) (q : Fin 1024) : k0_pay1 (F := Ideal) (ayB m c t) (axB m c t) (gnB m c t) (ix2 i q) = after m c (pt t i q) := by
  refine Eq.trans (b := ayB m c t (ix2 i q) + fwdT (axB m c t) (gnB m c t) (ix2 i q)) rfl ?_
  rw [fwdT_apply, ax_row, gn_row, ay_blk]; rfl

theorem out3 (t : Fin cfg0.N) (i : Fin 512) (q : Fin 1024) : (dats m 0 c).after 3 t (ix2 i q) = after m c (pt t i q) := by
  rw [after0_3, ← after_apply]
  frame_out

theorem final3 : (dats m 0 c).arrAt 3 (cfgs 0).N = after m c := by
  refine (dats m 0 c).arrAt_eq_of_covers 3 _ (by decide +kernel) fun t hf y => ?_
  blk_simp
  obtain ⟨i, q, rfl⟩ : ∃ (i : Fin 512) (q : Fin 1024), y = ix2 i q := ⟨_, _, eq_ix2 y⟩
  rw [show (win0_3.blk t).view.emb (ix2 i q) = pt t i q from by unfold pt; blk_ext [idx t]]
  exact out3 m c t i q

end Cert.Kernel33Ideal.NormPost

/-! ## The claims -/

namespace Cert.NormPost

open Idealize.ShloMosaic Idealize.ShloMosaic.TcCoe Idealize.SL.Sem

theorem kernel : Cert.quiescent_Kernel33 := fun m g _ => Cert.Kernel33.Gen.frame m g
theorem kernelIdeal : Cert.quiescent_Kernel33Ideal := fun m g _ => Cert.Kernel33Ideal.Gen.frame m g
theorem referenceIdeal : Cert.quiescent_Reference33Ideal := fun m g _ =>
  (θ_run Cert.Reference33Ideal.defs _ _).mono (fun r h => ⟨fun c => (h c).2, sem_eq_zero_of_no_sems (by decide) r.2⟩)
    (Cert.Reference33Ideal.Value.run (F := Ideal) m g)

/-- The reference's sum of the residual and the normalised array. -/
theorem sum_eq (y x : RmsRef.A2) (g : RmsRef.AG) : addf y (RmsRef.normR x g) = fun j => y j + Rms.whole x g j := by
  rw [RmsRef.normR_eq]; rfl

theorem algebraic : Cert.algebraic_Kernel33Ideal_Reference33Ideal := fun m g m' g' hpre hag =>
  ⟨fun c => Cert.Kernel33Ideal.NormPost.after m c,
    (θ_run _ _ _).mono (fun _ h c => ⟨(h c).1.trans (Cert.Kernel33Ideal.NormPost.final3 m c), (h c).2⟩)
      (Cert.Kernel33Ideal.Value.run_blocks m g),
    (θ_run _ _ _).mono (fun _ h c => by
      obtain ⟨h0, ha⟩ := h c
      obtain ⟨a0, a1, a2⟩ := hag c
      rw [a0, a1, a2] at h0
      exact ⟨h0.trans (sum_eq _ _ _), ha⟩)
      (Cert.Reference33Ideal.Value.run (F := Ideal) m' g')⟩

end Cert.NormPost

end
-- ==== Proof.Loss.lean ====
/- The loss head: the gradient of the mean squared error, and the squared errors summed by column. -/
module

public import proofs.«01_k».proof.Defs
public import proofs.«01_k».proof.Proof.Gen.Kernel34.Frame
public import proofs.«01_k».proof.Proof.Gen.Kernel34Ideal.Value
public import proofs.«01_k».proof.Proof.Gen.Reference34Ideal.Run
import Idealize.ShloMosaic.Lib.Pointwise
public import Idealize.ShloMosaic.Lib.Pipeline.ValueKit
import Idealize.ShloMosaic.Lib.Pipeline.ReadBack
@[expose] public section

set_option maxRecDepth 16384

noncomputable section

namespace Cert.Loss

open Idealize.ShloMosaic

/-- The gradient of half the squared difference over the row width: the difference over 1024. -/
def diff (y w : EReal) : EReal := (y - w) * Ideal.ofBits .f32 0x3A800000#32

/-- The squared differences, summed down each column. -/
def squares (y w : (⟨2, ![16384, 1024]⟩ : Shape).Idx → EReal) (j : (⟨2, ![1, 1024]⟩ : Shape).Idx) : EReal :=
  ∑ n : Fin 16384, (y (ix2 n (j 1)) - w (ix2 n (j 1))) * (y (ix2 n (j 1)) - w (ix2 n (j 1)))

theorem squares_apply (y w : (⟨2, ![16384, 1024]⟩ : Shape).Idx → EReal) (q : Fin 1024) :
    squares y w (ix2 0 q) = ∑ n : Fin 16384, (y (ix2 n q) - w (ix2 n q)) * (y (ix2 n q) - w (ix2 n q)) := rfl

/-- A half, times one over 1024, times two, is one over 1024. -/
theorem scale_eq : Ideal.ofBits .f32 0x3F000000#32 * Ideal.div (Ideal.ofBits .f32 0x3F800000#32) (Ideal.ofBits .f32 0x44800000#32)
    * Ideal.ofBits .f32 0x40000000#32 = Ideal.ofBits .f32 0x3A800000#32 := by
  have h1 : Ideal.ofBits .f32 0x3F000000#32 = ((1 / 2 : ℝ) : EReal) := by simp [Ideal.ofBits, Ideal.ieee, -EReal.coe_mul]; norm_num
  have h2 : Ideal.ofBits .f32 0x3F800000#32 = ((1 : ℝ) : EReal) := by simp [Ideal.ofBits, Ideal.ieee, -EReal.coe_mul]; norm_num
  have h3 : Ideal.ofBits .f32 0x44800000#32 = ((1024 : ℝ) : EReal) := by simp [Ideal.ofBits, Ideal.ieee, -EReal.coe_mul]; norm_num
  have h4 : Ideal.ofBits .f32 0x40000000#32 = ((2 : ℝ) : EReal) := by simp [Ideal.ofBits, Ideal.ieee, -EReal.coe_mul]; norm_num
  have h5 : Ideal.ofBits .f32 0x3A800000#32 = ((1 / 1024 : ℝ) : EReal) := by simp [Ideal.ofBits, Ideal.ieee, -EReal.coe_mul]; norm_num
  rw [h1, h2, h3, h4, h5, Ideal.div_coe (by norm_num), ← EReal.coe_mul, ← EReal.coe_mul, ← EReal.coe_mul]
  norm_num

end Cert.Loss

namespace Cert.Reference34Ideal.Loss

open Cert.Reference34Ideal Cert.Reference34Ideal.Gen Idealize.ShloMosaic

abbrev diffR (y w : FVec Ideal S16384x1024 .f32) : FVec Ideal S16384x1024 .f32 :=
  mulf (broadcastInDim S16384x1024 ![] bcast_S_S16384x1024 (mulf (constant S_ .f32 0x3F000000#32) (Host.divf (constant S_ .f32 0x3F800000#32) (constant S_ .f32 0x44800000#32)))) (mulf (broadcastInDim S16384x1024 ![] bcast_S_S16384x1024 (constant S_ .f32 0x40000000#32)) (subf y w))
abbrev squaresR (y w : FVec Ideal S16384x1024 .f32) : FVec Ideal S1x1024 .f32 :=
  broadcastInDim S1x1024 ![1] bcast_S1024_S1x1024_1 (Host.reduceAdd (mulf (subf y w) (subf y w)) (constant S_ .f32 0x00000000#32) reducesTo_S16384x1024_S1024_d0 h_S_)

theorem diff_eq (y w : FVec Ideal S16384x1024 .f32) : diffR y w = fun j => Cert.Loss.diff (y j) (w j) := by
  funext j
  obtain ⟨n, q, rfl⟩ : ∃ (n : Fin _) (q : Fin _), j = ix2 n q := ⟨_, _, eq_ix2 j⟩
  refine Eq.trans (b := Ideal.ofBits .f32 0x3F000000#32 * Ideal.div (Ideal.ofBits .f32 0x3F800000#32) (Ideal.ofBits .f32 0x44800000#32)
    * (Ideal.ofBits .f32 0x40000000#32 * (y (ix2 n q) - w (ix2 n q)))) ?_ ?_
  · unfold diffR; pointwise
  · rw [← mul_assoc, Cert.Loss.scale_eq, mul_comm]; rfl

theorem squares_eq (y w : FVec Ideal S16384x1024 .f32) : squaresR y w = Cert.Loss.squares y w := by
  funext j
  obtain ⟨a, q, rfl⟩ : ∃ (a : Fin _) (q : Fin _), j = ix2 a q := ⟨_, _, eq_ix2 j⟩
  obtain rfl : a = 0 := Fin.fin_one_eq_zero a
  rw [Cert.Loss.squares_apply]
  unfold squaresR
  pointwise

end Cert.Reference34Ideal.Loss

namespace Cert.Kernel34Ideal.Loss

open Cert.Kernel34Ideal Cert.Kernel34Ideal.Gen
open Idealize.ShloMosaic Idealize.ShloMosaic.TcCoe Idealize.SL.Sem
open Idealize.ShloMosaic.Pipeline (Dat)

variable (m : (l : Loc nD τ sig) → Buf (Elt Ideal) l) (c : Dev nD)

abbrev ay : FVec Ideal S16384x1024 .f32 := m ((c : Thread nD τ).loc main_arg0)
abbrev aw : FVec Ideal S16384x1024 .f32 := m ((c : Thread nD τ).loc main_arg1)

theorem idx : ∀ t : Fin cfg0.N, win0_0.index t = ![t.val, 0]
    ∧ win0_1.index t = ![t.val, 0]
    ∧ win0_2.index t = ![t.val, 0]
    ∧ win0_3.index t = ![0, 0] :=
  (by decide +kernel : ∀ t : Fin grid0.N, _)

/-- The row of the whole array that a tile's row is, and where its element lies. -/
abbrev rw_ (t : Fin cfg0.N) (i : Fin 512) : Fin 16384 := ⟨512 * t.val + i.val, by have := lt_of_lt_of_eq t.isLt N_0; omega⟩
abbrev pt (t : Fin cfg0.N) (i : Fin 512) (q : Fin 1024) : S16384x1024.Idx := ix2 (rw_ t i) q

abbrev ayB (t : Fin cfg0.N) : FVec Ideal S512x1024 .f32 := iblk m c 0 t
abbrev awB (t : Fin cfg0.N) : FVec Ideal S512x1024 .f32 := iblk m c 1 t
theorem ay_blk (t : Fin cfg0.N) (i : Fin 512) (k : Fin 1024) : ayB m c t (ix2 i k) = ay m c (ix2 (rw_ t i) k) := by
  blk_point [iblk, V, idx t]
theorem aw_blk (t : Fin cfg0.N) (i : Fin 512) (k : Fin 1024) : awB m c t (ix2 i k) = aw m c (ix2 (rw_ t i) k) := by
  blk_point [iblk, V, idx t]

theorem out2 (t : Fin cfg0.N) (i : Fin 512) (q : Fin 1024) : (outsAt0 m c t.val t.isLt).1 (ix2 i q)
    = Cert.Loss.diff (ay m c (pt t i q)) (aw m c (pt t i q)) := by
  have := lt_of_lt_of_eq t.isLt N_0
  have h : k0_pay2 (F := Ideal) (ayB m c t) (awB m c t) (ix2 i q) = Cert.Loss.diff (ay m c (pt t i q)) (aw m c (pt t i q)) := by
    rw [← ay_blk, ← aw_blk]
    unfold Cert.Loss.diff
    pointwise [k0_pay2, k0_pay1]
  rw [← h]
  by_cases h : t.val % 32 = 0
  · rw [outsAt0_A m c t h (by omega)]; frame_out
  · rw [outsAt0_B m c t h (by omega)]; frame_out

theorem final2 : (dats m 0 c).arrAt 2 (cfgs 0).N = fun j => Cert.Loss.diff (ay m c j) (aw m c j) := by
  refine (dats m 0 c).arrAt_eq_of_covers 2 _ (by decide +kernel) fun t hf y => ?_
  blk_simp
  obtain ⟨i, q, rfl⟩ : ∃ (i : Fin 512) (q : Fin 1024), y = ix2 i q := ⟨_, _, eq_ix2 y⟩
  rw [show (win0_2.blk t).view.emb (ix2 i q) = pt t i q from by unfold pt; blk_ext [idx t], after0_2]
  exact out2 m c t i q

/-- What one tile adds to the sums. -/
abbrev part (t : Fin cfg0.N) : FVec Ideal S1x1024 .f32 := k0_pay3 (ayB m c t) (awB m c t)

theorem part_apply (t : Fin cfg0.N) (q : Fin 1024) : part m c t (ix2 0 q)
    = ∑ i : Fin 512, (ayB m c t (ix2 i q) - awB m c t (ix2 i q)) * (ayB m c t (ix2 i q) - awB m c t (ix2 i q)) := by
  unfold part
  pointwise [k0_pay3, k0_pay1]

theorem acc_A (t : Fin cfg0.N) (h : t.val % 32 = 0) (j : S1x1024.Idx) : (outsAt0 m c t.val t.isLt).2 j = part m c t j := by
  have := lt_of_lt_of_eq t.isLt N_0
  rw [outsAt0_A m c t h (by omega)]; frame_out
theorem acc_B (t : Fin cfg0.N) (h : ¬t.val % 32 = 0) (j : S1x1024.Idx) : (outsAt0 m c t.val t.isLt).2 j
    = (outsAt0 m c (t.val - 1) (Nat.lt_of_le_of_lt (Nat.sub_le _ _) t.isLt)).2 j + part m c t j := by
  rw [outsAt0_B m c t h (by omega)]; frame_out
  pointwise [k0_pay4]

theorem sum_parts (t : Fin cfg0.N) (ht : t.val % 32 = 32 - 1) (q : Fin 1024) :
    ∑ s : Fin 32, part m c ⟨32 * (t.val / 32) + s.val, Pipeline.run_point_lt_of_flush t ht s⟩ (ix2 0 q)
      = Cert.Loss.squares (ay m c) (aw m c) (ix2 0 q) := by
  have := lt_of_lt_of_eq t.isLt N_0
  rw [Cert.Loss.squares_apply, Fin.sum_univ_tiles 32 512 rfl]
  refine Finset.sum_congr rfl fun s _ => ?_
  rw [part_apply]
  have e : ∀ i : Fin 512, rw_ (⟨32 * (t.val / 32) + s.val, Pipeline.run_point_lt_of_flush t ht s⟩ : Fin cfg0.N) i
      = ⟨s.val * 512 + i.val, by omega⟩ := fun i => Fin.ext (by simp only; omega)
  exact Finset.sum_congr rfl fun i _ => by rw [ay_blk, aw_blk, e]

theorem final3 : (dats m 0 c).arrAt 3 (cfgs 0).N = Cert.Loss.squares (ay m c) (aw m c) := by
  refine (dats m 0 c).arrAt_eq_of_covers 3 _ (by decide +kernel) fun t hf y => ?_
  blk_simp
  have ht := (flush0_3 t).mp hf
  obtain ⟨a, q, rfl⟩ : ∃ (a : Fin 1) (q : Fin 1024), y = ix2 a q := ⟨_, _, eq_ix2 y⟩
  obtain rfl : a = 0 := Fin.fin_one_eq_zero a
  rw [show (win0_3.blk t).view.emb (ix2 0 q) = ix2 0 q from by blk_ext [idx t], after0_3,
    Pipeline.eq_sum_fin_of_reset_step_apply_of_flush (fun n h => (outsAt0 m c n h).2) 32 (fun _ => 0)
    (fun t => part m c t) (fun t h j => by rw [acc_A m c t h, zero_add]) (fun t h j => acc_B m c t h j) t ht _, zero_add]
  exact sum_parts m c t ht q

end Cert.Kernel34Ideal.Loss

/-! ## The claims -/

namespace Cert.Loss

open Idealize.ShloMosaic Idealize.ShloMosaic.TcCoe Idealize.SL.Sem

theorem kernel : Cert.quiescent_Kernel34 := fun m g _ => Cert.Kernel34.Gen.frame m g
theorem kernelIdeal : Cert.quiescent_Kernel34Ideal := fun m g _ => Cert.Kernel34Ideal.Gen.frame m g
theorem referenceIdeal : Cert.quiescent_Reference34Ideal := fun m g _ =>
  (θ_run Cert.Reference34Ideal.defs _ _).mono (fun r h => ⟨fun c => (h c).2.2, sem_eq_zero_of_no_sems (by decide) r.2⟩)
    (Cert.Reference34Ideal.Value.run (F := Ideal) m g)

theorem algebraic : Cert.algebraic_Kernel34Ideal_Reference34Ideal := fun m g m' g' hpre hag =>
  ⟨fun c j => diff (Cert.Kernel34Ideal.Loss.ay m c j) (Cert.Kernel34Ideal.Loss.aw m c j), fun c => squares (Cert.Kernel34Ideal.Loss.ay m c) (Cert.Kernel34Ideal.Loss.aw m c),
    (θ_run _ _ _).mono (fun _ h c => ⟨(h c).1.trans (Cert.Kernel34Ideal.Loss.final2 m c), (h c).2.1.trans (Cert.Kernel34Ideal.Loss.final3 m c), (h c).2.2⟩)
      (Cert.Kernel34Ideal.Value.run_blocks m g),
    (θ_run _ _ _).mono (fun _ h c => by
      obtain ⟨h0, h1, ha⟩ := h c
      obtain ⟨a0, a1⟩ := hag c
      rw [a0, a1] at h0
      rw [a0, a1] at h1
      exact ⟨h0.trans (Cert.Reference34Ideal.Loss.diff_eq _ _), h1.trans (Cert.Reference34Ideal.Loss.squares_eq _ _), ha⟩)
      (Cert.Reference34Ideal.Value.run (F := Ideal) m' g')⟩

end Cert.Loss

end
-- ==== Proof.AdamSpec.lean ====
/- One step of the optimiser at one element, and the sum of a gradient's eight parts. -/
module

public import Idealize.ShloMosaic.PureOps.Ideal
public import proofs.«01_k».proof.Defs
public import Idealize.ShloMosaic.Lib.Pipeline.ValueKit
@[expose] public section

noncomputable section

namespace Cert.Adam

open Idealize.ShloMosaic

/-- The new first moment: nine tenths of the old one and a tenth of the gradient. -/
def mean (g m : EReal) : EReal := Ideal.ofBits .f32 0x3F666666#32 * m + Ideal.ofBits .f32 0x3DCCCCCD#32 * g

/-- The new second moment, of the gradient's square. -/
def square (g v : EReal) : EReal := Ideal.ofBits .f32 0x3F7FBE77#32 * v + Ideal.ofBits .f32 0x3A83126F#32 * (g * g)

/-- The weight's change: the corrected first moment over the root of the corrected second, and the decay. -/
def delta (w g m v : EReal) : EReal := Ideal.ofBits .f32 0xBA83126F#32
  * (Ideal.div (Ideal.div (mean g m) (Ideal.ofBits .f32 0x3F26BD02#32))
      (Ideal.sqrt (Ideal.div (square g v) (Ideal.ofBits .f32 0x3C231ACC#32)) + Ideal.ofBits .f32 0x322BCC77#32)
    + Ideal.ofBits .f32 0x3C23D70A#32 * w)

end Cert.Adam

end
-- ==== Proof.AdamIn.lean ====
/- The optimiser's step for w_in: the gradient's eight parts summed, then the moments and the change. -/
module

public import proofs.«01_k».proof.Defs
public import proofs.«01_k».proof.Proof.AdamSpec
public import proofs.«01_k».proof.Proof.Gen.Kernel35.Frame
public import proofs.«01_k».proof.Proof.Gen.Kernel35Ideal.Frame
public import proofs.«01_k».proof.Proof.Gen.Reference35Ideal.Run
import Idealize.ShloMosaic.Lib.Pointwise
public import Idealize.ShloMosaic.Lib.Pipeline.ValueKit
import Idealize.ShloMosaic.Lib.Pipeline.ReadBack
@[expose] public section

set_option maxRecDepth 16384

noncomputable section

namespace Cert.AdamIn

open Idealize.ShloMosaic

/-- The whole weight's place of a row and a column of the flat one. -/
abbrev src (n : Fin 2048) (q : Fin 2048) : (⟨3, ![2, 1024, 2048]⟩ : Shape).Idx := ix3 ⟨n.val / 1024, by omega⟩ ⟨n.val % 1024, by omega⟩ q

/-- The gradient: the eight parts' sum. -/
def grad (p : (⟨4, ![8, 2, 1024, 2048]⟩ : Shape).Idx → EReal) (n : Fin 2048) (q : Fin 2048) : EReal :=
  ∑ d : Fin 8, p (ix4 d ⟨n.val / 1024, by omega⟩ ⟨n.val % 1024, by omega⟩ q)

section
variable (p : (⟨4, ![8, 2, 1024, 2048]⟩ : Shape).Idx → EReal) (w m v : (⟨3, ![2, 1024, 2048]⟩ : Shape).Idx → EReal)

/-- The four results: the gradient, the change, the two moments. -/
def gradF (j : (⟨2, ![2048, 2048]⟩ : Shape).Idx) : EReal := grad p (j 0) (j 1)
def deltaF (j : (⟨2, ![2048, 2048]⟩ : Shape).Idx) : EReal :=
  Cert.Adam.delta (w (src (j 0) (j 1))) (grad p (j 0) (j 1)) (m (src (j 0) (j 1))) (v (src (j 0) (j 1)))
def meanF (j : (⟨2, ![2048, 2048]⟩ : Shape).Idx) : EReal := Cert.Adam.mean (grad p (j 0) (j 1)) (m (src (j 0) (j 1)))
def squareF (j : (⟨2, ![2048, 2048]⟩ : Shape).Idx) : EReal := Cert.Adam.square (grad p (j 0) (j 1)) (v (src (j 0) (j 1)))

end

end Cert.AdamIn

namespace Cert.Reference35Ideal.AdamIn

open Cert.Reference35Ideal Cert.Reference35Ideal.Gen Idealize.ShloMosaic
open Cert.AdamIn

abbrev gradR (p : FVec Ideal S8x2x1024x2048 .bf16) : FVec Ideal S2x1024x2048 .f32 :=
  Host.reduceAdd (extf .f32 p bitsLt_bf16_f32) (constant S_ .f32 0x00000000#32) reducesTo_S8x2x1024x2048_S2x1024x2048_d0 h_S_
abbrev meanR (g m : FVec Ideal S2x1024x2048 .f32) : FVec Ideal S2x1024x2048 .f32 :=
  addf (mulf (broadcastInDim S2x1024x2048 ![] bcast_S_S2x1024x2048 (constant S_ .f32 0x3F666666#32)) m) (mulf (broadcastInDim S2x1024x2048 ![] bcast_S_S2x1024x2048 (constant S_ .f32 0x3DCCCCCD#32)) g)
abbrev squareR (g v : FVec Ideal S2x1024x2048 .f32) : FVec Ideal S2x1024x2048 .f32 :=
  addf (mulf (broadcastInDim S2x1024x2048 ![] bcast_S_S2x1024x2048 (constant S_ .f32 0x3F7FBE77#32)) v) (mulf (broadcastInDim S2x1024x2048 ![] bcast_S_S2x1024x2048 (constant S_ .f32 0x3A83126F#32)) (mulf g g))
abbrev deltaR (w g m v : FVec Ideal S2x1024x2048 .f32) : FVec Ideal S2x1024x2048 .f32 :=
  mulf (broadcastInDim S2x1024x2048 ![] bcast_S_S2x1024x2048 (constant S_ .f32 0xBA83126F#32)) (addf (Host.divf (Host.divf (meanR g m)
    (broadcastInDim S2x1024x2048 ![] bcast_S_S2x1024x2048 (constant S_ .f32 0x3F26BD02#32))) (addf (Host.sqrt (Host.divf (squareR g v)
    (broadcastInDim S2x1024x2048 ![] bcast_S_S2x1024x2048 (constant S_ .f32 0x3C231ACC#32)))) (broadcastInDim S2x1024x2048 ![] bcast_S_S2x1024x2048 (constant S_ .f32 0x322BCC77#32))))
    (mulf (broadcastInDim S2x1024x2048 ![] bcast_S_S2x1024x2048 (constant S_ .f32 0x3C23D70A#32)) w))

/-- An array read flat. -/
theorem flat (a : FVec Ideal S2x1024x2048 .f32) (n : Fin 2048) (q : Fin 2048) : shapeCast S2048x2048 a shapeCasts_S2x1024x2048_S2048x2048 (ix2 n q) = a (src n q) := by
  unfold src
  pointwise

theorem grad_apply (p : FVec Ideal S8x2x1024x2048 .bf16) (n : Fin 2048) (q : Fin 2048) : gradR p (src n q) = grad p n q := by
  unfold gradR grad src
  pointwise
theorem mean_apply (g m : FVec Ideal S2x1024x2048 .f32) (i : S2x1024x2048.Idx) : meanR g m i = Cert.Adam.mean (g i) (m i) := by
  unfold meanR Cert.Adam.mean
  pointwise
theorem square_apply (g v : FVec Ideal S2x1024x2048 .f32) (i : S2x1024x2048.Idx) : squareR g v i = Cert.Adam.square (g i) (v i) := by
  unfold squareR Cert.Adam.square
  pointwise
theorem delta_apply (w g m v : FVec Ideal S2x1024x2048 .f32) (i : S2x1024x2048.Idx) : deltaR w g m v i = Cert.Adam.delta (w i) (g i) (m i) (v i) := by
  unfold Cert.Adam.delta
  rw [← mean_apply, ← square_apply]
  unfold deltaR
  generalize meanR g m = a, squareR g v = b
  pointwise

variable (p : FVec Ideal S8x2x1024x2048 .bf16) (w m v : FVec Ideal S2x1024x2048 .f32)

theorem gradR_eq : shapeCast S2048x2048 (gradR p) shapeCasts_S2x1024x2048_S2048x2048 = gradF p := by
  funext j
  obtain ⟨n, q, rfl⟩ : ∃ (n : Fin _) (q : Fin _), j = ix2 n q := ⟨_, _, eq_ix2 j⟩
  exact (flat _ n q).trans (grad_apply p n q)
theorem deltaR_eq : shapeCast S2048x2048 (deltaR w (gradR p) m v) shapeCasts_S2x1024x2048_S2048x2048 = deltaF p w m v := by
  funext j
  obtain ⟨n, q, rfl⟩ : ∃ (n : Fin _) (q : Fin _), j = ix2 n q := ⟨_, _, eq_ix2 j⟩
  refine (flat _ n q).trans ((delta_apply _ _ _ _ _).trans ?_)
  rw [grad_apply]; rfl
theorem meanR_eq : shapeCast S2048x2048 (meanR (gradR p) m) shapeCasts_S2x1024x2048_S2048x2048 = meanF p m := by
  funext j
  obtain ⟨n, q, rfl⟩ : ∃ (n : Fin _) (q : Fin _), j = ix2 n q := ⟨_, _, eq_ix2 j⟩
  refine (flat _ n q).trans ((mean_apply _ _ _).trans ?_)
  rw [grad_apply]; rfl
theorem squareR_eq : shapeCast S2048x2048 (squareR (gradR p) v) shapeCasts_S2x1024x2048_S2048x2048 = squareF p v := by
  funext j
  obtain ⟨n, q, rfl⟩ : ∃ (n : Fin _) (q : Fin _), j = ix2 n q := ⟨_, _, eq_ix2 j⟩
  refine (flat _ n q).trans ((square_apply _ _ _).trans ?_)
  rw [grad_apply]; rfl

end Cert.Reference35Ideal.AdamIn

namespace Cert.Kernel35Ideal.AdamIn

open Cert.Kernel35Ideal Cert.Kernel35Ideal.Gen
open Idealize.ShloMosaic Idealize.ShloMosaic.TcCoe Idealize.SL.Sem
open Idealize.ShloMosaic.Pipeline (Dat)
open Cert.AdamIn

variable (m : (l : Loc nD τ sig) → Buf (Elt Ideal) l) (c : Dev nD)

abbrev aP : FVec Ideal S8x2x1024x2048 .bf16 := m ((c : Thread nD τ).loc main_arg0)
abbrev aW : FVec Ideal S2x1024x2048 .f32 := m ((c : Thread nD τ).loc main_arg1)
abbrev aM : FVec Ideal S2x1024x2048 .f32 := m ((c : Thread nD τ).loc main_arg2)
abbrev aV : FVec Ideal S2x1024x2048 .f32 := m ((c : Thread nD τ).loc main_arg3)

theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The row of the flat array that a tile's row is, and where its element lies. -/
abbrev rw_ (t : Fin cfg0.N) (i : Fin 64) : Fin 2048 := ⟨64 * t.val + i.val, by have := lt_of_lt_of_eq t.isLt N_0; omega⟩
abbrev pt (t : Fin cfg0.N) (i : Fin 64) (q : Fin 2048) : S2048x2048.Idx := ix2 (rw_ t i) q

/-- The host's flat arrays. -/
theorem flat0 : (V m c main_v0 : FVec Ideal S8x2048x2048 .bf16) = shapeCast S8x2048x2048 (aP m c) shapeCasts_S8x2x1024x2048_S8x2048x2048 := rfl
theorem flat1 : (V m c main_v1 : FVec Ideal S2048x2048 .f32) = shapeCast S2048x2048 (aW m c) shapeCasts_S2x1024x2048_S2048x2048 := rfl
theorem flat2 : (V m c main_v2 : FVec Ideal S2048x2048 .f32) = shapeCast S2048x2048 (aM m c) shapeCasts_S2x1024x2048_S2048x2048 := rfl
theorem flat3 : (V m c main_v3 : FVec Ideal S2048x2048 .f32) = shapeCast S2048x2048 (aV m c) shapeCasts_S2x1024x2048_S2048x2048 := rfl

theorem flat (a : FVec Ideal S2x1024x2048 .f32) (n : Fin 2048) (q : Fin 2048) : shapeCast S2048x2048 a shapeCasts_S2x1024x2048_S2048x2048 (ix2 n q) = a (src n q) := by
  unfold src
  pointwise
theorem flatP (a : FVec Ideal S8x2x1024x2048 .bf16) (d : Fin 8) (n : Fin 2048) (q : Fin 2048) :
    shapeCast S8x2048x2048 a shapeCasts_S8x2x1024x2048_S8x2048x2048 (ix3 d n q) = a (ix4 d ⟨n.val / 1024, by omega⟩ ⟨n.val % 1024, by omega⟩ q) := by
  pointwise

abbrev bP (t : Fin cfg0.N) : FVec Ideal S8x64x2048 .bf16 := iblk m c 0 t
abbrev bW (t : Fin cfg0.N) : FVec Ideal S64x2048 .f32 := iblk m c 1 t
abbrev bM (t : Fin cfg0.N) : FVec Ideal S64x2048 .f32 := iblk m c 2 t
abbrev bV (t : Fin cfg0.N) : FVec Ideal S64x2048 .f32 := iblk m c 3 t
theorem p_blk (t : Fin cfg0.N) (d : Fin 8) (i : Fin 64) (q : Fin 2048) : bP m c t (ix3 d i q)
    = aP m c (ix4 d ⟨(rw_ t i).val / 1024, by omega⟩ ⟨(rw_ t i).val % 1024, by omega⟩ q) := by
  rw [← flatP (aP m c), ← flat0]
  blk_point [iblk, idx t]
theorem w_blk (t : Fin cfg0.N) (i : Fin 64) (q : Fin 2048) : bW m c t (ix2 i q) = aW m c (src (rw_ t i) q) := by
  rw [← flat (aW m c), ← flat1]
  blk_point [iblk, idx t]
theorem m_blk (t : Fin cfg0.N) (i : Fin 64) (q : Fin 2048) : bM m c t (ix2 i q) = aM m c (src (rw_ t i) q) := by
  rw [← flat (aM m c), ← flat2]
  blk_point [iblk, idx t]
theorem v_blk (t : Fin cfg0.N) (i : Fin 64) (q : Fin 2048) : bV m c t (ix2 i q) = aV m c (src (rw_ t i) q) := by
  rw [← flat (aV m c), ← flat3]
  blk_point [iblk, idx t]

/-! ## The body at one element -/

theorem grad_tile (x : FVec Ideal S8x64x2048 .bf16) (i : Fin 64) (q : Fin 2048) :
    k0_pay4 (F := Ideal) x (ix2 i q) = ∑ d : Fin 8, x (ix3 d i q) := by
  rw [Fin.sum_univ_eight]
  pointwise [k0_pay4]
theorem mean_tile (x : FVec Ideal S8x64x2048 .bf16) (y : FVec Ideal S64x2048 .f32) (i : Fin 64) (q : Fin 2048) :
    k0_pay5 (F := Ideal) x y (ix2 i q) = Cert.Adam.mean (∑ d : Fin 8, x (ix3 d i q)) (y (ix2 i q)) := by
  rw [← grad_tile]
  unfold Cert.Adam.mean k0_pay5
  generalize k0_pay4 (F := Ideal) x = g
  pointwise
theorem square_tile (x : FVec Ideal S8x64x2048 .bf16) (y : FVec Ideal S64x2048 .f32) (i : Fin 64) (q : Fin 2048) :
    k0_pay1 (F := Ideal) (k0_pay6 y) (k0_pay7 x) (ix2 i q) = Cert.Adam.square (∑ d : Fin 8, x (ix3 d i q)) (y (ix2 i q)) := by
  rw [← grad_tile]
  unfold Cert.Adam.square k0_pay1 k0_pay6 k0_pay7
  generalize k0_pay4 (F := Ideal) x = g
  pointwise
theorem delta_tile (x : FVec Ideal S8x64x2048 .bf16) (y z u : FVec Ideal S64x2048 .f32) (i : Fin 64) (q : Fin 2048) :
    k0_pay2 (F := Ideal) (k0_pay3 y) (k0_pay5 x z) (k0_pay6 u) (k0_pay7 x) (ix2 i q)
      = Cert.Adam.delta (y (ix2 i q)) (∑ d : Fin 8, x (ix3 d i q)) (z (ix2 i q)) (u (ix2 i q)) := by
  unfold Cert.Adam.delta
  rw [← mean_tile, ← square_tile]
  unfold k0_pay2 k0_pay3
  generalize k0_pay5 (F := Ideal) x z = a, k0_pay1 (F := Ideal) (k0_pay6 u) (k0_pay7 x) = b
  pointwise

theorem sum_blk (t : Fin cfg0.N) (i : Fin 64) (q : Fin 2048) : ∑ d : Fin 8, bP m c t (ix3 d i q) = grad (aP m c) (rw_ t i) q :=
  Finset.sum_congr rfl fun d _ => p_blk m c t d i q

/-! ## The four results -/

theorem out4 (t : Fin cfg0.N) (i : Fin 64) (q : Fin 2048) : (dats m 0 c).after 4 t (ix2 i q) = gradF (aP m c) (pt t i q) := by
  have h := grad_tile (bP m c t) i q
  rw [sum_blk] at h
  refine Eq.trans ?_ h
  rw [after0_4]; frame_out
theorem out5 (t : Fin cfg0.N) (i : Fin 64) (q : Fin 2048) : (dats m 0 c).after 5 t (ix2 i q)
    = deltaF (aP m c) (aW m c) (aM m c) (aV m c) (pt t i q) := by
  have h := delta_tile (bP m c t) (bW m c t) (bM m c t) (bV m c t) i q
  rw [sum_blk, w_blk, m_blk, v_blk] at h
  refine Eq.trans ?_ h
  rw [after0_5]; unfold out0_5 k0_pay10 k0_pay9 k0_pay8; frame_out
theorem out6 (t : Fin cfg0.N) (i : Fin 64) (q : Fin 2048) : (dats m 0 c).after 6 t (ix2 i q) = meanF (aP m c) (aM m c) (pt t i q) := by
  have h := mean_tile (bP m c t) (bM m c t) i q
  rw [sum_blk, m_blk] at h
  refine Eq.trans ?_ h
  rw [after0_6]; unfold out0_6 k0_pay8; frame_out
theorem out7 (t : Fin cfg0.N) (i : Fin 64) (q : Fin 2048) : (dats m 0 c).after 7 t (ix2 i q) = squareF (aP m c) (aV m c) (pt t i q) := by
  have h := square_tile (bP m c t) (bV m c t) i q
  rw [sum_blk, v_blk] at h
  refine Eq.trans ?_ h
  rw [after0_7]; unfold out0_7 k0_pay10 k0_pay9; frame_out

theorem final4 : (dats m 0 c).arrAt 4 (cfgs 0).N = gradF (aP m c) := by
  refine (dats m 0 c).arrAt_eq_of_covers 4 _ (by decide +kernel) fun t hf y => ?_
  blk_simp
  obtain ⟨i, q, rfl⟩ : ∃ (i : Fin 64) (q : Fin 2048), y = ix2 i q := ⟨_, _, eq_ix2 y⟩
  rw [show (win0_4.blk t).view.emb (ix2 i q) = pt t i q from by unfold pt; blk_ext [idx t]]
  exact out4 m c t i q

theorem final5 : (dats m 0 c).arrAt 5 (cfgs 0).N = deltaF (aP m c) (aW m c) (aM m c) (aV m c) := by
  refine (dats m 0 c).arrAt_eq_of_covers 5 _ (by decide +kernel) fun t hf y => ?_
  blk_simp
  obtain ⟨i, q, rfl⟩ : ∃ (i : Fin 64) (q : Fin 2048), y = ix2 i q := ⟨_, _, eq_ix2 y⟩
  rw [show (win0_5.blk t).view.emb (ix2 i q) = pt t i q from by unfold pt; blk_ext [idx t]]
  exact out5 m c t i q

theorem final6 : (dats m 0 c).arrAt 6 (cfgs 0).N = meanF (aP m c) (aM m c) := by
  refine (dats m 0 c).arrAt_eq_of_covers 6 _ (by decide +kernel) fun t hf y => ?_
  blk_simp
  obtain ⟨i, q, rfl⟩ : ∃ (i : Fin 64) (q : Fin 2048), y = ix2 i q := ⟨_, _, eq_ix2 y⟩
  rw [show (win0_6.blk t).view.emb (ix2 i q) = pt t i q from by unfold pt; blk_ext [idx t]]
  exact out6 m c t i q

theorem final7 : (dats m 0 c).arrAt 7 (cfgs 0).N = squareF (aP m c) (aV m c) := by
  refine (dats m 0 c).arrAt_eq_of_covers 7 _ (by decide +kernel) fun t hf y => ?_
  blk_simp
  obtain ⟨i, q, rfl⟩ : ∃ (i : Fin 64) (q : Fin 2048), y = ix2 i q := ⟨_, _, eq_ix2 y⟩
  rw [show (win0_7.blk t).view.emb (ix2 i q) = pt t i q from by unfold pt; blk_ext [idx t]]
  exact out7 m c t i q

theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v4_0) = gradF (aP m c)
    ∧ r.2.mem ((c.tc : Thread nD τ).loc main_v4_1) = deltaF (aP m c) (aW m c) (aM m c) (aV m c)
    ∧ r.2.mem ((c.tc : Thread nD τ).loc main_v4_2) = meanF (aP m c) (aM m c)
    ∧ r.2.mem ((c.tc : Thread nD τ).loc main_v4_3) = squareF (aP m c) (aV m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨((h.1 c).1 4).trans (final4 m c), ((h.1 c).1 5).trans (final5 m c), ((h.1 c).1 6).trans (final6 m c),
      ((h.1 c).1 7).trans (final7 m c), h.2.1 c⟩)
    (θ_run_and (run_main m ρ) (frame m ρ))

end Cert.Kernel35Ideal.AdamIn

/-! ## The claims -/

namespace Cert.AdamIn

open Idealize.ShloMosaic Idealize.ShloMosaic.TcCoe Idealize.SL.Sem

theorem kernel : Cert.quiescent_Kernel35 := fun m g _ => Cert.Kernel35.Gen.frame m g
theorem kernelIdeal : Cert.quiescent_Kernel35Ideal := fun m g _ => Cert.Kernel35Ideal.Gen.frame m g
theorem referenceIdeal : Cert.quiescent_Reference35Ideal := fun m g _ =>
  (θ_run Cert.Reference35Ideal.defs _ _).mono (fun r h => ⟨fun c => (h c).2.2.2.2, sem_eq_zero_of_no_sems (by decide) r.2⟩)
    (Cert.Reference35Ideal.Value.run (F := Ideal) m g)

open Cert.Kernel35Ideal.AdamIn in
theorem algebraic : Cert.algebraic_Kernel35Ideal_Reference35Ideal := fun m g m' g' hpre hag =>
  ⟨fun c => gradF (aP m c), fun c => deltaF (aP m c) (aW m c) (aM m c) (aV m c), fun c => meanF (aP m c) (aM m c), fun c => squareF (aP m c) (aV m c),
    Cert.Kernel35Ideal.AdamIn.run m g,
    (θ_run _ _ _).mono (fun _ h c => by
      obtain ⟨h0, h1, h2, h3, ha⟩ := h c
      obtain ⟨a0, a1, a2, a3⟩ := hag c
      rw [a0] at h0
      rw [a0, a1, a2, a3] at h1
      rw [a0, a2] at h2
      rw [a0, a3] at h3
      exact ⟨h0.trans (Cert.Reference35Ideal.AdamIn.gradR_eq _), h1.trans (Cert.Reference35Ideal.AdamIn.deltaR_eq _ _ _ _),
        h2.trans (Cert.Reference35Ideal.AdamIn.meanR_eq _ _), h3.trans (Cert.Reference35Ideal.AdamIn.squareR_eq _ _), ha⟩)
      (Cert.Reference35Ideal.Value.run (F := Ideal) m' g')⟩

end Cert.AdamIn

end
-- ==== Proof.AdamA.lean ====
/- The optimiser's step for w_a: the gradient's eight parts summed, then the moments and the change. -/
module

public import proofs.«01_k».proof.Defs
public import proofs.«01_k».proof.Proof.AdamSpec
public import proofs.«01_k».proof.Proof.Gen.Kernel36.Frame
public import proofs.«01_k».proof.Proof.Gen.Kernel36Ideal.Frame
public import proofs.«01_k».proof.Proof.Gen.Reference36Ideal.Run
import Idealize.ShloMosaic.Lib.Pointwise
public import Idealize.ShloMosaic.Lib.Pipeline.ValueKit
import Idealize.ShloMosaic.Lib.Pipeline.ReadBack
@[expose] public section

set_option maxRecDepth 16384

noncomputable section

namespace Cert.AdamA

open Idealize.ShloMosaic

/-- The whole weight's place of a row and a column of the flat one. -/
abbrev src (n : Fin 512) (q : Fin 1024) : (⟨3, ![2, 256, 1024]⟩ : Shape).Idx := ix3 ⟨n.val / 256, by omega⟩ ⟨n.val % 256, by omega⟩ q

/-- The gradient: the eight parts' sum. -/
def grad (p : (⟨4, ![8, 2, 256, 1024]⟩ : Shape).Idx → EReal) (n : Fin 512) (q : Fin 1024) : EReal :=
  ∑ d : Fin 8, p (ix4 d ⟨n.val / 256, by omega⟩ ⟨n.val % 256, by omega⟩ q)

section
variable (p : (⟨4, ![8, 2, 256, 1024]⟩ : Shape).Idx → EReal) (w m v : (⟨3, ![2, 256, 1024]⟩ : Shape).Idx → EReal)

/-- The four results: the gradient, the change, the two moments. -/
def gradF (j : (⟨2, ![512, 1024]⟩ : Shape).Idx) : EReal := grad p (j 0) (j 1)
def deltaF (j : (⟨2, ![512, 1024]⟩ : Shape).Idx) : EReal :=
  Cert.Adam.delta (w (src (j 0) (j 1))) (grad p (j 0) (j 1)) (m (src (j 0) (j 1))) (v (src (j 0) (j 1)))
def meanF (j : (⟨2, ![512, 1024]⟩ : Shape).Idx) : EReal := Cert.Adam.mean (grad p (j 0) (j 1)) (m (src (j 0) (j 1)))
def squareF (j : (⟨2, ![512, 1024]⟩ : Shape).Idx) : EReal := Cert.Adam.square (grad p (j 0) (j 1)) (v (src (j 0) (j 1)))

end

end Cert.AdamA

namespace Cert.Reference36Ideal.AdamA

open Cert.Reference36Ideal Cert.Reference36Ideal.Gen Idealize.ShloMosaic
open Cert.AdamA

abbrev gradR (p : FVec Ideal S8x2x256x1024 .bf16) : FVec Ideal S2x256x1024 .f32 :=
  Host.reduceAdd (extf .f32 p bitsLt_bf16_f32) (constant S_ .f32 0x00000000#32) reducesTo_S8x2x256x1024_S2x256x1024_d0 h_S_
abbrev meanR (g m : FVec Ideal S2x256x1024 .f32) : FVec Ideal S2x256x1024 .f32 :=
  addf (mulf (broadcastInDim S2x256x1024 ![] bcast_S_S2x256x1024 (constant S_ .f32 0x3F666666#32)) m) (mulf (broadcastInDim S2x256x1024 ![] bcast_S_S2x256x1024 (constant S_ .f32 0x3DCCCCCD#32)) g)
abbrev squareR (g v : FVec Ideal S2x256x1024 .f32) : FVec Ideal S2x256x1024 .f32 :=
  addf (mulf (broadcastInDim S2x256x1024 ![] bcast_S_S2x256x1024 (constant S_ .f32 0x3F7FBE77#32)) v) (mulf (broadcastInDim S2x256x1024 ![] bcast_S_S2x256x1024 (constant S_ .f32 0x3A83126F#32)) (mulf g g))
abbrev deltaR (w g m v : FVec Ideal S2x256x1024 .f32) : FVec Ideal S2x256x1024 .f32 :=
  mulf (broadcastInDim S2x256x1024 ![] bcast_S_S2x256x1024 (constant S_ .f32 0xBA83126F#32)) (addf (Host.divf (Host.divf (meanR g m)
    (broadcastInDim S2x256x1024 ![] bcast_S_S2x256x1024 (constant S_ .f32 0x3F26BD02#32))) (addf (Host.sqrt (Host.divf (squareR g v)
    (broadcastInDim S2x256x1024 ![] bcast_S_S2x256x1024 (constant S_ .f32 0x3C231ACC#32)))) (broadcastInDim S2x256x1024 ![] bcast_S_S2x256x1024 (constant S_ .f32 0x322BCC77#32))))
    (mulf (broadcastInDim S2x256x1024 ![] bcast_S_S2x256x1024 (constant S_ .f32 0x3C23D70A#32)) w))

/-- An array read flat. -/
theorem flat (a : FVec Ideal S2x256x1024 .f32) (n : Fin 512) (q : Fin 1024) : shapeCast S512x1024 a shapeCasts_S2x256x1024_S512x1024 (ix2 n q) = a (src n q) := by
  unfold src
  pointwise

theorem grad_apply (p : FVec Ideal S8x2x256x1024 .bf16) (n : Fin 512) (q : Fin 1024) : gradR p (src n q) = grad p n q := by
  unfold gradR grad src
  pointwise
theorem mean_apply (g m : FVec Ideal S2x256x1024 .f32) (i : S2x256x1024.Idx) : meanR g m i = Cert.Adam.mean (g i) (m i) := by
  unfold meanR Cert.Adam.mean
  pointwise
theorem square_apply (g v : FVec Ideal S2x256x1024 .f32) (i : S2x256x1024.Idx) : squareR g v i = Cert.Adam.square (g i) (v i) := by
  unfold squareR Cert.Adam.square
  pointwise
theorem delta_apply (w g m v : FVec Ideal S2x256x1024 .f32) (i : S2x256x1024.Idx) : deltaR w g m v i = Cert.Adam.delta (w i) (g i) (m i) (v i) := by
  unfold Cert.Adam.delta
  rw [← mean_apply, ← square_apply]
  unfold deltaR
  generalize meanR g m = a, squareR g v = b
  pointwise

variable (p : FVec Ideal S8x2x256x1024 .bf16) (w m v : FVec Ideal S2x256x1024 .f32)

theorem gradR_eq : shapeCast S512x1024 (gradR p) shapeCasts_S2x256x1024_S512x1024 = gradF p := by
  funext j
  obtain ⟨n, q, rfl⟩ : ∃ (n : Fin _) (q : Fin _), j = ix2 n q := ⟨_, _, eq_ix2 j⟩
  exact (flat _ n q).trans (grad_apply p n q)
theorem deltaR_eq : shapeCast S512x1024 (deltaR w (gradR p) m v) shapeCasts_S2x256x1024_S512x1024 = deltaF p w m v := by
  funext j
  obtain ⟨n, q, rfl⟩ : ∃ (n : Fin _) (q : Fin _), j = ix2 n q := ⟨_, _, eq_ix2 j⟩
  refine (flat _ n q).trans ((delta_apply _ _ _ _ _).trans ?_)
  rw [grad_apply]; rfl
theorem meanR_eq : shapeCast S512x1024 (meanR (gradR p) m) shapeCasts_S2x256x1024_S512x1024 = meanF p m := by
  funext j
  obtain ⟨n, q, rfl⟩ : ∃ (n : Fin _) (q : Fin _), j = ix2 n q := ⟨_, _, eq_ix2 j⟩
  refine (flat _ n q).trans ((mean_apply _ _ _).trans ?_)
  rw [grad_apply]; rfl
theorem squareR_eq : shapeCast S512x1024 (squareR (gradR p) v) shapeCasts_S2x256x1024_S512x1024 = squareF p v := by
  funext j
  obtain ⟨n, q, rfl⟩ : ∃ (n : Fin _) (q : Fin _), j = ix2 n q := ⟨_, _, eq_ix2 j⟩
  refine (flat _ n q).trans ((square_apply _ _ _).trans ?_)
  rw [grad_apply]; rfl

end Cert.Reference36Ideal.AdamA

namespace Cert.Kernel36Ideal.AdamA

open Cert.Kernel36Ideal Cert.Kernel36Ideal.Gen
open Idealize.ShloMosaic Idealize.ShloMosaic.TcCoe Idealize.SL.Sem
open Idealize.ShloMosaic.Pipeline (Dat)
open Cert.AdamA

variable (m : (l : Loc nD τ sig) → Buf (Elt Ideal) l) (c : Dev nD)

abbrev aP : FVec Ideal S8x2x256x1024 .bf16 := m ((c : Thread nD τ).loc main_arg0)
abbrev aW : FVec Ideal S2x256x1024 .f32 := m ((c : Thread nD τ).loc main_arg1)
abbrev aM : FVec Ideal S2x256x1024 .f32 := m ((c : Thread nD τ).loc main_arg2)
abbrev aV : FVec Ideal S2x256x1024 .f32 := m ((c : Thread nD τ).loc main_arg3)

theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The row of the flat array that a tile's row is, and where its element lies. -/
abbrev rw_ (t : Fin cfg0.N) (i : Fin 128) : Fin 512 := ⟨128 * t.val + i.val, by have := lt_of_lt_of_eq t.isLt N_0; omega⟩
abbrev pt (t : Fin cfg0.N) (i : Fin 128) (q : Fin 1024) : S512x1024.Idx := ix2 (rw_ t i) q

/-- The host's flat arrays. -/
theorem flat0 : (V m c main_v0 : FVec Ideal S8x512x1024 .bf16) = shapeCast S8x512x1024 (aP m c) shapeCasts_S8x2x256x1024_S8x512x1024 := rfl
theorem flat1 : (V m c main_v1 : FVec Ideal S512x1024 .f32) = shapeCast S512x1024 (aW m c) shapeCasts_S2x256x1024_S512x1024 := rfl
theorem flat2 : (V m c main_v2 : FVec Ideal S512x1024 .f32) = shapeCast S512x1024 (aM m c) shapeCasts_S2x256x1024_S512x1024 := rfl
theorem flat3 : (V m c main_v3 : FVec Ideal S512x1024 .f32) = shapeCast S512x1024 (aV m c) shapeCasts_S2x256x1024_S512x1024 := rfl

theorem flat (a : FVec Ideal S2x256x1024 .f32) (n : Fin 512) (q : Fin 1024) : shapeCast S512x1024 a shapeCasts_S2x256x1024_S512x1024 (ix2 n q) = a (src n q) := by
  unfold src
  pointwise
theorem flatP (a : FVec Ideal S8x2x256x1024 .bf16) (d : Fin 8) (n : Fin 512) (q : Fin 1024) :
    shapeCast S8x512x1024 a shapeCasts_S8x2x256x1024_S8x512x1024 (ix3 d n q) = a (ix4 d ⟨n.val / 256, by omega⟩ ⟨n.val % 256, by omega⟩ q) := by
  pointwise

abbrev bP (t : Fin cfg0.N) : FVec Ideal S8x128x1024 .bf16 := iblk m c 0 t
abbrev bW (t : Fin cfg0.N) : FVec Ideal S128x1024 .f32 := iblk m c 1 t
abbrev bM (t : Fin cfg0.N) : FVec Ideal S128x1024 .f32 := iblk m c 2 t
abbrev bV (t : Fin cfg0.N) : FVec Ideal S128x1024 .f32 := iblk m c 3 t
theorem p_blk (t : Fin cfg0.N) (d : Fin 8) (i : Fin 128) (q : Fin 1024) : bP m c t (ix3 d i q)
    = aP m c (ix4 d ⟨(rw_ t i).val / 256, by omega⟩ ⟨(rw_ t i).val % 256, by omega⟩ q) := by
  rw [← flatP (aP m c), ← flat0]
  blk_point [iblk, idx t]
theorem w_blk (t : Fin cfg0.N) (i : Fin 128) (q : Fin 1024) : bW m c t (ix2 i q) = aW m c (src (rw_ t i) q) := by
  rw [← flat (aW m c), ← flat1]
  blk_point [iblk, idx t]
theorem m_blk (t : Fin cfg0.N) (i : Fin 128) (q : Fin 1024) : bM m c t (ix2 i q) = aM m c (src (rw_ t i) q) := by
  rw [← flat (aM m c), ← flat2]
  blk_point [iblk, idx t]
theorem v_blk (t : Fin cfg0.N) (i : Fin 128) (q : Fin 1024) : bV m c t (ix2 i q) = aV m c (src (rw_ t i) q) := by
  rw [← flat (aV m c), ← flat3]
  blk_point [iblk, idx t]

/-! ## The body at one element -/

theorem grad_tile (x : FVec Ideal S8x128x1024 .bf16) (i : Fin 128) (q : Fin 1024) :
    k0_pay4 (F := Ideal) x (ix2 i q) = ∑ d : Fin 8, x (ix3 d i q) := by
  rw [Fin.sum_univ_eight]
  pointwise [k0_pay4]
theorem mean_tile (x : FVec Ideal S8x128x1024 .bf16) (y : FVec Ideal S128x1024 .f32) (i : Fin 128) (q : Fin 1024) :
    k0_pay5 (F := Ideal) x y (ix2 i q) = Cert.Adam.mean (∑ d : Fin 8, x (ix3 d i q)) (y (ix2 i q)) := by
  rw [← grad_tile]
  unfold Cert.Adam.mean k0_pay5
  generalize k0_pay4 (F := Ideal) x = g
  pointwise
theorem square_tile (x : FVec Ideal S8x128x1024 .bf16) (y : FVec Ideal S128x1024 .f32) (i : Fin 128) (q : Fin 1024) :
    k0_pay1 (F := Ideal) (k0_pay6 y) (k0_pay7 x) (ix2 i q) = Cert.Adam.square (∑ d : Fin 8, x (ix3 d i q)) (y (ix2 i q)) := by
  rw [← grad_tile]
  unfold Cert.Adam.square k0_pay1 k0_pay6 k0_pay7
  generalize k0_pay4 (F := Ideal) x = g
  pointwise
theorem delta_tile (x : FVec Ideal S8x128x1024 .bf16) (y z u : FVec Ideal S128x1024 .f32) (i : Fin 128) (q : Fin 1024) :
    k0_pay2 (F := Ideal) (k0_pay3 y) (k0_pay5 x z) (k0_pay6 u) (k0_pay7 x) (ix2 i q)
      = Cert.Adam.delta (y (ix2 i q)) (∑ d : Fin 8, x (ix3 d i q)) (z (ix2 i q)) (u (ix2 i q)) := by
  unfold Cert.Adam.delta
  rw [← mean_tile, ← square_tile]
  unfold k0_pay2 k0_pay3
  generalize k0_pay5 (F := Ideal) x z = a, k0_pay1 (F := Ideal) (k0_pay6 u) (k0_pay7 x) = b
  pointwise

theorem sum_blk (t : Fin cfg0.N) (i : Fin 128) (q : Fin 1024) : ∑ d : Fin 8, bP m c t (ix3 d i q) = grad (aP m c) (rw_ t i) q :=
  Finset.sum_congr rfl fun d _ => p_blk m c t d i q

/-! ## The four results -/

theorem out4 (t : Fin cfg0.N) (i : Fin 128) (q : Fin 1024) : (dats m 0 c).after 4 t (ix2 i q) = gradF (aP m c) (pt t i q) := by
  have h := grad_tile (bP m c t) i q
  rw [sum_blk] at h
  refine Eq.trans ?_ h
  rw [after0_4]; frame_out
theorem out5 (t : Fin cfg0.N) (i : Fin 128) (q : Fin 1024) : (dats m 0 c).after 5 t (ix2 i q)
    = deltaF (aP m c) (aW m c) (aM m c) (aV m c) (pt t i q) := by
  have h := delta_tile (bP m c t) (bW m c t) (bM m c t) (bV m c t) i q
  rw [sum_blk, w_blk, m_blk, v_blk] at h
  refine Eq.trans ?_ h
  rw [after0_5]; unfold out0_5 k0_pay10 k0_pay9 k0_pay8; frame_out
theorem out6 (t : Fin cfg0.N) (i : Fin 128) (q : Fin 1024) : (dats m 0 c).after 6 t (ix2 i q) = meanF (aP m c) (aM m c) (pt t i q) := by
  have h := mean_tile (bP m c t) (bM m c t) i q
  rw [sum_blk, m_blk] at h
  refine Eq.trans ?_ h
  rw [after0_6]; unfold out0_6 k0_pay8; frame_out
theorem out7 (t : Fin cfg0.N) (i : Fin 128) (q : Fin 1024) : (dats m 0 c).after 7 t (ix2 i q) = squareF (aP m c) (aV m c) (pt t i q) := by
  have h := square_tile (bP m c t) (bV m c t) i q
  rw [sum_blk, v_blk] at h
  refine Eq.trans ?_ h
  rw [after0_7]; unfold out0_7 k0_pay10 k0_pay9; frame_out

theorem final4 : (dats m 0 c).arrAt 4 (cfgs 0).N = gradF (aP m c) := by
  refine (dats m 0 c).arrAt_eq_of_covers 4 _ (by decide +kernel) fun t hf y => ?_
  blk_simp
  obtain ⟨i, q, rfl⟩ : ∃ (i : Fin 128) (q : Fin 1024), y = ix2 i q := ⟨_, _, eq_ix2 y⟩
  rw [show (win0_4.blk t).view.emb (ix2 i q) = pt t i q from by unfold pt; blk_ext [idx t]]
  exact out4 m c t i q

theorem final5 : (dats m 0 c).arrAt 5 (cfgs 0).N = deltaF (aP m c) (aW m c) (aM m c) (aV m c) := by
  refine (dats m 0 c).arrAt_eq_of_covers 5 _ (by decide +kernel) fun t hf y => ?_
  blk_simp
  obtain ⟨i, q, rfl⟩ : ∃ (i : Fin 128) (q : Fin 1024), y = ix2 i q := ⟨_, _, eq_ix2 y⟩
  rw [show (win0_5.blk t).view.emb (ix2 i q) = pt t i q from by unfold pt; blk_ext [idx t]]
  exact out5 m c t i q

theorem final6 : (dats m 0 c).arrAt 6 (cfgs 0).N = meanF (aP m c) (aM m c) := by
  refine (dats m 0 c).arrAt_eq_of_covers 6 _ (by decide +kernel) fun t hf y => ?_
  blk_simp
  obtain ⟨i, q, rfl⟩ : ∃ (i : Fin 128) (q : Fin 1024), y = ix2 i q := ⟨_, _, eq_ix2 y⟩
  rw [show (win0_6.blk t).view.emb (ix2 i q) = pt t i q from by unfold pt; blk_ext [idx t]]
  exact out6 m c t i q

theorem final7 : (dats m 0 c).arrAt 7 (cfgs 0).N = squareF (aP m c) (aV m c) := by
  refine (dats m 0 c).arrAt_eq_of_covers 7 _ (by decide +kernel) fun t hf y => ?_
  blk_simp
  obtain ⟨i, q, rfl⟩ : ∃ (i : Fin 128) (q : Fin 1024), y = ix2 i q := ⟨_, _, eq_ix2 y⟩
  rw [show (win0_7.blk t).view.emb (ix2 i q) = pt t i q from by unfold pt; blk_ext [idx t]]
  exact out7 m c t i q

theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v4_0) = gradF (aP m c)
    ∧ r.2.mem ((c.tc : Thread nD τ).loc main_v4_1) = deltaF (aP m c) (aW m c) (aM m c) (aV m c)
    ∧ r.2.mem ((c.tc : Thread nD τ).loc main_v4_2) = meanF (aP m c) (aM m c)
    ∧ r.2.mem ((c.tc : Thread nD τ).loc main_v4_3) = squareF (aP m c) (aV m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨((h.1 c).1 4).trans (final4 m c), ((h.1 c).1 5).trans (final5 m c), ((h.1 c).1 6).trans (final6 m c),
      ((h.1 c).1 7).trans (final7 m c), h.2.1 c⟩)
    (θ_run_and (run_main m ρ) (frame m ρ))

end Cert.Kernel36Ideal.AdamA

/-! ## The claims -/

namespace Cert.AdamA

open Idealize.ShloMosaic Idealize.ShloMosaic.TcCoe Idealize.SL.Sem

theorem kernel : Cert.quiescent_Kernel36 := fun m g _ => Cert.Kernel36.Gen.frame m g
theorem kernelIdeal : Cert.quiescent_Kernel36Ideal := fun m g _ => Cert.Kernel36Ideal.Gen.frame m g
theorem referenceIdeal : Cert.quiescent_Reference36Ideal := fun m g _ =>
  (θ_run Cert.Reference36Ideal.defs _ _).mono (fun r h => ⟨fun c => (h c).2.2.2.2, sem_eq_zero_of_no_sems (by decide) r.2⟩)
    (Cert.Reference36Ideal.Value.run (F := Ideal) m g)

open Cert.Kernel36Ideal.AdamA in
theorem algebraic : Cert.algebraic_Kernel36Ideal_Reference36Ideal := fun m g m' g' hpre hag =>
  ⟨fun c => gradF (aP m c), fun c => deltaF (aP m c) (aW m c) (aM m c) (aV m c), fun c => meanF (aP m c) (aM m c), fun c => squareF (aP m c) (aV m c),
    Cert.Kernel36Ideal.AdamA.run m g,
    (θ_run _ _ _).mono (fun _ h c => by
      obtain ⟨h0, h1, h2, h3, ha⟩ := h c
      obtain ⟨a0, a1, a2, a3⟩ := hag c
      rw [a0] at h0
      rw [a0, a1, a2, a3] at h1
      rw [a0, a2] at h2
      rw [a0, a3] at h3
      exact ⟨h0.trans (Cert.Reference36Ideal.AdamA.gradR_eq _), h1.trans (Cert.Reference36Ideal.AdamA.deltaR_eq _ _ _ _),
        h2.trans (Cert.Reference36Ideal.AdamA.meanR_eq _ _), h3.trans (Cert.Reference36Ideal.AdamA.squareR_eq _ _), ha⟩)
      (Cert.Reference36Ideal.Value.run (F := Ideal) m' g')⟩

end Cert.AdamA

end
-- ==== Proof.AdamB.lean ====
/- The optimiser's step for w_b: the gradient's eight parts summed, then the moments and the change. -/
module

public import proofs.«01_k».proof.Defs
public import proofs.«01_k».proof.Proof.AdamSpec
public import proofs.«01_k».proof.Proof.Gen.Kernel37.Frame
public import proofs.«01_k».proof.Proof.Gen.Kernel37Ideal.Frame
public import proofs.«01_k».proof.Proof.Gen.Reference37Ideal.Run
import Idealize.ShloMosaic.Lib.Pointwise
public import Idealize.ShloMosaic.Lib.Pipeline.ValueKit
import Idealize.ShloMosaic.Lib.Pipeline.ReadBack
@[expose] public section

set_option maxRecDepth 16384

noncomputable section

namespace Cert.AdamB

open Idealize.ShloMosaic

/-- The whole weight's place of a row and a column of the flat one. -/
abbrev src (n : Fin 1024) (q : Fin 256) : (⟨3, ![2, 512, 256]⟩ : Shape).Idx := ix3 ⟨n.val / 512, by omega⟩ ⟨n.val % 512, by omega⟩ q

/-- The gradient: the eight parts' sum. -/
def grad (p : (⟨4, ![8, 2, 512, 256]⟩ : Shape).Idx → EReal) (n : Fin 1024) (q : Fin 256) : EReal :=
  ∑ d : Fin 8, p (ix4 d ⟨n.val / 512, by omega⟩ ⟨n.val % 512, by omega⟩ q)

section
variable (p : (⟨4, ![8, 2, 512, 256]⟩ : Shape).Idx → EReal) (w m v : (⟨3, ![2, 512, 256]⟩ : Shape).Idx → EReal)

/-- The four results: the gradient, the change, the two moments. -/
def gradF (j : (⟨2, ![1024, 256]⟩ : Shape).Idx) : EReal := grad p (j 0) (j 1)
def deltaF (j : (⟨2, ![1024, 256]⟩ : Shape).Idx) : EReal :=
  Cert.Adam.delta (w (src (j 0) (j 1))) (grad p (j 0) (j 1)) (m (src (j 0) (j 1))) (v (src (j 0) (j 1)))
def meanF (j : (⟨2, ![1024, 256]⟩ : Shape).Idx) : EReal := Cert.Adam.mean (grad p (j 0) (j 1)) (m (src (j 0) (j 1)))
def squareF (j : (⟨2, ![1024, 256]⟩ : Shape).Idx) : EReal := Cert.Adam.square (grad p (j 0) (j 1)) (v (src (j 0) (j 1)))

end

end Cert.AdamB

namespace Cert.Reference37Ideal.AdamB

open Cert.Reference37Ideal Cert.Reference37Ideal.Gen Idealize.ShloMosaic
open Cert.AdamB

abbrev gradR (p : FVec Ideal S8x2x512x256 .bf16) : FVec Ideal S2x512x256 .f32 :=
  Host.reduceAdd (extf .f32 p bitsLt_bf16_f32) (constant S_ .f32 0x00000000#32) reducesTo_S8x2x512x256_S2x512x256_d0 h_S_
abbrev meanR (g m : FVec Ideal S2x512x256 .f32) : FVec Ideal S2x512x256 .f32 :=
  addf (mulf (broadcastInDim S2x512x256 ![] bcast_S_S2x512x256 (constant S_ .f32 0x3F666666#32)) m) (mulf (broadcastInDim S2x512x256 ![] bcast_S_S2x512x256 (constant S_ .f32 0x3DCCCCCD#32)) g)
abbrev squareR (g v : FVec Ideal S2x512x256 .f32) : FVec Ideal S2x512x256 .f32 :=
  addf (mulf (broadcastInDim S2x512x256 ![] bcast_S_S2x512x256 (constant S_ .f32 0x3F7FBE77#32)) v) (mulf (broadcastInDim S2x512x256 ![] bcast_S_S2x512x256 (constant S_ .f32 0x3A83126F#32)) (mulf g g))
abbrev deltaR (w g m v : FVec Ideal S2x512x256 .f32) : FVec Ideal S2x512x256 .f32 :=
  mulf (broadcastInDim S2x512x256 ![] bcast_S_S2x512x256 (constant S_ .f32 0xBA83126F#32)) (addf (Host.divf (Host.divf (meanR g m)
    (broadcastInDim S2x512x256 ![] bcast_S_S2x512x256 (constant S_ .f32 0x3F26BD02#32))) (addf (Host.sqrt (Host.divf (squareR g v)
    (broadcastInDim S2x512x256 ![] bcast_S_S2x512x256 (constant S_ .f32 0x3C231ACC#32)))) (broadcastInDim S2x512x256 ![] bcast_S_S2x512x256 (constant S_ .f32 0x322BCC77#32))))
    (mulf (broadcastInDim S2x512x256 ![] bcast_S_S2x512x256 (constant S_ .f32 0x3C23D70A#32)) w))

/-- An array read flat. -/
theorem flat (a : FVec Ideal S2x512x256 .f32) (n : Fin 1024) (q : Fin 256) : shapeCast S1024x256 a shapeCasts_S2x512x256_S1024x256 (ix2 n q) = a (src n q) := by
  unfold src
  pointwise

theorem grad_apply (p : FVec Ideal S8x2x512x256 .bf16) (n : Fin 1024) (q : Fin 256) : gradR p (src n q) = grad p n q := by
  unfold gradR grad src
  pointwise
theorem mean_apply (g m : FVec Ideal S2x512x256 .f32) (i : S2x512x256.Idx) : meanR g m i = Cert.Adam.mean (g i) (m i) := by
  unfold meanR Cert.Adam.mean
  pointwise
theorem square_apply (g v : FVec Ideal S2x512x256 .f32) (i : S2x512x256.Idx) : squareR g v i = Cert.Adam.square (g i) (v i) := by
  unfold squareR Cert.Adam.square
  pointwise
theorem delta_apply (w g m v : FVec Ideal S2x512x256 .f32) (i : S2x512x256.Idx) : deltaR w g m v i = Cert.Adam.delta (w i) (g i) (m i) (v i) := by
  unfold Cert.Adam.delta
  rw [← mean_apply, ← square_apply]
  unfold deltaR
  generalize meanR g m = a, squareR g v = b
  pointwise

variable (p : FVec Ideal S8x2x512x256 .bf16) (w m v : FVec Ideal S2x512x256 .f32)

theorem gradR_eq : shapeCast S1024x256 (gradR p) shapeCasts_S2x512x256_S1024x256 = gradF p := by
  funext j
  obtain ⟨n, q, rfl⟩ : ∃ (n : Fin _) (q : Fin _), j = ix2 n q := ⟨_, _, eq_ix2 j⟩
  exact (flat _ n q).trans (grad_apply p n q)
theorem deltaR_eq : shapeCast S1024x256 (deltaR w (gradR p) m v) shapeCasts_S2x512x256_S1024x256 = deltaF p w m v := by
  funext j
  obtain ⟨n, q, rfl⟩ : ∃ (n : Fin _) (q : Fin _), j = ix2 n q := ⟨_, _, eq_ix2 j⟩
  refine (flat _ n q).trans ((delta_apply _ _ _ _ _).trans ?_)
  rw [grad_apply]; rfl
theorem meanR_eq : shapeCast S1024x256 (meanR (gradR p) m) shapeCasts_S2x512x256_S1024x256 = meanF p m := by
  funext j
  obtain ⟨n, q, rfl⟩ : ∃ (n : Fin _) (q : Fin _), j = ix2 n q := ⟨_, _, eq_ix2 j⟩
  refine (flat _ n q).trans ((mean_apply _ _ _).trans ?_)
  rw [grad_apply]; rfl
theorem squareR_eq : shapeCast S1024x256 (squareR (gradR p) v) shapeCasts_S2x512x256_S1024x256 = squareF p v := by
  funext j
  obtain ⟨n, q, rfl⟩ : ∃ (n : Fin _) (q : Fin _), j = ix2 n q := ⟨_, _, eq_ix2 j⟩
  refine (flat _ n q).trans ((square_apply _ _ _).trans ?_)
  rw [grad_apply]; rfl

end Cert.Reference37Ideal.AdamB

namespace Cert.Kernel37Ideal.AdamB

open Cert.Kernel37Ideal Cert.Kernel37Ideal.Gen
open Idealize.ShloMosaic Idealize.ShloMosaic.TcCoe Idealize.SL.Sem
open Idealize.ShloMosaic.Pipeline (Dat)
open Cert.AdamB

variable (m : (l : Loc nD τ sig) → Buf (Elt Ideal) l) (c : Dev nD)

abbrev aP : FVec Ideal S8x2x512x256 .bf16 := m ((c : Thread nD τ).loc main_arg0)
abbrev aW : FVec Ideal S2x512x256 .f32 := m ((c : Thread nD τ).loc main_arg1)
abbrev aM : FVec Ideal S2x512x256 .f32 := m ((c : Thread nD τ).loc main_arg2)
abbrev aV : FVec Ideal S2x512x256 .f32 := m ((c : Thread nD τ).loc main_arg3)

theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The row of the flat array that a tile's row is, and where its element lies. -/
abbrev rw_ (t : Fin cfg0.N) (i : Fin 512) : Fin 1024 := ⟨512 * t.val + i.val, by have := lt_of_lt_of_eq t.isLt N_0; omega⟩
abbrev pt (t : Fin cfg0.N) (i : Fin 512) (q : Fin 256) : S1024x256.Idx := ix2 (rw_ t i) q

/-- The host's flat arrays. -/
theorem flat0 : (V m c main_v0 : FVec Ideal S8x1024x256 .bf16) = shapeCast S8x1024x256 (aP m c) shapeCasts_S8x2x512x256_S8x1024x256 := rfl
theorem flat1 : (V m c main_v1 : FVec Ideal S1024x256 .f32) = shapeCast S1024x256 (aW m c) shapeCasts_S2x512x256_S1024x256 := rfl
theorem flat2 : (V m c main_v2 : FVec Ideal S1024x256 .f32) = shapeCast S1024x256 (aM m c) shapeCasts_S2x512x256_S1024x256 := rfl
theorem flat3 : (V m c main_v3 : FVec Ideal S1024x256 .f32) = shapeCast S1024x256 (aV m c) shapeCasts_S2x512x256_S1024x256 := rfl

theorem flat (a : FVec Ideal S2x512x256 .f32) (n : Fin 1024) (q : Fin 256) : shapeCast S1024x256 a shapeCasts_S2x512x256_S1024x256 (ix2 n q) = a (src n q) := by
  unfold src
  pointwise
theorem flatP (a : FVec Ideal S8x2x512x256 .bf16) (d : Fin 8) (n : Fin 1024) (q : Fin 256) :
    shapeCast S8x1024x256 a shapeCasts_S8x2x512x256_S8x1024x256 (ix3 d n q) = a (ix4 d ⟨n.val / 512, by omega⟩ ⟨n.val % 512, by omega⟩ q) := by
  pointwise

abbrev bP (t : Fin cfg0.N) : FVec Ideal S8x512x256 .bf16 := iblk m c 0 t
abbrev bW (t : Fin cfg0.N) : FVec Ideal S512x256 .f32 := iblk m c 1 t
abbrev bM (t : Fin cfg0.N) : FVec Ideal S512x256 .f32 := iblk m c 2 t
abbrev bV (t : Fin cfg0.N) : FVec Ideal S512x256 .f32 := iblk m c 3 t
theorem p_blk (t : Fin cfg0.N) (d : Fin 8) (i : Fin 512) (q : Fin 256) : bP m c t (ix3 d i q)
    = aP m c (ix4 d ⟨(rw_ t i).val / 512, by omega⟩ ⟨(rw_ t i).val % 512, by omega⟩ q) := by
  rw [← flatP (aP m c), ← flat0]
  blk_point [iblk, idx t]
theorem w_blk (t : Fin cfg0.N) (i : Fin 512) (q : Fin 256) : bW m c t (ix2 i q) = aW m c (src (rw_ t i) q) := by
  rw [← flat (aW m c), ← flat1]
  blk_point [iblk, idx t]
theorem m_blk (t : Fin cfg0.N) (i : Fin 512) (q : Fin 256) : bM m c t (ix2 i q) = aM m c (src (rw_ t i) q) := by
  rw [← flat (aM m c), ← flat2]
  blk_point [iblk, idx t]
theorem v_blk (t : Fin cfg0.N) (i : Fin 512) (q : Fin 256) : bV m c t (ix2 i q) = aV m c (src (rw_ t i) q) := by
  rw [← flat (aV m c), ← flat3]
  blk_point [iblk, idx t]

/-! ## The body at one element -/

theorem grad_tile (x : FVec Ideal S8x512x256 .bf16) (i : Fin 512) (q : Fin 256) :
    k0_pay4 (F := Ideal) x (ix2 i q) = ∑ d : Fin 8, x (ix3 d i q) := by
  rw [Fin.sum_univ_eight]
  pointwise [k0_pay4]
theorem mean_tile (x : FVec Ideal S8x512x256 .bf16) (y : FVec Ideal S512x256 .f32) (i : Fin 512) (q : Fin 256) :
    k0_pay5 (F := Ideal) x y (ix2 i q) = Cert.Adam.mean (∑ d : Fin 8, x (ix3 d i q)) (y (ix2 i q)) := by
  rw [← grad_tile]
  unfold Cert.Adam.mean k0_pay5
  generalize k0_pay4 (F := Ideal) x = g
  pointwise
theorem square_tile (x : FVec Ideal S8x512x256 .bf16) (y : FVec Ideal S512x256 .f32) (i : Fin 512) (q : Fin 256) :
    k0_pay1 (F := Ideal) (k0_pay6 y) (k0_pay7 x) (ix2 i q) = Cert.Adam.square (∑ d : Fin 8, x (ix3 d i q)) (y (ix2 i q)) := by
  rw [← grad_tile]
  unfold Cert.Adam.square k0_pay1 k0_pay6 k0_pay7
  generalize k0_pay4 (F := Ideal) x = g
  pointwise
theorem delta_tile (x : FVec Ideal S8x512x256 .bf16) (y z u : FVec Ideal S512x256 .f32) (i : Fin 512) (q : Fin 256) :
    k0_pay2 (F := Ideal) (k0_pay3 y) (k0_pay5 x z) (k0_pay6 u) (k0_pay7 x) (ix2 i q)
      = Cert.Adam.delta (y (ix2 i q)) (∑ d : Fin 8, x (ix3 d i q)) (z (ix2 i q)) (u (ix2 i q)) := by
  unfold Cert.Adam.delta
  rw [← mean_tile, ← square_tile]
  unfold k0_pay2 k0_pay3
  generalize k0_pay5 (F := Ideal) x z = a, k0_pay1 (F := Ideal) (k0_pay6 u) (k0_pay7 x) = b
  pointwise

theorem sum_blk (t : Fin cfg0.N) (i : Fin 512) (q : Fin 256) : ∑ d : Fin 8, bP m c t (ix3 d i q) = grad (aP m c) (rw_ t i) q :=
  Finset.sum_congr rfl fun d _ => p_blk m c t d i q

/-! ## The four results -/

theorem out4 (t : Fin cfg0.N) (i : Fin 512) (q : Fin 256) : (dats m 0 c).after 4 t (ix2 i q) = gradF (aP m c) (pt t i q) := by
  have h := grad_tile (bP m c t) i q
  rw [sum_blk] at h
  refine Eq.trans ?_ h
  rw [after0_4]; frame_out
theorem out5 (t : Fin cfg0.N) (i : Fin 512) (q : Fin 256) : (dats m 0 c).after 5 t (ix2 i q)
    = deltaF (aP m c) (aW m c) (aM m c) (aV m c) (pt t i q) := by
  have h := delta_tile (bP m c t) (bW m c t) (bM m c t) (bV m c t) i q
  rw [sum_blk, w_blk, m_blk, v_blk] at h
  refine Eq.trans ?_ h
  rw [after0_5]; unfold out0_5 k0_pay10 k0_pay9 k0_pay8; frame_out
theorem out6 (t : Fin cfg0.N) (i : Fin 512) (q : Fin 256) : (dats m 0 c).after 6 t (ix2 i q) = meanF (aP m c) (aM m c) (pt t i q) := by
  have h := mean_tile (bP m c t) (bM m c t) i q
  rw [sum_blk, m_blk] at h
  refine Eq.trans ?_ h
  rw [after0_6]; unfold out0_6 k0_pay8; frame_out
theorem out7 (t : Fin cfg0.N) (i : Fin 512) (q : Fin 256) : (dats m 0 c).after 7 t (ix2 i q) = squareF (aP m c) (aV m c) (pt t i q) := by
  have h := square_tile (bP m c t) (bV m c t) i q
  rw [sum_blk, v_blk] at h
  refine Eq.trans ?_ h
  rw [after0_7]; unfold out0_7 k0_pay10 k0_pay9; frame_out

theorem final4 : (dats m 0 c).arrAt 4 (cfgs 0).N = gradF (aP m c) := by
  refine (dats m 0 c).arrAt_eq_of_covers 4 _ (by decide +kernel) fun t hf y => ?_
  blk_simp
  obtain ⟨i, q, rfl⟩ : ∃ (i : Fin 512) (q : Fin 256), y = ix2 i q := ⟨_, _, eq_ix2 y⟩
  rw [show (win0_4.blk t).view.emb (ix2 i q) = pt t i q from by unfold pt; blk_ext [idx t]]
  exact out4 m c t i q

theorem final5 : (dats m 0 c).arrAt 5 (cfgs 0).N = deltaF (aP m c) (aW m c) (aM m c) (aV m c) := by
  refine (dats m 0 c).arrAt_eq_of_covers 5 _ (by decide +kernel) fun t hf y => ?_
  blk_simp
  obtain ⟨i, q, rfl⟩ : ∃ (i : Fin 512) (q : Fin 256), y = ix2 i q := ⟨_, _, eq_ix2 y⟩
  rw [show (win0_5.blk t).view.emb (ix2 i q) = pt t i q from by unfold pt; blk_ext [idx t]]
  exact out5 m c t i q

theorem final6 : (dats m 0 c).arrAt 6 (cfgs 0).N = meanF (aP m c) (aM m c) := by
  refine (dats m 0 c).arrAt_eq_of_covers 6 _ (by decide +kernel) fun t hf y => ?_
  blk_simp
  obtain ⟨i, q, rfl⟩ : ∃ (i : Fin 512) (q : Fin 256), y = ix2 i q := ⟨_, _, eq_ix2 y⟩
  rw [show (win0_6.blk t).view.emb (ix2 i q) = pt t i q from by unfold pt; blk_ext [idx t]]
  exact out6 m c t i q

theorem final7 : (dats m 0 c).arrAt 7 (cfgs 0).N = squareF (aP m c) (aV m c) := by
  refine (dats m 0 c).arrAt_eq_of_covers 7 _ (by decide +kernel) fun t hf y => ?_
  blk_simp
  obtain ⟨i, q, rfl⟩ : ∃ (i : Fin 512) (q : Fin 256), y = ix2 i q := ⟨_, _, eq_ix2 y⟩
  rw [show (win0_7.blk t).view.emb (ix2 i q) = pt t i q from by unfold pt; blk_ext [idx t]]
  exact out7 m c t i q

theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v4_0) = gradF (aP m c)
    ∧ r.2.mem ((c.tc : Thread nD τ).loc main_v4_1) = deltaF (aP m c) (aW m c) (aM m c) (aV m c)
    ∧ r.2.mem ((c.tc : Thread nD τ).loc main_v4_2) = meanF (aP m c) (aM m c)
    ∧ r.2.mem ((c.tc : Thread nD τ).loc main_v4_3) = squareF (aP m c) (aV m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨((h.1 c).1 4).trans (final4 m c), ((h.1 c).1 5).trans (final5 m c), ((h.1 c).1 6).trans (final6 m c),
      ((h.1 c).1 7).trans (final7 m c), h.2.1 c⟩)
    (θ_run_and (run_main m ρ) (frame m ρ))

end Cert.Kernel37Ideal.AdamB

/-! ## The claims -/

namespace Cert.AdamB

open Idealize.ShloMosaic Idealize.ShloMosaic.TcCoe Idealize.SL.Sem

theorem kernel : Cert.quiescent_Kernel37 := fun m g _ => Cert.Kernel37.Gen.frame m g
theorem kernelIdeal : Cert.quiescent_Kernel37Ideal := fun m g _ => Cert.Kernel37Ideal.Gen.frame m g
theorem referenceIdeal : Cert.quiescent_Reference37Ideal := fun m g _ =>
  (θ_run Cert.Reference37Ideal.defs _ _).mono (fun r h => ⟨fun c => (h c).2.2.2.2, sem_eq_zero_of_no_sems (by decide) r.2⟩)
    (Cert.Reference37Ideal.Value.run (F := Ideal) m g)

open Cert.Kernel37Ideal.AdamB in
theorem algebraic : Cert.algebraic_Kernel37Ideal_Reference37Ideal := fun m g m' g' hpre hag =>
  ⟨fun c => gradF (aP m c), fun c => deltaF (aP m c) (aW m c) (aM m c) (aV m c), fun c => meanF (aP m c) (aM m c), fun c => squareF (aP m c) (aV m c),
    Cert.Kernel37Ideal.AdamB.run m g,
    (θ_run _ _ _).mono (fun _ h c => by
      obtain ⟨h0, h1, h2, h3, ha⟩ := h c
      obtain ⟨a0, a1, a2, a3⟩ := hag c
      rw [a0] at h0
      rw [a0, a1, a2, a3] at h1
      rw [a0, a2] at h2
      rw [a0, a3] at h3
      exact ⟨h0.trans (Cert.Reference37Ideal.AdamB.gradR_eq _), h1.trans (Cert.Reference37Ideal.AdamB.deltaR_eq _ _ _ _),
        h2.trans (Cert.Reference37Ideal.AdamB.meanR_eq _ _), h3.trans (Cert.Reference37Ideal.AdamB.squareR_eq _ _), ha⟩)
      (Cert.Reference37Ideal.Value.run (F := Ideal) m' g')⟩

end Cert.AdamB

end
-- ==== Proof.AdamGate.lean ====
/- The optimiser's step for w_gate: the gradient's eight parts summed, then the moments and the change. -/
module

public import proofs.«01_k».proof.Defs
public import proofs.«01_k».proof.Proof.AdamSpec
public import proofs.«01_k».proof.Proof.Gen.Kernel38.Frame
public import proofs.«01_k».proof.Proof.Gen.Kernel38Ideal.Frame
public import proofs.«01_k».proof.Proof.Gen.Reference38Ideal.Run
import Idealize.ShloMosaic.Lib.Pointwise
public import Idealize.ShloMosaic.Lib.Pipeline.ValueKit
import Idealize.ShloMosaic.Lib.Pipeline.ReadBack
@[expose] public section

set_option maxRecDepth 16384

noncomputable section

namespace Cert.AdamGate

open Idealize.ShloMosaic

/-- The whole weight's place of a row and a column of the flat one. -/
abbrev src (n : Fin 2048) (q : Fin 704) : (⟨3, ![2, 1024, 704]⟩ : Shape).Idx := ix3 ⟨n.val / 1024, by omega⟩ ⟨n.val % 1024, by omega⟩ q

/-- The gradient: the eight parts' sum. -/
def grad (p : (⟨4, ![8, 2, 1024, 704]⟩ : Shape).Idx → EReal) (n : Fin 2048) (q : Fin 704) : EReal :=
  ∑ d : Fin 8, p (ix4 d ⟨n.val / 1024, by omega⟩ ⟨n.val % 1024, by omega⟩ q)

section
variable (p : (⟨4, ![8, 2, 1024, 704]⟩ : Shape).Idx → EReal) (w m v : (⟨3, ![2, 1024, 704]⟩ : Shape).Idx → EReal)

/-- The four results: the gradient, the change, the two moments. -/
def gradF (j : (⟨2, ![2048, 704]⟩ : Shape).Idx) : EReal := grad p (j 0) (j 1)
def deltaF (j : (⟨2, ![2048, 704]⟩ : Shape).Idx) : EReal :=
  Cert.Adam.delta (w (src (j 0) (j 1))) (grad p (j 0) (j 1)) (m (src (j 0) (j 1))) (v (src (j 0) (j 1)))
def meanF (j : (⟨2, ![2048, 704]⟩ : Shape).Idx) : EReal := Cert.Adam.mean (grad p (j 0) (j 1)) (m (src (j 0) (j 1)))
def squareF (j : (⟨2, ![2048, 704]⟩ : Shape).Idx) : EReal := Cert.Adam.square (grad p (j 0) (j 1)) (v (src (j 0) (j 1)))

end

end Cert.AdamGate

namespace Cert.Reference38Ideal.AdamGate

open Cert.Reference38Ideal Cert.Reference38Ideal.Gen Idealize.ShloMosaic
open Cert.AdamGate

abbrev gradR (p : FVec Ideal S8x2x1024x704 .bf16) : FVec Ideal S2x1024x704 .f32 :=
  Host.reduceAdd (extf .f32 p bitsLt_bf16_f32) (constant S_ .f32 0x00000000#32) reducesTo_S8x2x1024x704_S2x1024x704_d0 h_S_
abbrev meanR (g m : FVec Ideal S2x1024x704 .f32) : FVec Ideal S2x1024x704 .f32 :=
  addf (mulf (broadcastInDim S2x1024x704 ![] bcast_S_S2x1024x704 (constant S_ .f32 0x3F666666#32)) m) (mulf (broadcastInDim S2x1024x704 ![] bcast_S_S2x1024x704 (constant S_ .f32 0x3DCCCCCD#32)) g)
abbrev squareR (g v : FVec Ideal S2x1024x704 .f32) : FVec Ideal S2x1024x704 .f32 :=
  addf (mulf (broadcastInDim S2x1024x704 ![] bcast_S_S2x1024x704 (constant S_ .f32 0x3F7FBE77#32)) v) (mulf (broadcastInDim S2x1024x704 ![] bcast_S_S2x1024x704 (constant S_ .f32 0x3A83126F#32)) (mulf g g))
abbrev deltaR (w g m v : FVec Ideal S2x1024x704 .f32) : FVec Ideal S2x1024x704 .f32 :=
  mulf (broadcastInDim S2x1024x704 ![] bcast_S_S2x1024x704 (constant S_ .f32 0xBA83126F#32)) (addf (Host.divf (Host.divf (meanR g m)
    (broadcastInDim S2x1024x704 ![] bcast_S_S2x1024x704 (constant S_ .f32 0x3F26BD02#32))) (addf (Host.sqrt (Host.divf (squareR g v)
    (broadcastInDim S2x1024x704 ![] bcast_S_S2x1024x704 (constant S_ .f32 0x3C231ACC#32)))) (broadcastInDim S2x1024x704 ![] bcast_S_S2x1024x704 (constant S_ .f32 0x322BCC77#32))))
    (mulf (broadcastInDim S2x1024x704 ![] bcast_S_S2x1024x704 (constant S_ .f32 0x3C23D70A#32)) w))

/-- An array read flat. -/
theorem flat (a : FVec Ideal S2x1024x704 .f32) (n : Fin 2048) (q : Fin 704) : shapeCast S2048x704 a shapeCasts_S2x1024x704_S2048x704 (ix2 n q) = a (src n q) := by
  unfold src
  pointwise

theorem grad_apply (p : FVec Ideal S8x2x1024x704 .bf16) (n : Fin 2048) (q : Fin 704) : gradR p (src n q) = grad p n q := by
  unfold gradR grad src
  pointwise
theorem mean_apply (g m : FVec Ideal S2x1024x704 .f32) (i : S2x1024x704.Idx) : meanR g m i = Cert.Adam.mean (g i) (m i) := by
  unfold meanR Cert.Adam.mean
  pointwise
theorem square_apply (g v : FVec Ideal S2x1024x704 .f32) (i : S2x1024x704.Idx) : squareR g v i = Cert.Adam.square (g i) (v i) := by
  unfold squareR Cert.Adam.square
  pointwise
theorem delta_apply (w g m v : FVec Ideal S2x1024x704 .f32) (i : S2x1024x704.Idx) : deltaR w g m v i = Cert.Adam.delta (w i) (g i) (m i) (v i) := by
  unfold Cert.Adam.delta
  rw [← mean_apply, ← square_apply]
  unfold deltaR
  generalize meanR g m = a, squareR g v = b
  pointwise

variable (p : FVec Ideal S8x2x1024x704 .bf16) (w m v : FVec Ideal S2x1024x704 .f32)

theorem gradR_eq : shapeCast S2048x704 (gradR p) shapeCasts_S2x1024x704_S2048x704 = gradF p := by
  funext j
  obtain ⟨n, q, rfl⟩ : ∃ (n : Fin _) (q : Fin _), j = ix2 n q := ⟨_, _, eq_ix2 j⟩
  exact (flat _ n q).trans (grad_apply p n q)
theorem deltaR_eq : shapeCast S2048x704 (deltaR w (gradR p) m v) shapeCasts_S2x1024x704_S2048x704 = deltaF p w m v := by
  funext j
  obtain ⟨n, q, rfl⟩ : ∃ (n : Fin _) (q : Fin _), j = ix2 n q := ⟨_, _, eq_ix2 j⟩
  refine (flat _ n q).trans ((delta_apply _ _ _ _ _).trans ?_)
  rw [grad_apply]; rfl
theorem meanR_eq : shapeCast S2048x704 (meanR (gradR p) m) shapeCasts_S2x1024x704_S2048x704 = meanF p m := by
  funext j
  obtain ⟨n, q, rfl⟩ : ∃ (n : Fin _) (q : Fin _), j = ix2 n q := ⟨_, _, eq_ix2 j⟩
  refine (flat _ n q).trans ((mean_apply _ _ _).trans ?_)
  rw [grad_apply]; rfl
theorem squareR_eq : shapeCast S2048x704 (squareR (gradR p) v) shapeCasts_S2x1024x704_S2048x704 = squareF p v := by
  funext j
  obtain ⟨n, q, rfl⟩ : ∃ (n : Fin _) (q : Fin _), j = ix2 n q := ⟨_, _, eq_ix2 j⟩
  refine (flat _ n q).trans ((square_apply _ _ _).trans ?_)
  rw [grad_apply]; rfl

end Cert.Reference38Ideal.AdamGate

namespace Cert.Kernel38Ideal.AdamGate

open Cert.Kernel38Ideal Cert.Kernel38Ideal.Gen
open Idealize.ShloMosaic Idealize.ShloMosaic.TcCoe Idealize.SL.Sem
open Idealize.ShloMosaic.Pipeline (Dat)
open Cert.AdamGate

variable (m : (l : Loc nD τ sig) → Buf (Elt Ideal) l) (c : Dev nD)

abbrev aP : FVec Ideal S8x2x1024x704 .bf16 := m ((c : Thread nD τ).loc main_arg0)
abbrev aW : FVec Ideal S2x1024x704 .f32 := m ((c : Thread nD τ).loc main_arg1)
abbrev aM : FVec Ideal S2x1024x704 .f32 := m ((c : Thread nD τ).loc main_arg2)
abbrev aV : FVec Ideal S2x1024x704 .f32 := m ((c : Thread nD τ).loc main_arg3)

theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The row of the flat array that a tile's row is, and where its element lies. -/
abbrev rw_ (t : Fin cfg0.N) (i : Fin 128) : Fin 2048 := ⟨128 * t.val + i.val, by have := lt_of_lt_of_eq t.isLt N_0; omega⟩
abbrev pt (t : Fin cfg0.N) (i : Fin 128) (q : Fin 704) : S2048x704.Idx := ix2 (rw_ t i) q

/-- The host's flat arrays. -/
theorem flat0 : (V m c main_v0 : FVec Ideal S8x2048x704 .bf16) = shapeCast S8x2048x704 (aP m c) shapeCasts_S8x2x1024x704_S8x2048x704 := rfl
theorem flat1 : (V m c main_v1 : FVec Ideal S2048x704 .f32) = shapeCast S2048x704 (aW m c) shapeCasts_S2x1024x704_S2048x704 := rfl
theorem flat2 : (V m c main_v2 : FVec Ideal S2048x704 .f32) = shapeCast S2048x704 (aM m c) shapeCasts_S2x1024x704_S2048x704 := rfl
theorem flat3 : (V m c main_v3 : FVec Ideal S2048x704 .f32) = shapeCast S2048x704 (aV m c) shapeCasts_S2x1024x704_S2048x704 := rfl

theorem flat (a : FVec Ideal S2x1024x704 .f32) (n : Fin 2048) (q : Fin 704) : shapeCast S2048x704 a shapeCasts_S2x1024x704_S2048x704 (ix2 n q) = a (src n q) := by
  unfold src
  pointwise
theorem flatP (a : FVec Ideal S8x2x1024x704 .bf16) (d : Fin 8) (n : Fin 2048) (q : Fin 704) :
    shapeCast S8x2048x704 a shapeCasts_S8x2x1024x704_S8x2048x704 (ix3 d n q) = a (ix4 d ⟨n.val / 1024, by omega⟩ ⟨n.val % 1024, by omega⟩ q) := by
  pointwise

abbrev bP (t : Fin cfg0.N) : FVec Ideal S8x128x704 .bf16 := iblk m c 0 t
abbrev bW (t : Fin cfg0.N) : FVec Ideal S128x704 .f32 := iblk m c 1 t
abbrev bM (t : Fin cfg0.N) : FVec Ideal S128x704 .f32 := iblk m c 2 t
abbrev bV (t : Fin cfg0.N) : FVec Ideal S128x704 .f32 := iblk m c 3 t
theorem p_blk (t : Fin cfg0.N) (d : Fin 8) (i : Fin 128) (q : Fin 704) : bP m c t (ix3 d i q)
    = aP m c (ix4 d ⟨(rw_ t i).val / 1024, by omega⟩ ⟨(rw_ t i).val % 1024, by omega⟩ q) := by
  rw [← flatP (aP m c), ← flat0]
  blk_point [iblk, idx t]
theorem w_blk (t : Fin cfg0.N) (i : Fin 128) (q : Fin 704) : bW m c t (ix2 i q) = aW m c (src (rw_ t i) q) := by
  rw [← flat (aW m c), ← flat1]
  blk_point [iblk, idx t]
theorem m_blk (t : Fin cfg0.N) (i : Fin 128) (q : Fin 704) : bM m c t (ix2 i q) = aM m c (src (rw_ t i) q) := by
  rw [← flat (aM m c), ← flat2]
  blk_point [iblk, idx t]
theorem v_blk (t : Fin cfg0.N) (i : Fin 128) (q : Fin 704) : bV m c t (ix2 i q) = aV m c (src (rw_ t i) q) := by
  rw [← flat (aV m c), ← flat3]
  blk_point [iblk, idx t]

/-! ## The body at one element -/

theorem grad_tile (x : FVec Ideal S8x128x704 .bf16) (i : Fin 128) (q : Fin 704) :
    k0_pay4 (F := Ideal) x (ix2 i q) = ∑ d : Fin 8, x (ix3 d i q) := by
  rw [Fin.sum_univ_eight]
  pointwise [k0_pay4]
theorem mean_tile (x : FVec Ideal S8x128x704 .bf16) (y : FVec Ideal S128x704 .f32) (i : Fin 128) (q : Fin 704) :
    k0_pay5 (F := Ideal) x y (ix2 i q) = Cert.Adam.mean (∑ d : Fin 8, x (ix3 d i q)) (y (ix2 i q)) := by
  rw [← grad_tile]
  unfold Cert.Adam.mean k0_pay5
  generalize k0_pay4 (F := Ideal) x = g
  pointwise
theorem square_tile (x : FVec Ideal S8x128x704 .bf16) (y : FVec Ideal S128x704 .f32) (i : Fin 128) (q : Fin 704) :
    k0_pay1 (F := Ideal) (k0_pay6 y) (k0_pay7 x) (ix2 i q) = Cert.Adam.square (∑ d : Fin 8, x (ix3 d i q)) (y (ix2 i q)) := by
  rw [← grad_tile]
  unfold Cert.Adam.square k0_pay1 k0_pay6 k0_pay7
  generalize k0_pay4 (F := Ideal) x = g
  pointwise
theorem delta_tile (x : FVec Ideal S8x128x704 .bf16) (y z u : FVec Ideal S128x704 .f32) (i : Fin 128) (q : Fin 704) :
    k0_pay2 (F := Ideal) (k0_pay3 y) (k0_pay5 x z) (k0_pay6 u) (k0_pay7 x) (ix2 i q)
      = Cert.Adam.delta (y (ix2 i q)) (∑ d : Fin 8, x (ix3 d i q)) (z (ix2 i q)) (u (ix2 i q)) := by
  unfold Cert.Adam.delta
  rw [← mean_tile, ← square_tile]
  unfold k0_pay2 k0_pay3
  generalize k0_pay5 (F := Ideal) x z = a, k0_pay1 (F := Ideal) (k0_pay6 u) (k0_pay7 x) = b
  pointwise

theorem sum_blk (t : Fin cfg0.N) (i : Fin 128) (q : Fin 704) : ∑ d : Fin 8, bP m c t (ix3 d i q) = grad (aP m c) (rw_ t i) q :=
  Finset.sum_congr rfl fun d _ => p_blk m c t d i q

/-! ## The four results -/

theorem out4 (t : Fin cfg0.N) (i : Fin 128) (q : Fin 704) : (dats m 0 c).after 4 t (ix2 i q) = gradF (aP m c) (pt t i q) := by
  have h := grad_tile (bP m c t) i q
  rw [sum_blk] at h
  refine Eq.trans ?_ h
  rw [after0_4]; frame_out
theorem out5 (t : Fin cfg0.N) (i : Fin 128) (q : Fin 704) : (dats m 0 c).after 5 t (ix2 i q)
    = deltaF (aP m c) (aW m c) (aM m c) (aV m c) (pt t i q) := by
  have h := delta_tile (bP m c t) (bW m c t) (bM m c t) (bV m c t) i q
  rw [sum_blk, w_blk, m_blk, v_blk] at h
  refine Eq.trans ?_ h
  rw [after0_5]; unfold out0_5 k0_pay10 k0_pay9 k0_pay8; frame_out
theorem out6 (t : Fin cfg0.N) (i : Fin 128) (q : Fin 704) : (dats m 0 c).after 6 t (ix2 i q) = meanF (aP m c) (aM m c) (pt t i q) := by
  have h := mean_tile (bP m c t) (bM m c t) i q
  rw [sum_blk, m_blk] at h
  refine Eq.trans ?_ h
  rw [after0_6]; unfold out0_6 k0_pay8; frame_out
theorem out7 (t : Fin cfg0.N) (i : Fin 128) (q : Fin 704) : (dats m 0 c).after 7 t (ix2 i q) = squareF (aP m c) (aV m c) (pt t i q) := by
  have h := square_tile (bP m c t) (bV m c t) i q
  rw [sum_blk, v_blk] at h
  refine Eq.trans ?_ h
  rw [after0_7]; unfold out0_7 k0_pay10 k0_pay9; frame_out

theorem final4 : (dats m 0 c).arrAt 4 (cfgs 0).N = gradF (aP m c) := by
  refine (dats m 0 c).arrAt_eq_of_covers 4 _ (by decide +kernel) fun t hf y => ?_
  blk_simp
  obtain ⟨i, q, rfl⟩ : ∃ (i : Fin 128) (q : Fin 704), y = ix2 i q := ⟨_, _, eq_ix2 y⟩
  rw [show (win0_4.blk t).view.emb (ix2 i q) = pt t i q from by unfold pt; blk_ext [idx t]]
  exact out4 m c t i q

theorem final5 : (dats m 0 c).arrAt 5 (cfgs 0).N = deltaF (aP m c) (aW m c) (aM m c) (aV m c) := by
  refine (dats m 0 c).arrAt_eq_of_covers 5 _ (by decide +kernel) fun t hf y => ?_
  blk_simp
  obtain ⟨i, q, rfl⟩ : ∃ (i : Fin 128) (q : Fin 704), y = ix2 i q := ⟨_, _, eq_ix2 y⟩
  rw [show (win0_5.blk t).view.emb (ix2 i q) = pt t i q from by unfold pt; blk_ext [idx t]]
  exact out5 m c t i q

theorem final6 : (dats m 0 c).arrAt 6 (cfgs 0).N = meanF (aP m c) (aM m c) := by
  refine (dats m 0 c).arrAt_eq_of_covers 6 _ (by decide +kernel) fun t hf y => ?_
  blk_simp
  obtain ⟨i, q, rfl⟩ : ∃ (i : Fin 128) (q : Fin 704), y = ix2 i q := ⟨_, _, eq_ix2 y⟩
  rw [show (win0_6.blk t).view.emb (ix2 i q) = pt t i q from by unfold pt; blk_ext [idx t]]
  exact out6 m c t i q

theorem final7 : (dats m 0 c).arrAt 7 (cfgs 0).N = squareF (aP m c) (aV m c) := by
  refine (dats m 0 c).arrAt_eq_of_covers 7 _ (by decide +kernel) fun t hf y => ?_
  blk_simp
  obtain ⟨i, q, rfl⟩ : ∃ (i : Fin 128) (q : Fin 704), y = ix2 i q := ⟨_, _, eq_ix2 y⟩
  rw [show (win0_7.blk t).view.emb (ix2 i q) = pt t i q from by unfold pt; blk_ext [idx t]]
  exact out7 m c t i q

theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v4_0) = gradF (aP m c)
    ∧ r.2.mem ((c.tc : Thread nD τ).loc main_v4_1) = deltaF (aP m c) (aW m c) (aM m c) (aV m c)
    ∧ r.2.mem ((c.tc : Thread nD τ).loc main_v4_2) = meanF (aP m c) (aM m c)
    ∧ r.2.mem ((c.tc : Thread nD τ).loc main_v4_3) = squareF (aP m c) (aV m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨((h.1 c).1 4).trans (final4 m c), ((h.1 c).1 5).trans (final5 m c), ((h.1 c).1 6).trans (final6 m c),
      ((h.1 c).1 7).trans (final7 m c), h.2.1 c⟩)
    (θ_run_and (run_main m ρ) (frame m ρ))

end Cert.Kernel38Ideal.AdamGate

/-! ## The claims -/

namespace Cert.AdamGate

open Idealize.ShloMosaic Idealize.ShloMosaic.TcCoe Idealize.SL.Sem

theorem kernel : Cert.quiescent_Kernel38 := fun m g _ => Cert.Kernel38.Gen.frame m g
theorem kernelIdeal : Cert.quiescent_Kernel38Ideal := fun m g _ => Cert.Kernel38Ideal.Gen.frame m g
theorem referenceIdeal : Cert.quiescent_Reference38Ideal := fun m g _ =>
  (θ_run Cert.Reference38Ideal.defs _ _).mono (fun r h => ⟨fun c => (h c).2.2.2.2, sem_eq_zero_of_no_sems (by decide) r.2⟩)
    (Cert.Reference38Ideal.Value.run (F := Ideal) m g)

open Cert.Kernel38Ideal.AdamGate in
theorem algebraic : Cert.algebraic_Kernel38Ideal_Reference38Ideal := fun m g m' g' hpre hag =>
  ⟨fun c => gradF (aP m c), fun c => deltaF (aP m c) (aW m c) (aM m c) (aV m c), fun c => meanF (aP m c) (aM m c), fun c => squareF (aP m c) (aV m c),
    Cert.Kernel38Ideal.AdamGate.run m g,
    (θ_run _ _ _).mono (fun _ h c => by
      obtain ⟨h0, h1, h2, h3, ha⟩ := h c
      obtain ⟨a0, a1, a2, a3⟩ := hag c
      rw [a0] at h0
      rw [a0, a1, a2, a3] at h1
      rw [a0, a2] at h2
      rw [a0, a3] at h3
      exact ⟨h0.trans (Cert.Reference38Ideal.AdamGate.gradR_eq _), h1.trans (Cert.Reference38Ideal.AdamGate.deltaR_eq _ _ _ _),
        h2.trans (Cert.Reference38Ideal.AdamGate.meanR_eq _ _), h3.trans (Cert.Reference38Ideal.AdamGate.squareR_eq _ _), ha⟩)
      (Cert.Reference38Ideal.Value.run (F := Ideal) m' g')⟩

end Cert.AdamGate

end
-- ==== Proof.AdamDown.lean ====
/- The optimiser's step for w_down: the gradient's eight parts summed, then the moments and the change. -/
module

public import proofs.«01_k».proof.Defs
public import proofs.«01_k».proof.Proof.AdamSpec
public import proofs.«01_k».proof.Proof.Gen.Kernel39.Frame
public import proofs.«01_k».proof.Proof.Gen.Kernel39Ideal.Frame
public import proofs.«01_k».proof.Proof.Gen.Reference39Ideal.Run
import Idealize.ShloMosaic.Lib.Pointwise
public import Idealize.ShloMosaic.Lib.Pipeline.ValueKit
import Idealize.ShloMosaic.Lib.Pipeline.ReadBack
@[expose] public section

set_option maxRecDepth 16384

noncomputable section

namespace Cert.AdamDown

open Idealize.ShloMosaic

/-- The whole weight's place of a row and a column of the flat one. -/
abbrev src (n : Fin 1408) (q : Fin 1024) : (⟨3, ![2, 704, 1024]⟩ : Shape).Idx := ix3 ⟨n.val / 704, by omega⟩ ⟨n.val % 704, by omega⟩ q

/-- The gradient: the eight parts' sum. -/
def grad (p : (⟨4, ![8, 2, 704, 1024]⟩ : Shape).Idx → EReal) (n : Fin 1408) (q : Fin 1024) : EReal :=
  ∑ d : Fin 8, p (ix4 d ⟨n.val / 704, by omega⟩ ⟨n.val % 704, by omega⟩ q)

section
variable (p : (⟨4, ![8, 2, 704, 1024]⟩ : Shape).Idx → EReal) (w m v : (⟨3, ![2, 704, 1024]⟩ : Shape).Idx → EReal)

/-- The four results: the gradient, the change, the two moments. -/
def gradF (j : (⟨2, ![1408, 1024]⟩ : Shape).Idx) : EReal := grad p (j 0) (j 1)
def deltaF (j : (⟨2, ![1408, 1024]⟩ : Shape).Idx) : EReal :=
  Cert.Adam.delta (w (src (j 0) (j 1))) (grad p (j 0) (j 1)) (m (src (j 0) (j 1))) (v (src (j 0) (j 1)))
def meanF (j : (⟨2, ![1408, 1024]⟩ : Shape).Idx) : EReal := Cert.Adam.mean (grad p (j 0) (j 1)) (m (src (j 0) (j 1)))
def squareF (j : (⟨2, ![1408, 1024]⟩ : Shape).Idx) : EReal := Cert.Adam.square (grad p (j 0) (j 1)) (v (src (j 0) (j 1)))

end

end Cert.AdamDown

namespace Cert.Reference39Ideal.AdamDown

open Cert.Reference39Ideal Cert.Reference39Ideal.Gen Idealize.ShloMosaic
open Cert.AdamDown

abbrev gradR (p : FVec Ideal S8x2x704x1024 .bf16) : FVec Ideal S2x704x1024 .f32 :=
  Host.reduceAdd (extf .f32 p bitsLt_bf16_f32) (constant S_ .f32 0x00000000#32) reducesTo_S8x2x704x1024_S2x704x1024_d0 h_S_
abbrev meanR (g m : FVec Ideal S2x704x1024 .f32) : FVec Ideal S2x704x1024 .f32 :=
  addf (mulf (broadcastInDim S2x704x1024 ![] bcast_S_S2x704x1024 (constant S_ .f32 0x3F666666#32)) m) (mulf (broadcastInDim S2x704x1024 ![] bcast_S_S2x704x1024 (constant S_ .f32 0x3DCCCCCD#32)) g)
abbrev squareR (g v : FVec Ideal S2x704x1024 .f32) : FVec Ideal S2x704x1024 .f32 :=
  addf (mulf (broadcastInDim S2x704x1024 ![] bcast_S_S2x704x1024 (constant S_ .f32 0x3F7FBE77#32)) v) (mulf (broadcastInDim S2x704x1024 ![] bcast_S_S2x704x1024 (constant S_ .f32 0x3A83126F#32)) (mulf g g))
abbrev deltaR (w g m v : FVec Ideal S2x704x1024 .f32) : FVec Ideal S2x704x1024 .f32 :=
  mulf (broadcastInDim S2x704x1024 ![] bcast_S_S2x704x1024 (constant S_ .f32 0xBA83126F#32)) (addf (Host.divf (Host.divf (meanR g m)
    (broadcastInDim S2x704x1024 ![] bcast_S_S2x704x1024 (constant S_ .f32 0x3F26BD02#32))) (addf (Host.sqrt (Host.divf (squareR g v)
    (broadcastInDim S2x704x1024 ![] bcast_S_S2x704x1024 (constant S_ .f32 0x3C231ACC#32)))) (broadcastInDim S2x704x1024 ![] bcast_S_S2x704x1024 (constant S_ .f32 0x322BCC77#32))))
    (mulf (broadcastInDim S2x704x1024 ![] bcast_S_S2x704x1024 (constant S_ .f32 0x3C23D70A#32)) w))

/-- An array read flat. -/
theorem flat (a : FVec Ideal S2x704x1024 .f32) (n : Fin 1408) (q : Fin 1024) : shapeCast S1408x1024 a shapeCasts_S2x704x1024_S1408x1024 (ix2 n q) = a (src n q) := by
  unfold src
  pointwise

theorem grad_apply (p : FVec Ideal S8x2x704x1024 .bf16) (n : Fin 1408) (q : Fin 1024) : gradR p (src n q) = grad p n q := by
  unfold gradR grad src
  pointwise
theorem mean_apply (g m : FVec Ideal S2x704x1024 .f32) (i : S2x704x1024.Idx) : meanR g m i = Cert.Adam.mean (g i) (m i) := by
  unfold meanR Cert.Adam.mean
  pointwise
theorem square_apply (g v : FVec Ideal S2x704x1024 .f32) (i : S2x704x1024.Idx) : squareR g v i = Cert.Adam.square (g i) (v i) := by
  unfold squareR Cert.Adam.square
  pointwise
theorem delta_apply (w g m v : FVec Ideal S2x704x1024 .f32) (i : S2x704x1024.Idx) : deltaR w g m v i = Cert.Adam.delta (w i) (g i) (m i) (v i) := by
  unfold Cert.Adam.delta
  rw [← mean_apply, ← square_apply]
  unfold deltaR
  generalize meanR g m = a, squareR g v = b
  pointwise

variable (p : FVec Ideal S8x2x704x1024 .bf16) (w m v : FVec Ideal S2x704x1024 .f32)

theorem gradR_eq : shapeCast S1408x1024 (gradR p) shapeCasts_S2x704x1024_S1408x1024 = gradF p := by
  funext j
  obtain ⟨n, q, rfl⟩ : ∃ (n : Fin _) (q : Fin _), j = ix2 n q := ⟨_, _, eq_ix2 j⟩
  exact (flat _ n q).trans (grad_apply p n q)
theorem deltaR_eq : shapeCast S1408x1024 (deltaR w (gradR p) m v) shapeCasts_S2x704x1024_S1408x1024 = deltaF p w m v := by
  funext j
  obtain ⟨n, q, rfl⟩ : ∃ (n : Fin _) (q : Fin _), j = ix2 n q := ⟨_, _, eq_ix2 j⟩
  refine (flat _ n q).trans ((delta_apply _ _ _ _ _).trans ?_)
  rw [grad_apply]; rfl
theorem meanR_eq : shapeCast S1408x1024 (meanR (gradR p) m) shapeCasts_S2x704x1024_S1408x1024 = meanF p m := by
  funext j
  obtain ⟨n, q, rfl⟩ : ∃ (n : Fin _) (q : Fin _), j = ix2 n q := ⟨_, _, eq_ix2 j⟩
  refine (flat _ n q).trans ((mean_apply _ _ _).trans ?_)
  rw [grad_apply]; rfl
theorem squareR_eq : shapeCast S1408x1024 (squareR (gradR p) v) shapeCasts_S2x704x1024_S1408x1024 = squareF p v := by
  funext j
  obtain ⟨n, q, rfl⟩ : ∃ (n : Fin _) (q : Fin _), j = ix2 n q := ⟨_, _, eq_ix2 j⟩
  refine (flat _ n q).trans ((square_apply _ _ _).trans ?_)
  rw [grad_apply]; rfl

end Cert.Reference39Ideal.AdamDown

namespace Cert.Kernel39Ideal.AdamDown

open Cert.Kernel39Ideal Cert.Kernel39Ideal.Gen
open Idealize.ShloMosaic Idealize.ShloMosaic.TcCoe Idealize.SL.Sem
open Idealize.ShloMosaic.Pipeline (Dat)
open Cert.AdamDown

variable (m : (l : Loc nD τ sig) → Buf (Elt Ideal) l) (c : Dev nD)

abbrev aP : FVec Ideal S8x2x704x1024 .bf16 := m ((c : Thread nD τ).loc main_arg0)
abbrev aW : FVec Ideal S2x704x1024 .f32 := m ((c : Thread nD τ).loc main_arg1)
abbrev aM : FVec Ideal S2x704x1024 .f32 := m ((c : Thread nD τ).loc main_arg2)
abbrev aV : FVec Ideal S2x704x1024 .f32 := m ((c : Thread nD τ).loc main_arg3)

theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The row of the flat array that a tile's row is, and where its element lies. -/
abbrev rw_ (t : Fin cfg0.N) (i : Fin 128) : Fin 1408 := ⟨128 * t.val + i.val, by have := lt_of_lt_of_eq t.isLt N_0; omega⟩
abbrev pt (t : Fin cfg0.N) (i : Fin 128) (q : Fin 1024) : S1408x1024.Idx := ix2 (rw_ t i) q

/-- The host's flat arrays. -/
theorem flat0 : (V m c main_v0 : FVec Ideal S8x1408x1024 .bf16) = shapeCast S8x1408x1024 (aP m c) shapeCasts_S8x2x704x1024_S8x1408x1024 := rfl
theorem flat1 : (V m c main_v1 : FVec Ideal S1408x1024 .f32) = shapeCast S1408x1024 (aW m c) shapeCasts_S2x704x1024_S1408x1024 := rfl
theorem flat2 : (V m c main_v2 : FVec Ideal S1408x1024 .f32) = shapeCast S1408x1024 (aM m c) shapeCasts_S2x704x1024_S1408x1024 := rfl
theorem flat3 : (V m c main_v3 : FVec Ideal S1408x1024 .f32) = shapeCast S1408x1024 (aV m c) shapeCasts_S2x704x1024_S1408x1024 := rfl

theorem flat (a : FVec Ideal S2x704x1024 .f32) (n : Fin 1408) (q : Fin 1024) : shapeCast S1408x1024 a shapeCasts_S2x704x1024_S1408x1024 (ix2 n q) = a (src n q) := by
  unfold src
  pointwise
theorem flatP (a : FVec Ideal S8x2x704x1024 .bf16) (d : Fin 8) (n : Fin 1408) (q : Fin 1024) :
    shapeCast S8x1408x1024 a shapeCasts_S8x2x704x1024_S8x1408x1024 (ix3 d n q) = a (ix4 d ⟨n.val / 704, by omega⟩ ⟨n.val % 704, by omega⟩ q) := by
  pointwise

abbrev bP (t : Fin cfg0.N) : FVec Ideal S8x128x1024 .bf16 := iblk m c 0 t
abbrev bW (t : Fin cfg0.N) : FVec Ideal S128x1024 .f32 := iblk m c 1 t
abbrev bM (t : Fin cfg0.N) : FVec Ideal S128x1024 .f32 := iblk m c 2 t
abbrev bV (t : Fin cfg0.N) : FVec Ideal S128x1024 .f32 := iblk m c 3 t
theorem p_blk (t : Fin cfg0.N) (d : Fin 8) (i : Fin 128) (q : Fin 1024) : bP m c t (ix3 d i q)
    = aP m c (ix4 d ⟨(rw_ t i).val / 704, by omega⟩ ⟨(rw_ t i).val % 704, by omega⟩ q) := by
  rw [← flatP (aP m c), ← flat0]
  blk_point [iblk, idx t]
theorem w_blk (t : Fin cfg0.N) (i : Fin 128) (q : Fin 1024) : bW m c t (ix2 i q) = aW m c (src (rw_ t i) q) := by
  rw [← flat (aW m c), ← flat1]
  blk_point [iblk, idx t]
theorem m_blk (t : Fin cfg0.N) (i : Fin 128) (q : Fin 1024) : bM m c t (ix2 i q) = aM m c (src (rw_ t i) q) := by
  rw [← flat (aM m c), ← flat2]
  blk_point [iblk, idx t]
theorem v_blk (t : Fin cfg0.N) (i : Fin 128) (q : Fin 1024) : bV m c t (ix2 i q) = aV m c (src (rw_ t i) q) := by
  rw [← flat (aV m c), ← flat3]
  blk_point [iblk, idx t]

/-! ## The body at one element -/

theorem grad_tile (x : FVec Ideal S8x128x1024 .bf16) (i : Fin 128) (q : Fin 1024) :
    k0_pay4 (F := Ideal) x (ix2 i q) = ∑ d : Fin 8, x (ix3 d i q) := by
  rw [Fin.sum_univ_eight]
  pointwise [k0_pay4]
theorem mean_tile (x : FVec Ideal S8x128x1024 .bf16) (y : FVec Ideal S128x1024 .f32) (i : Fin 128) (q : Fin 1024) :
    k0_pay5 (F := Ideal) x y (ix2 i q) = Cert.Adam.mean (∑ d : Fin 8, x (ix3 d i q)) (y (ix2 i q)) := by
  rw [← grad_tile]
  unfold Cert.Adam.mean k0_pay5
  generalize k0_pay4 (F := Ideal) x = g
  pointwise
theorem square_tile (x : FVec Ideal S8x128x1024 .bf16) (y : FVec Ideal S128x1024 .f32) (i : Fin 128) (q : Fin 1024) :
    k0_pay1 (F := Ideal) (k0_pay6 y) (k0_pay7 x) (ix2 i q) = Cert.Adam.square (∑ d : Fin 8, x (ix3 d i q)) (y (ix2 i q)) := by
  rw [← grad_tile]
  unfold Cert.Adam.square k0_pay1 k0_pay6 k0_pay7
  generalize k0_pay4 (F := Ideal) x = g
  pointwise
theorem delta_tile (x : FVec Ideal S8x128x1024 .bf16) (y z u : FVec Ideal S128x1024 .f32) (i : Fin 128) (q : Fin 1024) :
    k0_pay2 (F := Ideal) (k0_pay3 y) (k0_pay5 x z) (k0_pay6 u) (k0_pay7 x) (ix2 i q)
      = Cert.Adam.delta (y (ix2 i q)) (∑ d : Fin 8, x (ix3 d i q)) (z (ix2 i q)) (u (ix2 i q)) := by
  unfold Cert.Adam.delta
  rw [← mean_tile, ← square_tile]
  unfold k0_pay2 k0_pay3
  generalize k0_pay5 (F := Ideal) x z = a, k0_pay1 (F := Ideal) (k0_pay6 u) (k0_pay7 x) = b
  pointwise

theorem sum_blk (t : Fin cfg0.N) (i : Fin 128) (q : Fin 1024) : ∑ d : Fin 8, bP m c t (ix3 d i q) = grad (aP m c) (rw_ t i) q :=
  Finset.sum_congr rfl fun d _ => p_blk m c t d i q

/-! ## The four results -/

theorem out4 (t : Fin cfg0.N) (i : Fin 128) (q : Fin 1024) : (dats m 0 c).after 4 t (ix2 i q) = gradF (aP m c) (pt t i q) := by
  have h := grad_tile (bP m c t) i q
  rw [sum_blk] at h
  refine Eq.trans ?_ h
  rw [after0_4]; frame_out
theorem out5 (t : Fin cfg0.N) (i : Fin 128) (q : Fin 1024) : (dats m 0 c).after 5 t (ix2 i q)
    = deltaF (aP m c) (aW m c) (aM m c) (aV m c) (pt t i q) := by
  have h := delta_tile (bP m c t) (bW m c t) (bM m c t) (bV m c t) i q
  rw [sum_blk, w_blk, m_blk, v_blk] at h
  refine Eq.trans ?_ h
  rw [after0_5]; unfold out0_5 k0_pay10 k0_pay9 k0_pay8; frame_out
theorem out6 (t : Fin cfg0.N) (i : Fin 128) (q : Fin 1024) : (dats m 0 c).after 6 t (ix2 i q) = meanF (aP m c) (aM m c) (pt t i q) := by
  have h := mean_tile (bP m c t) (bM m c t) i q
  rw [sum_blk, m_blk] at h
  refine Eq.trans ?_ h
  rw [after0_6]; unfold out0_6 k0_pay8; frame_out
theorem out7 (t : Fin cfg0.N) (i : Fin 128) (q : Fin 1024) : (dats m 0 c).after 7 t (ix2 i q) = squareF (aP m c) (aV m c) (pt t i q) := by
  have h := square_tile (bP m c t) (bV m c t) i q
  rw [sum_blk, v_blk] at h
  refine Eq.trans ?_ h
  rw [after0_7]; unfold out0_7 k0_pay10 k0_pay9; frame_out

theorem final4 : (dats m 0 c).arrAt 4 (cfgs 0).N = gradF (aP m c) := by
  refine (dats m 0 c).arrAt_eq_of_covers 4 _ (by decide +kernel) fun t hf y => ?_
  blk_simp
  obtain ⟨i, q, rfl⟩ : ∃ (i : Fin 128) (q : Fin 1024), y = ix2 i q := ⟨_, _, eq_ix2 y⟩
  rw [show (win0_4.blk t).view.emb (ix2 i q) = pt t i q from by unfold pt; blk_ext [idx t]]
  exact out4 m c t i q

theorem final5 : (dats m 0 c).arrAt 5 (cfgs 0).N = deltaF (aP m c) (aW m c) (aM m c) (aV m c) := by
  refine (dats m 0 c).arrAt_eq_of_covers 5 _ (by decide +kernel) fun t hf y => ?_
  blk_simp
  obtain ⟨i, q, rfl⟩ : ∃ (i : Fin 128) (q : Fin 1024), y = ix2 i q := ⟨_, _, eq_ix2 y⟩
  rw [show (win0_5.blk t).view.emb (ix2 i q) = pt t i q from by unfold pt; blk_ext [idx t]]
  exact out5 m c t i q

theorem final6 : (dats m 0 c).arrAt 6 (cfgs 0).N = meanF (aP m c) (aM m c) := by
  refine (dats m 0 c).arrAt_eq_of_covers 6 _ (by decide +kernel) fun t hf y => ?_
  blk_simp
  obtain ⟨i, q, rfl⟩ : ∃ (i : Fin 128) (q : Fin 1024), y = ix2 i q := ⟨_, _, eq_ix2 y⟩
  rw [show (win0_6.blk t).view.emb (ix2 i q) = pt t i q from by unfold pt; blk_ext [idx t]]
  exact out6 m c t i q

theorem final7 : (dats m 0 c).arrAt 7 (cfgs 0).N = squareF (aP m c) (aV m c) := by
  refine (dats m 0 c).arrAt_eq_of_covers 7 _ (by decide +kernel) fun t hf y => ?_
  blk_simp
  obtain ⟨i, q, rfl⟩ : ∃ (i : Fin 128) (q : Fin 1024), y = ix2 i q := ⟨_, _, eq_ix2 y⟩
  rw [show (win0_7.blk t).view.emb (ix2 i q) = pt t i q from by unfold pt; blk_ext [idx t]]
  exact out7 m c t i q

theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v4_0) = gradF (aP m c)
    ∧ r.2.mem ((c.tc : Thread nD τ).loc main_v4_1) = deltaF (aP m c) (aW m c) (aM m c) (aV m c)
    ∧ r.2.mem ((c.tc : Thread nD τ).loc main_v4_2) = meanF (aP m c) (aM m c)
    ∧ r.2.mem ((c.tc : Thread nD τ).loc main_v4_3) = squareF (aP m c) (aV m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨((h.1 c).1 4).trans (final4 m c), ((h.1 c).1 5).trans (final5 m c), ((h.1 c).1 6).trans (final6 m c),
      ((h.1 c).1 7).trans (final7 m c), h.2.1 c⟩)
    (θ_run_and (run_main m ρ) (frame m ρ))

end Cert.Kernel39Ideal.AdamDown

/-! ## The claims -/

namespace Cert.AdamDown

open Idealize.ShloMosaic Idealize.ShloMosaic.TcCoe Idealize.SL.Sem

theorem kernel : Cert.quiescent_Kernel39 := fun m g _ => Cert.Kernel39.Gen.frame m g
theorem kernelIdeal : Cert.quiescent_Kernel39Ideal := fun m g _ => Cert.Kernel39Ideal.Gen.frame m g
theorem referenceIdeal : Cert.quiescent_Reference39Ideal := fun m g _ =>
  (θ_run Cert.Reference39Ideal.defs _ _).mono (fun r h => ⟨fun c => (h c).2.2.2.2, sem_eq_zero_of_no_sems (by decide) r.2⟩)
    (Cert.Reference39Ideal.Value.run (F := Ideal) m g)

open Cert.Kernel39Ideal.AdamDown in
theorem algebraic : Cert.algebraic_Kernel39Ideal_Reference39Ideal := fun m g m' g' hpre hag =>
  ⟨fun c => gradF (aP m c), fun c => deltaF (aP m c) (aW m c) (aM m c) (aV m c), fun c => meanF (aP m c) (aM m c), fun c => squareF (aP m c) (aV m c),
    Cert.Kernel39Ideal.AdamDown.run m g,
    (θ_run _ _ _).mono (fun _ h c => by
      obtain ⟨h0, h1, h2, h3, ha⟩ := h c
      obtain ⟨a0, a1, a2, a3⟩ := hag c
      rw [a0] at h0
      rw [a0, a1, a2, a3] at h1
      rw [a0, a2] at h2
      rw [a0, a3] at h3
      exact ⟨h0.trans (Cert.Reference39Ideal.AdamDown.gradR_eq _), h1.trans (Cert.Reference39Ideal.AdamDown.deltaR_eq _ _ _ _),
        h2.trans (Cert.Reference39Ideal.AdamDown.meanR_eq _ _), h3.trans (Cert.Reference39Ideal.AdamDown.squareR_eq _ _), ha⟩)
      (Cert.Reference39Ideal.Value.run (F := Ideal) m' g')⟩

end Cert.AdamDown

end
-- ==== Proof.AdamPle.lean ====
/- The optimiser's step for w_ple: the gradient's eight parts summed, then the moments and the change. -/
module

public import proofs.«01_k».proof.Defs
public import proofs.«01_k».proof.Proof.AdamSpec
public import proofs.«01_k».proof.Proof.Gen.Kernel40.Frame
public import proofs.«01_k».proof.Proof.Gen.Kernel40Ideal.Frame
public import proofs.«01_k».proof.Proof.Gen.Reference40Ideal.Run
import Idealize.ShloMosaic.Lib.Pointwise
public import Idealize.ShloMosaic.Lib.Pipeline.ValueKit
import Idealize.ShloMosaic.Lib.Pipeline.ReadBack
@[expose] public section

set_option maxRecDepth 16384

noncomputable section

namespace Cert.AdamPle

open Idealize.ShloMosaic

/-- The whole weight's place of a row and a column of the flat one. -/
abbrev src (n : Fin 512) (q : Fin 256) : (⟨3, ![2, 256, 256]⟩ : Shape).Idx := ix3 ⟨n.val / 256, by omega⟩ ⟨n.val % 256, by omega⟩ q

/-- The gradient: the eight parts' sum. -/
def grad (p : (⟨4, ![8, 2, 256, 256]⟩ : Shape).Idx → EReal) (n : Fin 512) (q : Fin 256) : EReal :=
  ∑ d : Fin 8, p (ix4 d ⟨n.val / 256, by omega⟩ ⟨n.val % 256, by omega⟩ q)

section
variable (p : (⟨4, ![8, 2, 256, 256]⟩ : Shape).Idx → EReal) (w m v : (⟨3, ![2, 256, 256]⟩ : Shape).Idx → EReal)

/-- The four results: the gradient, the change, the two moments. -/
def gradF (j : (⟨2, ![512, 256]⟩ : Shape).Idx) : EReal := grad p (j 0) (j 1)
def deltaF (j : (⟨2, ![512, 256]⟩ : Shape).Idx) : EReal :=
  Cert.Adam.delta (w (src (j 0) (j 1))) (grad p (j 0) (j 1)) (m (src (j 0) (j 1))) (v (src (j 0) (j 1)))
def meanF (j : (⟨2, ![512, 256]⟩ : Shape).Idx) : EReal := Cert.Adam.mean (grad p (j 0) (j 1)) (m (src (j 0) (j 1)))
def squareF (j : (⟨2, ![512, 256]⟩ : Shape).Idx) : EReal := Cert.Adam.square (grad p (j 0) (j 1)) (v (src (j 0) (j 1)))

end

end Cert.AdamPle

namespace Cert.Reference40Ideal.AdamPle

open Cert.Reference40Ideal Cert.Reference40Ideal.Gen Idealize.ShloMosaic
open Cert.AdamPle

abbrev gradR (p : FVec Ideal S8x2x256x256 .bf16) : FVec Ideal S2x256x256 .f32 :=
  Host.reduceAdd (extf .f32 p bitsLt_bf16_f32) (constant S_ .f32 0x00000000#32) reducesTo_S8x2x256x256_S2x256x256_d0 h_S_
abbrev meanR (g m : FVec Ideal S2x256x256 .f32) : FVec Ideal S2x256x256 .f32 :=
  addf (mulf (broadcastInDim S2x256x256 ![] bcast_S_S2x256x256 (constant S_ .f32 0x3F666666#32)) m) (mulf (broadcastInDim S2x256x256 ![] bcast_S_S2x256x256 (constant S_ .f32 0x3DCCCCCD#32)) g)
abbrev squareR (g v : FVec Ideal S2x256x256 .f32) : FVec Ideal S2x256x256 .f32 :=
  addf (mulf (broadcastInDim S2x256x256 ![] bcast_S_S2x256x256 (constant S_ .f32 0x3F7FBE77#32)) v) (mulf (broadcastInDim S2x256x256 ![] bcast_S_S2x256x256 (constant S_ .f32 0x3A83126F#32)) (mulf g g))
abbrev deltaR (w g m v : FVec Ideal S2x256x256 .f32) : FVec Ideal S2x256x256 .f32 :=
  mulf (broadcastInDim S2x256x256 ![] bcast_S_S2x256x256 (constant S_ .f32 0xBA83126F#32)) (addf (Host.divf (Host.divf (meanR g m)
    (broadcastInDim S2x256x256 ![] bcast_S_S2x256x256 (constant S_ .f32 0x3F26BD02#32))) (addf (Host.sqrt (Host.divf (squareR g v)
    (broadcastInDim S2x256x256 ![] bcast_S_S2x256x256 (constant S_ .f32 0x3C231ACC#32)))) (broadcastInDim S2x256x256 ![] bcast_S_S2x256x256 (constant S_ .f32 0x322BCC77#32))))
    (mulf (broadcastInDim S2x256x256 ![] bcast_S_S2x256x256 (constant S_ .f32 0x3C23D70A#32)) w))

/-- An array read flat. -/
theorem flat (a : FVec Ideal S2x256x256 .f32) (n : Fin 512) (q : Fin 256) : shapeCast S512x256 a shapeCasts_S2x256x256_S512x256 (ix2 n q) = a (src n q) := by
  unfold src
  pointwise

theorem grad_apply (p : FVec Ideal S8x2x256x256 .bf16) (n : Fin 512) (q : Fin 256) : gradR p (src n q) = grad p n q := by
  unfold gradR grad src
  pointwise
theorem mean_apply (g m : FVec Ideal S2x256x256 .f32) (i : S2x256x256.Idx) : meanR g m i = Cert.Adam.mean (g i) (m i) := by
  unfold meanR Cert.Adam.mean
  pointwise
theorem square_apply (g v : FVec Ideal S2x256x256 .f32) (i : S2x256x256.Idx) : squareR g v i = Cert.Adam.square (g i) (v i) := by
  unfold squareR Cert.Adam.square
  pointwise
theorem delta_apply (w g m v : FVec Ideal S2x256x256 .f32) (i : S2x256x256.Idx) : deltaR w g m v i = Cert.Adam.delta (w i) (g i) (m i) (v i) := by
  unfold Cert.Adam.delta
  rw [← mean_apply, ← square_apply]
  unfold deltaR
  generalize meanR g m = a, squareR g v = b
  pointwise

variable (p : FVec Ideal S8x2x256x256 .bf16) (w m v : FVec Ideal S2x256x256 .f32)

theorem gradR_eq : shapeCast S512x256 (gradR p) shapeCasts_S2x256x256_S512x256 = gradF p := by
  funext j
  obtain ⟨n, q, rfl⟩ : ∃ (n : Fin _) (q : Fin _), j = ix2 n q := ⟨_, _, eq_ix2 j⟩
  exact (flat _ n q).trans (grad_apply p n q)
theorem deltaR_eq : shapeCast S512x256 (deltaR w (gradR p) m v) shapeCasts_S2x256x256_S512x256 = deltaF p w m v := by
  funext j
  obtain ⟨n, q, rfl⟩ : ∃ (n : Fin _) (q : Fin _), j = ix2 n q := ⟨_, _, eq_ix2 j⟩
  refine (flat _ n q).trans ((delta_apply _ _ _ _ _).trans ?_)
  rw [grad_apply]; rfl
theorem meanR_eq : shapeCast S512x256 (meanR (gradR p) m) shapeCasts_S2x256x256_S512x256 = meanF p m := by
  funext j
  obtain ⟨n, q, rfl⟩ : ∃ (n : Fin _) (q : Fin _), j = ix2 n q := ⟨_, _, eq_ix2 j⟩
  refine (flat _ n q).trans ((mean_apply _ _ _).trans ?_)
  rw [grad_apply]; rfl
theorem squareR_eq : shapeCast S512x256 (squareR (gradR p) v) shapeCasts_S2x256x256_S512x256 = squareF p v := by
  funext j
  obtain ⟨n, q, rfl⟩ : ∃ (n : Fin _) (q : Fin _), j = ix2 n q := ⟨_, _, eq_ix2 j⟩
  refine (flat _ n q).trans ((square_apply _ _ _).trans ?_)
  rw [grad_apply]; rfl

end Cert.Reference40Ideal.AdamPle

namespace Cert.Kernel40Ideal.AdamPle

open Cert.Kernel40Ideal Cert.Kernel40Ideal.Gen
open Idealize.ShloMosaic Idealize.ShloMosaic.TcCoe Idealize.SL.Sem
open Idealize.ShloMosaic.Pipeline (Dat)
open Cert.AdamPle

variable (m : (l : Loc nD τ sig) → Buf (Elt Ideal) l) (c : Dev nD)

abbrev aP : FVec Ideal S8x2x256x256 .bf16 := m ((c : Thread nD τ).loc main_arg0)
abbrev aW : FVec Ideal S2x256x256 .f32 := m ((c : Thread nD τ).loc main_arg1)
abbrev aM : FVec Ideal S2x256x256 .f32 := m ((c : Thread nD τ).loc main_arg2)
abbrev aV : FVec Ideal S2x256x256 .f32 := m ((c : Thread nD τ).loc main_arg3)

theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The row of the flat array that a tile's row is, and where its element lies. -/
abbrev rw_ (t : Fin cfg0.N) (i : Fin 512) : Fin 512 := ⟨512 * t.val + i.val, by have := lt_of_lt_of_eq t.isLt N_0; omega⟩
abbrev pt (t : Fin cfg0.N) (i : Fin 512) (q : Fin 256) : S512x256.Idx := ix2 (rw_ t i) q

/-- The host's flat arrays. -/
theorem flat0 : (V m c main_v0 : FVec Ideal S8x512x256 .bf16) = shapeCast S8x512x256 (aP m c) shapeCasts_S8x2x256x256_S8x512x256 := rfl
theorem flat1 : (V m c main_v1 : FVec Ideal S512x256 .f32) = shapeCast S512x256 (aW m c) shapeCasts_S2x256x256_S512x256 := rfl
theorem flat2 : (V m c main_v2 : FVec Ideal S512x256 .f32) = shapeCast S512x256 (aM m c) shapeCasts_S2x256x256_S512x256 := rfl
theorem flat3 : (V m c main_v3 : FVec Ideal S512x256 .f32) = shapeCast S512x256 (aV m c) shapeCasts_S2x256x256_S512x256 := rfl

theorem flat (a : FVec Ideal S2x256x256 .f32) (n : Fin 512) (q : Fin 256) : shapeCast S512x256 a shapeCasts_S2x256x256_S512x256 (ix2 n q) = a (src n q) := by
  unfold src
  pointwise
theorem flatP (a : FVec Ideal S8x2x256x256 .bf16) (d : Fin 8) (n : Fin 512) (q : Fin 256) :
    shapeCast S8x512x256 a shapeCasts_S8x2x256x256_S8x512x256 (ix3 d n q) = a (ix4 d ⟨n.val / 256, by omega⟩ ⟨n.val % 256, by omega⟩ q) := by
  pointwise

abbrev bP (t : Fin cfg0.N) : FVec Ideal S8x512x256 .bf16 := iblk m c 0 t
abbrev bW (t : Fin cfg0.N) : FVec Ideal S512x256 .f32 := iblk m c 1 t
abbrev bM (t : Fin cfg0.N) : FVec Ideal S512x256 .f32 := iblk m c 2 t
abbrev bV (t : Fin cfg0.N) : FVec Ideal S512x256 .f32 := iblk m c 3 t
theorem p_blk (t : Fin cfg0.N) (d : Fin 8) (i : Fin 512) (q : Fin 256) : bP m c t (ix3 d i q)
    = aP m c (ix4 d ⟨(rw_ t i).val / 256, by omega⟩ ⟨(rw_ t i).val % 256, by omega⟩ q) := by
  rw [← flatP (aP m c), ← flat0]
  blk_point [iblk, idx t]
theorem w_blk (t : Fin cfg0.N) (i : Fin 512) (q : Fin 256) : bW m c t (ix2 i q) = aW m c (src (rw_ t i) q) := by
  rw [← flat (aW m c), ← flat1]
  blk_point [iblk, idx t]
theorem m_blk (t : Fin cfg0.N) (i : Fin 512) (q : Fin 256) : bM m c t (ix2 i q) = aM m c (src (rw_ t i) q) := by
  rw [← flat (aM m c), ← flat2]
  blk_point [iblk, idx t]
theorem v_blk (t : Fin cfg0.N) (i : Fin 512) (q : Fin 256) : bV m c t (ix2 i q) = aV m c (src (rw_ t i) q) := by
  rw [← flat (aV m c), ← flat3]
  blk_point [iblk, idx t]

/-! ## The body at one element -/

theorem grad_tile (x : FVec Ideal S8x512x256 .bf16) (i : Fin 512) (q : Fin 256) :
    k0_pay4 (F := Ideal) x (ix2 i q) = ∑ d : Fin 8, x (ix3 d i q) := by
  rw [Fin.sum_univ_eight]
  pointwise [k0_pay4]
theorem mean_tile (x : FVec Ideal S8x512x256 .bf16) (y : FVec Ideal S512x256 .f32) (i : Fin 512) (q : Fin 256) :
    k0_pay5 (F := Ideal) x y (ix2 i q) = Cert.Adam.mean (∑ d : Fin 8, x (ix3 d i q)) (y (ix2 i q)) := by
  rw [← grad_tile]
  unfold Cert.Adam.mean k0_pay5
  generalize k0_pay4 (F := Ideal) x = g
  pointwise
theorem square_tile (x : FVec Ideal S8x512x256 .bf16) (y : FVec Ideal S512x256 .f32) (i : Fin 512) (q : Fin 256) :
    k0_pay1 (F := Ideal) (k0_pay6 y) (k0_pay7 x) (ix2 i q) = Cert.Adam.square (∑ d : Fin 8, x (ix3 d i q)) (y (ix2 i q)) := by
  rw [← grad_tile]
  unfold Cert.Adam.square k0_pay1 k0_pay6 k0_pay7
  generalize k0_pay4 (F := Ideal) x = g
  pointwise
theorem delta_tile (x : FVec Ideal S8x512x256 .bf16) (y z u : FVec Ideal S512x256 .f32) (i : Fin 512) (q : Fin 256) :
    k0_pay2 (F := Ideal) (k0_pay3 y) (k0_pay5 x z) (k0_pay6 u) (k0_pay7 x) (ix2 i q)
      = Cert.Adam.delta (y (ix2 i q)) (∑ d : Fin 8, x (ix3 d i q)) (z (ix2 i q)) (u (ix2 i q)) := by
  unfold Cert.Adam.delta
  rw [← mean_tile, ← square_tile]
  unfold k0_pay2 k0_pay3
  generalize k0_pay5 (F := Ideal) x z = a, k0_pay1 (F := Ideal) (k0_pay6 u) (k0_pay7 x) = b
  pointwise

theorem sum_blk (t : Fin cfg0.N) (i : Fin 512) (q : Fin 256) : ∑ d : Fin 8, bP m c t (ix3 d i q) = grad (aP m c) (rw_ t i) q :=
  Finset.sum_congr rfl fun d _ => p_blk m c t d i q

/-! ## The four results -/

theorem out4 (t : Fin cfg0.N) (i : Fin 512) (q : Fin 256) : (dats m 0 c).after 4 t (ix2 i q) = gradF (aP m c) (pt t i q) := by
  have h := grad_tile (bP m c t) i q
  rw [sum_blk] at h
  refine Eq.trans ?_ h
  rw [after0_4]; frame_out
theorem out5 (t : Fin cfg0.N) (i : Fin 512) (q : Fin 256) : (dats m 0 c).after 5 t (ix2 i q)
    = deltaF (aP m c) (aW m c) (aM m c) (aV m c) (pt t i q) := by
  have h := delta_tile (bP m c t) (bW m c t) (bM m c t) (bV m c t) i q
  rw [sum_blk, w_blk, m_blk, v_blk] at h
  refine Eq.trans ?_ h
  rw [after0_5]; unfold out0_5 k0_pay10 k0_pay9 k0_pay8; frame_out
theorem out6 (t : Fin cfg0.N) (i : Fin 512) (q : Fin 256) : (dats m 0 c).after 6 t (ix2 i q) = meanF (aP m c) (aM m c) (pt t i q) := by
  have h := mean_tile (bP m c t) (bM m c t) i q
  rw [sum_blk, m_blk] at h
  refine Eq.trans ?_ h
  rw [after0_6]; unfold out0_6 k0_pay8; frame_out
theorem out7 (t : Fin cfg0.N) (i : Fin 512) (q : Fin 256) : (dats m 0 c).after 7 t (ix2 i q) = squareF (aP m c) (aV m c) (pt t i q) := by
  have h := square_tile (bP m c t) (bV m c t) i q
  rw [sum_blk, v_blk] at h
  refine Eq.trans ?_ h
  rw [after0_7]; unfold out0_7 k0_pay10 k0_pay9; frame_out

theorem final4 : (dats m 0 c).arrAt 4 (cfgs 0).N = gradF (aP m c) := by
  refine (dats m 0 c).arrAt_eq_of_covers 4 _ (by decide +kernel) fun t hf y => ?_
  blk_simp
  obtain ⟨i, q, rfl⟩ : ∃ (i : Fin 512) (q : Fin 256), y = ix2 i q := ⟨_, _, eq_ix2 y⟩
  rw [show (win0_4.blk t).view.emb (ix2 i q) = pt t i q from by unfold pt; blk_ext [idx t]]
  exact out4 m c t i q

theorem final5 : (dats m 0 c).arrAt 5 (cfgs 0).N = deltaF (aP m c) (aW m c) (aM m c) (aV m c) := by
  refine (dats m 0 c).arrAt_eq_of_covers 5 _ (by decide +kernel) fun t hf y => ?_
  blk_simp
  obtain ⟨i, q, rfl⟩ : ∃ (i : Fin 512) (q : Fin 256), y = ix2 i q := ⟨_, _, eq_ix2 y⟩
  rw [show (win0_5.blk t).view.emb (ix2 i q) = pt t i q from by unfold pt; blk_ext [idx t]]
  exact out5 m c t i q

theorem final6 : (dats m 0 c).arrAt 6 (cfgs 0).N = meanF (aP m c) (aM m c) := by
  refine (dats m 0 c).arrAt_eq_of_covers 6 _ (by decide +kernel) fun t hf y => ?_
  blk_simp
  obtain ⟨i, q, rfl⟩ : ∃ (i : Fin 512) (q : Fin 256), y = ix2 i q := ⟨_, _, eq_ix2 y⟩
  rw [show (win0_6.blk t).view.emb (ix2 i q) = pt t i q from by unfold pt; blk_ext [idx t]]
  exact out6 m c t i q

theorem final7 : (dats m 0 c).arrAt 7 (cfgs 0).N = squareF (aP m c) (aV m c) := by
  refine (dats m 0 c).arrAt_eq_of_covers 7 _ (by decide +kernel) fun t hf y => ?_
  blk_simp
  obtain ⟨i, q, rfl⟩ : ∃ (i : Fin 512) (q : Fin 256), y = ix2 i q := ⟨_, _, eq_ix2 y⟩
  rw [show (win0_7.blk t).view.emb (ix2 i q) = pt t i q from by unfold pt; blk_ext [idx t]]
  exact out7 m c t i q

theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v4_0) = gradF (aP m c)
    ∧ r.2.mem ((c.tc : Thread nD τ).loc main_v4_1) = deltaF (aP m c) (aW m c) (aM m c) (aV m c)
    ∧ r.2.mem ((c.tc : Thread nD τ).loc main_v4_2) = meanF (aP m c) (aM m c)
    ∧ r.2.mem ((c.tc : Thread nD τ).loc main_v4_3) = squareF (aP m c) (aV m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨((h.1 c).1 4).trans (final4 m c), ((h.1 c).1 5).trans (final5 m c), ((h.1 c).1 6).trans (final6 m c),
      ((h.1 c).1 7).trans (final7 m c), h.2.1 c⟩)
    (θ_run_and (run_main m ρ) (frame m ρ))

end Cert.Kernel40Ideal.AdamPle

/-! ## The claims -/

namespace Cert.AdamPle

open Idealize.ShloMosaic Idealize.ShloMosaic.TcCoe Idealize.SL.Sem

theorem kernel : Cert.quiescent_Kernel40 := fun m g _ => Cert.Kernel40.Gen.frame m g
theorem kernelIdeal : Cert.quiescent_Kernel40Ideal := fun m g _ => Cert.Kernel40Ideal.Gen.frame m g
theorem referenceIdeal : Cert.quiescent_Reference40Ideal := fun m g _ =>
  (θ_run Cert.Reference40Ideal.defs _ _).mono (fun r h => ⟨fun c => (h c).2.2.2.2, sem_eq_zero_of_no_sems (by decide) r.2⟩)
    (Cert.Reference40Ideal.Value.run (F := Ideal) m g)

open Cert.Kernel40Ideal.AdamPle in
theorem algebraic : Cert.algebraic_Kernel40Ideal_Reference40Ideal := fun m g m' g' hpre hag =>
  ⟨fun c => gradF (aP m c), fun c => deltaF (aP m c) (aW m c) (aM m c) (aV m c), fun c => meanF (aP m c) (aM m c), fun c => squareF (aP m c) (aV m c),
    Cert.Kernel40Ideal.AdamPle.run m g,
    (θ_run _ _ _).mono (fun _ h c => by
      obtain ⟨h0, h1, h2, h3, ha⟩ := h c
      obtain ⟨a0, a1, a2, a3⟩ := hag c
      rw [a0] at h0
      rw [a0, a1, a2, a3] at h1
      rw [a0, a2] at h2
      rw [a0, a3] at h3
      exact ⟨h0.trans (Cert.Reference40Ideal.AdamPle.gradR_eq _), h1.trans (Cert.Reference40Ideal.AdamPle.deltaR_eq _ _ _ _),
        h2.trans (Cert.Reference40Ideal.AdamPle.meanR_eq _ _), h3.trans (Cert.Reference40Ideal.AdamPle.squareR_eq _ _), ha⟩)
      (Cert.Reference40Ideal.Value.run (F := Ideal) m' g')⟩

end Cert.AdamPle

end
-- ==== Proof.AdamSmall.lean ====
/- The optimiser's step for the small weights, packed in one array of rows of 128. -/
module

public import proofs.«01_k».proof.Defs
public import proofs.«01_k».proof.Proof.AdamSpec
public import proofs.«01_k».proof.Proof.Gen.Kernel41.Frame
public import proofs.«01_k».proof.Proof.Gen.Kernel41Ideal.Value
public import proofs.«01_k».proof.Proof.Gen.Reference41Ideal.Run
import Idealize.ShloMosaic.Lib.Pointwise
public import Idealize.ShloMosaic.Lib.Pipeline.ValueKit
@[expose] public section

set_option maxRecDepth 16384

noncomputable section

namespace Cert.AdamSmall

open Idealize.ShloMosaic

abbrev Packed : Type := (⟨2, ![2192, 128]⟩ : Shape).Idx → EReal

/-- The first moment, the second moment and the change, element by element. -/
def meanF (g m : Packed) : Packed := fun i => Cert.Adam.mean (g i) (m i)
def squareF (g v : Packed) : Packed := fun i => Cert.Adam.square (g i) (v i)
def deltaF (g w m v : Packed) : Packed := fun i => Cert.Adam.delta (w i) (g i) (m i) (v i)

end Cert.AdamSmall

/-! ## The reference's results -/

namespace Cert.Reference41Ideal.AdamSmall

open Cert.Reference41Ideal Cert.Reference41Ideal.Gen Idealize.ShloMosaic
open Cert.AdamSmall

abbrev meanR (g m : FVec Ideal S2192x128 .f32) : FVec Ideal S2192x128 .f32 :=
  addf (mulf (broadcastInDim S2192x128 ![] bcast_S_S2192x128 (constant S_ .f32 0x3F666666#32)) m) (mulf (broadcastInDim S2192x128 ![] bcast_S_S2192x128 (constant S_ .f32 0x3DCCCCCD#32)) g)
abbrev squareR (g v : FVec Ideal S2192x128 .f32) : FVec Ideal S2192x128 .f32 :=
  addf (mulf (broadcastInDim S2192x128 ![] bcast_S_S2192x128 (constant S_ .f32 0x3F7FBE77#32)) v) (mulf (broadcastInDim S2192x128 ![] bcast_S_S2192x128 (constant S_ .f32 0x3A83126F#32)) (mulf g g))
abbrev deltaR (w g m v : FVec Ideal S2192x128 .f32) : FVec Ideal S2192x128 .f32 :=
  mulf (broadcastInDim S2192x128 ![] bcast_S_S2192x128 (constant S_ .f32 0xBA83126F#32)) (addf (Host.divf (Host.divf (meanR g m)
    (broadcastInDim S2192x128 ![] bcast_S_S2192x128 (constant S_ .f32 0x3F26BD02#32))) (addf (Host.sqrt (Host.divf (squareR g v)
    (broadcastInDim S2192x128 ![] bcast_S_S2192x128 (constant S_ .f32 0x3C231ACC#32)))) (broadcastInDim S2192x128 ![] bcast_S_S2192x128 (constant S_ .f32 0x322BCC77#32))))
    (mulf (broadcastInDim S2192x128 ![] bcast_S_S2192x128 (constant S_ .f32 0x3C23D70A#32)) w))

theorem meanR_eq (g m : FVec Ideal S2192x128 .f32) : meanR g m = meanF g m := by
  funext i
  unfold meanR meanF Cert.Adam.mean
  pointwise
theorem squareR_eq (g v : FVec Ideal S2192x128 .f32) : squareR g v = squareF g v := by
  funext i
  unfold squareR squareF Cert.Adam.square
  pointwise
theorem deltaR_eq (w g m v : FVec Ideal S2192x128 .f32) : deltaR w g m v = deltaF g w m v := by
  funext i
  unfold deltaF Cert.Adam.delta
  rw [show Cert.Adam.mean (g i) (m i) = meanR g m i from (congrFun (meanR_eq g m) i).symm,
    show Cert.Adam.square (g i) (v i) = squareR g v i from (congrFun (squareR_eq g v) i).symm]
  unfold deltaR
  generalize meanR g m = a, squareR g v = b
  pointwise

end Cert.Reference41Ideal.AdamSmall

/-! ## The kernel's results -/

namespace Cert.Kernel41Ideal.AdamSmall

open Cert.Kernel41Ideal Cert.Kernel41Ideal.Gen Cert.Kernel41Ideal.Value Idealize.ShloMosaic
open Cert.AdamSmall

theorem G5_eq (g m : FVec Ideal S2192x128 .f32) : G5 (F := Ideal) g m = meanF g m := rfl
theorem G6_eq (g v : FVec Ideal S2192x128 .f32) : G6 (F := Ideal) g v = squareF g v := rfl
theorem G4_eq (g w m v : FVec Ideal S2192x128 .f32) : G4 (F := Ideal) g w m v = deltaF g w m v := rfl

end Cert.Kernel41Ideal.AdamSmall

/-! ## The claims -/

namespace Cert.AdamSmall

open Idealize.ShloMosaic Idealize.ShloMosaic.TcCoe Idealize.SL.Sem

theorem kernel : Cert.quiescent_Kernel41 := fun m g _ => Cert.Kernel41.Gen.frame m g
theorem kernelIdeal : Cert.quiescent_Kernel41Ideal := fun m g _ => Cert.Kernel41Ideal.Gen.frame m g
theorem referenceIdeal : Cert.quiescent_Reference41Ideal := fun m g _ =>
  (θ_run Cert.Reference41Ideal.defs _ _).mono (fun r h => ⟨fun c => (h c).2.2.2, sem_eq_zero_of_no_sems (by decide) r.2⟩)
    (Cert.Reference41Ideal.Value.run (F := Ideal) m g)

open Cert.Kernel41Ideal in
theorem algebraic : Cert.algebraic_Kernel41Ideal_Reference41Ideal := fun m g m' g' hpre hag =>
  ⟨fun c => deltaF (m (c.tc.loc main_arg0)) (m (c.tc.loc main_arg1)) (m (c.tc.loc main_arg2)) (m (c.tc.loc main_arg3)),
    fun c => meanF (m (c.tc.loc main_arg0)) (m (c.tc.loc main_arg2)), fun c => squareF (m (c.tc.loc main_arg0)) (m (c.tc.loc main_arg3)),
    (θ_run _ _ _).mono (fun _ h c => by
      obtain ⟨h0, h1, h2, ha⟩ := h c
      exact ⟨h0.trans (Cert.Kernel41Ideal.AdamSmall.G4_eq _ _ _ _), h1.trans (Cert.Kernel41Ideal.AdamSmall.G5_eq _ _),
        h2.trans (Cert.Kernel41Ideal.AdamSmall.G6_eq _ _), ha⟩)
      (Cert.Kernel41Ideal.Value.run (F := Ideal) m g),
    (θ_run _ _ _).mono (fun _ h c => by
      obtain ⟨h0, h1, h2, ha⟩ := h c
      obtain ⟨a0, a1, a2, a3⟩ := hag c
      rw [a0, a1, a2, a3] at h0
      rw [a0, a2] at h1
      rw [a0, a3] at h2
      exact ⟨h0.trans (Cert.Reference41Ideal.AdamSmall.deltaR_eq _ _ _ _), h1.trans (Cert.Reference41Ideal.AdamSmall.meanR_eq _ _),
        h2.trans (Cert.Reference41Ideal.AdamSmall.squareR_eq _ _), ha⟩)
      (Cert.Reference41Ideal.Value.run (F := Ideal) m' g')⟩

end Cert.AdamSmall

end
-- ==== Proof.SguFwd.lean ====
/- The spatial gating unit: the gate's activation times the mixed rows, in the tiles and in the array's chunks of the
   gradient's proof. -/
module

public import proofs.«01_k».proof.Defs
public import proofs.«01_k».proof.Proof.SguTile
public import proofs.«01_k».proof.Proof.SguRef
public import proofs.«01_k».proof.Proof.Gen.Kernel42.Frame
public import proofs.«01_k».proof.Proof.Gen.Kernel42Ideal.Frame
public import proofs.«01_k».proof.Proof.Gen.Reference42Ideal.Run
import Idealize.ShloMosaic.Lib.Pointwise
public import Idealize.ShloMosaic.Lib.Pipeline.ValueKit
import Idealize.ShloMosaic.Lib.Pipeline.ReadBack

@[expose] public section

set_option maxRecDepth 16384

noncomputable section

namespace Cert.Sgu

open Idealize.ShloMosaic

/-- The gating unit's result: in each chunk the gate's activation times the mixed rows. -/
def fwdAt (z : Fin 16384 → Fin 8192 → EReal) (w : Fin 8 → Fin 128 → Fin 128 → EReal) (b : Chunk) (g o : Fin 512 → EReal)
    (n : Fin 16384) (q : Fin 512) : EReal :=
  cDU (fun i k => act (uC z (chunkOf n) i k)) (vC z (chunkOf n)) w b g o (rowOf n) q

end Cert.Sgu

namespace Cert.ReferenceIdeal.Sgu

open Cert.ReferenceIdeal Cert.ReferenceIdeal.Gen Idealize.ShloMosaic Idealize.ShloMosaic.TcCoe Idealize.SL.Sem
open Cert.Sgu

theorem bias_apply (b : FVec Ideal S8x128 .f32) (i : Fin 128) (q : Fin 512) : biasR b (ix2 i q) = b (ix2 (grp q) i) := by
  pointwise [biasR]; rfl

/-- The result in the reference's operations. -/
def fwdR (z : FVec Ideal S16384x8192 .f32) (w : Wts) (b : FVec Ideal S8x128 .f32) (g o : Row) : FVec Ideal S16384x512 .bf16 :=
  truncf .bf16 (mulf (actR (zuR z)) (mixR (tVn z g o) w b)) bitsLt_bf16_f32

theorem fwdR_apply (z : FVec Ideal S16384x8192 .f32) (w : Wts) (b : FVec Ideal S8x128 .f32) (g o : Row) (C i : Fin 128) (q : Fin 512) :
    fwdR z w b g o (ix2 (at_ C i) q)
      = cDU (fun i k => act (uC (fZ z) C i k)) (vC (fZ z) C) (fW w) (fB b) (fV g) (fV o) i q := by
  pointwise [fwdR, mixR_apply, actR_apply, zuR_apply]
  simp only [tVn_apply]; rfl

end Cert.ReferenceIdeal.Sgu

namespace Cert.Kernel42Ideal.SguFwd

open Cert.Kernel42Ideal Cert.Kernel42Ideal.Gen Idealize.ShloMosaic Idealize.ShloMosaic.TcCoe Idealize.SL.Sem
open Idealize.ShloMosaic.Pipeline (Dat)
open Cert.Sgu Cert.KernelIdeal.Sgu

variable (m : (l : Loc nD τ sig) → Buf (Elt Ideal) l) (c : Dev nD)

abbrev zA : FVec Ideal S16384x8192 .f32 := m ((c : Thread nD τ).loc main_arg0)
abbrev wA : FVec Ideal S8x128x128 .f32 := m ((c : Thread nD τ).loc main_arg1)
abbrev bA : FVec Ideal S8x128 .f32 := m ((c : Thread nD τ).loc main_arg2)
abbrev gA : FVec Ideal S1x512 .f32 := m ((c : Thread nD τ).loc main_arg3)
abbrev oA : FVec Ideal S1x512 .f32 := m ((c : Thread nD τ).loc main_arg4)

/-- The arguments by row and column. -/
abbrev aZ (n : Fin 16384) (k : Fin 8192) : EReal := zA m c (ix2 n k)
abbrev aW (h : Fin 8) (i s : Fin 128) : EReal := wA m c (ix3 h i s)
abbrev aB (i : Fin 128) (q : Fin 512) : EReal := bA m c (ix2 (grp q) i)
abbrev aG (q : Fin 512) : EReal := gA m c (ix2 0 q)
abbrev aO (q : Fin 512) : EReal := oA m c (ix2 0 q)

/-- The result of the run. -/
def outF : FVec Ideal S16384x512 .bf16 := fun j => fwdAt (aZ m c) (aW m c) (aB m c) (aG m c) (aO m c) (j 0) (j 1)

theorem idx : ∀ t : Fin cfg0.N, win0_0.index t = ![t.val, 10] ∧ win0_1.index t = ![t.val, 11]
    ∧ win0_2.index t = ![0, 0, 0] ∧ win0_3.index t = ![0, 0] ∧ win0_4.index t = ![0, 0] ∧ win0_5.index t = ![0, 0]
    ∧ win0_6.index t = ![t.val, 0] := (by decide +kernel : ∀ t : Fin grid0.N, _)

abbrev tU (t : Fin cfg0.N) : Tile := iblk m c 0 t
abbrev tV (t : Fin cfg0.N) : Tile := iblk m c 1 t
abbrev tW (t : Fin cfg0.N) : Wts := iblk m c 2 t
abbrev tB (t : Fin cfg0.N) : Bias := k0_pay2 (iblk m c 3 t)
abbrev tG (t : Fin cfg0.N) : FVec Ideal S1x512 .f32 := iblk m c 4 t
abbrev tO (t : Fin cfg0.N) : FVec Ideal S1x512 .f32 := iblk m c 5 t

theorem pU (t : Fin cfg0.N) : k0_pay33 (iblk m c 0 t) (iblk m c 1 t) (iblk m c 2 t) (iblk m c 3 t) (iblk m c 4 t) (iblk m c 5 t) = U (tU m c t) := by
  unfold k0_pay33; frame_out; rfl
theorem pB (t : Fin cfg0.N) : k0_pay32 (iblk m c 0 t) (iblk m c 1 t) (iblk m c 2 t) (iblk m c 3 t) (iblk m c 4 t) (iblk m c 5 t) = tB m c t := by
  unfold k0_pay32; frame_out
theorem pV (t : Fin cfg0.N) : k0_pay7 (iblk m c 4 t) (iblk m c 5 t)
    (k0_pay34 (iblk m c 0 t) (iblk m c 1 t) (iblk m c 2 t) (iblk m c 3 t) (iblk m c 4 t) (iblk m c 5 t))
    (k0_pay35 (iblk m c 0 t) (iblk m c 1 t) (iblk m c 2 t) (iblk m c 3 t) (iblk m c 4 t) (iblk m c 5 t))
    (k0_pay36 (iblk m c 0 t) (iblk m c 1 t) (iblk m c 2 t) (iblk m c 3 t) (iblk m c 4 t) (iblk m c 5 t))
      = VN (tV m c t) (tG m c t) (tO m c t) := by
  unfold k0_pay34 k0_pay35 k0_pay36; frame_out; rfl

/-- What a tile writes. -/
theorem out6 (t : Fin cfg0.N) : (dats m 0 c).after 6 t
    = truncf .bf16 (DU (U (tU m c t)) (VN (tV m c t) (tG m c t) (tO m c t)) (tW m c t) (tB m c t)) bitsLt_bf16_f32 := by
  rw [after0_6]; unfold out0_6; frame_out
  unfold k0_pay37; frame_out
  unfold k0_pay38 k0_pay9 k0_pay10 k0_pay12 k0_pay14 k0_pay11
  rw [pU, pB, pV]
  generalize U (tU m c t) = u, VN (tV m c t) (tG m c t) (tO m c t) = v, tB m c t = b
  rfl

/-- Chunk `k` of tile `t`. -/
abbrev tch (t : Fin cfg0.N) (k : Fin 4) : Fin 128 :=
  ⟨4 * t.val + k.val, by have := lt_of_lt_of_eq t.isLt N_0; omega⟩

section
variable (t : Fin cfg0.N)

theorem tU_ch (k : Fin 4) : ch k (tU m c t) = uC (aZ m c) (tch t k) := by
  funext i q
  show iblk m c 0 t (ix2 (row k i) q) = m ((c : Thread nD τ).loc main_arg0) (ix2 (at_ (tch t k) i) ⟨5120 + q.val, by omega⟩)
  blk_point [iblk, V, idx t]
theorem tV_ch (k : Fin 4) : ch k (tV m c t) = vC (aZ m c) (tch t k) := by
  funext i q
  show iblk m c 1 t (ix2 (row k i) q) = m ((c : Thread nD τ).loc main_arg0) (ix2 (at_ (tch t k) i) ⟨5632 + q.val, by omega⟩)
  blk_point [iblk, V, idx t]
theorem tW_mat : mat (tW m c t) = aW m c := by
  funext h i s
  show iblk m c 2 t (ix3 h i s) = m ((c : Thread nD τ).loc main_arg1) (ix3 h i s)
  blk_point [iblk, V, idx t]
theorem tG_vec : vec (tG m c t) = aG m c := by
  funext q
  show iblk m c 4 t (ix2 0 q) = m ((c : Thread nD τ).loc main_arg3) (ix2 0 q)
  blk_point [iblk, V, idx t]
theorem tO_vec : vec (tO m c t) = aO m c := by
  funext q
  show iblk m c 5 t (ix2 0 q) = m ((c : Thread nD τ).loc main_arg4) (ix2 0 q)
  blk_point [iblk, V, idx t]
/-- The host's layout of the bias. -/
theorem flat2 : (V m c main_v2 : FVec Ideal S128x512 .f32) = Cert.ReferenceIdeal.Sgu.biasR (bA m c) := rfl
theorem tB_bias : bias (tB m c t) = aB m c := by
  funext i q
  show k0_pay2 (F := Ideal) (iblk m c 3 t) (ix2 i q) = m ((c : Thread nD τ).loc main_arg2) (ix2 (grp q) i)
  refine Eq.trans ?_ (Cert.ReferenceIdeal.Sgu.bias_apply (bA m c) i q)
  rw [← flat2]
  pointwise [k0_pay2]
  blk_point [iblk, idx t]

theorem tile (k : Fin 4) (i : Fin 128) (q : Fin 512) :
    DU (U (tU m c t)) (VN (tV m c t) (tG m c t) (tO m c t)) (tW m c t) (tB m c t) (ix2 (row k i) q)
      = fwdAt (aZ m c) (aW m c) (aB m c) (aG m c) (aO m c) (at_ (tch t k) i) q := by
  have hu : ch k (U (tU m c t)) = fun i q => act (uC (aZ m c) (tch t k) i q) := by
    rw [← tU_ch]; funext i q; exact U_apply _ _ _
  rw [DU_ch, hu, tV_ch, tW_mat, tB_bias, tG_vec, tO_vec]
  unfold fwdAt
  rw [show chunkOf (at_ (tch t k) i) = tch t k from Fin.ext (by simp only [chunkOf]; omega),
    show rowOf (at_ (tch t k) i) = i from Fin.ext (by simp only [rowOf]; omega)]

end

theorem final6 : (dats m 0 c).arrAt 6 (cfgs 0).N = outF m c := by
  refine (dats m 0 c).arrAt_eq_of_covers 6 _ (by decide +kernel) fun t hf y => ?_
  blk_simp
  rw [out6]
  obtain ⟨k, i, q, rfl⟩ : ∃ (k : Fin 4) (i : Fin 128) (q : Fin 512), y = ix2 (row k i) q := by
    obtain ⟨k, i, h⟩ := exists_row (y 0)
    exact ⟨k, i, y 1, (eq_ix2 y).trans (congrArg (fun n => ix2 n (y 1)) h)⟩
  rw [show (win0_6.blk t).view.emb (ix2 (row k i) q) = ix2 (at_ (tch t k) i) q from by blk_ext [idx t]]
  exact tile m c t k i q

theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v3) = outF m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => ⟨((h.1 c).1 6).trans (final6 m c), h.2.1 c⟩)
    (θ_run_and (run_main m ρ) (frame m ρ))

end Cert.Kernel42Ideal.SguFwd

namespace Cert.Reference42Ideal.SguFwd

open Cert.Reference42Ideal Cert.Reference42Ideal.Gen Idealize.ShloMosaic Idealize.ShloMosaic.TcCoe Idealize.SL.Sem
open Cert.Sgu

theorem res_eq (m : (l : Loc nD τ sig) → Buf (Elt Ideal) l) (c : Dev nD) : Value.res_main_v49 (F := Ideal) m c
    = Cert.ReferenceIdeal.Sgu.fwdR (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := rfl

end Cert.Reference42Ideal.SguFwd

/-! ## The claims -/

namespace Cert.SguFwd

open Idealize.ShloMosaic Idealize.ShloMosaic.TcCoe Idealize.SL.Sem
open Cert.Sgu

theorem kernel : Cert.quiescent_Kernel42 := fun m g _ => Cert.Kernel42.Gen.frame m g
theorem kernelIdeal : Cert.quiescent_Kernel42Ideal := fun m g _ => Cert.Kernel42Ideal.Gen.frame m g
theorem referenceIdeal : Cert.quiescent_Reference42Ideal := fun m g _ =>
  (θ_run Cert.Reference42Ideal.defs _ _).mono (fun r h => ⟨fun c => (h c).2, sem_eq_zero_of_no_sems (by decide) r.2⟩)
    (Cert.Reference42Ideal.Value.run (F := Ideal) m g)

open Cert.Kernel42Ideal.SguFwd in
theorem algebraic : Cert.algebraic_Kernel42Ideal_Reference42Ideal := fun m g m' g' hpre hag =>
  ⟨fun c => outF m c, Cert.Kernel42Ideal.SguFwd.run m g,
    (θ_run _ _ _).mono (fun _ h c => by
      obtain ⟨h0, ha⟩ := h c
      obtain ⟨a0, a1, a2, a3, a4⟩ := hag c
      rw [Cert.Reference42Ideal.SguFwd.res_eq, a0, a1, a2, a3, a4] at h0
      refine ⟨h0.trans ?_, ha⟩
      funext j
      obtain ⟨n, q, rfl⟩ : ∃ (n : Fin 16384) (q : Fin 512), j = ix2 n q := ⟨_, _, eq_ix2 j⟩
      have e : n = at_ (chunkOf n) (rowOf n) := Fin.ext (by simp only [chunkOf, rowOf]; omega)
      refine Eq.trans (congrArg (fun n' => Cert.ReferenceIdeal.Sgu.fwdR _ _ _ _ _ (ix2 n' q)) e) ?_
      exact Cert.ReferenceIdeal.Sgu.fwdR_apply ..)
      (Cert.Reference42Ideal.Value.run (F := Ideal) m' g')⟩

end Cert.SguFwd

end
-- ==== Proof.LowerSpec.lean ====
/- The lower bounds of the two layers, a softmax over the layers and its partial sums, and their gradient. -/
module

public import proofs.«01_k».proof.Defs
public import proofs.«01_k».proof.Proof.SguSpec
public import Idealize.ShloMosaic.PureOps.Ideal
public import Idealize.ShloMosaic.Lib.Pipeline.ValueKit
@[expose] public section

set_option maxRecDepth 16384

noncomputable section

namespace Cert.Lower

open Idealize.ShloMosaic Cert.Sgu

abbrev Pair : Type := (⟨2, ![2, 1024]⟩ : Shape).Idx → EReal

variable (g d : Pair) (q : Fin 1024)

/-- The larger of the two layers' entries, the exponentials below it, and the softmax. -/
def top : EReal := max (g (ix2 0 q)) (g (ix2 1 q))
def ex (r : Fin 2) : EReal := Ideal.exp (g (ix2 r q) - top g q)
def soft (r : Fin 2) : EReal := Ideal.div (ex g q r) (ex g q 0 + ex g q 1)

/-- The two rows of the lower bounds. -/
def row (r : Fin 2) : EReal := if r = 0 then soft g q 0 - soft g q 0 else soft g q 0 + soft g q 1 - soft g q 0
def bounds : Pair := fun j => row g (j 1) (j 0)

/-- What reaches the first layer's softmax, and the softmax's gradient. -/
def cot0 : EReal := (d (ix2 0 q) + d (ix2 1 q)) - (d (ix2 0 q) + d (ix2 1 q))
def dot : EReal := soft g q 0 * cot0 d q + soft g q 1 * d (ix2 1 q)
def drow (r : Fin 2) : EReal :=
  if r = 0 then soft g q 0 * (cot0 d q - dot g d q) else soft g q 1 * (d (ix2 1 q) - dot g d q)
def dbounds : Pair := fun j => drow g d (j 1) (j 0)

/-- The same gradient by the quotient's rule: what reaches a layer's entry, then the two terms. -/
def cotR (r : Fin 2) : EReal :=
  if r = 0 then -d (ix2 1 q) + 0 + d (ix2 1 q) + -d (ix2 0 q) + d (ix2 0 q) else 0 + d (ix2 1 q) + 0 + 0 + 0
def total : EReal := ex g q 0 + ex g q 1
def drowR (r : Fin 2) : EReal :=
  (Ideal.div (cotR d q r) (total g q)
    + -(cotR d q 0 * Ideal.div (Ideal.ofBits .f32 0x3F800000#32) (total g q * total g q) * ex g q 0
        + cotR d q 1 * Ideal.div (Ideal.ofBits .f32 0x3F800000#32) (total g q * total g q) * ex g q 1)) * ex g q r

/-- On finite arguments the two agree. -/
theorem drowR_eq (r : Fin 2) (hg : ∀ j, Fin' (g j)) (hd : ∀ j, Fin' (d j)) : drowR g d q r = drow g d q r := by
  obtain ⟨x0, h0⟩ := hg (ix2 0 q)
  obtain ⟨x1, h1⟩ := hg (ix2 1 q)
  obtain ⟨y0, k0⟩ := hd (ix2 0 q)
  obtain ⟨y1, k1⟩ := hd (ix2 1 q)
  have hone : Ideal.ofBits .f32 0x3F800000#32 = ((1 : ℝ) : EReal) := by simp [Ideal.ofBits, Ideal.ieee, -EReal.coe_mul]; norm_num
  have ht : top g q = ((max x0 x1 : ℝ) : EReal) := by rw [top, h0, h1, EReal.coe_strictMono.monotone.map_max]
  have e0 : ex g q 0 = ((Real.exp (x0 - max x0 x1) : ℝ) : EReal) := by rw [ex, ht, h0, ← EReal.coe_sub, Ideal.exp_coe]
  have e1 : ex g q 1 = ((Real.exp (x1 - max x0 x1) : ℝ) : EReal) := by rw [ex, ht, h1, ← EReal.coe_sub, Ideal.exp_coe]
  have p0 := Real.exp_pos (x0 - max x0 x1)
  have p1 := Real.exp_pos (x1 - max x0 x1)
  generalize Real.exp (x0 - max x0 x1) = u at e0 p0
  generalize Real.exp (x1 - max x0 x1) = v at e1 p1
  have hs : u + v ≠ 0 := by positivity
  have hs2 : (u + v) * (u + v) ≠ 0 := mul_ne_zero hs hs
  have c0 : cot0 d q = ((0 : ℝ) : EReal) := by
    rw [cot0, k0, k1, ← EReal.coe_add, ← EReal.coe_sub]; congr 1; ring
  have r0 : cotR d q 0 = ((0 : ℝ) : EReal) := by
    rw [cotR, if_pos rfl, k0, k1, ← EReal.coe_zero, ← EReal.coe_neg, ← EReal.coe_neg, ← EReal.coe_add, ← EReal.coe_add, ← EReal.coe_add,
      ← EReal.coe_add]; congr 1; ring
  have r1 : cotR d q 1 = (y1 : EReal) := by
    rw [cotR, if_neg (by decide), k1]; simp
  have s0 : soft g q 0 = ((u * (1 / (u + v)) : ℝ) : EReal) := by
    rw [soft, e0, e1, ← EReal.coe_add, Ideal.div_coe hs, ← EReal.coe_mul]
  have s1 : soft g q 1 = ((v * (1 / (u + v)) : ℝ) : EReal) := by
    rw [soft, e0, e1, ← EReal.coe_add, Ideal.div_coe hs, ← EReal.coe_mul]
  have tt : total g q = ((u + v : ℝ) : EReal) := by rw [total, e0, e1, ← EReal.coe_add]
  have hdot : dot g d q = ((v * (1 / (u + v)) * y1 : ℝ) : EReal) := by
    rw [dot, c0, s0, s1, k1, ← EReal.coe_mul, ← EReal.coe_mul, ← EReal.coe_add]; congr 1; ring
  have hsum : cotR d q 0 * Ideal.div (Ideal.ofBits .f32 0x3F800000#32) (total g q * total g q) * ex g q 0
        + cotR d q 1 * Ideal.div (Ideal.ofBits .f32 0x3F800000#32) (total g q * total g q) * ex g q 1
      = ((y1 * (1 / ((u + v) * (u + v))) * v : ℝ) : EReal) := by
    rw [r0, r1, tt, hone, e0, e1, ← EReal.coe_mul, Ideal.div_coe hs2, ← EReal.coe_mul, ← EReal.coe_mul, ← EReal.coe_mul, ← EReal.coe_mul,
      ← EReal.coe_mul, ← EReal.coe_add]; congr 1; ring
  unfold drowR
  rw [hsum, tt, Ideal.div_coe hs]
  match r with
  | 0 =>
    rw [drow, if_pos rfl, r0, e0, s0, c0, hdot, ← EReal.coe_neg, ← EReal.coe_mul, ← EReal.coe_add, ← EReal.coe_mul, ← EReal.coe_sub,
      ← EReal.coe_mul]; congr 1; field_simp; try ring
  | 1 =>
    rw [drow, if_neg (by decide), r1, e1, s1, k1, hdot, ← EReal.coe_neg, ← EReal.coe_mul, ← EReal.coe_add, ← EReal.coe_mul, ← EReal.coe_sub,
      ← EReal.coe_mul]; congr 1; field_simp; try ring

end Cert.Lower

end
-- ==== Proof.LowerBounds.lean ====
/- The lower bounds of the two layers, from their parameters. -/
module

public import proofs.«01_k».proof.Defs
public import proofs.«01_k».proof.Proof.LowerSpec
public import proofs.«01_k».proof.Proof.Gen.Kernel43.Frame
public import proofs.«01_k».proof.Proof.Gen.Kernel43Ideal.Value
public import proofs.«01_k».proof.Proof.Gen.Reference43Ideal.Run
import Idealize.ShloMosaic.Lib.Pointwise
import Idealize.ShloMosaic.Lib.Tactic.CleanTypes
public import Idealize.ShloMosaic.Lib.Pipeline.ValueKit
@[expose] public section

set_option maxRecDepth 16384

noncomputable section

/-! ## The reference's parts -/

namespace Cert.Reference43Ideal.LowerBounds

open Cert.Reference43Ideal Cert.Reference43Ideal.Gen Idealize.ShloMosaic
open Cert.Lower

abbrev topR (g : FVec Ideal S2x1024 .f32) : FVec Ideal S1024 .f32 :=
  maximumf (broadcastInDim S1024 ![] bcast_S_S1024 (constant S_ .f32 0xFF800000#32)) (Host.reduce FloatOps.maximumf g (constant S_ .f32 0xFF800000#32) reducesTo_S2x1024_S1024_d0 h_S_)
abbrev exR (g : FVec Ideal S2x1024 .f32) : FVec Ideal S2x1024 .f32 :=
  Host.exp (subf g (broadcastInDim S2x1024 ![0, 1] bcast_S1x1024_S2x1024_0_1 (broadcastInDim S1x1024 ![1] bcast_S1024_S1x1024_1 (topR g))))
abbrev totalR (g : FVec Ideal S2x1024 .f32) : FVec Ideal S1x1024 .f32 :=
  broadcastInDim S1x1024 ![1] bcast_S1024_S1x1024_1 (Host.reduceAdd (exR g) (constant S_ .f32 0x00000000#32) reducesTo_S2x1024_S1024_d0 h_S_)

theorem topR_apply (g : FVec Ideal S2x1024 .f32) (q : Fin 1024) : topR g (ix1 q) = top g q := by
  have hb : Ideal.ofBits .f32 0xFF800000#32 = ⊥ := by simp [Ideal.ofBits, Ideal.ieee]
  unfold topR top
  pointwise
  simp [hb, Finset.fold, Fin.univ_succ, Multiset.fold_singleton]
theorem exR_apply (g : FVec Ideal S2x1024 .f32) (r : Fin 2) (q : Fin 1024) : exR g (ix2 r q) = ex g q r := by
  unfold exR ex
  rw [← topR_apply]
  generalize topR g = t
  pointwise
theorem totalR_apply (g : FVec Ideal S2x1024 .f32) (q : Fin 1024) : totalR g (ix2 0 q) = ex g q 0 + ex g q 1 := by
  unfold totalR
  rw [← exR_apply, ← exR_apply]
  generalize exR g = e
  pointwise
  simp [Fin.sum_univ_two, Ideal.ofBits, Ideal.ieee]

abbrev softR (g : FVec Ideal S2x1024 .f32) : FVec Ideal S2x1024 .f32 :=
  Host.divf (exR g) (broadcastInDim S2x1024 ![0, 1] bcast_S1x1024_S2x1024_0_1 (totalR g))
abbrev boundsR (g : FVec Ideal S2x1024 .f32) : FVec Ideal S2x1024 .f32 :=
  concatenate S2x1024 0 [⟨S1x1024, (broadcastInDim S1x1024 ![1] bcast_S1024_S1x1024_1 (subf (shapeCast _ (extractStridedSlice S1x1024 ![0, 0] (softR g) slices_S2x1024_S1x1024_0_0) shapeCasts_S1x1024_S1024) (shapeCast _ (extractStridedSlice S1x1024 ![0, 0] (softR g) slices_S2x1024_S1x1024_0_0) shapeCasts_S1x1024_S1024)))⟩,
    ⟨S1x1024, (broadcastInDim S1x1024 ![1] bcast_S1024_S1x1024_1 (subf (addf (shapeCast _ (extractStridedSlice S1x1024 ![0, 0] (softR g) slices_S2x1024_S1x1024_0_0) shapeCasts_S1x1024_S1024) (shapeCast _ (extractStridedSlice S1x1024 ![1, 0] (softR g) slices_S2x1024_S1x1024_1_0) shapeCasts_S1x1024_S1024)) (shapeCast _ (extractStridedSlice S1x1024 ![0, 0] (softR g) slices_S2x1024_S1x1024_0_0) shapeCasts_S1x1024_S1024)))⟩] concatenates_S1x1024_S1x1024_S2x1024_d0

theorem softR_apply (g : FVec Ideal S2x1024 .f32) (r : Fin 2) (q : Fin 1024) : softR g (ix2 r q) = soft g q r := by
  unfold softR soft
  rw [← totalR_apply, ← exR_apply]
  generalize exR g = e, totalR g = s
  pointwise
theorem boundsR_eq (g : FVec Ideal S2x1024 .f32) : boundsR g = bounds g := by
  funext j
  obtain ⟨r, q, rfl⟩ : ∃ (r : Fin 2) (q : Fin 1024), j = ix2 r q := ⟨_, _, eq_ix2 j⟩
  show _ = row g q r
  unfold boundsR row
  rw [← softR_apply, ← softR_apply]
  generalize softR g = s
  match r with
  | 0 => rw [if_pos rfl]; pointwise
  | 1 => rw [if_neg (by decide)]; pointwise

end Cert.Reference43Ideal.LowerBounds

/-! ## The kernel's rows -/

namespace Cert.Kernel43Ideal.LowerBounds

open Cert.Kernel43Ideal Cert.Kernel43Ideal.Gen Cert.Kernel43Ideal.Value Idealize.ShloMosaic
open Cert.Lower

theorem emb0 (q : Fin 1024) : r0_0.emb (ix2 (0 : Fin 1) q) = ix2 (0 : Fin 2) q := by
  funext a; fin_cases a <;> (apply Fin.ext; show _ + 1 * _ = _; simp)
theorem emb1 (q : Fin 1024) : r0_1.emb (ix2 (0 : Fin 1) q) = ix2 (1 : Fin 2) q := by
  funext a; fin_cases a <;> (apply Fin.ext; show _ + 1 * _ = _; simp)
theorem ld0 (g : Vec Ideal S2x1024 .f32) (q : Fin 1024) : View.ld g r0_0 (ix2 (0 : Fin 1) q) = g (ix2 0 q) := congrArg g (emb0 q)
theorem ld1 (g : Vec Ideal S2x1024 .f32) (q : Fin 1024) : View.ld g r0_1 (ix2 (0 : Fin 1) q) = g (ix2 1 q) := congrArg g (emb1 q)

theorem G1_eq (g : FVec Ideal S2x1024 .f32) : G1 (F := Ideal) g = bounds g := by
  funext y
  refine View.canon_apply_of_pieces (Val := Elt Ideal) (S := S2x1024) (e := .f32) (bounds g) _ (fun p hp x => ?_) y (View.cover_of_tiled [⟨r0_1, _⟩, ⟨r0_0, _⟩] S1x1024.size (by rfl) y)
  simp only [List.mem_cons, List.not_mem_nil, or_false] at hp
  rcases hp with rfl | rfl
  · obtain ⟨a, q, rfl⟩ : ∃ (a : Fin 1) (q : Fin 1024), x = ix2 a q := ⟨_, _, eq_ix2 x⟩
    obtain rfl : a = 0 := Fin.fin_one_eq_zero a
    refine Eq.trans ?_ (congrArg (bounds g) (emb1 q)).symm
    show _ = row g q 1
    rw [row, if_neg (by decide), soft, soft, ex, ex, top, ← ld0 g, ← ld1 g]
    rfl
  · obtain ⟨a, q, rfl⟩ : ∃ (a : Fin 1) (q : Fin 1024), x = ix2 a q := ⟨_, _, eq_ix2 x⟩
    obtain rfl : a = 0 := Fin.fin_one_eq_zero a
    refine Eq.trans ?_ (congrArg (bounds g) (emb0 q)).symm
    show _ = row g q 0
    rw [row, if_pos rfl, soft, ex, ex, top, ← ld0 g, ← ld1 g]
    rfl

end Cert.Kernel43Ideal.LowerBounds

/-! ## The claims -/

namespace Cert.LowerBounds

open Idealize.ShloMosaic Idealize.ShloMosaic.TcCoe Idealize.SL.Sem Cert.Lower

theorem kernel : Cert.quiescent_Kernel43 := fun m g _ => Cert.Kernel43.Gen.frame m g
theorem kernelIdeal : Cert.quiescent_Kernel43Ideal := fun m g _ => Cert.Kernel43Ideal.Gen.frame m g
theorem referenceIdeal : Cert.quiescent_Reference43Ideal := fun m g _ =>
  (θ_run Cert.Reference43Ideal.defs _ _).mono (fun r h => ⟨fun c => (h c).2, sem_eq_zero_of_no_sems (by decide) r.2⟩)
    (Cert.Reference43Ideal.Value.run (F := Ideal) m g)

open Cert.Kernel43Ideal in
theorem algebraic : Cert.algebraic_Kernel43Ideal_Reference43Ideal := fun m g m' g' hpre hag =>
  ⟨fun c => bounds (m (c.tc.loc main_arg0)),
    (θ_run _ _ _).mono (fun _ h c => ⟨(h c).1.trans (Cert.Kernel43Ideal.LowerBounds.G1_eq _), (h c).2⟩)
      (Cert.Kernel43Ideal.Value.run (F := Ideal) m g),
    (θ_run _ _ _).mono (fun _ h c => by
      obtain ⟨h0, ha⟩ := h c
      refine ⟨h0.trans ?_, ha⟩
      refine Eq.trans (b := Cert.Reference43Ideal.LowerBounds.boundsR (m' (c.tc.loc Cert.Reference43Ideal.main_arg0))) rfl ?_
      rw [hag c]
      exact Cert.Reference43Ideal.LowerBounds.boundsR_eq _)
      (Cert.Reference43Ideal.Value.run (F := Ideal) m' g')⟩

end Cert.LowerBounds

end
-- ==== Proof.LowerBoundsBwd.lean ====
/- The lower bounds' gradient with respect to their parameters. -/
module

public import proofs.«01_k».proof.Defs
public import proofs.«01_k».proof.Proof.LowerSpec
public import proofs.«01_k».proof.Proof.Gen.Kernel44.Frame
public import proofs.«01_k».proof.Proof.Gen.Kernel44Ideal.Value
public import proofs.«01_k».proof.Proof.Gen.Reference44Ideal.Run
import Idealize.ShloMosaic.Lib.Pointwise
import Idealize.ShloMosaic.Lib.Tactic.CleanTypes
public import Idealize.ShloMosaic.Lib.Pipeline.ValueKit
public import proofs.«01_k».proof.Proof.Gen.Pre_finite44
import proofs.«01_k».proof.Proof.Finite
@[expose] public section

set_option maxRecDepth 16384

noncomputable section

/-! ## The reference's parts -/

namespace Cert.Reference44Ideal.LowerBoundsBwd

open Cert.Reference44Ideal Cert.Reference44Ideal.Gen Idealize.ShloMosaic
open Cert.Lower

abbrev topR (g : FVec Ideal S2x1024 .f32) : FVec Ideal S1024 .f32 :=
  maximumf (broadcastInDim S1024 ![] bcast_S_S1024 (constant S_ .f32 0xFF800000#32)) (Host.reduce FloatOps.maximumf g (constant S_ .f32 0xFF800000#32) reducesTo_S2x1024_S1024_d0 h_S_)
abbrev exR (g : FVec Ideal S2x1024 .f32) : FVec Ideal S2x1024 .f32 :=
  Host.exp (subf g (broadcastInDim S2x1024 ![0, 1] bcast_S1x1024_S2x1024_0_1 (broadcastInDim S1x1024 ![1] bcast_S1024_S1x1024_1 (topR g))))
abbrev totalR (g : FVec Ideal S2x1024 .f32) : FVec Ideal S1x1024 .f32 :=
  broadcastInDim S1x1024 ![1] bcast_S1024_S1x1024_1 (Host.reduceAdd (exR g) (constant S_ .f32 0x00000000#32) reducesTo_S2x1024_S1024_d0 h_S_)

theorem topR_apply (g : FVec Ideal S2x1024 .f32) (q : Fin 1024) : topR g (ix1 q) = top g q := by
  have hb : Ideal.ofBits .f32 0xFF800000#32 = ⊥ := by simp [Ideal.ofBits, Ideal.ieee]
  unfold topR top
  pointwise
  simp [hb, Finset.fold, Fin.univ_succ, Multiset.fold_singleton]
theorem exR_apply (g : FVec Ideal S2x1024 .f32) (r : Fin 2) (q : Fin 1024) : exR g (ix2 r q) = ex g q r := by
  unfold exR ex
  rw [← topR_apply]
  generalize topR g = t
  pointwise
theorem totalR_apply (g : FVec Ideal S2x1024 .f32) (q : Fin 1024) : totalR g (ix2 0 q) = ex g q 0 + ex g q 1 := by
  unfold totalR
  rw [← exR_apply, ← exR_apply]
  generalize exR g = e
  pointwise
  simp [Fin.sum_univ_two, Ideal.ofBits, Ideal.ieee]

abbrev loR (a : FVec Ideal S1024 .f32) : FVec Ideal S2x1024 .f32 :=
  (pad S2x1024 ![0, 0] ![1, 0] ![0, 0] (broadcastInDim S1x1024 ![1] bcast_S1024_S1x1024_1 a) (constant S_ .f32 0x00000000#32) pads_S1x1024_S2x1024_010_000 h_S_)
abbrev hiR (a : FVec Ideal S1024 .f32) : FVec Ideal S2x1024 .f32 :=
  (pad S2x1024 ![1, 0] ![0, 0] ![0, 0] (broadcastInDim S1x1024 ![1] bcast_S1024_S1x1024_1 a) (constant S_ .f32 0x00000000#32) pads_S1x1024_S2x1024_100_000 h_S_)
abbrev cotA (d : FVec Ideal S2x1024 .f32) : FVec Ideal S2x1024 .f32 :=
  addf (addf (addf (addf (loR (Host.negf (shapeCast _ (extractStridedSlice S1x1024 ![1, 0] d slices_S2x1024_S1x1024_1_0) shapeCasts_S1x1024_S1024))) (hiR (shapeCast _ (extractStridedSlice S1x1024 ![1, 0] d slices_S2x1024_S1x1024_1_0) shapeCasts_S1x1024_S1024))) (loR (shapeCast _ (extractStridedSlice S1x1024 ![1, 0] d slices_S2x1024_S1x1024_1_0) shapeCasts_S1x1024_S1024))) (loR (Host.negf (shapeCast _ (extractStridedSlice S1x1024 ![0, 0] d slices_S2x1024_S1x1024_0_0) shapeCasts_S1x1024_S1024)))) (loR (shapeCast _ (extractStridedSlice S1x1024 ![0, 0] d slices_S2x1024_S1x1024_0_0) shapeCasts_S1x1024_S1024))
abbrev invR (g : FVec Ideal S2x1024 .f32) : FVec Ideal S1x1024 .f32 :=
  Host.divf (broadcastInDim S1x1024 ![] bcast_S_S1x1024 (constant S_ .f32 0x3F800000#32)) (mulf (totalR g) (totalR g))
abbrev dotR (g d : FVec Ideal S2x1024 .f32) : FVec Ideal S1024 .f32 :=
  Host.reduceAdd (Host.negf (shapeCast _ (Host.reduceAdd (mulf (mulf (cotA d) (broadcastInDim S2x1024 ![0, 1] bcast_S1x1024_S2x1024_0_1 (invR g))) (exR g))
    (constant S_ .f32 0x00000000#32) reducesTo_S2x1024_S1024_d0 h_S_) shapeCasts_S1024_S1x1024)) (constant S_ .f32 0x00000000#32) reducesTo_S1x1024_S1024_d0 h_S_
abbrev dboundsR (g d : FVec Ideal S2x1024 .f32) : FVec Ideal S2x1024 .f32 :=
  mulf (addf (Host.divf (cotA d) (broadcastInDim S2x1024 ![0, 1] bcast_S1x1024_S2x1024_0_1 (totalR g)))
    (broadcastInDim S2x1024 ![1] bcast_S1024_S2x1024_1 (dotR g d))) (exR g)

theorem zero_eq : Ideal.ofBits .f32 0x00000000#32 = 0 := by simp [Ideal.ofBits, Ideal.ieee]
theorem lo0 (a : FVec Ideal S1024 .f32) (q : Fin 1024) : loR a (ix2 0 q) = a (ix1 q) := by
  unfold loR; pointwise
theorem lo1 (a : FVec Ideal S1024 .f32) (q : Fin 1024) : loR a (ix2 1 q) = 0 := by
  unfold loR; rw [← zero_eq]; pointwise
theorem hi0 (a : FVec Ideal S1024 .f32) (q : Fin 1024) : hiR a (ix2 0 q) = 0 := by
  unfold hiR; rw [← zero_eq]; pointwise
theorem hi1 (a : FVec Ideal S1024 .f32) (q : Fin 1024) : hiR a (ix2 1 q) = a (ix1 q) := by
  unfold hiR; pointwise
theorem d0_apply (d : FVec Ideal S2x1024 .f32) (q : Fin 1024) : (shapeCast S1024 (extractStridedSlice S1x1024 ![0, 0] d slices_S2x1024_S1x1024_0_0) shapeCasts_S1x1024_S1024) (ix1 q) = d (ix2 0 q) := by pointwise
theorem d1_apply (d : FVec Ideal S2x1024 .f32) (q : Fin 1024) : (shapeCast S1024 (extractStridedSlice S1x1024 ![1, 0] d slices_S2x1024_S1x1024_1_0) shapeCasts_S1x1024_S1024) (ix1 q) = d (ix2 1 q) := by pointwise

theorem add5 (a b x y z : FVec Ideal S2x1024 .f32) (j : S2x1024.Idx) : addf (addf (addf (addf a b) x) y) z j = a j + b j + x j + y j + z j := rfl
theorem neg_apply (a : FVec Ideal S1024 .f32) (j : S1024.Idx) : Host.negf a j = -a j := rfl
theorem cot_apply (d : FVec Ideal S2x1024 .f32) (r : Fin 2) (q : Fin 1024) : cotA d (ix2 r q) = cotR d q r := by
  match r with
  | 0 =>
    rw [cotR, if_pos rfl, ← d0_apply d, ← d1_apply d]
    rw [cotA, add5, lo0, lo0, lo0, lo0, hi0, neg_apply, neg_apply]
  | 1 =>
    rw [cotR, if_neg (by decide), ← d1_apply d]
    rw [cotA, add5, lo1, lo1, lo1, lo1, hi1]
theorem inv_apply (g : FVec Ideal S2x1024 .f32) (q : Fin 1024) :
    invR g (ix2 0 q) = Ideal.div (Ideal.ofBits .f32 0x3F800000#32) (total g q * total g q) := by
  rw [total, ← totalR_apply]
  unfold invR
  generalize totalR g = s
  pointwise
theorem dot_apply (g d : FVec Ideal S2x1024 .f32) (q : Fin 1024) : dotR g d (ix1 q)
    = -(cotR d q 0 * Ideal.div (Ideal.ofBits .f32 0x3F800000#32) (total g q * total g q) * ex g q 0
        + cotR d q 1 * Ideal.div (Ideal.ofBits .f32 0x3F800000#32) (total g q * total g q) * ex g q 1) := by
  rw [← inv_apply, ← cot_apply, ← cot_apply, ← exR_apply, ← exR_apply]
  unfold dotR
  generalize cotA d = a, invR g = b, exR g = e
  pointwise
  simp [Fin.sum_univ_two, zero_eq]
theorem dboundsR_apply (g d : FVec Ideal S2x1024 .f32) (r : Fin 2) (q : Fin 1024) : dboundsR g d (ix2 r q) = drowR g d q r := by
  rw [drowR, ← dot_apply, total, ← totalR_apply, ← cot_apply, ← exR_apply]
  unfold dboundsR
  generalize cotA d = a, totalR g = s, exR g = e, dotR g d = u
  pointwise
theorem dboundsR_eq (g d : FVec Ideal S2x1024 .f32) (hg : ∀ j, Cert.Sgu.Fin' (g j)) (hd : ∀ j, Cert.Sgu.Fin' (d j)) :
    dboundsR g d = dbounds g d := by
  funext j
  obtain ⟨r, q, rfl⟩ : ∃ (r : Fin 2) (q : Fin 1024), j = ix2 r q := ⟨_, _, eq_ix2 j⟩
  exact (dboundsR_apply g d r q).trans (drowR_eq g d q r hg hd)

end Cert.Reference44Ideal.LowerBoundsBwd

/-! ## The kernel's rows -/

namespace Cert.Kernel44Ideal.LowerBoundsBwd

open Cert.Kernel44Ideal Cert.Kernel44Ideal.Gen Cert.Kernel44Ideal.Value Idealize.ShloMosaic
open Cert.Lower

theorem emb0 (q : Fin 1024) : r0_0.emb (ix2 (0 : Fin 1) q) = ix2 (0 : Fin 2) q := by
  funext a; fin_cases a <;> (apply Fin.ext; show _ + 1 * _ = _; simp)
theorem emb1 (q : Fin 1024) : r0_1.emb (ix2 (0 : Fin 1) q) = ix2 (1 : Fin 2) q := by
  funext a; fin_cases a <;> (apply Fin.ext; show _ + 1 * _ = _; simp)
theorem ld0 (g : Vec Ideal S2x1024 .f32) (q : Fin 1024) : View.ld g r0_0 (ix2 (0 : Fin 1) q) = g (ix2 0 q) := congrArg g (emb0 q)
theorem ld1 (g : Vec Ideal S2x1024 .f32) (q : Fin 1024) : View.ld g r0_1 (ix2 (0 : Fin 1) q) = g (ix2 1 q) := congrArg g (emb1 q)

theorem G2_eq (g d : FVec Ideal S2x1024 .f32) : G2 (F := Ideal) g d = dbounds g d := by
  funext y
  refine View.canon_apply_of_pieces (Val := Elt Ideal) (S := S2x1024) (e := .f32) (dbounds g d) _ (fun p hp x => ?_) y (View.cover_of_tiled [⟨r0_1, _⟩, ⟨r0_0, _⟩] S1x1024.size (by rfl) y)
  simp only [List.mem_cons, List.not_mem_nil, or_false] at hp
  rcases hp with rfl | rfl
  · obtain ⟨a, q, rfl⟩ : ∃ (a : Fin 1) (q : Fin 1024), x = ix2 a q := ⟨_, _, eq_ix2 x⟩
    obtain rfl : a = 0 := Fin.fin_one_eq_zero a
    refine Eq.trans ?_ (congrArg (dbounds g d) (emb1 q)).symm
    show _ = drow g d q 1
    rw [drow, if_neg (by decide), dot, cot0, soft, soft, ex, ex, top, ← ld0 g, ← ld1 g, ← ld0 d, ← ld1 d]
    rfl
  · obtain ⟨a, q, rfl⟩ : ∃ (a : Fin 1) (q : Fin 1024), x = ix2 a q := ⟨_, _, eq_ix2 x⟩
    obtain rfl : a = 0 := Fin.fin_one_eq_zero a
    refine Eq.trans ?_ (congrArg (dbounds g d) (emb0 q)).symm
    show _ = drow g d q 0
    rw [drow, if_pos rfl, dot, cot0, soft, soft, ex, ex, top, ← ld0 g, ← ld1 g, ← ld0 d, ← ld1 d]
    rfl

end Cert.Kernel44Ideal.LowerBoundsBwd

/-! ## The claims -/

namespace Cert.LowerBoundsBwd

open Idealize.ShloMosaic Idealize.ShloMosaic.TcCoe Idealize.SL.Sem Cert.Lower

instance : Subsingleton Cert.Pre_finite44.S_.Idx := ⟨fun a b => funext fun k => k.elim0⟩

/-- The precondition read back. -/
theorem reals_of_pre (g d : FVec Ideal Cert.Kernel44Ideal.S2x1024 .f32)
    (h : Cert.Pre_finite44.fn (F := Ideal) g d = fun _ => 1#1) : (∀ j, Cert.Sgu.Fin' (g j)) ∧ ∀ j, Cert.Sgu.Fin' (d j) := by
  obtain ⟨hg, hd⟩ := IntOp.andi_eq_one.1 (congrFun h (fun k => k.elim0))
  exact ⟨Cert.Finite.all_real g _ (fun _ => rfl) _ _ _ _ hg, Cert.Finite.all_real d _ (fun _ => rfl) _ _ _ _ hd⟩

theorem kernel : Cert.quiescent_Kernel44 := fun m g _ => Cert.Kernel44.Gen.frame m g
theorem kernelIdeal : Cert.quiescent_Kernel44Ideal := fun m g _ => Cert.Kernel44Ideal.Gen.frame m g
theorem kernelIdeal_pre : Cert.quiescent_Kernel44Ideal_pre_finite44 := fun m g _ => Cert.Kernel44Ideal.Gen.frame m g
theorem referenceIdeal : Cert.quiescent_Reference44Ideal := fun m g _ =>
  (θ_run Cert.Reference44Ideal.defs _ _).mono (fun r h => ⟨fun c => (h c).2, sem_eq_zero_of_no_sems (by decide) r.2⟩)
    (Cert.Reference44Ideal.Value.run (F := Ideal) m g)
theorem referenceIdeal_pre : Cert.quiescent_Reference44Ideal_pre_finite44 := fun m g _ => referenceIdeal m g trivial

open Cert.Kernel44Ideal in
theorem algebraic : Cert.algebraic_Kernel44Ideal_Reference44Ideal_pre_finite44 := fun m g m' g' hpre hag =>
  ⟨fun c => dbounds (m (c.tc.loc main_arg0)) (m (c.tc.loc main_arg1)),
    (θ_run _ _ _).mono (fun _ h c => ⟨(h c).1.trans (Cert.Kernel44Ideal.LowerBoundsBwd.G2_eq _ _), (h c).2⟩)
      (Cert.Kernel44Ideal.Value.run (F := Ideal) m g),
    (θ_run _ _ _).mono (fun _ h c => by
      obtain ⟨h0, ha⟩ := h c
      obtain ⟨a0, a1⟩ := hag c
      obtain ⟨hg, hd⟩ := reals_of_pre _ _ (hpre c)
      refine ⟨h0.trans ?_, ha⟩
      refine Eq.trans (b := Cert.Reference44Ideal.LowerBoundsBwd.dboundsR (m' (c.tc.loc Cert.Reference44Ideal.main_arg0))
        (m' (c.tc.loc Cert.Reference44Ideal.main_arg1))) rfl ?_
      rw [a0, a1]
      exact Cert.Reference44Ideal.LowerBoundsBwd.dboundsR_eq _ _ hg hd)
      (Cert.Reference44Ideal.Value.run (F := Ideal) m' g')⟩

end Cert.LowerBoundsBwd

end
-- ==== Proof.GradA1.lean ====
/- The second layer's gradient of the recurrence's output projection after the kernel's last block of rows: the sum over all rows, entry by entry. -/
module

public import proofs.«01_k».proof.Defs
public import proofs.«01_k».proof.Proof.Gen.Kernel45.Frame
public import proofs.«01_k».proof.Proof.Gen.Kernel45Ideal.Frame
public import proofs.«01_k».proof.Proof.Gen.Reference45Ideal.Run
import Idealize.ShloMosaic.Lib.Pointwise
import Idealize.ShloMosaic.Lib.Pipeline.ReadBack
public import Idealize.ShloMosaic.Lib.Pipeline.ValueKit

@[expose] public section

set_option maxRecDepth 16384

noncomputable section

namespace Cert.GradA1

open Idealize.ShloMosaic

/-- The rows' products of one input feature with one column of the incoming gradient. -/
def rowSum (x : (⟨2, ![16384, 1024]⟩ : Shape).Idx → EReal) (d : (⟨2, ![16384, 1024]⟩ : Shape).Idx → EReal) (a : Fin 4) (r : Fin 256) (k : Fin 1024) : EReal :=
  ∑ s : Fin 16384, x (ix2 s ⟨256 * a.val + r.val, by omega⟩) * d (ix2 s k)

/-- The second layer's gradient. -/
def grad (x : (⟨2, ![16384, 1024]⟩ : Shape).Idx → EReal) (d : (⟨2, ![16384, 1024]⟩ : Shape).Idx → EReal) (j : (⟨3, ![4, 256, 1024]⟩ : Shape).Idx) : EReal :=
  rowSum x d (j 0) (j 1) (j 2)

end Cert.GradA1

namespace Cert.Reference45Ideal.GradA1

open Cert.Reference45Ideal Cert.Reference45Ideal.Gen Idealize.ShloMosaic

theorem value (x : FVec Ideal S16384x1024 .bf16) (d : FVec Ideal S16384x1024 .bf16) :
    truncf .bf16 (shapeCast S4x256x1024 (transpose S1024x1024 [1, 0] (Host.dotGeneral
      dot_S16384x1024_S16384x1024_S1024x1024_0_0_1_1_n_n none (extf .f32 d bitsLt_bf16_f32) (extf .f32 x bitsLt_bf16_f32))
      transposes_S1024x1024_S1024x1024_1_0) shapeCasts_S1024x1024_S4x256x1024) bitsLt_bf16_f32 = Cert.GradA1.grad x d := by
  funext j
  obtain ⟨a, r, k, rfl⟩ : ∃ (a : Fin _) (r : Fin _) (k : Fin _), j = ix3 a r k := ⟨_, _, _, eq_ix3 j⟩
  unfold Cert.GradA1.grad Cert.GradA1.rowSum
  pointwise
  refine Finset.sum_congr rfl fun s _ => (mul_comm _ _).trans ?_
  refine congrArg₂ (· * ·) (congrArg x ?_) (congrArg d ?_)
  all_goals (congr 1 <;> refine Fin.ext ?_ <;> simp only <;> omega)

end Cert.Reference45Ideal.GradA1

namespace Cert.Kernel45Ideal.GradA1

open Cert.Kernel45Ideal Cert.Kernel45Ideal.Gen Idealize.ShloMosaic Idealize.ShloMosaic.TcCoe Idealize.SL.Sem
open Idealize.ShloMosaic.Pipeline (Dat)

variable (m : (l : Loc nD τ sig) → Buf (Elt Ideal) l) (c : Dev nD)

abbrev ax : FVec Ideal S16384x1024 .bf16 := m ((c : Thread nD τ).loc main_arg0)
abbrev ad : FVec Ideal S16384x1024 .bf16 := m ((c : Thread nD τ).loc main_arg1)

theorem idx : ∀ t : Fin cfg0.N, win0_0.index t = ![t.val % 16, t.val / 16]
    ∧ win0_1.index t = ![t.val % 16, 0] ∧ win0_2.index t = ![t.val / 16, 1, 0, 0] :=
  (by decide +kernel : ∀ t : Fin grid0.N, _)

/-- One block of rows' product. -/
abbrev part (t : Fin cfg0.N) : FVec Ideal S256x1024 .f32 := k0_pay1 (iblk m c 0 t) (iblk m c 1 t)

theorem part_apply (t : Fin cfg0.N) (r : Fin 256) (k : Fin 1024) : part m c t (ix2 r k)
    = ∑ s : Fin 1024, ax m c (ix2 ⟨1024 * (t.val % 16) + s.val, by omega⟩ ⟨256 * (t.val / 16) + r.val, by have := lt_of_lt_of_eq t.isLt N_0; omega⟩)
        * ad m c (ix2 ⟨1024 * (t.val % 16) + s.val, by omega⟩ k) := by
  unfold part
  pointwise [k0_pay1]
  refine Finset.sum_congr rfl fun k _ => congrArg₂ (· * ·) ?_ ?_
  · blk_point [iblk, V, idx t]
  · blk_point [iblk, V, idx t]

theorem acc_A (t : Fin cfg0.N) (h : t.val % 16 = 0) (j : S256x1024.Idx) : (outsAt0 m c t.val t.isLt).2 j = part m c t j := by
  rw [outsAt0_A m c t h (by omega) (by omega)]; frame_out
  pointwise [k0_pay2]

theorem acc_B (t : Fin cfg0.N) (h : ¬t.val % 16 = 0) (j : S256x1024.Idx) : (outsAt0 m c t.val t.isLt).2 j
    = (outsAt0 m c (t.val - 1) (Nat.lt_of_le_of_lt (Nat.sub_le _ _) t.isLt)).2 j + part m c t j := by
  by_cases h7 : t.val % 16 = 15
  · rw [outsAt0_C m c t h (by omega) h7]; frame_out
    simp only [read_unread_whole]
    pointwise [k0_pay3]
  · rw [outsAt0_B m c t h (by omega) h7]; frame_out
    simp only [read_unread_whole]
    pointwise [k0_pay3]

theorem out_C (t : Fin cfg0.N) (h : t.val % 16 = 15) (r : Fin 256) (k : Fin 1024) :
    (outsAt0 m c t.val t.isLt).1 (ix4 0 0 r k) = (outsAt0 m c t.val t.isLt).2 (ix2 r k) := by
  rw [outsAt0_C m c t (by omega) (by omega) h]; frame_out
  pointwise [k0_pay4]

/-- The blocks of rows make up the gradient. -/
theorem sum_parts (t : Fin cfg0.N) (ht : t.val % 16 = 16 - 1) (r : Fin 256) (k : Fin 1024) :
    ∑ s : Fin 16, part m c ⟨16 * (t.val / 16) + s.val, Pipeline.run_point_lt_of_flush t ht s⟩ (ix2 r k)
      = Cert.GradA1.rowSum (ax m c) (ad m c) ⟨t.val / 16, by have := lt_of_lt_of_eq t.isLt N_0; omega⟩ r k := by
  unfold Cert.GradA1.rowSum
  rw [Fin.sum_univ_tiles 16 1024 rfl]
  refine Finset.sum_congr rfl fun s _ => ?_
  rw [part_apply]
  refine Finset.sum_congr rfl fun k _ => congrArg₂ (· * ·) (congrArg (ax m c) ?_) (congrArg (ad m c) ?_)
  all_goals (congr 1 <;> refine Fin.ext ?_ <;> simp only <;> omega)

/-- What the last block of rows writes back. -/
theorem out_apply (t : Fin cfg0.N) (ht : t.val % 16 = 16 - 1) (r : Fin 256) (k : Fin 1024) :
    (outsAt0 m c t.val t.isLt).1 (ix4 0 0 r k) = Cert.GradA1.rowSum (ax m c) (ad m c) ⟨t.val / 16, by have := lt_of_lt_of_eq t.isLt N_0; omega⟩ r k := by
  rw [out_C m c t ht, Pipeline.eq_sum_fin_of_reset_step_apply_of_flush (fun n h => (outsAt0 m c n h).2) 16 (fun _ => 0)
    (fun t => part m c t) (fun t h j => by rw [acc_A m c t h, zero_add]) (fun t h j => acc_B m c t h j) t ht _, zero_add]
  exact sum_parts m c t ht r k

/-- The stacked gradient the call leaves: the second layer's part computed. -/
theorem stacked (a : Fin 4) (r : Fin 256) (k : Fin 1024) : (dats m 0 c).arrAt 2 (cfgs 0).N (ix4 a 1 r k)
    = Cert.GradA1.rowSum (ax m c) (ad m c) a r k := by
  have h : (dats m 0 c).arrAt 2 (cfgs 0).N = fun j : S4x2x256x1024.Idx => if (j 1 : ℕ) / 1 = 1 then
      Cert.GradA1.rowSum (ax m c) (ad m c) (j 0) (j 2) (j 3) else V m c main_v0 j := by
    refine (dats m 0 c).arrAt_eq_of_coversWhere 2 _ (fun β => β (1 : Fin _) = 1) (by decide +kernel) (fun t hf y => ?_)
      (fun j => Iff.rfl)
    blk_simp
    have ht := (flush0_2 t).mp hf
    obtain ⟨r, k, rfl⟩ : ∃ (r : Fin 256) (k : Fin 1024), y = ix4 0 0 r k :=
      ⟨y 2, y 3, (eq_ix4 y).trans (congrArg₂ (fun a b => ix4 a b (y 2) (y 3)) (Subsingleton.elim _ _) (Subsingleton.elim _ _))⟩
    rw [after0_2, show (win0_2.blk t).view.emb (ix4 0 0 r k) = ix4 ⟨t.val / 16, by have := lt_of_lt_of_eq t.isLt N_0; omega⟩ 1 r k from by blk_ext [idx t]]
    exact out_apply m c t ht r k
  exact (congrFun h _).trans (if_pos (Nat.div_one _))

/-- The second layer's part, taken out of the stacked gradient. -/
theorem sliced (v : FVec Ideal S4x2x256x1024 .bf16) (x : FVec Ideal S16384x1024 .bf16) (d : FVec Ideal S16384x1024 .bf16)
    (h : ∀ (a : Fin 4) (r : Fin 256) (k : Fin 1024), v (ix4 a 1 r k) = Cert.GradA1.rowSum x d a r k) :
    shapeCast S4x256x1024 (extractStridedSlice S4x1x256x1024 ![0, 1, 0, 0] v slices_S4x2x256x1024_S4x1x256x1024_0_1_0_0)
      shapeCasts_S4x1x256x1024_S4x256x1024 = Cert.GradA1.grad x d := by
  funext j
  obtain ⟨a, r, k, rfl⟩ : ∃ (a : Fin _) (r : Fin _) (k : Fin _), j = ix3 a r k := ⟨_, _, _, eq_ix3 j⟩
  refine Eq.trans ?_ (h a r k)
  pointwise

/-- What the lines after the call leave in the result. -/
theorem tail : Pipeline.afterTail₀ cfgs (dats m) 0 (V0 m) [hostOps1] c main_v2 = Cert.GradA1.grad (ax m c) (ad m c) := by
  refine Eq.trans ?_ (sliced _ (ax m c) (ad m c) (stacked m c))
  unfold Pipeline.afterTail₀
  simp only [hostOps1, List.flatten_cons, List.flatten_nil, List.append_nil, StableHlo.after_cons, StableHlo.after_nil]
  rw [StableHlo.reshape_result', StableHlo.unary_result']
  rw [Pipeline.withArrays_arr _ winFacts0.arr_inj c _ _ (2 : Fin 3)]
  rfl

/-- The call and the lines after it. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v2) = Cert.GradA1.grad (ax m c) (ad m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨(h.1 c).2 main_v2 (Pipeline.mem_restRefs_of main_v2 (by decide) (by decide)) |>.trans (tail m c), h.2.1 c⟩)
    (θ_run_and (run_main m ρ) (frame m ρ))

end Cert.Kernel45Ideal.GradA1

/-! ## The claims -/

namespace Cert.GradA1

open Idealize.ShloMosaic Idealize.ShloMosaic.TcCoe Idealize.SL.Sem

theorem kernel : Cert.quiescent_Kernel45 := fun m g _ => Cert.Kernel45.Gen.frame m g
theorem kernelIdeal : Cert.quiescent_Kernel45Ideal := fun m g _ => Cert.Kernel45Ideal.Gen.frame m g
theorem referenceIdeal : Cert.quiescent_Reference45Ideal := fun m g _ =>
  (θ_run Cert.Reference45Ideal.defs _ _).mono (fun r h => ⟨fun c => (h c).2, sem_eq_zero_of_no_sems (by decide) r.2⟩)
    (Cert.Reference45Ideal.Value.run (F := Ideal) m g)

theorem algebraic : Cert.algebraic_Kernel45Ideal_Reference45Ideal := fun m g m' g' hpre hag =>
  ⟨fun c => grad (Cert.Kernel45Ideal.GradA1.ax m c) (Cert.Kernel45Ideal.GradA1.ad m c),
    Cert.Kernel45Ideal.GradA1.run m g,
    (θ_run _ _ _).mono (fun _ h c => ⟨(h c).1.trans (by
        rw [(hag c).1, (hag c).2]; exact Cert.Reference45Ideal.GradA1.value _ _), (h c).2⟩)
      (Cert.Reference45Ideal.Value.run (F := Ideal) m' g')⟩

end Cert.GradA1

end
-- ==== Proof.GradUp1.lean ====
/- The second layer's gradient of the up projection after the kernel's last block of rows: the sum over all rows, entry by entry. -/
module

public import proofs.«01_k».proof.Defs
public import proofs.«01_k».proof.Proof.Gen.Kernel46.Frame
public import proofs.«01_k».proof.Proof.Gen.Kernel46Ideal.Frame
public import proofs.«01_k».proof.Proof.Gen.Reference46Ideal.Run
import Idealize.ShloMosaic.Lib.Pointwise
import Idealize.ShloMosaic.Lib.Pipeline.ReadBack
public import Idealize.ShloMosaic.Lib.Pipeline.ValueKit

@[expose] public section

set_option maxRecDepth 16384

noncomputable section

namespace Cert.GradUp1

open Idealize.ShloMosaic

/-- The rows' products of one input feature with one column of the incoming gradient. -/
def rowSum (x : (⟨2, ![16384, 1024]⟩ : Shape).Idx → EReal) (d : (⟨3, ![4, 16384, 704]⟩ : Shape).Idx → EReal) (a : Fin 4) (r : Fin 1024) (k : Fin 704) : EReal :=
  ∑ s : Fin 16384, x (ix2 s r) * d (ix3 a s k)

/-- The second layer's gradient. -/
def grad (x : (⟨2, ![16384, 1024]⟩ : Shape).Idx → EReal) (d : (⟨3, ![4, 16384, 704]⟩ : Shape).Idx → EReal) (j : (⟨3, ![4, 1024, 704]⟩ : Shape).Idx) : EReal :=
  rowSum x d (j 0) (j 1) (j 2)

end Cert.GradUp1

namespace Cert.Reference46Ideal.GradUp1

open Cert.Reference46Ideal Cert.Reference46Ideal.Gen Idealize.ShloMosaic

theorem value (x : FVec Ideal S16384x1024 .bf16) (d : FVec Ideal S4x16384x704 .bf16) :
    truncf .bf16 (transpose S4x1024x704 [1, 0, 2] (shapeCast S1024x4x704 (transpose S1024x2816 [1, 0] (Host.dotGeneral
      dot_S16384x2816_S16384x1024_S2816x1024_0_0_1_1_n_n none (extf .f32 (shapeCast S16384x2816 (transpose S16384x4x704 [1, 0, 2] d
      transposes_S4x16384x704_S16384x4x704_1_0_2) shapeCasts_S16384x4x704_S16384x2816) bitsLt_bf16_f32) (extf .f32 x
      bitsLt_bf16_f32)) transposes_S2816x1024_S1024x2816_1_0) shapeCasts_S1024x2816_S1024x4x704)
      transposes_S1024x4x704_S4x1024x704_1_0_2) bitsLt_bf16_f32 = Cert.GradUp1.grad x d := by
  funext j
  obtain ⟨a, r, k, rfl⟩ : ∃ (a : Fin _) (r : Fin _) (k : Fin _), j = ix3 a r k := ⟨_, _, _, eq_ix3 j⟩
  unfold Cert.GradUp1.grad Cert.GradUp1.rowSum
  pointwise
  refine Finset.sum_congr rfl fun s _ => (mul_comm _ _).trans ?_
  refine congrArg₂ (· * ·) (congrArg x ?_) (congrArg d ?_)
  all_goals (congr 1 <;> refine Fin.ext ?_ <;> simp only <;> omega)

end Cert.Reference46Ideal.GradUp1

namespace Cert.Kernel46Ideal.GradUp1

open Cert.Kernel46Ideal Cert.Kernel46Ideal.Gen Idealize.ShloMosaic Idealize.ShloMosaic.TcCoe Idealize.SL.Sem
open Idealize.ShloMosaic.Pipeline (Dat)

variable (m : (l : Loc nD τ sig) → Buf (Elt Ideal) l) (c : Dev nD)

abbrev ax : FVec Ideal S16384x1024 .bf16 := m ((c : Thread nD τ).loc main_arg0)
abbrev ad : FVec Ideal S4x16384x704 .bf16 := m ((c : Thread nD τ).loc main_arg1)

theorem idx : ∀ t : Fin cfg0.N, win0_0.index t = ![t.val % 16, 0]
    ∧ win0_1.index t = ![t.val / 16, t.val % 16, 0] ∧ win0_2.index t = ![t.val / 16, 1, 0, 0] :=
  (by decide +kernel : ∀ t : Fin grid0.N, _)

/-- One block of rows' product. -/
abbrev part (t : Fin cfg0.N) : FVec Ideal S1024x704 .f32 := k0_pay1 (iblk m c 0 t) (iblk m c 1 t)

theorem part_apply (t : Fin cfg0.N) (r : Fin 1024) (k : Fin 704) : part m c t (ix2 r k)
    = ∑ s : Fin 1024, ax m c (ix2 ⟨1024 * (t.val % 16) + s.val, by omega⟩ r)
        * ad m c (ix3 ⟨t.val / 16, by have := lt_of_lt_of_eq t.isLt N_0; omega⟩ ⟨1024 * (t.val % 16) + s.val, by omega⟩ k) := by
  unfold part
  pointwise [k0_pay1]
  refine Finset.sum_congr rfl fun k _ => congrArg₂ (· * ·) ?_ ?_
  · blk_point [iblk, V, idx t]
  · blk_point [iblk, V, idx t]

theorem acc_A (t : Fin cfg0.N) (h : t.val % 16 = 0) (j : S1024x704.Idx) : (outsAt0 m c t.val t.isLt).2 j = part m c t j := by
  rw [outsAt0_A m c t h (by omega) (by omega)]; frame_out
  pointwise [k0_pay2]

theorem acc_B (t : Fin cfg0.N) (h : ¬t.val % 16 = 0) (j : S1024x704.Idx) : (outsAt0 m c t.val t.isLt).2 j
    = (outsAt0 m c (t.val - 1) (Nat.lt_of_le_of_lt (Nat.sub_le _ _) t.isLt)).2 j + part m c t j := by
  by_cases h7 : t.val % 16 = 15
  · rw [outsAt0_C m c t h (by omega) h7]; frame_out
    simp only [read_unread_whole]
    pointwise [k0_pay3]
  · rw [outsAt0_B m c t h (by omega) h7]; frame_out
    simp only [read_unread_whole]
    pointwise [k0_pay3]

theorem out_C (t : Fin cfg0.N) (h : t.val % 16 = 15) (r : Fin 1024) (k : Fin 704) :
    (outsAt0 m c t.val t.isLt).1 (ix4 0 0 r k) = (outsAt0 m c t.val t.isLt).2 (ix2 r k) := by
  rw [outsAt0_C m c t (by omega) (by omega) h]; frame_out
  pointwise [k0_pay4]

/-- The blocks of rows make up the gradient. -/
theorem sum_parts (t : Fin cfg0.N) (ht : t.val % 16 = 16 - 1) (r : Fin 1024) (k : Fin 704) :
    ∑ s : Fin 16, part m c ⟨16 * (t.val / 16) + s.val, Pipeline.run_point_lt_of_flush t ht s⟩ (ix2 r k)
      = Cert.GradUp1.rowSum (ax m c) (ad m c) ⟨t.val / 16, by have := lt_of_lt_of_eq t.isLt N_0; omega⟩ r k := by
  unfold Cert.GradUp1.rowSum
  rw [Fin.sum_univ_tiles 16 1024 rfl]
  refine Finset.sum_congr rfl fun s _ => ?_
  rw [part_apply]
  refine Finset.sum_congr rfl fun k _ => congrArg₂ (· * ·) (congrArg (ax m c) ?_) (congrArg (ad m c) ?_)
  all_goals (congr 1 <;> refine Fin.ext ?_ <;> simp only <;> omega)

/-- What the last block of rows writes back. -/
theorem out_apply (t : Fin cfg0.N) (ht : t.val % 16 = 16 - 1) (r : Fin 1024) (k : Fin 704) :
    (outsAt0 m c t.val t.isLt).1 (ix4 0 0 r k) = Cert.GradUp1.rowSum (ax m c) (ad m c) ⟨t.val / 16, by have := lt_of_lt_of_eq t.isLt N_0; omega⟩ r k := by
  rw [out_C m c t ht, Pipeline.eq_sum_fin_of_reset_step_apply_of_flush (fun n h => (outsAt0 m c n h).2) 16 (fun _ => 0)
    (fun t => part m c t) (fun t h j => by rw [acc_A m c t h, zero_add]) (fun t h j => acc_B m c t h j) t ht _, zero_add]
  exact sum_parts m c t ht r k

/-- The stacked gradient the call leaves: the second layer's part computed. -/
theorem stacked (a : Fin 4) (r : Fin 1024) (k : Fin 704) : (dats m 0 c).arrAt 2 (cfgs 0).N (ix4 a 1 r k)
    = Cert.GradUp1.rowSum (ax m c) (ad m c) a r k := by
  have h : (dats m 0 c).arrAt 2 (cfgs 0).N = fun j : S4x2x1024x704.Idx => if (j 1 : ℕ) / 1 = 1 then
      Cert.GradUp1.rowSum (ax m c) (ad m c) (j 0) (j 2) (j 3) else V m c main_v0 j := by
    refine (dats m 0 c).arrAt_eq_of_coversWhere 2 _ (fun β => β (1 : Fin _) = 1) (by decide +kernel) (fun t hf y => ?_)
      (fun j => Iff.rfl)
    blk_simp
    have ht := (flush0_2 t).mp hf
    obtain ⟨r, k, rfl⟩ : ∃ (r : Fin 1024) (k : Fin 704), y = ix4 0 0 r k :=
      ⟨y 2, y 3, (eq_ix4 y).trans (congrArg₂ (fun a b => ix4 a b (y 2) (y 3)) (Subsingleton.elim _ _) (Subsingleton.elim _ _))⟩
    rw [after0_2, show (win0_2.blk t).view.emb (ix4 0 0 r k) = ix4 ⟨t.val / 16, by have := lt_of_lt_of_eq t.isLt N_0; omega⟩ 1 r k from by blk_ext [idx t]]
    exact out_apply m c t ht r k
  exact (congrFun h _).trans (if_pos (Nat.div_one _))

/-- The second layer's part, taken out of the stacked gradient. -/
theorem sliced (v : FVec Ideal S4x2x1024x704 .bf16) (x : FVec Ideal S16384x1024 .bf16) (d : FVec Ideal S4x16384x704 .bf16)
    (h : ∀ (a : Fin 4) (r : Fin 1024) (k : Fin 704), v (ix4 a 1 r k) = Cert.GradUp1.rowSum x d a r k) :
    shapeCast S4x1024x704 (extractStridedSlice S4x1x1024x704 ![0, 1, 0, 0] v slices_S4x2x1024x704_S4x1x1024x704_0_1_0_0)
      shapeCasts_S4x1x1024x704_S4x1024x704 = Cert.GradUp1.grad x d := by
  funext j
  obtain ⟨a, r, k, rfl⟩ : ∃ (a : Fin _) (r : Fin _) (k : Fin _), j = ix3 a r k := ⟨_, _, _, eq_ix3 j⟩
  refine Eq.trans ?_ (h a r k)
  pointwise

/-- What the lines after the call leave in the result. -/
theorem tail : Pipeline.afterTail₀ cfgs (dats m) 0 (V0 m) [hostOps1] c main_v2 = Cert.GradUp1.grad (ax m c) (ad m c) := by
  refine Eq.trans ?_ (sliced _ (ax m c) (ad m c) (stacked m c))
  unfold Pipeline.afterTail₀
  simp only [hostOps1, List.flatten_cons, List.flatten_nil, List.append_nil, StableHlo.after_cons, StableHlo.after_nil]
  rw [StableHlo.reshape_result', StableHlo.unary_result']
  rw [Pipeline.withArrays_arr _ winFacts0.arr_inj c _ _ (2 : Fin 3)]
  rfl

/-- The call and the lines after it. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v2) = Cert.GradUp1.grad (ax m c) (ad m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨(h.1 c).2 main_v2 (Pipeline.mem_restRefs_of main_v2 (by decide) (by decide)) |>.trans (tail m c), h.2.1 c⟩)
    (θ_run_and (run_main m ρ) (frame m ρ))

end Cert.Kernel46Ideal.GradUp1

/-! ## The claims -/

namespace Cert.GradUp1

open Idealize.ShloMosaic Idealize.ShloMosaic.TcCoe Idealize.SL.Sem

theorem kernel : Cert.quiescent_Kernel46 := fun m g _ => Cert.Kernel46.Gen.frame m g
theorem kernelIdeal : Cert.quiescent_Kernel46Ideal := fun m g _ => Cert.Kernel46Ideal.Gen.frame m g
theorem referenceIdeal : Cert.quiescent_Reference46Ideal := fun m g _ =>
  (θ_run Cert.Reference46Ideal.defs _ _).mono (fun r h => ⟨fun c => (h c).2, sem_eq_zero_of_no_sems (by decide) r.2⟩)
    (Cert.Reference46Ideal.Value.run (F := Ideal) m g)

theorem algebraic : Cert.algebraic_Kernel46Ideal_Reference46Ideal := fun m g m' g' hpre hag =>
  ⟨fun c => grad (Cert.Kernel46Ideal.GradUp1.ax m c) (Cert.Kernel46Ideal.GradUp1.ad m c),
    Cert.Kernel46Ideal.GradUp1.run m g,
    (θ_run _ _ _).mono (fun _ h c => ⟨(h c).1.trans (by
        rw [(hag c).1, (hag c).2]; exact Cert.Reference46Ideal.GradUp1.value _ _), (h c).2⟩)
      (Cert.Reference46Ideal.Value.run (F := Ideal) m' g')⟩

end Cert.GradUp1

end
-- ==== Proof.GradOut.lean ====
/- The gradient of the output projection after the kernel's last block of rows, written into the first layer's half of the stacked gradient. -/
module

public import proofs.«01_k».proof.Defs
public import proofs.«01_k».proof.Proof.Gen.Kernel47.Frame
public import proofs.«01_k».proof.Proof.Gen.Kernel47Ideal.Value
public import proofs.«01_k».proof.Proof.Gen.Reference47Ideal.Run
import Idealize.ShloMosaic.Lib.Pointwise
import Idealize.ShloMosaic.Lib.Pipeline.ReadBack
public import Idealize.ShloMosaic.Lib.Pipeline.ValueKit

@[expose] public section

set_option maxRecDepth 16384

noncomputable section

namespace Cert.GradOut

open Idealize.ShloMosaic

/-- The rows' products of one input feature with one column of the incoming gradient. -/
def rowSum (x : (⟨2, ![16384, 1024]⟩ : Shape).Idx → EReal) (d : (⟨2, ![16384, 1024]⟩ : Shape).Idx → EReal) (a : Fin 4) (r : Fin 256) (k : Fin 1024) : EReal :=
  ∑ s : Fin 16384, x (ix2 s ⟨256 * a.val + r.val, by omega⟩) * d (ix2 s k)

/-- The stacked gradient of the two layers: the first layer's computed, the second's as it was. -/
def grad (x : (⟨2, ![16384, 1024]⟩ : Shape).Idx → EReal) (d : (⟨2, ![16384, 1024]⟩ : Shape).Idx → EReal) (g : (⟨4, ![4, 2, 256, 1024]⟩ : Shape).Idx → EReal)
    (j : (⟨4, ![4, 2, 256, 1024]⟩ : Shape).Idx) : EReal :=
  if (j 1 : ℕ) = 0 then rowSum x d (j 0) (j 2) (j 3) else g j

end Cert.GradOut

namespace Cert.Reference47Ideal.GradOut

open Cert.Reference47Ideal Cert.Reference47Ideal.Gen Idealize.ShloMosaic

theorem value (x : FVec Ideal S16384x1024 .bf16) (d : FVec Ideal S16384x1024 .bf16) (g : FVec Ideal S4x2x256x1024 .bf16) :
    concatenate S4x2x256x1024 1 [⟨S4x1x256x1024, (broadcastInDim S4x1x256x1024 ![0, 2, 3] bcast_S4x256x1024_S4x1x256x1024_0_2_3
      (truncf .bf16 (shapeCast S4x256x1024 (transpose S1024x1024 [1, 0] (Host.dotGeneral
      dot_S16384x1024_S16384x1024_S1024x1024_0_0_1_1_n_n none (extf .f32 d bitsLt_bf16_f32) (extf .f32 x bitsLt_bf16_f32))
      transposes_S1024x1024_S1024x1024_1_0) shapeCasts_S1024x1024_S4x256x1024) bitsLt_bf16_f32))⟩,
      ⟨S4x1x256x1024, (extractStridedSlice S4x1x256x1024 ![0, 1, 0, 0] g slices_S4x2x256x1024_S4x1x256x1024_0_1_0_0)⟩]
      concatenates_S4x1x256x1024_S4x1x256x1024_S4x2x256x1024_d1 = Cert.GradOut.grad x d g := by
  funext j
  obtain ⟨a, l, r, k, rfl⟩ : ∃ (a : Fin _) (l : Fin _) (r : Fin _) (k : Fin _), j = ix4 a l r k := ⟨_, _, _, _, eq_ix4 j⟩
  unfold Cert.GradOut.grad Cert.GradOut.rowSum
  pointwise
  by_cases hl : (l : ℕ) = 0
  · rw [dif_pos (by omega), if_pos hl]
    refine Finset.sum_congr rfl fun s _ => (mul_comm _ _).trans ?_
    refine congrArg₂ (· * ·) (congrArg x ?_) (congrArg d ?_)
    all_goals (congr 1 <;> refine Fin.ext ?_ <;> simp only <;> omega)
  · rw [dif_neg (by omega), if_neg hl]
    exact congrArg (fun l => g (ix4 a l r k)) (Fin.ext (by simp only; omega))

end Cert.Reference47Ideal.GradOut

namespace Cert.Kernel47Ideal.GradOut

open Cert.Kernel47Ideal Cert.Kernel47Ideal.Gen Idealize.ShloMosaic Idealize.ShloMosaic.TcCoe Idealize.SL.Sem
open Idealize.ShloMosaic.Pipeline (Dat)

variable (m : (l : Loc nD τ sig) → Buf (Elt Ideal) l) (c : Dev nD)

abbrev ax : FVec Ideal S16384x1024 .bf16 := m ((c : Thread nD τ).loc main_arg0)
abbrev ad : FVec Ideal S16384x1024 .bf16 := m ((c : Thread nD τ).loc main_arg1)
abbrev ag : FVec Ideal S4x2x256x1024 .bf16 := m ((c : Thread nD τ).loc main_arg2)

theorem idx : ∀ t : Fin cfg0.N, win0_0.index t = ![t.val % 16, t.val / 16]
    ∧ win0_1.index t = ![t.val % 16, 0] ∧ win0_2.index t = ![t.val / 16, 0, 0, 0] :=
  (by decide +kernel : ∀ t : Fin grid0.N, _)

/-- One block of rows' product. -/
abbrev part (t : Fin cfg0.N) : FVec Ideal S256x1024 .f32 := k0_pay1 (iblk m c 0 t) (iblk m c 1 t)

theorem part_apply (t : Fin cfg0.N) (r : Fin 256) (k : Fin 1024) : part m c t (ix2 r k)
    = ∑ s : Fin 1024, ax m c (ix2 ⟨1024 * (t.val % 16) + s.val, by omega⟩ ⟨256 * (t.val / 16) + r.val, by have := lt_of_lt_of_eq t.isLt N_0; omega⟩)
        * ad m c (ix2 ⟨1024 * (t.val % 16) + s.val, by omega⟩ k) := by
  unfold part
  pointwise [k0_pay1]
  refine Finset.sum_congr rfl fun k _ => congrArg₂ (· * ·) ?_ ?_
  · blk_point [iblk, V, idx t]
  · blk_point [iblk, V, idx t]

theorem acc_A (t : Fin cfg0.N) (h : t.val % 16 = 0) (j : S256x1024.Idx) : (outsAt0 m c t.val t.isLt).2 j = part m c t j := by
  rw [outsAt0_A m c t h (by omega) (by omega)]; frame_out
  pointwise [k0_pay2]

theorem acc_B (t : Fin cfg0.N) (h : ¬t.val % 16 = 0) (j : S256x1024.Idx) : (outsAt0 m c t.val t.isLt).2 j
    = (outsAt0 m c (t.val - 1) (Nat.lt_of_le_of_lt (Nat.sub_le _ _) t.isLt)).2 j + part m c t j := by
  by_cases h7 : t.val % 16 = 15
  · rw [outsAt0_C m c t h (by omega) h7]; frame_out
    simp only [read_unread_whole]
    pointwise [k0_pay3]
  · rw [outsAt0_B m c t h (by omega) h7]; frame_out
    simp only [read_unread_whole]
    pointwise [k0_pay3]

theorem out_C (t : Fin cfg0.N) (h : t.val % 16 = 15) (r : Fin 256) (k : Fin 1024) :
    (outsAt0 m c t.val t.isLt).1 (ix4 0 0 r k) = (outsAt0 m c t.val t.isLt).2 (ix2 r k) := by
  rw [outsAt0_C m c t (by omega) (by omega) h]; frame_out
  pointwise [k0_pay4]

/-- The blocks of rows make up the gradient. -/
theorem sum_parts (t : Fin cfg0.N) (ht : t.val % 16 = 16 - 1) (r : Fin 256) (k : Fin 1024) :
    ∑ s : Fin 16, part m c ⟨16 * (t.val / 16) + s.val, Pipeline.run_point_lt_of_flush t ht s⟩ (ix2 r k)
      = Cert.GradOut.rowSum (ax m c) (ad m c) ⟨t.val / 16, by have := lt_of_lt_of_eq t.isLt N_0; omega⟩ r k := by
  unfold Cert.GradOut.rowSum
  rw [Fin.sum_univ_tiles 16 1024 rfl]
  refine Finset.sum_congr rfl fun s _ => ?_
  rw [part_apply]
  refine Finset.sum_congr rfl fun k _ => congrArg₂ (· * ·) (congrArg (ax m c) ?_) (congrArg (ad m c) ?_)
  all_goals (congr 1 <;> refine Fin.ext ?_ <;> simp only <;> omega)

/-- What the last block of rows writes back. -/
theorem out_apply (t : Fin cfg0.N) (ht : t.val % 16 = 16 - 1) (r : Fin 256) (k : Fin 1024) :
    (outsAt0 m c t.val t.isLt).1 (ix4 0 0 r k) = Cert.GradOut.rowSum (ax m c) (ad m c) ⟨t.val / 16, by have := lt_of_lt_of_eq t.isLt N_0; omega⟩ r k := by
  rw [out_C m c t ht, Pipeline.eq_sum_fin_of_reset_step_apply_of_flush (fun n h => (outsAt0 m c n h).2) 16 (fun _ => 0)
    (fun t => part m c t) (fun t h j => by rw [acc_A m c t h, zero_add]) (fun t h j => acc_B m c t h j) t ht _, zero_add]
  exact sum_parts m c t ht r k

theorem final : (dats m 0 c).arrAt 2 (cfgs 0).N = Cert.GradOut.grad (ax m c) (ad m c) (ag m c) := by
  have h : (dats m 0 c).arrAt 2 (cfgs 0).N = fun j : S4x2x256x1024.Idx => if (j 1 : ℕ) / 1 = 0 then
      Cert.GradOut.grad (ax m c) (ad m c) (ag m c) j else V m c main_v0 j := by
    refine (dats m 0 c).arrAt_eq_of_coversWhere 2 _ (fun β => β (1 : Fin _) = 0) (by decide +kernel) (fun t hf y => ?_)
      (fun j => Iff.rfl)
    blk_simp
    have ht := (flush0_2 t).mp hf
    obtain ⟨r, k, rfl⟩ : ∃ (r : Fin 256) (k : Fin 1024), y = ix4 0 0 r k :=
      ⟨y 2, y 3, (eq_ix4 y).trans (congrArg₂ (fun a b => ix4 a b (y 2) (y 3)) (Subsingleton.elim _ _) (Subsingleton.elim _ _))⟩
    rw [after0_2, show (win0_2.blk t).view.emb (ix4 0 0 r k) = ix4 ⟨t.val / 16, by have := lt_of_lt_of_eq t.isLt N_0; omega⟩ 0 r k from by blk_ext [idx t]]
    exact out_apply m c t ht r k
  rw [h]
  entry_read
  funext j
  split
  · rfl
  · rename_i hj
    exact (if_neg (by simpa using hj)).symm

end Cert.Kernel47Ideal.GradOut

/-! ## The claims -/

namespace Cert.GradOut

open Idealize.ShloMosaic Idealize.ShloMosaic.TcCoe Idealize.SL.Sem

theorem kernel : Cert.quiescent_Kernel47 := fun m g _ => Cert.Kernel47.Gen.frame m g
theorem kernelIdeal : Cert.quiescent_Kernel47Ideal := fun m g _ => Cert.Kernel47Ideal.Gen.frame m g
theorem referenceIdeal : Cert.quiescent_Reference47Ideal := fun m g _ =>
  (θ_run Cert.Reference47Ideal.defs _ _).mono (fun r h => ⟨fun c => (h c).2, sem_eq_zero_of_no_sems (by decide) r.2⟩)
    (Cert.Reference47Ideal.Value.run (F := Ideal) m g)

theorem algebraic : Cert.algebraic_Kernel47Ideal_Reference47Ideal := fun m g m' g' hpre hag =>
  ⟨fun c => grad (Cert.Kernel47Ideal.GradOut.ax m c) (Cert.Kernel47Ideal.GradOut.ad m c) (Cert.Kernel47Ideal.GradOut.ag m c),
    (θ_run _ _ _).mono (fun _ h c => ⟨(h c).1.trans (Cert.Kernel47Ideal.GradOut.final m c), (h c).2⟩)
      (Cert.Kernel47Ideal.Value.run_blocks m g),
    (θ_run _ _ _).mono (fun _ h c => ⟨(h c).1.trans (by
        rw [(hag c).1, (hag c).2.1, (hag c).2.2]; exact Cert.Reference47Ideal.GradOut.value _ _ _), (h c).2⟩)
      (Cert.Reference47Ideal.Value.run (F := Ideal) m' g')⟩

end Cert.GradOut

end
-- ==== Proof.GradPleGate.lean ====
/- The gradient of the embedding's gate projection after the kernel's last block of rows, written into the first layer's half of the stacked gradient. -/
module

public import proofs.«01_k».proof.Defs
public import proofs.«01_k».proof.Proof.Gen.Kernel48.Frame
public import proofs.«01_k».proof.Proof.Gen.Kernel48Ideal.Value
public import proofs.«01_k».proof.Proof.Gen.Reference48Ideal.Run
import Idealize.ShloMosaic.Lib.Pointwise
import Idealize.ShloMosaic.Lib.Pipeline.ReadBack
public import Idealize.ShloMosaic.Lib.Pipeline.ValueKit

@[expose] public section

set_option maxRecDepth 16384

noncomputable section

namespace Cert.GradPleGate

open Idealize.ShloMosaic

/-- The rows' products of one input feature with one column of the incoming gradient. -/
def rowSum (x : (⟨2, ![16384, 1024]⟩ : Shape).Idx → EReal) (d : (⟨2, ![16384, 1024]⟩ : Shape).Idx → EReal) (a : Fin 4) (r : Fin 256) (k : Fin 1024) : EReal :=
  ∑ s : Fin 16384, x (ix2 s ⟨256 * a.val + r.val, by omega⟩) * d (ix2 s k)

/-- The stacked gradient of the two layers: the first layer's computed, the second's as it was. -/
def grad (x : (⟨2, ![16384, 1024]⟩ : Shape).Idx → EReal) (d : (⟨2, ![16384, 1024]⟩ : Shape).Idx → EReal) (g : (⟨4, ![4, 2, 256, 1024]⟩ : Shape).Idx → EReal)
    (j : (⟨4, ![4, 2, 256, 1024]⟩ : Shape).Idx) : EReal :=
  if (j 1 : ℕ) = 0 then rowSum x d (j 0) (j 2) (j 3) else g j

end Cert.GradPleGate

namespace Cert.Reference48Ideal.GradPleGate

open Cert.Reference48Ideal Cert.Reference48Ideal.Gen Idealize.ShloMosaic

theorem value (x : FVec Ideal S16384x1024 .f32) (d : FVec Ideal S16384x1024 .bf16) (g : FVec Ideal S4x2x256x1024 .bf16) :
    concatenate S4x2x256x1024 1 [⟨S4x1x256x1024, (broadcastInDim S4x1x256x1024 ![0, 2, 3] bcast_S4x256x1024_S4x1x256x1024_0_2_3
      (truncf .bf16 (shapeCast S4x256x1024 (transpose S1024x1024 [1, 0] (Host.dotGeneral
      dot_S16384x1024_S16384x1024_S1024x1024_0_0_1_1_n_n none (extf .f32 d bitsLt_bf16_f32) x)
      transposes_S1024x1024_S1024x1024_1_0) shapeCasts_S1024x1024_S4x256x1024) bitsLt_bf16_f32))⟩,
      ⟨S4x1x256x1024, (extractStridedSlice S4x1x256x1024 ![0, 1, 0, 0] g slices_S4x2x256x1024_S4x1x256x1024_0_1_0_0)⟩]
      concatenates_S4x1x256x1024_S4x1x256x1024_S4x2x256x1024_d1 = Cert.GradPleGate.grad x d g := by
  funext j
  obtain ⟨a, l, r, k, rfl⟩ : ∃ (a : Fin _) (l : Fin _) (r : Fin _) (k : Fin _), j = ix4 a l r k := ⟨_, _, _, _, eq_ix4 j⟩
  unfold Cert.GradPleGate.grad Cert.GradPleGate.rowSum
  pointwise
  by_cases hl : (l : ℕ) = 0
  · rw [dif_pos (by omega), if_pos hl]
    refine Finset.sum_congr rfl fun s _ => (mul_comm _ _).trans ?_
    refine congrArg₂ (· * ·) (congrArg x ?_) (congrArg d ?_)
    all_goals (congr 1 <;> refine Fin.ext ?_ <;> simp only <;> omega)
  · rw [dif_neg (by omega), if_neg hl]
    exact congrArg (fun l => g (ix4 a l r k)) (Fin.ext (by simp only; omega))

end Cert.Reference48Ideal.GradPleGate

namespace Cert.Kernel48Ideal.GradPleGate

open Cert.Kernel48Ideal Cert.Kernel48Ideal.Gen Idealize.ShloMosaic Idealize.ShloMosaic.TcCoe Idealize.SL.Sem
open Idealize.ShloMosaic.Pipeline (Dat)

variable (m : (l : Loc nD τ sig) → Buf (Elt Ideal) l) (c : Dev nD)

abbrev ax : FVec Ideal S16384x1024 .f32 := m ((c : Thread nD τ).loc main_arg0)
abbrev ad : FVec Ideal S16384x1024 .bf16 := m ((c : Thread nD τ).loc main_arg1)
abbrev ag : FVec Ideal S4x2x256x1024 .bf16 := m ((c : Thread nD τ).loc main_arg2)

theorem idx : ∀ t : Fin cfg0.N, win0_0.index t = ![t.val % 16, t.val / 16]
    ∧ win0_1.index t = ![t.val % 16, 0] ∧ win0_2.index t = ![t.val / 16, 0, 0, 0] :=
  (by decide +kernel : ∀ t : Fin grid0.N, _)

/-- One block of rows' product. -/
abbrev part (t : Fin cfg0.N) : FVec Ideal S256x1024 .f32 := k0_pay1 (iblk m c 0 t) (iblk m c 1 t)

theorem part_apply (t : Fin cfg0.N) (r : Fin 256) (k : Fin 1024) : part m c t (ix2 r k)
    = ∑ s : Fin 1024, ax m c (ix2 ⟨1024 * (t.val % 16) + s.val, by omega⟩ ⟨256 * (t.val / 16) + r.val, by have := lt_of_lt_of_eq t.isLt N_0; omega⟩)
        * ad m c (ix2 ⟨1024 * (t.val % 16) + s.val, by omega⟩ k) := by
  unfold part
  pointwise [k0_pay1]
  refine Finset.sum_congr rfl fun k _ => congrArg₂ (· * ·) ?_ ?_
  · blk_point [iblk, V, idx t]
  · blk_point [iblk, V, idx t]

theorem acc_A (t : Fin cfg0.N) (h : t.val % 16 = 0) (j : S256x1024.Idx) : (outsAt0 m c t.val t.isLt).2 j = part m c t j := by
  rw [outsAt0_A m c t h (by omega) (by omega)]; frame_out
  pointwise [k0_pay2]

theorem acc_B (t : Fin cfg0.N) (h : ¬t.val % 16 = 0) (j : S256x1024.Idx) : (outsAt0 m c t.val t.isLt).2 j
    = (outsAt0 m c (t.val - 1) (Nat.lt_of_le_of_lt (Nat.sub_le _ _) t.isLt)).2 j + part m c t j := by
  by_cases h7 : t.val % 16 = 15
  · rw [outsAt0_C m c t h (by omega) h7]; frame_out
    simp only [read_unread_whole]
    pointwise [k0_pay3]
  · rw [outsAt0_B m c t h (by omega) h7]; frame_out
    simp only [read_unread_whole]
    pointwise [k0_pay3]

theorem out_C (t : Fin cfg0.N) (h : t.val % 16 = 15) (r : Fin 256) (k : Fin 1024) :
    (outsAt0 m c t.val t.isLt).1 (ix4 0 0 r k) = (outsAt0 m c t.val t.isLt).2 (ix2 r k) := by
  rw [outsAt0_C m c t (by omega) (by omega) h]; frame_out
  pointwise [k0_pay4]

/-- The blocks of rows make up the gradient. -/
theorem sum_parts (t : Fin cfg0.N) (ht : t.val % 16 = 16 - 1) (r : Fin 256) (k : Fin 1024) :
    ∑ s : Fin 16, part m c ⟨16 * (t.val / 16) + s.val, Pipeline.run_point_lt_of_flush t ht s⟩ (ix2 r k)
      = Cert.GradPleGate.rowSum (ax m c) (ad m c) ⟨t.val / 16, by have := lt_of_lt_of_eq t.isLt N_0; omega⟩ r k := by
  unfold Cert.GradPleGate.rowSum
  rw [Fin.sum_univ_tiles 16 1024 rfl]
  refine Finset.sum_congr rfl fun s _ => ?_
  rw [part_apply]
  refine Finset.sum_congr rfl fun k _ => congrArg₂ (· * ·) (congrArg (ax m c) ?_) (congrArg (ad m c) ?_)
  all_goals (congr 1 <;> refine Fin.ext ?_ <;> simp only <;> omega)

/-- What the last block of rows writes back. -/
theorem out_apply (t : Fin cfg0.N) (ht : t.val % 16 = 16 - 1) (r : Fin 256) (k : Fin 1024) :
    (outsAt0 m c t.val t.isLt).1 (ix4 0 0 r k) = Cert.GradPleGate.rowSum (ax m c) (ad m c) ⟨t.val / 16, by have := lt_of_lt_of_eq t.isLt N_0; omega⟩ r k := by
  rw [out_C m c t ht, Pipeline.eq_sum_fin_of_reset_step_apply_of_flush (fun n h => (outsAt0 m c n h).2) 16 (fun _ => 0)
    (fun t => part m c t) (fun t h j => by rw [acc_A m c t h, zero_add]) (fun t h j => acc_B m c t h j) t ht _, zero_add]
  exact sum_parts m c t ht r k

theorem final : (dats m 0 c).arrAt 2 (cfgs 0).N = Cert.GradPleGate.grad (ax m c) (ad m c) (ag m c) := by
  have h : (dats m 0 c).arrAt 2 (cfgs 0).N = fun j : S4x2x256x1024.Idx => if (j 1 : ℕ) / 1 = 0 then
      Cert.GradPleGate.grad (ax m c) (ad m c) (ag m c) j else V m c main_v0 j := by
    refine (dats m 0 c).arrAt_eq_of_coversWhere 2 _ (fun β => β (1 : Fin _) = 0) (by decide +kernel) (fun t hf y => ?_)
      (fun j => Iff.rfl)
    blk_simp
    have ht := (flush0_2 t).mp hf
    obtain ⟨r, k, rfl⟩ : ∃ (r : Fin 256) (k : Fin 1024), y = ix4 0 0 r k :=
      ⟨y 2, y 3, (eq_ix4 y).trans (congrArg₂ (fun a b => ix4 a b (y 2) (y 3)) (Subsingleton.elim _ _) (Subsingleton.elim _ _))⟩
    rw [after0_2, show (win0_2.blk t).view.emb (ix4 0 0 r k) = ix4 ⟨t.val / 16, by have := lt_of_lt_of_eq t.isLt N_0; omega⟩ 0 r k from by blk_ext [idx t]]
    exact out_apply m c t ht r k
  rw [h]
  entry_read
  funext j
  split
  · rfl
  · rename_i hj
    exact (if_neg (by simpa using hj)).symm

end Cert.Kernel48Ideal.GradPleGate

/-! ## The claims -/

namespace Cert.GradPleGate

open Idealize.ShloMosaic Idealize.ShloMosaic.TcCoe Idealize.SL.Sem

theorem kernel : Cert.quiescent_Kernel48 := fun m g _ => Cert.Kernel48.Gen.frame m g
theorem kernelIdeal : Cert.quiescent_Kernel48Ideal := fun m g _ => Cert.Kernel48Ideal.Gen.frame m g
theorem referenceIdeal : Cert.quiescent_Reference48Ideal := fun m g _ =>
  (θ_run Cert.Reference48Ideal.defs _ _).mono (fun r h => ⟨fun c => (h c).2, sem_eq_zero_of_no_sems (by decide) r.2⟩)
    (Cert.Reference48Ideal.Value.run (F := Ideal) m g)

theorem algebraic : Cert.algebraic_Kernel48Ideal_Reference48Ideal := fun m g m' g' hpre hag =>
  ⟨fun c => grad (Cert.Kernel48Ideal.GradPleGate.ax m c) (Cert.Kernel48Ideal.GradPleGate.ad m c) (Cert.Kernel48Ideal.GradPleGate.ag m c),
    (θ_run _ _ _).mono (fun _ h c => ⟨(h c).1.trans (Cert.Kernel48Ideal.GradPleGate.final m c), (h c).2⟩)
      (Cert.Kernel48Ideal.Value.run_blocks m g),
    (θ_run _ _ _).mono (fun _ h c => ⟨(h c).1.trans (by
        rw [(hag c).1, (hag c).2.1, (hag c).2.2]; exact Cert.Reference48Ideal.GradPleGate.value _ _ _), (h c).2⟩)
      (Cert.Reference48Ideal.Value.run (F := Ideal) m' g')⟩

end Cert.GradPleGate

end
-- ==== Proof.GradB.lean ====
/- The gradient of the gating unit's output projection after the kernel's last block of rows, written into the first layer's half of the stacked gradient. -/
module

public import proofs.«01_k».proof.Defs
public import proofs.«01_k».proof.Proof.Gen.Kernel49.Frame
public import proofs.«01_k».proof.Proof.Gen.Kernel49Ideal.Value
public import proofs.«01_k».proof.Proof.Gen.Reference49Ideal.Run
import Idealize.ShloMosaic.Lib.Pointwise
import Idealize.ShloMosaic.Lib.Pipeline.ReadBack
public import Idealize.ShloMosaic.Lib.Pipeline.ValueKit

@[expose] public section

set_option maxRecDepth 16384

noncomputable section

namespace Cert.GradB

open Idealize.ShloMosaic

/-- The rows' products of one input feature with one column of the incoming gradient. -/
def rowSum (x : (⟨2, ![16384, 512]⟩ : Shape).Idx → EReal) (d : (⟨2, ![16384, 1024]⟩ : Shape).Idx → EReal) (a : Fin 4) (r : Fin 512) (k : Fin 256) : EReal :=
  ∑ s : Fin 16384, x (ix2 s r) * d (ix2 s ⟨256 * a.val + k.val, by omega⟩)

/-- The stacked gradient of the two layers: the first layer's computed, the second's as it was. -/
def grad (x : (⟨2, ![16384, 512]⟩ : Shape).Idx → EReal) (d : (⟨2, ![16384, 1024]⟩ : Shape).Idx → EReal) (g : (⟨4, ![4, 2, 512, 256]⟩ : Shape).Idx → EReal)
    (j : (⟨4, ![4, 2, 512, 256]⟩ : Shape).Idx) : EReal :=
  if (j 1 : ℕ) = 0 then rowSum x d (j 0) (j 2) (j 3) else g j

end Cert.GradB

namespace Cert.Reference49Ideal.GradB

open Cert.Reference49Ideal Cert.Reference49Ideal.Gen Idealize.ShloMosaic

theorem value (x : FVec Ideal S16384x512 .bf16) (d : FVec Ideal S16384x1024 .bf16) (g : FVec Ideal S4x2x512x256 .bf16) :
    concatenate S4x2x512x256 1 [⟨S4x1x512x256, (broadcastInDim S4x1x512x256 ![0, 2, 3] bcast_S4x512x256_S4x1x512x256_0_2_3
      (truncf .bf16 (transpose S4x512x256 [1, 0, 2] (shapeCast S512x4x256 (transpose S512x1024 [1, 0] (Host.dotGeneral
      dot_S16384x1024_S16384x512_S1024x512_0_0_1_1_n_n none (extf .f32 d bitsLt_bf16_f32) (extf .f32 x bitsLt_bf16_f32))
      transposes_S1024x512_S512x1024_1_0) shapeCasts_S512x1024_S512x4x256) transposes_S512x4x256_S4x512x256_1_0_2) bitsLt_bf16_f32))⟩,
      ⟨S4x1x512x256, (extractStridedSlice S4x1x512x256 ![0, 1, 0, 0] g slices_S4x2x512x256_S4x1x512x256_0_1_0_0)⟩]
      concatenates_S4x1x512x256_S4x1x512x256_S4x2x512x256_d1 = Cert.GradB.grad x d g := by
  funext j
  obtain ⟨a, l, r, k, rfl⟩ : ∃ (a : Fin _) (l : Fin _) (r : Fin _) (k : Fin _), j = ix4 a l r k := ⟨_, _, _, _, eq_ix4 j⟩
  unfold Cert.GradB.grad Cert.GradB.rowSum
  pointwise
  by_cases hl : (l : ℕ) = 0
  · rw [dif_pos (by omega), if_pos hl]
    refine Finset.sum_congr rfl fun s _ => (mul_comm _ _).trans ?_
    refine congrArg₂ (· * ·) (congrArg x ?_) (congrArg d ?_)
    all_goals (congr 1 <;> refine Fin.ext ?_ <;> simp only <;> omega)
  · rw [dif_neg (by omega), if_neg hl]
    exact congrArg (fun l => g (ix4 a l r k)) (Fin.ext (by simp only; omega))

end Cert.Reference49Ideal.GradB

namespace Cert.Kernel49Ideal.GradB

open Cert.Kernel49Ideal Cert.Kernel49Ideal.Gen Idealize.ShloMosaic Idealize.ShloMosaic.TcCoe Idealize.SL.Sem
open Idealize.ShloMosaic.Pipeline (Dat)

variable (m : (l : Loc nD τ sig) → Buf (Elt Ideal) l) (c : Dev nD)

abbrev ax : FVec Ideal S16384x512 .bf16 := m ((c : Thread nD τ).loc main_arg0)
abbrev ad : FVec Ideal S16384x1024 .bf16 := m ((c : Thread nD τ).loc main_arg1)
abbrev ag : FVec Ideal S4x2x512x256 .bf16 := m ((c : Thread nD τ).loc main_arg2)

theorem idx : ∀ t : Fin cfg0.N, win0_0.index t = ![t.val % 16, 0]
    ∧ win0_1.index t = ![t.val % 16, t.val / 16] ∧ win0_2.index t = ![t.val / 16, 0, 0, 0] :=
  (by decide +kernel : ∀ t : Fin grid0.N, _)

/-- One block of rows' product. -/
abbrev part (t : Fin cfg0.N) : FVec Ideal S512x256 .f32 := k0_pay1 (iblk m c 0 t) (iblk m c 1 t)

theorem part_apply (t : Fin cfg0.N) (r : Fin 512) (k : Fin 256) : part m c t (ix2 r k)
    = ∑ s : Fin 1024, ax m c (ix2 ⟨1024 * (t.val % 16) + s.val, by omega⟩ r)
        * ad m c (ix2 ⟨1024 * (t.val % 16) + s.val, by omega⟩ ⟨256 * (t.val / 16) + k.val, by have := lt_of_lt_of_eq t.isLt N_0; omega⟩) := by
  unfold part
  pointwise [k0_pay1]
  refine Finset.sum_congr rfl fun k _ => congrArg₂ (· * ·) ?_ ?_
  · blk_point [iblk, V, idx t]
  · blk_point [iblk, V, idx t]

theorem acc_A (t : Fin cfg0.N) (h : t.val % 16 = 0) (j : S512x256.Idx) : (outsAt0 m c t.val t.isLt).2 j = part m c t j := by
  rw [outsAt0_A m c t h (by omega) (by omega)]; frame_out
  pointwise [k0_pay2]

theorem acc_B (t : Fin cfg0.N) (h : ¬t.val % 16 = 0) (j : S512x256.Idx) : (outsAt0 m c t.val t.isLt).2 j
    = (outsAt0 m c (t.val - 1) (Nat.lt_of_le_of_lt (Nat.sub_le _ _) t.isLt)).2 j + part m c t j := by
  by_cases h7 : t.val % 16 = 15
  · rw [outsAt0_C m c t h (by omega) h7]; frame_out
    simp only [read_unread_whole]
    pointwise [k0_pay3]
  · rw [outsAt0_B m c t h (by omega) h7]; frame_out
    simp only [read_unread_whole]
    pointwise [k0_pay3]

theorem out_C (t : Fin cfg0.N) (h : t.val % 16 = 15) (r : Fin 512) (k : Fin 256) :
    (outsAt0 m c t.val t.isLt).1 (ix4 0 0 r k) = (outsAt0 m c t.val t.isLt).2 (ix2 r k) := by
  rw [outsAt0_C m c t (by omega) (by omega) h]; frame_out
  pointwise [k0_pay4]

/-- The blocks of rows make up the gradient. -/
theorem sum_parts (t : Fin cfg0.N) (ht : t.val % 16 = 16 - 1) (r : Fin 512) (k : Fin 256) :
    ∑ s : Fin 16, part m c ⟨16 * (t.val / 16) + s.val, Pipeline.run_point_lt_of_flush t ht s⟩ (ix2 r k)
      = Cert.GradB.rowSum (ax m c) (ad m c) ⟨t.val / 16, by have := lt_of_lt_of_eq t.isLt N_0; omega⟩ r k := by
  unfold Cert.GradB.rowSum
  rw [Fin.sum_univ_tiles 16 1024 rfl]
  refine Finset.sum_congr rfl fun s _ => ?_
  rw [part_apply]
  refine Finset.sum_congr rfl fun k _ => congrArg₂ (· * ·) (congrArg (ax m c) ?_) (congrArg (ad m c) ?_)
  all_goals (congr 1 <;> refine Fin.ext ?_ <;> simp only <;> omega)

/-- What the last block of rows writes back. -/
theorem out_apply (t : Fin cfg0.N) (ht : t.val % 16 = 16 - 1) (r : Fin 512) (k : Fin 256) :
    (outsAt0 m c t.val t.isLt).1 (ix4 0 0 r k) = Cert.GradB.rowSum (ax m c) (ad m c) ⟨t.val / 16, by have := lt_of_lt_of_eq t.isLt N_0; omega⟩ r k := by
  rw [out_C m c t ht, Pipeline.eq_sum_fin_of_reset_step_apply_of_flush (fun n h => (outsAt0 m c n h).2) 16 (fun _ => 0)
    (fun t => part m c t) (fun t h j => by rw [acc_A m c t h, zero_add]) (fun t h j => acc_B m c t h j) t ht _, zero_add]
  exact sum_parts m c t ht r k

theorem final : (dats m 0 c).arrAt 2 (cfgs 0).N = Cert.GradB.grad (ax m c) (ad m c) (ag m c) := by
  have h : (dats m 0 c).arrAt 2 (cfgs 0).N = fun j : S4x2x512x256.Idx => if (j 1 : ℕ) / 1 = 0 then
      Cert.GradB.grad (ax m c) (ad m c) (ag m c) j else V m c main_v0 j := by
    refine (dats m 0 c).arrAt_eq_of_coversWhere 2 _ (fun β => β (1 : Fin _) = 0) (by decide +kernel) (fun t hf y => ?_)
      (fun j => Iff.rfl)
    blk_simp
    have ht := (flush0_2 t).mp hf
    obtain ⟨r, k, rfl⟩ : ∃ (r : Fin 512) (k : Fin 256), y = ix4 0 0 r k :=
      ⟨y 2, y 3, (eq_ix4 y).trans (congrArg₂ (fun a b => ix4 a b (y 2) (y 3)) (Subsingleton.elim _ _) (Subsingleton.elim _ _))⟩
    rw [after0_2, show (win0_2.blk t).view.emb (ix4 0 0 r k) = ix4 ⟨t.val / 16, by have := lt_of_lt_of_eq t.isLt N_0; omega⟩ 0 r k from by blk_ext [idx t]]
    exact out_apply m c t ht r k
  rw [h]
  entry_read
  funext j
  split
  · rfl
  · rename_i hj
    exact (if_neg (by simpa using hj)).symm

end Cert.Kernel49Ideal.GradB

/-! ## The claims -/

namespace Cert.GradB

open Idealize.ShloMosaic Idealize.ShloMosaic.TcCoe Idealize.SL.Sem

theorem kernel : Cert.quiescent_Kernel49 := fun m g _ => Cert.Kernel49.Gen.frame m g
theorem kernelIdeal : Cert.quiescent_Kernel49Ideal := fun m g _ => Cert.Kernel49Ideal.Gen.frame m g
theorem referenceIdeal : Cert.quiescent_Reference49Ideal := fun m g _ =>
  (θ_run Cert.Reference49Ideal.defs _ _).mono (fun r h => ⟨fun c => (h c).2, sem_eq_zero_of_no_sems (by decide) r.2⟩)
    (Cert.Reference49Ideal.Value.run (F := Ideal) m g)

theorem algebraic : Cert.algebraic_Kernel49Ideal_Reference49Ideal := fun m g m' g' hpre hag =>
  ⟨fun c => grad (Cert.Kernel49Ideal.GradB.ax m c) (Cert.Kernel49Ideal.GradB.ad m c) (Cert.Kernel49Ideal.GradB.ag m c),
    (θ_run _ _ _).mono (fun _ h c => ⟨(h c).1.trans (Cert.Kernel49Ideal.GradB.final m c), (h c).2⟩)
      (Cert.Kernel49Ideal.Value.run_blocks m g),
    (θ_run _ _ _).mono (fun _ h c => ⟨(h c).1.trans (by
        rw [(hag c).1, (hag c).2.1, (hag c).2.2]; exact Cert.Reference49Ideal.GradB.value _ _ _), (h c).2⟩)
      (Cert.Reference49Ideal.Value.run (F := Ideal) m' g')⟩

end Cert.GradB

end
-- ==== Proof.GradPle.lean ====
/- The gradient of the embedding's projection after the kernel's last block of rows, written into the first layer's half of the stacked gradient. -/
module

public import proofs.«01_k».proof.Defs
public import proofs.«01_k».proof.Proof.Gen.Kernel50.Frame
public import proofs.«01_k».proof.Proof.Gen.Kernel50Ideal.Value
public import proofs.«01_k».proof.Proof.Gen.Reference50Ideal.Run
import Idealize.ShloMosaic.Lib.Pointwise
import Idealize.ShloMosaic.Lib.Pipeline.ReadBack
public import Idealize.ShloMosaic.Lib.Pipeline.ValueKit

@[expose] public section

set_option maxRecDepth 16384

noncomputable section

namespace Cert.GradPle

open Idealize.ShloMosaic

/-- The rows' products of one input feature with one column of the incoming gradient. -/
def rowSum (x : (⟨2, ![16384, 256]⟩ : Shape).Idx → EReal) (d : (⟨2, ![16384, 1024]⟩ : Shape).Idx → EReal) (a : Fin 4) (r : Fin 256) (k : Fin 256) : EReal :=
  ∑ s : Fin 16384, x (ix2 s r) * d (ix2 s ⟨256 * a.val + k.val, by omega⟩)

/-- The stacked gradient of the two layers: the first layer's computed, the second's as it was. -/
def grad (x : (⟨2, ![16384, 256]⟩ : Shape).Idx → EReal) (d : (⟨2, ![16384, 1024]⟩ : Shape).Idx → EReal) (g : (⟨4, ![4, 2, 256, 256]⟩ : Shape).Idx → EReal)
    (j : (⟨4, ![4, 2, 256, 256]⟩ : Shape).Idx) : EReal :=
  if (j 1 : ℕ) = 0 then rowSum x d (j 0) (j 2) (j 3) else g j

end Cert.GradPle

namespace Cert.Reference50Ideal.GradPle

open Cert.Reference50Ideal Cert.Reference50Ideal.Gen Idealize.ShloMosaic

theorem value (x : FVec Ideal S16384x256 .f32) (d : FVec Ideal S16384x1024 .bf16) (g : FVec Ideal S4x2x256x256 .bf16) :
    concatenate S4x2x256x256 1 [⟨S4x1x256x256, (broadcastInDim S4x1x256x256 ![0, 2, 3] bcast_S4x256x256_S4x1x256x256_0_2_3
      (truncf .bf16 (transpose S4x256x256 [1, 0, 2] (shapeCast S256x4x256 (transpose S256x1024 [1, 0] (Host.dotGeneral
      dot_S16384x1024_S16384x256_S1024x256_0_0_1_1_n_n none (extf .f32 d bitsLt_bf16_f32) x) transposes_S1024x256_S256x1024_1_0)
      shapeCasts_S256x1024_S256x4x256) transposes_S256x4x256_S4x256x256_1_0_2) bitsLt_bf16_f32))⟩,
      ⟨S4x1x256x256, (extractStridedSlice S4x1x256x256 ![0, 1, 0, 0] g slices_S4x2x256x256_S4x1x256x256_0_1_0_0)⟩]
      concatenates_S4x1x256x256_S4x1x256x256_S4x2x256x256_d1 = Cert.GradPle.grad x d g := by
  funext j
  obtain ⟨a, l, r, k, rfl⟩ : ∃ (a : Fin _) (l : Fin _) (r : Fin _) (k : Fin _), j = ix4 a l r k := ⟨_, _, _, _, eq_ix4 j⟩
  unfold Cert.GradPle.grad Cert.GradPle.rowSum
  pointwise
  by_cases hl : (l : ℕ) = 0
  · rw [dif_pos (by omega), if_pos hl]
    refine Finset.sum_congr rfl fun s _ => (mul_comm _ _).trans ?_
    refine congrArg₂ (· * ·) (congrArg x ?_) (congrArg d ?_)
    all_goals (congr 1 <;> refine Fin.ext ?_ <;> simp only <;> omega)
  · rw [dif_neg (by omega), if_neg hl]
    exact congrArg (fun l => g (ix4 a l r k)) (Fin.ext (by simp only; omega))

end Cert.Reference50Ideal.GradPle

namespace Cert.Kernel50Ideal.GradPle

open Cert.Kernel50Ideal Cert.Kernel50Ideal.Gen Idealize.ShloMosaic Idealize.ShloMosaic.TcCoe Idealize.SL.Sem
open Idealize.ShloMosaic.Pipeline (Dat)

variable (m : (l : Loc nD τ sig) → Buf (Elt Ideal) l) (c : Dev nD)

abbrev ax : FVec Ideal S16384x256 .f32 := m ((c : Thread nD τ).loc main_arg0)
abbrev ad : FVec Ideal S16384x1024 .bf16 := m ((c : Thread nD τ).loc main_arg1)
abbrev ag : FVec Ideal S4x2x256x256 .bf16 := m ((c : Thread nD τ).loc main_arg2)

theorem idx : ∀ t : Fin cfg0.N, win0_0.index t = ![t.val % 16, 0]
    ∧ win0_1.index t = ![t.val % 16, t.val / 16] ∧ win0_2.index t = ![t.val / 16, 0, 0, 0] :=
  (by decide +kernel : ∀ t : Fin grid0.N, _)

/-- One block of rows' product. -/
abbrev part (t : Fin cfg0.N) : FVec Ideal S256x256 .f32 := k0_pay1 (iblk m c 0 t) (iblk m c 1 t)

theorem part_apply (t : Fin cfg0.N) (r : Fin 256) (k : Fin 256) : part m c t (ix2 r k)
    = ∑ s : Fin 1024, ax m c (ix2 ⟨1024 * (t.val % 16) + s.val, by omega⟩ r)
        * ad m c (ix2 ⟨1024 * (t.val % 16) + s.val, by omega⟩ ⟨256 * (t.val / 16) + k.val, by have := lt_of_lt_of_eq t.isLt N_0; omega⟩) := by
  unfold part
  pointwise [k0_pay1]
  refine Finset.sum_congr rfl fun k _ => congrArg₂ (· * ·) ?_ ?_
  · blk_point [iblk, V, idx t]
  · blk_point [iblk, V, idx t]

theorem acc_A (t : Fin cfg0.N) (h : t.val % 16 = 0) (j : S256x256.Idx) : (outsAt0 m c t.val t.isLt).2 j = part m c t j := by
  rw [outsAt0_A m c t h (by omega) (by omega)]; frame_out
  pointwise [k0_pay2]

theorem acc_B (t : Fin cfg0.N) (h : ¬t.val % 16 = 0) (j : S256x256.Idx) : (outsAt0 m c t.val t.isLt).2 j
    = (outsAt0 m c (t.val - 1) (Nat.lt_of_le_of_lt (Nat.sub_le _ _) t.isLt)).2 j + part m c t j := by
  by_cases h7 : t.val % 16 = 15
  · rw [outsAt0_C m c t h (by omega) h7]; frame_out
    simp only [read_unread_whole]
    pointwise [k0_pay3]
  · rw [outsAt0_B m c t h (by omega) h7]; frame_out
    simp only [read_unread_whole]
    pointwise [k0_pay3]

theorem out_C (t : Fin cfg0.N) (h : t.val % 16 = 15) (r : Fin 256) (k : Fin 256) :
    (outsAt0 m c t.val t.isLt).1 (ix4 0 0 r k) = (outsAt0 m c t.val t.isLt).2 (ix2 r k) := by
  rw [outsAt0_C m c t (by omega) (by omega) h]; frame_out
  pointwise [k0_pay4]

/-- The blocks of rows make up the gradient. -/
theorem sum_parts (t : Fin cfg0.N) (ht : t.val % 16 = 16 - 1) (r : Fin 256) (k : Fin 256) :
    ∑ s : Fin 16, part m c ⟨16 * (t.val / 16) + s.val, Pipeline.run_point_lt_of_flush t ht s⟩ (ix2 r k)
      = Cert.GradPle.rowSum (ax m c) (ad m c) ⟨t.val / 16, by have := lt_of_lt_of_eq t.isLt N_0; omega⟩ r k := by
  unfold Cert.GradPle.rowSum
  rw [Fin.sum_univ_tiles 16 1024 rfl]
  refine Finset.sum_congr rfl fun s _ => ?_
  rw [part_apply]
  refine Finset.sum_congr rfl fun k _ => congrArg₂ (· * ·) (congrArg (ax m c) ?_) (congrArg (ad m c) ?_)
  all_goals (congr 1 <;> refine Fin.ext ?_ <;> simp only <;> omega)

/-- What the last block of rows writes back. -/
theorem out_apply (t : Fin cfg0.N) (ht : t.val % 16 = 16 - 1) (r : Fin 256) (k : Fin 256) :
    (outsAt0 m c t.val t.isLt).1 (ix4 0 0 r k) = Cert.GradPle.rowSum (ax m c) (ad m c) ⟨t.val / 16, by have := lt_of_lt_of_eq t.isLt N_0; omega⟩ r k := by
  rw [out_C m c t ht, Pipeline.eq_sum_fin_of_reset_step_apply_of_flush (fun n h => (outsAt0 m c n h).2) 16 (fun _ => 0)
    (fun t => part m c t) (fun t h j => by rw [acc_A m c t h, zero_add]) (fun t h j => acc_B m c t h j) t ht _, zero_add]
  exact sum_parts m c t ht r k

theorem final : (dats m 0 c).arrAt 2 (cfgs 0).N = Cert.GradPle.grad (ax m c) (ad m c) (ag m c) := by
  have h : (dats m 0 c).arrAt 2 (cfgs 0).N = fun j : S4x2x256x256.Idx => if (j 1 : ℕ) / 1 = 0 then
      Cert.GradPle.grad (ax m c) (ad m c) (ag m c) j else V m c main_v0 j := by
    refine (dats m 0 c).arrAt_eq_of_coversWhere 2 _ (fun β => β (1 : Fin _) = 0) (by decide +kernel) (fun t hf y => ?_)
      (fun j => Iff.rfl)
    blk_simp
    have ht := (flush0_2 t).mp hf
    obtain ⟨r, k, rfl⟩ : ∃ (r : Fin 256) (k : Fin 256), y = ix4 0 0 r k :=
      ⟨y 2, y 3, (eq_ix4 y).trans (congrArg₂ (fun a b => ix4 a b (y 2) (y 3)) (Subsingleton.elim _ _) (Subsingleton.elim _ _))⟩
    rw [after0_2, show (win0_2.blk t).view.emb (ix4 0 0 r k) = ix4 ⟨t.val / 16, by have := lt_of_lt_of_eq t.isLt N_0; omega⟩ 0 r k from by blk_ext [idx t]]
    exact out_apply m c t ht r k
  rw [h]
  entry_read
  funext j
  split
  · rfl
  · rename_i hj
    exact (if_neg (by simpa using hj)).symm

end Cert.Kernel50Ideal.GradPle

/-! ## The claims -/

namespace Cert.GradPle

open Idealize.ShloMosaic Idealize.ShloMosaic.TcCoe Idealize.SL.Sem

theorem kernel : Cert.quiescent_Kernel50 := fun m g _ => Cert.Kernel50.Gen.frame m g
theorem kernelIdeal : Cert.quiescent_Kernel50Ideal := fun m g _ => Cert.Kernel50Ideal.Gen.frame m g
theorem referenceIdeal : Cert.quiescent_Reference50Ideal := fun m g _ =>
  (θ_run Cert.Reference50Ideal.defs _ _).mono (fun r h => ⟨fun c => (h c).2, sem_eq_zero_of_no_sems (by decide) r.2⟩)
    (Cert.Reference50Ideal.Value.run (F := Ideal) m g)

theorem algebraic : Cert.algebraic_Kernel50Ideal_Reference50Ideal := fun m g m' g' hpre hag =>
  ⟨fun c => grad (Cert.Kernel50Ideal.GradPle.ax m c) (Cert.Kernel50Ideal.GradPle.ad m c) (Cert.Kernel50Ideal.GradPle.ag m c),
    (θ_run _ _ _).mono (fun _ h c => ⟨(h c).1.trans (Cert.Kernel50Ideal.GradPle.final m c), (h c).2⟩)
      (Cert.Kernel50Ideal.Value.run_blocks m g),
    (θ_run _ _ _).mono (fun _ h c => ⟨(h c).1.trans (by
        rw [(hag c).1, (hag c).2.1, (hag c).2.2]; exact Cert.Reference50Ideal.GradPle.value _ _ _), (h c).2⟩)
      (Cert.Reference50Ideal.Value.run (F := Ideal) m' g')⟩

end Cert.GradPle

end
-- ==== Proof.PlaceG.lean ====
/- One array's columns of the shared gradient, written in blocks of rows: the fifth 1024 columns, the others as they were. -/
module

public import proofs.«01_k».proof.Defs
public import proofs.«01_k».proof.Proof.Gen.Kernel51.Frame
public import proofs.«01_k».proof.Proof.Gen.Kernel51Ideal.Value
public import proofs.«01_k».proof.Proof.Gen.Reference51Ideal.Run
import Idealize.ShloMosaic.Lib.Pointwise
import Idealize.ShloMosaic.Lib.Pipeline.ReadBack
public import Idealize.ShloMosaic.Lib.Pipeline.ValueKit

@[expose] public section

set_option maxRecDepth 16384

noncomputable section

namespace Cert.PlaceG

open Idealize.ShloMosaic

/-- The shared gradient with the fifth 1024 columns replaced. -/
def placed (x : (⟨2, ![16384, 1024]⟩ : Shape).Idx → EReal) (z : (⟨2, ![16384, 8192]⟩ : Shape).Idx → EReal)
    (j : (⟨2, ![16384, 8192]⟩ : Shape).Idx) : EReal :=
  if (j 1 : ℕ) / 1024 = 4 then x (ix2 (j 0) ⟨(j 1 : ℕ) % 1024, by omega⟩) else z j

end Cert.PlaceG

namespace Cert.Reference51Ideal.PlaceG

open Cert.Reference51Ideal Cert.Reference51Ideal.Gen Idealize.ShloMosaic

theorem value (x : FVec Ideal S16384x1024 .bf16) (z : FVec Ideal S16384x8192 .bf16) :
    concatenate S16384x8192 1 [⟨S16384x4096, (extractStridedSlice S16384x4096 ![0, 0] z slices_S16384x8192_S16384x4096_0_0)⟩, ⟨S16384x1024, x⟩,
      ⟨S16384x3072, (extractStridedSlice S16384x3072 ![0, 5120] z slices_S16384x8192_S16384x3072_0_5120)⟩]
      concatenates_S16384x4096_S16384x1024_S16384x3072_S16384x8192_d1 = Cert.PlaceG.placed x z := by
  funext j
  obtain ⟨n, q, rfl⟩ : ∃ (n : Fin 16384) (q : Fin 8192), j = ix2 n q := ⟨_, _, eq_ix2 j⟩
  unfold Cert.PlaceG.placed
  pointwise
  by_cases h : (q : ℕ) / 1024 = 4
  · rw [dif_neg (by omega), dif_pos (by omega), if_pos h]
    exact congrArg (fun q => x (ix2 n q)) (Fin.ext (by simp only; omega))
  · rw [if_neg h]
    split
    · rfl
    · rw [dif_neg (by omega)]
      exact congrArg (fun q => z (ix2 n q)) (Fin.ext (by simp only; omega))

end Cert.Reference51Ideal.PlaceG

namespace Cert.Kernel51Ideal.PlaceG

open Cert.Kernel51Ideal Cert.Kernel51Ideal.Gen Idealize.ShloMosaic Idealize.ShloMosaic.TcCoe Idealize.SL.Sem
open Idealize.ShloMosaic.Pipeline (Dat)

variable (m : (l : Loc nD τ sig) → Buf (Elt Ideal) l) (c : Dev nD)

abbrev ax : FVec Ideal S16384x1024 .bf16 := m ((c : Thread nD τ).loc main_arg0)
abbrev az : FVec Ideal S16384x8192 .bf16 := m ((c : Thread nD τ).loc main_arg1)

theorem idx : ∀ t : Fin cfg0.N, win0_0.index t = ![t.val, 0] ∧ win0_1.index t = ![t.val, 4] :=
  (by decide +kernel : ∀ t : Fin grid0.N, _)

/-- A block of rows is copied. -/
theorem out_apply (t : Fin cfg0.N) (r k : Fin 1024) : outsAt0 m c t (ix2 r k)
    = ax m c (ix2 ⟨1024 * t.val + r.val, by have := lt_of_lt_of_eq t.isLt N_0; omega⟩ k) := by
  have h : outsAt0 m c t (ix2 r k) = iblk m c 0 t (ix2 r k) := by
    unfold outsAt0; frame_out
  refine h.trans ?_
  blk_point [iblk, V, idx t]

theorem final : (dats m 0 c).arrAt 1 (cfgs 0).N = Cert.PlaceG.placed (ax m c) (az m c) := by
  have h : (dats m 0 c).arrAt 1 (cfgs 0).N = fun j : S16384x8192.Idx => if (j 1 : ℕ) / 1024 = 4 then
      Cert.PlaceG.placed (ax m c) (az m c) j else V m c main_v0 j := by
    refine (dats m 0 c).arrAt_eq_of_coversWhere 1 _ (fun β => β (1 : Fin _) = 4) (by decide +kernel) (fun t hf y => ?_)
      (fun j => Iff.rfl)
    blk_simp
    obtain ⟨r, k, rfl⟩ : ∃ (r : Fin 1024) (k : Fin 1024), y = ix2 r k := ⟨_, _, eq_ix2 y⟩
    rw [after0_1, show (win0_1.blk t).view.emb (ix2 r k) = ix2 ⟨1024 * t.val + r.val, by have := lt_of_lt_of_eq t.isLt N_0; omega⟩ ⟨4096 + k.val, by omega⟩ from by blk_ext [idx t]]
    refine (out_apply m c t r k).trans ?_
    refine Eq.symm ((if_pos (show (4096 + k.val) / 1024 = 4 by omega)).trans ?_)
    exact congrArg (fun q => ax m c (ix2 _ q)) (Fin.ext (show (4096 + k.val) % 1024 = k.val by omega))
  rw [h]
  entry_read
  funext j
  split
  · rfl
  · rename_i hj
    exact (if_neg hj).symm

end Cert.Kernel51Ideal.PlaceG

/-! ## The claims -/

namespace Cert.PlaceG

open Idealize.ShloMosaic Idealize.ShloMosaic.TcCoe Idealize.SL.Sem

theorem kernel : Cert.quiescent_Kernel51 := fun m g _ => Cert.Kernel51.Gen.frame m g
theorem kernelIdeal : Cert.quiescent_Kernel51Ideal := fun m g _ => Cert.Kernel51Ideal.Gen.frame m g
theorem referenceIdeal : Cert.quiescent_Reference51Ideal := fun m g _ =>
  (θ_run Cert.Reference51Ideal.defs _ _).mono (fun r h => ⟨fun c => (h c).2, sem_eq_zero_of_no_sems (by decide) r.2⟩)
    (Cert.Reference51Ideal.Value.run (F := Ideal) m g)

theorem algebraic : Cert.algebraic_Kernel51Ideal_Reference51Ideal := fun m g m' g' hpre hag =>
  ⟨fun c => placed (Cert.Kernel51Ideal.PlaceG.ax m c) (Cert.Kernel51Ideal.PlaceG.az m c),
    (θ_run _ _ _).mono (fun _ h c => ⟨(h c).1.trans (Cert.Kernel51Ideal.PlaceG.final m c), (h c).2⟩)
      (Cert.Kernel51Ideal.Value.run_blocks m g),
    (θ_run _ _ _).mono (fun _ h c => ⟨(h c).1.trans (by
        rw [(hag c).1, (hag c).2]; exact Cert.Reference51Ideal.PlaceG.value _ _), (h c).2⟩)
      (Cert.Reference51Ideal.Value.run (F := Ideal) m' g')⟩

end Cert.PlaceG

end
-- ==== Proof.PlaceQ.lean ====
/- One array's columns of the shared gradient, written in blocks of rows: the first 1024 columns, the others as they were. -/
module

public import proofs.«01_k».proof.Defs
public import proofs.«01_k».proof.Proof.Gen.Kernel52.Frame
public import proofs.«01_k».proof.Proof.Gen.Kernel52Ideal.Value
public import proofs.«01_k».proof.Proof.Gen.Reference52Ideal.Run
import Idealize.ShloMosaic.Lib.Pointwise
import Idealize.ShloMosaic.Lib.Pipeline.ReadBack
public import Idealize.ShloMosaic.Lib.Pipeline.ValueKit

@[expose] public section

set_option maxRecDepth 16384

noncomputable section

namespace Cert.PlaceQ

open Idealize.ShloMosaic

/-- The shared gradient with the first 1024 columns replaced. -/
def placed (x : (⟨2, ![16384, 1024]⟩ : Shape).Idx → EReal) (z : (⟨2, ![16384, 8192]⟩ : Shape).Idx → EReal)
    (j : (⟨2, ![16384, 8192]⟩ : Shape).Idx) : EReal :=
  if (j 1 : ℕ) / 1024 = 0 then x (ix2 (j 0) ⟨(j 1 : ℕ) % 1024, by omega⟩) else z j

end Cert.PlaceQ

namespace Cert.Reference52Ideal.PlaceQ

open Cert.Reference52Ideal Cert.Reference52Ideal.Gen Idealize.ShloMosaic

theorem value (x : FVec Ideal S16384x1024 .bf16) (z : FVec Ideal S16384x8192 .bf16) :
    concatenate S16384x8192 1 [⟨S16384x1024, x⟩, ⟨S16384x7168, (extractStridedSlice S16384x7168 ![0, 1024] z slices_S16384x8192_S16384x7168_0_1024)⟩]
      concatenates_S16384x1024_S16384x7168_S16384x8192_d1 = Cert.PlaceQ.placed x z := by
  funext j
  obtain ⟨n, q, rfl⟩ : ∃ (n : Fin 16384) (q : Fin 8192), j = ix2 n q := ⟨_, _, eq_ix2 j⟩
  unfold Cert.PlaceQ.placed
  pointwise
  by_cases h : (q : ℕ) / 1024 = 0
  · rw [dif_pos (by omega), if_pos h]
    exact congrArg (fun q => x (ix2 n q)) (Fin.ext (by simp only; omega))
  · rw [dif_neg (by omega), if_neg h]
    exact congrArg (fun q => z (ix2 n q)) (Fin.ext (by simp only; omega))

end Cert.Reference52Ideal.PlaceQ

namespace Cert.Kernel52Ideal.PlaceQ

open Cert.Kernel52Ideal Cert.Kernel52Ideal.Gen Idealize.ShloMosaic Idealize.ShloMosaic.TcCoe Idealize.SL.Sem
open Idealize.ShloMosaic.Pipeline (Dat)

variable (m : (l : Loc nD τ sig) → Buf (Elt Ideal) l) (c : Dev nD)

abbrev ax : FVec Ideal S16384x1024 .bf16 := m ((c : Thread nD τ).loc main_arg0)
abbrev az : FVec Ideal S16384x8192 .bf16 := m ((c : Thread nD τ).loc main_arg1)

theorem idx : ∀ t : Fin cfg0.N, win0_0.index t = ![t.val, 0] ∧ win0_1.index t = ![t.val, 0] :=
  (by decide +kernel : ∀ t : Fin grid0.N, _)

/-- A block of rows is copied. -/
theorem out_apply (t : Fin cfg0.N) (r k : Fin 1024) : outsAt0 m c t (ix2 r k)
    = ax m c (ix2 ⟨1024 * t.val + r.val, by have := lt_of_lt_of_eq t.isLt N_0; omega⟩ k) := by
  have h : outsAt0 m c t (ix2 r k) = iblk m c 0 t (ix2 r k) := by
    unfold outsAt0; frame_out
  refine h.trans ?_
  blk_point [iblk, V, idx t]

theorem final : (dats m 0 c).arrAt 1 (cfgs 0).N = Cert.PlaceQ.placed (ax m c) (az m c) := by
  have h : (dats m 0 c).arrAt 1 (cfgs 0).N = fun j : S16384x8192.Idx => if (j 1 : ℕ) / 1024 = 0 then
      Cert.PlaceQ.placed (ax m c) (az m c) j else V m c main_v0 j := by
    refine (dats m 0 c).arrAt_eq_of_coversWhere 1 _ (fun β => β (1 : Fin _) = 0) (by decide +kernel) (fun t hf y => ?_)
      (fun j => Iff.rfl)
    blk_simp
    obtain ⟨r, k, rfl⟩ : ∃ (r : Fin 1024) (k : Fin 1024), y = ix2 r k := ⟨_, _, eq_ix2 y⟩
    rw [after0_1, show (win0_1.blk t).view.emb (ix2 r k) = ix2 ⟨1024 * t.val + r.val, by have := lt_of_lt_of_eq t.isLt N_0; omega⟩ ⟨0 + k.val, by omega⟩ from by blk_ext [idx t]]
    refine (out_apply m c t r k).trans ?_
    refine Eq.symm ((if_pos (show (0 + k.val) / 1024 = 0 by omega)).trans ?_)
    exact congrArg (fun q => ax m c (ix2 _ q)) (Fin.ext (show (0 + k.val) % 1024 = k.val by omega))
  rw [h]
  entry_read
  funext j
  split
  · rfl
  · rename_i hj
    exact (if_neg hj).symm

end Cert.Kernel52Ideal.PlaceQ

/-! ## The claims -/

namespace Cert.PlaceQ

open Idealize.ShloMosaic Idealize.ShloMosaic.TcCoe Idealize.SL.Sem

theorem kernel : Cert.quiescent_Kernel52 := fun m g _ => Cert.Kernel52.Gen.frame m g
theorem kernelIdeal : Cert.quiescent_Kernel52Ideal := fun m g _ => Cert.Kernel52Ideal.Gen.frame m g
theorem referenceIdeal : Cert.quiescent_Reference52Ideal := fun m g _ =>
  (θ_run Cert.Reference52Ideal.defs _ _).mono (fun r h => ⟨fun c => (h c).2, sem_eq_zero_of_no_sems (by decide) r.2⟩)
    (Cert.Reference52Ideal.Value.run (F := Ideal) m g)

theorem algebraic : Cert.algebraic_Kernel52Ideal_Reference52Ideal := fun m g m' g' hpre hag =>
  ⟨fun c => placed (Cert.Kernel52Ideal.PlaceQ.ax m c) (Cert.Kernel52Ideal.PlaceQ.az m c),
    (θ_run _ _ _).mono (fun _ h c => ⟨(h c).1.trans (Cert.Kernel52Ideal.PlaceQ.final m c), (h c).2⟩)
      (Cert.Kernel52Ideal.Value.run_blocks m g),
    (θ_run _ _ _).mono (fun _ h c => ⟨(h c).1.trans (by
        rw [(hag c).1, (hag c).2]; exact Cert.Reference52Ideal.PlaceQ.value _ _), (h c).2⟩)
      (Cert.Reference52Ideal.Value.run (F := Ideal) m' g')⟩

end Cert.PlaceQ

end
-- ==== Proof.PlaceI.lean ====
/- One array's columns of the shared gradient, written in blocks of rows: the fourth 1024 columns, the others as they were. -/
module

public import proofs.«01_k».proof.Defs
public import proofs.«01_k».proof.Proof.Gen.Kernel53.Frame
public import proofs.«01_k».proof.Proof.Gen.Kernel53Ideal.Value
public import proofs.«01_k».proof.Proof.Gen.Reference53Ideal.Run
import Idealize.ShloMosaic.Lib.Pointwise
import Idealize.ShloMosaic.Lib.Pipeline.ReadBack
public import Idealize.ShloMosaic.Lib.Pipeline.ValueKit

@[expose] public section

set_option maxRecDepth 16384

noncomputable section

namespace Cert.PlaceI

open Idealize.ShloMosaic

/-- The shared gradient with the fourth 1024 columns replaced. -/
def placed (x : (⟨2, ![16384, 1024]⟩ : Shape).Idx → EReal) (z : (⟨2, ![16384, 8192]⟩ : Shape).Idx → EReal)
    (j : (⟨2, ![16384, 8192]⟩ : Shape).Idx) : EReal :=
  if (j 1 : ℕ) / 1024 = 3 then x (ix2 (j 0) ⟨(j 1 : ℕ) % 1024, by omega⟩) else z j

end Cert.PlaceI

namespace Cert.Reference53Ideal.PlaceI

open Cert.Reference53Ideal Cert.Reference53Ideal.Gen Idealize.ShloMosaic

theorem value (x : FVec Ideal S16384x1024 .bf16) (z : FVec Ideal S16384x8192 .bf16) :
    concatenate S16384x8192 1 [⟨S16384x3072, (extractStridedSlice S16384x3072 ![0, 0] z slices_S16384x8192_S16384x3072_0_0)⟩, ⟨S16384x1024, x⟩,
      ⟨S16384x4096, (extractStridedSlice S16384x4096 ![0, 4096] z slices_S16384x8192_S16384x4096_0_4096)⟩]
      concatenates_S16384x3072_S16384x1024_S16384x4096_S16384x8192_d1 = Cert.PlaceI.placed x z := by
  funext j
  obtain ⟨n, q, rfl⟩ : ∃ (n : Fin 16384) (q : Fin 8192), j = ix2 n q := ⟨_, _, eq_ix2 j⟩
  unfold Cert.PlaceI.placed
  pointwise
  by_cases h : (q : ℕ) / 1024 = 3
  · rw [dif_neg (by omega), dif_pos (by omega), if_pos h]
    exact congrArg (fun q => x (ix2 n q)) (Fin.ext (by simp only; omega))
  · rw [if_neg h]
    split
    · rfl
    · rw [dif_neg (by omega)]
      exact congrArg (fun q => z (ix2 n q)) (Fin.ext (by simp only; omega))

end Cert.Reference53Ideal.PlaceI

namespace Cert.Kernel53Ideal.PlaceI

open Cert.Kernel53Ideal Cert.Kernel53Ideal.Gen Idealize.ShloMosaic Idealize.ShloMosaic.TcCoe Idealize.SL.Sem
open Idealize.ShloMosaic.Pipeline (Dat)

variable (m : (l : Loc nD τ sig) → Buf (Elt Ideal) l) (c : Dev nD)

abbrev ax : FVec Ideal S16384x1024 .bf16 := m ((c : Thread nD τ).loc main_arg0)
abbrev az : FVec Ideal S16384x8192 .bf16 := m ((c : Thread nD τ).loc main_arg1)

theorem idx : ∀ t : Fin cfg0.N, win0_0.index t = ![t.val, 0] ∧ win0_1.index t = ![t.val, 3] :=
  (by decide +kernel : ∀ t : Fin grid0.N, _)

/-- A block of rows is copied. -/
theorem out_apply (t : Fin cfg0.N) (r k : Fin 1024) : outsAt0 m c t (ix2 r k)
    = ax m c (ix2 ⟨1024 * t.val + r.val, by have := lt_of_lt_of_eq t.isLt N_0; omega⟩ k) := by
  have h : outsAt0 m c t (ix2 r k) = iblk m c 0 t (ix2 r k) := by
    unfold outsAt0; frame_out
  refine h.trans ?_
  blk_point [iblk, V, idx t]

theorem final : (dats m 0 c).arrAt 1 (cfgs 0).N = Cert.PlaceI.placed (ax m c) (az m c) := by
  have h : (dats m 0 c).arrAt 1 (cfgs 0).N = fun j : S16384x8192.Idx => if (j 1 : ℕ) / 1024 = 3 then
      Cert.PlaceI.placed (ax m c) (az m c) j else V m c main_v0 j := by
    refine (dats m 0 c).arrAt_eq_of_coversWhere 1 _ (fun β => β (1 : Fin _) = 3) (by decide +kernel) (fun t hf y => ?_)
      (fun j => Iff.rfl)
    blk_simp
    obtain ⟨r, k, rfl⟩ : ∃ (r : Fin 1024) (k : Fin 1024), y = ix2 r k := ⟨_, _, eq_ix2 y⟩
    rw [after0_1, show (win0_1.blk t).view.emb (ix2 r k) = ix2 ⟨1024 * t.val + r.val, by have := lt_of_lt_of_eq t.isLt N_0; omega⟩ ⟨3072 + k.val, by omega⟩ from by blk_ext [idx t]]
    refine (out_apply m c t r k).trans ?_
    refine Eq.symm ((if_pos (show (3072 + k.val) / 1024 = 3 by omega)).trans ?_)
    exact congrArg (fun q => ax m c (ix2 _ q)) (Fin.ext (show (3072 + k.val) % 1024 = k.val by omega))
  rw [h]
  entry_read
  funext j
  split
  · rfl
  · rename_i hj
    exact (if_neg hj).symm

end Cert.Kernel53Ideal.PlaceI

/-! ## The claims -/

namespace Cert.PlaceI

open Idealize.ShloMosaic Idealize.ShloMosaic.TcCoe Idealize.SL.Sem

theorem kernel : Cert.quiescent_Kernel53 := fun m g _ => Cert.Kernel53.Gen.frame m g
theorem kernelIdeal : Cert.quiescent_Kernel53Ideal := fun m g _ => Cert.Kernel53Ideal.Gen.frame m g
theorem referenceIdeal : Cert.quiescent_Reference53Ideal := fun m g _ =>
  (θ_run Cert.Reference53Ideal.defs _ _).mono (fun r h => ⟨fun c => (h c).2, sem_eq_zero_of_no_sems (by decide) r.2⟩)
    (Cert.Reference53Ideal.Value.run (F := Ideal) m g)

theorem algebraic : Cert.algebraic_Kernel53Ideal_Reference53Ideal := fun m g m' g' hpre hag =>
  ⟨fun c => placed (Cert.Kernel53Ideal.PlaceI.ax m c) (Cert.Kernel53Ideal.PlaceI.az m c),
    (θ_run _ _ _).mono (fun _ h c => ⟨(h c).1.trans (Cert.Kernel53Ideal.PlaceI.final m c), (h c).2⟩)
      (Cert.Kernel53Ideal.Value.run_blocks m g),
    (θ_run _ _ _).mono (fun _ h c => ⟨(h c).1.trans (by
        rw [(hag c).1, (hag c).2]; exact Cert.Reference53Ideal.PlaceI.value _ _), (h c).2⟩)
      (Cert.Reference53Ideal.Value.run (F := Ideal) m' g')⟩

end Cert.PlaceI

end
-- ==== Proof.lean ====
/- The claims of this problem, put together from the modules that prove them call by call. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Pre_finite2
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.SguClaim
public import proofs.«01_k».proof.Proof.SwigluBwd
public import proofs.«01_k».proof.Proof.GateUpT
public import proofs.«01_k».proof.Proof.ProjInT
public import proofs.«01_k».proof.Proof.GradIn
public import proofs.«01_k».proof.Proof.GradDown
public import proofs.«01_k».proof.Proof.GradGate
public import proofs.«01_k».proof.Proof.ProjIn
public import proofs.«01_k».proof.Proof.GateUp
public import proofs.«01_k».proof.Proof.Down
public import proofs.«01_k».proof.Proof.GradIn1
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Pre_finite15
public import proofs.«01_k».proof.Proof.Gen.Pre_finite16
public import proofs.«01_k».proof.Proof.Gen.Pre_finite17
public import proofs.«01_k».proof.Proof.GradDown1
public import proofs.«01_k».proof.Proof.GradGate1
public import proofs.«01_k».proof.Proof.MergeBwd1
public import proofs.«01_k».proof.Proof.NormPreBwd
public import proofs.«01_k».proof.Proof.NormPostBwd
public import proofs.«01_k».proof.Proof.NormPairBwd
public import proofs.«01_k».proof.Proof.PleBwd
public import proofs.«01_k».proof.Proof.PleGateT1
public import proofs.«01_k».proof.Proof.ProjAT1
public import proofs.«01_k».proof.Proof.ProjBT1
public import proofs.«01_k».proof.Proof.GradOut1
public import proofs.«01_k».proof.Proof.GradPleGate1
public import proofs.«01_k».proof.Proof.GradB1
public import proofs.«01_k».proof.Proof.GradPle1
public import proofs.«01_k».proof.Proof.Merge1
public import proofs.«01_k».proof.Proof.PleGate1
public import proofs.«01_k».proof.Proof.ProjA1
public import proofs.«01_k».proof.Proof.ProjB1
public import proofs.«01_k».proof.Proof.ProjPle1
public import proofs.«01_k».proof.Proof.NormMid
public import proofs.«01_k».proof.Proof.NormPre
public import proofs.«01_k».proof.Proof.NormPost
public import proofs.«01_k».proof.Proof.Loss
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Reference35Ideal
public import proofs.«01_k».proof.Proof.Gen.Reference35Ideal.Run
public import proofs.«01_k».proof.Proof.Gen.Kernel36
public import proofs.«01_k».proof.Proof.Gen.Kernel36.Skeleton
public import proofs.«01_k».proof.Proof.Gen.Kernel36.Launch
public import proofs.«01_k».proof.Proof.Gen.Kernel36.Points
public import proofs.«01_k».proof.Proof.Gen.Kernel36.Frame
public import proofs.«01_k».proof.Proof.Gen.Kernel36Ideal
public import proofs.«01_k».proof.Proof.Gen.Kernel36Ideal.Skeleton
public import proofs.«01_k».proof.Proof.Gen.Kernel36Ideal.Launch
public import proofs.«01_k».proof.Proof.Gen.Kernel36Ideal.Points
public import proofs.«01_k».proof.Proof.Gen.Kernel36Ideal.Frame
public import proofs.«01_k».proof.Proof.Gen.Reference36Ideal
public import proofs.«01_k».proof.Proof.Gen.Reference36Ideal.Run
public import proofs.«01_k».proof.Proof.Gen.Kernel37
public import proofs.«01_k».proof.Proof.Gen.Kernel37.Skeleton
public import proofs.«01_k».proof.Proof.Gen.Kernel37.Launch
public import proofs.«01_k».proof.Proof.Gen.Kernel37.Points
public import proofs.«01_k».proof.Proof.Gen.Kernel37.Frame
public import proofs.«01_k».proof.Proof.Gen.Kernel37Ideal
public import proofs.«01_k».proof.Proof.Gen.Kernel37Ideal.Skeleton
public import proofs.«01_k».proof.Proof.Gen.Kernel37Ideal.Launch
public import proofs.«01_k».proof.Proof.Gen.Kernel37Ideal.Points
public import proofs.«01_k».proof.Proof.Gen.Kernel37Ideal.Frame
public import proofs.«01_k».proof.Proof.Gen.Reference37Ideal
public import proofs.«01_k».proof.Proof.Gen.Reference37Ideal.Run
public import proofs.«01_k».proof.Proof.Gen.Kernel38
public import proofs.«01_k».proof.Proof.Gen.Kernel38.Skeleton
public import proofs.«01_k».proof.Proof.Gen.Kernel38.Launch
public import proofs.«01_k».proof.Proof.Gen.Kernel38.Points
public import proofs.«01_k».proof.Proof.Gen.Kernel38.Frame
public import proofs.«01_k».proof.Proof.Gen.Kernel38Ideal
public import proofs.«01_k».proof.Proof.Gen.Kernel38Ideal.Skeleton
public import proofs.«01_k».proof.Proof.Gen.Kernel38Ideal.Launch
public import proofs.«01_k».proof.Proof.Gen.Kernel38Ideal.Points
public import proofs.«01_k».proof.Proof.Gen.Kernel38Ideal.Frame
public import proofs.«01_k».proof.Proof.Gen.Reference38Ideal
public import proofs.«01_k».proof.Proof.Gen.Reference38Ideal.Run
public import proofs.«01_k».proof.Proof.Gen.Kernel39
public import proofs.«01_k».proof.Proof.Gen.Kernel39.Skeleton
public import proofs.«01_k».proof.Proof.Gen.Kernel39.Launch
public import proofs.«01_k».proof.Proof.Gen.Kernel39.Points
public import proofs.«01_k».proof.Proof.Gen.Kernel39.Frame
public import proofs.«01_k».proof.Proof.Gen.Kernel39Ideal
public import proofs.«01_k».proof.Proof.Gen.Kernel39Ideal.Skeleton
public import proofs.«01_k».proof.Proof.Gen.Kernel39Ideal.Launch
public import proofs.«01_k».proof.Proof.Gen.Kernel39Ideal.Points
public import proofs.«01_k».proof.Proof.Gen.Kernel39Ideal.Frame
public import proofs.«01_k».proof.Proof.Gen.Reference39Ideal
public import proofs.«01_k».proof.Proof.Gen.Reference39Ideal.Run
public import proofs.«01_k».proof.Proof.Gen.Kernel40
public import proofs.«01_k».proof.Proof.Gen.Kernel40.Skeleton
public import proofs.«01_k».proof.Proof.Gen.Kernel40.Launch
public import proofs.«01_k».proof.Proof.Gen.Kernel40.Points
public import proofs.«01_k».proof.Proof.Gen.Kernel40.Frame
public import proofs.«01_k».proof.Proof.Gen.Kernel40Ideal
public import proofs.«01_k».proof.Proof.Gen.Kernel40Ideal.Skeleton
public import proofs.«01_k».proof.Proof.Gen.Kernel40Ideal.Launch
public import proofs.«01_k».proof.Proof.Gen.Kernel40Ideal.Points
public import proofs.«01_k».proof.Proof.Gen.Kernel40Ideal.Frame
public import proofs.«01_k».proof.Proof.Gen.Reference40Ideal
public import proofs.«01_k».proof.Proof.Gen.Reference40Ideal.Run
public import proofs.«01_k».proof.Proof.Gen.Kernel41
public import proofs.«01_k».proof.Proof.Gen.Kernel41.Skeleton
public import proofs.«01_k».proof.Proof.Gen.Kernel41.Launch
public import proofs.«01_k».proof.Proof.Gen.Kernel41.Points
public import proofs.«01_k».proof.Proof.Gen.Kernel41.Frame
public import proofs.«01_k».proof.Proof.Gen.Kernel41Ideal
public import proofs.«01_k».proof.Proof.Gen.Kernel41Ideal.Skeleton
public import proofs.«01_k».proof.Proof.Gen.Kernel41Ideal.Launch
public import proofs.«01_k».proof.Proof.Gen.Kernel41Ideal.Points
public import proofs.«01_k».proof.Proof.Gen.Kernel41Ideal.Frame
public import proofs.«01_k».proof.Proof.Gen.Kernel41Ideal.Value
public import proofs.«01_k».proof.Proof.Gen.Reference41Ideal
public import proofs.«01_k».proof.Proof.Gen.Reference41Ideal.Run
public import proofs.«01_k».proof.Proof.Gen.Kernel42
public import proofs.«01_k».proof.Proof.Gen.Kernel42.Skeleton
public import proofs.«01_k».proof.Proof.Gen.Kernel42.Launch
public import proofs.«01_k».proof.Proof.Gen.Kernel42.Points
public import proofs.«01_k».proof.Proof.Gen.Kernel42.Frame
public import proofs.«01_k».proof.Proof.Gen.Kernel42Ideal
public import proofs.«01_k».proof.Proof.Gen.Kernel42Ideal.Skeleton
public import proofs.«01_k».proof.Proof.Gen.Kernel42Ideal.Launch
public import proofs.«01_k».proof.Proof.Gen.Kernel42Ideal.Points
public import proofs.«01_k».proof.Proof.Gen.Kernel42Ideal.Frame
public import proofs.«01_k».proof.Proof.Gen.Reference42Ideal
public import proofs.«01_k».proof.Proof.Gen.Reference42Ideal.Run
public import proofs.«01_k».proof.Proof.Gen.Kernel43
public import proofs.«01_k».proof.Proof.Gen.Kernel43.Skeleton
public import proofs.«01_k».proof.Proof.Gen.Kernel43.Launch
public import proofs.«01_k».proof.Proof.Gen.Kernel43.Points
public import proofs.«01_k».proof.Proof.Gen.Kernel43.Frame
public import proofs.«01_k».proof.Proof.Gen.Kernel43Ideal
public import proofs.«01_k».proof.Proof.Gen.Kernel43Ideal.Skeleton
public import proofs.«01_k».proof.Proof.Gen.Kernel43Ideal.Launch
public import proofs.«01_k».proof.Proof.Gen.Kernel43Ideal.Points
public import proofs.«01_k».proof.Proof.Gen.Kernel43Ideal.Frame
public import proofs.«01_k».proof.Proof.Gen.Kernel43Ideal.Value
public import proofs.«01_k».proof.Proof.Gen.Reference43Ideal
public import proofs.«01_k».proof.Proof.Gen.Reference43Ideal.Run
public import proofs.«01_k».proof.Proof.Gen.Kernel44
public import proofs.«01_k».proof.Proof.Gen.Kernel44.Skeleton
public import proofs.«01_k».proof.Proof.Gen.Kernel44.Launch
public import proofs.«01_k».proof.Proof.Gen.Kernel44.Points
public import proofs.«01_k».proof.Proof.Gen.Kernel44.Frame
public import proofs.«01_k».proof.Proof.Gen.Kernel44Ideal
public import proofs.«01_k».proof.Proof.Gen.Kernel44Ideal.Skeleton
public import proofs.«01_k».proof.Proof.Gen.Kernel44Ideal.Launch
public import proofs.«01_k».proof.Proof.Gen.Kernel44Ideal.Points
public import proofs.«01_k».proof.Proof.Gen.Kernel44Ideal.Frame
public import proofs.«01_k».proof.Proof.Gen.Kernel44Ideal.Value
public import proofs.«01_k».proof.Proof.Gen.Reference44Ideal
public import proofs.«01_k».proof.Proof.Gen.Reference44Ideal.Run
public import proofs.«01_k».proof.Proof.Gen.Pre_finite44
public import proofs.«01_k».proof.Proof.AdamIn
public import proofs.«01_k».proof.Proof.AdamA
public import proofs.«01_k».proof.Proof.AdamB
public import proofs.«01_k».proof.Proof.AdamGate
public import proofs.«01_k».proof.Proof.AdamDown
public import proofs.«01_k».proof.Proof.AdamPle
public import proofs.«01_k».proof.Proof.AdamSmall
public import proofs.«01_k».proof.Proof.SguFwd
public import proofs.«01_k».proof.Proof.LowerBounds
public import proofs.«01_k».proof.Proof.LowerBoundsBwd
public import proofs.«01_k».proof.Proof.Gen.Kernel45
public import proofs.«01_k».proof.Proof.Gen.Kernel45.Skeleton
public import proofs.«01_k».proof.Proof.Gen.Kernel45.Launch
public import proofs.«01_k».proof.Proof.Gen.Kernel45.Points
public import proofs.«01_k».proof.Proof.Gen.Kernel45.Frame
public import proofs.«01_k».proof.Proof.Gen.Kernel45Ideal
public import proofs.«01_k».proof.Proof.Gen.Kernel45Ideal.Skeleton
public import proofs.«01_k».proof.Proof.Gen.Kernel45Ideal.Launch
public import proofs.«01_k».proof.Proof.Gen.Kernel45Ideal.Points
public import proofs.«01_k».proof.Proof.Gen.Kernel45Ideal.Frame
public import proofs.«01_k».proof.Proof.Gen.Reference45Ideal
public import proofs.«01_k».proof.Proof.Gen.Reference45Ideal.Run
public import proofs.«01_k».proof.Proof.Gen.Kernel46
public import proofs.«01_k».proof.Proof.Gen.Kernel46.Skeleton
public import proofs.«01_k».proof.Proof.Gen.Kernel46.Launch
public import proofs.«01_k».proof.Proof.Gen.Kernel46.Points
public import proofs.«01_k».proof.Proof.Gen.Kernel46.Frame
public import proofs.«01_k».proof.Proof.Gen.Kernel46Ideal
public import proofs.«01_k».proof.Proof.Gen.Kernel46Ideal.Skeleton
public import proofs.«01_k».proof.Proof.Gen.Kernel46Ideal.Launch
public import proofs.«01_k».proof.Proof.Gen.Kernel46Ideal.Points
public import proofs.«01_k».proof.Proof.Gen.Kernel46Ideal.Frame
public import proofs.«01_k».proof.Proof.Gen.Reference46Ideal
public import proofs.«01_k».proof.Proof.Gen.Reference46Ideal.Run
public import proofs.«01_k».proof.Proof.Gen.Kernel47
public import proofs.«01_k».proof.Proof.Gen.Kernel47.Skeleton
public import proofs.«01_k».proof.Proof.Gen.Kernel47.Launch
public import proofs.«01_k».proof.Proof.Gen.Kernel47.Points
public import proofs.«01_k».proof.Proof.Gen.Kernel47.Frame
public import proofs.«01_k».proof.Proof.Gen.Kernel47Ideal
public import proofs.«01_k».proof.Proof.Gen.Kernel47Ideal.Skeleton
public import proofs.«01_k».proof.Proof.Gen.Kernel47Ideal.Launch
public import proofs.«01_k».proof.Proof.Gen.Kernel47Ideal.Points
public import proofs.«01_k».proof.Proof.Gen.Kernel47Ideal.Frame
public import proofs.«01_k».proof.Proof.Gen.Kernel47Ideal.Value
public import proofs.«01_k».proof.Proof.Gen.Reference47Ideal
public import proofs.«01_k».proof.Proof.Gen.Reference47Ideal.Run
public import proofs.«01_k».proof.Proof.Gen.Kernel48
public import proofs.«01_k».proof.Proof.Gen.Kernel48.Skeleton
public import proofs.«01_k».proof.Proof.Gen.Kernel48.Launch
public import proofs.«01_k».proof.Proof.Gen.Kernel48.Points
public import proofs.«01_k».proof.Proof.Gen.Kernel48.Frame
public import proofs.«01_k».proof.Proof.Gen.Kernel48Ideal
public import proofs.«01_k».proof.Proof.Gen.Kernel48Ideal.Skeleton
public import proofs.«01_k».proof.Proof.Gen.Kernel48Ideal.Launch
public import proofs.«01_k».proof.Proof.Gen.Kernel48Ideal.Points
public import proofs.«01_k».proof.Proof.Gen.Kernel48Ideal.Frame
public import proofs.«01_k».proof.Proof.Gen.Kernel48Ideal.Value
public import proofs.«01_k».proof.Proof.Gen.Reference48Ideal
public import proofs.«01_k».proof.Proof.Gen.Reference48Ideal.Run
public import proofs.«01_k».proof.Proof.Gen.Kernel49
public import proofs.«01_k».proof.Proof.Gen.Kernel49.Skeleton
public import proofs.«01_k».proof.Proof.Gen.Kernel49.Launch
public import proofs.«01_k».proof.Proof.Gen.Kernel49.Points
public import proofs.«01_k».proof.Proof.Gen.Kernel49.Frame
public import proofs.«01_k».proof.Proof.Gen.Kernel49Ideal
public import proofs.«01_k».proof.Proof.Gen.Kernel49Ideal.Skeleton
public import proofs.«01_k».proof.Proof.Gen.Kernel49Ideal.Launch
public import proofs.«01_k».proof.Proof.Gen.Kernel49Ideal.Points
public import proofs.«01_k».proof.Proof.Gen.Kernel49Ideal.Frame
public import proofs.«01_k».proof.Proof.Gen.Kernel49Ideal.Value
public import proofs.«01_k».proof.Proof.Gen.Reference49Ideal
public import proofs.«01_k».proof.Proof.Gen.Reference49Ideal.Run
public import proofs.«01_k».proof.Proof.Gen.Kernel50
public import proofs.«01_k».proof.Proof.Gen.Kernel50.Skeleton
public import proofs.«01_k».proof.Proof.Gen.Kernel50.Launch
public import proofs.«01_k».proof.Proof.Gen.Kernel50.Points
public import proofs.«01_k».proof.Proof.Gen.Kernel50.Frame
public import proofs.«01_k».proof.Proof.Gen.Kernel50Ideal
public import proofs.«01_k».proof.Proof.Gen.Kernel50Ideal.Skeleton
public import proofs.«01_k».proof.Proof.Gen.Kernel50Ideal.Launch
public import proofs.«01_k».proof.Proof.Gen.Kernel50Ideal.Points
public import proofs.«01_k».proof.Proof.Gen.Kernel50Ideal.Frame
public import proofs.«01_k».proof.Proof.Gen.Kernel50Ideal.Value
public import proofs.«01_k».proof.Proof.Gen.Reference50Ideal
public import proofs.«01_k».proof.Proof.Gen.Reference50Ideal.Run
public import proofs.«01_k».proof.Proof.Gen.Kernel51
public import proofs.«01_k».proof.Proof.Gen.Kernel51.Skeleton
public import proofs.«01_k».proof.Proof.Gen.Kernel51.Launch
public import proofs.«01_k».proof.Proof.Gen.Kernel51.Points
public import proofs.«01_k».proof.Proof.Gen.Kernel51.Frame
public import proofs.«01_k».proof.Proof.Gen.Kernel51Ideal
public import proofs.«01_k».proof.Proof.Gen.Kernel51Ideal.Skeleton
public import proofs.«01_k».proof.Proof.Gen.Kernel51Ideal.Launch
public import proofs.«01_k».proof.Proof.Gen.Kernel51Ideal.Points
public import proofs.«01_k».proof.Proof.Gen.Kernel51Ideal.Frame
public import proofs.«01_k».proof.Proof.Gen.Kernel51Ideal.Value
public import proofs.«01_k».proof.Proof.Gen.Reference51Ideal
public import proofs.«01_k».proof.Proof.Gen.Reference51Ideal.Run
public import proofs.«01_k».proof.Proof.Gen.Kernel52
public import proofs.«01_k».proof.Proof.Gen.Kernel52.Skeleton
public import proofs.«01_k».proof.Proof.Gen.Kernel52.Launch
public import proofs.«01_k».proof.Proof.Gen.Kernel52.Points
public import proofs.«01_k».proof.Proof.Gen.Kernel52.Frame
public import proofs.«01_k».proof.Proof.Gen.Kernel52Ideal
public import proofs.«01_k».proof.Proof.Gen.Kernel52Ideal.Skeleton
public import proofs.«01_k».proof.Proof.Gen.Kernel52Ideal.Launch
public import proofs.«01_k».proof.Proof.Gen.Kernel52Ideal.Points
public import proofs.«01_k».proof.Proof.Gen.Kernel52Ideal.Frame
public import proofs.«01_k».proof.Proof.Gen.Kernel52Ideal.Value
public import proofs.«01_k».proof.Proof.Gen.Reference52Ideal
public import proofs.«01_k».proof.Proof.Gen.Reference52Ideal.Run
public import proofs.«01_k».proof.Proof.Gen.Kernel53
public import proofs.«01_k».proof.Proof.Gen.Kernel53.Skeleton
public import proofs.«01_k».proof.Proof.Gen.Kernel53.Launch
public import proofs.«01_k».proof.Proof.Gen.Kernel53.Points
public import proofs.«01_k».proof.Proof.Gen.Kernel53.Frame
public import proofs.«01_k».proof.Proof.Gen.Kernel53Ideal
public import proofs.«01_k».proof.Proof.Gen.Kernel53Ideal.Skeleton
public import proofs.«01_k».proof.Proof.Gen.Kernel53Ideal.Launch
public import proofs.«01_k».proof.Proof.Gen.Kernel53Ideal.Points
public import proofs.«01_k».proof.Proof.Gen.Kernel53Ideal.Frame
public import proofs.«01_k».proof.Proof.Gen.Kernel53Ideal.Value
public import proofs.«01_k».proof.Proof.Gen.Reference53Ideal
public import proofs.«01_k».proof.Proof.Gen.Reference53Ideal.Run
public import proofs.«01_k».proof.Proof.GradA1
public import proofs.«01_k».proof.Proof.GradUp1
public import proofs.«01_k».proof.Proof.GradOut
public import proofs.«01_k».proof.Proof.GradPleGate
public import proofs.«01_k».proof.Proof.GradB
public import proofs.«01_k».proof.Proof.GradPle
public import proofs.«01_k».proof.Proof.PlaceG
public import proofs.«01_k».proof.Proof.PlaceQ
public import proofs.«01_k».proof.Proof.PlaceI
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts, Cert.Kernel11Ideal.Gen.facts,
  Cert.Reference11Ideal.Gen.facts, Cert.Kernel12.Gen.facts, Cert.Kernel12Ideal.Gen.facts, Cert.Reference12Ideal.Gen.facts,
  Cert.Kernel13.Gen.facts, Cert.Kernel13Ideal.Gen.facts, Cert.Reference13Ideal.Gen.facts, Cert.Kernel14.Gen.facts,
  Cert.Kernel14Ideal.Gen.facts, Cert.Reference14Ideal.Gen.facts, Cert.Kernel15.Gen.facts, Cert.Kernel15Ideal.Gen.facts,
  Cert.Reference15Ideal.Gen.facts, Cert.Kernel16.Gen.facts, Cert.Kernel16Ideal.Gen.facts, Cert.Reference16Ideal.Gen.facts,
  Cert.Kernel17.Gen.facts, Cert.Kernel17Ideal.Gen.facts, Cert.Reference17Ideal.Gen.facts, Cert.Kernel18.Gen.facts,
  Cert.Kernel18Ideal.Gen.facts, Cert.Reference18Ideal.Gen.facts, Cert.Kernel19.Gen.facts, Cert.Kernel19Ideal.Gen.facts,
  Cert.Reference19Ideal.Gen.facts, Cert.Kernel20.Gen.facts, Cert.Kernel20Ideal.Gen.facts, Cert.Reference20Ideal.Gen.facts,
  Cert.Kernel21.Gen.facts, Cert.Kernel21Ideal.Gen.facts, Cert.Reference21Ideal.Gen.facts, Cert.Kernel22.Gen.facts,
  Cert.Kernel22Ideal.Gen.facts, Cert.Reference22Ideal.Gen.facts, Cert.Kernel23.Gen.facts, Cert.Kernel23Ideal.Gen.facts,
  Cert.Reference23Ideal.Gen.facts, Cert.Kernel24.Gen.facts, Cert.Kernel24Ideal.Gen.facts, Cert.Reference24Ideal.Gen.facts,
  Cert.Kernel25.Gen.facts, Cert.Kernel25Ideal.Gen.facts, Cert.Reference25Ideal.Gen.facts, Cert.Kernel26.Gen.facts,
  Cert.Kernel26Ideal.Gen.facts, Cert.Reference26Ideal.Gen.facts, Cert.Kernel27.Gen.facts, Cert.Kernel27Ideal.Gen.facts,
  Cert.Reference27Ideal.Gen.facts, Cert.Kernel28.Gen.facts, Cert.Kernel28Ideal.Gen.facts, Cert.Reference28Ideal.Gen.facts,
  Cert.Kernel29.Gen.facts, Cert.Kernel29Ideal.Gen.facts, Cert.Reference29Ideal.Gen.facts, Cert.Kernel30.Gen.facts,
  Cert.Kernel30Ideal.Gen.facts, Cert.Reference30Ideal.Gen.facts, Cert.Kernel31.Gen.facts, Cert.Kernel31Ideal.Gen.facts,
  Cert.Reference31Ideal.Gen.facts, Cert.Kernel32.Gen.facts, Cert.Kernel32Ideal.Gen.facts, Cert.Reference32Ideal.Gen.facts,
  Cert.Kernel33.Gen.facts, Cert.Kernel33Ideal.Gen.facts, Cert.Reference33Ideal.Gen.facts, Cert.Kernel34.Gen.facts,
  Cert.Kernel34Ideal.Gen.facts, Cert.Reference34Ideal.Gen.facts, Cert.Kernel35.Gen.facts, Cert.Kernel35Ideal.Gen.facts,
  Cert.Reference35Ideal.Gen.facts, Cert.Kernel36.Gen.facts, Cert.Kernel36Ideal.Gen.facts, Cert.Reference36Ideal.Gen.facts,
  Cert.Kernel37.Gen.facts, Cert.Kernel37Ideal.Gen.facts, Cert.Reference37Ideal.Gen.facts, Cert.Kernel38.Gen.facts,
  Cert.Kernel38Ideal.Gen.facts, Cert.Reference38Ideal.Gen.facts, Cert.Kernel39.Gen.facts, Cert.Kernel39Ideal.Gen.facts,
  Cert.Reference39Ideal.Gen.facts, Cert.Kernel40.Gen.facts, Cert.Kernel40Ideal.Gen.facts, Cert.Reference40Ideal.Gen.facts,
  Cert.Kernel41.Gen.facts, Cert.Kernel41Ideal.Gen.facts, Cert.Reference41Ideal.Gen.facts, Cert.Kernel42.Gen.facts,
  Cert.Kernel42Ideal.Gen.facts, Cert.Reference42Ideal.Gen.facts, Cert.Kernel43.Gen.facts, Cert.Kernel43Ideal.Gen.facts,
  Cert.Reference43Ideal.Gen.facts, Cert.Kernel44.Gen.facts, Cert.Kernel44Ideal.Gen.facts, Cert.Reference44Ideal.Gen.facts,
  Cert.Kernel45.Gen.facts, Cert.Kernel45Ideal.Gen.facts, Cert.Reference45Ideal.Gen.facts, Cert.Kernel46.Gen.facts,
  Cert.Kernel46Ideal.Gen.facts, Cert.Reference46Ideal.Gen.facts, Cert.Kernel47.Gen.facts, Cert.Kernel47Ideal.Gen.facts,
  Cert.Reference47Ideal.Gen.facts, Cert.Kernel48.Gen.facts, Cert.Kernel48Ideal.Gen.facts, Cert.Reference48Ideal.Gen.facts,
  Cert.Kernel49.Gen.facts, Cert.Kernel49Ideal.Gen.facts, Cert.Reference49Ideal.Gen.facts, Cert.Kernel50.Gen.facts,
  Cert.Kernel50Ideal.Gen.facts, Cert.Reference50Ideal.Gen.facts, Cert.Kernel51.Gen.facts, Cert.Kernel51Ideal.Gen.facts,
  Cert.Reference51Ideal.Gen.facts, Cert.Kernel52.Gen.facts, Cert.Kernel52Ideal.Gen.facts, Cert.Reference52Ideal.Gen.facts,
  Cert.Kernel53.Gen.facts, Cert.Kernel53Ideal.Gen.facts, Cert.Reference53Ideal.Gen.facts, Cert.Pre_finite.Gen.facts,
  Cert.Pre_finite2.Gen.facts, Cert.Pre_finite15.Gen.facts, Cert.Pre_finite16.Gen.facts, Cert.Pre_finite17.Gen.facts,
  Cert.Pre_finite44.Gen.facts,
  Cert.SguClaim.kernel, Cert.SguClaim.kernelIdeal, Cert.SguClaim.kernelIdeal_pre, Cert.SguClaim.referenceIdeal,
  Cert.SguClaim.referenceIdeal_pre, Cert.SwigluBwd.kernel, Cert.SwigluBwd.kernelIdeal, Cert.SwigluBwd.kernelIdeal_pre,
  Cert.SwigluBwd.referenceIdeal, Cert.SwigluBwd.referenceIdeal_pre, Cert.GateUpT.kernel, Cert.GateUpT.kernelIdeal,
  Cert.GateUpT.referenceIdeal, Cert.ProjInT.kernel, Cert.ProjInT.kernelIdeal, Cert.ProjInT.referenceIdeal,
  Cert.GradIn.kernel, Cert.GradIn.kernelIdeal, Cert.GradIn.referenceIdeal, Cert.GradDown.kernel, Cert.GradDown.kernelIdeal,
  Cert.GradDown.referenceIdeal, Cert.GradGate.kernel, Cert.GradGate.kernelIdeal, Cert.GradGate.referenceIdeal,
  Cert.ProjIn.kernel, Cert.ProjIn.kernelIdeal, Cert.ProjIn.referenceIdeal, Cert.GateUp.kernel, Cert.GateUp.kernelIdeal,
  Cert.GateUp.referenceIdeal, Cert.Down.kernel, Cert.Down.kernelIdeal, Cert.Down.referenceIdeal, Cert.GradIn1.kernel,
  Cert.GradIn1.kernelIdeal, Cert.GradIn1.referenceIdeal, Cert.GradDown1.kernel, Cert.GradDown1.kernelIdeal,
  Cert.GradDown1.referenceIdeal, Cert.GradGate1.kernel, Cert.GradGate1.kernelIdeal, Cert.GradGate1.referenceIdeal,
  Cert.MergeBwd1.kernel, Cert.MergeBwd1.kernelIdeal, Cert.MergeBwd1.referenceIdeal, Cert.NormPreBwd.kernel,
  Cert.NormPreBwd.kernelIdeal, Cert.NormPreBwd.kernelIdeal_pre, Cert.NormPreBwd.referenceIdeal,
  Cert.NormPreBwd.referenceIdeal_pre, Cert.NormPostBwd.kernel, Cert.NormPostBwd.kernelIdeal,
  Cert.NormPostBwd.kernelIdeal_pre, Cert.NormPostBwd.referenceIdeal, Cert.NormPostBwd.referenceIdeal_pre,
  Cert.NormPairBwd.kernel, Cert.NormPairBwd.kernelIdeal, Cert.NormPairBwd.kernelIdeal_pre, Cert.NormPairBwd.referenceIdeal,
  Cert.NormPairBwd.referenceIdeal_pre, Cert.PleBwd.kernel, Cert.PleBwd.kernelIdeal, Cert.PleBwd.referenceIdeal,
  Cert.PleGateT1.kernel, Cert.PleGateT1.kernelIdeal, Cert.PleGateT1.referenceIdeal, Cert.ProjAT1.kernel,
  Cert.ProjAT1.kernelIdeal, Cert.ProjAT1.referenceIdeal, Cert.ProjBT1.kernel, Cert.ProjBT1.kernelIdeal,
  Cert.ProjBT1.referenceIdeal, Cert.GradOut1.kernel, Cert.GradOut1.kernelIdeal, Cert.GradOut1.referenceIdeal,
  Cert.GradPleGate1.kernel, Cert.GradPleGate1.kernelIdeal, Cert.GradPleGate1.referenceIdeal, Cert.GradB1.kernel,
  Cert.GradB1.kernelIdeal, Cert.GradB1.referenceIdeal, Cert.GradPle1.kernel, Cert.GradPle1.kernelIdeal,
  Cert.GradPle1.referenceIdeal, Cert.Merge1.kernel, Cert.Merge1.kernelIdeal, Cert.Merge1.referenceIdeal,
  Cert.PleGate1.kernel, Cert.PleGate1.kernelIdeal, Cert.PleGate1.referenceIdeal, Cert.ProjA1.kernel,
  Cert.ProjA1.kernelIdeal, Cert.ProjA1.referenceIdeal, Cert.ProjB1.kernel, Cert.ProjB1.kernelIdeal,
  Cert.ProjB1.referenceIdeal, Cert.ProjPle1.kernel, Cert.ProjPle1.kernelIdeal, Cert.ProjPle1.referenceIdeal,
  Cert.NormMid.kernel, Cert.NormMid.kernelIdeal, Cert.NormMid.referenceIdeal, Cert.NormPre.kernel,
  Cert.NormPre.kernelIdeal, Cert.NormPre.referenceIdeal, Cert.NormPost.kernel, Cert.NormPost.kernelIdeal,
  Cert.NormPost.referenceIdeal, Cert.Loss.kernel, Cert.Loss.kernelIdeal, Cert.Loss.referenceIdeal, Cert.AdamIn.kernel,
  Cert.AdamIn.kernelIdeal, Cert.AdamIn.referenceIdeal, Cert.AdamA.kernel, Cert.AdamA.kernelIdeal,
  Cert.AdamA.referenceIdeal, Cert.AdamB.kernel, Cert.AdamB.kernelIdeal, Cert.AdamB.referenceIdeal, Cert.AdamGate.kernel,
  Cert.AdamGate.kernelIdeal, Cert.AdamGate.referenceIdeal, Cert.AdamDown.kernel, Cert.AdamDown.kernelIdeal,
  Cert.AdamDown.referenceIdeal, Cert.AdamPle.kernel, Cert.AdamPle.kernelIdeal, Cert.AdamPle.referenceIdeal,
  Cert.AdamSmall.kernel, Cert.AdamSmall.kernelIdeal, Cert.AdamSmall.referenceIdeal, Cert.SguFwd.kernel,
  Cert.SguFwd.kernelIdeal, Cert.SguFwd.referenceIdeal, Cert.LowerBounds.kernel, Cert.LowerBounds.kernelIdeal,
  Cert.LowerBounds.referenceIdeal, Cert.LowerBoundsBwd.kernel, Cert.LowerBoundsBwd.kernelIdeal,
  Cert.LowerBoundsBwd.kernelIdeal_pre, Cert.LowerBoundsBwd.referenceIdeal, Cert.LowerBoundsBwd.referenceIdeal_pre,
  Cert.GradA1.kernel, Cert.GradA1.kernelIdeal, Cert.GradA1.referenceIdeal, Cert.GradUp1.kernel, Cert.GradUp1.kernelIdeal,
  Cert.GradUp1.referenceIdeal, Cert.GradOut.kernel, Cert.GradOut.kernelIdeal, Cert.GradOut.referenceIdeal,
  Cert.GradPleGate.kernel, Cert.GradPleGate.kernelIdeal, Cert.GradPleGate.referenceIdeal, Cert.GradB.kernel,
  Cert.GradB.kernelIdeal, Cert.GradB.referenceIdeal, Cert.GradPle.kernel, Cert.GradPle.kernelIdeal,
  Cert.GradPle.referenceIdeal, Cert.PlaceG.kernel, Cert.PlaceG.kernelIdeal, Cert.PlaceG.referenceIdeal, Cert.PlaceQ.kernel,
  Cert.PlaceQ.kernelIdeal, Cert.PlaceQ.referenceIdeal, Cert.PlaceI.kernel, Cert.PlaceI.kernelIdeal,
  Cert.PlaceI.referenceIdeal,
  trivial, Cert.SguClaim.algebraic, trivial, Cert.SwigluBwd.algebraic, trivial, Cert.GateUpT.algebraic, trivial,
  Cert.ProjInT.algebraic, trivial, Cert.GradIn.algebraic, trivial, Cert.GradDown.algebraic, trivial,
  Cert.GradGate.algebraic, trivial, Cert.ProjIn.algebraic, trivial, Cert.GateUp.algebraic, trivial, Cert.Down.algebraic,
  trivial, Cert.GradIn1.algebraic, trivial, Cert.GradDown1.algebraic, trivial, Cert.GradGate1.algebraic, trivial,
  Cert.MergeBwd1.algebraic, trivial, Cert.NormPreBwd.algebraic, trivial, Cert.NormPostBwd.algebraic, trivial,
  Cert.NormPairBwd.algebraic, trivial, Cert.PleBwd.algebraic, trivial, Cert.PleGateT1.algebraic, trivial,
  Cert.ProjAT1.algebraic, trivial, Cert.ProjBT1.algebraic, trivial, Cert.GradOut1.algebraic, trivial,
  Cert.GradPleGate1.algebraic, trivial, Cert.GradB1.algebraic, trivial, Cert.GradPle1.algebraic, trivial,
  Cert.Merge1.algebraic, trivial, Cert.PleGate1.algebraic, trivial, Cert.ProjA1.algebraic, trivial, Cert.ProjB1.algebraic,
  trivial, Cert.ProjPle1.algebraic, trivial, Cert.NormMid.algebraic, trivial, Cert.NormPre.algebraic, trivial,
  Cert.NormPost.algebraic, trivial, Cert.Loss.algebraic, trivial, Cert.AdamIn.algebraic, trivial, Cert.AdamA.algebraic,
  trivial, Cert.AdamB.algebraic, trivial, Cert.AdamGate.algebraic, trivial, Cert.AdamDown.algebraic, trivial,
  Cert.AdamPle.algebraic, trivial, Cert.AdamSmall.algebraic, trivial, Cert.SguFwd.algebraic, trivial,
  Cert.LowerBounds.algebraic, trivial, Cert.LowerBoundsBwd.algebraic, trivial, Cert.GradA1.algebraic, trivial,
  Cert.GradUp1.algebraic, trivial, Cert.GradOut.algebraic, trivial, Cert.GradPleGate.algebraic, trivial,
  Cert.GradB.algebraic, trivial, Cert.GradPle.algebraic, trivial, Cert.PlaceG.algebraic, trivial, Cert.PlaceQ.algebraic,
  trivial, Cert.PlaceI.algebraic⟩

end Cert.Proof

end
